-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_top_k_experts [hPre_top_k_experts : Cert.Pre_top_k_experts.Facts] (m : (ℓ : Loc Cert.KernelIdeal.nD Cert.KernelIdeal.τ Cert.KernelIdeal.sig) → Buf (Elt Ideal) ℓ) : Prop :=
  ∀ c : Dev Cert.KernelIdeal.nD,
    (Cert.Pre_top_k_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_k_experts [hPre_top_k_experts : Cert.Pre_top_k_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_k_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_top_k_experts [hKernelIdeal : Cert.KernelIdeal.Facts] [hPre_top_k_experts : Cert.Pre_top_k_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_k_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_top_k_experts [hReferenceIdeal : Cert.ReferenceIdeal.Facts] [hPre_top_k_experts : Cert.Pre_top_k_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_k_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_top_k_experts [hKernelIdeal : Cert.KernelIdeal.Facts] [hReferenceIdeal : Cert.ReferenceIdeal.Facts] [hPre_top_k_experts : Cert.Pre_top_k_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_k_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v364) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_top_k_experts : Cert.Pre_top_k_experts.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_top_k_experts (hKernelIdeal := hKernelIdeal) (hPre_top_k_experts := hPre_top_k_experts)
    ∧ quiescent_ReferenceIdeal (hReferenceIdeal := hReferenceIdeal)
    ∧ quiescent_ReferenceIdeal_pre_top_k_experts (hReferenceIdeal := hReferenceIdeal) (hPre_top_k_experts := hPre_top_k_experts)
    ∧ preserves_Kernel_KernelIdeal
    ∧ algebraic_KernelIdeal_ReferenceIdeal_pre_top_k_experts (hKernelIdeal := hKernelIdeal) (hReferenceIdeal := hReferenceIdeal) (hPre_top_k_experts := hPre_top_k_experts)
-- ==== Pre_ids_in_range.lean ====
abbrev S8x1x2048 : Shape := ⟨3, ![8, 1, 2048]⟩
abbrev S8x1x8 : Shape := ⟨3, ![8, 1, 8]⟩
abbrev S64x1536x64x16 : Shape := ⟨4, ![64, 1536, 64, 16]⟩
abbrev S64x1536x64 : Shape := ⟨3, ![64, 1536, 64]⟩
abbrev S64x2048x24x16 : Shape := ⟨4, ![64, 2048, 24, 16]⟩
abbrev S64x2048x24 : Shape := ⟨3, ![64, 2048, 24]⟩
abbrev S1536x64x16 : Shape := ⟨3, ![1536, 64, 16]⟩
abbrev S1536x64 : Shape := ⟨2, ![1536, 64]⟩
abbrev S2048x24x16 : Shape := ⟨3, ![2048, 24, 16]⟩
abbrev S2048x24 : Shape := ⟨2, ![2048, 24]⟩
abbrev S_ : Shape := ⟨0, ![]⟩

class Facts : Prop where
  bcast_S_S8x1x8 : S_.BroadcastsInDim S8x1x8 (![] : Fin 0 → Fin S8x1x8.rank)

variable [Facts]

def fn {F : FTy → Type} [FloatOps F] (main_arg0 : FVec F S8x1x2048 .bf16) (main_arg1 : IVec S8x1x8 32) (main_arg2 : FVec F S8x1x8 .f32) (main_arg3 : IVec S64x1536x64x16 8) (main_arg4 : IVec S64x1536x64 8) (main_arg5 : IVec S64x2048x24x16 8) (main_arg6 : IVec S64x2048x24 8) (main_arg7 : IVec S1536x64x16 8) (main_arg8 : IVec S1536x64 8) (main_arg9 : IVec S2048x24x16 8) (main_arg10 : IVec S2048x24 8) : IVec S8x1x8 1 :=
  let main_c : IVec S_ 32 := constantI S_ 32 0#32
  let main_v0 : IVec S8x1x8 32 := broadcastInDim S8x1x8 ![] bcast_S_S8x1x8 main_c
  let main_v1 : IVec S8x1x8 1 := cmpi .sge main_arg1 main_v0
  let main_c_0 : IVec S_ 32 := constantI S_ 32 64#32
  let main_v2 : IVec S8x1x8 32 := broadcastInDim S8x1x8 ![] bcast_S_S8x1x8 main_c_0
  let main_v3 : IVec S8x1x8 1 := cmpi .slt main_arg1 main_v2
  let main_v4 : IVec S8x1x8 1 := andi main_v1 main_v3
  main_v4
-- ==== Pre_top_k_experts.lean ====
abbrev S8x1x2048 : Shape := ⟨3, ![8, 1, 2048]⟩
abbrev S8x1x8 : Shape := ⟨3, ![8, 1, 8]⟩
abbrev S64x1536x64x16 : Shape := ⟨4, ![64, 1536, 64, 16]⟩
abbrev S64x1536x64 : Shape := ⟨3, ![64, 1536, 64]⟩
abbrev S64x2048x24x16 : Shape := ⟨4, ![64, 2048, 24, 16]⟩
abbrev S64x2048x24 : Shape := ⟨3, ![64, 2048, 24]⟩
abbrev S1536x64x16 : Shape := ⟨3, ![1536, 64, 16]⟩
abbrev S1536x64 : Shape := ⟨2, ![1536, 64]⟩
abbrev S2048x24x16 : Shape := ⟨3, ![2048, 24, 16]⟩
abbrev S2048x24 : Shape := ⟨2, ![2048, 24]⟩
abbrev S8x8 : Shape := ⟨2, ![8, 8]⟩
abbrev S8x8x1 : Shape := ⟨3, ![8, 8, 1]⟩
abbrev S8x8x8 : Shape := ⟨3, ![8, 8, 8]⟩
abbrev S_ : Shape := ⟨0, ![]⟩

class Facts : Prop where
  shapeCasts_S8x1x8_S8x8 : S8x1x8.ShapeCasts S8x8
  bcast_S8x8_S8x8x1_0_1 : S8x8.BroadcastsInDim S8x8x1 (![0, 1] : Fin 2 → Fin S8x8x1.rank)
  bcast_S8x8_S8x1x8_0_2 : S8x8.BroadcastsInDim S8x1x8 (![0, 2] : Fin 2 → Fin S8x1x8.rank)
  bcast_S8x8x1_S8x8x8_0_1_2 : S8x8x1.BroadcastsInDim S8x8x8 (![0, 1, 2] : Fin 3 → Fin S8x8x8.rank)
  bcast_S8x1x8_S8x8x8_0_1_2 : S8x1x8.BroadcastsInDim S8x8x8 (![0, 1, 2] : Fin 3 → Fin S8x8x8.rank)
  bcast_S_S8x1x8 : S_.BroadcastsInDim S8x1x8 (![] : Fin 0 → Fin S8x1x8.rank)
  reducesTo_S8x1x8_S_d0_1_2 : S8x1x8.ReducesTo [0, 1, 2] S_
  h_S_ : 0 < S_.numel
  reducesTo_S8x8x8_S_d0_1_2 : S8x8x8.ReducesTo [0, 1, 2] S_
  natLt_8_32 : 8 < 32
  bcast_S_S64x1536x64 : S_.BroadcastsInDim S64x1536x64 (![] : Fin 0 → Fin S64x1536x64.rank)
  reducesTo_S64x1536x64_S_d0_1_2 : S64x1536x64.ReducesTo [0, 1, 2] S_
  bcast_S_S64x2048x24 : S_.BroadcastsInDim S64x2048x24 (![] : Fin 0 → Fin S64x2048x24.rank)
  reducesTo_S64x2048x24_S_d0_1_2 : S64x2048x24.ReducesTo [0, 1, 2] S_
  bcast_S_S1536x64 : S_.BroadcastsInDim S1536x64 (![] : Fin 0 → Fin S1536x64.rank)
  reducesTo_S1536x64_S_d0_1 : S1536x64.ReducesTo [0, 1] S_
  bcast_S_S2048x24 : S_.BroadcastsInDim S2048x24 (![] : Fin 0 → Fin S2048x24.rank)
  reducesTo_S2048x24_S_d0_1 : S2048x24.ReducesTo [0, 1] S_

variable [Facts]

def fn_part2 {F : FTy → Type} [FloatOps F] (main_arg10 : IVec S2048x24 8) (main_v35 : IVec S_ 1) (main_v36 : IVec S1536x64 32) (main_c_9 : IVec S_ 32) : IVec S_ 1 :=
  let main_v37 : IVec S1536x64 32 := broadcastInDim S1536x64 ![] bcast_S_S1536x64 main_c_9
  let main_v38 : IVec S1536x64 1 := cmpi .sge main_v36 main_v37
  let main_c_10 : IVec S_ 32 := constantI S_ 32 254#32
  let main_v39 : IVec S1536x64 32 := broadcastInDim S1536x64 ![] bcast_S_S1536x64 main_c_10
  let main_v40 : IVec S1536x64 1 := cmpi .sle main_v36 main_v39
  let main_v41 : IVec S1536x64 1 := andi main_v38 main_v40
  let main_c_11 : IVec S_ 1 := constantI S_ 1 1#1
  let main_v42 : IVec S_ 1 := (fun x v => Host.reduce IntOp.andi x v reducesTo_S1536x64_S_d0_1 h_S_) main_v41 main_c_11
  let main_v43 : IVec S_ 1 := andi main_v35 main_v42
  let main_v44 : IVec S2048x24 32 := (extui 32 · natLt_8_32) main_arg10
  let main_c_12 : IVec S_ 32 := constantI S_ 32 1#32
  let main_v45 : IVec S2048x24 32 := broadcastInDim S2048x24 ![] bcast_S_S2048x24 main_c_12
  let main_v46 : IVec S2048x24 1 := cmpi .sge main_v44 main_v45
  let main_c_13 : IVec S_ 32 := constantI S_ 32 254#32
  let main_v47 : IVec S2048x24 32 := broadcastInDim S2048x24 ![] bcast_S_S2048x24 main_c_13
  let main_v48 : IVec S2048x24 1 := cmpi .sle main_v44 main_v47
  let main_v49 : IVec S2048x24 1 := andi main_v46 main_v48
  let main_c_14 : IVec S_ 1 := constantI S_ 1 1#1
  let main_v50 : IVec S_ 1 := (fun x v => Host.reduce IntOp.andi x v reducesTo_S2048x24_S_d0_1 h_S_) main_v49 main_c_14
  let main_v51 : IVec S_ 1 := andi main_v43 main_v50
  main_v51

def fn_part1 {F : FTy → Type} [FloatOps F] (main_arg4 : IVec S64x1536x64 8) (main_arg6 : IVec S64x2048x24 8) (main_arg8 : IVec S1536x64 8) (main_arg10 : IVec S2048x24 8) (main_v19 : IVec S_ 1) : IVec S_ 1 :=
  let main_v20 : IVec S64x1536x64 32 := (extui 32 · natLt_8_32) main_arg4
  let main_c_3 : IVec S_ 32 := constantI S_ 32 1#32
  let main_v21 : IVec S64x1536x64 32 := broadcastInDim S64x1536x64 ![] bcast_S_S64x1536x64 main_c_3
  let main_v22 : IVec S64x1536x64 1 := cmpi .sge main_v20 main_v21
  let main_c_4 : IVec S_ 32 := constantI S_ 32 254#32
  let main_v23 : IVec S64x1536x64 32 := broadcastInDim S64x1536x64 ![] bcast_S_S64x1536x64 main_c_4
  let main_v24 : IVec S64x1536x64 1 := cmpi .sle main_v20 main_v23
  let main_v25 : IVec S64x1536x64 1 := andi main_v22 main_v24
  let main_c_5 : IVec S_ 1 := constantI S_ 1 1#1
  let main_v26 : IVec S_ 1 := (fun x v => Host.reduce IntOp.andi x v reducesTo_S64x1536x64_S_d0_1_2 h_S_) main_v25 main_c_5
  let main_v27 : IVec S_ 1 := andi main_v19 main_v26
  let main_v28 : IVec S64x2048x24 32 := (extui 32 · natLt_8_32) main_arg6
  let main_c_6 : IVec S_ 32 := constantI S_ 32 1#32
  let main_v29 : IVec S64x2048x24 32 := broadcastInDim S64x2048x24 ![] bcast_S_S64x2048x24 main_c_6
  let main_v30 : IVec S64x2048x24 1 := cmpi .sge main_v28 main_v29
  let main_c_7 : IVec S_ 32 := constantI S_ 32 254#32
  let main_v31 : IVec S64x2048x24 32 := broadcastInDim S64x2048x24 ![] bcast_S_S64x2048x24 main_c_7
  let main_v32 : IVec S64x2048x24 1 := cmpi .sle main_v28 main_v31
  let main_v33 : IVec S64x2048x24 1 := andi main_v30 main_v32
  let main_c_8 : IVec S_ 1 := constantI S_ 1 1#1
  let main_v34 : IVec S_ 1 := (fun x v => Host.reduce IntOp.andi x v reducesTo_S64x2048x24_S_d0_1_2 h_S_) main_v33 main_c_8
  let main_v35 : IVec S_ 1 := andi main_v27 main_v34
  let main_v36 : IVec S1536x64 32 := (extui 32 · natLt_8_32) main_arg8
  let main_c_9 : IVec S_ 32 := constantI S_ 32 1#32
  fn_part2 (F := F) main_arg10 main_v35 main_v36 main_c_9

def fn {F : FTy → Type} [FloatOps F] (main_arg0 : FVec F S8x1x2048 .bf16) (main_arg1 : IVec S8x1x8 32) (main_arg2 : FVec F S8x1x8 .f32) (main_arg3 : IVec S64x1536x64x16 8) (main_arg4 : IVec S64x1536x64 8) (main_arg5 : IVec S64x2048x24x16 8) (main_arg6 : IVec S64x2048x24 8) (main_arg7 : IVec S1536x64x16 8) (main_arg8 : IVec S1536x64 8) (main_arg9 : IVec S2048x24x16 8) (main_arg10 : IVec S2048x24 8) : IVec S_ 1 :=
  let main_v0 : IVec S8x8 32 := shapeCast S8x8 main_arg1 shapeCasts_S8x1x8_S8x8
  let main_v1 : IVec S8x8x1 32 := broadcastInDim S8x8x1 ![0, 1] bcast_S8x8_S8x8x1_0_1 main_v0
  let main_v2 : IVec S8x8 32 := shapeCast S8x8 main_arg1 shapeCasts_S8x1x8_S8x8
  let main_v3 : IVec S8x1x8 32 := broadcastInDim S8x1x8 ![0, 2] bcast_S8x8_S8x1x8_0_2 main_v2
  let main_v4 : IVec S8x8x8 32 := broadcastInDim S8x8x8 ![0, 1, 2] bcast_S8x8x1_S8x8x8_0_1_2 main_v1
  let main_v5 : IVec S8x8x8 32 := broadcastInDim S8x8x8 ![0, 1, 2] bcast_S8x1x8_S8x8x8_0_1_2 main_v3
  let main_v6 : IVec S8x8x8 1 := cmpi .eq main_v4 main_v5
  let main_v7 : IVec S8x8x8 32 := iotaInDim S8x8x8 32 1
  let main_v8 : IVec S8x8x8 32 := iotaInDim S8x8x8 32 2
  let main_c : IVec S_ 32 := constantI S_ 32 0#32
  let main_v9 : IVec S8x1x8 32 := broadcastInDim S8x1x8 ![] bcast_S_S8x1x8 main_c
  let main_v10 : IVec S8x1x8 1 := cmpi .sge main_arg1 main_v9
  let main_c_0 : IVec S_ 32 := constantI S_ 32 64#32
  let main_v11 : IVec S8x1x8 32 := broadcastInDim S8x1x8 ![] bcast_S_S8x1x8 main_c_0
  let main_v12 : IVec S8x1x8 1 := cmpi .slt main_arg1 main_v11
  let main_v13 : IVec S8x1x8 1 := andi main_v10 main_v12
  let main_c_1 : IVec S_ 1 := constantI S_ 1 1#1
  let main_v14 : IVec S_ 1 := (fun x v => Host.reduce IntOp.andi x v reducesTo_S8x1x8_S_d0_1_2 h_S_) main_v13 main_c_1
  let main_v15 : IVec S8x8x8 1 := cmpi .eq main_v7 main_v8
  let main_v16 : IVec S8x8x8 1 := noti main_v6
  let main_v17 : IVec S8x8x8 1 := ori main_v15 main_v16
  let main_c_2 : IVec S_ 1 := constantI S_ 1 1#1
  let main_v18 : IVec S_ 1 := (fun x v => Host.reduce IntOp.andi x v reducesTo_S8x8x8_S_d0_1_2 h_S_) main_v17 main_c_2
  let main_v19 : IVec S_ 1 := andi main_v14 main_v18
  fn_part1 (F := F) main_arg4 main_arg6 main_arg8 main_arg10 main_v19
-- ==== Kernel.lean ====
abbrev S8x1x2048 : Shape := ⟨3, ![8, 1, 2048]⟩
abbrev S8x1x8 : Shape := ⟨3, ![8, 1, 8]⟩
abbrev S64x1536x64x16 : Shape := ⟨4, ![64, 1536, 64, 16]⟩
abbrev S64x1536x64 : Shape := ⟨3, ![64, 1536, 64]⟩
abbrev S64x2048x24x16 : Shape := ⟨4, ![64, 2048, 24, 16]⟩
abbrev S64x2048x24 : Shape := ⟨3, ![64, 2048, 24]⟩
abbrev S1536x64x16 : Shape := ⟨3, ![1536, 64, 16]⟩
abbrev S1536x64 : Shape := ⟨2, ![1536, 64]⟩
abbrev S2048x24x16 : Shape := ⟨3, ![2048, 24, 16]⟩
abbrev S2048x24 : Shape := ⟨2, ![2048, 24]⟩
abbrev S8x8 : Shape := ⟨2, ![8, 8]⟩
abbrev S8x2048 : Shape := ⟨2, ![8, 2048]⟩
abbrev S64x3x4x128x64x2x8 : Shape := ⟨7, ![64, 3, 4, 128, 64, 2, 8]⟩
abbrev S64x64x2x3x4x8x128 : Shape := ⟨7, ![64, 64, 2, 3, 4, 8, 128]⟩
abbrev S64x384x32x128 : Shape := ⟨4, ![64, 384, 32, 128]⟩
abbrev S64x64x1536 : Shape := ⟨3, ![64, 64, 1536]⟩
abbrev S64x4x4x128x24x2x8 : Shape := ⟨7, ![64, 4, 4, 128, 24, 2, 8]⟩
abbrev S64x24x2x4x4x8x128 : Shape := ⟨7, ![64, 24, 2, 4, 4, 8, 128]⟩
abbrev S64x192x32x128 : Shape := ⟨4, ![64, 192, 32, 128]⟩
abbrev S64x24x2048 : Shape := ⟨3, ![64, 24, 2048]⟩
abbrev S3x4x128x64x2x8 : Shape := ⟨6, ![3, 4, 128, 64, 2, 8]⟩
abbrev S64x2x3x4x8x128 : Shape := ⟨6, ![64, 2, 3, 4, 8, 128]⟩
abbrev S384x32x128 : Shape := ⟨3, ![384, 32, 128]⟩
abbrev S64x1536 : Shape := ⟨2, ![64, 1536]⟩
abbrev S4x4x128x24x2x8 : Shape := ⟨6, ![4, 4, 128, 24, 2, 8]⟩
abbrev S24x2x4x4x8x128 : Shape := ⟨6, ![24, 2, 4, 4, 8, 128]⟩
abbrev S192x32x128 : Shape := ⟨3, ![192, 32, 128]⟩
abbrev S24x2048 : Shape := ⟨2, ![24, 2048]⟩
abbrev S4x384x32x128 : Shape := ⟨4, ![4, 384, 32, 128]⟩
abbrev S4x64x1536 : Shape := ⟨3, ![4, 64, 1536]⟩
abbrev S4x192x32x128 : Shape := ⟨4, ![4, 192, 32, 128]⟩
abbrev S4x24x2048 : Shape := ⟨3, ![4, 24, 2048]⟩
abbrev S8x1536 : Shape := ⟨2, ![8, 1536]⟩
abbrev S8x768 : Shape := ⟨2, ![8, 768]⟩
abbrev S65 : Shape := ⟨1, ![65]⟩
abbrev S64 : Shape := ⟨1, ![64]⟩
abbrev S4x4 : Shape := ⟨2, ![4, 4]⟩
abbrev S1x1 : Shape := ⟨2, ![1, 1]⟩
abbrev S_ : Shape := ⟨0, ![]⟩
abbrev S1x384x32x128 : Shape := ⟨4, ![1, 384, 32, 128]⟩
abbrev S1x64x1536 : Shape := ⟨3, ![1, 64, 1536]⟩
abbrev S1x192x32x128 : Shape := ⟨4, ![1, 192, 32, 128]⟩
abbrev S1x24x2048 : Shape := ⟨3, ![1, 24, 2048]⟩
abbrev S1 : Shape := ⟨1, ![1]⟩
abbrev S8x512 : Shape := ⟨2, ![8, 512]⟩
abbrev S1x128 : Shape := ⟨2, ![1, 128]⟩
abbrev S8x128 : Shape := ⟨2, ![8, 128]⟩
abbrev S16x128 : Shape := ⟨2, ![16, 128]⟩
abbrev S1x32x128 : Shape := ⟨3, ![1, 32, 128]⟩
abbrev S32x128 : Shape := ⟨2, ![32, 128]⟩
abbrev S32x1x128 : Shape := ⟨3, ![32, 1, 128]⟩
abbrev S32x2x128 : Shape := ⟨3, ![32, 2, 128]⟩
abbrev S64x128 : Shape := ⟨2, ![64, 128]⟩
abbrev S256x128 : Shape := ⟨2, ![256, 128]⟩
abbrev S256x512 : Shape := ⟨2, ![256, 512]⟩
abbrev S8x256 : Shape := ⟨2, ![8, 256]⟩
abbrev S8 : Shape := ⟨1, ![8]⟩
abbrev S8x1 : Shape := ⟨2, ![8, 1]⟩

abbrev nBuf : Space → Nat
  | .hbm => 31
  | .vmem => 11
  | .smem => 3
  | _ => 0

abbrev bufTy : (tb : Table) → Fin (tcTables nBuf tb) → BufTy
  | .hbm, ⟨0, _⟩ => ⟨S8x1x2048, .bf16⟩
  | .hbm, ⟨1, _⟩ => ⟨S8x1x8, .i32⟩
  | .hbm, ⟨2, _⟩ => ⟨S8x1x8, .f32⟩
  | .hbm, ⟨3, _⟩ => ⟨S64x1536x64x16, .i8⟩
  | .hbm, ⟨4, _⟩ => ⟨S64x1536x64, .i8⟩
  | .hbm, ⟨5, _⟩ => ⟨S64x2048x24x16, .i8⟩
  | .hbm, ⟨6, _⟩ => ⟨S64x2048x24, .i8⟩
  | .hbm, ⟨7, _⟩ => ⟨S1536x64x16, .i8⟩
  | .hbm, ⟨8, _⟩ => ⟨S1536x64, .i8⟩
  | .hbm, ⟨9, _⟩ => ⟨S2048x24x16, .i8⟩
  | .hbm, ⟨10, _⟩ => ⟨S2048x24, .i8⟩
  | .hbm, ⟨11, _⟩ => ⟨S8x8, .i32⟩
  | .hbm, ⟨12, _⟩ => ⟨S8x2048, .bf16⟩
  | .hbm, ⟨13, _⟩ => ⟨S8x8, .f32⟩
  | .hbm, ⟨14, _⟩ => ⟨S64x3x4x128x64x2x8, .i8⟩
  | .hbm, ⟨15, _⟩ => ⟨S64x64x2x3x4x8x128, .i8⟩
  | .hbm, ⟨16, _⟩ => ⟨S64x384x32x128, .i8⟩
  | .hbm, ⟨17, _⟩ => ⟨S64x64x1536, .i8⟩
  | .hbm, ⟨18, _⟩ => ⟨S64x4x4x128x24x2x8, .i8⟩
  | .hbm, ⟨19, _⟩ => ⟨S64x24x2x4x4x8x128, .i8⟩
  | .hbm, ⟨20, _⟩ => ⟨S64x192x32x128, .i8⟩
  | .hbm, ⟨21, _⟩ => ⟨S64x24x2048, .i8⟩
  | .hbm, ⟨22, _⟩ => ⟨S3x4x128x64x2x8, .i8⟩
  | .hbm, ⟨23, _⟩ => ⟨S64x2x3x4x8x128, .i8⟩
  | .hbm, ⟨24, _⟩ => ⟨S384x32x128, .i8⟩
  | .hbm, ⟨25, _⟩ => ⟨S64x1536, .i8⟩
  | .hbm, ⟨26, _⟩ => ⟨S4x4x128x24x2x8, .i8⟩
  | .hbm, ⟨27, _⟩ => ⟨S24x2x4x4x8x128, .i8⟩
  | .hbm, ⟨28, _⟩ => ⟨S192x32x128, .i8⟩
  | .hbm, ⟨29, _⟩ => ⟨S24x2048, .i8⟩
  | .hbm, ⟨30, _⟩ => ⟨S8x2048, .bf16⟩
  | .local _ .vmem, ⟨0, _⟩ => ⟨S8x2048, .bf16⟩
  | .local _ .vmem, ⟨1, _⟩ => ⟨S8x8, .i32⟩
  | .local _ .vmem, ⟨2, _⟩ => ⟨S8x8, .f32⟩
  | .local _ .vmem, ⟨3, _⟩ => ⟨S8x2048, .bf16⟩
  | .local _ .vmem, ⟨4, _⟩ => ⟨S4x384x32x128, .i8⟩
  | .local _ .vmem, ⟨5, _⟩ => ⟨S4x64x1536, .i8⟩
  | .local _ .vmem, ⟨6, _⟩ => ⟨S4x192x32x128, .i8⟩
  | .local _ .vmem, ⟨7, _⟩ => ⟨S4x24x2048, .i8⟩
  | .local _ .vmem, ⟨8, _⟩ => ⟨S8x2048, .f32⟩
  | .local _ .vmem, ⟨9, _⟩ => ⟨S8x1536, .f32⟩
  | .local _ .vmem, ⟨10, _⟩ => ⟨S8x768, .bf16⟩
  | .local _ .smem, ⟨0, _⟩ => ⟨S8x8, .i32⟩
  | .local _ .smem, ⟨1, _⟩ => ⟨S65, .i32⟩
  | .local _ .smem, ⟨2, _⟩ => ⟨S64, .i32⟩
  | _, _ => ⟨S8x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_stg0_0 : Ref sig .tc := ⟨.smem, 0, rfl⟩
abbrev cc0_scratch7 : Ref sig .tc := ⟨.smem, 1, rfl⟩
abbrev cc0_scratch8 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_18 : BitVec 32 := 0#32
  let c64_i32 : BitVec 32 := 64#32
  let v16 : BitVec 32 := Scalar.addi c0_i32_18 c64_i32
  let c1_i32_19 : BitVec 32 := 1#32
  ⟨c0_i32_18, v16, c1_i32_19⟩
def k0_off1 (k0_t1 : Fin k0_t1_loop.trips) : Fin 1 → Nat :=
  let c0_i32_18 : BitVec 32 := 0#32
  let c1_i32_19 : BitVec 32 := 1#32
  let arg23 : BitVec 32 := Scf.iv c0_i32_18 c1_i32_19 k0_t1
  let v64 : Index := Scalar.indexCast arg23
  ![v64.toNat]
@[reducible] def k0_t2_loop : Scf.Loop 32 :=
  let c0_i32_22 : BitVec 32 := 0#32
  let c64_i32_23 : BitVec 32 := 64#32
  let v17 : BitVec 32 := Scalar.addi c0_i32_22 c64_i32_23
  let c1_i32_24 : BitVec 32 := 1#32
  ⟨c0_i32_22, v17, c1_i32_24⟩
def k0_off2 (k0_t2 : Fin k0_t2_loop.trips) : Fin 2 → Nat :=
  let c0_i32_22 : BitVec 32 := 0#32
  let c1_i32_24 : BitVec 32 := 1#32
  let arg23 : BitVec 32 := Scf.iv c0_i32_22 c1_i32_24 k0_t2
  let c0_i32_80 : BitVec 32 := 0#32
  let v65 : BitVec 1 := Scalar.cmpi .sgt arg23 c0_i32_80
  let v66 : BitVec 32 := Scalar.extui v65
  let c0_i32_81 : BitVec 32 := 0#32
  let v67 : BitVec 1 := Scalar.cmpi .slt arg23 c0_i32_81
  let v68 : BitVec 32 := Scalar.extui v67
  let v69 : BitVec 32 := Scalar.subi v66 v68
  let c8_i32 : BitVec 32 := 8#32
  let c0_i32_82 : BitVec 32 := 0#32
  let v70 : BitVec 1 := Scalar.cmpi .sgt c8_i32 c0_i32_82
  let v71 : BitVec 32 := Scalar.extui v70
  let c0_i32_83 : BitVec 32 := 0#32
  let v72 : BitVec 1 := Scalar.cmpi .slt c8_i32 c0_i32_83
  let v73 : BitVec 32 := Scalar.extui v72
  let v74 : BitVec 32 := Scalar.subi v71 v73
  let v75 : BitVec 1 := Scalar.cmpi .ne v69 v74
  let v76 : BitVec 32 := Scalar.remsi arg23 c8_i32
  let c0_i32_84 : BitVec 32 := 0#32
  let v77 : BitVec 1 := Scalar.cmpi .ne v76 c0_i32_84
  let v78 : BitVec 1 := Scalar.andi v75 v77
  let v64 : BitVec 32 := Scalar.divsi arg23 c8_i32
  let c1_i32_85 : BitVec 32 := 1#32
  let v79 : BitVec 32 := Scalar.subi v64 c1_i32_85
  let v80 : BitVec 32 := Scalar.select v78 v79 v64
  let v91 : Index := Scalar.indexCast v80
  let c8_i32_86 : BitVec 32 := 8#32
  let c0_i32_87 : BitVec 32 := 0#32
  let v81 : BitVec 1 := Scalar.cmpi .eq c8_i32_86 c0_i32_87
  let c1_i32_88 : BitVec 32 := 1#32
  let v82 : BitVec 32 := Scalar.select v81 c1_i32_88 c8_i32_86
  let v83 : BitVec 32 := Scalar.remsi arg23 v82
  let c0_i32_90 : BitVec 32 := 0#32
  let v85 : BitVec 1 := Scalar.cmpi .slt v83 c0_i32_90
  let c0_i32_91 : BitVec 32 := 0#32
  let v86 : BitVec 1 := Scalar.cmpi .slt v82 c0_i32_91
  let v87 : BitVec 1 := Scalar.xori v85 v86
  let c0_i32_89 : BitVec 32 := 0#32
  let v84 : BitVec 1 := Scalar.cmpi .ne v83 c0_i32_89
  let v88 : BitVec 1 := Scalar.andi v87 v84
  let v89 : BitVec 32 := Scalar.addi v83 v82
  let v90 : BitVec 32 := Scalar.select v88 v89 v83
  let v92 : Index := Scalar.indexCast v90
  ![v91.toNat, v92.toNat]
def k0_off3 (arg24 : BitVec 32) : Fin 1 → Nat :=
  let v94 : Index := Scalar.indexCast arg24
  ![v94.toNat]

def k0_chk1 (arg24 : BitVec 32) : Prop :=
  (∀ a, (k0_off3 arg24) a + S1.size a ≤ S65.size a)
theorem k0_off3_inb : ∀ (arg24 : BitVec 32) (k0_hw1 : k0_chk1 arg24), ∀ a, (k0_off3 arg24) a + S1.size a ≤ S65.size a := fun arg24 k0_hw1 => k0_hw1

def k0_off4 (v93 : BitVec 32) : Fin 1 → Nat :=
  let v97 : Index := Scalar.indexCast v93
  ![v97.toNat]

def k0_chk2 (v93 : BitVec 32) : Prop :=
  (∀ a, (k0_off4 v93) a + S1.size a ≤ S64.size a)
theorem k0_off4_inb : ∀ (v93 : BitVec 32) (k0_hw2 : k0_chk2 v93), ∀ a, (k0_off4 v93) a + S1.size a ≤ S64.size a := fun v93 k0_hw2 => k0_hw2

def k0_off5 : Fin 2 → Nat :=
  let c0_i32_27 : BitVec 32 := 0#32
  let c1_i32_80 : BitVec 32 := 1#32
  let v66 : BitVec 32 := Scalar.addi c0_i32_27 c1_i32_80
  let c4_i32_81 : BitVec 32 := 4#32
  let v67 : BitVec 32 := Scalar.remsi v66 c4_i32_81
  let c0_i32_82 : BitVec 32 := 0#32
  ![v67.toNat, 0]
def k0_off6 : Fin 4 → Nat :=
  let c0_i32_27 : BitVec 32 := 0#32
  let c1_i32_80 : BitVec 32 := 1#32
  let v66 : BitVec 32 := Scalar.addi c0_i32_27 c1_i32_80
  let c4_i32_81 : BitVec 32 := 4#32
  let v67 : BitVec 32 := Scalar.remsi v66 c4_i32_81
  let c0_i32_83 : BitVec 32 := 0#32
  let c0_i32_84 : BitVec 32 := 0#32
  let c0_i32_85 : BitVec 32 := 0#32
  ![v67.toNat, 0, 0, 0]
def k0_off7 (v65 : BitVec 32) : Fin 4 → Nat :=
  let c0_i32_86 : BitVec 32 := 0#32
  let c0_i32_87 : BitVec 32 := 0#32
  let c0_i32_88 : BitVec 32 := 0#32
  ![v65.toNat, 0, 0, 0]
def k0_cond1 (v18 : BitVec 32) : BitVec 1 :=
  let c0_i32_26 : BitVec 32 := 0#32
  let v19 : BitVec 1 := Scalar.cmpi .slt c0_i32_26 v18
  let v20 : BitVec 32 := Scalar.extui v19
  let c0_i32_28 : BitVec 32 := 0#32
  let v21 : BitVec 1 := Scalar.cmpi .ne v20 c0_i32_28
  v21

def k0_off8 : Fin 2 → Nat :=
  let c0_i32_27 : BitVec 32 := 0#32
  let c1_i32_80 : BitVec 32 := 1#32
  let v66 : BitVec 32 := Scalar.addi c0_i32_27 c1_i32_80
  let c4_i32_81 : BitVec 32 := 4#32
  let v67 : BitVec 32 := Scalar.remsi v66 c4_i32_81
  let c1_i32_89 : BitVec 32 := 1#32
  ![v67.toNat, 1]
def k0_off9 : Fin 3 → Nat :=
  let c0_i32_27 : BitVec 32 := 0#32
  let c1_i32_80 : BitVec 32 := 1#32
  let v66 : BitVec 32 := Scalar.addi c0_i32_27 c1_i32_80
  let c4_i32_81 : BitVec 32 := 4#32
  let v67 : BitVec 32 := Scalar.remsi v66 c4_i32_81
  let c0_i32_90 : BitVec 32 := 0#32
  let c0_i32_91 : BitVec 32 := 0#32
  ![v67.toNat, 0, 0]
def k0_off10 (v65 : BitVec 32) : Fin 3 → Nat :=
  let c0_i32_92 : BitVec 32 := 0#32
  let c0_i32_93 : BitVec 32 := 0#32
  ![v65.toNat, 0, 0]
def k0_off11 : Fin 2 → Nat :=
  let c0_i32_27 : BitVec 32 := 0#32
  let c1_i32_80 : BitVec 32 := 1#32
  let v66 : BitVec 32 := Scalar.addi c0_i32_27 c1_i32_80
  let c4_i32_81 : BitVec 32 := 4#32
  let v67 : BitVec 32 := Scalar.remsi v66 c4_i32_81
  let c2_i32_94 : BitVec 32 := 2#32
  ![v67.toNat, 2]
def k0_off12 : Fin 4 → Nat :=
  let c0_i32_27 : BitVec 32 := 0#32
  let c1_i32_80 : BitVec 32 := 1#32
  let v66 : BitVec 32 := Scalar.addi c0_i32_27 c1_i32_80
  let c4_i32_81 : BitVec 32 := 4#32
  let v67 : BitVec 32 := Scalar.remsi v66 c4_i32_81
  let c0_i32_95 : BitVec 32 := 0#32
  let c0_i32_96 : BitVec 32 := 0#32
  let c0_i32_97 : BitVec 32 := 0#32
  ![v67.toNat, 0, 0, 0]
def k0_off13 (v65 : BitVec 32) : Fin 4 → Nat :=
  let c0_i32_98 : BitVec 32 := 0#32
  let c0_i32_99 : BitVec 32 := 0#32
  let c0_i32_100 : BitVec 32 := 0#32
  ![v65.toNat, 0, 0, 0]
def k0_off14 : Fin 2 → Nat :=
  let c0_i32_27 : BitVec 32 := 0#32
  let c1_i32_80 : BitVec 32 := 1#32
  let v66 : BitVec 32 := Scalar.addi c0_i32_27 c1_i32_80
  let c4_i32_81 : BitVec 32 := 4#32
  let v67 : BitVec 32 := Scalar.remsi v66 c4_i32_81
  let c3_i32_101 : BitVec 32 := 3#32
  ![v67.toNat, 3]
def k0_off15 : Fin 3 → Nat :=
  let c0_i32_27 : BitVec 32 := 0#32
  let c1_i32_80 : BitVec 32 := 1#32
  let v66 : BitVec 32 := Scalar.addi c0_i32_27 c1_i32_80
  let c4_i32_81 : BitVec 32 := 4#32
  let v67 : BitVec 32 := Scalar.remsi v66 c4_i32_81
  let c0_i32_102 : BitVec 32 := 0#32
  let c0_i32_103 : BitVec 32 := 0#32
  ![v67.toNat, 0, 0]
def k0_off16 (v65 : BitVec 32) : Fin 3 → Nat :=
  let c0_i32_104 : BitVec 32 := 0#32
  let c0_i32_105 : BitVec 32 := 0#32
  ![v65.toNat, 0, 0]

def k0_chk3 (v18 : BitVec 32) (v65 : BitVec 32) : Prop :=
  (∀ (k0_h1 : k0_cond1 v18 = 1#1), ∀ a, (k0_off7 v65) a + S1x384x32x128.size a ≤ S64x384x32x128.size a) ∧
  (∀ (k0_h1 : k0_cond1 v18 = 1#1), ∀ (hinb : ∀ a, (k0_off7 v65) a + S1x384x32x128.size a ≤ S64x384x32x128.size a), (Rect.unit (s := S64x384x32x128) (k0_off7 v65) S1x384x32x128.size hinb).WholeWords (EltTy.packing .i8)) ∧
  (∀ (k0_h1 : k0_cond1 v18 = 1#1), ∀ a, (k0_off10 v65) a + S1x64x1536.size a ≤ S64x64x1536.size a) ∧
  (∀ (k0_h1 : k0_cond1 v18 = 1#1), ∀ (hinb : ∀ a, (k0_off10 v65) a + S1x64x1536.size a ≤ S64x64x1536.size a), (Rect.unit (s := S64x64x1536) (k0_off10 v65) S1x64x1536.size hinb).WholeWords (EltTy.packing .i8)) ∧
  (∀ (k0_h1 : k0_cond1 v18 = 1#1), ∀ a, (k0_off13 v65) a + S1x192x32x128.size a ≤ S64x192x32x128.size a) ∧
  (∀ (k0_h1 : k0_cond1 v18 = 1#1), ∀ (hinb : ∀ a, (k0_off13 v65) a + S1x192x32x128.size a ≤ S64x192x32x128.size a), (Rect.unit (s := S64x192x32x128) (k0_off13 v65) S1x192x32x128.size hinb).WholeWords (EltTy.packing .i8)) ∧
  (∀ (k0_h1 : k0_cond1 v18 = 1#1), ∀ a, (k0_off16 v65) a + S1x24x2048.size a ≤ S64x24x2048.size a) ∧
  (∀ (k0_h1 : k0_cond1 v18 = 1#1), ∀ (hinb : ∀ a, (k0_off16 v65) a + S1x24x2048.size a ≤ S64x24x2048.size a), (Rect.unit (s := S64x24x2048) (k0_off16 v65) S1x24x2048.size hinb).WholeWords (EltTy.packing .i8))
theorem k0_off7_inb : ∀ (v18 : BitVec 32) (v65 : BitVec 32) (k0_hw3 : k0_chk3 v18 v65), ∀ (k0_h1 : k0_cond1 v18 = 1#1), ∀ a, (k0_off7 v65) a + S1x384x32x128.size a ≤ S64x384x32x128.size a := fun v18 v65 k0_hw3 k0_h1 => k0_hw3.1 k0_h1
theorem k0_off7_wordsi8 : ∀ (v18 : BitVec 32) (v65 : BitVec 32) (k0_hw3 : k0_chk3 v18 v65), ∀ (k0_h1 : k0_cond1 v18 = 1#1), (Rect.unit (s := S64x384x32x128) (k0_off7 v65) S1x384x32x128.size (k0_off7_inb v18 v65 k0_hw3 k0_h1)).WholeWords (EltTy.packing .i8) := fun v18 v65 k0_hw3 k0_h1 => k0_hw3.2.1 k0_h1 (k0_off7_inb v18 v65 k0_hw3 k0_h1)
theorem k0_off10_inb : ∀ (v18 : BitVec 32) (v65 : BitVec 32) (k0_hw3 : k0_chk3 v18 v65), ∀ (k0_h1 : k0_cond1 v18 = 1#1), ∀ a, (k0_off10 v65) a + S1x64x1536.size a ≤ S64x64x1536.size a := fun v18 v65 k0_hw3 k0_h1 => k0_hw3.2.2.1 k0_h1
theorem k0_off10_wordsi8 : ∀ (v18 : BitVec 32) (v65 : BitVec 32) (k0_hw3 : k0_chk3 v18 v65), ∀ (k0_h1 : k0_cond1 v18 = 1#1), (Rect.unit (s := S64x64x1536) (k0_off10 v65) S1x64x1536.size (k0_off10_inb v18 v65 k0_hw3 k0_h1)).WholeWords (EltTy.packing .i8) := fun v18 v65 k0_hw3 k0_h1 => k0_hw3.2.2.2.1 k0_h1 (k0_off10_inb v18 v65 k0_hw3 k0_h1)
theorem k0_off13_inb : ∀ (v18 : BitVec 32) (v65 : BitVec 32) (k0_hw3 : k0_chk3 v18 v65), ∀ (k0_h1 : k0_cond1 v18 = 1#1), ∀ a, (k0_off13 v65) a + S1x192x32x128.size a ≤ S64x192x32x128.size a := fun v18 v65 k0_hw3 k0_h1 => k0_hw3.2.2.2.2.1 k0_h1
theorem k0_off13_wordsi8 : ∀ (v18 : BitVec 32) (v65 : BitVec 32) (k0_hw3 : k0_chk3 v18 v65), ∀ (k0_h1 : k0_cond1 v18 = 1#1), (Rect.unit (s := S64x192x32x128) (k0_off13 v65) S1x192x32x128.size (k0_off13_inb v18 v65 k0_hw3 k0_h1)).WholeWords (EltTy.packing .i8) := fun v18 v65 k0_hw3 k0_h1 => k0_hw3.2.2.2.2.2.1 k0_h1 (k0_off13_inb v18 v65 k0_hw3 k0_h1)
theorem k0_off16_inb : ∀ (v18 : BitVec 32) (v65 : BitVec 32) (k0_hw3 : k0_chk3 v18 v65), ∀ (k0_h1 : k0_cond1 v18 = 1#1), ∀ a, (k0_off16 v65) a + S1x24x2048.size a ≤ S64x24x2048.size a := fun v18 v65 k0_hw3 k0_h1 => k0_hw3.2.2.2.2.2.2.1 k0_h1
theorem k0_off16_wordsi8 : ∀ (v18 : BitVec 32) (v65 : BitVec 32) (k0_hw3 : k0_chk3 v18 v65), ∀ (k0_h1 : k0_cond1 v18 = 1#1), (Rect.unit (s := S64x24x2048) (k0_off16 v65) S1x24x2048.size (k0_off16_inb v18 v65 k0_hw3 k0_h1)).WholeWords (EltTy.packing .i8) := fun v18 v65 k0_hw3 k0_h1 => k0_hw3.2.2.2.2.2.2.2 k0_h1 (k0_off16_inb v18 v65 k0_hw3 k0_h1)

def k0_off17 : Fin 2 → Nat :=
  let c1_i32_30 : BitVec 32 := 1#32
  let c1_i32_80 : BitVec 32 := 1#32
  let v66 : BitVec 32 := Scalar.addi c1_i32_30 c1_i32_80
  let c4_i32_81 : BitVec 32 := 4#32
  let v67 : BitVec 32 := Scalar.remsi v66 c4_i32_81
  let c0_i32_82 : BitVec 32 := 0#32
  ![v67.toNat, 0]
def k0_off18 : Fin 4 → Nat :=
  let c1_i32_30 : BitVec 32 := 1#32
  let c1_i32_80 : BitVec 32 := 1#32
  let v66 : BitVec 32 := Scalar.addi c1_i32_30 c1_i32_80
  let c4_i32_81 : BitVec 32 := 4#32
  let v67 : BitVec 32 := Scalar.remsi v66 c4_i32_81
  let c0_i32_83 : BitVec 32 := 0#32
  let c0_i32_84 : BitVec 32 := 0#32
  let c0_i32_85 : BitVec 32 := 0#32
  ![v67.toNat, 0, 0, 0]
def k0_off19 (v65 : BitVec 32) : Fin 4 → Nat :=
  let c0_i32_86 : BitVec 32 := 0#32
  let c0_i32_87 : BitVec 32 := 0#32
  let c0_i32_88 : BitVec 32 := 0#32
  ![v65.toNat, 0, 0, 0]
def k0_cond2 (v18 : BitVec 32) : BitVec 1 :=
  let c1_i32_29 : BitVec 32 := 1#32
  let v22 : BitVec 1 := Scalar.cmpi .slt c1_i32_29 v18
  let v23 : BitVec 32 := Scalar.extui v22
  let c0_i32_31 : BitVec 32 := 0#32
  let v24 : BitVec 1 := Scalar.cmpi .ne v23 c0_i32_31
  v24

def k0_off20 : Fin 2 → Nat :=
  let c1_i32_30 : BitVec 32 := 1#32
  let c1_i32_80 : BitVec 32 := 1#32
  let v66 : BitVec 32 := Scalar.addi c1_i32_30 c1_i32_80
  let c4_i32_81 : BitVec 32 := 4#32
  let v67 : BitVec 32 := Scalar.remsi v66 c4_i32_81
  let c1_i32_89 : BitVec 32 := 1#32
  ![v67.toNat, 1]
def k0_off21 : Fin 3 → Nat :=
  let c1_i32_30 : BitVec 32 := 1#32
  let c1_i32_80 : BitVec 32 := 1#32
  let v66 : BitVec 32 := Scalar.addi c1_i32_30 c1_i32_80
  let c4_i32_81 : BitVec 32 := 4#32
  let v67 : BitVec 32 := Scalar.remsi v66 c4_i32_81
  let c0_i32_90 : BitVec 32 := 0#32
  let c0_i32_91 : BitVec 32 := 0#32
  ![v67.toNat, 0, 0]
def k0_off22 (v65 : BitVec 32) : Fin 3 → Nat :=
  let c0_i32_92 : BitVec 32 := 0#32
  let c0_i32_93 : BitVec 32 := 0#32
  ![v65.toNat, 0, 0]
def k0_off23 : Fin 2 → Nat :=
  let c1_i32_30 : BitVec 32 := 1#32
  let c1_i32_80 : BitVec 32 := 1#32
  let v66 : BitVec 32 := Scalar.addi c1_i32_30 c1_i32_80
  let c4_i32_81 : BitVec 32 := 4#32
  let v67 : BitVec 32 := Scalar.remsi v66 c4_i32_81
  let c2_i32_94 : BitVec 32 := 2#32
  ![v67.toNat, 2]
def k0_off24 : Fin 4 → Nat :=
  let c1_i32_30 : BitVec 32 := 1#32
  let c1_i32_80 : BitVec 32 := 1#32
  let v66 : BitVec 32 := Scalar.addi c1_i32_30 c1_i32_80
  let c4_i32_81 : BitVec 32 := 4#32
  let v67 : BitVec 32 := Scalar.remsi v66 c4_i32_81
  let c0_i32_95 : BitVec 32 := 0#32
  let c0_i32_96 : BitVec 32 := 0#32
  let c0_i32_97 : BitVec 32 := 0#32
  ![v67.toNat, 0, 0, 0]
def k0_off25 (v65 : BitVec 32) : Fin 4 → Nat :=
  let c0_i32_98 : BitVec 32 := 0#32
  let c0_i32_99 : BitVec 32 := 0#32
  let c0_i32_100 : BitVec 32 := 0#32
  ![v65.toNat, 0, 0, 0]
def k0_off26 : Fin 2 → Nat :=
  let c1_i32_30 : BitVec 32 := 1#32
  let c1_i32_80 : BitVec 32 := 1#32
  let v66 : BitVec 32 := Scalar.addi c1_i32_30 c1_i32_80
  let c4_i32_81 : BitVec 32 := 4#32
  let v67 : BitVec 32 := Scalar.remsi v66 c4_i32_81
  let c3_i32_101 : BitVec 32 := 3#32
  ![v67.toNat, 3]
def k0_off27 : Fin 3 → Nat :=
  let c1_i32_30 : BitVec 32 := 1#32
  let c1_i32_80 : BitVec 32 := 1#32
  let v66 : BitVec 32 := Scalar.addi c1_i32_30 c1_i32_80
  let c4_i32_81 : BitVec 32 := 4#32
  let v67 : BitVec 32 := Scalar.remsi v66 c4_i32_81
  let c0_i32_102 : BitVec 32 := 0#32
  let c0_i32_103 : BitVec 32 := 0#32
  ![v67.toNat, 0, 0]
def k0_off28 (v65 : BitVec 32) : Fin 3 → Nat :=
  let c0_i32_104 : BitVec 32 := 0#32
  let c0_i32_105 : BitVec 32 := 0#32
  ![v65.toNat, 0, 0]

def k0_chk4 (v18 : BitVec 32) (v65 : BitVec 32) : Prop :=
  (∀ (k0_h2 : k0_cond2 v18 = 1#1), ∀ a, (k0_off19 v65) a + S1x384x32x128.size a ≤ S64x384x32x128.size a) ∧
  (∀ (k0_h2 : k0_cond2 v18 = 1#1), ∀ (hinb : ∀ a, (k0_off19 v65) a + S1x384x32x128.size a ≤ S64x384x32x128.size a), (Rect.unit (s := S64x384x32x128) (k0_off19 v65) S1x384x32x128.size hinb).WholeWords (EltTy.packing .i8)) ∧
  (∀ (k0_h2 : k0_cond2 v18 = 1#1), ∀ a, (k0_off22 v65) a + S1x64x1536.size a ≤ S64x64x1536.size a) ∧
  (∀ (k0_h2 : k0_cond2 v18 = 1#1), ∀ (hinb : ∀ a, (k0_off22 v65) a + S1x64x1536.size a ≤ S64x64x1536.size a), (Rect.unit (s := S64x64x1536) (k0_off22 v65) S1x64x1536.size hinb).WholeWords (EltTy.packing .i8)) ∧
  (∀ (k0_h2 : k0_cond2 v18 = 1#1), ∀ a, (k0_off25 v65) a + S1x192x32x128.size a ≤ S64x192x32x128.size a) ∧
  (∀ (k0_h2 : k0_cond2 v18 = 1#1), ∀ (hinb : ∀ a, (k0_off25 v65) a + S1x192x32x128.size a ≤ S64x192x32x128.size a), (Rect.unit (s := S64x192x32x128) (k0_off25 v65) S1x192x32x128.size hinb).WholeWords (EltTy.packing .i8)) ∧
  (∀ (k0_h2 : k0_cond2 v18 = 1#1), ∀ a, (k0_off28 v65) a + S1x24x2048.size a ≤ S64x24x2048.size a) ∧
  (∀ (k0_h2 : k0_cond2 v18 = 1#1), ∀ (hinb : ∀ a, (k0_off28 v65) a + S1x24x2048.size a ≤ S64x24x2048.size a), (Rect.unit (s := S64x24x2048) (k0_off28 v65) S1x24x2048.size hinb).WholeWords (EltTy.packing .i8))
theorem k0_off19_inb : ∀ (v18 : BitVec 32) (v65 : BitVec 32) (k0_hw4 : k0_chk4 v18 v65), ∀ (k0_h2 : k0_cond2 v18 = 1#1), ∀ a, (k0_off19 v65) a + S1x384x32x128.size a ≤ S64x384x32x128.size a := fun v18 v65 k0_hw4 k0_h2 => k0_hw4.1 k0_h2
theorem k0_off19_wordsi8 : ∀ (v18 : BitVec 32) (v65 : BitVec 32) (k0_hw4 : k0_chk4 v18 v65), ∀ (k0_h2 : k0_cond2 v18 = 1#1), (Rect.unit (s := S64x384x32x128) (k0_off19 v65) S1x384x32x128.size (k0_off19_inb v18 v65 k0_hw4 k0_h2)).WholeWords (EltTy.packing .i8) := fun v18 v65 k0_hw4 k0_h2 => k0_hw4.2.1 k0_h2 (k0_off19_inb v18 v65 k0_hw4 k0_h2)
theorem k0_off22_inb : ∀ (v18 : BitVec 32) (v65 : BitVec 32) (k0_hw4 : k0_chk4 v18 v65), ∀ (k0_h2 : k0_cond2 v18 = 1#1), ∀ a, (k0_off22 v65) a + S1x64x1536.size a ≤ S64x64x1536.size a := fun v18 v65 k0_hw4 k0_h2 => k0_hw4.2.2.1 k0_h2
theorem k0_off22_wordsi8 : ∀ (v18 : BitVec 32) (v65 : BitVec 32) (k0_hw4 : k0_chk4 v18 v65), ∀ (k0_h2 : k0_cond2 v18 = 1#1), (Rect.unit (s := S64x64x1536) (k0_off22 v65) S1x64x1536.size (k0_off22_inb v18 v65 k0_hw4 k0_h2)).WholeWords (EltTy.packing .i8) := fun v18 v65 k0_hw4 k0_h2 => k0_hw4.2.2.2.1 k0_h2 (k0_off22_inb v18 v65 k0_hw4 k0_h2)
theorem k0_off25_inb : ∀ (v18 : BitVec 32) (v65 : BitVec 32) (k0_hw4 : k0_chk4 v18 v65), ∀ (k0_h2 : k0_cond2 v18 = 1#1), ∀ a, (k0_off25 v65) a + S1x192x32x128.size a ≤ S64x192x32x128.size a := fun v18 v65 k0_hw4 k0_h2 => k0_hw4.2.2.2.2.1 k0_h2
theorem k0_off25_wordsi8 : ∀ (v18 : BitVec 32) (v65 : BitVec 32) (k0_hw4 : k0_chk4 v18 v65), ∀ (k0_h2 : k0_cond2 v18 = 1#1), (Rect.unit (s := S64x192x32x128) (k0_off25 v65) S1x192x32x128.size (k0_off25_inb v18 v65 k0_hw4 k0_h2)).WholeWords (EltTy.packing .i8) := fun v18 v65 k0_hw4 k0_h2 => k0_hw4.2.2.2.2.2.1 k0_h2 (k0_off25_inb v18 v65 k0_hw4 k0_h2)
theorem k0_off28_inb : ∀ (v18 : BitVec 32) (v65 : BitVec 32) (k0_hw4 : k0_chk4 v18 v65), ∀ (k0_h2 : k0_cond2 v18 = 1#1), ∀ a, (k0_off28 v65) a + S1x24x2048.size a ≤ S64x24x2048.size a := fun v18 v65 k0_hw4 k0_h2 => k0_hw4.2.2.2.2.2.2.1 k0_h2
theorem k0_off28_wordsi8 : ∀ (v18 : BitVec 32) (v65 : BitVec 32) (k0_hw4 : k0_chk4 v18 v65), ∀ (k0_h2 : k0_cond2 v18 = 1#1), (Rect.unit (s := S64x24x2048) (k0_off28 v65) S1x24x2048.size (k0_off28_inb v18 v65 k0_hw4 k0_h2)).WholeWords (EltTy.packing .i8) := fun v18 v65 k0_hw4 k0_h2 => k0_hw4.2.2.2.2.2.2.2 k0_h2 (k0_off28_inb v18 v65 k0_hw4 k0_h2)

def k0_off29 : Fin 2 → Nat :=
  let c2_i32_33 : BitVec 32 := 2#32
  let c1_i32_80 : BitVec 32 := 1#32
  let v66 : BitVec 32 := Scalar.addi c2_i32_33 c1_i32_80
  let c4_i32_81 : BitVec 32 := 4#32
  let v67 : BitVec 32 := Scalar.remsi v66 c4_i32_81
  let c0_i32_82 : BitVec 32 := 0#32
  ![v67.toNat, 0]
def k0_off30 : Fin 4 → Nat :=
  let c2_i32_33 : BitVec 32 := 2#32
  let c1_i32_80 : BitVec 32 := 1#32
  let v66 : BitVec 32 := Scalar.addi c2_i32_33 c1_i32_80
  let c4_i32_81 : BitVec 32 := 4#32
  let v67 : BitVec 32 := Scalar.remsi v66 c4_i32_81
  let c0_i32_83 : BitVec 32 := 0#32
  let c0_i32_84 : BitVec 32 := 0#32
  let c0_i32_85 : BitVec 32 := 0#32
  ![v67.toNat, 0, 0, 0]
def k0_off31 (v65 : BitVec 32) : Fin 4 → Nat :=
  let c0_i32_86 : BitVec 32 := 0#32
  let c0_i32_87 : BitVec 32 := 0#32
  let c0_i32_88 : BitVec 32 := 0#32
  ![v65.toNat, 0, 0, 0]
def k0_cond3 (v18 : BitVec 32) : BitVec 1 :=
  let c2_i32_32 : BitVec 32 := 2#32
  let v25 : BitVec 1 := Scalar.cmpi .slt c2_i32_32 v18
  let v26 : BitVec 32 := Scalar.extui v25
  let c0_i32_34 : BitVec 32 := 0#32
  let v27 : BitVec 1 := Scalar.cmpi .ne v26 c0_i32_34
  v27

def k0_off32 : Fin 2 → Nat :=
  let c2_i32_33 : BitVec 32 := 2#32
  let c1_i32_80 : BitVec 32 := 1#32
  let v66 : BitVec 32 := Scalar.addi c2_i32_33 c1_i32_80
  let c4_i32_81 : BitVec 32 := 4#32
  let v67 : BitVec 32 := Scalar.remsi v66 c4_i32_81
  let c1_i32_89 : BitVec 32 := 1#32
  ![v67.toNat, 1]
def k0_off33 : Fin 3 → Nat :=
  let c2_i32_33 : BitVec 32 := 2#32
  let c1_i32_80 : BitVec 32 := 1#32
  let v66 : BitVec 32 := Scalar.addi c2_i32_33 c1_i32_80
  let c4_i32_81 : BitVec 32 := 4#32
  let v67 : BitVec 32 := Scalar.remsi v66 c4_i32_81
  let c0_i32_90 : BitVec 32 := 0#32
  let c0_i32_91 : BitVec 32 := 0#32
  ![v67.toNat, 0, 0]
def k0_off34 (v65 : BitVec 32) : Fin 3 → Nat :=
  let c0_i32_92 : BitVec 32 := 0#32
  let c0_i32_93 : BitVec 32 := 0#32
  ![v65.toNat, 0, 0]
def k0_off35 : Fin 2 → Nat :=
  let c2_i32_33 : BitVec 32 := 2#32
  let c1_i32_80 : BitVec 32 := 1#32
  let v66 : BitVec 32 := Scalar.addi c2_i32_33 c1_i32_80
  let c4_i32_81 : BitVec 32 := 4#32
  let v67 : BitVec 32 := Scalar.remsi v66 c4_i32_81
  let c2_i32_94 : BitVec 32 := 2#32
  ![v67.toNat, 2]
def k0_off36 : Fin 4 → Nat :=
  let c2_i32_33 : BitVec 32 := 2#32
  let c1_i32_80 : BitVec 32 := 1#32
  let v66 : BitVec 32 := Scalar.addi c2_i32_33 c1_i32_80
  let c4_i32_81 : BitVec 32 := 4#32
  let v67 : BitVec 32 := Scalar.remsi v66 c4_i32_81
  let c0_i32_95 : BitVec 32 := 0#32
  let c0_i32_96 : BitVec 32 := 0#32
  let c0_i32_97 : BitVec 32 := 0#32
  ![v67.toNat, 0, 0, 0]
def k0_off37 (v65 : BitVec 32) : Fin 4 → Nat :=
  let c0_i32_98 : BitVec 32 := 0#32
  let c0_i32_99 : BitVec 32 := 0#32
  let c0_i32_100 : BitVec 32 := 0#32
  ![v65.toNat, 0, 0, 0]
def k0_off38 : Fin 2 → Nat :=
  let c2_i32_33 : BitVec 32 := 2#32
  let c1_i32_80 : BitVec 32 := 1#32
  let v66 : BitVec 32 := Scalar.addi c2_i32_33 c1_i32_80
  let c4_i32_81 : BitVec 32 := 4#32
  let v67 : BitVec 32 := Scalar.remsi v66 c4_i32_81
  let c3_i32_101 : BitVec 32 := 3#32
  ![v67.toNat, 3]
def k0_off39 : Fin 3 → Nat :=
  let c2_i32_33 : BitVec 32 := 2#32
  let c1_i32_80 : BitVec 32 := 1#32
  let v66 : BitVec 32 := Scalar.addi c2_i32_33 c1_i32_80
  let c4_i32_81 : BitVec 32 := 4#32
  let v67 : BitVec 32 := Scalar.remsi v66 c4_i32_81
  let c0_i32_102 : BitVec 32 := 0#32
  let c0_i32_103 : BitVec 32 := 0#32
  ![v67.toNat, 0, 0]
def k0_off40 (v65 : BitVec 32) : Fin 3 → Nat :=
  let c0_i32_104 : BitVec 32 := 0#32
  let c0_i32_105 : BitVec 32 := 0#32
  ![v65.toNat, 0, 0]

def k0_chk5 (v18 : BitVec 32) (v65 : BitVec 32) : Prop :=
  (∀ (k0_h3 : k0_cond3 v18 = 1#1), ∀ a, (k0_off31 v65) a + S1x384x32x128.size a ≤ S64x384x32x128.size a) ∧
  (∀ (k0_h3 : k0_cond3 v18 = 1#1), ∀ (hinb : ∀ a, (k0_off31 v65) a + S1x384x32x128.size a ≤ S64x384x32x128.size a), (Rect.unit (s := S64x384x32x128) (k0_off31 v65) S1x384x32x128.size hinb).WholeWords (EltTy.packing .i8)) ∧
  (∀ (k0_h3 : k0_cond3 v18 = 1#1), ∀ a, (k0_off34 v65) a + S1x64x1536.size a ≤ S64x64x1536.size a) ∧
  (∀ (k0_h3 : k0_cond3 v18 = 1#1), ∀ (hinb : ∀ a, (k0_off34 v65) a + S1x64x1536.size a ≤ S64x64x1536.size a), (Rect.unit (s := S64x64x1536) (k0_off34 v65) S1x64x1536.size hinb).WholeWords (EltTy.packing .i8)) ∧
  (∀ (k0_h3 : k0_cond3 v18 = 1#1), ∀ a, (k0_off37 v65) a + S1x192x32x128.size a ≤ S64x192x32x128.size a) ∧
  (∀ (k0_h3 : k0_cond3 v18 = 1#1), ∀ (hinb : ∀ a, (k0_off37 v65) a + S1x192x32x128.size a ≤ S64x192x32x128.size a), (Rect.unit (s := S64x192x32x128) (k0_off37 v65) S1x192x32x128.size hinb).WholeWords (EltTy.packing .i8)) ∧
  (∀ (k0_h3 : k0_cond3 v18 = 1#1), ∀ a, (k0_off40 v65) a + S1x24x2048.size a ≤ S64x24x2048.size a) ∧
  (∀ (k0_h3 : k0_cond3 v18 = 1#1), ∀ (hinb : ∀ a, (k0_off40 v65) a + S1x24x2048.size a ≤ S64x24x2048.size a), (Rect.unit (s := S64x24x2048) (k0_off40 v65) S1x24x2048.size hinb).WholeWords (EltTy.packing .i8))
theorem k0_off31_inb : ∀ (v18 : BitVec 32) (v65 : BitVec 32) (k0_hw5 : k0_chk5 v18 v65), ∀ (k0_h3 : k0_cond3 v18 = 1#1), ∀ a, (k0_off31 v65) a + S1x384x32x128.size a ≤ S64x384x32x128.size a := fun v18 v65 k0_hw5 k0_h3 => k0_hw5.1 k0_h3
theorem k0_off31_wordsi8 : ∀ (v18 : BitVec 32) (v65 : BitVec 32) (k0_hw5 : k0_chk5 v18 v65), ∀ (k0_h3 : k0_cond3 v18 = 1#1), (Rect.unit (s := S64x384x32x128) (k0_off31 v65) S1x384x32x128.size (k0_off31_inb v18 v65 k0_hw5 k0_h3)).WholeWords (EltTy.packing .i8) := fun v18 v65 k0_hw5 k0_h3 => k0_hw5.2.1 k0_h3 (k0_off31_inb v18 v65 k0_hw5 k0_h3)
theorem k0_off34_inb : ∀ (v18 : BitVec 32) (v65 : BitVec 32) (k0_hw5 : k0_chk5 v18 v65), ∀ (k0_h3 : k0_cond3 v18 = 1#1), ∀ a, (k0_off34 v65) a + S1x64x1536.size a ≤ S64x64x1536.size a := fun v18 v65 k0_hw5 k0_h3 => k0_hw5.2.2.1 k0_h3
theorem k0_off34_wordsi8 : ∀ (v18 : BitVec 32) (v65 : BitVec 32) (k0_hw5 : k0_chk5 v18 v65), ∀ (k0_h3 : k0_cond3 v18 = 1#1), (Rect.unit (s := S64x64x1536) (k0_off34 v65) S1x64x1536.size (k0_off34_inb v18 v65 k0_hw5 k0_h3)).WholeWords (EltTy.packing .i8) := fun v18 v65 k0_hw5 k0_h3 => k0_hw5.2.2.2.1 k0_h3 (k0_off34_inb v18 v65 k0_hw5 k0_h3)
theorem k0_off37_inb : ∀ (v18 : BitVec 32) (v65 : BitVec 32) (k0_hw5 : k0_chk5 v18 v65), ∀ (k0_h3 : k0_cond3 v18 = 1#1), ∀ a, (k0_off37 v65) a + S1x192x32x128.size a ≤ S64x192x32x128.size a := fun v18 v65 k0_hw5 k0_h3 => k0_hw5.2.2.2.2.1 k0_h3
theorem k0_off37_wordsi8 : ∀ (v18 : BitVec 32) (v65 : BitVec 32) (k0_hw5 : k0_chk5 v18 v65), ∀ (k0_h3 : k0_cond3 v18 = 1#1), (Rect.unit (s := S64x192x32x128) (k0_off37 v65) S1x192x32x128.size (k0_off37_inb v18 v65 k0_hw5 k0_h3)).WholeWords (EltTy.packing .i8) := fun v18 v65 k0_hw5 k0_h3 => k0_hw5.2.2.2.2.2.1 k0_h3 (k0_off37_inb v18 v65 k0_hw5 k0_h3)
theorem k0_off40_inb : ∀ (v18 : BitVec 32) (v65 : BitVec 32) (k0_hw5 : k0_chk5 v18 v65), ∀ (k0_h3 : k0_cond3 v18 = 1#1), ∀ a, (k0_off40 v65) a + S1x24x2048.size a ≤ S64x24x2048.size a := fun v18 v65 k0_hw5 k0_h3 => k0_hw5.2.2.2.2.2.2.1 k0_h3
theorem k0_off40_wordsi8 : ∀ (v18 : BitVec 32) (v65 : BitVec 32) (k0_hw5 : k0_chk5 v18 v65), ∀ (k0_h3 : k0_cond3 v18 = 1#1), (Rect.unit (s := S64x24x2048) (k0_off40 v65) S1x24x2048.size (k0_off40_inb v18 v65 k0_hw5 k0_h3)).WholeWords (EltTy.packing .i8) := fun v18 v65 k0_hw5 k0_h3 => k0_hw5.2.2.2.2.2.2.2 k0_h3 (k0_off40_inb v18 v65 k0_hw5 k0_h3)

@[reducible] def k0_t3_loop : Scf.Loop 32 :=
  let c0_i32_59 : BitVec 32 := 0#32
  let c3_i32_60 : BitVec 32 := 3#32
  let v44 : BitVec 32 := Scalar.addi c0_i32_59 c3_i32_60
  let c1_i32_61 : BitVec 32 := 1#32
  ⟨c0_i32_59, v44, c1_i32_61⟩
@[reducible] def k0_t4_loop : Scf.Loop 32 :=
  let c0_i32_80 : BitVec 32 := 0#32
  let c8_i32 : BitVec 32 := 8#32
  let v65 : BitVec 32 := Scalar.addi c0_i32_80 c8_i32
  let c1_i32_81 : BitVec 32 := 1#32
  ⟨c0_i32_80, v65, c1_i32_81⟩
def k0_off41 (k0_t3 : Fin k0_t3_loop.trips) (k0_t4 : Fin k0_t4_loop.trips) : Fin 2 → Nat :=
  let c8_i32_84 : BitVec 32 := 8#32
  let c0_i32_80 : BitVec 32 := 0#32
  let c1_i32_81 : BitVec 32 := 1#32
  let arg24 : BitVec 32 := Scf.iv c0_i32_80 c1_i32_81 k0_t4
  let v72 : BitVec 32 := Scalar.muli c8_i32_84 arg24
  let v76 : Index := Scalar.indexCast v72
  let c512_i32_85 : BitVec 32 := 512#32
  let c0_i32_59 : BitVec 32 := 0#32
  let c1_i32_61 : BitVec 32 := 1#32
  let arg23 : BitVec 32 := Scf.iv c0_i32_59 c1_i32_61 k0_t3
  let v73 : BitVec 32 := Scalar.muli c512_i32_85 arg23
  let v77 : Index := Scalar.indexCast v73
  ![v76.toNat, v77.toNat]
def k0_off42 (k0_t3 : Fin k0_t3_loop.trips) (k0_t4 : Fin k0_t4_loop.trips) (c0_i32_89 : BitVec 32) (c0_i32_91 : BitVec 32) : Fin 3 → Nat :=
  let c0_i32_80 : BitVec 32 := 0#32
  let c1_i32_81 : BitVec 32 := 1#32
  let arg24 : BitVec 32 := Scf.iv c0_i32_80 c1_i32_81 k0_t4
  let c8_i32_88 : BitVec 32 := 8#32
  let v85 : BitVec 32 := Scalar.muli arg24 c8_i32_88
  let v86 : BitVec 32 := Scalar.addi v85 c0_i32_89
  let c2_i32_90 : BitVec 32 := 2#32
  let v103 : BitVec 32 := Scalar.muli v86 c2_i32_90
  let v104 : BitVec 32 := Scalar.addi v103 c0_i32_91
  let c3_i32_92 : BitVec 32 := 3#32
  let v105 : BitVec 32 := Scalar.muli v104 c3_i32_92
  let c0_i32_59 : BitVec 32 := 0#32
  let c1_i32_61 : BitVec 32 := 1#32
  let arg23 : BitVec 32 := Scf.iv c0_i32_59 c1_i32_61 k0_t3
  let v106 : BitVec 32 := Scalar.addi v105 arg23
  let v109 : Index := Scalar.indexCast v106
  let c0_96 : Index := 0#32
  let c0_97 : Index := 0#32
  ![v109.toNat, 0, 0]
def k0_off43 (k0_t4 : Fin k0_t4_loop.trips) : Fin 2 → Nat :=
  let c0_387 : Index := 0#32
  let c256_i32 : BitVec 32 := 256#32
  let c0_i32_80 : BitVec 32 := 0#32
  let c1_i32_81 : BitVec 32 := 1#32
  let arg24 : BitVec 32 := Scf.iv c0_i32_80 c1_i32_81 k0_t4
  let v954 : BitVec 32 := Scalar.muli c256_i32 arg24
  let v955 : Index := Scalar.indexCast v954
  ![0, v955.toNat]
def k0_off44 (k0_t3 : Fin k0_t3_loop.trips) : Fin 2 → Nat :=
  let c0_83 : Index := 0#32
  let c512_i32 : BitVec 32 := 512#32
  let c0_i32_59 : BitVec 32 := 0#32
  let c1_i32_61 : BitVec 32 := 1#32
  let arg23 : BitVec 32 := Scf.iv c0_i32_59 c1_i32_61 k0_t3
  let v67 : BitVec 32 := Scalar.muli c512_i32 arg23
  let v68 : Index := Scalar.indexCast v67
  ![0, v68.toNat]
@[reducible] def k0_t5_loop : Scf.Loop 32 :=
  let c0_i32_68 : BitVec 32 := 0#32
  let c4_i32 : BitVec 32 := 4#32
  let v55 : BitVec 32 := Scalar.addi c0_i32_68 c4_i32
  let c1_i32_69 : BitVec 32 := 1#32
  ⟨c0_i32_68, v55, c1_i32_69⟩
@[reducible] def k0_t6_loop : Scf.Loop 32 :=
  let c0_i32_80 : BitVec 32 := 0#32
  let c3_i32_81 : BitVec 32 := 3#32
  let v65 : BitVec 32 := Scalar.addi c0_i32_80 c3_i32_81
  let c1_i32_82 : BitVec 32 := 1#32
  ⟨c0_i32_80, v65, c1_i32_82⟩
def k0_off45 (k0_t5 : Fin k0_t5_loop.trips) (k0_t6 : Fin k0_t6_loop.trips) : Fin 2 → Nat :=
  let c8_i32 : BitVec 32 := 8#32
  let c0_i32_80 : BitVec 32 := 0#32
  let c1_i32_82 : BitVec 32 := 1#32
  let arg24 : BitVec 32 := Scf.iv c0_i32_80 c1_i32_82 k0_t6
  let v72 : BitVec 32 := Scalar.muli c8_i32 arg24
  let v76 : Index := Scalar.indexCast v72
  let c512_i32_85 : BitVec 32 := 512#32
  let c0_i32_68 : BitVec 32 := 0#32
  let c1_i32_69 : BitVec 32 := 1#32
  let arg23 : BitVec 32 := Scf.iv c0_i32_68 c1_i32_69 k0_t5
  let v73 : BitVec 32 := Scalar.muli c512_i32_85 arg23
  let v77 : Index := Scalar.indexCast v73
  ![v76.toNat, v77.toNat]
def k0_off46 (k0_t5 : Fin k0_t5_loop.trips) (k0_t6 : Fin k0_t6_loop.trips) (c0_i32_89 : BitVec 32) (c0_i32_91 : BitVec 32) : Fin 3 → Nat :=
  let c0_i32_80 : BitVec 32 := 0#32
  let c1_i32_82 : BitVec 32 := 1#32
  let arg24 : BitVec 32 := Scf.iv c0_i32_80 c1_i32_82 k0_t6
  let c8_i32_88 : BitVec 32 := 8#32
  let v85 : BitVec 32 := Scalar.muli arg24 c8_i32_88
  let v86 : BitVec 32 := Scalar.addi v85 c0_i32_89
  let c2_i32_90 : BitVec 32 := 2#32
  let v103 : BitVec 32 := Scalar.muli v86 c2_i32_90
  let v104 : BitVec 32 := Scalar.addi v103 c0_i32_91
  let c4_i32_92 : BitVec 32 := 4#32
  let v105 : BitVec 32 := Scalar.muli v104 c4_i32_92
  let c0_i32_68 : BitVec 32 := 0#32
  let c1_i32_69 : BitVec 32 := 1#32
  let arg23 : BitVec 32 := Scf.iv c0_i32_68 c1_i32_69 k0_t5
  let v106 : BitVec 32 := Scalar.addi v105 arg23
  let v109 : Index := Scalar.indexCast v106
  let c0_96 : Index := 0#32
  let c0_97 : Index := 0#32
  ![v109.toNat, 0, 0]
def k0_off47 (k0_t6 : Fin k0_t6_loop.trips) : Fin 2 → Nat :=
  let c0_387 : Index := 0#32
  let c256_i32 : BitVec 32 := 256#32
  let c0_i32_80 : BitVec 32 := 0#32
  let c1_i32_82 : BitVec 32 := 1#32
  let arg24 : BitVec 32 := Scf.iv c0_i32_80 c1_i32_82 k0_t6
  let v954 : BitVec 32 := Scalar.muli c256_i32 arg24
  let v955 : Index := Scalar.indexCast v954
  ![0, v955.toNat]
def k0_off48 (k0_t5 : Fin k0_t5_loop.trips) : Fin 2 → Nat :=
  let c0_84 : Index := 0#32
  let c512_i32 : BitVec 32 := 512#32
  let c0_i32_68 : BitVec 32 := 0#32
  let c1_i32_69 : BitVec 32 := 1#32
  let arg23 : BitVec 32 := Scf.iv c0_i32_68 c1_i32_69 k0_t5
  let v67 : BitVec 32 := Scalar.muli c512_i32 arg23
  let v68 : Index := Scalar.indexCast v67
  ![0, v68.toNat]
@[reducible] def k0_t7_loop (v18 : BitVec 32) : Scf.Loop 32 :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_74 : BitVec 32 := 1#32
  ⟨c0_i32_72, v60, c1_i32_74⟩

def k0_off49 (v18 : BitVec 32) (k0_t7 : Fin (k0_t7_loop v18).trips) : Fin 1 → Nat :=
  let c0_i32_72 : BitVec 32 := 0#32
  let c1_i32_74 : BitVec 32 := 1#32
  let arg23 : BitVec 32 := Scf.iv c0_i32_72 c1_i32_74 k0_t7
  let c4_i32_80 : BitVec 32 := 4#32
  let v64 : BitVec 32 := Scalar.addi arg23 c4_i32_80
  let c1_i32_81 : BitVec 32 := 1#32
  let v65 : BitVec 32 := Scalar.subi v64 c1_i32_81
  let v129 : Index := Scalar.indexCast v65
  ![v129.toNat]
def k0_cond4 (v18 : BitVec 32) (k0_t7 : Fin (k0_t7_loop v18).trips) : BitVec 1 :=
  let c0_i32_72 : BitVec 32 := 0#32
  let c1_i32_74 : BitVec 32 := 1#32
  let arg23 : BitVec 32 := Scf.iv c0_i32_72 c1_i32_74 k0_t7
  let c4_i32_80 : BitVec 32 := 4#32
  let v64 : BitVec 32 := Scalar.addi arg23 c4_i32_80
  let c1_i32_81 : BitVec 32 := 1#32
  let v65 : BitVec 32 := Scalar.subi v64 c1_i32_81
  let v66 : BitVec 1 := Scalar.cmpi .slt v65 v18
  let v67 : BitVec 32 := Scalar.extui v66
  let c0_i32_82 : BitVec 32 := 0#32
  let v68 : BitVec 1 := Scalar.cmpi .ne v67 c0_i32_82
  v68

def k0_off50 (v18 : BitVec 32) (k0_t7 : Fin (k0_t7_loop v18).trips) : Fin 2 → Nat :=
  let c0_i32_72 : BitVec 32 := 0#32
  let c1_i32_74 : BitVec 32 := 1#32
  let arg23 : BitVec 32 := Scf.iv c0_i32_72 c1_i32_74 k0_t7
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c0_i32_134 : BitVec 32 := 0#32
  ![v132.toNat, 0]
def k0_off51 (v18 : BitVec 32) (k0_t7 : Fin (k0_t7_loop v18).trips) : Fin 4 → Nat :=
  let c0_i32_72 : BitVec 32 := 0#32
  let c1_i32_74 : BitVec 32 := 1#32
  let arg23 : BitVec 32 := Scf.iv c0_i32_72 c1_i32_74 k0_t7
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c0_i32_135 : BitVec 32 := 0#32
  let c0_i32_136 : BitVec 32 := 0#32
  let c0_i32_137 : BitVec 32 := 0#32
  ![v132.toNat, 0, 0, 0]
def k0_off52 (v130 : BitVec 32) : Fin 4 → Nat :=
  let c0_i32_138 : BitVec 32 := 0#32
  let c0_i32_139 : BitVec 32 := 0#32
  let c0_i32_140 : BitVec 32 := 0#32
  ![v130.toNat, 0, 0, 0]

def k0_off53 (v18 : BitVec 32) (k0_t7 : Fin (k0_t7_loop v18).trips) : Fin 2 → Nat :=
  let c0_i32_72 : BitVec 32 := 0#32
  let c1_i32_74 : BitVec 32 := 1#32
  let arg23 : BitVec 32 := Scf.iv c0_i32_72 c1_i32_74 k0_t7
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c1_i32_141 : BitVec 32 := 1#32
  ![v132.toNat, 1]
def k0_off54 (v18 : BitVec 32) (k0_t7 : Fin (k0_t7_loop v18).trips) : Fin 3 → Nat :=
  let c0_i32_72 : BitVec 32 := 0#32
  let c1_i32_74 : BitVec 32 := 1#32
  let arg23 : BitVec 32 := Scf.iv c0_i32_72 c1_i32_74 k0_t7
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c0_i32_142 : BitVec 32 := 0#32
  let c0_i32_143 : BitVec 32 := 0#32
  ![v132.toNat, 0, 0]
def k0_off55 (v130 : BitVec 32) : Fin 3 → Nat :=
  let c0_i32_144 : BitVec 32 := 0#32
  let c0_i32_145 : BitVec 32 := 0#32
  ![v130.toNat, 0, 0]
def k0_off56 (v18 : BitVec 32) (k0_t7 : Fin (k0_t7_loop v18).trips) : Fin 2 → Nat :=
  let c0_i32_72 : BitVec 32 := 0#32
  let c1_i32_74 : BitVec 32 := 1#32
  let arg23 : BitVec 32 := Scf.iv c0_i32_72 c1_i32_74 k0_t7
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c2_i32_146 : BitVec 32 := 2#32
  ![v132.toNat, 2]
def k0_off57 (v18 : BitVec 32) (k0_t7 : Fin (k0_t7_loop v18).trips) : Fin 4 → Nat :=
  let c0_i32_72 : BitVec 32 := 0#32
  let c1_i32_74 : BitVec 32 := 1#32
  let arg23 : BitVec 32 := Scf.iv c0_i32_72 c1_i32_74 k0_t7
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c0_i32_147 : BitVec 32 := 0#32
  let c0_i32_148 : BitVec 32 := 0#32
  let c0_i32_149 : BitVec 32 := 0#32
  ![v132.toNat, 0, 0, 0]
def k0_off58 (v130 : BitVec 32) : Fin 4 → Nat :=
  let c0_i32_150 : BitVec 32 := 0#32
  let c0_i32_151 : BitVec 32 := 0#32
  let c0_i32_152 : BitVec 32 := 0#32
  ![v130.toNat, 0, 0, 0]
def k0_off59 (v18 : BitVec 32) (k0_t7 : Fin (k0_t7_loop v18).trips) : Fin 2 → Nat :=
  let c0_i32_72 : BitVec 32 := 0#32
  let c1_i32_74 : BitVec 32 := 1#32
  let arg23 : BitVec 32 := Scf.iv c0_i32_72 c1_i32_74 k0_t7
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c3_i32_153 : BitVec 32 := 3#32
  ![v132.toNat, 3]
def k0_off60 (v18 : BitVec 32) (k0_t7 : Fin (k0_t7_loop v18).trips) : Fin 3 → Nat :=
  let c0_i32_72 : BitVec 32 := 0#32
  let c1_i32_74 : BitVec 32 := 1#32
  let arg23 : BitVec 32 := Scf.iv c0_i32_72 c1_i32_74 k0_t7
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c0_i32_154 : BitVec 32 := 0#32
  let c0_i32_155 : BitVec 32 := 0#32
  ![v132.toNat, 0, 0]
def k0_off61 (v130 : BitVec 32) : Fin 3 → Nat :=
  let c0_i32_156 : BitVec 32 := 0#32
  let c0_i32_157 : BitVec 32 := 0#32
  ![v130.toNat, 0, 0]

def k0_chk7 (v18 : BitVec 32) (k0_t7 : Fin (k0_t7_loop v18).trips) (v130 : BitVec 32) : Prop :=
  (∀ (k0_h4 : k0_cond4 v18 k0_t7 = 1#1), ∀ a, (k0_off52 v130) a + S1x384x32x128.size a ≤ S64x384x32x128.size a) ∧
  (∀ (k0_h4 : k0_cond4 v18 k0_t7 = 1#1), ∀ (hinb : ∀ a, (k0_off52 v130) a + S1x384x32x128.size a ≤ S64x384x32x128.size a), (Rect.unit (s := S64x384x32x128) (k0_off52 v130) S1x384x32x128.size hinb).WholeWords (EltTy.packing .i8)) ∧
  (∀ (k0_h4 : k0_cond4 v18 k0_t7 = 1#1), ∀ a, (k0_off55 v130) a + S1x64x1536.size a ≤ S64x64x1536.size a) ∧
  (∀ (k0_h4 : k0_cond4 v18 k0_t7 = 1#1), ∀ (hinb : ∀ a, (k0_off55 v130) a + S1x64x1536.size a ≤ S64x64x1536.size a), (Rect.unit (s := S64x64x1536) (k0_off55 v130) S1x64x1536.size hinb).WholeWords (EltTy.packing .i8)) ∧
  (∀ (k0_h4 : k0_cond4 v18 k0_t7 = 1#1), ∀ a, (k0_off58 v130) a + S1x192x32x128.size a ≤ S64x192x32x128.size a) ∧
  (∀ (k0_h4 : k0_cond4 v18 k0_t7 = 1#1), ∀ (hinb : ∀ a, (k0_off58 v130) a + S1x192x32x128.size a ≤ S64x192x32x128.size a), (Rect.unit (s := S64x192x32x128) (k0_off58 v130) S1x192x32x128.size hinb).WholeWords (EltTy.packing .i8)) ∧
  (∀ (k0_h4 : k0_cond4 v18 k0_t7 = 1#1), ∀ a, (k0_off61 v130) a + S1x24x2048.size a ≤ S64x24x2048.size a) ∧
  (∀ (k0_h4 : k0_cond4 v18 k0_t7 = 1#1), ∀ (hinb : ∀ a, (k0_off61 v130) a + S1x24x2048.size a ≤ S64x24x2048.size a), (Rect.unit (s := S64x24x2048) (k0_off61 v130) S1x24x2048.size hinb).WholeWords (EltTy.packing .i8))
theorem k0_off52_inb : ∀ (v18 : BitVec 32) (k0_t7 : Fin (k0_t7_loop v18).trips) (v130 : BitVec 32) (k0_hw7 : k0_chk7 v18 k0_t7 v130), ∀ (k0_h4 : k0_cond4 v18 k0_t7 = 1#1), ∀ a, (k0_off52 v130) a + S1x384x32x128.size a ≤ S64x384x32x128.size a := fun v18 k0_t7 v130 k0_hw7 k0_h4 => k0_hw7.1 k0_h4
theorem k0_off52_wordsi8 : ∀ (v18 : BitVec 32) (k0_t7 : Fin (k0_t7_loop v18).trips) (v130 : BitVec 32) (k0_hw7 : k0_chk7 v18 k0_t7 v130), ∀ (k0_h4 : k0_cond4 v18 k0_t7 = 1#1), (Rect.unit (s := S64x384x32x128) (k0_off52 v130) S1x384x32x128.size (k0_off52_inb v18 k0_t7 v130 k0_hw7 k0_h4)).WholeWords (EltTy.packing .i8) := fun v18 k0_t7 v130 k0_hw7 k0_h4 => k0_hw7.2.1 k0_h4 (k0_off52_inb v18 k0_t7 v130 k0_hw7 k0_h4)
theorem k0_off55_inb : ∀ (v18 : BitVec 32) (k0_t7 : Fin (k0_t7_loop v18).trips) (v130 : BitVec 32) (k0_hw7 : k0_chk7 v18 k0_t7 v130), ∀ (k0_h4 : k0_cond4 v18 k0_t7 = 1#1), ∀ a, (k0_off55 v130) a + S1x64x1536.size a ≤ S64x64x1536.size a := fun v18 k0_t7 v130 k0_hw7 k0_h4 => k0_hw7.2.2.1 k0_h4
theorem k0_off55_wordsi8 : ∀ (v18 : BitVec 32) (k0_t7 : Fin (k0_t7_loop v18).trips) (v130 : BitVec 32) (k0_hw7 : k0_chk7 v18 k0_t7 v130), ∀ (k0_h4 : k0_cond4 v18 k0_t7 = 1#1), (Rect.unit (s := S64x64x1536) (k0_off55 v130) S1x64x1536.size (k0_off55_inb v18 k0_t7 v130 k0_hw7 k0_h4)).WholeWords (EltTy.packing .i8) := fun v18 k0_t7 v130 k0_hw7 k0_h4 => k0_hw7.2.2.2.1 k0_h4 (k0_off55_inb v18 k0_t7 v130 k0_hw7 k0_h4)
theorem k0_off58_inb : ∀ (v18 : BitVec 32) (k0_t7 : Fin (k0_t7_loop v18).trips) (v130 : BitVec 32) (k0_hw7 : k0_chk7 v18 k0_t7 v130), ∀ (k0_h4 : k0_cond4 v18 k0_t7 = 1#1), ∀ a, (k0_off58 v130) a + S1x192x32x128.size a ≤ S64x192x32x128.size a := fun v18 k0_t7 v130 k0_hw7 k0_h4 => k0_hw7.2.2.2.2.1 k0_h4
theorem k0_off58_wordsi8 : ∀ (v18 : BitVec 32) (k0_t7 : Fin (k0_t7_loop v18).trips) (v130 : BitVec 32) (k0_hw7 : k0_chk7 v18 k0_t7 v130), ∀ (k0_h4 : k0_cond4 v18 k0_t7 = 1#1), (Rect.unit (s := S64x192x32x128) (k0_off58 v130) S1x192x32x128.size (k0_off58_inb v18 k0_t7 v130 k0_hw7 k0_h4)).WholeWords (EltTy.packing .i8) := fun v18 k0_t7 v130 k0_hw7 k0_h4 => k0_hw7.2.2.2.2.2.1 k0_h4 (k0_off58_inb v18 k0_t7 v130 k0_hw7 k0_h4)
theorem k0_off61_inb : ∀ (v18 : BitVec 32) (k0_t7 : Fin (k0_t7_loop v18).trips) (v130 : BitVec 32) (k0_hw7 : k0_chk7 v18 k0_t7 v130), ∀ (k0_h4 : k0_cond4 v18 k0_t7 = 1#1), ∀ a, (k0_off61 v130) a + S1x24x2048.size a ≤ S64x24x2048.size a := fun v18 k0_t7 v130 k0_hw7 k0_h4 => k0_hw7.2.2.2.2.2.2.1 k0_h4
theorem k0_off61_wordsi8 : ∀ (v18 : BitVec 32) (k0_t7 : Fin (k0_t7_loop v18).trips) (v130 : BitVec 32) (k0_hw7 : k0_chk7 v18 k0_t7 v130), ∀ (k0_h4 : k0_cond4 v18 k0_t7 = 1#1), (Rect.unit (s := S64x24x2048) (k0_off61 v130) S1x24x2048.size (k0_off61_inb v18 k0_t7 v130 k0_hw7 k0_h4)).WholeWords (EltTy.packing .i8) := fun v18 k0_t7 v130 k0_hw7 k0_h4 => k0_hw7.2.2.2.2.2.2.2 k0_h4 (k0_off61_inb v18 k0_t7 v130 k0_hw7 k0_h4)

def k0_off62 (v18 : BitVec 32) (k0_t7 : Fin (k0_t7_loop v18).trips) : Fin 1 → Nat :=
  let c0_i32_72 : BitVec 32 := 0#32
  let c1_i32_74 : BitVec 32 := 1#32
  let arg23 : BitVec 32 := Scf.iv c0_i32_72 c1_i32_74 k0_t7
  let v69 : Index := Scalar.indexCast arg23
  ![v69.toNat]
def k0_off63 (v18 : BitVec 32) (k0_t7 : Fin (k0_t7_loop v18).trips) : Fin 2 → Nat :=
  let c0_i32_72 : BitVec 32 := 0#32
  let c1_i32_74 : BitVec 32 := 1#32
  let arg23 : BitVec 32 := Scf.iv c0_i32_72 c1_i32_74 k0_t7
  let c1_i32_83 : BitVec 32 := 1#32
  let v71 : BitVec 32 := Scalar.addi arg23 c1_i32_83
  let c4_i32_84 : BitVec 32 := 4#32
  let v72 : BitVec 32 := Scalar.remsi v71 c4_i32_84
  let c0_i32_85 : BitVec 32 := 0#32
  ![v72.toNat, 0]
def k0_off64 (v18 : BitVec 32) (k0_t7 : Fin (k0_t7_loop v18).trips) : Fin 4 → Nat :=
  let c0_i32_72 : BitVec 32 := 0#32
  let c1_i32_74 : BitVec 32 := 1#32
  let arg23 : BitVec 32 := Scf.iv c0_i32_72 c1_i32_74 k0_t7
  let c1_i32_83 : BitVec 32 := 1#32
  let v71 : BitVec 32 := Scalar.addi arg23 c1_i32_83
  let c4_i32_84 : BitVec 32 := 4#32
  let v72 : BitVec 32 := Scalar.remsi v71 c4_i32_84
  let c0_i32_86 : BitVec 32 := 0#32
  let c0_i32_87 : BitVec 32 := 0#32
  let c0_i32_88 : BitVec 32 := 0#32
  ![v72.toNat, 0, 0, 0]
def k0_off65 (v70 : BitVec 32) : Fin 4 → Nat :=
  let c0_i32_89 : BitVec 32 := 0#32
  let c0_i32_90 : BitVec 32 := 0#32
  let c0_i32_91 : BitVec 32 := 0#32
  ![v70.toNat, 0, 0, 0]

def k0_off66 (v18 : BitVec 32) (k0_t7 : Fin (k0_t7_loop v18).trips) : Fin 2 → Nat :=
  let c0_i32_72 : BitVec 32 := 0#32
  let c1_i32_74 : BitVec 32 := 1#32
  let arg23 : BitVec 32 := Scf.iv c0_i32_72 c1_i32_74 k0_t7
  let c1_i32_83 : BitVec 32 := 1#32
  let v71 : BitVec 32 := Scalar.addi arg23 c1_i32_83
  let c4_i32_84 : BitVec 32 := 4#32
  let v72 : BitVec 32 := Scalar.remsi v71 c4_i32_84
  let c1_i32_92 : BitVec 32 := 1#32
  ![v72.toNat, 1]
def k0_off67 (v18 : BitVec 32) (k0_t7 : Fin (k0_t7_loop v18).trips) : Fin 3 → Nat :=
  let c0_i32_72 : BitVec 32 := 0#32
  let c1_i32_74 : BitVec 32 := 1#32
  let arg23 : BitVec 32 := Scf.iv c0_i32_72 c1_i32_74 k0_t7
  let c1_i32_83 : BitVec 32 := 1#32
  let v71 : BitVec 32 := Scalar.addi arg23 c1_i32_83
  let c4_i32_84 : BitVec 32 := 4#32
  let v72 : BitVec 32 := Scalar.remsi v71 c4_i32_84
  let c0_i32_93 : BitVec 32 := 0#32
  let c0_i32_94 : BitVec 32 := 0#32
  ![v72.toNat, 0, 0]
def k0_off68 (v70 : BitVec 32) : Fin 3 → Nat :=
  let c0_i32_95 : BitVec 32 := 0#32
  let c0_i32_96 : BitVec 32 := 0#32
  ![v70.toNat, 0, 0]
def k0_off69 (v18 : BitVec 32) (k0_t7 : Fin (k0_t7_loop v18).trips) : Fin 2 → Nat :=
  let c0_i32_72 : BitVec 32 := 0#32
  let c1_i32_74 : BitVec 32 := 1#32
  let arg23 : BitVec 32 := Scf.iv c0_i32_72 c1_i32_74 k0_t7
  let c1_i32_83 : BitVec 32 := 1#32
  let v71 : BitVec 32 := Scalar.addi arg23 c1_i32_83
  let c4_i32_84 : BitVec 32 := 4#32
  let v72 : BitVec 32 := Scalar.remsi v71 c4_i32_84
  let c2_i32_97 : BitVec 32 := 2#32
  ![v72.toNat, 2]
def k0_off70 (v18 : BitVec 32) (k0_t7 : Fin (k0_t7_loop v18).trips) : Fin 4 → Nat :=
  let c0_i32_72 : BitVec 32 := 0#32
  let c1_i32_74 : BitVec 32 := 1#32
  let arg23 : BitVec 32 := Scf.iv c0_i32_72 c1_i32_74 k0_t7
  let c1_i32_83 : BitVec 32 := 1#32
  let v71 : BitVec 32 := Scalar.addi arg23 c1_i32_83
  let c4_i32_84 : BitVec 32 := 4#32
  let v72 : BitVec 32 := Scalar.remsi v71 c4_i32_84
  let c0_i32_98 : BitVec 32 := 0#32
  let c0_i32_99 : BitVec 32 := 0#32
  let c0_i32_100 : BitVec 32 := 0#32
  ![v72.toNat, 0, 0, 0]
def k0_off71 (v70 : BitVec 32) : Fin 4 → Nat :=
  let c0_i32_101 : BitVec 32 := 0#32
  let c0_i32_102 : BitVec 32 := 0#32
  let c0_i32_103 : BitVec 32 := 0#32
  ![v70.toNat, 0, 0, 0]
def k0_off72 (v18 : BitVec 32) (k0_t7 : Fin (k0_t7_loop v18).trips) : Fin 2 → Nat :=
  let c0_i32_72 : BitVec 32 := 0#32
  let c1_i32_74 : BitVec 32 := 1#32
  let arg23 : BitVec 32 := Scf.iv c0_i32_72 c1_i32_74 k0_t7
  let c1_i32_83 : BitVec 32 := 1#32
  let v71 : BitVec 32 := Scalar.addi arg23 c1_i32_83
  let c4_i32_84 : BitVec 32 := 4#32
  let v72 : BitVec 32 := Scalar.remsi v71 c4_i32_84
  let c3_i32_104 : BitVec 32 := 3#32
  ![v72.toNat, 3]
def k0_off73 (v18 : BitVec 32) (k0_t7 : Fin (k0_t7_loop v18).trips) : Fin 3 → Nat :=
  let c0_i32_72 : BitVec 32 := 0#32
  let c1_i32_74 : BitVec 32 := 1#32
  let arg23 : BitVec 32 := Scf.iv c0_i32_72 c1_i32_74 k0_t7
  let c1_i32_83 : BitVec 32 := 1#32
  let v71 : BitVec 32 := Scalar.addi arg23 c1_i32_83
  let c4_i32_84 : BitVec 32 := 4#32
  let v72 : BitVec 32 := Scalar.remsi v71 c4_i32_84
  let c0_i32_105 : BitVec 32 := 0#32
  let c0_i32_106 : BitVec 32 := 0#32
  ![v72.toNat, 0, 0]
def k0_off74 (v70 : BitVec 32) : Fin 3 → Nat :=
  let c0_i32_107 : BitVec 32 := 0#32
  let c0_i32_108 : BitVec 32 := 0#32
  ![v70.toNat, 0, 0]

def k0_chk8 (v70 : BitVec 32) : Prop :=
  (∀ a, (k0_off65 v70) a + S1x384x32x128.size a ≤ S64x384x32x128.size a) ∧
  (∀ (hinb : ∀ a, (k0_off65 v70) a + S1x384x32x128.size a ≤ S64x384x32x128.size a), (Rect.unit (s := S64x384x32x128) (k0_off65 v70) S1x384x32x128.size hinb).WholeWords (EltTy.packing .i8)) ∧
  (∀ a, (k0_off68 v70) a + S1x64x1536.size a ≤ S64x64x1536.size a) ∧
  (∀ (hinb : ∀ a, (k0_off68 v70) a + S1x64x1536.size a ≤ S64x64x1536.size a), (Rect.unit (s := S64x64x1536) (k0_off68 v70) S1x64x1536.size hinb).WholeWords (EltTy.packing .i8)) ∧
  (∀ a, (k0_off71 v70) a + S1x192x32x128.size a ≤ S64x192x32x128.size a) ∧
  (∀ (hinb : ∀ a, (k0_off71 v70) a + S1x192x32x128.size a ≤ S64x192x32x128.size a), (Rect.unit (s := S64x192x32x128) (k0_off71 v70) S1x192x32x128.size hinb).WholeWords (EltTy.packing .i8)) ∧
  (∀ a, (k0_off74 v70) a + S1x24x2048.size a ≤ S64x24x2048.size a) ∧
  (∀ (hinb : ∀ a, (k0_off74 v70) a + S1x24x2048.size a ≤ S64x24x2048.size a), (Rect.unit (s := S64x24x2048) (k0_off74 v70) S1x24x2048.size hinb).WholeWords (EltTy.packing .i8))
theorem k0_off65_inb : ∀ (v70 : BitVec 32) (k0_hw8 : k0_chk8 v70), ∀ a, (k0_off65 v70) a + S1x384x32x128.size a ≤ S64x384x32x128.size a := fun v70 k0_hw8 => k0_hw8.1
theorem k0_off65_wordsi8 : ∀ (v70 : BitVec 32) (k0_hw8 : k0_chk8 v70), (Rect.unit (s := S64x384x32x128) (k0_off65 v70) S1x384x32x128.size (k0_off65_inb v70 k0_hw8)).WholeWords (EltTy.packing .i8) := fun v70 k0_hw8 => k0_hw8.2.1 (k0_off65_inb v70 k0_hw8)
theorem k0_off68_inb : ∀ (v70 : BitVec 32) (k0_hw8 : k0_chk8 v70), ∀ a, (k0_off68 v70) a + S1x64x1536.size a ≤ S64x64x1536.size a := fun v70 k0_hw8 => k0_hw8.2.2.1
theorem k0_off68_wordsi8 : ∀ (v70 : BitVec 32) (k0_hw8 : k0_chk8 v70), (Rect.unit (s := S64x64x1536) (k0_off68 v70) S1x64x1536.size (k0_off68_inb v70 k0_hw8)).WholeWords (EltTy.packing .i8) := fun v70 k0_hw8 => k0_hw8.2.2.2.1 (k0_off68_inb v70 k0_hw8)
theorem k0_off71_inb : ∀ (v70 : BitVec 32) (k0_hw8 : k0_chk8 v70), ∀ a, (k0_off71 v70) a + S1x192x32x128.size a ≤ S64x192x32x128.size a := fun v70 k0_hw8 => k0_hw8.2.2.2.2.1
theorem k0_off71_wordsi8 : ∀ (v70 : BitVec 32) (k0_hw8 : k0_chk8 v70), (Rect.unit (s := S64x192x32x128) (k0_off71 v70) S1x192x32x128.size (k0_off71_inb v70 k0_hw8)).WholeWords (EltTy.packing .i8) := fun v70 k0_hw8 => k0_hw8.2.2.2.2.2.1 (k0_off71_inb v70 k0_hw8)
theorem k0_off74_inb : ∀ (v70 : BitVec 32) (k0_hw8 : k0_chk8 v70), ∀ a, (k0_off74 v70) a + S1x24x2048.size a ≤ S64x24x2048.size a := fun v70 k0_hw8 => k0_hw8.2.2.2.2.2.2.1
theorem k0_off74_wordsi8 : ∀ (v70 : BitVec 32) (k0_hw8 : k0_chk8 v70), (Rect.unit (s := S64x24x2048) (k0_off74 v70) S1x24x2048.size (k0_off74_inb v70 k0_hw8)).WholeWords (EltTy.packing .i8) := fun v70 k0_hw8 => k0_hw8.2.2.2.2.2.2.2 (k0_off74_inb v70 k0_hw8)

def k0_off75 (v18 : BitVec 32) (k0_t7 : Fin (k0_t7_loop v18).trips) : Fin 1 → Nat :=
  let c0_i32_72 : BitVec 32 := 0#32
  let c1_i32_74 : BitVec 32 := 1#32
  let arg23 : BitVec 32 := Scf.iv c0_i32_72 c1_i32_74 k0_t7
  let v101 : Index := Scalar.indexCast arg23
  ![v101.toNat]
@[reducible] def k0_t8_loop : Scf.Loop 32 :=
  let c0_i32_119 : BitVec 32 := 0#32
  let c3_i32_120 : BitVec 32 := 3#32
  let v117 : BitVec 32 := Scalar.addi c0_i32_119 c3_i32_120
  let c1_i32_121 : BitVec 32 := 1#32
  ⟨c0_i32_119, v117, c1_i32_121⟩
@[reducible] def k0_t9_loop : Scf.Loop 32 :=
  let c0_i32_133 : BitVec 32 := 0#32
  let c8_i32 : BitVec 32 := 8#32
  let v130 : BitVec 32 := Scalar.addi c0_i32_133 c8_i32
  let c1_i32_134 : BitVec 32 := 1#32
  ⟨c0_i32_133, v130, c1_i32_134⟩
def k0_off76 (v18 : BitVec 32) (k0_t7 : Fin (k0_t7_loop v18).trips) : Fin 3 → Nat :=
  let c0_i32_72 : BitVec 32 := 0#32
  let c1_i32_74 : BitVec 32 := 1#32
  let arg23 : BitVec 32 := Scf.iv c0_i32_72 c1_i32_74 k0_t7
  let c1_i32_109 : BitVec 32 := 1#32
  let v97 : BitVec 32 := Scalar.addi arg23 c1_i32_109
  let c4_i32_110 : BitVec 32 := 4#32
  let v98 : BitVec 32 := Scalar.remsi v97 c4_i32_110
  let c0_i32_139 : BitVec 32 := 0#32
  let c0_i32_140 : BitVec 32 := 0#32
  ![v98.toNat, 0, 0]
def k0_off77 (k0_t8 : Fin k0_t8_loop.trips) (k0_t9 : Fin k0_t9_loop.trips) : Fin 2 → Nat :=
  let c8_i32_137 : BitVec 32 := 8#32
  let c0_i32_133 : BitVec 32 := 0#32
  let c1_i32_134 : BitVec 32 := 1#32
  let arg25 : BitVec 32 := Scf.iv c0_i32_133 c1_i32_134 k0_t9
  let v137 : BitVec 32 := Scalar.muli c8_i32_137 arg25
  let v141 : Index := Scalar.indexCast v137
  let c512_i32_138 : BitVec 32 := 512#32
  let c0_i32_119 : BitVec 32 := 0#32
  let c1_i32_121 : BitVec 32 := 1#32
  let arg24 : BitVec 32 := Scf.iv c0_i32_119 c1_i32_121 k0_t8
  let v138 : BitVec 32 := Scalar.muli c512_i32_138 arg24
  let v142 : Index := Scalar.indexCast v138
  ![v141.toNat, v142.toNat]
def k0_off78 (v18 : BitVec 32) (k0_t7 : Fin (k0_t7_loop v18).trips) : Fin 4 → Nat :=
  let c0_i32_72 : BitVec 32 := 0#32
  let c1_i32_74 : BitVec 32 := 1#32
  let arg23 : BitVec 32 := Scf.iv c0_i32_72 c1_i32_74 k0_t7
  let c1_i32_109 : BitVec 32 := 1#32
  let v97 : BitVec 32 := Scalar.addi arg23 c1_i32_109
  let c4_i32_110 : BitVec 32 := 4#32
  let v98 : BitVec 32 := Scalar.remsi v97 c4_i32_110
  let c0_i32_146 : BitVec 32 := 0#32
  let c0_i32_147 : BitVec 32 := 0#32
  let c0_i32_148 : BitVec 32 := 0#32
  ![v98.toNat, 0, 0, 0]
def k0_off79 (k0_t8 : Fin k0_t8_loop.trips) (k0_t9 : Fin k0_t9_loop.trips) (c0_i32_142 : BitVec 32) (c0_i32_144 : BitVec 32) : Fin 3 → Nat :=
  let c0_i32_133 : BitVec 32 := 0#32
  let c1_i32_134 : BitVec 32 := 1#32
  let arg25 : BitVec 32 := Scf.iv c0_i32_133 c1_i32_134 k0_t9
  let c8_i32_141 : BitVec 32 := 8#32
  let v150 : BitVec 32 := Scalar.muli arg25 c8_i32_141
  let v151 : BitVec 32 := Scalar.addi v150 c0_i32_142
  let c2_i32_143 : BitVec 32 := 2#32
  let v168 : BitVec 32 := Scalar.muli v151 c2_i32_143
  let v169 : BitVec 32 := Scalar.addi v168 c0_i32_144
  let c3_i32_145 : BitVec 32 := 3#32
  let v170 : BitVec 32 := Scalar.muli v169 c3_i32_145
  let c0_i32_119 : BitVec 32 := 0#32
  let c1_i32_121 : BitVec 32 := 1#32
  let arg24 : BitVec 32 := Scf.iv c0_i32_119 c1_i32_121 k0_t8
  let v171 : BitVec 32 := Scalar.addi v170 arg24
  let v174 : Index := Scalar.indexCast v171
  let c0_149 : Index := 0#32
  let c0_150 : Index := 0#32
  ![v174.toNat, 0, 0]
def k0_off80 (k0_t9 : Fin k0_t9_loop.trips) : Fin 2 → Nat :=
  let c0_440 : Index := 0#32
  let c256_i32 : BitVec 32 := 256#32
  let c0_i32_133 : BitVec 32 := 0#32
  let c1_i32_134 : BitVec 32 := 1#32
  let arg25 : BitVec 32 := Scf.iv c0_i32_133 c1_i32_134 k0_t9
  let v1019 : BitVec 32 := Scalar.muli c256_i32 arg25
  let v1020 : Index := Scalar.indexCast v1019
  ![0, v1020.toNat]
def k0_off81 (k0_t8 : Fin k0_t8_loop.trips) : Fin 2 → Nat :=
  let c0_136 : Index := 0#32
  let c512_i32 : BitVec 32 := 512#32
  let c0_i32_119 : BitVec 32 := 0#32
  let c1_i32_121 : BitVec 32 := 1#32
  let arg24 : BitVec 32 := Scf.iv c0_i32_119 c1_i32_121 k0_t8
  let v132 : BitVec 32 := Scalar.muli c512_i32 arg24
  let v133 : Index := Scalar.indexCast v132
  ![0, v133.toNat]
@[reducible] def k0_t10_loop : Scf.Loop 32 :=
  let c0_i32_128 : BitVec 32 := 0#32
  let c4_i32_129 : BitVec 32 := 4#32
  let v128 : BitVec 32 := Scalar.addi c0_i32_128 c4_i32_129
  let c1_i32_130 : BitVec 32 := 1#32
  ⟨c0_i32_128, v128, c1_i32_130⟩
@[reducible] def k0_t11_loop : Scf.Loop 32 :=
  let c0_i32_133 : BitVec 32 := 0#32
  let c3_i32_134 : BitVec 32 := 3#32
  let v130 : BitVec 32 := Scalar.addi c0_i32_133 c3_i32_134
  let c1_i32_135 : BitVec 32 := 1#32
  ⟨c0_i32_133, v130, c1_i32_135⟩
def k0_off82 (v18 : BitVec 32) (k0_t7 : Fin (k0_t7_loop v18).trips) : Fin 3 → Nat :=
  let c0_i32_72 : BitVec 32 := 0#32
  let c1_i32_74 : BitVec 32 := 1#32
  let arg23 : BitVec 32 := Scf.iv c0_i32_72 c1_i32_74 k0_t7
  let c1_i32_109 : BitVec 32 := 1#32
  let v97 : BitVec 32 := Scalar.addi arg23 c1_i32_109
  let c4_i32_110 : BitVec 32 := 4#32
  let v98 : BitVec 32 := Scalar.remsi v97 c4_i32_110
  let c0_i32_141 : BitVec 32 := 0#32
  let c0_i32_142 : BitVec 32 := 0#32
  ![v98.toNat, 0, 0]
def k0_off83 (k0_t10 : Fin k0_t10_loop.trips) (k0_t11 : Fin k0_t11_loop.trips) : Fin 2 → Nat :=
  let c8_i32 : BitVec 32 := 8#32
  let c0_i32_133 : BitVec 32 := 0#32
  let c1_i32_135 : BitVec 32 := 1#32
  let arg25 : BitVec 32 := Scf.iv c0_i32_133 c1_i32_135 k0_t11
  let v146 : BitVec 32 := Scalar.muli c8_i32 arg25
  let v150 : Index := Scalar.indexCast v146
  let c512_i32_140 : BitVec 32 := 512#32
  let c0_i32_128 : BitVec 32 := 0#32
  let c1_i32_130 : BitVec 32 := 1#32
  let arg24 : BitVec 32 := Scf.iv c0_i32_128 c1_i32_130 k0_t10
  let v147 : BitVec 32 := Scalar.muli c512_i32_140 arg24
  let v151 : Index := Scalar.indexCast v147
  ![v150.toNat, v151.toNat]
def k0_off84 (v18 : BitVec 32) (k0_t7 : Fin (k0_t7_loop v18).trips) : Fin 4 → Nat :=
  let c0_i32_72 : BitVec 32 := 0#32
  let c1_i32_74 : BitVec 32 := 1#32
  let arg23 : BitVec 32 := Scf.iv c0_i32_72 c1_i32_74 k0_t7
  let c1_i32_109 : BitVec 32 := 1#32
  let v97 : BitVec 32 := Scalar.addi arg23 c1_i32_109
  let c4_i32_110 : BitVec 32 := 4#32
  let v98 : BitVec 32 := Scalar.remsi v97 c4_i32_110
  let c0_i32_148 : BitVec 32 := 0#32
  let c0_i32_149 : BitVec 32 := 0#32
  let c0_i32_150 : BitVec 32 := 0#32
  ![v98.toNat, 0, 0, 0]
def k0_off85 (k0_t10 : Fin k0_t10_loop.trips) (k0_t11 : Fin k0_t11_loop.trips) (c0_i32_144 : BitVec 32) (c0_i32_146 : BitVec 32) : Fin 3 → Nat :=
  let c0_i32_133 : BitVec 32 := 0#32
  let c1_i32_135 : BitVec 32 := 1#32
  let arg25 : BitVec 32 := Scf.iv c0_i32_133 c1_i32_135 k0_t11
  let c8_i32_143 : BitVec 32 := 8#32
  let v159 : BitVec 32 := Scalar.muli arg25 c8_i32_143
  let v160 : BitVec 32 := Scalar.addi v159 c0_i32_144
  let c2_i32_145 : BitVec 32 := 2#32
  let v177 : BitVec 32 := Scalar.muli v160 c2_i32_145
  let v178 : BitVec 32 := Scalar.addi v177 c0_i32_146
  let c4_i32_147 : BitVec 32 := 4#32
  let v179 : BitVec 32 := Scalar.muli v178 c4_i32_147
  let c0_i32_128 : BitVec 32 := 0#32
  let c1_i32_130 : BitVec 32 := 1#32
  let arg24 : BitVec 32 := Scf.iv c0_i32_128 c1_i32_130 k0_t10
  let v180 : BitVec 32 := Scalar.addi v179 arg24
  let v183 : Index := Scalar.indexCast v180
  let c0_151 : Index := 0#32
  let c0_152 : Index := 0#32
  ![v183.toNat, 0, 0]
def k0_off86 (k0_t11 : Fin k0_t11_loop.trips) : Fin 2 → Nat :=
  let c0_442 : Index := 0#32
  let c256_i32 : BitVec 32 := 256#32
  let c0_i32_133 : BitVec 32 := 0#32
  let c1_i32_135 : BitVec 32 := 1#32
  let arg25 : BitVec 32 := Scf.iv c0_i32_133 c1_i32_135 k0_t11
  let v1028 : BitVec 32 := Scalar.muli c256_i32 arg25
  let v1029 : Index := Scalar.indexCast v1028
  ![0, v1029.toNat]
def k0_off87 (k0_t10 : Fin k0_t10_loop.trips) : Fin 2 → Nat :=
  let c0_137 : Index := 0#32
  let c512_i32 : BitVec 32 := 512#32
  let c0_i32_128 : BitVec 32 := 0#32
  let c1_i32_130 : BitVec 32 := 1#32
  let arg24 : BitVec 32 := Scf.iv c0_i32_128 c1_i32_130 k0_t10
  let v132 : BitVec 32 := Scalar.muli c512_i32 arg24
  let v133 : Index := Scalar.indexCast v132
  ![0, v133.toNat]
@[reducible] def k0_t12_loop (v18 : BitVec 32) : Scf.Loop 32 :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let v57 : BitVec 32 := Scalar.addi c0_i32_72 v56
  let c1_i32_75 : BitVec 32 := 1#32
  ⟨v60, v57, c1_i32_75⟩
def k0_off88 (v18 : BitVec 32) (k0_t12 : Fin (k0_t12_loop v18).trips) : Fin 1 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c4_i32_80 : BitVec 32 := 4#32
  let v64 : BitVec 32 := Scalar.addi arg23 c4_i32_80
  let c1_i32_81 : BitVec 32 := 1#32
  let v65 : BitVec 32 := Scalar.subi v64 c1_i32_81
  let v129 : Index := Scalar.indexCast v65
  ![v129.toNat]
def k0_cond5 (v18 : BitVec 32) (k0_t12 : Fin (k0_t12_loop v18).trips) : BitVec 1 :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c4_i32_80 : BitVec 32 := 4#32
  let v64 : BitVec 32 := Scalar.addi arg23 c4_i32_80
  let c1_i32_81 : BitVec 32 := 1#32
  let v65 : BitVec 32 := Scalar.subi v64 c1_i32_81
  let v66 : BitVec 1 := Scalar.cmpi .slt v65 v18
  let v67 : BitVec 32 := Scalar.extui v66
  let c0_i32_82 : BitVec 32 := 0#32
  let v68 : BitVec 1 := Scalar.cmpi .ne v67 c0_i32_82
  v68

def k0_off89 (v18 : BitVec 32) (k0_t12 : Fin (k0_t12_loop v18).trips) : Fin 2 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c0_i32_134 : BitVec 32 := 0#32
  ![v132.toNat, 0]
def k0_off90 (v18 : BitVec 32) (k0_t12 : Fin (k0_t12_loop v18).trips) : Fin 4 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c0_i32_135 : BitVec 32 := 0#32
  let c0_i32_136 : BitVec 32 := 0#32
  let c0_i32_137 : BitVec 32 := 0#32
  ![v132.toNat, 0, 0, 0]
def k0_off91 (v130 : BitVec 32) : Fin 4 → Nat :=
  let c0_i32_138 : BitVec 32 := 0#32
  let c0_i32_139 : BitVec 32 := 0#32
  let c0_i32_140 : BitVec 32 := 0#32
  ![v130.toNat, 0, 0, 0]

def k0_off92 (v18 : BitVec 32) (k0_t12 : Fin (k0_t12_loop v18).trips) : Fin 2 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c1_i32_141 : BitVec 32 := 1#32
  ![v132.toNat, 1]
def k0_off93 (v18 : BitVec 32) (k0_t12 : Fin (k0_t12_loop v18).trips) : Fin 3 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c0_i32_142 : BitVec 32 := 0#32
  let c0_i32_143 : BitVec 32 := 0#32
  ![v132.toNat, 0, 0]
def k0_off94 (v130 : BitVec 32) : Fin 3 → Nat :=
  let c0_i32_144 : BitVec 32 := 0#32
  let c0_i32_145 : BitVec 32 := 0#32
  ![v130.toNat, 0, 0]
def k0_off95 (v18 : BitVec 32) (k0_t12 : Fin (k0_t12_loop v18).trips) : Fin 2 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c2_i32_146 : BitVec 32 := 2#32
  ![v132.toNat, 2]
def k0_off96 (v18 : BitVec 32) (k0_t12 : Fin (k0_t12_loop v18).trips) : Fin 4 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c0_i32_147 : BitVec 32 := 0#32
  let c0_i32_148 : BitVec 32 := 0#32
  let c0_i32_149 : BitVec 32 := 0#32
  ![v132.toNat, 0, 0, 0]
def k0_off97 (v130 : BitVec 32) : Fin 4 → Nat :=
  let c0_i32_150 : BitVec 32 := 0#32
  let c0_i32_151 : BitVec 32 := 0#32
  let c0_i32_152 : BitVec 32 := 0#32
  ![v130.toNat, 0, 0, 0]
def k0_off98 (v18 : BitVec 32) (k0_t12 : Fin (k0_t12_loop v18).trips) : Fin 2 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c3_i32_153 : BitVec 32 := 3#32
  ![v132.toNat, 3]
def k0_off99 (v18 : BitVec 32) (k0_t12 : Fin (k0_t12_loop v18).trips) : Fin 3 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c4_i32_80 : BitVec 32 := 4#32
  let v64 : BitVec 32 := Scalar.addi arg23 c4_i32_80
  let c1_i32_81 : BitVec 32 := 1#32
  let v65 : BitVec 32 := Scalar.subi v64 c1_i32_81
  let c1_i32_132 : BitVec 32 := 1#32
  let v131 : BitVec 32 := Scalar.addi v65 c1_i32_132
  let c4_i32_133 : BitVec 32 := 4#32
  let v132 : BitVec 32 := Scalar.remsi v131 c4_i32_133
  let c0_i32_154 : BitVec 32 := 0#32
  let c0_i32_155 : BitVec 32 := 0#32
  ![v132.toNat, 0, 0]
def k0_off100 (v130 : BitVec 32) : Fin 3 → Nat :=
  let c0_i32_156 : BitVec 32 := 0#32
  let c0_i32_157 : BitVec 32 := 0#32
  ![v130.toNat, 0, 0]

def k0_chk9 (v18 : BitVec 32) (k0_t12 : Fin (k0_t12_loop v18).trips) (v130 : BitVec 32) : Prop :=
  (∀ (k0_h5 : k0_cond5 v18 k0_t12 = 1#1), ∀ a, (k0_off91 v130) a + S1x384x32x128.size a ≤ S64x384x32x128.size a) ∧
  (∀ (k0_h5 : k0_cond5 v18 k0_t12 = 1#1), ∀ (hinb : ∀ a, (k0_off91 v130) a + S1x384x32x128.size a ≤ S64x384x32x128.size a), (Rect.unit (s := S64x384x32x128) (k0_off91 v130) S1x384x32x128.size hinb).WholeWords (EltTy.packing .i8)) ∧
  (∀ (k0_h5 : k0_cond5 v18 k0_t12 = 1#1), ∀ a, (k0_off94 v130) a + S1x64x1536.size a ≤ S64x64x1536.size a) ∧
  (∀ (k0_h5 : k0_cond5 v18 k0_t12 = 1#1), ∀ (hinb : ∀ a, (k0_off94 v130) a + S1x64x1536.size a ≤ S64x64x1536.size a), (Rect.unit (s := S64x64x1536) (k0_off94 v130) S1x64x1536.size hinb).WholeWords (EltTy.packing .i8)) ∧
  (∀ (k0_h5 : k0_cond5 v18 k0_t12 = 1#1), ∀ a, (k0_off97 v130) a + S1x192x32x128.size a ≤ S64x192x32x128.size a) ∧
  (∀ (k0_h5 : k0_cond5 v18 k0_t12 = 1#1), ∀ (hinb : ∀ a, (k0_off97 v130) a + S1x192x32x128.size a ≤ S64x192x32x128.size a), (Rect.unit (s := S64x192x32x128) (k0_off97 v130) S1x192x32x128.size hinb).WholeWords (EltTy.packing .i8)) ∧
  (∀ (k0_h5 : k0_cond5 v18 k0_t12 = 1#1), ∀ a, (k0_off100 v130) a + S1x24x2048.size a ≤ S64x24x2048.size a) ∧
  (∀ (k0_h5 : k0_cond5 v18 k0_t12 = 1#1), ∀ (hinb : ∀ a, (k0_off100 v130) a + S1x24x2048.size a ≤ S64x24x2048.size a), (Rect.unit (s := S64x24x2048) (k0_off100 v130) S1x24x2048.size hinb).WholeWords (EltTy.packing .i8))
theorem k0_off91_inb : ∀ (v18 : BitVec 32) (k0_t12 : Fin (k0_t12_loop v18).trips) (v130 : BitVec 32) (k0_hw9 : k0_chk9 v18 k0_t12 v130), ∀ (k0_h5 : k0_cond5 v18 k0_t12 = 1#1), ∀ a, (k0_off91 v130) a + S1x384x32x128.size a ≤ S64x384x32x128.size a := fun v18 k0_t12 v130 k0_hw9 k0_h5 => k0_hw9.1 k0_h5
theorem k0_off91_wordsi8 : ∀ (v18 : BitVec 32) (k0_t12 : Fin (k0_t12_loop v18).trips) (v130 : BitVec 32) (k0_hw9 : k0_chk9 v18 k0_t12 v130), ∀ (k0_h5 : k0_cond5 v18 k0_t12 = 1#1), (Rect.unit (s := S64x384x32x128) (k0_off91 v130) S1x384x32x128.size (k0_off91_inb v18 k0_t12 v130 k0_hw9 k0_h5)).WholeWords (EltTy.packing .i8) := fun v18 k0_t12 v130 k0_hw9 k0_h5 => k0_hw9.2.1 k0_h5 (k0_off91_inb v18 k0_t12 v130 k0_hw9 k0_h5)
theorem k0_off94_inb : ∀ (v18 : BitVec 32) (k0_t12 : Fin (k0_t12_loop v18).trips) (v130 : BitVec 32) (k0_hw9 : k0_chk9 v18 k0_t12 v130), ∀ (k0_h5 : k0_cond5 v18 k0_t12 = 1#1), ∀ a, (k0_off94 v130) a + S1x64x1536.size a ≤ S64x64x1536.size a := fun v18 k0_t12 v130 k0_hw9 k0_h5 => k0_hw9.2.2.1 k0_h5
theorem k0_off94_wordsi8 : ∀ (v18 : BitVec 32) (k0_t12 : Fin (k0_t12_loop v18).trips) (v130 : BitVec 32) (k0_hw9 : k0_chk9 v18 k0_t12 v130), ∀ (k0_h5 : k0_cond5 v18 k0_t12 = 1#1), (Rect.unit (s := S64x64x1536) (k0_off94 v130) S1x64x1536.size (k0_off94_inb v18 k0_t12 v130 k0_hw9 k0_h5)).WholeWords (EltTy.packing .i8) := fun v18 k0_t12 v130 k0_hw9 k0_h5 => k0_hw9.2.2.2.1 k0_h5 (k0_off94_inb v18 k0_t12 v130 k0_hw9 k0_h5)
theorem k0_off97_inb : ∀ (v18 : BitVec 32) (k0_t12 : Fin (k0_t12_loop v18).trips) (v130 : BitVec 32) (k0_hw9 : k0_chk9 v18 k0_t12 v130), ∀ (k0_h5 : k0_cond5 v18 k0_t12 = 1#1), ∀ a, (k0_off97 v130) a + S1x192x32x128.size a ≤ S64x192x32x128.size a := fun v18 k0_t12 v130 k0_hw9 k0_h5 => k0_hw9.2.2.2.2.1 k0_h5
theorem k0_off97_wordsi8 : ∀ (v18 : BitVec 32) (k0_t12 : Fin (k0_t12_loop v18).trips) (v130 : BitVec 32) (k0_hw9 : k0_chk9 v18 k0_t12 v130), ∀ (k0_h5 : k0_cond5 v18 k0_t12 = 1#1), (Rect.unit (s := S64x192x32x128) (k0_off97 v130) S1x192x32x128.size (k0_off97_inb v18 k0_t12 v130 k0_hw9 k0_h5)).WholeWords (EltTy.packing .i8) := fun v18 k0_t12 v130 k0_hw9 k0_h5 => k0_hw9.2.2.2.2.2.1 k0_h5 (k0_off97_inb v18 k0_t12 v130 k0_hw9 k0_h5)
theorem k0_off100_inb : ∀ (v18 : BitVec 32) (k0_t12 : Fin (k0_t12_loop v18).trips) (v130 : BitVec 32) (k0_hw9 : k0_chk9 v18 k0_t12 v130), ∀ (k0_h5 : k0_cond5 v18 k0_t12 = 1#1), ∀ a, (k0_off100 v130) a + S1x24x2048.size a ≤ S64x24x2048.size a := fun v18 k0_t12 v130 k0_hw9 k0_h5 => k0_hw9.2.2.2.2.2.2.1 k0_h5
theorem k0_off100_wordsi8 : ∀ (v18 : BitVec 32) (k0_t12 : Fin (k0_t12_loop v18).trips) (v130 : BitVec 32) (k0_hw9 : k0_chk9 v18 k0_t12 v130), ∀ (k0_h5 : k0_cond5 v18 k0_t12 = 1#1), (Rect.unit (s := S64x24x2048) (k0_off100 v130) S1x24x2048.size (k0_off100_inb v18 k0_t12 v130 k0_hw9 k0_h5)).WholeWords (EltTy.packing .i8) := fun v18 k0_t12 v130 k0_hw9 k0_h5 => k0_hw9.2.2.2.2.2.2.2 k0_h5 (k0_off100_inb v18 k0_t12 v130 k0_hw9 k0_h5)

def k0_off101 (v18 : BitVec 32) (k0_t12 : Fin (k0_t12_loop v18).trips) : Fin 1 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let v69 : Index := Scalar.indexCast arg23
  ![v69.toNat]
def k0_off102 (v18 : BitVec 32) (k0_t12 : Fin (k0_t12_loop v18).trips) : Fin 2 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_83 : BitVec 32 := 1#32
  let v71 : BitVec 32 := Scalar.addi arg23 c1_i32_83
  let c4_i32_84 : BitVec 32 := 4#32
  let v72 : BitVec 32 := Scalar.remsi v71 c4_i32_84
  let c0_i32_85 : BitVec 32 := 0#32
  ![v72.toNat, 0]
def k0_off103 (v18 : BitVec 32) (k0_t12 : Fin (k0_t12_loop v18).trips) : Fin 4 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_83 : BitVec 32 := 1#32
  let v71 : BitVec 32 := Scalar.addi arg23 c1_i32_83
  let c4_i32_84 : BitVec 32 := 4#32
  let v72 : BitVec 32 := Scalar.remsi v71 c4_i32_84
  let c0_i32_86 : BitVec 32 := 0#32
  let c0_i32_87 : BitVec 32 := 0#32
  let c0_i32_88 : BitVec 32 := 0#32
  ![v72.toNat, 0, 0, 0]
def k0_off104 (v70 : BitVec 32) : Fin 4 → Nat :=
  let c0_i32_89 : BitVec 32 := 0#32
  let c0_i32_90 : BitVec 32 := 0#32
  let c0_i32_91 : BitVec 32 := 0#32
  ![v70.toNat, 0, 0, 0]

def k0_off105 (v18 : BitVec 32) (k0_t12 : Fin (k0_t12_loop v18).trips) : Fin 2 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_83 : BitVec 32 := 1#32
  let v71 : BitVec 32 := Scalar.addi arg23 c1_i32_83
  let c4_i32_84 : BitVec 32 := 4#32
  let v72 : BitVec 32 := Scalar.remsi v71 c4_i32_84
  let c1_i32_92 : BitVec 32 := 1#32
  ![v72.toNat, 1]
def k0_off106 (v18 : BitVec 32) (k0_t12 : Fin (k0_t12_loop v18).trips) : Fin 3 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_83 : BitVec 32 := 1#32
  let v71 : BitVec 32 := Scalar.addi arg23 c1_i32_83
  let c4_i32_84 : BitVec 32 := 4#32
  let v72 : BitVec 32 := Scalar.remsi v71 c4_i32_84
  let c0_i32_93 : BitVec 32 := 0#32
  let c0_i32_94 : BitVec 32 := 0#32
  ![v72.toNat, 0, 0]
def k0_off107 (v70 : BitVec 32) : Fin 3 → Nat :=
  let c0_i32_95 : BitVec 32 := 0#32
  let c0_i32_96 : BitVec 32 := 0#32
  ![v70.toNat, 0, 0]
def k0_off108 (v18 : BitVec 32) (k0_t12 : Fin (k0_t12_loop v18).trips) : Fin 2 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_83 : BitVec 32 := 1#32
  let v71 : BitVec 32 := Scalar.addi arg23 c1_i32_83
  let c4_i32_84 : BitVec 32 := 4#32
  let v72 : BitVec 32 := Scalar.remsi v71 c4_i32_84
  let c2_i32_97 : BitVec 32 := 2#32
  ![v72.toNat, 2]
def k0_off109 (v18 : BitVec 32) (k0_t12 : Fin (k0_t12_loop v18).trips) : Fin 4 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_83 : BitVec 32 := 1#32
  let v71 : BitVec 32 := Scalar.addi arg23 c1_i32_83
  let c4_i32_84 : BitVec 32 := 4#32
  let v72 : BitVec 32 := Scalar.remsi v71 c4_i32_84
  let c0_i32_98 : BitVec 32 := 0#32
  let c0_i32_99 : BitVec 32 := 0#32
  let c0_i32_100 : BitVec 32 := 0#32
  ![v72.toNat, 0, 0, 0]
def k0_off110 (v70 : BitVec 32) : Fin 4 → Nat :=
  let c0_i32_101 : BitVec 32 := 0#32
  let c0_i32_102 : BitVec 32 := 0#32
  let c0_i32_103 : BitVec 32 := 0#32
  ![v70.toNat, 0, 0, 0]
def k0_off111 (v18 : BitVec 32) (k0_t12 : Fin (k0_t12_loop v18).trips) : Fin 2 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_83 : BitVec 32 := 1#32
  let v71 : BitVec 32 := Scalar.addi arg23 c1_i32_83
  let c4_i32_84 : BitVec 32 := 4#32
  let v72 : BitVec 32 := Scalar.remsi v71 c4_i32_84
  let c3_i32_104 : BitVec 32 := 3#32
  ![v72.toNat, 3]
def k0_off112 (v18 : BitVec 32) (k0_t12 : Fin (k0_t12_loop v18).trips) : Fin 3 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_83 : BitVec 32 := 1#32
  let v71 : BitVec 32 := Scalar.addi arg23 c1_i32_83
  let c4_i32_84 : BitVec 32 := 4#32
  let v72 : BitVec 32 := Scalar.remsi v71 c4_i32_84
  let c0_i32_105 : BitVec 32 := 0#32
  let c0_i32_106 : BitVec 32 := 0#32
  ![v72.toNat, 0, 0]
def k0_off113 (v70 : BitVec 32) : Fin 3 → Nat :=
  let c0_i32_107 : BitVec 32 := 0#32
  let c0_i32_108 : BitVec 32 := 0#32
  ![v70.toNat, 0, 0]

def k0_chk10 (v70 : BitVec 32) : Prop :=
  (∀ a, (k0_off104 v70) a + S1x384x32x128.size a ≤ S64x384x32x128.size a) ∧
  (∀ (hinb : ∀ a, (k0_off104 v70) a + S1x384x32x128.size a ≤ S64x384x32x128.size a), (Rect.unit (s := S64x384x32x128) (k0_off104 v70) S1x384x32x128.size hinb).WholeWords (EltTy.packing .i8)) ∧
  (∀ a, (k0_off107 v70) a + S1x64x1536.size a ≤ S64x64x1536.size a) ∧
  (∀ (hinb : ∀ a, (k0_off107 v70) a + S1x64x1536.size a ≤ S64x64x1536.size a), (Rect.unit (s := S64x64x1536) (k0_off107 v70) S1x64x1536.size hinb).WholeWords (EltTy.packing .i8)) ∧
  (∀ a, (k0_off110 v70) a + S1x192x32x128.size a ≤ S64x192x32x128.size a) ∧
  (∀ (hinb : ∀ a, (k0_off110 v70) a + S1x192x32x128.size a ≤ S64x192x32x128.size a), (Rect.unit (s := S64x192x32x128) (k0_off110 v70) S1x192x32x128.size hinb).WholeWords (EltTy.packing .i8)) ∧
  (∀ a, (k0_off113 v70) a + S1x24x2048.size a ≤ S64x24x2048.size a) ∧
  (∀ (hinb : ∀ a, (k0_off113 v70) a + S1x24x2048.size a ≤ S64x24x2048.size a), (Rect.unit (s := S64x24x2048) (k0_off113 v70) S1x24x2048.size hinb).WholeWords (EltTy.packing .i8))
theorem k0_off104_inb : ∀ (v70 : BitVec 32) (k0_hw10 : k0_chk10 v70), ∀ a, (k0_off104 v70) a + S1x384x32x128.size a ≤ S64x384x32x128.size a := fun v70 k0_hw10 => k0_hw10.1
theorem k0_off104_wordsi8 : ∀ (v70 : BitVec 32) (k0_hw10 : k0_chk10 v70), (Rect.unit (s := S64x384x32x128) (k0_off104 v70) S1x384x32x128.size (k0_off104_inb v70 k0_hw10)).WholeWords (EltTy.packing .i8) := fun v70 k0_hw10 => k0_hw10.2.1 (k0_off104_inb v70 k0_hw10)
theorem k0_off107_inb : ∀ (v70 : BitVec 32) (k0_hw10 : k0_chk10 v70), ∀ a, (k0_off107 v70) a + S1x64x1536.size a ≤ S64x64x1536.size a := fun v70 k0_hw10 => k0_hw10.2.2.1
theorem k0_off107_wordsi8 : ∀ (v70 : BitVec 32) (k0_hw10 : k0_chk10 v70), (Rect.unit (s := S64x64x1536) (k0_off107 v70) S1x64x1536.size (k0_off107_inb v70 k0_hw10)).WholeWords (EltTy.packing .i8) := fun v70 k0_hw10 => k0_hw10.2.2.2.1 (k0_off107_inb v70 k0_hw10)
theorem k0_off110_inb : ∀ (v70 : BitVec 32) (k0_hw10 : k0_chk10 v70), ∀ a, (k0_off110 v70) a + S1x192x32x128.size a ≤ S64x192x32x128.size a := fun v70 k0_hw10 => k0_hw10.2.2.2.2.1
theorem k0_off110_wordsi8 : ∀ (v70 : BitVec 32) (k0_hw10 : k0_chk10 v70), (Rect.unit (s := S64x192x32x128) (k0_off110 v70) S1x192x32x128.size (k0_off110_inb v70 k0_hw10)).WholeWords (EltTy.packing .i8) := fun v70 k0_hw10 => k0_hw10.2.2.2.2.2.1 (k0_off110_inb v70 k0_hw10)
theorem k0_off113_inb : ∀ (v70 : BitVec 32) (k0_hw10 : k0_chk10 v70), ∀ a, (k0_off113 v70) a + S1x24x2048.size a ≤ S64x24x2048.size a := fun v70 k0_hw10 => k0_hw10.2.2.2.2.2.2.1
theorem k0_off113_wordsi8 : ∀ (v70 : BitVec 32) (k0_hw10 : k0_chk10 v70), (Rect.unit (s := S64x24x2048) (k0_off113 v70) S1x24x2048.size (k0_off113_inb v70 k0_hw10)).WholeWords (EltTy.packing .i8) := fun v70 k0_hw10 => k0_hw10.2.2.2.2.2.2.2 (k0_off113_inb v70 k0_hw10)

def k0_off114 (v18 : BitVec 32) (k0_t12 : Fin (k0_t12_loop v18).trips) : Fin 1 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let v101 : Index := Scalar.indexCast arg23
  ![v101.toNat]
@[reducible] def k0_t13_loop : Scf.Loop 32 :=
  let c0_i32_119 : BitVec 32 := 0#32
  let c3_i32_120 : BitVec 32 := 3#32
  let v117 : BitVec 32 := Scalar.addi c0_i32_119 c3_i32_120
  let c1_i32_121 : BitVec 32 := 1#32
  ⟨c0_i32_119, v117, c1_i32_121⟩
@[reducible] def k0_t14_loop : Scf.Loop 32 :=
  let c0_i32_133 : BitVec 32 := 0#32
  let c8_i32 : BitVec 32 := 8#32
  let v130 : BitVec 32 := Scalar.addi c0_i32_133 c8_i32
  let c1_i32_134 : BitVec 32 := 1#32
  ⟨c0_i32_133, v130, c1_i32_134⟩
def k0_off115 (v18 : BitVec 32) (k0_t12 : Fin (k0_t12_loop v18).trips) : Fin 3 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_109 : BitVec 32 := 1#32
  let v97 : BitVec 32 := Scalar.addi arg23 c1_i32_109
  let c4_i32_110 : BitVec 32 := 4#32
  let v98 : BitVec 32 := Scalar.remsi v97 c4_i32_110
  let c0_i32_139 : BitVec 32 := 0#32
  let c0_i32_140 : BitVec 32 := 0#32
  ![v98.toNat, 0, 0]
def k0_off116 (k0_t13 : Fin k0_t13_loop.trips) (k0_t14 : Fin k0_t14_loop.trips) : Fin 2 → Nat :=
  let c8_i32_137 : BitVec 32 := 8#32
  let c0_i32_133 : BitVec 32 := 0#32
  let c1_i32_134 : BitVec 32 := 1#32
  let arg25 : BitVec 32 := Scf.iv c0_i32_133 c1_i32_134 k0_t14
  let v137 : BitVec 32 := Scalar.muli c8_i32_137 arg25
  let v141 : Index := Scalar.indexCast v137
  let c512_i32_138 : BitVec 32 := 512#32
  let c0_i32_119 : BitVec 32 := 0#32
  let c1_i32_121 : BitVec 32 := 1#32
  let arg24 : BitVec 32 := Scf.iv c0_i32_119 c1_i32_121 k0_t13
  let v138 : BitVec 32 := Scalar.muli c512_i32_138 arg24
  let v142 : Index := Scalar.indexCast v138
  ![v141.toNat, v142.toNat]
def k0_off117 (v18 : BitVec 32) (k0_t12 : Fin (k0_t12_loop v18).trips) : Fin 4 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_109 : BitVec 32 := 1#32
  let v97 : BitVec 32 := Scalar.addi arg23 c1_i32_109
  let c4_i32_110 : BitVec 32 := 4#32
  let v98 : BitVec 32 := Scalar.remsi v97 c4_i32_110
  let c0_i32_146 : BitVec 32 := 0#32
  let c0_i32_147 : BitVec 32 := 0#32
  let c0_i32_148 : BitVec 32 := 0#32
  ![v98.toNat, 0, 0, 0]
def k0_off118 (k0_t13 : Fin k0_t13_loop.trips) (k0_t14 : Fin k0_t14_loop.trips) (c0_i32_142 : BitVec 32) (c0_i32_144 : BitVec 32) : Fin 3 → Nat :=
  let c0_i32_133 : BitVec 32 := 0#32
  let c1_i32_134 : BitVec 32 := 1#32
  let arg25 : BitVec 32 := Scf.iv c0_i32_133 c1_i32_134 k0_t14
  let c8_i32_141 : BitVec 32 := 8#32
  let v150 : BitVec 32 := Scalar.muli arg25 c8_i32_141
  let v151 : BitVec 32 := Scalar.addi v150 c0_i32_142
  let c2_i32_143 : BitVec 32 := 2#32
  let v168 : BitVec 32 := Scalar.muli v151 c2_i32_143
  let v169 : BitVec 32 := Scalar.addi v168 c0_i32_144
  let c3_i32_145 : BitVec 32 := 3#32
  let v170 : BitVec 32 := Scalar.muli v169 c3_i32_145
  let c0_i32_119 : BitVec 32 := 0#32
  let c1_i32_121 : BitVec 32 := 1#32
  let arg24 : BitVec 32 := Scf.iv c0_i32_119 c1_i32_121 k0_t13
  let v171 : BitVec 32 := Scalar.addi v170 arg24
  let v174 : Index := Scalar.indexCast v171
  let c0_149 : Index := 0#32
  let c0_150 : Index := 0#32
  ![v174.toNat, 0, 0]
def k0_off119 (k0_t14 : Fin k0_t14_loop.trips) : Fin 2 → Nat :=
  let c0_440 : Index := 0#32
  let c256_i32 : BitVec 32 := 256#32
  let c0_i32_133 : BitVec 32 := 0#32
  let c1_i32_134 : BitVec 32 := 1#32
  let arg25 : BitVec 32 := Scf.iv c0_i32_133 c1_i32_134 k0_t14
  let v1019 : BitVec 32 := Scalar.muli c256_i32 arg25
  let v1020 : Index := Scalar.indexCast v1019
  ![0, v1020.toNat]
def k0_off120 (k0_t13 : Fin k0_t13_loop.trips) : Fin 2 → Nat :=
  let c0_136 : Index := 0#32
  let c512_i32 : BitVec 32 := 512#32
  let c0_i32_119 : BitVec 32 := 0#32
  let c1_i32_121 : BitVec 32 := 1#32
  let arg24 : BitVec 32 := Scf.iv c0_i32_119 c1_i32_121 k0_t13
  let v132 : BitVec 32 := Scalar.muli c512_i32 arg24
  let v133 : Index := Scalar.indexCast v132
  ![0, v133.toNat]
@[reducible] def k0_t15_loop : Scf.Loop 32 :=
  let c0_i32_128 : BitVec 32 := 0#32
  let c4_i32_129 : BitVec 32 := 4#32
  let v128 : BitVec 32 := Scalar.addi c0_i32_128 c4_i32_129
  let c1_i32_130 : BitVec 32 := 1#32
  ⟨c0_i32_128, v128, c1_i32_130⟩
@[reducible] def k0_t16_loop : Scf.Loop 32 :=
  let c0_i32_133 : BitVec 32 := 0#32
  let c3_i32_134 : BitVec 32 := 3#32
  let v130 : BitVec 32 := Scalar.addi c0_i32_133 c3_i32_134
  let c1_i32_135 : BitVec 32 := 1#32
  ⟨c0_i32_133, v130, c1_i32_135⟩
def k0_off121 (v18 : BitVec 32) (k0_t12 : Fin (k0_t12_loop v18).trips) : Fin 3 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_109 : BitVec 32 := 1#32
  let v97 : BitVec 32 := Scalar.addi arg23 c1_i32_109
  let c4_i32_110 : BitVec 32 := 4#32
  let v98 : BitVec 32 := Scalar.remsi v97 c4_i32_110
  let c0_i32_141 : BitVec 32 := 0#32
  let c0_i32_142 : BitVec 32 := 0#32
  ![v98.toNat, 0, 0]
def k0_off122 (k0_t15 : Fin k0_t15_loop.trips) (k0_t16 : Fin k0_t16_loop.trips) : Fin 2 → Nat :=
  let c8_i32 : BitVec 32 := 8#32
  let c0_i32_133 : BitVec 32 := 0#32
  let c1_i32_135 : BitVec 32 := 1#32
  let arg25 : BitVec 32 := Scf.iv c0_i32_133 c1_i32_135 k0_t16
  let v146 : BitVec 32 := Scalar.muli c8_i32 arg25
  let v150 : Index := Scalar.indexCast v146
  let c512_i32_140 : BitVec 32 := 512#32
  let c0_i32_128 : BitVec 32 := 0#32
  let c1_i32_130 : BitVec 32 := 1#32
  let arg24 : BitVec 32 := Scf.iv c0_i32_128 c1_i32_130 k0_t15
  let v147 : BitVec 32 := Scalar.muli c512_i32_140 arg24
  let v151 : Index := Scalar.indexCast v147
  ![v150.toNat, v151.toNat]
def k0_off123 (v18 : BitVec 32) (k0_t12 : Fin (k0_t12_loop v18).trips) : Fin 4 → Nat :=
  let c0_i32_72 : BitVec 32 := 0#32
  let v56 : BitVec 32 := Scalar.subi v18 c0_i32_72
  let c1_i32_73 : BitVec 32 := 1#32
  let v58 : BitVec 32 := Scalar.divsi v56 c1_i32_73
  let v59 : BitVec 32 := Scalar.muli v58 c1_i32_73
  let v60 : BitVec 32 := Scalar.addi c0_i32_72 v59
  let c1_i32_75 : BitVec 32 := 1#32
  let arg23 : BitVec 32 := Scf.iv v60 c1_i32_75 k0_t12
  let c1_i32_109 : BitVec 32 := 1#32
  let v97 : BitVec 32 := Scalar.addi arg23 c1_i32_109
  let c4_i32_110 : BitVec 32 := 4#32
  let v98 : BitVec 32 := Scalar.remsi v97 c4_i32_110
  let c0_i32_148 : BitVec 32 := 0#32
  let c0_i32_149 : BitVec 32 := 0#32
  let c0_i32_150 : BitVec 32 := 0#32
  ![v98.toNat, 0, 0, 0]

def k0_chk6_0 (v18 : BitVec 32) : Prop :=
  ((k0_t7_loop v18).OK) ∧
  (∀ k0_t7 : Fin (k0_t7_loop v18).trips, ∀ (k0_h4 : k0_cond4 v18 k0_t7 = 1#1), ∀ a, (k0_off49 v18 k0_t7) a + S1.size a ≤ S65.size a) ∧
  (∀ k0_t7 : Fin (k0_t7_loop v18).trips, ∀ (k0_h4 : k0_cond4 v18 k0_t7 = 1#1), ∀ a, (k0_off50 v18 k0_t7) a + S1x1.size a ≤ S4x4.size a) ∧
  (∀ k0_t7 : Fin (k0_t7_loop v18).trips, ∀ (k0_h4 : k0_cond4 v18 k0_t7 = 1#1), ∀ a, (k0_off51 v18 k0_t7) a + S1x384x32x128.size a ≤ S4x384x32x128.size a) ∧
  (∀ k0_t7 : Fin (k0_t7_loop v18).trips, ∀ (k0_h4 : k0_cond4 v18 k0_t7 = 1#1), ∀ (hinb : ∀ a, (k0_off51 v18 k0_t7) a + S1x384x32x128.size a ≤ S4x384x32x128.size a), (Rect.unit (s := S4x384x32x128) (k0_off51 v18 k0_t7) S1x384x32x128.size hinb).WholeWords (EltTy.packing .i8)) ∧
  (∀ k0_t7 : Fin (k0_t7_loop v18).trips, ∀ (k0_h4 : k0_cond4 v18 k0_t7 = 1#1), ∀ a, (k0_off53 v18 k0_t7) a + S1x1.size a ≤ S4x4.size a) ∧
  (∀ k0_t7 : Fin (k0_t7_loop v18).trips, ∀ (k0_h4 : k0_cond4 v18 k0_t7 = 1#1), ∀ a, (k0_off54 v18 k0_t7) a + S1x64x1536.size a ≤ S4x64x1536.size a) ∧
  (∀ k0_t7 : Fin (k0_t7_loop v18).trips, ∀ (k0_h4 : k0_cond4 v18 k0_t7 = 1#1), ∀ (hinb : ∀ a, (k0_off54 v18 k0_t7) a + S1x64x1536.size a ≤ S4x64x1536.size a), (Rect.unit (s := S4x64x1536) (k0_off54 v18 k0_t7) S1x64x1536.size hinb).WholeWords (EltTy.packing .i8)) ∧
  (∀ k0_t7 : Fin (k0_t7_loop v18).trips, ∀ (k0_h4 : k0_cond4 v18 k0_t7 = 1#1), ∀ a, (k0_off56 v18 k0_t7) a + S1x1.size a ≤ S4x4.size a) ∧
  (∀ k0_t7 : Fin (k0_t7_loop v18).trips, ∀ (k0_h4 : k0_cond4 v18 k0_t7 = 1#1), ∀ a, (k0_off57 v18 k0_t7) a + S1x192x32x128.size a ≤ S4x192x32x128.size a) ∧
  (∀ k0_t7 : Fin (k0_t7_loop v18).trips, ∀ (k0_h4 : k0_cond4 v18 k0_t7 = 1#1), ∀ (hinb : ∀ a, (k0_off57 v18 k0_t7) a + S1x192x32x128.size a ≤ S4x192x32x128.size a), (Rect.unit (s := S4x192x32x128) (k0_off57 v18 k0_t7) S1x192x32x128.size hinb).WholeWords (EltTy.packing .i8)) ∧
  (∀ k0_t7 : Fin (k0_t7_loop v18).trips, ∀ (k0_h4 : k0_cond4 v18 k0_t7 = 1#1), ∀ a, (k0_off59 v18 k0_t7) a + S1x1.size a ≤ S4x4.size a) ∧
  (∀ k0_t7 : Fin (k0_t7_loop v18).trips, ∀ (k0_h4 : k0_cond4 v18 k0_t7 = 1#1), ∀ a, (k0_off60 v18 k0_t7) a + S1x24x2048.size a ≤ S4x24x2048.size a) ∧
  (∀ k0_t7 : Fin (k0_t7_loop v18).trips, ∀ (k0_h4 : k0_cond4 v18 k0_t7 = 1#1), ∀ (hinb : ∀ a, (k0_off60 v18 k0_t7) a + S1x24x2048.size a ≤ S4x24x2048.size a), (Rect.unit (s := S4x24x2048) (k0_off60 v18 k0_t7) S1x24x2048.size hinb).WholeWords (EltTy.packing .i8)) ∧
  (∀ k0_t7 : Fin (k0_t7_loop v18).trips, ∀ a, (k0_off62 v18 k0_t7) a + S1.size a ≤ S65.size a) ∧
  (∀ k0_t7 : Fin (k0_t7_loop v18).trips, ∀ a, (k0_off63 v18 k0_t7) a + S1x1.size a ≤ S4x4.size a) ∧
  (∀ k0_t7 : Fin (k0_t7_loop v18).trips, ∀ a, (k0_off64 v18 k0_t7) a + S1x384x32x128.size a ≤ S4x384x32x128.size a) ∧
  (∀ k0_t7 : Fin (k0_t7_loop v18).trips, ∀ (hinb : ∀ a, (k0_off64 v18 k0_t7) a + S1x384x32x128.size a ≤ S4x384x32x128.size a), (Rect.unit (s := S4x384x32x128) (k0_off64 v18 k0_t7) S1x384x32x128.size hinb).WholeWords (EltTy.packing .i8)) ∧
  (∀ k0_t7 : Fin (k0_t7_loop v18).trips, ∀ a, (k0_off66 v18 k0_t7) a + S1x1.size a ≤ S4x4.size a) ∧
  (∀ k0_t7 : Fin (k0_t7_loop v18).trips, ∀ a, (k0_off67 v18 k0_t7) a + S1x64x1536.size a ≤ S4x64x1536.size a) ∧
  (∀ k0_t7 : Fin (k0_t7_loop v18).trips, ∀ (hinb : ∀ a, (k0_off67 v18 k0_t7) a + S1x64x1536.size a ≤ S4x64x1536.size a), (Rect.unit (s := S4x64x1536) (k0_off67 v18 k0_t7) S1x64x1536.size hinb).WholeWords (EltTy.packing .i8)) ∧
  (∀ k0_t7 : Fin (k0_t7_loop v18).trips, ∀ a, (k0_off69 v18 k0_t7) a + S1x1.size a ≤ S4x4.size a) ∧
  (∀ k0_t7 : Fin (k0_t7_loop v18).trips, ∀ a, (k0_off70 v18 k0_t7) a + S1x192x32x128.size a ≤ S4x192x32x128.size a) ∧
  (∀ k0_t7 : Fin (k0_t7_loop v18).trips, ∀ (hinb : ∀ a, (k0_off70 v18 k0_t7) a + S1x192x32x128.size a ≤ S4x192x32x128.size a), (Rect.unit (s := S4x192x32x128) (k0_off70 v18 k0_t7) S1x192x32x128.size hinb).WholeWords (EltTy.packing .i8)) ∧
  (∀ k0_t7 : Fin (k0_t7_loop v18).trips, ∀ a, (k0_off72 v18 k0_t7) a + S1x1.size a ≤ S4x4.size a) ∧
  (∀ k0_t7 : Fin (k0_t7_loop v18).trips, ∀ a, (k0_off73 v18 k0_t7) a + S1x24x2048.size a ≤ S4x24x2048.size a) ∧
  (∀ k0_t7 : Fin (k0_t7_loop v18).trips, ∀ (hinb : ∀ a, (k0_off73 v18 k0_t7) a + S1x24x2048.size a ≤ S4x24x2048.size a), (Rect.unit (s := S4x24x2048) (k0_off73 v18 k0_t7) S1x24x2048.size hinb).WholeWords (EltTy.packing .i8)) ∧
  (∀ k0_t7 : Fin (k0_t7_loop v18).trips, ∀ a, (k0_off75 v18 k0_t7) a + S1.size a ≤ S65.size a) ∧
  (∀ k0_t7 : Fin (k0_t7_loop v18).trips, ∀ a, (k0_off76 v18 k0_t7) a + S1x64x1536.size a ≤ S4x64x1536.size a) ∧
  (∀ k0_t7 : Fin (k0_t7_loop v18).trips, ∀ a, (k0_off78 v18 k0_t7) a + S1x384x32x128.size a ≤ S4x384x32x128.size a) ∧
  (∀ k0_t7 : Fin (k0_t7_loop v18).trips, ∀ a, (k0_off82 v18 k0_t7) a + S1x24x2048.size a ≤ S4x24x2048.size a) ∧
  (∀ k0_t7 : Fin (k0_t7_loop v18).trips, ∀ a, (k0_off84 v18 k0_t7) a + S1x192x32x128.size a ≤ S4x192x32x128.size a)
def k0_chk6_1 (v18 : BitVec 32) : Prop :=
  ((k0_t12_loop v18).OK) ∧
  (∀ k0_t12 : Fin (k0_t12_loop v18).trips, ∀ (k0_h5 : k0_cond5 v18 k0_t12 = 1#1), ∀ a, (k0_off88 v18 k0_t12) a + S1.size a ≤ S65.size a) ∧
  (∀ k0_t12 : Fin (k0_t12_loop v18).trips, ∀ (k0_h5 : k0_cond5 v18 k0_t12 = 1#1), ∀ a, (k0_off89 v18 k0_t12) a + S1x1.size a ≤ S4x4.size a) ∧
  (∀ k0_t12 : Fin (k0_t12_loop v18).trips, ∀ (k0_h5 : k0_cond5 v18 k0_t12 = 1#1), ∀ a, (k0_off90 v18 k0_t12) a + S1x384x32x128.size a ≤ S4x384x32x128.size a) ∧
  (∀ k0_t12 : Fin (k0_t12_loop v18).trips, ∀ (k0_h5 : k0_cond5 v18 k0_t12 = 1#1), ∀ (hinb : ∀ a, (k0_off90 v18 k0_t12) a + S1x384x32x128.size a ≤ S4x384x32x128.size a), (Rect.unit (s := S4x384x32x128) (k0_off90 v18 k0_t12) S1x384x32x128.size hinb).WholeWords (EltTy.packing .i8)) ∧
  (∀ k0_t12 : Fin (k0_t12_loop v18).trips, ∀ (k0_h5 : k0_cond5 v18 k0_t12 = 1#1), ∀ a, (k0_off92 v18 k0_t12) a + S1x1.size a ≤ S4x4.size a) ∧
  (∀ k0_t12 : Fin (k0_t12_loop v18).trips, ∀ (k0_h5 : k0_cond5 v18 k0_t12 = 1#1), ∀ a, (k0_off93 v18 k0_t12) a + S1x64x1536.size a ≤ S4x64x1536.size a) ∧
  (∀ k0_t12 : Fin (k0_t12_loop v18).trips, ∀ (k0_h5 : k0_cond5 v18 k0_t12 = 1#1), ∀ (hinb : ∀ a, (k0_off93 v18 k0_t12) a + S1x64x1536.size a ≤ S4x64x1536.size a), (Rect.unit (s := S4x64x1536) (k0_off93 v18 k0_t12) S1x64x1536.size hinb).WholeWords (EltTy.packing .i8)) ∧
  (∀ k0_t12 : Fin (k0_t12_loop v18).trips, ∀ (k0_h5 : k0_cond5 v18 k0_t12 = 1#1), ∀ a, (k0_off95 v18 k0_t12) a + S1x1.size a ≤ S4x4.size a) ∧
  (∀ k0_t12 : Fin (k0_t12_loop v18).trips, ∀ (k0_h5 : k0_cond5 v18 k0_t12 = 1#1), ∀ a, (k0_off96 v18 k0_t12) a + S1x192x32x128.size a ≤ S4x192x32x128.size a) ∧
  (∀ k0_t12 : Fin (k0_t12_loop v18).trips, ∀ (k0_h5 : k0_cond5 v18 k0_t12 = 1#1), ∀ (hinb : ∀ a, (k0_off96 v18 k0_t12) a + S1x192x32x128.size a ≤ S4x192x32x128.size a), (Rect.unit (s := S4x192x32x128) (k0_off96 v18 k0_t12) S1x192x32x128.size hinb).WholeWords (EltTy.packing .i8)) ∧
  (∀ k0_t12 : Fin (k0_t12_loop v18).trips, ∀ (k0_h5 : k0_cond5 v18 k0_t12 = 1#1), ∀ a, (k0_off98 v18 k0_t12) a + S1x1.size a ≤ S4x4.size a) ∧
  (∀ k0_t12 : Fin (k0_t12_loop v18).trips, ∀ (k0_h5 : k0_cond5 v18 k0_t12 = 1#1), ∀ a, (k0_off99 v18 k0_t12) a + S1x24x2048.size a ≤ S4x24x2048.size a) ∧
  (∀ k0_t12 : Fin (k0_t12_loop v18).trips, ∀ (k0_h5 : k0_cond5 v18 k0_t12 = 1#1), ∀ (hinb : ∀ a, (k0_off99 v18 k0_t12) a + S1x24x2048.size a ≤ S4x24x2048.size a), (Rect.unit (s := S4x24x2048) (k0_off99 v18 k0_t12) S1x24x2048.size hinb).WholeWords (EltTy.packing .i8)) ∧
  (∀ k0_t12 : Fin (k0_t12_loop v18).trips, ∀ a, (k0_off101 v18 k0_t12) a + S1.size a ≤ S65.size a) ∧
  (∀ k0_t12 : Fin (k0_t12_loop v18).trips, ∀ a, (k0_off102 v18 k0_t12) a + S1x1.size a ≤ S4x4.size a) ∧
  (∀ k0_t12 : Fin (k0_t12_loop v18).trips, ∀ a, (k0_off103 v18 k0_t12) a + S1x384x32x128.size a ≤ S4x384x32x128.size a) ∧
  (∀ k0_t12 : Fin (k0_t12_loop v18).trips, ∀ (hinb : ∀ a, (k0_off103 v18 k0_t12) a + S1x384x32x128.size a ≤ S4x384x32x128.size a), (Rect.unit (s := S4x384x32x128) (k0_off103 v18 k0_t12) S1x384x32x128.size hinb).WholeWords (EltTy.packing .i8)) ∧
  (∀ k0_t12 : Fin (k0_t12_loop v18).trips, ∀ a, (k0_off105 v18 k0_t12) a + S1x1.size a ≤ S4x4.size a) ∧
  (∀ k0_t12 : Fin (k0_t12_loop v18).trips, ∀ a, (k0_off106 v18 k0_t12) a + S1x64x1536.size a ≤ S4x64x1536.size a) ∧
  (∀ k0_t12 : Fin (k0_t12_loop v18).trips, ∀ (hinb : ∀ a, (k0_off106 v18 k0_t12) a + S1x64x1536.size a ≤ S4x64x1536.size a), (Rect.unit (s := S4x64x1536) (k0_off106 v18 k0_t12) S1x64x1536.size hinb).WholeWords (EltTy.packing .i8)) ∧
  (∀ k0_t12 : Fin (k0_t12_loop v18).trips, ∀ a, (k0_off108 v18 k0_t12) a + S1x1.size a ≤ S4x4.size a) ∧
  (∀ k0_t12 : Fin (k0_t12_loop v18).trips, ∀ a, (k0_off109 v18 k0_t12) a + S1x192x32x128.size a ≤ S4x192x32x128.size a) ∧
  (∀ k0_t12 : Fin (k0_t12_loop v18).trips, ∀ (hinb : ∀ a, (k0_off109 v18 k0_t12) a + S1x192x32x128.size a ≤ S4x192x32x128.size a), (Rect.unit (s := S4x192x32x128) (k0_off109 v18 k0_t12) S1x192x32x128.size hinb).WholeWords (EltTy.packing .i8)) ∧
  (∀ k0_t12 : Fin (k0_t12_loop v18).trips, ∀ a, (k0_off111 v18 k0_t12) a + S1x1.size a ≤ S4x4.size a) ∧
  (∀ k0_t12 : Fin (k0_t12_loop v18).trips, ∀ a, (k0_off112 v18 k0_t12) a + S1x24x2048.size a ≤ S4x24x2048.size a) ∧
  (∀ k0_t12 : Fin (k0_t12_loop v18).trips, ∀ (hinb : ∀ a, (k0_off112 v18 k0_t12) a + S1x24x2048.size a ≤ S4x24x2048.size a), (Rect.unit (s := S4x24x2048) (k0_off112 v18 k0_t12) S1x24x2048.size hinb).WholeWords (EltTy.packing .i8)) ∧
  (∀ k0_t12 : Fin (k0_t12_loop v18).trips, ∀ a, (k0_off114 v18 k0_t12) a + S1.size a ≤ S65.size a) ∧
  (∀ k0_t12 : Fin (k0_t12_loop v18).trips, ∀ a, (k0_off115 v18 k0_t12) a + S1x64x1536.size a ≤ S4x64x1536.size a) ∧
  (∀ k0_t12 : Fin (k0_t12_loop v18).trips, ∀ a, (k0_off117 v18 k0_t12) a + S1x384x32x128.size a ≤ S4x384x32x128.size a) ∧
  (∀ k0_t12 : Fin (k0_t12_loop v18).trips, ∀ a, (k0_off121 v18 k0_t12) a + S1x24x2048.size a ≤ S4x24x2048.size a) ∧
  (∀ k0_t12 : Fin (k0_t12_loop v18).trips, ∀ a, (k0_off123 v18 k0_t12) a + S1x192x32x128.size a ≤ S4x192x32x128.size a)
def k0_chk6 (v18 : BitVec 32) : Prop :=
  k0_chk6_0 v18 ∧
  k0_chk6_1 v18
theorem k0_t7_ok : ∀ (v18 : BitVec 32) (k0_hw6 : k0_chk6 v18), (k0_t7_loop v18).OK := fun v18 k0_hw6 => k0_hw6.1.1
theorem k0_off49_inb : ∀ (v18 : BitVec 32) (k0_hw6 : k0_chk6 v18) (k0_t7 : Fin (k0_t7_loop v18).trips), ∀ (k0_h4 : k0_cond4 v18 k0_t7 = 1#1), ∀ a, (k0_off49 v18 k0_t7) a + S1.size a ≤ S65.size a := fun v18 k0_hw6 k0_t7 k0_h4 => k0_hw6.1.2.1 k0_t7 k0_h4
theorem k0_off50_inb : ∀ (v18 : BitVec 32) (k0_hw6 : k0_chk6 v18) (k0_t7 : Fin (k0_t7_loop v18).trips), ∀ (k0_h4 : k0_cond4 v18 k0_t7 = 1#1), ∀ a, (k0_off50 v18 k0_t7) a + S1x1.size a ≤ S4x4.size a := fun v18 k0_hw6 k0_t7 k0_h4 => k0_hw6.1.2.2.1 k0_t7 k0_h4
theorem k0_off51_inb : ∀ (v18 : BitVec 32) (k0_hw6 : k0_chk6 v18) (k0_t7 : Fin (k0_t7_loop v18).trips), ∀ (k0_h4 : k0_cond4 v18 k0_t7 = 1#1), ∀ a, (k0_off51 v18 k0_t7) a + S1x384x32x128.size a ≤ S4x384x32x128.size a := fun v18 k0_hw6 k0_t7 k0_h4 => k0_hw6.1.2.2.2.1 k0_t7 k0_h4
theorem k0_off51_wordsi8 : ∀ (v18 : BitVec 32) (k0_hw6 : k0_chk6 v18) (k0_t7 : Fin (k0_t7_loop v18).trips), ∀ (k0_h4 : k0_cond4 v18 k0_t7 = 1#1), (Rect.unit (s := S4x384x32x128) (k0_off51 v18 k0_t7) S1x384x32x128.size (k0_off51_inb v18 k0_hw6 k0_t7 k0_h4)).WholeWords (EltTy.packing .i8) := fun v18 k0_hw6 k0_t7 k0_h4 => k0_hw6.1.2.2.2.2.1 k0_t7 k0_h4 (k0_off51_inb v18 k0_hw6 k0_t7 k0_h4)
theorem k0_off53_inb : ∀ (v18 : BitVec 32) (k0_hw6 : k0_chk6 v18) (k0_t7 : Fin (k0_t7_loop v18).trips), ∀ (k0_h4 : k0_cond4 v18 k0_t7 = 1#1), ∀ a, (k0_off53 v18 k0_t7) a + S1x1.size a ≤ S4x4.size a := fun v18 k0_hw6 k0_t7 k0_h4 => k0_hw6.1.2.2.2.2.2.1 k0_t7 k0_h4
theorem k0_off54_inb : ∀ (v18 : BitVec 32) (k0_hw6 : k0_chk6 v18) (k0_t7 : Fin (k0_t7_loop v18).trips), ∀ (k0_h4 : k0_cond4 v18 k0_t7 = 1#1), ∀ a, (k0_off54 v18 k0_t7) a + S1x64x1536.size a ≤ S4x64x1536.size a := fun v18 k0_hw6 k0_t7 k0_h4 => k0_hw6.1.2.2.2.2.2.2.1 k0_t7 k0_h4
theorem k0_off54_wordsi8 : ∀ (v18 : BitVec 32) (k0_hw6 : k0_chk6 v18) (k0_t7 : Fin (k0_t7_loop v18).trips), ∀ (k0_h4 : k0_cond4 v18 k0_t7 = 1#1), (Rect.unit (s := S4x64x1536) (k0_off54 v18 k0_t7) S1x64x1536.size (k0_off54_inb v18 k0_hw6 k0_t7 k0_h4)).WholeWords (EltTy.packing .i8) := fun v18 k0_hw6 k0_t7 k0_h4 => k0_hw6.1.2.2.2.2.2.2.2.1 k0_t7 k0_h4 (k0_off54_inb v18 k0_hw6 k0_t7 k0_h4)
theorem k0_off56_inb : ∀ (v18 : BitVec 32) (k0_hw6 : k0_chk6 v18) (k0_t7 : Fin (k0_t7_loop v18).trips), ∀ (k0_h4 : k0_cond4 v18 k0_t7 = 1#1), ∀ a, (k0_off56 v18 k0_t7) a + S1x1.size a ≤ S4x4.size a := fun v18 k0_hw6 k0_t7 k0_h4 => k0_hw6.1.2.2.2.2.2.2.2.2.1 k0_t7 k0_h4
theorem k0_off57_inb : ∀ (v18 : BitVec 32) (k0_hw6 : k0_chk6 v18) (k0_t7 : Fin (k0_t7_loop v18).trips), ∀ (k0_h4 : k0_cond4 v18 k0_t7 = 1#1), ∀ a, (k0_off57 v18 k0_t7) a + S1x192x32x128.size a ≤ S4x192x32x128.size a := fun v18 k0_hw6 k0_t7 k0_h4 => k0_hw6.1.2.2.2.2.2.2.2.2.2.1 k0_t7 k0_h4
theorem k0_off57_wordsi8 : ∀ (v18 : BitVec 32) (k0_hw6 : k0_chk6 v18) (k0_t7 : Fin (k0_t7_loop v18).trips), ∀ (k0_h4 : k0_cond4 v18 k0_t7 = 1#1), (Rect.unit (s := S4x192x32x128) (k0_off57 v18 k0_t7) S1x192x32x128.size (k0_off57_inb v18 k0_hw6 k0_t7 k0_h4)).WholeWords (EltTy.packing .i8) := fun v18 k0_hw6 k0_t7 k0_h4 => k0_hw6.1.2.2.2.2.2.2.2.2.2.2.1 k0_t7 k0_h4 (k0_off57_inb v18 k0_hw6 k0_t7 k0_h4)
theorem k0_off59_inb : ∀ (v18 : BitVec 32) (k0_hw6 : k0_chk6 v18) (k0_t7 : Fin (k0_t7_loop v18).trips), ∀ (k0_h4 : k0_cond4 v18 k0_t7 = 1#1), ∀ a, (k0_off59 v18 k0_t7) a + S1x1.size a ≤ S4x4.size a := fun v18 k0_hw6 k0_t7 k0_h4 => k0_hw6.1.2.2.2.2.2.2.2.2.2.2.2.1 k0_t7 k0_h4
theorem k0_off60_inb : ∀ (v18 : BitVec 32) (k0_hw6 : k0_chk6 v18) (k0_t7 : Fin (k0_t7_loop v18).trips), ∀ (k0_h4 : k0_cond4 v18 k0_t7 = 1#1), ∀ a, (k0_off60 v18 k0_t7) a + S1x24x2048.size a ≤ S4x24x2048.size a := fun v18 k0_hw6 k0_t7 k0_h4 => k0_hw6.1.2.2.2.2.2.2.2.2.2.2.2.2.1 k0_t7 k0_h4
theorem k0_off60_wordsi8 : ∀ (v18 : BitVec 32) (k0_hw6 : k0_chk6 v18) (k0_t7 : Fin (k0_t7_loop v18).trips), ∀ (k0_h4 : k0_cond4 v18 k0_t7 = 1#1), (Rect.unit (s := S4x24x2048) (k0_off60 v18 k0_t7) S1x24x2048.size (k0_off60_inb v18 k0_hw6 k0_t7 k0_h4)).WholeWords (EltTy.packing .i8) := fun v18 k0_hw6 k0_t7 k0_h4 => k0_hw6.1.2.2.2.2.2.2.2.2.2.2.2.2.2.1 k0_t7 k0_h4 (k0_off60_inb v18 k0_hw6 k0_t7 k0_h4)
theorem k0_off62_inb : ∀ (v18 : BitVec 32) (k0_hw6 : k0_chk6 v18) (k0_t7 : Fin (k0_t7_loop v18).trips), ∀ a, (k0_off62 v18 k0_t7) a + S1.size a ≤ S65.size a := fun v18 k0_hw6 k0_t7 => k0_hw6.1.2.2.2.2.2.2.2.2.2.2.2.2.2.2.1 k0_t7
theorem k0_off63_inb : ∀ (v18 : BitVec 32) (k0_hw6 : k0_chk6 v18) (k0_t7 : Fin (k0_t7_loop v18).trips), ∀ a, (k0_off63 v18 k0_t7) a + S1x1.size a ≤ S4x4.size a := fun v18 k0_hw6 k0_t7 => k0_hw6.1.2.2.2.2.2.2.2.2.2.2.2.2.2.2.2.1 k0_t7
theorem k0_off64_inb : ∀ (v18 : BitVec 32) (k0_hw6 : k0_chk6 v18) (k0_t7 : Fin (k0_t7_loop v18).trips), ∀ a, (k0_off64 v18 k0_t7) a + S1x384x32x128.size a ≤ S4x384x32x128.size a := fun v18 k0_hw6 k0_t7 => k0_hw6.1.2.2.2.2.2.2.2.2.2.2.2.2.2.2.2.2.1 k0_t7
theorem k0_off64_wordsi8 : ∀ (v18 : BitVec 32) (k0_hw6 : k0_chk6 v18) (k0_t7 : Fin (k0_t7_loop v18).trips), (Rect.unit (s := S4x384x32x128) (k0_off64 v18 k0_t7) S1x384x32x128.size (k0_off64_inb v18 k0_hw6 k0_t7)).WholeWords (EltTy.packing .i8) := fun v18 k0_hw6 k0_t7 => k0_hw6.1.2.2.2.2.2.2.2.2.2.2.2.2.2.2.2.2.2.1 k0_t7 (k0_off64_inb v18 k0_hw6 k0_t7)
theorem k0_off66_inb : ∀ (v18 : BitVec 32) (k0_hw6 : k0_chk6 v18) (k0_t7 : Fin (k0_t7_loop v18).trips), ∀ a, (k0_off66 v18 k0_t7) a + S1x1.size a ≤ S4x4.size a := fun v18 k0_hw6 k0_t7 => k0_hw6.1.2.2.2.2.2.2.2.2.2.2.2.2.2.2.2.2.2.2.1 k0_t7
theorem k0_off67_inb : ∀ (v18 : BitVec 32) (k0_hw6 : k0_chk6 v18) (k0_t7 : Fin (k0_t7_loop v18).trips), ∀ a, (k0_off67 v18 k0_t7) a + S1x64x1536.size a ≤ S4x64x1536.size a := fun v18 k0_hw6 k0_t7 => k0_hw6.1.2.2.2.2.2.2.2.2.2.2.2.2.2.2.2.2.2.2.2.1 k0_t7
theorem k0_off67_wordsi8 : ∀ (v18 : BitVec 32) (k0_hw6 : k0_chk6 v18) (k0_t7 : Fin (k0_t7_loop v18).trips), (Rect.unit (s := S4x64x1536) (k0_off67 v18 k0_t7) S1x64x1536.size (k0_off67_inb v18 k0_hw6 k0_t7)).WholeWords (EltTy.packing .i8) := fun v18 k0_hw6 k0_t7 => k0_hw6.1.2.2.2.2.2.2.2.2.2.2.2.2.2.2.2.2.2.2.2.2.1 k0_t7 (k0_off67_inb v18 k0_hw6 k0_t7)
theorem k0_off69_inb : ∀ (v18 : BitVec 32) (k0_hw6 : k0_chk6 v18) (k0_t7 : Fin (k0_t7_loop v18).trips), ∀ a, (k0_off69 v18 k0_t7) a + S1x1.size a ≤ S4x4.size a := fun v18 k0_hw6 k0_t7 => k0_hw6.1.2.2.2.2.2.2.2.2.2.2.2.2.2.2.2.2.2.2.2.2.2.1 k0_t7
theorem k0_off70_inb : ∀ (v18 : BitVec 32) (k0_hw6 : k0_chk6 v18) (k0_t7 : Fin (k0_t7_loop v18).trips), ∀ a, (k0_off70 v18 k0_t7) a + S1x192x32x128.size a ≤ S4x192x32x128.size a := fun v18 k0_hw6 k0_t7 => k0_hw6.1.2.2.2.2.2.2.2.2.2.2.2.2.2.2.2.2.2.2.2.2.2.2.1 k0_t7
theorem k0_off70_wordsi8 : ∀ (v18 : BitVec 32) (k0_hw6 : k0_chk6 v18) (k0_t7 : Fin (k0_t7_loop v18).trips), (Rect.unit (s := S4x192x32x128) (k0_off70 v18 k0_t7) S1x192x32x128.size (k0_off70_inb v18 k0_hw6 k0_t7)).WholeWords (EltTy.packing .i8) := fun v18 k0_hw6 k0_t7 => k0_hw6.1.2.2.2.2.2.2.2.2.2.2.2.2.2.2.2.2.2.2.2.2.2.2.2.1 k0_t7 (k0_off70_inb v18 k0_hw6 k0_t7)
theorem k0_off72_inb : ∀ (v18 : BitVec 32) (k0_hw6 : k0_chk6 v18) (k0_t7 : Fin (k0_t7_loop v18).trips), ∀ a, (k0_off72 v18 k0_t7) a + S1x1.size a ≤ S4x4.size a := fun v18 k0_hw6 k0_t7 => k0_hw6.1.2.2.2.2.2.2.2.2.2.2.2.2.2.2.2.2.2.2.2.2.2.2.2.2.1 k0_t7
theorem k0_off73_inb : ∀ (v18 : BitVec 32) (k0_hw6 : k0_chk6 v18) (k0_t7 : Fin (k0_t7_loop v18).trips), ∀ a, (k0_off73 v18 k0_t7) a + S1x24x2048.size a ≤ S4x24x2048.size a := fun v18 k0_hw6 k0_t7 => k0_hw6.1.2.2.2.2.2.2.2.2.2.2.2.2.2.2.2.2.2.2.2.2.2.2.2.2.2.1 k0_t7
theorem k0_off73_wordsi8 : ∀ (v18 : BitVec 32) (k0_hw6 : k0_chk6 v18) (k0_t7 : Fin (k0_t7_loop v18).trips), (Rect.unit (s := S4x24x2048) (k0_off73 v18 k0_t7) S1x24x2048.size (k0_off73_inb v18 k0_hw6 k0_t7)).WholeWords (EltTy.packing .i8) := fun v18 k0_hw6 k0_t7 => k0_hw6.1.2.2.2.2.2.2.2.2.2.2.2.2.2.2.2.2.2.2.2.2.2.2.2.2.2.2.1 k0_t7 (k0_off73_inb v18 k0_hw6 k0_t7)
theorem k0_off75_inb : ∀ (v18 : BitVec 32) (k0_hw6 : k0_chk6 v18) (k0_t7 : Fin (k0_t7_loop v18).trips), ∀ a, (k0_off75 v18 k0_t7) a + S1.size a ≤ S65.size a := fun v18 k0_hw6 k0_t7 => k0_hw6.1.2.2.2.2.2.2.2.2.2.2.2.2.2.2.2.2.2.2.2.2.2.2.2.2.2.2.2.1 k0_t7
theorem k0_off76_inb : ∀ (v18 : BitVec 32) (k0_hw6 : k0_chk6 v18) (k0_t7 : Fin (k0_t7_loop v18).trips), ∀ a, (k0_off76 v18 k0_t7) a + S1x64x1536.size a ≤ S4x64x1536.size a := fun v18 k0_hw6 k0_t7 => k0_hw6.1.2.2.2.2.2.2.2.2.2.2.2.2.2.2.2.2.2.2.2.2.2.2.2.2.2.2.2.2.1 k0_t7
theorem k0_off78_inb : ∀ (v18 : BitVec 32) (k0_hw6 : k0_chk6 v18) (k0_t7 : Fin (k0_t7_loop v18).trips), ∀ a, (k0_off78 v18 k0_t7) a + S1x384x32x128.size a ≤ S4x384x32x128.size a := fun v18 k0_hw6 k0_t7 => k0_hw6.1.2.2.2.2.2.2.2.2.2.2.2.2.2.2.2.2.2.2.2.2.2.2.2.2.2.2.2.2.2.1 k0_t7
theorem k0_off82_inb : ∀ (v18 : BitVec 32) (k0_hw6 : k0_chk6 v18) (k0_t7 : Fin (k0_t7_loop v18).trips), ∀ a, (k0_off82 v18 k0_t7) a + S1x24x2048.size a ≤ S4x24x2048.size a := fun v18 k0_hw6 k0_t7 => k0_hw6.1.2.2.2.2.2.2.2.2.2.2.2.2.2.2.2.2.2.2.2.2.2.2.2.2.2.2.2.2.2.2.1 k0_t7
theorem k0_off84_inb : ∀ (v18 : BitVec 32) (k0_hw6 : k0_chk6 v18) (k0_t7 : Fin (k0_t7_loop v18).trips), ∀ a, (k0_off84 v18 k0_t7) a + S1x192x32x128.size a ≤ S4x192x32x128.size a := fun v18 k0_hw6 k0_t7 => k0_hw6.1.2.2.2.2.2.2.2.2.2.2.2.2.2.2.2.2.2.2.2.2.2.2.2.2.2.2.2.2.2.2.2 k0_t7
theorem k0_t12_ok : ∀ (v18 : BitVec 32) (k0_hw6 : k0_chk6 v18), (k0_t12_loop v18).OK := fun v18 k0_hw6 => k0_hw6.2.1
theorem k0_off88_inb : ∀ (v18 : BitVec 32) (k0_hw6 : k0_chk6 v18) (k0_t12 : Fin (k0_t12_loop v18).trips), ∀ (k0_h5 : k0_cond5 v18 k0_t12 = 1#1), ∀ a, (k0_off88 v18 k0_t12) a + S1.size a ≤ S65.size a := fun v18 k0_hw6 k0_t12 k0_h5 => k0_hw6.2.2.1 k0_t12 k0_h5
theorem k0_off89_inb : ∀ (v18 : BitVec 32) (k0_hw6 : k0_chk6 v18) (k0_t12 : Fin (k0_t12_loop v18).trips), ∀ (k0_h5 : k0_cond5 v18 k0_t12 = 1#1), ∀ a, (k0_off89 v18 k0_t12) a + S1x1.size a ≤ S4x4.size a := fun v18 k0_hw6 k0_t12 k0_h5 => k0_hw6.2.2.2.1 k0_t12 k0_h5
theorem k0_off90_inb : ∀ (v18 : BitVec 32) (k0_hw6 : k0_chk6 v18) (k0_t12 : Fin (k0_t12_loop v18).trips), ∀ (k0_h5 : k0_cond5 v18 k0_t12 = 1#1), ∀ a, (k0_off90 v18 k0_t12) a + S1x384x32x128.size a ≤ S4x384x32x128.size a := fun v18 k0_hw6 k0_t12 k0_h5 => k0_hw6.2.2.2.2.1 k0_t12 k0_h5
theorem k0_off90_wordsi8 : ∀ (v18 : BitVec 32) (k0_hw6 : k0_chk6 v18) (k0_t12 : Fin (k0_t12_loop v18).trips), ∀ (k0_h5 : k0_cond5 v18 k0_t12 = 1#1), (Rect.unit (s := S4x384x32x128) (k0_off90 v18 k0_t12) S1x384x32x128.size (k0_off90_inb v18 k0_hw6 k0_t12 k0_h5)).WholeWords (EltTy.packing .i8) := fun v18 k0_hw6 k0_t12 k0_h5 => k0_hw6.2.2.2.2.2.1 k0_t12 k0_h5 (k0_off90_inb v18 k0_hw6 k0_t12 k0_h5)
theorem k0_off92_inb : ∀ (v18 : BitVec 32) (k0_hw6 : k0_chk6 v18) (k0_t12 : Fin (k0_t12_loop v18).trips), ∀ (k0_h5 : k0_cond5 v18 k0_t12 = 1#1), ∀ a, (k0_off92 v18 k0_t12) a + S1x1.size a ≤ S4x4.size a := fun v18 k0_hw6 k0_t12 k0_h5 => k0_hw6.2.2.2.2.2.2.1 k0_t12 k0_h5
theorem k0_off93_inb : ∀ (v18 : BitVec 32) (k0_hw6 : k0_chk6 v18) (k0_t12 : Fin (k0_t12_loop v18).trips), ∀ (k0_h5 : k0_cond5 v18 k0_t12 = 1#1), ∀ a, (k0_off93 v18 k0_t12) a + S1x64x1536.size a ≤ S4x64x1536.size a := fun v18 k0_hw6 k0_t12 k0_h5 => k0_hw6.2.2.2.2.2.2.2.1 k0_t12 k0_h5
theorem k0_off93_wordsi8 : ∀ (v18 : BitVec 32) (k0_hw6 : k0_chk6 v18) (k0_t12 : Fin (k0_t12_loop v18).trips), ∀ (k0_h5 : k0_cond5 v18 k0_t12 = 1#1), (Rect.unit (s := S4x64x1536) (k0_off93 v18 k0_t12) S1x64x1536.size (k0_off93_inb v18 k0_hw6 k0_t12 k0_h5)).WholeWords (EltTy.packing .i8) := fun v18 k0_hw6 k0_t12 k0_h5 => k0_hw6.2.2.2.2.2.2.2.2.1 k0_t12 k0_h5 (k0_off93_inb v18 k0_hw6 k0_t12 k0_h5)
theorem k0_off95_inb : ∀ (v18 : BitVec 32) (k0_hw6 : k0_chk6 v18) (k0_t12 : Fin (k0_t12_loop v18).trips), ∀ (k0_h5 : k0_cond5 v18 k0_t12 = 1#1), ∀ a, (k0_off95 v18 k0_t12) a + S1x1.size a ≤ S4x4.size a := fun v18 k0_hw6 k0_t12 k0_h5 => k0_hw6.2.2.2.2.2.2.2.2.2.1 k0_t12 k0_h5
theorem k0_off96_inb : ∀ (v18 : BitVec 32) (k0_hw6 : k0_chk6 v18) (k0_t12 : Fin (k0_t12_loop v18).trips), ∀ (k0_h5 : k0_cond5 v18 k0_t12 = 1#1), ∀ a, (k0_off96 v18 k0_t12) a + S1x192x32x128.size a ≤ S4x192x32x128.size a := fun v18 k0_hw6 k0_t12 k0_h5 => k0_hw6.2.2.2.2.2.2.2.2.2.2.1 k0_t12 k0_h5
theorem k0_off96_wordsi8 : ∀ (v18 : BitVec 32) (k0_hw6 : k0_chk6 v18) (k0_t12 : Fin (k0_t12_loop v18).trips), ∀ (k0_h5 : k0_cond5 v18 k0_t12 = 1#1), (Rect.unit (s := S4x192x32x128) (k0_off96 v18 k0_t12) S1x192x32x128.size (k0_off96_inb v18 k0_hw6 k0_t12 k0_h5)).WholeWords (EltTy.packing .i8) := fun v18 k0_hw6 k0_t12 k0_h5 => k0_hw6.2.2.2.2.2.2.2.2.2.2.2.1 k0_t12 k0_h5 (k0_off96_inb v18 k0_hw6 k0_t12 k0_h5)
theorem k0_off98_inb : ∀ (v18 : BitVec 32) (k0_hw6 : k0_chk6 v18) (k0_t12 : Fin (k0_t12_loop v18).trips), ∀ (k0_h5 : k0_cond5 v18 k0_t12 = 1#1), ∀ a, (k0_off98 v18 k0_t12) a + S1x1.size a ≤ S4x4.size a := fun v18 k0_hw6 k0_t12 k0_h5 => k0_hw6.2.2.2.2.2.2.2.2.2.2.2.2.1 k0_t12 k0_h5
theorem k0_off99_inb : ∀ (v18 : BitVec 32) (k0_hw6 : k0_chk6 v18) (k0_t12 : Fin (k0_t12_loop v18).trips), ∀ (k0_h5 : k0_cond5 v18 k0_t12 = 1#1), ∀ a, (k0_off99 v18 k0_t12) a + S1x24x2048.size a ≤ S4x24x2048.size a := fun v18 k0_hw6 k0_t12 k0_h5 => k0_hw6.2.2.2.2.2.2.2.2.2.2.2.2.2.1 k0_t12 k0_h5
theorem k0_off99_wordsi8 : ∀ (v18 : BitVec 32) (k0_hw6 : k0_chk6 v18) (k0_t12 : Fin (k0_t12_loop v18).trips), ∀ (k0_h5 : k0_cond5 v18 k0_t12 = 1#1), (Rect.unit (s := S4x24x2048) (k0_off99 v18 k0_t12) S1x24x2048.size (k0_off99_inb v18 k0_hw6 k0_t12 k0_h5)).WholeWords (EltTy.packing .i8) := fun v18 k0_hw6 k0_t12 k0_h5 => k0_hw6.2.2.2.2.2.2.2.2.2.2.2.2.2.2.1 k0_t12 k0_h5 (k0_off99_inb v18 k0_hw6 k0_t12 k0_h5)
theorem k0_off101_inb : ∀ (v18 : BitVec 32) (k0_hw6 : k0_chk6 v18) (k0_t12 : Fin (k0_t12_loop v18).trips), ∀ a, (k0_off101 v18 k0_t12) a + S1.size a ≤ S65.size a := fun v18 k0_hw6 k0_t12 => k0_hw6.2.2.2.2.2.2.2.2.2.2.2.2.2.2.2.1 k0_t12
theorem k0_off102_inb : ∀ (v18 : BitVec 32) (k0_hw6 : k0_chk6 v18) (k0_t12 : Fin (k0_t12_loop v18).trips), ∀ a, (k0_off102 v18 k0_t12) a + S1x1.size a ≤ S4x4.size a := fun v18 k0_hw6 k0_t12 => k0_hw6.2.2.2.2.2.2.2.2.2.2.2.2.2.2.2.2.1 k0_t12
theorem k0_off103_inb : ∀ (v18 : BitVec 32) (k0_hw6 : k0_chk6 v18) (k0_t12 : Fin (k0_t12_loop v18).trips), ∀ a, (k0_off103 v18 k0_t12) a + S1x384x32x128.size a ≤ S4x384x32x128.size a := fun v18 k0_hw6 k0_t12 => k0_hw6.2.2.2.2.2.2.2.2.2.2.2.2.2.2.2.2.2.1 k0_t12
theorem k0_off103_wordsi8 : ∀ (v18 : BitVec 32) (k0_hw6 : k0_chk6 v18) (k0_t12 : Fin (k0_t12_loop v18).trips), (Rect.unit (s := S4x384x32x128) (k0_off103 v18 k0_t12) S1x384x32x128.size (k0_off103_inb v18 k0_hw6 k0_t12)).WholeWords (EltTy.packing .i8) := fun v18 k0_hw6 k0_t12 => k0_hw6.2.2.2.2.2.2.2.2.2.2.2.2.2.2.2.2.2.2.1 k0_t12 (k0_off103_inb v18 k0_hw6 k0_t12)
theorem k0_off105_inb : ∀ (v18 : BitVec 32) (k0_hw6 : k0_chk6 v18) (k0_t12 : Fin (k0_t12_loop v18).trips), ∀ a, (k0_off105 v18 k0_t12) a + S1x1.size a ≤ S4x4.size a := fun v18 k0_hw6 k0_t12 => k0_hw6.2.2.2.2.2.2.2.2.2.2.2.2.2.2.2.2.2.2.2.1 k0_t12
theorem k0_off106_inb : ∀ (v18 : BitVec 32) (k0_hw6 : k0_chk6 v18) (k0_t12 : Fin (k0_t12_loop v18).trips), ∀ a, (k0_off106 v18 k0_t12) a + S1x64x1536.size a ≤ S4x64x1536.size a := fun v18 k0_hw6 k0_t12 => k0_hw6.2.2.2.2.2.2.2.2.2.2.2.2.2.2.2.2.2.2.2.2.1 k0_t12
theorem k0_off106_wordsi8 : ∀ (v18 : BitVec 32) (k0_hw6 : k0_chk6 v18) (k0_t12 : Fin (k0_t12_loop v18).trips), (Rect.unit (s := S4x64x1536) (k0_off106 v18 k0_t12) S1x64x1536.size (k0_off106_inb v18 k0_hw6 k0_t12)).WholeWords (EltTy.packing .i8) := fun v18 k0_hw6 k0_t12 => k0_hw6.2.2.2.2.2.2.2.2.2.2.2.2.2.2.2.2.2.2.2.2.2.1 k0_t12 (k0_off106_inb v18 k0_hw6 k0_t12)
theorem k0_off108_inb : ∀ (v18 : BitVec 32) (k0_hw6 : k0_chk6 v18) (k0_t12 : Fin (k0_t12_loop v18).trips), ∀ a, (k0_off108 v18 k0_t12) a + S1x1.size a ≤ S4x4.size a := fun v18 k0_hw6 k0_t12 => k0_hw6.2.2.2.2.2.2.2.2.2.2.2.2.2.2.2.2.2.2.2.2.2.2.1 k0_t12
theorem k0_off109_inb : ∀ (v18 : BitVec 32) (k0_hw6 : k0_chk6 v18) (k0_t12 : Fin (k0_t12_loop v18).trips), ∀ a, (k0_off109 v18 k0_t12) a + S1x192x32x128.size a ≤ S4x192x32x128.size a := fun v18 k0_hw6 k0_t12 => k0_hw6.2.2.2.2.2.2.2.2.2.2.2.2.2.2.2.2.2.2.2.2.2.2.2.1 k0_t12
theorem k0_off109_wordsi8 : ∀ (v18 : BitVec 32) (k0_hw6 : k0_chk6 v18) (k0_t12 : Fin (k0_t12_loop v18).trips), (Rect.unit (s := S4x192x32x128) (k0_off109 v18 k0_t12) S1x192x32x128.size (k0_off109_inb v18 k0_hw6 k0_t12)).WholeWords (EltTy.packing .i8) := fun v18 k0_hw6 k0_t12 => k0_hw6.2.2.2.2.2.2.2.2.2.2.2.2.2.2.2.2.2.2.2.2.2.2.2.2.1 k0_t12 (k0_off109_inb v18 k0_hw6 k0_t12)
theorem k0_off111_inb : ∀ (v18 : BitVec 32) (k0_hw6 : k0_chk6 v18) (k0_t12 : Fin (k0_t12_loop v18).trips), ∀ a, (k0_off111 v18 k0_t12) a + S1x1.size a ≤ S4x4.size a := fun v18 k0_hw6 k0_t12 => k0_hw6.2.2.2.2.2.2.2.2.2.2.2.2.2.2.2.2.2.2.2.2.2.2.2.2.2.1 k0_t12
theorem k0_off112_inb : ∀ (v18 : BitVec 32) (k0_hw6 : k0_chk6 v18) (k0_t12 : Fin (k0_t12_loop v18).trips), ∀ a, (k0_off112 v18 k0_t12) a + S1x24x2048.size a ≤ S4x24x2048.size a := fun v18 k0_hw6 k0_t12 => k0_hw6.2.2.2.2.2.2.2.2.2.2.2.2.2.2.2.2.2.2.2.2.2.2.2.2.2.2.1 k0_t12
theorem k0_off112_wordsi8 : ∀ (v18 : BitVec 32) (k0_hw6 : k0_chk6 v18) (k0_t12 : Fin (k0_t12_loop v18).trips), (Rect.unit (s := S4x24x2048) (k0_off112 v18 k0_t12) S1x24x2048.size (k0_off112_inb v18 k0_hw6 k0_t12)).WholeWords (EltTy.packing .i8) := fun v18 k0_hw6 k0_t12 => k0_hw6.2.2.2.2.2.2.2.2.2.2.2.2.2.2.2.2.2.2.2.2.2.2.2.2.2.2.2.1 k0_t12 (k0_off112_inb v18 k0_hw6 k0_t12)
theorem k0_off114_inb : ∀ (v18 : BitVec 32) (k0_hw6 : k0_chk6 v18) (k0_t12 : Fin (k0_t12_loop v18).trips), ∀ a, (k0_off114 v18 k0_t12) a + S1.size a ≤ S65.size a := fun v18 k0_hw6 k0_t12 => k0_hw6.2.2.2.2.2.2.2.2.2.2.2.2.2.2.2.2.2.2.2.2.2.2.2.2.2.2.2.2.1 k0_t12
theorem k0_off115_inb : ∀ (v18 : BitVec 32) (k0_hw6 : k0_chk6 v18) (k0_t12 : Fin (k0_t12_loop v18).trips), ∀ a, (k0_off115 v18 k0_t12) a + S1x64x1536.size a ≤ S4x64x1536.size a := fun v18 k0_hw6 k0_t12 => k0_hw6.2.2.2.2.2.2.2.2.2.2.2.2.2.2.2.2.2.2.2.2.2.2.2.2.2.2.2.2.2.1 k0_t12
theorem k0_off117_inb : ∀ (v18 : BitVec 32) (k0_hw6 : k0_chk6 v18) (k0_t12 : Fin (k0_t12_loop v18).trips), ∀ a, (k0_off117 v18 k0_t12) a + S1x384x32x128.size a ≤ S4x384x32x128.size a := fun v18 k0_hw6 k0_t12 => k0_hw6.2.2.2.2.2.2.2.2.2.2.2.2.2.2.2.2.2.2.2.2.2.2.2.2.2.2.2.2.2.2.1 k0_t12
theorem k0_off121_inb : ∀ (v18 : BitVec 32) (k0_hw6 : k0_chk6 v18) (k0_t12 : Fin (k0_t12_loop v18).trips), ∀ a, (k0_off121 v18 k0_t12) a + S1x24x2048.size a ≤ S4x24x2048.size a := fun v18 k0_hw6 k0_t12 => k0_hw6.2.2.2.2.2.2.2.2.2.2.2.2.2.2.2.2.2.2.2.2.2.2.2.2.2.2.2.2.2.2.2.1 k0_t12
theorem k0_off123_inb : ∀ (v18 : BitVec 32) (k0_hw6 : k0_chk6 v18) (k0_t12 : Fin (k0_t12_loop v18).trips), ∀ a, (k0_off123 v18 k0_t12) a + S1x192x32x128.size a ≤ S4x192x32x128.size a := fun v18 k0_hw6 k0_t12 => k0_hw6.2.2.2.2.2.2.2.2.2.2.2.2.2.2.2.2.2.2.2.2.2.2.2.2.2.2.2.2.2.2.2.2 k0_t12

def k0_off124 (k0_t15 : Fin k0_t15_loop.trips) (k0_t16 : Fin k0_t16_loop.trips) (c0_i32_144 : BitVec 32) (c0_i32_146 : BitVec 32) : Fin 3 → Nat :=
  let c0_i32_133 : BitVec 32 := 0#32
  let c1_i32_135 : BitVec 32 := 1#32
  let arg25 : BitVec 32 := Scf.iv c0_i32_133 c1_i32_135 k0_t16
  let c8_i32_143 : BitVec 32 := 8#32
  let v159 : BitVec 32 := Scalar.muli arg25 c8_i32_143
  let v160 : BitVec 32 := Scalar.addi v159 c0_i32_144
  let c2_i32_145 : BitVec 32 := 2#32
  let v177 : BitVec 32 := Scalar.muli v160 c2_i32_145
  let v178 : BitVec 32 := Scalar.addi v177 c0_i32_146
  let c4_i32_147 : BitVec 32 := 4#32
  let v179 : BitVec 32 := Scalar.muli v178 c4_i32_147
  let c0_i32_128 : BitVec 32 := 0#32
  let c1_i32_130 : BitVec 32 := 1#32
  let arg24 : BitVec 32 := Scf.iv c0_i32_128 c1_i32_130 k0_t15
  let v180 : BitVec 32 := Scalar.addi v179 arg24
  let v183 : Index := Scalar.indexCast v180
  let c0_151 : Index := 0#32
  let c0_152 : Index := 0#32
  ![v183.toNat, 0, 0]
def k0_off125 (k0_t16 : Fin k0_t16_loop.trips) : Fin 2 → Nat :=
  let c0_442 : Index := 0#32
  let c256_i32 : BitVec 32 := 256#32
  let c0_i32_133 : BitVec 32 := 0#32
  let c1_i32_135 : BitVec 32 := 1#32
  let arg25 : BitVec 32 := Scf.iv c0_i32_133 c1_i32_135 k0_t16
  let v1028 : BitVec 32 := Scalar.muli c256_i32 arg25
  let v1029 : Index := Scalar.indexCast v1028
  ![0, v1029.toNat]
def k0_off126 (k0_t15 : Fin k0_t15_loop.trips) : Fin 2 → Nat :=
  let c0_137 : Index := 0#32
  let c512_i32 : BitVec 32 := 512#32
  let c0_i32_128 : BitVec 32 := 0#32
  let c1_i32_130 : BitVec 32 := 1#32
  let arg24 : BitVec 32 := Scf.iv c0_i32_128 c1_i32_130 k0_t15
  let v132 : BitVec 32 := Scalar.muli c512_i32 arg24
  let v133 : Index := Scalar.indexCast v132
  ![0, v133.toNat]
abbrev stage0_0 : Fin 1 → Memref sig .tc .smem S8x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8x1x2048 : Shape := ⟨3, ![8, 1, 2048]⟩
abbrev S8x1x8 : Shape := ⟨3, ![8, 1, 8]⟩
abbrev S64x1536x64x16 : Shape := ⟨4, ![64, 1536, 64, 16]⟩
abbrev S64x1536x64 : Shape := ⟨3, ![64, 1536, 64]⟩
abbrev S64x2048x24x16 : Shape := ⟨4, ![64, 2048, 24, 16]⟩
abbrev S64x2048x24 : Shape := ⟨3, ![64, 2048, 24]⟩
abbrev S1536x64x16 : Shape := ⟨3, ![1536, 64, 16]⟩
abbrev S1536x64 : Shape := ⟨2, ![1536, 64]⟩
abbrev S2048x24x16 : Shape := ⟨3, ![2048, 24, 16]⟩
abbrev S2048x24 : Shape := ⟨2, ![2048, 24]⟩
abbrev S8x1024x2 : Shape := ⟨3, ![8, 1024, 2]⟩
abbrev S8x8 : Shape := ⟨2, ![8, 8]⟩
abbrev S64x64x16x1536 : Shape := ⟨4, ![64, 64, 16, 1536]⟩
abbrev S64x64x1536 : Shape := ⟨3, ![64, 64, 1536]⟩
abbrev S_ : Shape := ⟨0, ![]⟩
abbrev S64x64x1x1536 : Shape := ⟨4, ![64, 64, 1, 1536]⟩
abbrev S64x1024x1536 : Shape := ⟨3, ![64, 1024, 1536]⟩
abbrev S8x1024x1 : Shape := ⟨3, ![8, 1024, 1]⟩
abbrev S8x1024 : Shape := ⟨2, ![8, 1024]⟩
abbrev S8x8x1 : Shape := ⟨3, ![8, 8, 1]⟩
abbrev S8x8x1024x1536 : Shape := ⟨4, ![8, 8, 1024, 1536]⟩
abbrev S8x8x1536 : Shape := ⟨3, ![8, 8, 1536]⟩
abbrev S8x8x768 : Shape := ⟨3, ![8, 8, 768]⟩
abbrev S8x8x384x2 : Shape := ⟨4, ![8, 8, 384, 2]⟩
abbrev S64x24x16x2048 : Shape := ⟨4, ![64, 24, 16, 2048]⟩
abbrev S64x24x2048 : Shape := ⟨3, ![64, 24, 2048]⟩
abbrev S64x24x1x2048 : Shape := ⟨4, ![64, 24, 1, 2048]⟩
abbrev S64x384x2048 : Shape := ⟨3, ![64, 384, 2048]⟩
abbrev S8x8x384x1 : Shape := ⟨4, ![8, 8, 384, 1]⟩
abbrev S8x8x384 : Shape := ⟨3, ![8, 8, 384]⟩
abbrev S8x8x384x2048 : Shape := ⟨4, ![8, 8, 384, 2048]⟩
abbrev S8x8x2048 : Shape := ⟨3, ![8, 8, 2048]⟩
abbrev S8x2048 : Shape := ⟨2, ![8, 2048]⟩
abbrev S1536x64x1 : Shape := ⟨3, ![1536, 64, 1]⟩
abbrev S1536x1024 : Shape := ⟨2, ![1536, 1024]⟩
abbrev S8x1536 : Shape := ⟨2, ![8, 1536]⟩
abbrev S8x768 : Shape := ⟨2, ![8, 768]⟩
abbrev S8x384x2 : Shape := ⟨3, ![8, 384, 2]⟩
abbrev S2048x24x1 : Shape := ⟨3, ![2048, 24, 1]⟩
abbrev S2048x384 : Shape := ⟨2, ![2048, 384]⟩
abbrev S8x384x1 : Shape := ⟨3, ![8, 384, 1]⟩
abbrev S8x384 : Shape := ⟨2, ![8, 384]⟩

abbrev nBuf : Space → Nat
  | .hbm => 501
  | .vmem => 0
  | .smem => 0
  | _ => 0

abbrev hbmTy0_0 (i : Nat) : BufTy := match i % 128 with
  | 0 => ⟨S8x1x2048, .bf16⟩
  | 1 => ⟨S8x1x8, .i32⟩
  | 2 => ⟨S8x1x8, .f32⟩
  | 3 => ⟨S64x1536x64x16, .i8⟩
  | 4 => ⟨S64x1536x64, .i8⟩
  | 5 => ⟨S64x2048x24x16, .i8⟩
  | 6 => ⟨S64x2048x24, .i8⟩
  | 7 => ⟨S1536x64x16, .i8⟩
  | 8 => ⟨S1536x64, .i8⟩
  | 9 => ⟨S2048x24x16, .i8⟩
  | 10 => ⟨S2048x24, .i8⟩
  | 11 => ⟨S8x1024x2, .bf16⟩
  | 12 => ⟨S8x8, .i32⟩
  | 13 => ⟨S64x64x16x1536, .i8⟩
  | 14 => ⟨S64x64x1536, .i8⟩
  | 15 => ⟨S64x64x1536, .i32⟩
  | 16 => ⟨S_, .i32⟩
  | 17 => ⟨S64x64x1536, .i32⟩
  | 18 => ⟨S64x64x1536, .i32⟩
  | 19 => ⟨S64x64x1536, .f32⟩
  | 20 => ⟨S_, .f32⟩
  | 21 => ⟨S64x64x1536, .f32⟩
  | 22 => ⟨S64x64x1536, .f32⟩
  | 23 => ⟨S64x64x1536, .bf16⟩
  | 24 => ⟨S64x64x1x1536, .bf16⟩
  | 25 => ⟨S64x64x16x1536, .i32⟩
  | 26 => ⟨S_, .i32⟩
  | 27 => ⟨S64x64x16x1536, .i32⟩
  | 28 => ⟨S64x64x16x1536, .i32⟩
  | 29 => ⟨S_, .i32⟩
  | 30 => ⟨S64x64x16x1536, .i32⟩
  | 31 => ⟨S64x64x16x1536, .i32⟩
  | 32 => ⟨S_, .i32⟩
  | 33 => ⟨S64x64x16x1536, .i32⟩
  | 34 => ⟨S64x64x16x1536, .i32⟩
  | 35 => ⟨S_, .i32⟩
  | 36 => ⟨S64x64x16x1536, .i32⟩
  | 37 => ⟨S64x64x16x1536, .i32⟩
  | 38 => ⟨S_, .i32⟩
  | 39 => ⟨S64x64x16x1536, .i32⟩
  | 40 => ⟨S64x64x16x1536, .i32⟩
  | 41 => ⟨S64x64x16x1536, .f32⟩
  | 42 => ⟨S_, .i32⟩
  | 43 => ⟨S64x64x16x1536, .i32⟩
  | 44 => ⟨S64x64x16x1536, .i1⟩
  | 45 => ⟨S_, .f32⟩
  | 46 => ⟨S64x64x16x1536, .f32⟩
  | 47 => ⟨S64x64x16x1536, .f32⟩
  | 48 => ⟨S_, .f32⟩
  | 49 => ⟨S64x64x16x1536, .f32⟩
  | 50 => ⟨S64x64x16x1536, .f32⟩
  | 51 => ⟨S_, .f32⟩
  | 52 => ⟨S64x64x16x1536, .f32⟩
  | 53 => ⟨S64x64x16x1536, .f32⟩
  | 54 => ⟨S_, .i32⟩
  | 55 => ⟨S64x64x16x1536, .i32⟩
  | 56 => ⟨S64x64x16x1536, .i32⟩
  | 57 => ⟨S64x64x16x1536, .f32⟩
  | 58 => ⟨S_, .f32⟩
  | 59 => ⟨S64x64x16x1536, .f32⟩
  | 60 => ⟨S64x64x16x1536, .f32⟩
  | 61 => ⟨S64x64x16x1536, .f32⟩
  | 62 => ⟨S64x64x16x1536, .f32⟩
  | 63 => ⟨S_, .i32⟩
  | 64 => ⟨S64x64x16x1536, .i32⟩
  | 65 => ⟨S64x64x16x1536, .i1⟩
  | 66 => ⟨S64x64x16x1536, .f32⟩
  | 67 => ⟨S64x64x16x1536, .f32⟩
  | 68 => ⟨S64x64x16x1536, .bf16⟩
  | 69 => ⟨S64x64x16x1536, .bf16⟩
  | 70 => ⟨S64x64x16x1536, .bf16⟩
  | 71 => ⟨S_, .i32⟩
  | 72 => ⟨S64x64x16x1536, .i32⟩
  | 73 => ⟨S64x64x16x1536, .i32⟩
  | 74 => ⟨S_, .i32⟩
  | 75 => ⟨S64x64x16x1536, .i32⟩
  | 76 => ⟨S64x64x16x1536, .i32⟩
  | 77 => ⟨S_, .i32⟩
  | 78 => ⟨S64x64x16x1536, .i32⟩
  | 79 => ⟨S64x64x16x1536, .i32⟩
  | 80 => ⟨S_, .i32⟩
  | 81 => ⟨S64x64x16x1536, .i32⟩
  | 82 => ⟨S64x64x16x1536, .i32⟩
  | 83 => ⟨S_, .i32⟩
  | 84 => ⟨S64x64x16x1536, .i32⟩
  | 85 => ⟨S64x64x16x1536, .i32⟩
  | 86 => ⟨S64x64x16x1536, .f32⟩
  | 87 => ⟨S_, .i32⟩
  | 88 => ⟨S64x64x16x1536, .i32⟩
  | 89 => ⟨S64x64x16x1536, .i1⟩
  | 90 => ⟨S_, .f32⟩
  | 91 => ⟨S64x64x16x1536, .f32⟩
  | 92 => ⟨S64x64x16x1536, .f32⟩
  | 93 => ⟨S_, .f32⟩
  | 94 => ⟨S64x64x16x1536, .f32⟩
  | 95 => ⟨S64x64x16x1536, .f32⟩
  | 96 => ⟨S_, .f32⟩
  | 97 => ⟨S64x64x16x1536, .f32⟩
  | 98 => ⟨S64x64x16x1536, .f32⟩
  | 99 => ⟨S_, .i32⟩
  | 100 => ⟨S64x64x16x1536, .i32⟩
  | 101 => ⟨S64x64x16x1536, .i32⟩
  | 102 => ⟨S64x64x16x1536, .f32⟩
  | 103 => ⟨S_, .f32⟩
  | 104 => ⟨S64x64x16x1536, .f32⟩
  | 105 => ⟨S64x64x16x1536, .f32⟩
  | 106 => ⟨S64x64x16x1536, .f32⟩
  | 107 => ⟨S64x64x16x1536, .f32⟩
  | 108 => ⟨S_, .i32⟩
  | 109 => ⟨S64x64x16x1536, .i32⟩
  | 110 => ⟨S64x64x16x1536, .i1⟩
  | 111 => ⟨S64x64x16x1536, .f32⟩
  | 112 => ⟨S64x64x16x1536, .f32⟩
  | 113 => ⟨S64x64x16x1536, .bf16⟩
  | 114 => ⟨S64x64x16x1536, .bf16⟩
  | 115 => ⟨S64x64x16x1536, .bf16⟩
  | 116 => ⟨S64x1024x1536, .bf16⟩
  | 117 => ⟨S64x1024x1536, .bf16⟩
  | 118 => ⟨S8x1024x1, .bf16⟩
  | 119 => ⟨S8x1024, .bf16⟩
  | 120 => ⟨S8x8x1, .i32⟩
  | 121 => ⟨S8x8x1024x1536, .bf16⟩
  | 122 => ⟨S8x8x1536, .f32⟩
  | 123 => ⟨S8x1024x1, .bf16⟩
  | 124 => ⟨S8x1024, .bf16⟩
  | 125 => ⟨S8x8x1, .i32⟩
  | 126 => ⟨S8x8x1024x1536, .bf16⟩
  | 127 => ⟨S8x8x1536, .f32⟩
  | _ => ⟨S8x1x2048, .bf16⟩

abbrev hbmTy0_1 (i : Nat) : BufTy := match i % 128 with
  | 0 => ⟨S8x8x1536, .f32⟩
  | 1 => ⟨S8x8x768, .f32⟩
  | 2 => ⟨S8x8x768, .f32⟩
  | 3 => ⟨S8x8x768, .f32⟩
  | 4 => ⟨S8x8x768, .f32⟩
  | 5 => ⟨S_, .f32⟩
  | 6 => ⟨S8x8x768, .f32⟩
  | 7 => ⟨S8x8x768, .f32⟩
  | 8 => ⟨S_, .f32⟩
  | 9 => ⟨S8x8x768, .f32⟩
  | 10 => ⟨S8x8x768, .f32⟩
  | 11 => ⟨S8x8x768, .f32⟩
  | 12 => ⟨S8x8x768, .f32⟩
  | 13 => ⟨S8x8x768, .bf16⟩
  | 14 => ⟨S8x8x384x2, .bf16⟩
  | 15 => ⟨S64x24x16x2048, .i8⟩
  | 16 => ⟨S64x24x2048, .i8⟩
  | 17 => ⟨S64x24x2048, .i32⟩
  | 18 => ⟨S_, .i32⟩
  | 19 => ⟨S64x24x2048, .i32⟩
  | 20 => ⟨S64x24x2048, .i32⟩
  | 21 => ⟨S64x24x2048, .f32⟩
  | 22 => ⟨S_, .f32⟩
  | 23 => ⟨S64x24x2048, .f32⟩
  | 24 => ⟨S64x24x2048, .f32⟩
  | 25 => ⟨S64x24x2048, .bf16⟩
  | 26 => ⟨S64x24x1x2048, .bf16⟩
  | 27 => ⟨S64x24x16x2048, .i32⟩
  | 28 => ⟨S_, .i32⟩
  | 29 => ⟨S64x24x16x2048, .i32⟩
  | 30 => ⟨S64x24x16x2048, .i32⟩
  | 31 => ⟨S_, .i32⟩
  | 32 => ⟨S64x24x16x2048, .i32⟩
  | 33 => ⟨S64x24x16x2048, .i32⟩
  | 34 => ⟨S_, .i32⟩
  | 35 => ⟨S64x24x16x2048, .i32⟩
  | 36 => ⟨S64x24x16x2048, .i32⟩
  | 37 => ⟨S_, .i32⟩
  | 38 => ⟨S64x24x16x2048, .i32⟩
  | 39 => ⟨S64x24x16x2048, .i32⟩
  | 40 => ⟨S_, .i32⟩
  | 41 => ⟨S64x24x16x2048, .i32⟩
  | 42 => ⟨S64x24x16x2048, .i32⟩
  | 43 => ⟨S64x24x16x2048, .f32⟩
  | 44 => ⟨S_, .i32⟩
  | 45 => ⟨S64x24x16x2048, .i32⟩
  | 46 => ⟨S64x24x16x2048, .i1⟩
  | 47 => ⟨S_, .f32⟩
  | 48 => ⟨S64x24x16x2048, .f32⟩
  | 49 => ⟨S64x24x16x2048, .f32⟩
  | 50 => ⟨S_, .f32⟩
  | 51 => ⟨S64x24x16x2048, .f32⟩
  | 52 => ⟨S64x24x16x2048, .f32⟩
  | 53 => ⟨S_, .f32⟩
  | 54 => ⟨S64x24x16x2048, .f32⟩
  | 55 => ⟨S64x24x16x2048, .f32⟩
  | 56 => ⟨S_, .i32⟩
  | 57 => ⟨S64x24x16x2048, .i32⟩
  | 58 => ⟨S64x24x16x2048, .i32⟩
  | 59 => ⟨S64x24x16x2048, .f32⟩
  | 60 => ⟨S_, .f32⟩
  | 61 => ⟨S64x24x16x2048, .f32⟩
  | 62 => ⟨S64x24x16x2048, .f32⟩
  | 63 => ⟨S64x24x16x2048, .f32⟩
  | 64 => ⟨S64x24x16x2048, .f32⟩
  | 65 => ⟨S_, .i32⟩
  | 66 => ⟨S64x24x16x2048, .i32⟩
  | 67 => ⟨S64x24x16x2048, .i1⟩
  | 68 => ⟨S64x24x16x2048, .f32⟩
  | 69 => ⟨S64x24x16x2048, .f32⟩
  | 70 => ⟨S64x24x16x2048, .bf16⟩
  | 71 => ⟨S64x24x16x2048, .bf16⟩
  | 72 => ⟨S64x24x16x2048, .bf16⟩
  | 73 => ⟨S_, .i32⟩
  | 74 => ⟨S64x24x16x2048, .i32⟩
  | 75 => ⟨S64x24x16x2048, .i32⟩
  | 76 => ⟨S_, .i32⟩
  | 77 => ⟨S64x24x16x2048, .i32⟩
  | 78 => ⟨S64x24x16x2048, .i32⟩
  | 79 => ⟨S_, .i32⟩
  | 80 => ⟨S64x24x16x2048, .i32⟩
  | 81 => ⟨S64x24x16x2048, .i32⟩
  | 82 => ⟨S_, .i32⟩
  | 83 => ⟨S64x24x16x2048, .i32⟩
  | 84 => ⟨S64x24x16x2048, .i32⟩
  | 85 => ⟨S_, .i32⟩
  | 86 => ⟨S64x24x16x2048, .i32⟩
  | 87 => ⟨S64x24x16x2048, .i32⟩
  | 88 => ⟨S64x24x16x2048, .f32⟩
  | 89 => ⟨S_, .i32⟩
  | 90 => ⟨S64x24x16x2048, .i32⟩
  | 91 => ⟨S64x24x16x2048, .i1⟩
  | 92 => ⟨S_, .f32⟩
  | 93 => ⟨S64x24x16x2048, .f32⟩
  | 94 => ⟨S64x24x16x2048, .f32⟩
  | 95 => ⟨S_, .f32⟩
  | 96 => ⟨S64x24x16x2048, .f32⟩
  | 97 => ⟨S64x24x16x2048, .f32⟩
  | 98 => ⟨S_, .f32⟩
  | 99 => ⟨S64x24x16x2048, .f32⟩
  | 100 => ⟨S64x24x16x2048, .f32⟩
  | 101 => ⟨S_, .i32⟩
  | 102 => ⟨S64x24x16x2048, .i32⟩
  | 103 => ⟨S64x24x16x2048, .i32⟩
  | 104 => ⟨S64x24x16x2048, .f32⟩
  | 105 => ⟨S_, .f32⟩
  | 106 => ⟨S64x24x16x2048, .f32⟩
  | 107 => ⟨S64x24x16x2048, .f32⟩
  | 108 => ⟨S64x24x16x2048, .f32⟩
  | 109 => ⟨S64x24x16x2048, .f32⟩
  | 110 => ⟨S_, .i32⟩
  | 111 => ⟨S64x24x16x2048, .i32⟩
  | 112 => ⟨S64x24x16x2048, .i1⟩
  | 113 => ⟨S64x24x16x2048, .f32⟩
  | 114 => ⟨S64x24x16x2048, .f32⟩
  | 115 => ⟨S64x24x16x2048, .bf16⟩
  | 116 => ⟨S64x24x16x2048, .bf16⟩
  | 117 => ⟨S64x24x16x2048, .bf16⟩
  | 118 => ⟨S64x384x2048, .bf16⟩
  | 119 => ⟨S64x384x2048, .bf16⟩
  | 120 => ⟨S8x8x384x1, .bf16⟩
  | 121 => ⟨S8x8x384, .bf16⟩
  | 122 => ⟨S8x8x1, .i32⟩
  | 123 => ⟨S8x8x384x2048, .bf16⟩
  | 124 => ⟨S8x8x2048, .f32⟩
  | 125 => ⟨S8x8x384x1, .bf16⟩
  | 126 => ⟨S8x8x384, .bf16⟩
  | 127 => ⟨S8x8x1, .i32⟩
  | _ => ⟨S8x1x2048, .bf16⟩

abbrev hbmTy0_2 (i : Nat) : BufTy := match i % 128 with
  | 0 => ⟨S8x8x384x2048, .bf16⟩
  | 1 => ⟨S8x8x2048, .f32⟩
  | 2 => ⟨S8x8x2048, .f32⟩
  | 3 => ⟨S8x8, .f32⟩
  | 4 => ⟨S8x8x1, .f32⟩
  | 5 => ⟨S8x8x2048, .f32⟩
  | 6 => ⟨S8x8x2048, .f32⟩
  | 7 => ⟨S_, .f32⟩
  | 8 => ⟨S8x2048, .f32⟩
  | 9 => ⟨S1536x64, .i32⟩
  | 10 => ⟨S_, .i32⟩
  | 11 => ⟨S1536x64, .i32⟩
  | 12 => ⟨S1536x64, .i32⟩
  | 13 => ⟨S1536x64, .f32⟩
  | 14 => ⟨S_, .f32⟩
  | 15 => ⟨S1536x64, .f32⟩
  | 16 => ⟨S1536x64, .f32⟩
  | 17 => ⟨S1536x64, .bf16⟩
  | 18 => ⟨S1536x64x1, .bf16⟩
  | 19 => ⟨S1536x64x16, .i32⟩
  | 20 => ⟨S_, .i32⟩
  | 21 => ⟨S1536x64x16, .i32⟩
  | 22 => ⟨S1536x64x16, .i32⟩
  | 23 => ⟨S_, .i32⟩
  | 24 => ⟨S1536x64x16, .i32⟩
  | 25 => ⟨S1536x64x16, .i32⟩
  | 26 => ⟨S_, .i32⟩
  | 27 => ⟨S1536x64x16, .i32⟩
  | 28 => ⟨S1536x64x16, .i32⟩
  | 29 => ⟨S_, .i32⟩
  | 30 => ⟨S1536x64x16, .i32⟩
  | 31 => ⟨S1536x64x16, .i32⟩
  | 32 => ⟨S_, .i32⟩
  | 33 => ⟨S1536x64x16, .i32⟩
  | 34 => ⟨S1536x64x16, .i32⟩
  | 35 => ⟨S1536x64x16, .f32⟩
  | 36 => ⟨S_, .i32⟩
  | 37 => ⟨S1536x64x16, .i32⟩
  | 38 => ⟨S1536x64x16, .i1⟩
  | 39 => ⟨S_, .f32⟩
  | 40 => ⟨S1536x64x16, .f32⟩
  | 41 => ⟨S1536x64x16, .f32⟩
  | 42 => ⟨S_, .f32⟩
  | 43 => ⟨S1536x64x16, .f32⟩
  | 44 => ⟨S1536x64x16, .f32⟩
  | 45 => ⟨S_, .f32⟩
  | 46 => ⟨S1536x64x16, .f32⟩
  | 47 => ⟨S1536x64x16, .f32⟩
  | 48 => ⟨S_, .i32⟩
  | 49 => ⟨S1536x64x16, .i32⟩
  | 50 => ⟨S1536x64x16, .i32⟩
  | 51 => ⟨S1536x64x16, .f32⟩
  | 52 => ⟨S_, .f32⟩
  | 53 => ⟨S1536x64x16, .f32⟩
  | 54 => ⟨S1536x64x16, .f32⟩
  | 55 => ⟨S1536x64x16, .f32⟩
  | 56 => ⟨S1536x64x16, .f32⟩
  | 57 => ⟨S_, .i32⟩
  | 58 => ⟨S1536x64x16, .i32⟩
  | 59 => ⟨S1536x64x16, .i1⟩
  | 60 => ⟨S1536x64x16, .f32⟩
  | 61 => ⟨S1536x64x16, .f32⟩
  | 62 => ⟨S1536x64x16, .bf16⟩
  | 63 => ⟨S1536x64x16, .bf16⟩
  | 64 => ⟨S1536x64x16, .bf16⟩
  | 65 => ⟨S_, .i32⟩
  | 66 => ⟨S1536x64x16, .i32⟩
  | 67 => ⟨S1536x64x16, .i32⟩
  | 68 => ⟨S_, .i32⟩
  | 69 => ⟨S1536x64x16, .i32⟩
  | 70 => ⟨S1536x64x16, .i32⟩
  | 71 => ⟨S_, .i32⟩
  | 72 => ⟨S1536x64x16, .i32⟩
  | 73 => ⟨S1536x64x16, .i32⟩
  | 74 => ⟨S_, .i32⟩
  | 75 => ⟨S1536x64x16, .i32⟩
  | 76 => ⟨S1536x64x16, .i32⟩
  | 77 => ⟨S_, .i32⟩
  | 78 => ⟨S1536x64x16, .i32⟩
  | 79 => ⟨S1536x64x16, .i32⟩
  | 80 => ⟨S1536x64x16, .f32⟩
  | 81 => ⟨S_, .i32⟩
  | 82 => ⟨S1536x64x16, .i32⟩
  | 83 => ⟨S1536x64x16, .i1⟩
  | 84 => ⟨S_, .f32⟩
  | 85 => ⟨S1536x64x16, .f32⟩
  | 86 => ⟨S1536x64x16, .f32⟩
  | 87 => ⟨S_, .f32⟩
  | 88 => ⟨S1536x64x16, .f32⟩
  | 89 => ⟨S1536x64x16, .f32⟩
  | 90 => ⟨S_, .f32⟩
  | 91 => ⟨S1536x64x16, .f32⟩
  | 92 => ⟨S1536x64x16, .f32⟩
  | 93 => ⟨S_, .i32⟩
  | 94 => ⟨S1536x64x16, .i32⟩
  | 95 => ⟨S1536x64x16, .i32⟩
  | 96 => ⟨S1536x64x16, .f32⟩
  | 97 => ⟨S_, .f32⟩
  | 98 => ⟨S1536x64x16, .f32⟩
  | 99 => ⟨S1536x64x16, .f32⟩
  | 100 => ⟨S1536x64x16, .f32⟩
  | 101 => ⟨S1536x64x16, .f32⟩
  | 102 => ⟨S_, .i32⟩
  | 103 => ⟨S1536x64x16, .i32⟩
  | 104 => ⟨S1536x64x16, .i1⟩
  | 105 => ⟨S1536x64x16, .f32⟩
  | 106 => ⟨S1536x64x16, .f32⟩
  | 107 => ⟨S1536x64x16, .bf16⟩
  | 108 => ⟨S1536x64x16, .bf16⟩
  | 109 => ⟨S1536x64x16, .bf16⟩
  | 110 => ⟨S1536x1024, .bf16⟩
  | 111 => ⟨S1536x1024, .bf16⟩
  | 112 => ⟨S8x1024x1, .bf16⟩
  | 113 => ⟨S8x1024, .bf16⟩
  | 114 => ⟨S8x1536, .f32⟩
  | 115 => ⟨S8x1024x1, .bf16⟩
  | 116 => ⟨S8x1024, .bf16⟩
  | 117 => ⟨S8x1536, .f32⟩
  | 118 => ⟨S8x1536, .f32⟩
  | 119 => ⟨S8x768, .f32⟩
  | 120 => ⟨S8x768, .f32⟩
  | 121 => ⟨S8x768, .f32⟩
  | 122 => ⟨S8x768, .f32⟩
  | 123 => ⟨S_, .f32⟩
  | 124 => ⟨S8x768, .f32⟩
  | 125 => ⟨S8x768, .f32⟩
  | 126 => ⟨S_, .f32⟩
  | 127 => ⟨S8x768, .f32⟩
  | _ => ⟨S8x1x2048, .bf16⟩

abbrev hbmTy0_3 (i : Nat) : BufTy := match i % 128 with
  | 0 => ⟨S8x768, .f32⟩
  | 1 => ⟨S8x768, .f32⟩
  | 2 => ⟨S8x768, .f32⟩
  | 3 => ⟨S8x768, .bf16⟩
  | 4 => ⟨S8x384x2, .bf16⟩
  | 5 => ⟨S2048x24, .i32⟩
  | 6 => ⟨S_, .i32⟩
  | 7 => ⟨S2048x24, .i32⟩
  | 8 => ⟨S2048x24, .i32⟩
  | 9 => ⟨S2048x24, .f32⟩
  | 10 => ⟨S_, .f32⟩
  | 11 => ⟨S2048x24, .f32⟩
  | 12 => ⟨S2048x24, .f32⟩
  | 13 => ⟨S2048x24, .bf16⟩
  | 14 => ⟨S2048x24x1, .bf16⟩
  | 15 => ⟨S2048x24x16, .i32⟩
  | 16 => ⟨S_, .i32⟩
  | 17 => ⟨S2048x24x16, .i32⟩
  | 18 => ⟨S2048x24x16, .i32⟩
  | 19 => ⟨S_, .i32⟩
  | 20 => ⟨S2048x24x16, .i32⟩
  | 21 => ⟨S2048x24x16, .i32⟩
  | 22 => ⟨S_, .i32⟩
  | 23 => ⟨S2048x24x16, .i32⟩
  | 24 => ⟨S2048x24x16, .i32⟩
  | 25 => ⟨S_, .i32⟩
  | 26 => ⟨S2048x24x16, .i32⟩
  | 27 => ⟨S2048x24x16, .i32⟩
  | 28 => ⟨S_, .i32⟩
  | 29 => ⟨S2048x24x16, .i32⟩
  | 30 => ⟨S2048x24x16, .i32⟩
  | 31 => ⟨S2048x24x16, .f32⟩
  | 32 => ⟨S_, .i32⟩
  | 33 => ⟨S2048x24x16, .i32⟩
  | 34 => ⟨S2048x24x16, .i1⟩
  | 35 => ⟨S_, .f32⟩
  | 36 => ⟨S2048x24x16, .f32⟩
  | 37 => ⟨S2048x24x16, .f32⟩
  | 38 => ⟨S_, .f32⟩
  | 39 => ⟨S2048x24x16, .f32⟩
  | 40 => ⟨S2048x24x16, .f32⟩
  | 41 => ⟨S_, .f32⟩
  | 42 => ⟨S2048x24x16, .f32⟩
  | 43 => ⟨S2048x24x16, .f32⟩
  | 44 => ⟨S_, .i32⟩
  | 45 => ⟨S2048x24x16, .i32⟩
  | 46 => ⟨S2048x24x16, .i32⟩
  | 47 => ⟨S2048x24x16, .f32⟩
  | 48 => ⟨S_, .f32⟩
  | 49 => ⟨S2048x24x16, .f32⟩
  | 50 => ⟨S2048x24x16, .f32⟩
  | 51 => ⟨S2048x24x16, .f32⟩
  | 52 => ⟨S2048x24x16, .f32⟩
  | 53 => ⟨S_, .i32⟩
  | 54 => ⟨S2048x24x16, .i32⟩
  | 55 => ⟨S2048x24x16, .i1⟩
  | 56 => ⟨S2048x24x16, .f32⟩
  | 57 => ⟨S2048x24x16, .f32⟩
  | 58 => ⟨S2048x24x16, .bf16⟩
  | 59 => ⟨S2048x24x16, .bf16⟩
  | 60 => ⟨S2048x24x16, .bf16⟩
  | 61 => ⟨S_, .i32⟩
  | 62 => ⟨S2048x24x16, .i32⟩
  | 63 => ⟨S2048x24x16, .i32⟩
  | 64 => ⟨S_, .i32⟩
  | 65 => ⟨S2048x24x16, .i32⟩
  | 66 => ⟨S2048x24x16, .i32⟩
  | 67 => ⟨S_, .i32⟩
  | 68 => ⟨S2048x24x16, .i32⟩
  | 69 => ⟨S2048x24x16, .i32⟩
  | 70 => ⟨S_, .i32⟩
  | 71 => ⟨S2048x24x16, .i32⟩
  | 72 => ⟨S2048x24x16, .i32⟩
  | 73 => ⟨S_, .i32⟩
  | 74 => ⟨S2048x24x16, .i32⟩
  | 75 => ⟨S2048x24x16, .i32⟩
  | 76 => ⟨S2048x24x16, .f32⟩
  | 77 => ⟨S_, .i32⟩
  | 78 => ⟨S2048x24x16, .i32⟩
  | 79 => ⟨S2048x24x16, .i1⟩
  | 80 => ⟨S_, .f32⟩
  | 81 => ⟨S2048x24x16, .f32⟩
  | 82 => ⟨S2048x24x16, .f32⟩
  | 83 => ⟨S_, .f32⟩
  | 84 => ⟨S2048x24x16, .f32⟩
  | 85 => ⟨S2048x24x16, .f32⟩
  | 86 => ⟨S_, .f32⟩
  | 87 => ⟨S2048x24x16, .f32⟩
  | 88 => ⟨S2048x24x16, .f32⟩
  | 89 => ⟨S_, .i32⟩
  | 90 => ⟨S2048x24x16, .i32⟩
  | 91 => ⟨S2048x24x16, .i32⟩
  | 92 => ⟨S2048x24x16, .f32⟩
  | 93 => ⟨S_, .f32⟩
  | 94 => ⟨S2048x24x16, .f32⟩
  | 95 => ⟨S2048x24x16, .f32⟩
  | 96 => ⟨S2048x24x16, .f32⟩
  | 97 => ⟨S2048x24x16, .f32⟩
  | 98 => ⟨S_, .i32⟩
  | 99 => ⟨S2048x24x16, .i32⟩
  | 100 => ⟨S2048x24x16, .i1⟩
  | 101 => ⟨S2048x24x16, .f32⟩
  | 102 => ⟨S2048x24x16, .f32⟩
  | 103 => ⟨S2048x24x16, .bf16⟩
  | 104 => ⟨S2048x24x16, .bf16⟩
  | 105 => ⟨S2048x24x16, .bf16⟩
  | 106 => ⟨S2048x384, .bf16⟩
  | 107 => ⟨S2048x384, .bf16⟩
  | 108 => ⟨S8x384x1, .bf16⟩
  | 109 => ⟨S8x384, .bf16⟩
  | 110 => ⟨S8x2048, .f32⟩
  | 111 => ⟨S8x384x1, .bf16⟩
  | 112 => ⟨S8x384, .bf16⟩
  | 113 => ⟨S8x2048, .f32⟩
  | 114 => ⟨S8x2048, .f32⟩
  | 115 => ⟨S8x2048, .f32⟩
  | 116 => ⟨S8x2048, .bf16⟩
  | _ => ⟨S8x1x2048, .bf16⟩

abbrev hbmTy (i : Nat) : BufTy := match i / 128 with
  | 0 => hbmTy0_0 i
  | 1 => hbmTy0_1 i
  | 2 => hbmTy0_2 i
  | 3 => hbmTy0_3 i
  | _ => ⟨S8x1x2048, .bf16⟩

abbrev bufTy : (tb : Table) → Fin (tcTables nBuf tb) → BufTy
  | .hbm, ⟨i, _⟩ => hbmTy i
  | _, _ => ⟨S8x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_12 : Ref sig .tc := ⟨.hbm, 71, rfl⟩
abbrev main_v46 : Ref sig .tc := ⟨.hbm, 72, rfl⟩
abbrev main_v47 : Ref sig .tc := ⟨.hbm, 73, rfl⟩
abbrev main_c_13 : Ref sig .tc := ⟨.hbm, 74, rfl⟩
abbrev main_v48 : Ref sig .tc := ⟨.hbm, 75, rfl⟩
abbrev main_v49 : Ref sig .tc := ⟨.hbm, 76, rfl⟩
abbrev main_c_14 : Ref sig .tc := ⟨.hbm, 77, rfl⟩
abbrev main_v50 : Ref sig .tc := ⟨.hbm, 78, rfl⟩
abbrev main_v51 : Ref sig .tc := ⟨.hbm, 79, rfl⟩
abbrev main_c_15 : Ref sig .tc := ⟨.hbm, 80, rfl⟩
abbrev main_v52 : Ref sig .tc := ⟨.hbm, 81, rfl⟩
abbrev main_v53 : Ref sig .tc := ⟨.hbm, 82, rfl⟩
abbrev main_c_16 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_17 : Ref sig .tc := ⟨.hbm, 87, rfl⟩
abbrev main_v57 : Ref sig .tc := ⟨.hbm, 88, rfl⟩
abbrev main_v58 : Ref sig .tc := ⟨.hbm, 89, rfl⟩
abbrev main_cst_18 : Ref sig .tc := ⟨.hbm, 90, rfl⟩
abbrev main_v59 : Ref sig .tc := ⟨.hbm, 91, rfl⟩
abbrev main_v60 : Ref sig .tc := ⟨.hbm, 92, rfl⟩
abbrev main_cst_19 : Ref sig .tc := ⟨.hbm, 93, rfl⟩
abbrev main_v61 : Ref sig .tc := ⟨.hbm, 94, rfl⟩
abbrev main_v62 : Ref sig .tc := ⟨.hbm, 95, rfl⟩
abbrev main_cst_20 : Ref sig .tc := ⟨.hbm, 96, rfl⟩
abbrev main_v63 : Ref sig .tc := ⟨.hbm, 97, rfl⟩
abbrev main_v64 : Ref sig .tc := ⟨.hbm, 98, rfl⟩
abbrev main_c_21 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_22 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_23 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_call4_v0 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call5_v0 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call6_v0 : Ref sig .tc := ⟨.hbm, 131, rfl⟩
abbrev main_call6_v1 : Ref sig .tc := ⟨.hbm, 132, rfl⟩
abbrev main_call6_cst : Ref sig .tc := ⟨.hbm, 133, rfl⟩
abbrev main_call6_v2 : Ref sig .tc := ⟨.hbm, 134, rfl⟩
abbrev main_call6_v3 : Ref sig .tc := ⟨.hbm, 135, rfl⟩
abbrev main_call6_cst_0 : Ref sig .tc := ⟨.hbm, 136, rfl⟩
abbrev main_call6_v4 : Ref sig .tc := ⟨.hbm, 137, rfl⟩
abbrev main_call6_v5 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_c_24 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_25 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_c_26 : Ref sig .tc := ⟨.hbm, 156, rfl⟩
abbrev main_v107 : Ref sig .tc := ⟨.hbm, 157, rfl⟩
abbrev main_v108 : Ref sig .tc := ⟨.hbm, 158, rfl⟩
abbrev main_c_27 : Ref sig .tc := ⟨.hbm, 159, rfl⟩
abbrev main_v109 : Ref sig .tc := ⟨.hbm, 160, rfl⟩
abbrev main_v110 : Ref sig .tc := ⟨.hbm, 161, rfl⟩
abbrev main_c_28 : Ref sig .tc := ⟨.hbm, 162, rfl⟩
abbrev main_v111 : Ref sig .tc := ⟨.hbm, 163, rfl⟩
abbrev main_v112 : Ref sig .tc := ⟨.hbm, 164, rfl⟩
abbrev main_c_29 : Ref sig .tc := ⟨.hbm, 165, rfl⟩
abbrev main_v113 : Ref sig .tc := ⟨.hbm, 166, rfl⟩
abbrev main_v114 : Ref sig .tc := ⟨.hbm, 167, rfl⟩
abbrev main_c_30 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_c_31 : Ref sig .tc := ⟨.hbm, 172, rfl⟩
abbrev main_v118 : Ref sig .tc := ⟨.hbm, 173, rfl⟩
abbrev main_v119 : Ref sig .tc := ⟨.hbm, 174, rfl⟩
abbrev main_cst_32 : Ref sig .tc := ⟨.hbm, 175, rfl⟩
abbrev main_v120 : Ref sig .tc := ⟨.hbm, 176, rfl⟩
abbrev main_v121 : Ref sig .tc := ⟨.hbm, 177, rfl⟩
abbrev main_cst_33 : Ref sig .tc := ⟨.hbm, 178, rfl⟩
abbrev main_v122 : Ref sig .tc := ⟨.hbm, 179, rfl⟩
abbrev main_v123 : Ref sig .tc := ⟨.hbm, 180, rfl⟩
abbrev main_cst_34 : Ref sig .tc := ⟨.hbm, 181, rfl⟩
abbrev main_v124 : Ref sig .tc := ⟨.hbm, 182, rfl⟩
abbrev main_v125 : Ref sig .tc := ⟨.hbm, 183, rfl⟩
abbrev main_c_35 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_36 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_c_37 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_c_38 : Ref sig .tc := ⟨.hbm, 201, rfl⟩
abbrev main_v140 : Ref sig .tc := ⟨.hbm, 202, rfl⟩
abbrev main_v141 : Ref sig .tc := ⟨.hbm, 203, rfl⟩
abbrev main_c_39 : Ref sig .tc := ⟨.hbm, 204, rfl⟩
abbrev main_v142 : Ref sig .tc := ⟨.hbm, 205, rfl⟩
abbrev main_v143 : Ref sig .tc := ⟨.hbm, 206, rfl⟩
abbrev main_c_40 : Ref sig .tc := ⟨.hbm, 207, rfl⟩
abbrev main_v144 : Ref sig .tc := ⟨.hbm, 208, rfl⟩
abbrev main_v145 : Ref sig .tc := ⟨.hbm, 209, rfl⟩
abbrev main_c_41 : Ref sig .tc := ⟨.hbm, 210, rfl⟩
abbrev main_v146 : Ref sig .tc := ⟨.hbm, 211, rfl⟩
abbrev main_v147 : Ref sig .tc := ⟨.hbm, 212, rfl⟩
abbrev main_c_42 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_c_43 : Ref sig .tc := ⟨.hbm, 217, rfl⟩
abbrev main_v151 : Ref sig .tc := ⟨.hbm, 218, rfl⟩
abbrev main_v152 : Ref sig .tc := ⟨.hbm, 219, rfl⟩
abbrev main_cst_44 : Ref sig .tc := ⟨.hbm, 220, rfl⟩
abbrev main_v153 : Ref sig .tc := ⟨.hbm, 221, rfl⟩
abbrev main_v154 : Ref sig .tc := ⟨.hbm, 222, rfl⟩
abbrev main_cst_45 : Ref sig .tc := ⟨.hbm, 223, rfl⟩
abbrev main_v155 : Ref sig .tc := ⟨.hbm, 224, rfl⟩
abbrev main_v156 : Ref sig .tc := ⟨.hbm, 225, rfl⟩
abbrev main_cst_46 : Ref sig .tc := ⟨.hbm, 226, rfl⟩
abbrev main_v157 : Ref sig .tc := ⟨.hbm, 227, rfl⟩
abbrev main_v158 : Ref sig .tc := ⟨.hbm, 228, rfl⟩
abbrev main_c_47 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_cst_48 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_c_49 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_call11_v0 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_call12_v0 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_cst_50 : Ref sig .tc := ⟨.hbm, 263, rfl⟩
abbrev main_v188 : Ref sig .tc := ⟨.hbm, 264, rfl⟩
abbrev main_v189 : Ref sig .tc := ⟨.hbm, 265, rfl⟩
abbrev main_c_51 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_cst_52 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_c_53 : Ref sig .tc := ⟨.hbm, 276, rfl⟩
abbrev main_v198 : Ref sig .tc := ⟨.hbm, 277, rfl⟩
abbrev main_v199 : Ref sig .tc := ⟨.hbm, 278, rfl⟩
abbrev main_c_54 : Ref sig .tc := ⟨.hbm, 279, rfl⟩
abbrev main_v200 : Ref sig .tc := ⟨.hbm, 280, rfl⟩
abbrev main_v201 : Ref sig .tc := ⟨.hbm, 281, rfl⟩
abbrev main_c_55 : Ref sig .tc := ⟨.hbm, 282, rfl⟩
abbrev main_v202 : Ref sig .tc := ⟨.hbm, 283, rfl⟩
abbrev main_v203 : Ref sig .tc := ⟨.hbm, 284, rfl⟩
abbrev main_c_56 : Ref sig .tc := ⟨.hbm, 285, rfl⟩
abbrev main_v204 : Ref sig .tc := ⟨.hbm, 286, rfl⟩
abbrev main_v205 : Ref sig .tc := ⟨.hbm, 287, rfl⟩
abbrev main_c_57 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_c_58 : Ref sig .tc := ⟨.hbm, 292, rfl⟩
abbrev main_v209 : Ref sig .tc := ⟨.hbm, 293, rfl⟩
abbrev main_v210 : Ref sig .tc := ⟨.hbm, 294, rfl⟩
abbrev main_cst_59 : Ref sig .tc := ⟨.hbm, 295, rfl⟩
abbrev main_v211 : Ref sig .tc := ⟨.hbm, 296, rfl⟩
abbrev main_v212 : Ref sig .tc := ⟨.hbm, 297, rfl⟩
abbrev main_cst_60 : Ref sig .tc := ⟨.hbm, 298, rfl⟩
abbrev main_v213 : Ref sig .tc := ⟨.hbm, 299, rfl⟩
abbrev main_v214 : Ref sig .tc := ⟨.hbm, 300, rfl⟩
abbrev main_cst_61 : Ref sig .tc := ⟨.hbm, 301, rfl⟩
abbrev main_v215 : Ref sig .tc := ⟨.hbm, 302, rfl⟩
abbrev main_v216 : Ref sig .tc := ⟨.hbm, 303, rfl⟩
abbrev main_c_62 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_cst_63 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_c_64 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_c_65 : Ref sig .tc := ⟨.hbm, 321, rfl⟩
abbrev main_v231 : Ref sig .tc := ⟨.hbm, 322, rfl⟩
abbrev main_v232 : Ref sig .tc := ⟨.hbm, 323, rfl⟩
abbrev main_c_66 : Ref sig .tc := ⟨.hbm, 324, rfl⟩
abbrev main_v233 : Ref sig .tc := ⟨.hbm, 325, rfl⟩
abbrev main_v234 : Ref sig .tc := ⟨.hbm, 326, rfl⟩
abbrev main_c_67 : Ref sig .tc := ⟨.hbm, 327, rfl⟩
abbrev main_v235 : Ref sig .tc := ⟨.hbm, 328, rfl⟩
abbrev main_v236 : Ref sig .tc := ⟨.hbm, 329, rfl⟩
abbrev main_c_68 : Ref sig .tc := ⟨.hbm, 330, rfl⟩
abbrev main_v237 : Ref sig .tc := ⟨.hbm, 331, rfl⟩
abbrev main_v238 : Ref sig .tc := ⟨.hbm, 332, rfl⟩
abbrev main_c_69 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_c_70 : Ref sig .tc := ⟨.hbm, 337, rfl⟩
abbrev main_v242 : Ref sig .tc := ⟨.hbm, 338, rfl⟩
abbrev main_v243 : Ref sig .tc := ⟨.hbm, 339, rfl⟩
abbrev main_cst_71 : Ref sig .tc := ⟨.hbm, 340, rfl⟩
abbrev main_v244 : Ref sig .tc := ⟨.hbm, 341, rfl⟩
abbrev main_v245 : Ref sig .tc := ⟨.hbm, 342, rfl⟩
abbrev main_cst_72 : Ref sig .tc := ⟨.hbm, 343, rfl⟩
abbrev main_v246 : Ref sig .tc := ⟨.hbm, 344, rfl⟩
abbrev main_v247 : Ref sig .tc := ⟨.hbm, 345, rfl⟩
abbrev main_cst_73 : Ref sig .tc := ⟨.hbm, 346, rfl⟩
abbrev main_v248 : Ref sig .tc := ⟨.hbm, 347, rfl⟩
abbrev main_v249 : Ref sig .tc := ⟨.hbm, 348, rfl⟩
abbrev main_c_74 : Ref sig .tc := ⟨.hbm, 349, rfl⟩
abbrev main_v250 : Ref sig .tc := ⟨.hbm, 350, rfl⟩
abbrev main_v251 : Ref sig .tc := ⟨.hbm, 351, rfl⟩
abbrev main_v252 : Ref sig .tc := ⟨.hbm, 352, rfl⟩
abbrev main_cst_75 : Ref sig .tc := ⟨.hbm, 353, rfl⟩
abbrev main_v253 : Ref sig .tc := ⟨.hbm, 354, rfl⟩
abbrev main_v254 : Ref sig .tc := ⟨.hbm, 355, rfl⟩
abbrev main_v255 : Ref sig .tc := ⟨.hbm, 356, rfl⟩
abbrev main_v256 : Ref sig .tc := ⟨.hbm, 357, rfl⟩
abbrev main_c_76 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_v260 : Ref sig .tc := ⟨.hbm, 362, rfl⟩
abbrev main_v261 : Ref sig .tc := ⟨.hbm, 363, rfl⟩
abbrev main_v262 : Ref sig .tc := ⟨.hbm, 364, rfl⟩
abbrev main_v263 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_v269 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_call17_v0 : Ref sig .tc := ⟨.hbm, 377, rfl⟩
abbrev main_call17_v1 : Ref sig .tc := ⟨.hbm, 378, rfl⟩
abbrev main_call17_cst : Ref sig .tc := ⟨.hbm, 379, rfl⟩
abbrev main_call17_v2 : Ref sig .tc := ⟨.hbm, 380, rfl⟩
abbrev main_call17_v3 : Ref sig .tc := ⟨.hbm, 381, rfl⟩
abbrev main_call17_cst_0 : Ref sig .tc := ⟨.hbm, 382, rfl⟩
abbrev main_call17_v4 : Ref sig .tc := ⟨.hbm, 383, rfl⟩
abbrev main_call17_v5 : Ref sig .tc := ⟨.hbm, 384, rfl⟩
abbrev main_v275 : Ref sig .tc := ⟨.hbm, 385, rfl⟩
abbrev main_v276 : Ref sig .tc := ⟨.hbm, 386, rfl⟩
abbrev main_v277 : Ref sig .tc := ⟨.hbm, 387, rfl⟩
abbrev main_v278 : Ref sig .tc := ⟨.hbm, 388, rfl⟩
abbrev main_v279 : Ref sig .tc := ⟨.hbm, 389, rfl⟩
abbrev main_c_77 : Ref sig .tc := ⟨.hbm, 390, rfl⟩
abbrev main_v280 : Ref sig .tc := ⟨.hbm, 391, rfl⟩
abbrev main_v281 : Ref sig .tc := ⟨.hbm, 392, rfl⟩
abbrev main_v282 : Ref sig .tc := ⟨.hbm, 393, rfl⟩
abbrev main_cst_78 : Ref sig .tc := ⟨.hbm, 394, rfl⟩
abbrev main_v283 : Ref sig .tc := ⟨.hbm, 395, rfl⟩
abbrev main_v284 : Ref sig .tc := ⟨.hbm, 396, rfl⟩
abbrev main_v285 : Ref sig .tc := ⟨.hbm, 397, rfl⟩
abbrev main_v286 : Ref sig .tc := ⟨.hbm, 398, rfl⟩
abbrev main_v287 : Ref sig .tc := ⟨.hbm, 399, rfl⟩
abbrev main_c_79 : Ref sig .tc := ⟨.hbm, 400, rfl⟩
abbrev main_v288 : Ref sig .tc := ⟨.hbm, 401, rfl⟩
abbrev main_v289 : Ref sig .tc := ⟨.hbm, 402, rfl⟩
abbrev main_c_80 : Ref sig .tc := ⟨.hbm, 403, rfl⟩
abbrev main_v290 : Ref sig .tc := ⟨.hbm, 404, rfl⟩
abbrev main_v291 : Ref sig .tc := ⟨.hbm, 405, rfl⟩
abbrev main_c_81 : Ref sig .tc := ⟨.hbm, 406, rfl⟩
abbrev main_v292 : Ref sig .tc := ⟨.hbm, 407, rfl⟩
abbrev main_v293 : Ref sig .tc := ⟨.hbm, 408, rfl⟩
abbrev main_c_82 : Ref sig .tc := ⟨.hbm, 409, rfl⟩
abbrev main_v294 : Ref sig .tc := ⟨.hbm, 410, rfl⟩
abbrev main_v295 : Ref sig .tc := ⟨.hbm, 411, rfl⟩
abbrev main_c_83 : Ref sig .tc := ⟨.hbm, 412, rfl⟩
abbrev main_v296 : Ref sig .tc := ⟨.hbm, 413, rfl⟩
abbrev main_v297 : Ref sig .tc := ⟨.hbm, 414, rfl⟩
abbrev main_v298 : Ref sig .tc := ⟨.hbm, 415, rfl⟩
abbrev main_c_84 : Ref sig .tc := ⟨.hbm, 416, rfl⟩
abbrev main_v299 : Ref sig .tc := ⟨.hbm, 417, rfl⟩
abbrev main_v300 : Ref sig .tc := ⟨.hbm, 418, rfl⟩
abbrev main_cst_85 : Ref sig .tc := ⟨.hbm, 419, rfl⟩
abbrev main_v301 : Ref sig .tc := ⟨.hbm, 420, rfl⟩
abbrev main_v302 : Ref sig .tc := ⟨.hbm, 421, rfl⟩
abbrev main_cst_86 : Ref sig .tc := ⟨.hbm, 422, rfl⟩
abbrev main_v303 : Ref sig .tc := ⟨.hbm, 423, rfl⟩
abbrev main_v304 : Ref sig .tc := ⟨.hbm, 424, rfl⟩
abbrev main_cst_87 : Ref sig .tc := ⟨.hbm, 425, rfl⟩
abbrev main_v305 : Ref sig .tc := ⟨.hbm, 426, rfl⟩
abbrev main_v306 : Ref sig .tc := ⟨.hbm, 427, rfl⟩
abbrev main_c_88 : Ref sig .tc := ⟨.hbm, 428, rfl⟩
abbrev main_v307 : Ref sig .tc := ⟨.hbm, 429, rfl⟩
abbrev main_v308 : Ref sig .tc := ⟨.hbm, 430, rfl⟩
abbrev main_v309 : Ref sig .tc := ⟨.hbm, 431, rfl⟩
abbrev main_cst_89 : Ref sig .tc := ⟨.hbm, 432, rfl⟩
abbrev main_v310 : Ref sig .tc := ⟨.hbm, 433, rfl⟩
abbrev main_v311 : Ref sig .tc := ⟨.hbm, 434, rfl⟩
abbrev main_v312 : Ref sig .tc := ⟨.hbm, 435, rfl⟩
abbrev main_v313 : Ref sig .tc := ⟨.hbm, 436, rfl⟩
abbrev main_c_90 : Ref sig .tc := ⟨.hbm, 437, rfl⟩
abbrev main_v314 : Ref sig .tc := ⟨.hbm, 438, rfl⟩
abbrev main_v315 : Ref sig .tc := ⟨.hbm, 439, rfl⟩
abbrev main_v316 : Ref sig .tc := ⟨.hbm, 440, rfl⟩
abbrev main_v317 : Ref sig .tc := ⟨.hbm, 441, rfl⟩
abbrev main_v318 : Ref sig .tc := ⟨.hbm, 442, rfl⟩
abbrev main_v319 : Ref sig .tc := ⟨.hbm, 443, rfl⟩
abbrev main_v320 : Ref sig .tc := ⟨.hbm, 444, rfl⟩
abbrev main_c_91 : Ref sig .tc := ⟨.hbm, 445, rfl⟩
abbrev main_v321 : Ref sig .tc := ⟨.hbm, 446, rfl⟩
abbrev main_v322 : Ref sig .tc := ⟨.hbm, 447, rfl⟩
abbrev main_c_92 : Ref sig .tc := ⟨.hbm, 448, rfl⟩
abbrev main_v323 : Ref sig .tc := ⟨.hbm, 449, rfl⟩
abbrev main_v324 : Ref sig .tc := ⟨.hbm, 450, rfl⟩
abbrev main_c_93 : Ref sig .tc := ⟨.hbm, 451, rfl⟩
abbrev main_v325 : Ref sig .tc := ⟨.hbm, 452, rfl⟩
abbrev main_v326 : Ref sig .tc := ⟨.hbm, 453, rfl⟩
abbrev main_c_94 : Ref sig .tc := ⟨.hbm, 454, rfl⟩
abbrev main_v327 : Ref sig .tc := ⟨.hbm, 455, rfl⟩
abbrev main_v328 : Ref sig .tc := ⟨.hbm, 456, rfl⟩
abbrev main_c_95 : Ref sig .tc := ⟨.hbm, 457, rfl⟩
abbrev main_v329 : Ref sig .tc := ⟨.hbm, 458, rfl⟩
abbrev main_v330 : Ref sig .tc := ⟨.hbm, 459, rfl⟩
abbrev main_v331 : Ref sig .tc := ⟨.hbm, 460, rfl⟩
abbrev main_c_96 : Ref sig .tc := ⟨.hbm, 461, rfl⟩
abbrev main_v332 : Ref sig .tc := ⟨.hbm, 462, rfl⟩
abbrev main_v333 : Ref sig .tc := ⟨.hbm, 463, rfl⟩
abbrev main_cst_97 : Ref sig .tc := ⟨.hbm, 464, rfl⟩
abbrev main_v334 : Ref sig .tc := ⟨.hbm, 465, rfl⟩
abbrev main_v335 : Ref sig .tc := ⟨.hbm, 466, rfl⟩
abbrev main_cst_98 : Ref sig .tc := ⟨.hbm, 467, rfl⟩
abbrev main_v336 : Ref sig .tc := ⟨.hbm, 468, rfl⟩
abbrev main_v337 : Ref sig .tc := ⟨.hbm, 469, rfl⟩
abbrev main_cst_99 : Ref sig .tc := ⟨.hbm, 470, rfl⟩
abbrev main_v338 : Ref sig .tc := ⟨.hbm, 471, rfl⟩
abbrev main_v339 : Ref sig .tc := ⟨.hbm, 472, rfl⟩
abbrev main_c_100 : Ref sig .tc := ⟨.hbm, 473, rfl⟩
abbrev main_v340 : Ref sig .tc := ⟨.hbm, 474, rfl⟩
abbrev main_v341 : Ref sig .tc := ⟨.hbm, 475, rfl⟩
abbrev main_v342 : Ref sig .tc := ⟨.hbm, 476, rfl⟩
abbrev main_cst_101 : Ref sig .tc := ⟨.hbm, 477, rfl⟩
abbrev main_v343 : Ref sig .tc := ⟨.hbm, 478, rfl⟩
abbrev main_v344 : Ref sig .tc := ⟨.hbm, 479, rfl⟩
abbrev main_v345 : Ref sig .tc := ⟨.hbm, 480, rfl⟩
abbrev main_v346 : Ref sig .tc := ⟨.hbm, 481, rfl⟩
abbrev main_c_102 : Ref sig .tc := ⟨.hbm, 482, rfl⟩
abbrev main_v347 : Ref sig .tc := ⟨.hbm, 483, rfl⟩
abbrev main_v348 : Ref sig .tc := ⟨.hbm, 484, rfl⟩
abbrev main_v349 : Ref sig .tc := ⟨.hbm, 485, rfl⟩
abbrev main_v350 : Ref sig .tc := ⟨.hbm, 486, rfl⟩
abbrev main_v351 : Ref sig .tc := ⟨.hbm, 487, rfl⟩
abbrev main_v352 : Ref sig .tc := ⟨.hbm, 488, rfl⟩
abbrev main_v353 : Ref sig .tc := ⟨.hbm, 489, rfl⟩
abbrev main_v354 : Ref sig .tc := ⟨.hbm, 490, rfl⟩
abbrev main_v355 : Ref sig .tc := ⟨.hbm, 491, rfl⟩
abbrev main_v356 : Ref sig .tc := ⟨.hbm, 492, rfl⟩
abbrev main_v357 : Ref sig .tc := ⟨.hbm, 493, rfl⟩
abbrev main_v358 : Ref sig .tc := ⟨.hbm, 494, rfl⟩
abbrev main_v359 : Ref sig .tc := ⟨.hbm, 495, rfl⟩
abbrev main_v360 : Ref sig .tc := ⟨.hbm, 496, rfl⟩
abbrev main_v361 : Ref sig .tc := ⟨.hbm, 497, rfl⟩
abbrev main_v362 : Ref sig .tc := ⟨.hbm, 498, rfl⟩
abbrev main_v363 : Ref sig .tc := ⟨.hbm, 499, rfl⟩
abbrev main_v364 : Ref sig .tc := ⟨.hbm, 500, rfl⟩

abbrev nD : Nat := 1
abbrev τ : Topo := Topo.v7x

variable {F : FTy → Type} [FloatOps F]
-- ==== Proof.KernelIdeal.Pipe.lean ====
/- One transfer into a slot of the ring and the wait for it: what is held before the issue, in flight, and after. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Transfers
public import Idealize.ShloMosaic.Lib.Pipeline.FrameBody

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

section
variable (c : Dev nD) (sem : DmaSem sig) {S : Shape} (src : Memref sig .tc .hbm S .i8) (dst : Memref sig .tc .vmem S .i8)
  (q : PosShare TreeShare) (fs : BufTy.Contents (Elt F) src.view.ty)

/-- The source elements, read. -/
abbrev Lent : sProp 𝕄 := src.view.loc (c : Thread nD τ) ↦[src.view.set]{q} fs
/-- A slot nothing flies into: its cell at zero, its elements at some contents. -/
def Rest : sProp 𝕄 := iprop(semVal ((c : Thread nD τ), SemLoc.dma sem) 0 ∗ ∃ f, dst.view.loc (c : Thread nD τ) ↦[dst.view.set]{fullShare} f)
/-- A slot a transfer flies into. -/
def Fly : sProp 𝕄 := iprop(∃ f, Transfers.Flight (countersEmb : UEmb Counters 𝕄) (c : Thread nD τ) (SemLoc.dma sem) () dst.view.dmaCredit
  iprop((dst.view.loc (c : Thread nD τ) ↦[dst.view.set]{fullShare} dst.view.write (Elt F) f (ReadAs.same.apply (src.view.read (Elt F) fs)) Finset.univ) ∗ Lent c src q fs))
/-- A slot holding `v`, its cell at zero. -/
def Full (v : Vec F S .i8) : sProp 𝕄 := iprop(semVal ((c : Thread nD τ), SemLoc.dma sem) 0
  ∗ ∃ f, (dst.view.loc (c : Thread nD τ) ↦[dst.view.set]{fullShare} f) ∗ ⌜dst.view.read (Elt F) f = v⌝)

theorem rest_of_full (v : Vec F S .i8) : Full c sem dst v ⊢ (Rest c sem dst : sProp 𝕄) := by
  unfold Full Rest
  iintro ⟨Hv, %f, Hf, -⟩
  isplitl [Hv]; · iexact Hv
  iexists f; iexact Hf

variable (𝒱 : Variants) (bd : Option 𝒱.V)

/-- The issue. -/
theorem issue (hS : 0 < S.numel) (src' : Memref sig .tc .hbm S .i8) (dst' : Memref sig .tc .vmem S .i8) (sem' : DmaSem sig)
    (es : src' = src) (ed : dst' = dst) (em : sem' = sem) (h1 h2 h3) :
    iprop(Rest c sem dst ∗ Lent c src q fs)
      ⊢ wp frame (wpE (defs₀ (F := F)) 𝒱 (c : Thread nD τ) bd) Set.univ (Prog.lift (.enqueueDma src' (.here dst') (.dma sem') h1 h2 h3)) (fun _ => Fly c sem src dst q fs) := by
  subst es ed em
  unfold Rest Fly
  iintro ⟨⟨Hv, %f, Hd⟩, Hs⟩
  iapply (Transfers.wp_dmaLocal (countersEmb : UEmb Counters 𝕄) 𝒱 (c : Thread nD τ) bd () dst'.view.dmaCredit (View.amount_dma _ _) (by rw [← View.amount_dma dst'.view sem']; exact View.amount_pos _ _ hS) subset_rfl) $$ [Hs Hd Hv]
  · isplitl [Hs]; · iexact Hs
    isplitl [Hd]; · iexact Hd
    iexact Hv
  iintro HF
  rw [wp_ret]; imodintro
  iexists f
  iexact HF

/-- The wait. -/
theorem await {sp' : Space} {S' : Shape} {e' : EltTy} (srcw : Memref sig .tc sp' S' e') (dst' : Memref sig .tc .vmem S .i8) (sem' : DmaSem sig)
    (ed : dst' = dst) (em : sem' = sem) (h1 h2) :
    iprop(Fly c sem src dst q fs ∗ (∃ W, owes (c : Thread nD τ) 0 W))
      ⊢ wp frame (wpE (defs₀ (F := F)) 𝒱 (c : Thread nD τ) bd) Set.univ (Prog.lift (.waitDma2 sem' srcw dst' h1 h2))
          (fun _ => iprop(Full c sem dst (src.view.read (Elt F) fs) ∗ Lent c src q fs ∗ ∃ W, owes (c : Thread nD τ) 0 W)) := by
  subst ed em
  unfold Fly Full
  iintro ⟨⟨%f, HF⟩, %W, HO⟩
  iapply (Transfers.wp_waitLocal (countersEmb : UEmb Counters 𝕄) 𝒱 (c : Thread nD τ) bd () rfl) $$ [HF HO]
  · isplitl [HF]; · iexact HF
    iexact HO
  iintro ⟨⟨Hd, Hs⟩, Hv, HO⟩
  rw [wp_ret]; imodintro
  isplitl [Hv Hd]
  · isplitl [Hv]; · iexact Hv
    iexists _
    isplitl [Hd]; · iexact Hd
    ipureintro
    exact View.read_write_univ _ _
  isplitl [Hs]; · iexact Hs
  iexists _
  iexact HO

end

end Cert.KernelIdeal.Hand
-- ==== Proof.KernelIdeal.Ring.lean ====
/- The ring of four expert slots: per slot four pieces of weight, each with its own cell, and the state each slot is in
   at every trip of the routed loop. -/
module

public import proofs.«01_k».proof.Proof.KernelIdeal.Pipe
public import Idealize.ShloMosaic.Lib.Ring

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.Ring

/-- The cell slot `k`'s piece `j` completes on. -/
theorem cell_inb (k j : Fin 4) : ∀ a, (![k.val, j.val] : Fin 2 → ℕ) a + S1x1.size a ≤ S4x4.size a :=
  Fin.forall_fin_two.mpr ⟨by show k.val + 1 ≤ 4; omega, by show j.val + 1 ≤ 4; omega⟩
abbrev cell (arg22 : DmaSems sig S4x4) (k j : Fin 4) : DmaSem sig :=
  ((arg22.slice (Rect.unit (s := S4x4) ![k.val, j.val] S1x1.size (cell_inb k j))).squeeze S_ squeezes_S1x1_S_).sem
theorem cell_eq (arg22 : DmaSems sig S4x4) (k j : Fin 4) (off : Fin 2 → ℕ) (e : off = ![k.val, j.val]) (h) :
    ((arg22.slice (Rect.unit (s := S4x4) off S1x1.size h)).squeeze S_ squeezes_S1x1_S_).sem = cell arg22 k j := by subst e; rfl
/-- The read share of the weights a slot's transfers use. -/
abbrev tok (k : Fin 4) : PosShare TreeShare := Transfers.shareTok fullShare 4 k

theorem s13_inb (k : Fin 4) : ∀ a, (![k.val, 0, 0, 0] : Fin 4 → ℕ) a + S1x384x32x128.size a ≤ S4x384x32x128.size a := fun a => by
  match a with
  | 0 => show k.val + 1 ≤ 4; omega
  | 1 => show 0 + 384 ≤ 384; omega
  | 2 => show 0 + 32 ≤ 32; omega
  | 3 => show 0 + 128 ≤ 128; omega
/-- Slot `k` of ring buffer 0. -/
abbrev slot13 (arg13 : Memref sig .tc .vmem S4x384x32x128 .i8) (k : Fin 4) : Memref sig .tc .vmem S384x32x128 .i8 :=
  (arg13.slice (Rect.unit (s := S4x384x32x128) ![k.val, 0, 0, 0] S1x384x32x128.size (s13_inb k)) (fun _ => rfl)).squeeze S384x32x128 squeezes_S1x384x32x128_S384x32x128
theorem slot13_eq (arg13 : Memref sig .tc .vmem S4x384x32x128 .i8) (k : Fin 4) (off : Fin 4 → ℕ) (e : off = ![k.val, 0, 0, 0]) (h) :
    (arg13.slice (Rect.unit (s := S4x384x32x128) off S1x384x32x128.size h) (fun _ => rfl)).squeeze S384x32x128 squeezes_S1x384x32x128_S384x32x128 = slot13 arg13 k := by subst e; rfl
theorem e4_inb (e : Fin 64) : ∀ a, (![e.val, 0, 0, 0] : Fin 4 → ℕ) a + S1x384x32x128.size a ≤ S64x384x32x128.size a := fun a => by
  match a with
  | 0 => show e.val + 1 ≤ 64; omega
  | 1 => show 0 + 384 ≤ 384; omega
  | 2 => show 0 + 32 ≤ 32; omega
  | 3 => show 0 + 128 ≤ 128; omega
/-- Expert `e`'s part of weight array 0. -/
abbrev src4 (arg4 : Memref sig .tc .hbm S64x384x32x128 .i8) (e : Fin 64) : Memref sig .tc .hbm S384x32x128 .i8 :=
  (arg4.slice (Rect.unit (s := S64x384x32x128) ![e.val, 0, 0, 0] S1x384x32x128.size (e4_inb e)) (fun _ => rfl)).squeeze S384x32x128 squeezes_S1x384x32x128_S384x32x128
theorem src4_eq (arg4 : Memref sig .tc .hbm S64x384x32x128 .i8) (e : Fin 64) (off : Fin 4 → ℕ) (he : off = ![e.val, 0, 0, 0]) (h) :
    (arg4.slice (Rect.unit (s := S64x384x32x128) off S1x384x32x128.size h) (fun _ => rfl)).squeeze S384x32x128 squeezes_S1x384x32x128_S384x32x128 = src4 arg4 e := by subst he; rfl
theorem src4_sub (arg4 : Memref sig .tc .hbm S64x384x32x128 .i8) (e : Fin 64) : (src4 arg4 e).view.set ⊆ arg4.view.set := by
  show ((arg4.view.slice _).reshape _ _).set ⊆ _
  rw [View.set_reshape]
  exact View.set_slice_subset _ _

theorem s14_inb (k : Fin 4) : ∀ a, (![k.val, 0, 0] : Fin 3 → ℕ) a + S1x64x1536.size a ≤ S4x64x1536.size a := fun a => by
  match a with
  | 0 => show k.val + 1 ≤ 4; omega
  | 1 => show 0 + 64 ≤ 64; omega
  | 2 => show 0 + 1536 ≤ 1536; omega
/-- Slot `k` of ring buffer 1. -/
abbrev slot14 (arg14 : Memref sig .tc .vmem S4x64x1536 .i8) (k : Fin 4) : Memref sig .tc .vmem S64x1536 .i8 :=
  (arg14.slice (Rect.unit (s := S4x64x1536) ![k.val, 0, 0] S1x64x1536.size (s14_inb k)) (fun _ => rfl)).squeeze S64x1536 squeezes_S1x64x1536_S64x1536
theorem slot14_eq (arg14 : Memref sig .tc .vmem S4x64x1536 .i8) (k : Fin 4) (off : Fin 3 → ℕ) (e : off = ![k.val, 0, 0]) (h) :
    (arg14.slice (Rect.unit (s := S4x64x1536) off S1x64x1536.size h) (fun _ => rfl)).squeeze S64x1536 squeezes_S1x64x1536_S64x1536 = slot14 arg14 k := by subst e; rfl
theorem e5_inb (e : Fin 64) : ∀ a, (![e.val, 0, 0] : Fin 3 → ℕ) a + S1x64x1536.size a ≤ S64x64x1536.size a := fun a => by
  match a with
  | 0 => show e.val + 1 ≤ 64; omega
  | 1 => show 0 + 64 ≤ 64; omega
  | 2 => show 0 + 1536 ≤ 1536; omega
/-- Expert `e`'s part of weight array 1. -/
abbrev src5 (arg5 : Memref sig .tc .hbm S64x64x1536 .i8) (e : Fin 64) : Memref sig .tc .hbm S64x1536 .i8 :=
  (arg5.slice (Rect.unit (s := S64x64x1536) ![e.val, 0, 0] S1x64x1536.size (e5_inb e)) (fun _ => rfl)).squeeze S64x1536 squeezes_S1x64x1536_S64x1536
theorem src5_eq (arg5 : Memref sig .tc .hbm S64x64x1536 .i8) (e : Fin 64) (off : Fin 3 → ℕ) (he : off = ![e.val, 0, 0]) (h) :
    (arg5.slice (Rect.unit (s := S64x64x1536) off S1x64x1536.size h) (fun _ => rfl)).squeeze S64x1536 squeezes_S1x64x1536_S64x1536 = src5 arg5 e := by subst he; rfl
theorem src5_sub (arg5 : Memref sig .tc .hbm S64x64x1536 .i8) (e : Fin 64) : (src5 arg5 e).view.set ⊆ arg5.view.set := by
  show ((arg5.view.slice _).reshape _ _).set ⊆ _
  rw [View.set_reshape]
  exact View.set_slice_subset _ _

theorem s15_inb (k : Fin 4) : ∀ a, (![k.val, 0, 0, 0] : Fin 4 → ℕ) a + S1x192x32x128.size a ≤ S4x192x32x128.size a := fun a => by
  match a with
  | 0 => show k.val + 1 ≤ 4; omega
  | 1 => show 0 + 192 ≤ 192; omega
  | 2 => show 0 + 32 ≤ 32; omega
  | 3 => show 0 + 128 ≤ 128; omega
/-- Slot `k` of ring buffer 2. -/
abbrev slot15 (arg15 : Memref sig .tc .vmem S4x192x32x128 .i8) (k : Fin 4) : Memref sig .tc .vmem S192x32x128 .i8 :=
  (arg15.slice (Rect.unit (s := S4x192x32x128) ![k.val, 0, 0, 0] S1x192x32x128.size (s15_inb k)) (fun _ => rfl)).squeeze S192x32x128 squeezes_S1x192x32x128_S192x32x128
theorem slot15_eq (arg15 : Memref sig .tc .vmem S4x192x32x128 .i8) (k : Fin 4) (off : Fin 4 → ℕ) (e : off = ![k.val, 0, 0, 0]) (h) :
    (arg15.slice (Rect.unit (s := S4x192x32x128) off S1x192x32x128.size h) (fun _ => rfl)).squeeze S192x32x128 squeezes_S1x192x32x128_S192x32x128 = slot15 arg15 k := by subst e; rfl
theorem e6_inb (e : Fin 64) : ∀ a, (![e.val, 0, 0, 0] : Fin 4 → ℕ) a + S1x192x32x128.size a ≤ S64x192x32x128.size a := fun a => by
  match a with
  | 0 => show e.val + 1 ≤ 64; omega
  | 1 => show 0 + 192 ≤ 192; omega
  | 2 => show 0 + 32 ≤ 32; omega
  | 3 => show 0 + 128 ≤ 128; omega
/-- Expert `e`'s part of weight array 2. -/
abbrev src6 (arg6 : Memref sig .tc .hbm S64x192x32x128 .i8) (e : Fin 64) : Memref sig .tc .hbm S192x32x128 .i8 :=
  (arg6.slice (Rect.unit (s := S64x192x32x128) ![e.val, 0, 0, 0] S1x192x32x128.size (e6_inb e)) (fun _ => rfl)).squeeze S192x32x128 squeezes_S1x192x32x128_S192x32x128
theorem src6_eq (arg6 : Memref sig .tc .hbm S64x192x32x128 .i8) (e : Fin 64) (off : Fin 4 → ℕ) (he : off = ![e.val, 0, 0, 0]) (h) :
    (arg6.slice (Rect.unit (s := S64x192x32x128) off S1x192x32x128.size h) (fun _ => rfl)).squeeze S192x32x128 squeezes_S1x192x32x128_S192x32x128 = src6 arg6 e := by subst he; rfl
theorem src6_sub (arg6 : Memref sig .tc .hbm S64x192x32x128 .i8) (e : Fin 64) : (src6 arg6 e).view.set ⊆ arg6.view.set := by
  show ((arg6.view.slice _).reshape _ _).set ⊆ _
  rw [View.set_reshape]
  exact View.set_slice_subset _ _

theorem s16_inb (k : Fin 4) : ∀ a, (![k.val, 0, 0] : Fin 3 → ℕ) a + S1x24x2048.size a ≤ S4x24x2048.size a := fun a => by
  match a with
  | 0 => show k.val + 1 ≤ 4; omega
  | 1 => show 0 + 24 ≤ 24; omega
  | 2 => show 0 + 2048 ≤ 2048; omega
/-- Slot `k` of ring buffer 3. -/
abbrev slot16 (arg16 : Memref sig .tc .vmem S4x24x2048 .i8) (k : Fin 4) : Memref sig .tc .vmem S24x2048 .i8 :=
  (arg16.slice (Rect.unit (s := S4x24x2048) ![k.val, 0, 0] S1x24x2048.size (s16_inb k)) (fun _ => rfl)).squeeze S24x2048 squeezes_S1x24x2048_S24x2048
theorem slot16_eq (arg16 : Memref sig .tc .vmem S4x24x2048 .i8) (k : Fin 4) (off : Fin 3 → ℕ) (e : off = ![k.val, 0, 0]) (h) :
    (arg16.slice (Rect.unit (s := S4x24x2048) off S1x24x2048.size h) (fun _ => rfl)).squeeze S24x2048 squeezes_S1x24x2048_S24x2048 = slot16 arg16 k := by subst e; rfl
theorem e7_inb (e : Fin 64) : ∀ a, (![e.val, 0, 0] : Fin 3 → ℕ) a + S1x24x2048.size a ≤ S64x24x2048.size a := fun a => by
  match a with
  | 0 => show e.val + 1 ≤ 64; omega
  | 1 => show 0 + 24 ≤ 24; omega
  | 2 => show 0 + 2048 ≤ 2048; omega
/-- Expert `e`'s part of weight array 3. -/
abbrev src7 (arg7 : Memref sig .tc .hbm S64x24x2048 .i8) (e : Fin 64) : Memref sig .tc .hbm S24x2048 .i8 :=
  (arg7.slice (Rect.unit (s := S64x24x2048) ![e.val, 0, 0] S1x24x2048.size (e7_inb e)) (fun _ => rfl)).squeeze S24x2048 squeezes_S1x24x2048_S24x2048
theorem src7_eq (arg7 : Memref sig .tc .hbm S64x24x2048 .i8) (e : Fin 64) (off : Fin 3 → ℕ) (he : off = ![e.val, 0, 0]) (h) :
    (arg7.slice (Rect.unit (s := S64x24x2048) off S1x24x2048.size h) (fun _ => rfl)).squeeze S24x2048 squeezes_S1x24x2048_S24x2048 = src7 arg7 e := by subst he; rfl
theorem src7_sub (arg7 : Memref sig .tc .hbm S64x24x2048 .i8) (e : Fin 64) : (src7 arg7 e).view.set ⊆ arg7.view.set := by
  show ((arg7.view.slice _).reshape _ _).set ⊆ _
  rw [View.set_reshape]
  exact View.set_slice_subset _ _

section
variable (c : Dev nD) (arg4 : Memref sig .tc .hbm S64x384x32x128 .i8) (arg5 : Memref sig .tc .hbm S64x64x1536 .i8) (arg6 : Memref sig .tc .hbm S64x192x32x128 .i8) (arg7 : Memref sig .tc .hbm S64x24x2048 .i8) (arg13 : Memref sig .tc .vmem S4x384x32x128 .i8) (arg14 : Memref sig .tc .vmem S4x64x1536 .i8) (arg15 : Memref sig .tc .vmem S4x192x32x128 .i8) (arg16 : Memref sig .tc .vmem S4x24x2048 .i8) (arg22 : DmaSems sig S4x4) (f4 : BufTy.Contents (Elt F) arg4.view.ty) (f5 : BufTy.Contents (Elt F) arg5.view.ty) (f6 : BufTy.Contents (Elt F) arg6.view.ty) (f7 : BufTy.Contents (Elt F) arg7.view.ty)

/-- What slot `k` holds: nothing in flight, or an expert's four pieces. -/
def Slot (k : Fin 4) : Option (Fin 64) → sProp 𝕄
  | none => iprop(iprop(Rest c (cell arg22 k 0) (slot13 arg13 k) ∗ (arg4.view.loc (c : Thread nD τ) ↦[arg4.view.set]{tok k} f4)) ∗ iprop(Rest c (cell arg22 k 1) (slot14 arg14 k) ∗ (arg5.view.loc (c : Thread nD τ) ↦[arg5.view.set]{tok k} f5)) ∗ iprop(Rest c (cell arg22 k 2) (slot15 arg15 k) ∗ (arg6.view.loc (c : Thread nD τ) ↦[arg6.view.set]{tok k} f6)) ∗ iprop(Rest c (cell arg22 k 3) (slot16 arg16 k) ∗ (arg7.view.loc (c : Thread nD τ) ↦[arg7.view.set]{tok k} f7)))
  | some e => iprop(iprop(Fly c (cell arg22 k 0) (src4 arg4 e) (slot13 arg13 k) (tok k) f4 ∗ (arg4.view.loc (c : Thread nD τ) ↦[arg4.view.set \ (src4 arg4 e).view.set]{tok k} f4)) ∗ iprop(Fly c (cell arg22 k 1) (src5 arg5 e) (slot14 arg14 k) (tok k) f5 ∗ (arg5.view.loc (c : Thread nD τ) ↦[arg5.view.set \ (src5 arg5 e).view.set]{tok k} f5)) ∗ iprop(Fly c (cell arg22 k 2) (src6 arg6 e) (slot15 arg15 k) (tok k) f6 ∗ (arg6.view.loc (c : Thread nD τ) ↦[arg6.view.set \ (src6 arg6 e).view.set]{tok k} f6)) ∗ iprop(Fly c (cell arg22 k 3) (src7 arg7 e) (slot16 arg16 k) (tok k) f7 ∗ (arg7.view.loc (c : Thread nD τ) ↦[arg7.view.set \ (src7 arg7 e).view.set]{tok k} f7)))
/-- A slot whose expert has landed. -/
def Landed (k : Fin 4) (e : Fin 64) : sProp 𝕄 := iprop(iprop(Full c (cell arg22 k 0) (slot13 arg13 k) ((src4 arg4 e).view.read (Elt F) f4) ∗ (arg4.view.loc (c : Thread nD τ) ↦[arg4.view.set]{tok k} f4)) ∗ iprop(Full c (cell arg22 k 1) (slot14 arg14 k) ((src5 arg5 e).view.read (Elt F) f5) ∗ (arg5.view.loc (c : Thread nD τ) ↦[arg5.view.set]{tok k} f5)) ∗ iprop(Full c (cell arg22 k 2) (slot15 arg15 k) ((src6 arg6 e).view.read (Elt F) f6) ∗ (arg6.view.loc (c : Thread nD τ) ↦[arg6.view.set]{tok k} f6)) ∗ iprop(Full c (cell arg22 k 3) (slot16 arg16 k) ((src7 arg7 e).view.read (Elt F) f7) ∗ (arg7.view.loc (c : Thread nD τ) ↦[arg7.view.set]{tok k} f7)))

theorem slot_of_landed (k : Fin 4) (e : Fin 64) : Landed c arg4 arg5 arg6 arg7 arg13 arg14 arg15 arg16 arg22 f4 f5 f6 f7 k e ⊢ Slot c arg4 arg5 arg6 arg7 arg13 arg14 arg15 arg16 arg22 f4 f5 f6 f7 k none := by
  unfold Landed Slot
  iintro ⟨⟨A0, B0⟩, ⟨A1, B1⟩, ⟨A2, B2⟩, A3, B3⟩
  isplitl [A0 B0]
  · isplitl [A0]; · iapply (rest_of_full _ _ _ _) $$ A0
    iexact B0
  isplitl [A1 B1]
  · isplitl [A1]; · iapply (rest_of_full _ _ _ _) $$ A1
    iexact B1
  isplitl [A2 B2]
  · isplitl [A2]; · iapply (rest_of_full _ _ _ _) $$ A2
    iexact B2
  isplitl [A3]; · iapply (rest_of_full _ _ _ _) $$ A3
  iexact B3
/-- A slot set apart, its state known. -/
theorem open_none (st : Fin 4 → Option (Fin 64)) (k : Fin 4) (h : st k = none) : AtW (Slot c arg4 arg5 arg6 arg7 arg13 arg14 arg15 arg16 arg22 f4 f5 f6 f7) st ⊢ iprop((iprop(Rest c (cell arg22 k 0) (slot13 arg13 k) ∗ (arg4.view.loc (c : Thread nD τ) ↦[arg4.view.set]{tok k} f4)) ∗ iprop(Rest c (cell arg22 k 1) (slot14 arg14 k) ∗ (arg5.view.loc (c : Thread nD τ) ↦[arg5.view.set]{tok k} f5)) ∗ iprop(Rest c (cell arg22 k 2) (slot15 arg15 k) ∗ (arg6.view.loc (c : Thread nD τ) ↦[arg6.view.set]{tok k} f6)) ∗ iprop(Rest c (cell arg22 k 3) (slot16 arg16 k) ∗ (arg7.view.loc (c : Thread nD τ) ↦[arg7.view.set]{tok k} f7))) ∗ restW (Slot c arg4 arg5 arg6 arg7 arg13 arg14 arg15 arg16 arg22 f4 f5 f6 f7) st k) := by
  rw [AtW_focus (Slot c arg4 arg5 arg6 arg7 arg13 arg14 arg15 arg16 arg22 f4 f5 f6 f7) st k, h]; exact .rfl
theorem open_some (st : Fin 4 → Option (Fin 64)) (k : Fin 4) (e : Fin 64) (h : st k = some e) : AtW (Slot c arg4 arg5 arg6 arg7 arg13 arg14 arg15 arg16 arg22 f4 f5 f6 f7) st ⊢ iprop((iprop(Fly c (cell arg22 k 0) (src4 arg4 e) (slot13 arg13 k) (tok k) f4 ∗ (arg4.view.loc (c : Thread nD τ) ↦[arg4.view.set \ (src4 arg4 e).view.set]{tok k} f4)) ∗ iprop(Fly c (cell arg22 k 1) (src5 arg5 e) (slot14 arg14 k) (tok k) f5 ∗ (arg5.view.loc (c : Thread nD τ) ↦[arg5.view.set \ (src5 arg5 e).view.set]{tok k} f5)) ∗ iprop(Fly c (cell arg22 k 2) (src6 arg6 e) (slot15 arg15 k) (tok k) f6 ∗ (arg6.view.loc (c : Thread nD τ) ↦[arg6.view.set \ (src6 arg6 e).view.set]{tok k} f6)) ∗ iprop(Fly c (cell arg22 k 3) (src7 arg7 e) (slot16 arg16 k) (tok k) f7 ∗ (arg7.view.loc (c : Thread nD τ) ↦[arg7.view.set \ (src7 arg7 e).view.set]{tok k} f7))) ∗ restW (Slot c arg4 arg5 arg6 arg7 arg13 arg14 arg15 arg16 arg22 f4 f5 f6 f7) st k) := by
  rw [AtW_focus (Slot c arg4 arg5 arg6 arg7 arg13 arg14 arg15 arg16 arg22 f4 f5 f6 f7) st k, h]; exact .rfl
/-- A slot put back. -/
theorem close_none (st : Fin 4 → Option (Fin 64)) (k : Fin 4) : iprop((iprop(Rest c (cell arg22 k 0) (slot13 arg13 k) ∗ (arg4.view.loc (c : Thread nD τ) ↦[arg4.view.set]{tok k} f4)) ∗ iprop(Rest c (cell arg22 k 1) (slot14 arg14 k) ∗ (arg5.view.loc (c : Thread nD τ) ↦[arg5.view.set]{tok k} f5)) ∗ iprop(Rest c (cell arg22 k 2) (slot15 arg15 k) ∗ (arg6.view.loc (c : Thread nD τ) ↦[arg6.view.set]{tok k} f6)) ∗ iprop(Rest c (cell arg22 k 3) (slot16 arg16 k) ∗ (arg7.view.loc (c : Thread nD τ) ↦[arg7.view.set]{tok k} f7))) ∗ restW (Slot c arg4 arg5 arg6 arg7 arg13 arg14 arg15 arg16 arg22 f4 f5 f6 f7) st k) ⊢ AtW (Slot c arg4 arg5 arg6 arg7 arg13 arg14 arg15 arg16 arg22 f4 f5 f6 f7) (Function.update st k none) :=
  AtW_update (Slot c arg4 arg5 arg6 arg7 arg13 arg14 arg15 arg16 arg22 f4 f5 f6 f7) st k none
theorem close_some (st : Fin 4 → Option (Fin 64)) (k : Fin 4) (e : Fin 64) : iprop((iprop(Fly c (cell arg22 k 0) (src4 arg4 e) (slot13 arg13 k) (tok k) f4 ∗ (arg4.view.loc (c : Thread nD τ) ↦[arg4.view.set \ (src4 arg4 e).view.set]{tok k} f4)) ∗ iprop(Fly c (cell arg22 k 1) (src5 arg5 e) (slot14 arg14 k) (tok k) f5 ∗ (arg5.view.loc (c : Thread nD τ) ↦[arg5.view.set \ (src5 arg5 e).view.set]{tok k} f5)) ∗ iprop(Fly c (cell arg22 k 2) (src6 arg6 e) (slot15 arg15 k) (tok k) f6 ∗ (arg6.view.loc (c : Thread nD τ) ↦[arg6.view.set \ (src6 arg6 e).view.set]{tok k} f6)) ∗ iprop(Fly c (cell arg22 k 3) (src7 arg7 e) (slot16 arg16 k) (tok k) f7 ∗ (arg7.view.loc (c : Thread nD τ) ↦[arg7.view.set \ (src7 arg7 e).view.set]{tok k} f7))) ∗ restW (Slot c arg4 arg5 arg6 arg7 arg13 arg14 arg15 arg16 arg22 f4 f5 f6 f7) st k) ⊢ AtW (Slot c arg4 arg5 arg6 arg7 arg13 arg14 arg15 arg16 arg22 f4 f5 f6 f7) (Function.update st k (some e)) :=
  AtW_update (Slot c arg4 arg5 arg6 arg7 arg13 arg14 arg15 arg16 arg22 f4 f5 f6 f7) st k (some e)
theorem close_landed (st : Fin 4 → Option (Fin 64)) (k : Fin 4) (e : Fin 64) : iprop(Landed c arg4 arg5 arg6 arg7 arg13 arg14 arg15 arg16 arg22 f4 f5 f6 f7 k e ∗ restW (Slot c arg4 arg5 arg6 arg7 arg13 arg14 arg15 arg16 arg22 f4 f5 f6 f7) st k) ⊢ AtW (Slot c arg4 arg5 arg6 arg7 arg13 arg14 arg15 arg16 arg22 f4 f5 f6 f7) (Function.update st k none) := by
  iintro ⟨HL, HR⟩
  iapply (AtW_update (Slot c arg4 arg5 arg6 arg7 arg13 arg14 arg15 arg16 arg22 f4 f5 f6 f7) st k none)
  isplitl [HL]; · iapply (slot_of_landed c arg4 arg5 arg6 arg7 arg13 arg14 arg15 arg16 arg22 f4 f5 f6 f7 k e) $$ HL
  iexact HR
end

section
variable (c : Dev nD) (arg4 : Memref sig .tc .hbm S64x384x32x128 .i8) (arg13 : Memref sig .tc .vmem S4x384x32x128 .i8) (arg22 : DmaSems sig S4x4) (f4 : BufTy.Contents (Elt F) arg4.view.ty)
  (𝒱 : Variants) (bd : Option 𝒱.V)

/-- Piece 0: its issue, whatever way the program spells the slot, the cell and the source. -/
theorem issue0 (k : Fin 4) (e : Fin 64) (os : Fin 2 → ℕ) (es : os = ![k.val, 0]) (od : Fin 4 → ℕ) (ed : od = ![k.val, 0, 0, 0]) (oa : Fin 4 → ℕ) (ea : oa = ![e.val, 0, 0, 0]) (i1 i2 i3 h1 h2 h3) :
    iprop(Rest c (cell arg22 k 0) (slot13 arg13 k) ∗ (arg4.view.loc (c : Thread nD τ) ↦[arg4.view.set]{tok k} f4))
      ⊢ wp frame (wpE (defs₀ (F := F)) 𝒱 (c : Thread nD τ) bd) Set.univ
        (Prog.lift (.enqueueDma ((arg4.slice (Rect.unit (s := S64x384x32x128) oa S1x384x32x128.size i1) (fun _ => rfl)).squeeze S384x32x128 squeezes_S1x384x32x128_S384x32x128)
          (.here ((arg13.slice (Rect.unit (s := S4x384x32x128) od S1x384x32x128.size i2) (fun _ => rfl)).squeeze S384x32x128 squeezes_S1x384x32x128_S384x32x128))
          (.dma ((arg22.slice (Rect.unit (s := S4x4) os S1x1.size i3)).squeeze S_ squeezes_S1x1_S_).sem) h1 h2 h3))
        (fun _ => iprop(Fly c (cell arg22 k 0) (src4 arg4 e) (slot13 arg13 k) (tok k) f4 ∗ (arg4.view.loc (c : Thread nD τ) ↦[arg4.view.set \ (src4 arg4 e).view.set]{tok k} f4))) := by
  iintro ⟨HR, HA⟩
  ihave HA := (pointsTo_split_subset (src4_sub arg4 e)).1 $$ HA
  icases HA with ⟨HS, HA⟩
  iapply (wp_wand_r frame (wpE (defs₀ (F := F)) 𝒱 (c : Thread nD τ) bd) Set.univ)
  isplitl [HR HS]
  · iapply (issue c (cell arg22 k 0) (src4 arg4 e) (slot13 arg13 k) (tok k) f4 𝒱 bd (by decide) _ _ _ (src4_eq arg4 e oa ea i1) (slot13_eq arg13 k od ed i2) (cell_eq arg22 k 0 os es i3) h1 h2 h3)
    isplitl [HR]; · iexact HR
    iexact HS
  · iintro %_ HF
    isplitl [HF]; · iexact HF
    iexact HA

/-- Piece 0: its wait. -/
theorem await0 (k : Fin 4) (e : Fin 64) (os : Fin 2 → ℕ) (es : os = ![k.val, 0]) (od : Fin 4 → ℕ) (ed : od = ![k.val, 0, 0, 0]) {sp' : Space} {S' : Shape} {e' : EltTy} (srcw : Memref sig .tc sp' S' e') (i2 i3 h1 h2) :
    iprop(iprop(Fly c (cell arg22 k 0) (src4 arg4 e) (slot13 arg13 k) (tok k) f4 ∗ (arg4.view.loc (c : Thread nD τ) ↦[arg4.view.set \ (src4 arg4 e).view.set]{tok k} f4)) ∗ ∃ W, owes (c : Thread nD τ) 0 W)
      ⊢ wp frame (wpE (defs₀ (F := F)) 𝒱 (c : Thread nD τ) bd) Set.univ
        (Prog.lift (.waitDma2 ((arg22.slice (Rect.unit (s := S4x4) os S1x1.size i3)).squeeze S_ squeezes_S1x1_S_).sem srcw
          ((arg13.slice (Rect.unit (s := S4x384x32x128) od S1x384x32x128.size i2) (fun _ => rfl)).squeeze S384x32x128 squeezes_S1x384x32x128_S384x32x128) h1 h2))
        (fun _ => iprop(iprop(Full c (cell arg22 k 0) (slot13 arg13 k) ((src4 arg4 e).view.read (Elt F) f4) ∗ (arg4.view.loc (c : Thread nD τ) ↦[arg4.view.set]{tok k} f4)) ∗ ∃ W, owes (c : Thread nD τ) 0 W)) := by
  iintro ⟨⟨HF, HA⟩, HW⟩
  iapply (wp_wand_r frame (wpE (defs₀ (F := F)) 𝒱 (c : Thread nD τ) bd) Set.univ)
  isplitl [HF HW]
  · iapply (await c (cell arg22 k 0) (src4 arg4 e) (slot13 arg13 k) (tok k) f4 𝒱 bd srcw _ _ (slot13_eq arg13 k od ed i2) (cell_eq arg22 k 0 os es i3) h1 h2)
    isplitl [HF]; · iexact HF
    iexact HW
  · iintro %_ ⟨HF, HS, HW⟩
    isplitl [HF HS HA]
    · isplitl [HF]; · iexact HF
      iapply (pointsTo_split_subset (src4_sub arg4 e)).2
      isplitl [HS]; · iexact HS
      iexact HA
    iexact HW

end

section
variable (c : Dev nD) (arg5 : Memref sig .tc .hbm S64x64x1536 .i8) (arg14 : Memref sig .tc .vmem S4x64x1536 .i8) (arg22 : DmaSems sig S4x4) (f5 : BufTy.Contents (Elt F) arg5.view.ty)
  (𝒱 : Variants) (bd : Option 𝒱.V)

/-- Piece 1: its issue, whatever way the program spells the slot, the cell and the source. -/
theorem issue1 (k : Fin 4) (e : Fin 64) (os : Fin 2 → ℕ) (es : os = ![k.val, 1]) (od : Fin 3 → ℕ) (ed : od = ![k.val, 0, 0]) (oa : Fin 3 → ℕ) (ea : oa = ![e.val, 0, 0]) (i1 i2 i3 h1 h2 h3) :
    iprop(Rest c (cell arg22 k 1) (slot14 arg14 k) ∗ (arg5.view.loc (c : Thread nD τ) ↦[arg5.view.set]{tok k} f5))
      ⊢ wp frame (wpE (defs₀ (F := F)) 𝒱 (c : Thread nD τ) bd) Set.univ
        (Prog.lift (.enqueueDma ((arg5.slice (Rect.unit (s := S64x64x1536) oa S1x64x1536.size i1) (fun _ => rfl)).squeeze S64x1536 squeezes_S1x64x1536_S64x1536)
          (.here ((arg14.slice (Rect.unit (s := S4x64x1536) od S1x64x1536.size i2) (fun _ => rfl)).squeeze S64x1536 squeezes_S1x64x1536_S64x1536))
          (.dma ((arg22.slice (Rect.unit (s := S4x4) os S1x1.size i3)).squeeze S_ squeezes_S1x1_S_).sem) h1 h2 h3))
        (fun _ => iprop(Fly c (cell arg22 k 1) (src5 arg5 e) (slot14 arg14 k) (tok k) f5 ∗ (arg5.view.loc (c : Thread nD τ) ↦[arg5.view.set \ (src5 arg5 e).view.set]{tok k} f5))) := by
  iintro ⟨HR, HA⟩
  ihave HA := (pointsTo_split_subset (src5_sub arg5 e)).1 $$ HA
  icases HA with ⟨HS, HA⟩
  iapply (wp_wand_r frame (wpE (defs₀ (F := F)) 𝒱 (c : Thread nD τ) bd) Set.univ)
  isplitl [HR HS]
  · iapply (issue c (cell arg22 k 1) (src5 arg5 e) (slot14 arg14 k) (tok k) f5 𝒱 bd (by decide) _ _ _ (src5_eq arg5 e oa ea i1) (slot14_eq arg14 k od ed i2) (cell_eq arg22 k 1 os es i3) h1 h2 h3)
    isplitl [HR]; · iexact HR
    iexact HS
  · iintro %_ HF
    isplitl [HF]; · iexact HF
    iexact HA

/-- Piece 1: its wait. -/
theorem await1 (k : Fin 4) (e : Fin 64) (os : Fin 2 → ℕ) (es : os = ![k.val, 1]) (od : Fin 3 → ℕ) (ed : od = ![k.val, 0, 0]) {sp' : Space} {S' : Shape} {e' : EltTy} (srcw : Memref sig .tc sp' S' e') (i2 i3 h1 h2) :
    iprop(iprop(Fly c (cell arg22 k 1) (src5 arg5 e) (slot14 arg14 k) (tok k) f5 ∗ (arg5.view.loc (c : Thread nD τ) ↦[arg5.view.set \ (src5 arg5 e).view.set]{tok k} f5)) ∗ ∃ W, owes (c : Thread nD τ) 0 W)
      ⊢ wp frame (wpE (defs₀ (F := F)) 𝒱 (c : Thread nD τ) bd) Set.univ
        (Prog.lift (.waitDma2 ((arg22.slice (Rect.unit (s := S4x4) os S1x1.size i3)).squeeze S_ squeezes_S1x1_S_).sem srcw
          ((arg14.slice (Rect.unit (s := S4x64x1536) od S1x64x1536.size i2) (fun _ => rfl)).squeeze S64x1536 squeezes_S1x64x1536_S64x1536) h1 h2))
        (fun _ => iprop(iprop(Full c (cell arg22 k 1) (slot14 arg14 k) ((src5 arg5 e).view.read (Elt F) f5) ∗ (arg5.view.loc (c : Thread nD τ) ↦[arg5.view.set]{tok k} f5)) ∗ ∃ W, owes (c : Thread nD τ) 0 W)) := by
  iintro ⟨⟨HF, HA⟩, HW⟩
  iapply (wp_wand_r frame (wpE (defs₀ (F := F)) 𝒱 (c : Thread nD τ) bd) Set.univ)
  isplitl [HF HW]
  · iapply (await c (cell arg22 k 1) (src5 arg5 e) (slot14 arg14 k) (tok k) f5 𝒱 bd srcw _ _ (slot14_eq arg14 k od ed i2) (cell_eq arg22 k 1 os es i3) h1 h2)
    isplitl [HF]; · iexact HF
    iexact HW
  · iintro %_ ⟨HF, HS, HW⟩
    isplitl [HF HS HA]
    · isplitl [HF]; · iexact HF
      iapply (pointsTo_split_subset (src5_sub arg5 e)).2
      isplitl [HS]; · iexact HS
      iexact HA
    iexact HW

end

section
variable (c : Dev nD) (arg6 : Memref sig .tc .hbm S64x192x32x128 .i8) (arg15 : Memref sig .tc .vmem S4x192x32x128 .i8) (arg22 : DmaSems sig S4x4) (f6 : BufTy.Contents (Elt F) arg6.view.ty)
  (𝒱 : Variants) (bd : Option 𝒱.V)

/-- Piece 2: its issue, whatever way the program spells the slot, the cell and the source. -/
theorem issue2 (k : Fin 4) (e : Fin 64) (os : Fin 2 → ℕ) (es : os = ![k.val, 2]) (od : Fin 4 → ℕ) (ed : od = ![k.val, 0, 0, 0]) (oa : Fin 4 → ℕ) (ea : oa = ![e.val, 0, 0, 0]) (i1 i2 i3 h1 h2 h3) :
    iprop(Rest c (cell arg22 k 2) (slot15 arg15 k) ∗ (arg6.view.loc (c : Thread nD τ) ↦[arg6.view.set]{tok k} f6))
      ⊢ wp frame (wpE (defs₀ (F := F)) 𝒱 (c : Thread nD τ) bd) Set.univ
        (Prog.lift (.enqueueDma ((arg6.slice (Rect.unit (s := S64x192x32x128) oa S1x192x32x128.size i1) (fun _ => rfl)).squeeze S192x32x128 squeezes_S1x192x32x128_S192x32x128)
          (.here ((arg15.slice (Rect.unit (s := S4x192x32x128) od S1x192x32x128.size i2) (fun _ => rfl)).squeeze S192x32x128 squeezes_S1x192x32x128_S192x32x128))
          (.dma ((arg22.slice (Rect.unit (s := S4x4) os S1x1.size i3)).squeeze S_ squeezes_S1x1_S_).sem) h1 h2 h3))
        (fun _ => iprop(Fly c (cell arg22 k 2) (src6 arg6 e) (slot15 arg15 k) (tok k) f6 ∗ (arg6.view.loc (c : Thread nD τ) ↦[arg6.view.set \ (src6 arg6 e).view.set]{tok k} f6))) := by
  iintro ⟨HR, HA⟩
  ihave HA := (pointsTo_split_subset (src6_sub arg6 e)).1 $$ HA
  icases HA with ⟨HS, HA⟩
  iapply (wp_wand_r frame (wpE (defs₀ (F := F)) 𝒱 (c : Thread nD τ) bd) Set.univ)
  isplitl [HR HS]
  · iapply (issue c (cell arg22 k 2) (src6 arg6 e) (slot15 arg15 k) (tok k) f6 𝒱 bd (by decide) _ _ _ (src6_eq arg6 e oa ea i1) (slot15_eq arg15 k od ed i2) (cell_eq arg22 k 2 os es i3) h1 h2 h3)
    isplitl [HR]; · iexact HR
    iexact HS
  · iintro %_ HF
    isplitl [HF]; · iexact HF
    iexact HA

/-- Piece 2: its wait. -/
theorem await2 (k : Fin 4) (e : Fin 64) (os : Fin 2 → ℕ) (es : os = ![k.val, 2]) (od : Fin 4 → ℕ) (ed : od = ![k.val, 0, 0, 0]) {sp' : Space} {S' : Shape} {e' : EltTy} (srcw : Memref sig .tc sp' S' e') (i2 i3 h1 h2) :
    iprop(iprop(Fly c (cell arg22 k 2) (src6 arg6 e) (slot15 arg15 k) (tok k) f6 ∗ (arg6.view.loc (c : Thread nD τ) ↦[arg6.view.set \ (src6 arg6 e).view.set]{tok k} f6)) ∗ ∃ W, owes (c : Thread nD τ) 0 W)
      ⊢ wp frame (wpE (defs₀ (F := F)) 𝒱 (c : Thread nD τ) bd) Set.univ
        (Prog.lift (.waitDma2 ((arg22.slice (Rect.unit (s := S4x4) os S1x1.size i3)).squeeze S_ squeezes_S1x1_S_).sem srcw
          ((arg15.slice (Rect.unit (s := S4x192x32x128) od S1x192x32x128.size i2) (fun _ => rfl)).squeeze S192x32x128 squeezes_S1x192x32x128_S192x32x128) h1 h2))
        (fun _ => iprop(iprop(Full c (cell arg22 k 2) (slot15 arg15 k) ((src6 arg6 e).view.read (Elt F) f6) ∗ (arg6.view.loc (c : Thread nD τ) ↦[arg6.view.set]{tok k} f6)) ∗ ∃ W, owes (c : Thread nD τ) 0 W)) := by
  iintro ⟨⟨HF, HA⟩, HW⟩
  iapply (wp_wand_r frame (wpE (defs₀ (F := F)) 𝒱 (c : Thread nD τ) bd) Set.univ)
  isplitl [HF HW]
  · iapply (await c (cell arg22 k 2) (src6 arg6 e) (slot15 arg15 k) (tok k) f6 𝒱 bd srcw _ _ (slot15_eq arg15 k od ed i2) (cell_eq arg22 k 2 os es i3) h1 h2)
    isplitl [HF]; · iexact HF
    iexact HW
  · iintro %_ ⟨HF, HS, HW⟩
    isplitl [HF HS HA]
    · isplitl [HF]; · iexact HF
      iapply (pointsTo_split_subset (src6_sub arg6 e)).2
      isplitl [HS]; · iexact HS
      iexact HA
    iexact HW

end

section
variable (c : Dev nD) (arg7 : Memref sig .tc .hbm S64x24x2048 .i8) (arg16 : Memref sig .tc .vmem S4x24x2048 .i8) (arg22 : DmaSems sig S4x4) (f7 : BufTy.Contents (Elt F) arg7.view.ty)
  (𝒱 : Variants) (bd : Option 𝒱.V)

/-- Piece 3: its issue, whatever way the program spells the slot, the cell and the source. -/
theorem issue3 (k : Fin 4) (e : Fin 64) (os : Fin 2 → ℕ) (es : os = ![k.val, 3]) (od : Fin 3 → ℕ) (ed : od = ![k.val, 0, 0]) (oa : Fin 3 → ℕ) (ea : oa = ![e.val, 0, 0]) (i1 i2 i3 h1 h2 h3) :
    iprop(Rest c (cell arg22 k 3) (slot16 arg16 k) ∗ (arg7.view.loc (c : Thread nD τ) ↦[arg7.view.set]{tok k} f7))
      ⊢ wp frame (wpE (defs₀ (F := F)) 𝒱 (c : Thread nD τ) bd) Set.univ
        (Prog.lift (.enqueueDma ((arg7.slice (Rect.unit (s := S64x24x2048) oa S1x24x2048.size i1) (fun _ => rfl)).squeeze S24x2048 squeezes_S1x24x2048_S24x2048)
          (.here ((arg16.slice (Rect.unit (s := S4x24x2048) od S1x24x2048.size i2) (fun _ => rfl)).squeeze S24x2048 squeezes_S1x24x2048_S24x2048))
          (.dma ((arg22.slice (Rect.unit (s := S4x4) os S1x1.size i3)).squeeze S_ squeezes_S1x1_S_).sem) h1 h2 h3))
        (fun _ => iprop(Fly c (cell arg22 k 3) (src7 arg7 e) (slot16 arg16 k) (tok k) f7 ∗ (arg7.view.loc (c : Thread nD τ) ↦[arg7.view.set \ (src7 arg7 e).view.set]{tok k} f7))) := by
  iintro ⟨HR, HA⟩
  ihave HA := (pointsTo_split_subset (src7_sub arg7 e)).1 $$ HA
  icases HA with ⟨HS, HA⟩
  iapply (wp_wand_r frame (wpE (defs₀ (F := F)) 𝒱 (c : Thread nD τ) bd) Set.univ)
  isplitl [HR HS]
  · iapply (issue c (cell arg22 k 3) (src7 arg7 e) (slot16 arg16 k) (tok k) f7 𝒱 bd (by decide) _ _ _ (src7_eq arg7 e oa ea i1) (slot16_eq arg16 k od ed i2) (cell_eq arg22 k 3 os es i3) h1 h2 h3)
    isplitl [HR]; · iexact HR
    iexact HS
  · iintro %_ HF
    isplitl [HF]; · iexact HF
    iexact HA

/-- Piece 3: its wait. -/
theorem await3 (k : Fin 4) (e : Fin 64) (os : Fin 2 → ℕ) (es : os = ![k.val, 3]) (od : Fin 3 → ℕ) (ed : od = ![k.val, 0, 0]) {sp' : Space} {S' : Shape} {e' : EltTy} (srcw : Memref sig .tc sp' S' e') (i2 i3 h1 h2) :
    iprop(iprop(Fly c (cell arg22 k 3) (src7 arg7 e) (slot16 arg16 k) (tok k) f7 ∗ (arg7.view.loc (c : Thread nD τ) ↦[arg7.view.set \ (src7 arg7 e).view.set]{tok k} f7)) ∗ ∃ W, owes (c : Thread nD τ) 0 W)
      ⊢ wp frame (wpE (defs₀ (F := F)) 𝒱 (c : Thread nD τ) bd) Set.univ
        (Prog.lift (.waitDma2 ((arg22.slice (Rect.unit (s := S4x4) os S1x1.size i3)).squeeze S_ squeezes_S1x1_S_).sem srcw
          ((arg16.slice (Rect.unit (s := S4x24x2048) od S1x24x2048.size i2) (fun _ => rfl)).squeeze S24x2048 squeezes_S1x24x2048_S24x2048) h1 h2))
        (fun _ => iprop(iprop(Full c (cell arg22 k 3) (slot16 arg16 k) ((src7 arg7 e).view.read (Elt F) f7) ∗ (arg7.view.loc (c : Thread nD τ) ↦[arg7.view.set]{tok k} f7)) ∗ ∃ W, owes (c : Thread nD τ) 0 W)) := by
  iintro ⟨⟨HF, HA⟩, HW⟩
  iapply (wp_wand_r frame (wpE (defs₀ (F := F)) 𝒱 (c : Thread nD τ) bd) Set.univ)
  isplitl [HF HW]
  · iapply (await c (cell arg22 k 3) (src7 arg7 e) (slot16 arg16 k) (tok k) f7 𝒱 bd srcw _ _ (slot16_eq arg16 k od ed i2) (cell_eq arg22 k 3 os es i3) h1 h2)
    isplitl [HF]; · iexact HF
    iexact HW
  · iintro %_ ⟨HF, HS, HW⟩
    isplitl [HF HS HA]
    · isplitl [HF]; · iexact HF
      iapply (pointsTo_split_subset (src7_sub arg7 e)).2
      isplitl [HS]; · iexact HS
      iexact HA
    iexact HW

end

/-! ## The states, trip by trip -/

/-- The expert the list names at position `j`. -/
def exAt (le : ℕ → BitVec 32) (j : ℕ) : Fin 64 := ⟨(le j).toNat % 64, Nat.mod_lt _ (by decide)⟩

/-- At the start of trip `t` slot `k` has in flight the one of the next three experts that goes there, if the list has it. -/
def stAt (n : ℕ) (le : ℕ → BitVec 32) (t : ℕ) (k : Fin 4) : Option (Fin 64) :=
  if (k.val + 3 * t + 3) % 4 < 3 ∧ t + (k.val + 3 * t + 3) % 4 < n then some (exAt le (t + (k.val + 3 * t + 3) % 4)) else none

/-- Trip `t`'s issue goes to a free slot; -/
theorem stAt_free (n : ℕ) (le : ℕ → BitVec 32) (t : ℕ) (k : Fin 4) (hk : k.val = t % 4) : stAt n le t k = none := by
  unfold stAt; rw [if_neg]; omega
/-- and its wait is on the slot of its own expert. -/
theorem stAt_own (n : ℕ) (le : ℕ → BitVec 32) (t : ℕ) (k : Fin 4) (hk : k.val = (t + 1) % 4) (ht : t < n) : stAt n le t k = some (exAt le t) := by
  unfold stAt
  have : (k.val + 3 * t + 3) % 4 = 0 := by omega
  rw [this, if_pos ⟨by omega, ht⟩]; rfl
/-- With an issue, -/
theorem stAt_step (n : ℕ) (le : ℕ → BitVec 32) (t : ℕ) (k k' : Fin 4) (hk : k.val = t % 4) (hk' : k'.val = (t + 1) % 4) (h : t + 3 < n) :
    Function.update (Function.update (stAt n le t) k (some (exAt le (t + 3)))) k' none = stAt n le (t + 1) := by
  funext j
  have hj := j.isLt
  unfold stAt
  by_cases e1 : j = k'
  · subst e1; rw [Function.update_self, if_neg]; omega
  rw [Function.update_of_ne e1]
  by_cases e2 : j = k
  · subst e2; rw [Function.update_self]
    have : (j.val + 3 * (t + 1) + 3) % 4 = 2 := by omega
    rw [this, if_pos ⟨by omega, by omega⟩]
  rw [Function.update_of_ne e2]
  have h1 : j.val ≠ k'.val := fun h => e1 (Fin.ext h)
  have h2 : j.val ≠ k.val := fun h => e2 (Fin.ext h)
  have : t + 1 + (j.val + 3 * (t + 1) + 3) % 4 = t + (j.val + 3 * t + 3) % 4 := by omega
  rw [this]
  congr 1
  apply propext
  omega
/-- or without one, the trip leaves the next trip's states. -/
theorem stAt_stop (n : ℕ) (le : ℕ → BitVec 32) (t : ℕ) (k' : Fin 4) (hk' : k'.val = (t + 1) % 4) (h : ¬t + 3 < n) :
    Function.update (stAt n le t) k' none = stAt n le (t + 1) := by
  funext j
  have hj := j.isLt
  unfold stAt
  by_cases e1 : j = k'
  · subst e1; rw [Function.update_self, if_neg]; omega
  rw [Function.update_of_ne e1]
  have h1 : j.val ≠ k'.val := fun h => e1 (Fin.ext h)
  by_cases h2 : j.val = t % 4
  · rw [if_neg (by omega), if_neg (by omega)]
  have : t + 1 + (j.val + 3 * (t + 1) + 3) % 4 = t + (j.val + 3 * t + 3) % 4 := by omega
  rw [this]
  congr 1
  apply propext
  omega
theorem stAt_end (n : ℕ) (le : ℕ → BitVec 32) (k : Fin 4) : stAt n le n k = none := by
  unfold stAt; rw [if_neg]; omega

end Cert.KernelIdeal.Hand
-- ==== Proof.KernelIdeal.Slots.lean ====
/- The ring as the launch hands it over and takes it back: the four buffers whole, the sixteen cells at zero, the routed weights. -/
module

public import proofs.«01_k».proof.Proof.KernelIdeal.Ring
public import proofs.«01_k».proof.Proof.Gen.KernelIdeal.Launch

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.Ring

theorem entails_of_eq {P Q : sProp 𝕄} (e : P = Q) : P ⊢ Q := e ▸ .rfl
theorem bigSep4 (Φ : Fin 4 → sProp 𝕄) : bigSep Finset.univ Φ = iprop(Φ (0 : Fin 4) ∗ Φ (1 : Fin 4) ∗ Φ (2 : Fin 4) ∗ Φ (3 : Fin 4)) :=
  bigSep_univ_eq_bigSepL [(0 : Fin 4), (1 : Fin 4), (2 : Fin 4), (3 : Fin 4)] (by decide) (by decide) Φ
/-- A whole buffer, as a memref holds it and as the launch does. -/
theorem pt_whole (c : Dev nD) (b : Ref sig .tc) (q : PosShare TreeShare) (f : Buf (Elt F) ((c : Thread nD τ).loc b)) :
    (((Memref.whole b).view.loc (c : Thread nD τ) ↦[(Memref.whole b).view.set]{q} f) : sProp 𝕄) = ((c : Thread nD τ).loc b ↦{q} f) := by
  show (_ ↦[(View.whole b).set]{q} f) = _
  rw [View.set_whole]

abbrev sc13 : Memref sig .tc .vmem S4x384x32x128 .i8 := Memref.whole cc0_scratch0
abbrev sc14 : Memref sig .tc .vmem S4x64x1536 .i8 := Memref.whole cc0_scratch1
abbrev sc15 : Memref sig .tc .vmem S4x192x32x128 .i8 := Memref.whole cc0_scratch2
abbrev sc16 : Memref sig .tc .vmem S4x24x2048 .i8 := Memref.whole cc0_scratch3
abbrev sc17 : Memref sig .tc .vmem S8x2048 .f32 := Memref.whole cc0_scratch4
abbrev sc18 : Memref sig .tc .vmem S8x1536 .f32 := Memref.whole cc0_scratch5
abbrev sc19 : Memref sig .tc .vmem S8x768 .bf16 := Memref.whole cc0_scratch6
abbrev sc20 : Memref sig .tc .smem S65 .i32 := Memref.whole cc0_scratch7
abbrev sc21 : Memref sig .tc .smem S64 .i32 := Memref.whole cc0_scratch8
abbrev hb4 : Memref sig .tc .hbm S64x384x32x128 .i8 := Memref.whole main_v5
abbrev hb5 : Memref sig .tc .hbm S64x64x1536 .i8 := Memref.whole main_v6
abbrev hb6 : Memref sig .tc .hbm S64x192x32x128 .i8 := Memref.whole main_v9
abbrev hb7 : Memref sig .tc .hbm S64x24x2048 .i8 := Memref.whole main_v10
abbrev hb8 : Memref sig .tc .hbm S384x32x128 .i8 := Memref.whole main_v13
abbrev hb9 : Memref sig .tc .hbm S64x1536 .i8 := Memref.whole main_v14
abbrev hb10 : Memref sig .tc .hbm S192x32x128 .i8 := Memref.whole main_v17
abbrev hb11 : Memref sig .tc .hbm S24x2048 .i8 := Memref.whole main_v18

abbrev slotSet13 (k : Fin 4) : Finset S4x384x32x128.Idx := (Rect.unit (s := S4x384x32x128) ![k.val, 0, 0, 0] S1x384x32x128.size (s13_inb k)).set
theorem slotSet13_eq (k : Fin 4) : (slot13 sc13 k).view.set = slotSet13 k := by
  simp only [slot13, Memref.view_squeeze, View.set_reshape]; exact View.set_slice_whole _ _
theorem slotSet13_disjoint (k k' : Fin 4) (h : k ≠ k') : Disjoint (slotSet13 k) (slotSet13 k') :=
  lead_disjoint (s := S4x384x32x128) (0 : Fin 4) 1 (fun k : Fin 4 => (![k.val, 0, 0, 0] : Fin 4 → ℕ)) S1x384x32x128.size s13_inb (fun k => by simp) rfl k k' h
theorem slotSet13_cover : Finset.univ.biUnion slotSet13 = Finset.univ :=
  lead_cover (s := S4x384x32x128) (0 : Fin 4) 1 (fun k : Fin 4 => (![k.val, 0, 0, 0] : Fin 4 → ℕ)) S1x384x32x128.size s13_inb (fun k => by simp)
    (fun k a ha => by fin_cases a <;> first | exact absurd rfl ha | rfl) rfl (fun a ha => by fin_cases a <;> first | exact absurd rfl ha | rfl) rfl
theorem slotPt13 (c : Dev nD) (k : Fin 4) (f : Buf (Elt F) ((c : Thread nD τ).loc cc0_scratch0)) :
    (((slot13 sc13 k).view.loc (c : Thread nD τ) ↦[(slot13 sc13 k).view.set]{fullShare} f) : sProp 𝕄) = ((c : Thread nD τ).loc cc0_scratch0 ↦[slotSet13 k]{fullShare} f) := by
  rw [slotSet13_eq]
theorem slots13_in (c : Dev nD) :
    (iprop(∃ f, ((c : Thread nD τ).loc cc0_scratch0 ↦{fullShare} f)) : sProp 𝕄) ⊢ iprop((∃ f, (slot13 sc13 0).view.loc (c : Thread nD τ) ↦[(slot13 sc13 0).view.set]{fullShare} f) ∗ (∃ f, (slot13 sc13 1).view.loc (c : Thread nD τ) ↦[(slot13 sc13 1).view.set]{fullShare} f) ∗ (∃ f, (slot13 sc13 2).view.loc (c : Thread nD τ) ↦[(slot13 sc13 2).view.set]{fullShare} f) ∗ (∃ f, (slot13 sc13 3).view.loc (c : Thread nD τ) ↦[(slot13 sc13 3).view.set]{fullShare} f)) := by
  iintro ⟨%f, H⟩
  ihave H4 := (entails_of_eq ((pointsTo_blocks (Ix := Unit) (Name := ℕ) (U := Pipeline.UD sig nD τ) (Lvl := ℕ) (ℓ := (c : Thread nD τ).loc cc0_scratch0) (q := fullShare) slotSet13 slotSet13_disjoint slotSet13_cover f).trans (bigSep4 _))) $$ H
  icases H4 with ⟨H0, H1, H2, H3⟩
  isplitl [H0]; · iexists f; iapply (entails_of_eq (slotPt13 c 0 f).symm); iexact H0
  isplitl [H1]; · iexists f; iapply (entails_of_eq (slotPt13 c 1 f).symm); iexact H1
  isplitl [H2]; · iexists f; iapply (entails_of_eq (slotPt13 c 2 f).symm); iexact H2
  iexists f; iapply (entails_of_eq (slotPt13 c 3 f).symm); iexact H3
theorem slots13_out (c : Dev nD) :
    (iprop((∃ f, (slot13 sc13 0).view.loc (c : Thread nD τ) ↦[(slot13 sc13 0).view.set]{fullShare} f) ∗ (∃ f, (slot13 sc13 1).view.loc (c : Thread nD τ) ↦[(slot13 sc13 1).view.set]{fullShare} f) ∗ (∃ f, (slot13 sc13 2).view.loc (c : Thread nD τ) ↦[(slot13 sc13 2).view.set]{fullShare} f) ∗ (∃ f, (slot13 sc13 3).view.loc (c : Thread nD τ) ↦[(slot13 sc13 3).view.set]{fullShare} f)) : sProp 𝕄) ⊢ iprop(∃ f, ((c : Thread nD τ).loc cc0_scratch0 ↦{fullShare} f)) := by
  iintro ⟨⟨%g0, H0⟩, ⟨%g1, H1⟩, ⟨%g2, H2⟩, %g3, H3⟩
  iapply ((entails_of_eq (bigSep4 _).symm).trans (pointsTo_blocks_join_exists (Ix := Unit) (Name := ℕ) (U := Pipeline.UD sig nD τ) (Lvl := ℕ) (ℓ := (c : Thread nD τ).loc cc0_scratch0) (q := fullShare) slotSet13 slotSet13_disjoint slotSet13_cover g0))
  isplitl [H0]; · iexists g0; iapply (entails_of_eq (slotPt13 c 0 g0)); iexact H0
  isplitl [H1]; · iexists g1; iapply (entails_of_eq (slotPt13 c 1 g1)); iexact H1
  isplitl [H2]; · iexists g2; iapply (entails_of_eq (slotPt13 c 2 g2)); iexact H2
  iexists g3; iapply (entails_of_eq (slotPt13 c 3 g3)); iexact H3

abbrev slotSet14 (k : Fin 4) : Finset S4x64x1536.Idx := (Rect.unit (s := S4x64x1536) ![k.val, 0, 0] S1x64x1536.size (s14_inb k)).set
theorem slotSet14_eq (k : Fin 4) : (slot14 sc14 k).view.set = slotSet14 k := by
  simp only [slot14, Memref.view_squeeze, View.set_reshape]; exact View.set_slice_whole _ _
theorem slotSet14_disjoint (k k' : Fin 4) (h : k ≠ k') : Disjoint (slotSet14 k) (slotSet14 k') :=
  lead_disjoint (s := S4x64x1536) (0 : Fin 3) 1 (fun k : Fin 4 => (![k.val, 0, 0] : Fin 3 → ℕ)) S1x64x1536.size s14_inb (fun k => by simp) rfl k k' h
theorem slotSet14_cover : Finset.univ.biUnion slotSet14 = Finset.univ :=
  lead_cover (s := S4x64x1536) (0 : Fin 3) 1 (fun k : Fin 4 => (![k.val, 0, 0] : Fin 3 → ℕ)) S1x64x1536.size s14_inb (fun k => by simp)
    (fun k a ha => by fin_cases a <;> first | exact absurd rfl ha | rfl) rfl (fun a ha => by fin_cases a <;> first | exact absurd rfl ha | rfl) rfl
theorem slotPt14 (c : Dev nD) (k : Fin 4) (f : Buf (Elt F) ((c : Thread nD τ).loc cc0_scratch1)) :
    (((slot14 sc14 k).view.loc (c : Thread nD τ) ↦[(slot14 sc14 k).view.set]{fullShare} f) : sProp 𝕄) = ((c : Thread nD τ).loc cc0_scratch1 ↦[slotSet14 k]{fullShare} f) := by
  rw [slotSet14_eq]
theorem slots14_in (c : Dev nD) :
    (iprop(∃ f, ((c : Thread nD τ).loc cc0_scratch1 ↦{fullShare} f)) : sProp 𝕄) ⊢ iprop((∃ f, (slot14 sc14 0).view.loc (c : Thread nD τ) ↦[(slot14 sc14 0).view.set]{fullShare} f) ∗ (∃ f, (slot14 sc14 1).view.loc (c : Thread nD τ) ↦[(slot14 sc14 1).view.set]{fullShare} f) ∗ (∃ f, (slot14 sc14 2).view.loc (c : Thread nD τ) ↦[(slot14 sc14 2).view.set]{fullShare} f) ∗ (∃ f, (slot14 sc14 3).view.loc (c : Thread nD τ) ↦[(slot14 sc14 3).view.set]{fullShare} f)) := by
  iintro ⟨%f, H⟩
  ihave H4 := (entails_of_eq ((pointsTo_blocks (Ix := Unit) (Name := ℕ) (U := Pipeline.UD sig nD τ) (Lvl := ℕ) (ℓ := (c : Thread nD τ).loc cc0_scratch1) (q := fullShare) slotSet14 slotSet14_disjoint slotSet14_cover f).trans (bigSep4 _))) $$ H
  icases H4 with ⟨H0, H1, H2, H3⟩
  isplitl [H0]; · iexists f; iapply (entails_of_eq (slotPt14 c 0 f).symm); iexact H0
  isplitl [H1]; · iexists f; iapply (entails_of_eq (slotPt14 c 1 f).symm); iexact H1
  isplitl [H2]; · iexists f; iapply (entails_of_eq (slotPt14 c 2 f).symm); iexact H2
  iexists f; iapply (entails_of_eq (slotPt14 c 3 f).symm); iexact H3
theorem slots14_out (c : Dev nD) :
    (iprop((∃ f, (slot14 sc14 0).view.loc (c : Thread nD τ) ↦[(slot14 sc14 0).view.set]{fullShare} f) ∗ (∃ f, (slot14 sc14 1).view.loc (c : Thread nD τ) ↦[(slot14 sc14 1).view.set]{fullShare} f) ∗ (∃ f, (slot14 sc14 2).view.loc (c : Thread nD τ) ↦[(slot14 sc14 2).view.set]{fullShare} f) ∗ (∃ f, (slot14 sc14 3).view.loc (c : Thread nD τ) ↦[(slot14 sc14 3).view.set]{fullShare} f)) : sProp 𝕄) ⊢ iprop(∃ f, ((c : Thread nD τ).loc cc0_scratch1 ↦{fullShare} f)) := by
  iintro ⟨⟨%g0, H0⟩, ⟨%g1, H1⟩, ⟨%g2, H2⟩, %g3, H3⟩
  iapply ((entails_of_eq (bigSep4 _).symm).trans (pointsTo_blocks_join_exists (Ix := Unit) (Name := ℕ) (U := Pipeline.UD sig nD τ) (Lvl := ℕ) (ℓ := (c : Thread nD τ).loc cc0_scratch1) (q := fullShare) slotSet14 slotSet14_disjoint slotSet14_cover g0))
  isplitl [H0]; · iexists g0; iapply (entails_of_eq (slotPt14 c 0 g0)); iexact H0
  isplitl [H1]; · iexists g1; iapply (entails_of_eq (slotPt14 c 1 g1)); iexact H1
  isplitl [H2]; · iexists g2; iapply (entails_of_eq (slotPt14 c 2 g2)); iexact H2
  iexists g3; iapply (entails_of_eq (slotPt14 c 3 g3)); iexact H3

abbrev slotSet15 (k : Fin 4) : Finset S4x192x32x128.Idx := (Rect.unit (s := S4x192x32x128) ![k.val, 0, 0, 0] S1x192x32x128.size (s15_inb k)).set
theorem slotSet15_eq (k : Fin 4) : (slot15 sc15 k).view.set = slotSet15 k := by
  simp only [slot15, Memref.view_squeeze, View.set_reshape]; exact View.set_slice_whole _ _
theorem slotSet15_disjoint (k k' : Fin 4) (h : k ≠ k') : Disjoint (slotSet15 k) (slotSet15 k') :=
  lead_disjoint (s := S4x192x32x128) (0 : Fin 4) 1 (fun k : Fin 4 => (![k.val, 0, 0, 0] : Fin 4 → ℕ)) S1x192x32x128.size s15_inb (fun k => by simp) rfl k k' h
theorem slotSet15_cover : Finset.univ.biUnion slotSet15 = Finset.univ :=
  lead_cover (s := S4x192x32x128) (0 : Fin 4) 1 (fun k : Fin 4 => (![k.val, 0, 0, 0] : Fin 4 → ℕ)) S1x192x32x128.size s15_inb (fun k => by simp)
    (fun k a ha => by fin_cases a <;> first | exact absurd rfl ha | rfl) rfl (fun a ha => by fin_cases a <;> first | exact absurd rfl ha | rfl) rfl
theorem slotPt15 (c : Dev nD) (k : Fin 4) (f : Buf (Elt F) ((c : Thread nD τ).loc cc0_scratch2)) :
    (((slot15 sc15 k).view.loc (c : Thread nD τ) ↦[(slot15 sc15 k).view.set]{fullShare} f) : sProp 𝕄) = ((c : Thread nD τ).loc cc0_scratch2 ↦[slotSet15 k]{fullShare} f) := by
  rw [slotSet15_eq]
theorem slots15_in (c : Dev nD) :
    (iprop(∃ f, ((c : Thread nD τ).loc cc0_scratch2 ↦{fullShare} f)) : sProp 𝕄) ⊢ iprop((∃ f, (slot15 sc15 0).view.loc (c : Thread nD τ) ↦[(slot15 sc15 0).view.set]{fullShare} f) ∗ (∃ f, (slot15 sc15 1).view.loc (c : Thread nD τ) ↦[(slot15 sc15 1).view.set]{fullShare} f) ∗ (∃ f, (slot15 sc15 2).view.loc (c : Thread nD τ) ↦[(slot15 sc15 2).view.set]{fullShare} f) ∗ (∃ f, (slot15 sc15 3).view.loc (c : Thread nD τ) ↦[(slot15 sc15 3).view.set]{fullShare} f)) := by
  iintro ⟨%f, H⟩
  ihave H4 := (entails_of_eq ((pointsTo_blocks (Ix := Unit) (Name := ℕ) (U := Pipeline.UD sig nD τ) (Lvl := ℕ) (ℓ := (c : Thread nD τ).loc cc0_scratch2) (q := fullShare) slotSet15 slotSet15_disjoint slotSet15_cover f).trans (bigSep4 _))) $$ H
  icases H4 with ⟨H0, H1, H2, H3⟩
  isplitl [H0]; · iexists f; iapply (entails_of_eq (slotPt15 c 0 f).symm); iexact H0
  isplitl [H1]; · iexists f; iapply (entails_of_eq (slotPt15 c 1 f).symm); iexact H1
  isplitl [H2]; · iexists f; iapply (entails_of_eq (slotPt15 c 2 f).symm); iexact H2
  iexists f; iapply (entails_of_eq (slotPt15 c 3 f).symm); iexact H3
theorem slots15_out (c : Dev nD) :
    (iprop((∃ f, (slot15 sc15 0).view.loc (c : Thread nD τ) ↦[(slot15 sc15 0).view.set]{fullShare} f) ∗ (∃ f, (slot15 sc15 1).view.loc (c : Thread nD τ) ↦[(slot15 sc15 1).view.set]{fullShare} f) ∗ (∃ f, (slot15 sc15 2).view.loc (c : Thread nD τ) ↦[(slot15 sc15 2).view.set]{fullShare} f) ∗ (∃ f, (slot15 sc15 3).view.loc (c : Thread nD τ) ↦[(slot15 sc15 3).view.set]{fullShare} f)) : sProp 𝕄) ⊢ iprop(∃ f, ((c : Thread nD τ).loc cc0_scratch2 ↦{fullShare} f)) := by
  iintro ⟨⟨%g0, H0⟩, ⟨%g1, H1⟩, ⟨%g2, H2⟩, %g3, H3⟩
  iapply ((entails_of_eq (bigSep4 _).symm).trans (pointsTo_blocks_join_exists (Ix := Unit) (Name := ℕ) (U := Pipeline.UD sig nD τ) (Lvl := ℕ) (ℓ := (c : Thread nD τ).loc cc0_scratch2) (q := fullShare) slotSet15 slotSet15_disjoint slotSet15_cover g0))
  isplitl [H0]; · iexists g0; iapply (entails_of_eq (slotPt15 c 0 g0)); iexact H0
  isplitl [H1]; · iexists g1; iapply (entails_of_eq (slotPt15 c 1 g1)); iexact H1
  isplitl [H2]; · iexists g2; iapply (entails_of_eq (slotPt15 c 2 g2)); iexact H2
  iexists g3; iapply (entails_of_eq (slotPt15 c 3 g3)); iexact H3

abbrev slotSet16 (k : Fin 4) : Finset S4x24x2048.Idx := (Rect.unit (s := S4x24x2048) ![k.val, 0, 0] S1x24x2048.size (s16_inb k)).set
theorem slotSet16_eq (k : Fin 4) : (slot16 sc16 k).view.set = slotSet16 k := by
  simp only [slot16, Memref.view_squeeze, View.set_reshape]; exact View.set_slice_whole _ _
theorem slotSet16_disjoint (k k' : Fin 4) (h : k ≠ k') : Disjoint (slotSet16 k) (slotSet16 k') :=
  lead_disjoint (s := S4x24x2048) (0 : Fin 3) 1 (fun k : Fin 4 => (![k.val, 0, 0] : Fin 3 → ℕ)) S1x24x2048.size s16_inb (fun k => by simp) rfl k k' h
theorem slotSet16_cover : Finset.univ.biUnion slotSet16 = Finset.univ :=
  lead_cover (s := S4x24x2048) (0 : Fin 3) 1 (fun k : Fin 4 => (![k.val, 0, 0] : Fin 3 → ℕ)) S1x24x2048.size s16_inb (fun k => by simp)
    (fun k a ha => by fin_cases a <;> first | exact absurd rfl ha | rfl) rfl (fun a ha => by fin_cases a <;> first | exact absurd rfl ha | rfl) rfl
theorem slotPt16 (c : Dev nD) (k : Fin 4) (f : Buf (Elt F) ((c : Thread nD τ).loc cc0_scratch3)) :
    (((slot16 sc16 k).view.loc (c : Thread nD τ) ↦[(slot16 sc16 k).view.set]{fullShare} f) : sProp 𝕄) = ((c : Thread nD τ).loc cc0_scratch3 ↦[slotSet16 k]{fullShare} f) := by
  rw [slotSet16_eq]
theorem slots16_in (c : Dev nD) :
    (iprop(∃ f, ((c : Thread nD τ).loc cc0_scratch3 ↦{fullShare} f)) : sProp 𝕄) ⊢ iprop((∃ f, (slot16 sc16 0).view.loc (c : Thread nD τ) ↦[(slot16 sc16 0).view.set]{fullShare} f) ∗ (∃ f, (slot16 sc16 1).view.loc (c : Thread nD τ) ↦[(slot16 sc16 1).view.set]{fullShare} f) ∗ (∃ f, (slot16 sc16 2).view.loc (c : Thread nD τ) ↦[(slot16 sc16 2).view.set]{fullShare} f) ∗ (∃ f, (slot16 sc16 3).view.loc (c : Thread nD τ) ↦[(slot16 sc16 3).view.set]{fullShare} f)) := by
  iintro ⟨%f, H⟩
  ihave H4 := (entails_of_eq ((pointsTo_blocks (Ix := Unit) (Name := ℕ) (U := Pipeline.UD sig nD τ) (Lvl := ℕ) (ℓ := (c : Thread nD τ).loc cc0_scratch3) (q := fullShare) slotSet16 slotSet16_disjoint slotSet16_cover f).trans (bigSep4 _))) $$ H
  icases H4 with ⟨H0, H1, H2, H3⟩
  isplitl [H0]; · iexists f; iapply (entails_of_eq (slotPt16 c 0 f).symm); iexact H0
  isplitl [H1]; · iexists f; iapply (entails_of_eq (slotPt16 c 1 f).symm); iexact H1
  isplitl [H2]; · iexists f; iapply (entails_of_eq (slotPt16 c 2 f).symm); iexact H2
  iexists f; iapply (entails_of_eq (slotPt16 c 3 f).symm); iexact H3
theorem slots16_out (c : Dev nD) :
    (iprop((∃ f, (slot16 sc16 0).view.loc (c : Thread nD τ) ↦[(slot16 sc16 0).view.set]{fullShare} f) ∗ (∃ f, (slot16 sc16 1).view.loc (c : Thread nD τ) ↦[(slot16 sc16 1).view.set]{fullShare} f) ∗ (∃ f, (slot16 sc16 2).view.loc (c : Thread nD τ) ↦[(slot16 sc16 2).view.set]{fullShare} f) ∗ (∃ f, (slot16 sc16 3).view.loc (c : Thread nD τ) ↦[(slot16 sc16 3).view.set]{fullShare} f)) : sProp 𝕄) ⊢ iprop(∃ f, ((c : Thread nD τ).loc cc0_scratch3 ↦{fullShare} f)) := by
  iintro ⟨⟨%g0, H0⟩, ⟨%g1, H1⟩, ⟨%g2, H2⟩, %g3, H3⟩
  iapply ((entails_of_eq (bigSep4 _).symm).trans (pointsTo_blocks_join_exists (Ix := Unit) (Name := ℕ) (U := Pipeline.UD sig nD τ) (Lvl := ℕ) (ℓ := (c : Thread nD τ).loc cc0_scratch3) (q := fullShare) slotSet16 slotSet16_disjoint slotSet16_cover g0))
  isplitl [H0]; · iexists g0; iapply (entails_of_eq (slotPt16 c 0 g0)); iexact H0
  isplitl [H1]; · iexists g1; iapply (entails_of_eq (slotPt16 c 1 g1)); iexact H1
  isplitl [H2]; · iexists g2; iapply (entails_of_eq (slotPt16 c 2 g2)); iexact H2
  iexists g3; iapply (entails_of_eq (slotPt16 c 3 g3)); iexact H3

/-- The kernel's own sixteen cells, slot by slot and piece by piece. -/
abbrev osem0 : Fin 16 → SemLoc sig := fun i => SemLoc.dma (⟨5 + i.val, by have := i.isLt; show 5 + i.val < 21; omega⟩ : DmaSem sig)
theorem cell_val : ∀ k j : Fin 4, (cell cc0_scratch9 k j).val = 5 + (4 * k.val + j.val) := by decide +kernel
theorem osem_cell (k j : Fin 4) (h : 4 * k.val + j.val < 16) : osem0 ⟨4 * k.val + j.val, h⟩ = SemLoc.dma (cell cc0_scratch9 k j) :=
  congrArg SemLoc.dma (Fin.ext (cell_val k j).symm)
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell cc0_scratch9 0 0)) 0 ∗ semVal ((c : Thread nD τ), SemLoc.dma (cell cc0_scratch9 0 1)) 0 ∗ semVal ((c : Thread nD τ), SemLoc.dma (cell cc0_scratch9 0 2)) 0 ∗ semVal ((c : Thread nD τ), SemLoc.dma (cell cc0_scratch9 0 3)) 0 ∗ semVal ((c : Thread nD τ), SemLoc.dma (cell cc0_scratch9 1 0)) 0 ∗ semVal ((c : Thread nD τ), SemLoc.dma (cell cc0_scratch9 1 1)) 0 ∗ semVal ((c : Thread nD τ), SemLoc.dma (cell cc0_scratch9 1 2)) 0 ∗ semVal ((c : Thread nD τ), SemLoc.dma (cell cc0_scratch9 1 3)) 0 ∗ semVal ((c : Thread nD τ), SemLoc.dma (cell cc0_scratch9 2 0)) 0 ∗ semVal ((c : Thread nD τ), SemLoc.dma (cell cc0_scratch9 2 1)) 0 ∗ semVal ((c : Thread nD τ), SemLoc.dma (cell cc0_scratch9 2 2)) 0 ∗ semVal ((c : Thread nD τ), SemLoc.dma (cell cc0_scratch9 2 3)) 0 ∗ semVal ((c : Thread nD τ), SemLoc.dma (cell cc0_scratch9 3 0)) 0 ∗ semVal ((c : Thread nD τ), SemLoc.dma (cell cc0_scratch9 3 1)) 0 ∗ semVal ((c : Thread nD τ), SemLoc.dma (cell cc0_scratch9 3 2)) 0 ∗ semVal ((c : Thread nD τ), SemLoc.dma (cell cc0_scratch9 3 3)) 0) := by
  rw [Pipeline.ownSems0_eq_of_list c osem0 [0, 1, 2, 3, 4, 5, 6, 7, 8, 9, 10, 11, 12, 13, 14, 15] (by decide) (by decide)]
  simp only [← osem_cell 0 0 (by decide), ← osem_cell 0 1 (by decide), ← osem_cell 0 2 (by decide), ← osem_cell 0 3 (by decide), ← osem_cell 1 0 (by decide), ← osem_cell 1 1 (by decide), ← osem_cell 1 2 (by decide), ← osem_cell 1 3 (by decide), ← osem_cell 2 0 (by decide), ← osem_cell 2 1 (by decide), ← osem_cell 2 2 (by decide), ← osem_cell 2 3 (by decide), ← osem_cell 3 0 (by decide), ← osem_cell 3 1 (by decide), ← osem_cell 3 2 (by decide), ← osem_cell 3 3 (by decide)]
  rfl

theorem ring_in (c : Dev nD) (f4 : Buf (Elt F) ((c : Thread nD τ).loc main_v5)) (f5 : Buf (Elt F) ((c : Thread nD τ).loc main_v6)) (f6 : Buf (Elt F) ((c : Thread nD τ).loc main_v9)) (f7 : Buf (Elt F) ((c : Thread nD τ).loc main_v10)) :
    (iprop((∃ f, ((c : Thread nD τ).loc cc0_scratch0 ↦{fullShare} f)) ∗ (∃ f, ((c : Thread nD τ).loc cc0_scratch1 ↦{fullShare} f)) ∗ (∃ f, ((c : Thread nD τ).loc cc0_scratch2 ↦{fullShare} f)) ∗ (∃ f, ((c : Thread nD τ).loc cc0_scratch3 ↦{fullShare} f)) ∗ (semVal ((c : Thread nD τ), SemLoc.dma (cell cc0_scratch9 0 0)) 0 ∗ semVal ((c : Thread nD τ), SemLoc.dma (cell cc0_scratch9 0 1)) 0 ∗ semVal ((c : Thread nD τ), SemLoc.dma (cell cc0_scratch9 0 2)) 0 ∗ semVal ((c : Thread nD τ), SemLoc.dma (cell cc0_scratch9 0 3)) 0 ∗ semVal ((c : Thread nD τ), SemLoc.dma (cell cc0_scratch9 1 0)) 0 ∗ semVal ((c : Thread nD τ), SemLoc.dma (cell cc0_scratch9 1 1)) 0 ∗ semVal ((c : Thread nD τ), SemLoc.dma (cell cc0_scratch9 1 2)) 0 ∗ semVal ((c : Thread nD τ), SemLoc.dma (cell cc0_scratch9 1 3)) 0 ∗ semVal ((c : Thread nD τ), SemLoc.dma (cell cc0_scratch9 2 0)) 0 ∗ semVal ((c : Thread nD τ), SemLoc.dma (cell cc0_scratch9 2 1)) 0 ∗ semVal ((c : Thread nD τ), SemLoc.dma (cell cc0_scratch9 2 2)) 0 ∗ semVal ((c : Thread nD τ), SemLoc.dma (cell cc0_scratch9 2 3)) 0 ∗ semVal ((c : Thread nD τ), SemLoc.dma (cell cc0_scratch9 3 0)) 0 ∗ semVal ((c : Thread nD τ), SemLoc.dma (cell cc0_scratch9 3 1)) 0 ∗ semVal ((c : Thread nD τ), SemLoc.dma (cell cc0_scratch9 3 2)) 0 ∗ semVal ((c : Thread nD τ), SemLoc.dma (cell cc0_scratch9 3 3)) 0) ∗ ((c : Thread nD τ).loc main_v5 ↦{fullShare} f4) ∗ ((c : Thread nD τ).loc main_v6 ↦{fullShare} f5) ∗ ((c : Thread nD τ).loc main_v9 ↦{fullShare} f6) ∗ ((c : Thread nD τ).loc main_v10 ↦{fullShare} f7)) : sProp 𝕄) ⊢ iprop(AtW (Slot c hb4 hb5 hb6 hb7 sc13 sc14 sc15 sc16 cc0_scratch9 f4 f5 f6 f7) (fun _ => none) ∗ ((c : Thread nD τ).loc main_v5 ↦{Transfers.shareDrop fullShare 4} f4) ∗ ((c : Thread nD τ).loc main_v6 ↦{Transfers.shareDrop fullShare 4} f5) ∗ ((c : Thread nD τ).loc main_v9 ↦{Transfers.shareDrop fullShare 4} f6) ∗ ((c : Thread nD τ).loc main_v10 ↦{Transfers.shareDrop fullShare 4} f7)) := by
  iintro ⟨R0, R1, R2, R3, ⟨C00, C01, C02, C03, C10, C11, C12, C13, C20, C21, C22, C23, C30, C31, C32, C33⟩, K0, K1, K2, K3⟩
  ihave R0 := (slots13_in c) $$ R0
  icases R0 with ⟨S00, S01, S02, S03⟩
  ihave K0 := (Transfers.pointsTo_toks_split (Lvl := ℕ) fullShare 4) $$ K0
  icases K0 with ⟨D0, K0⟩
  ihave K0 := (entails_of_eq (bigSep4 _)) $$ K0
  icases K0 with ⟨T00, T01, T02, T03⟩
  ihave R1 := (slots14_in c) $$ R1
  icases R1 with ⟨S10, S11, S12, S13⟩
  ihave K1 := (Transfers.pointsTo_toks_split (Lvl := ℕ) fullShare 4) $$ K1
  icases K1 with ⟨D1, K1⟩
  ihave K1 := (entails_of_eq (bigSep4 _)) $$ K1
  icases K1 with ⟨T10, T11, T12, T13⟩
  ihave R2 := (slots15_in c) $$ R2
  icases R2 with ⟨S20, S21, S22, S23⟩
  ihave K2 := (Transfers.pointsTo_toks_split (Lvl := ℕ) fullShare 4) $$ K2
  icases K2 with ⟨D2, K2⟩
  ihave K2 := (entails_of_eq (bigSep4 _)) $$ K2
  icases K2 with ⟨T20, T21, T22, T23⟩
  ihave R3 := (slots16_in c) $$ R3
  icases R3 with ⟨S30, S31, S32, S33⟩
  ihave K3 := (Transfers.pointsTo_toks_split (Lvl := ℕ) fullShare 4) $$ K3
  icases K3 with ⟨D3, K3⟩
  ihave K3 := (entails_of_eq (bigSep4 _)) $$ K3
  icases K3 with ⟨T30, T31, T32, T33⟩
  isplitl [C00 C01 C02 C03 C10 C11 C12 C13 C20 C21 C22 C23 C30 C31 C32 C33 S00 S01 S02 S03 S10 S11 S12 S13 S20 S21 S22 S23 S30 S31 S32 S33 T00 T01 T02 T03 T10 T11 T12 T13 T20 T21 T22 T23 T30 T31 T32 T33]
  · unfold AtW
    iapply (entails_of_eq (bigSep4 _).symm)
    dsimp only [Slot]
    unfold Rest
    isplitl [C00 S00 T00 C01 S10 T10 C02 S20 T20 C03 S30 T30]
    · isplitl [C00 S00 T00]
      · isplitl [C00 S00]
        · isplitl [C00]; · iexact C00
          iexact S00
        iapply (entails_of_eq (pt_whole c main_v5 (tok 0) f4).symm); iexact T00
      isplitl [C01 S10 T10]
      · isplitl [C01 S10]
        · isplitl [C01]; · iexact C01
          iexact S10
        iapply (entails_of_eq (pt_whole c main_v6 (tok 0) f5).symm); iexact T10
      isplitl [C02 S20 T20]
      · isplitl [C02 S20]
        · isplitl [C02]; · iexact C02
          iexact S20
        iapply (entails_of_eq (pt_whole c main_v9 (tok 0) f6).symm); iexact T20
      isplitl [C03 S30]
      · isplitl [C03]; · iexact C03
        iexact S30
      iapply (entails_of_eq (pt_whole c main_v10 (tok 0) f7).symm); iexact T30
    isplitl [C10 S01 T01 C11 S11 T11 C12 S21 T21 C13 S31 T31]
    · isplitl [C10 S01 T01]
      · isplitl [C10 S01]
        · isplitl [C10]; · iexact C10
          iexact S01
        iapply (entails_of_eq (pt_whole c main_v5 (tok 1) f4).symm); iexact T01
      isplitl [C11 S11 T11]
      · isplitl [C11 S11]
        · isplitl [C11]; · iexact C11
          iexact S11
        iapply (entails_of_eq (pt_whole c main_v6 (tok 1) f5).symm); iexact T11
      isplitl [C12 S21 T21]
      · isplitl [C12 S21]
        · isplitl [C12]; · iexact C12
          iexact S21
        iapply (entails_of_eq (pt_whole c main_v9 (tok 1) f6).symm); iexact T21
      isplitl [C13 S31]
      · isplitl [C13]; · iexact C13
        iexact S31
      iapply (entails_of_eq (pt_whole c main_v10 (tok 1) f7).symm); iexact T31
    isplitl [C20 S02 T02 C21 S12 T12 C22 S22 T22 C23 S32 T32]
    · isplitl [C20 S02 T02]
      · isplitl [C20 S02]
        · isplitl [C20]; · iexact C20
          iexact S02
        iapply (entails_of_eq (pt_whole c main_v5 (tok 2) f4).symm); iexact T02
      isplitl [C21 S12 T12]
      · isplitl [C21 S12]
        · isplitl [C21]; · iexact C21
          iexact S12
        iapply (entails_of_eq (pt_whole c main_v6 (tok 2) f5).symm); iexact T12
      isplitl [C22 S22 T22]
      · isplitl [C22 S22]
        · isplitl [C22]; · iexact C22
          iexact S22
        iapply (entails_of_eq (pt_whole c main_v9 (tok 2) f6).symm); iexact T22
      isplitl [C23 S32]
      · isplitl [C23]; · iexact C23
        iexact S32
      iapply (entails_of_eq (pt_whole c main_v10 (tok 2) f7).symm); iexact T32
    isplitl [C30 S03 T03]
    · isplitl [C30 S03]
      · isplitl [C30]; · iexact C30
        iexact S03
      iapply (entails_of_eq (pt_whole c main_v5 (tok 3) f4).symm); iexact T03
    isplitl [C31 S13 T13]
    · isplitl [C31 S13]
      · isplitl [C31]; · iexact C31
        iexact S13
      iapply (entails_of_eq (pt_whole c main_v6 (tok 3) f5).symm); iexact T13
    isplitl [C32 S23 T23]
    · isplitl [C32 S23]
      · isplitl [C32]; · iexact C32
        iexact S23
      iapply (entails_of_eq (pt_whole c main_v9 (tok 3) f6).symm); iexact T23
    isplitl [C33 S33]
    · isplitl [C33]; · iexact C33
      iexact S33
    iapply (entails_of_eq (pt_whole c main_v10 (tok 3) f7).symm); iexact T33
  isplitl [D0]; · iexact D0
  isplitl [D1]; · iexact D1
  isplitl [D2]; · iexact D2
  iexact D3

theorem ring_out (c : Dev nD) (f4 : Buf (Elt F) ((c : Thread nD τ).loc main_v5)) (f5 : Buf (Elt F) ((c : Thread nD τ).loc main_v6)) (f6 : Buf (Elt F) ((c : Thread nD τ).loc main_v9)) (f7 : Buf (Elt F) ((c : Thread nD τ).loc main_v10)) :
    iprop(AtW (Slot c hb4 hb5 hb6 hb7 sc13 sc14 sc15 sc16 cc0_scratch9 f4 f5 f6 f7) (fun _ => none) ∗ ((c : Thread nD τ).loc main_v5 ↦{Transfers.shareDrop fullShare 4} f4) ∗ ((c : Thread nD τ).loc main_v6 ↦{Transfers.shareDrop fullShare 4} f5) ∗ ((c : Thread nD τ).loc main_v9 ↦{Transfers.shareDrop fullShare 4} f6) ∗ ((c : Thread nD τ).loc main_v10 ↦{Transfers.shareDrop fullShare 4} f7)) ⊢ (iprop((∃ f, ((c : Thread nD τ).loc cc0_scratch0 ↦{fullShare} f)) ∗ (∃ f, ((c : Thread nD τ).loc cc0_scratch1 ↦{fullShare} f)) ∗ (∃ f, ((c : Thread nD τ).loc cc0_scratch2 ↦{fullShare} f)) ∗ (∃ f, ((c : Thread nD τ).loc cc0_scratch3 ↦{fullShare} f)) ∗ (semVal ((c : Thread nD τ), SemLoc.dma (cell cc0_scratch9 0 0)) 0 ∗ semVal ((c : Thread nD τ), SemLoc.dma (cell cc0_scratch9 0 1)) 0 ∗ semVal ((c : Thread nD τ), SemLoc.dma (cell cc0_scratch9 0 2)) 0 ∗ semVal ((c : Thread nD τ), SemLoc.dma (cell cc0_scratch9 0 3)) 0 ∗ semVal ((c : Thread nD τ), SemLoc.dma (cell cc0_scratch9 1 0)) 0 ∗ semVal ((c : Thread nD τ), SemLoc.dma (cell cc0_scratch9 1 1)) 0 ∗ semVal ((c : Thread nD τ), SemLoc.dma (cell cc0_scratch9 1 2)) 0 ∗ semVal ((c : Thread nD τ), SemLoc.dma (cell cc0_scratch9 1 3)) 0 ∗ semVal ((c : Thread nD τ), SemLoc.dma (cell cc0_scratch9 2 0)) 0 ∗ semVal ((c : Thread nD τ), SemLoc.dma (cell cc0_scratch9 2 1)) 0 ∗ semVal ((c : Thread nD τ), SemLoc.dma (cell cc0_scratch9 2 2)) 0 ∗ semVal ((c : Thread nD τ), SemLoc.dma (cell cc0_scratch9 2 3)) 0 ∗ semVal ((c : Thread nD τ), SemLoc.dma (cell cc0_scratch9 3 0)) 0 ∗ semVal ((c : Thread nD τ), SemLoc.dma (cell cc0_scratch9 3 1)) 0 ∗ semVal ((c : Thread nD τ), SemLoc.dma (cell cc0_scratch9 3 2)) 0 ∗ semVal ((c : Thread nD τ), SemLoc.dma (cell cc0_scratch9 3 3)) 0) ∗ ((c : Thread nD τ).loc main_v5 ↦{fullShare} f4) ∗ ((c : Thread nD τ).loc main_v6 ↦{fullShare} f5) ∗ ((c : Thread nD τ).loc main_v9 ↦{fullShare} f6) ∗ ((c : Thread nD τ).loc main_v10 ↦{fullShare} f7)) : sProp 𝕄) := by
  unfold AtW
  iintro ⟨H, D0, D1, D2, D3⟩
  ihave H := (entails_of_eq (bigSep4 _)) $$ H
  dsimp only [Slot]
  unfold Rest
  icases H with ⟨⟨⟨⟨C00, S00⟩, T00⟩, ⟨⟨C01, S10⟩, T10⟩, ⟨⟨C02, S20⟩, T20⟩, ⟨C03, S30⟩, T30⟩, ⟨⟨⟨C10, S01⟩, T01⟩, ⟨⟨C11, S11⟩, T11⟩, ⟨⟨C12, S21⟩, T21⟩, ⟨C13, S31⟩, T31⟩, ⟨⟨⟨C20, S02⟩, T02⟩, ⟨⟨C21, S12⟩, T12⟩, ⟨⟨C22, S22⟩, T22⟩, ⟨C23, S32⟩, T32⟩, ⟨⟨C30, S03⟩, T03⟩, ⟨⟨C31, S13⟩, T13⟩, ⟨⟨C32, S23⟩, T23⟩, ⟨C33, S33⟩, T33⟩
  isplitl [S00 S01 S02 S03]
  · iapply (slots13_out c)
    isplitl [S00]; · iexact S00
    isplitl [S01]; · iexact S01
    isplitl [S02]; · iexact S02
    iexact S03
  isplitl [S10 S11 S12 S13]
  · iapply (slots14_out c)
    isplitl [S10]; · iexact S10
    isplitl [S11]; · iexact S11
    isplitl [S12]; · iexact S12
    iexact S13
  isplitl [S20 S21 S22 S23]
  · iapply (slots15_out c)
    isplitl [S20]; · iexact S20
    isplitl [S21]; · iexact S21
    isplitl [S22]; · iexact S22
    iexact S23
  isplitl [S30 S31 S32 S33]
  · iapply (slots16_out c)
    isplitl [S30]; · iexact S30
    isplitl [S31]; · iexact S31
    isplitl [S32]; · iexact S32
    iexact S33
  isplitl [C00 C01 C02 C03 C10 C11 C12 C13 C20 C21 C22 C23 C30 C31 C32 C33]
  · isplitl [C00]; · iexact C00
    isplitl [C01]; · iexact C01
    isplitl [C02]; · iexact C02
    isplitl [C03]; · iexact C03
    isplitl [C10]; · iexact C10
    isplitl [C11]; · iexact C11
    isplitl [C12]; · iexact C12
    isplitl [C13]; · iexact C13
    isplitl [C20]; · iexact C20
    isplitl [C21]; · iexact C21
    isplitl [C22]; · iexact C22
    isplitl [C23]; · iexact C23
    isplitl [C30]; · iexact C30
    isplitl [C31]; · iexact C31
    isplitl [C32]; · iexact C32
    iexact C33
  isplitl [D0 T00 T01 T02 T03]
  · iapply (Transfers.pointsTo_toks_join (Lvl := ℕ) fullShare 4)
    isplitl [D0]; · iexact D0
    iapply (entails_of_eq (bigSep4 _).symm)
    isplitl [T00]; · iapply (entails_of_eq (pt_whole c main_v5 (tok 0) f4)); iexact T00
    isplitl [T01]; · iapply (entails_of_eq (pt_whole c main_v5 (tok 1) f4)); iexact T01
    isplitl [T02]; · iapply (entails_of_eq (pt_whole c main_v5 (tok 2) f4)); iexact T02
    iapply (entails_of_eq (pt_whole c main_v5 (tok 3) f4)); iexact T03
  isplitl [D1 T10 T11 T12 T13]
  · iapply (Transfers.pointsTo_toks_join (Lvl := ℕ) fullShare 4)
    isplitl [D1]; · iexact D1
    iapply (entails_of_eq (bigSep4 _).symm)
    isplitl [T10]; · iapply (entails_of_eq (pt_whole c main_v6 (tok 0) f5)); iexact T10
    isplitl [T11]; · iapply (entails_of_eq (pt_whole c main_v6 (tok 1) f5)); iexact T11
    isplitl [T12]; · iapply (entails_of_eq (pt_whole c main_v6 (tok 2) f5)); iexact T12
    iapply (entails_of_eq (pt_whole c main_v6 (tok 3) f5)); iexact T13
  isplitl [D2 T20 T21 T22 T23]
  · iapply (Transfers.pointsTo_toks_join (Lvl := ℕ) fullShare 4)
    isplitl [D2]; · iexact D2
    iapply (entails_of_eq (bigSep4 _).symm)
    isplitl [T20]; · iapply (entails_of_eq (pt_whole c main_v9 (tok 0) f6)); iexact T20
    isplitl [T21]; · iapply (entails_of_eq (pt_whole c main_v9 (tok 1) f6)); iexact T21
    isplitl [T22]; · iapply (entails_of_eq (pt_whole c main_v9 (tok 2) f6)); iexact T22
    iapply (entails_of_eq (pt_whole c main_v9 (tok 3) f6)); iexact T23
  iapply (Transfers.pointsTo_toks_join (Lvl := ℕ) fullShare 4)
  isplitl [D3]; · iexact D3
  iapply (entails_of_eq (bigSep4 _).symm)
  isplitl [T30]; · iapply (entails_of_eq (pt_whole c main_v10 (tok 0) f7)); iexact T30
  isplitl [T31]; · iapply (entails_of_eq (pt_whole c main_v10 (tok 1) f7)); iexact T31
  isplitl [T32]; · iapply (entails_of_eq (pt_whole c main_v10 (tok 2) f7)); iexact T32
  iapply (entails_of_eq (pt_whole c main_v10 (tok 3) f7)); iexact T33

end Cert.KernelIdeal.Hand
-- ==== Proof.KernelIdeal.Tile.lean ====
/- The vocabulary of one K-chunk of the packed matrix product: 256 rows by 512 columns of weights, decoded from
   16 blocks of codes (8 K-blocks of 32 rows, two halves each) and an 8 by 512 tile of scale exponents. -/
module

public import proofs.«01_k».proof.Proof.Gen.KernelIdeal.Skeleton
public import Idealize.ShloMosaic.Lib.Pipeline.FrameBody

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The 64 by 128 decoded values of one block of codes: row `2 r` the low nibbles of row `r`, row `2 r + 1` the high ones. -/
def rows (v : Vec F S1x32x128 .i8) : FVec F S64x128 .bf16 := k0_pay21 (F := F) (k0_pay20 (F := F) v)

/-- Scale exponents as the words whose two halves are the bits of the scale. -/
def words (s : Vec F S8x512 .i8) : IVec S8x512 32 := k0_pay15 (F := F) s

/-- The scale of K-block `b` (a row of the tile of words) at 128 columns, repeated over the 16 rows of a half block. -/
def scaleRows (s : Vec F S8x512 .i8) (off : Fin 2 → ℕ) (h : S8x512.Slices off S1x128) : FVec F S16x128 .bf16 :=
  bitcastToFloat .bf16 (bitcast S16x128 16 (broadcastTo S8x128
    (shapeCast S1x128 (extractStridedSlice S1x128 off (words s) h) shapeCasts_S1x128_S1x128)
    broadcasts_S1x128_S8x128) bitcasts_S8x128_w32_S16x128_w16)

/-- 16 decoded rows times their scales: the weights of half a K-block at 128 columns. -/
def piece (v : Vec F S1x32x128 .i8) (sc : FVec F S16x128 .bf16) (off : Fin 2 → ℕ) (h : S64x128.Slices off S16x128) :
    FVec F S16x128 .bf16 :=
  mulf (extractStridedSlice S16x128 off (rows v) h) sc

/-- The weights of a chunk, 256 by 512, from the tile of exponents `s` and the blocks `u b h`. -/
def rhs (s : Vec F S8x512 .i8) (u : Fin 8 → Fin 2 → Vec F S1x32x128 .i8) : FVec F S256x512 .bf16 :=
  concatenate S256x512 1 [
    ⟨S256x128, concatenate S256x128 0 [
      ⟨S16x128, piece (u 0 0) (scaleRows s ![0, 0] slices_S8x512_o0_0_S1x128) ![0, 0] slices_S64x128_o0_0_S16x128⟩, ⟨S16x128, piece (u 0 1) (scaleRows s ![0, 0] slices_S8x512_o0_0_S1x128) ![0, 0] slices_S64x128_o0_0_S16x128⟩,
      ⟨S16x128, piece (u 1 0) (scaleRows s ![1, 0] slices_S8x512_o1_0_S1x128) ![0, 0] slices_S64x128_o0_0_S16x128⟩, ⟨S16x128, piece (u 1 1) (scaleRows s ![1, 0] slices_S8x512_o1_0_S1x128) ![0, 0] slices_S64x128_o0_0_S16x128⟩,
      ⟨S16x128, piece (u 2 0) (scaleRows s ![2, 0] slices_S8x512_o2_0_S1x128) ![0, 0] slices_S64x128_o0_0_S16x128⟩, ⟨S16x128, piece (u 2 1) (scaleRows s ![2, 0] slices_S8x512_o2_0_S1x128) ![0, 0] slices_S64x128_o0_0_S16x128⟩,
      ⟨S16x128, piece (u 3 0) (scaleRows s ![3, 0] slices_S8x512_o3_0_S1x128) ![0, 0] slices_S64x128_o0_0_S16x128⟩, ⟨S16x128, piece (u 3 1) (scaleRows s ![3, 0] slices_S8x512_o3_0_S1x128) ![0, 0] slices_S64x128_o0_0_S16x128⟩,
      ⟨S16x128, piece (u 4 0) (scaleRows s ![4, 0] slices_S8x512_o4_0_S1x128) ![0, 0] slices_S64x128_o0_0_S16x128⟩, ⟨S16x128, piece (u 4 1) (scaleRows s ![4, 0] slices_S8x512_o4_0_S1x128) ![0, 0] slices_S64x128_o0_0_S16x128⟩,
      ⟨S16x128, piece (u 5 0) (scaleRows s ![5, 0] slices_S8x512_o5_0_S1x128) ![0, 0] slices_S64x128_o0_0_S16x128⟩, ⟨S16x128, piece (u 5 1) (scaleRows s ![5, 0] slices_S8x512_o5_0_S1x128) ![0, 0] slices_S64x128_o0_0_S16x128⟩,
      ⟨S16x128, piece (u 6 0) (scaleRows s ![6, 0] slices_S8x512_o6_0_S1x128) ![0, 0] slices_S64x128_o0_0_S16x128⟩, ⟨S16x128, piece (u 6 1) (scaleRows s ![6, 0] slices_S8x512_o6_0_S1x128) ![0, 0] slices_S64x128_o0_0_S16x128⟩,
      ⟨S16x128, piece (u 7 0) (scaleRows s ![7, 0] slices_S8x512_o7_0_S1x128) ![0, 0] slices_S64x128_o0_0_S16x128⟩, ⟨S16x128, piece (u 7 1) (scaleRows s ![7, 0] slices_S8x512_o7_0_S1x128) ![0, 0] slices_S64x128_o0_0_S16x128⟩]
      concatenates_S16x128_S16x128_S16x128_S16x128_S16x128_S16x128_S16x128_S16x128_S16x128_S16x128_S16x128_S16x128_S16x128_S16x128_S16x128_S16x128_S256x128_d0⟩,
    ⟨S256x128, concatenate S256x128 0 [
      ⟨S16x128, piece (u 0 0) (scaleRows s ![0, 128] slices_S8x512_o0_128_S1x128) ![16, 0] slices_S64x128_o16_0_S16x128⟩, ⟨S16x128, piece (u 0 1) (scaleRows s ![0, 128] slices_S8x512_o0_128_S1x128) ![16, 0] slices_S64x128_o16_0_S16x128⟩,
      ⟨S16x128, piece (u 1 0) (scaleRows s ![1, 128] slices_S8x512_o1_128_S1x128) ![16, 0] slices_S64x128_o16_0_S16x128⟩, ⟨S16x128, piece (u 1 1) (scaleRows s ![1, 128] slices_S8x512_o1_128_S1x128) ![16, 0] slices_S64x128_o16_0_S16x128⟩,
      ⟨S16x128, piece (u 2 0) (scaleRows s ![2, 128] slices_S8x512_o2_128_S1x128) ![16, 0] slices_S64x128_o16_0_S16x128⟩, ⟨S16x128, piece (u 2 1) (scaleRows s ![2, 128] slices_S8x512_o2_128_S1x128) ![16, 0] slices_S64x128_o16_0_S16x128⟩,
      ⟨S16x128, piece (u 3 0) (scaleRows s ![3, 128] slices_S8x512_o3_128_S1x128) ![16, 0] slices_S64x128_o16_0_S16x128⟩, ⟨S16x128, piece (u 3 1) (scaleRows s ![3, 128] slices_S8x512_o3_128_S1x128) ![16, 0] slices_S64x128_o16_0_S16x128⟩,
      ⟨S16x128, piece (u 4 0) (scaleRows s ![4, 128] slices_S8x512_o4_128_S1x128) ![16, 0] slices_S64x128_o16_0_S16x128⟩, ⟨S16x128, piece (u 4 1) (scaleRows s ![4, 128] slices_S8x512_o4_128_S1x128) ![16, 0] slices_S64x128_o16_0_S16x128⟩,
      ⟨S16x128, piece (u 5 0) (scaleRows s ![5, 128] slices_S8x512_o5_128_S1x128) ![16, 0] slices_S64x128_o16_0_S16x128⟩, ⟨S16x128, piece (u 5 1) (scaleRows s ![5, 128] slices_S8x512_o5_128_S1x128) ![16, 0] slices_S64x128_o16_0_S16x128⟩,
      ⟨S16x128, piece (u 6 0) (scaleRows s ![6, 128] slices_S8x512_o6_128_S1x128) ![16, 0] slices_S64x128_o16_0_S16x128⟩, ⟨S16x128, piece (u 6 1) (scaleRows s ![6, 128] slices_S8x512_o6_128_S1x128) ![16, 0] slices_S64x128_o16_0_S16x128⟩,
      ⟨S16x128, piece (u 7 0) (scaleRows s ![7, 128] slices_S8x512_o7_128_S1x128) ![16, 0] slices_S64x128_o16_0_S16x128⟩, ⟨S16x128, piece (u 7 1) (scaleRows s ![7, 128] slices_S8x512_o7_128_S1x128) ![16, 0] slices_S64x128_o16_0_S16x128⟩]
      concatenates_S16x128_S16x128_S16x128_S16x128_S16x128_S16x128_S16x128_S16x128_S16x128_S16x128_S16x128_S16x128_S16x128_S16x128_S16x128_S16x128_S256x128_d0⟩,
    ⟨S256x128, concatenate S256x128 0 [
      ⟨S16x128, piece (u 0 0) (scaleRows s ![0, 256] slices_S8x512_o0_256_S1x128) ![32, 0] slices_S64x128_o32_0_S16x128⟩, ⟨S16x128, piece (u 0 1) (scaleRows s ![0, 256] slices_S8x512_o0_256_S1x128) ![32, 0] slices_S64x128_o32_0_S16x128⟩,
      ⟨S16x128, piece (u 1 0) (scaleRows s ![1, 256] slices_S8x512_o1_256_S1x128) ![32, 0] slices_S64x128_o32_0_S16x128⟩, ⟨S16x128, piece (u 1 1) (scaleRows s ![1, 256] slices_S8x512_o1_256_S1x128) ![32, 0] slices_S64x128_o32_0_S16x128⟩,
      ⟨S16x128, piece (u 2 0) (scaleRows s ![2, 256] slices_S8x512_o2_256_S1x128) ![32, 0] slices_S64x128_o32_0_S16x128⟩, ⟨S16x128, piece (u 2 1) (scaleRows s ![2, 256] slices_S8x512_o2_256_S1x128) ![32, 0] slices_S64x128_o32_0_S16x128⟩,
      ⟨S16x128, piece (u 3 0) (scaleRows s ![3, 256] slices_S8x512_o3_256_S1x128) ![32, 0] slices_S64x128_o32_0_S16x128⟩, ⟨S16x128, piece (u 3 1) (scaleRows s ![3, 256] slices_S8x512_o3_256_S1x128) ![32, 0] slices_S64x128_o32_0_S16x128⟩,
      ⟨S16x128, piece (u 4 0) (scaleRows s ![4, 256] slices_S8x512_o4_256_S1x128) ![32, 0] slices_S64x128_o32_0_S16x128⟩, ⟨S16x128, piece (u 4 1) (scaleRows s ![4, 256] slices_S8x512_o4_256_S1x128) ![32, 0] slices_S64x128_o32_0_S16x128⟩,
      ⟨S16x128, piece (u 5 0) (scaleRows s ![5, 256] slices_S8x512_o5_256_S1x128) ![32, 0] slices_S64x128_o32_0_S16x128⟩, ⟨S16x128, piece (u 5 1) (scaleRows s ![5, 256] slices_S8x512_o5_256_S1x128) ![32, 0] slices_S64x128_o32_0_S16x128⟩,
      ⟨S16x128, piece (u 6 0) (scaleRows s ![6, 256] slices_S8x512_o6_256_S1x128) ![32, 0] slices_S64x128_o32_0_S16x128⟩, ⟨S16x128, piece (u 6 1) (scaleRows s ![6, 256] slices_S8x512_o6_256_S1x128) ![32, 0] slices_S64x128_o32_0_S16x128⟩,
      ⟨S16x128, piece (u 7 0) (scaleRows s ![7, 256] slices_S8x512_o7_256_S1x128) ![32, 0] slices_S64x128_o32_0_S16x128⟩, ⟨S16x128, piece (u 7 1) (scaleRows s ![7, 256] slices_S8x512_o7_256_S1x128) ![32, 0] slices_S64x128_o32_0_S16x128⟩]
      concatenates_S16x128_S16x128_S16x128_S16x128_S16x128_S16x128_S16x128_S16x128_S16x128_S16x128_S16x128_S16x128_S16x128_S16x128_S16x128_S16x128_S256x128_d0⟩,
    ⟨S256x128, concatenate S256x128 0 [
      ⟨S16x128, piece (u 0 0) (scaleRows s ![0, 384] slices_S8x512_o0_384_S1x128) ![48, 0] slices_S64x128_o48_0_S16x128⟩, ⟨S16x128, piece (u 0 1) (scaleRows s ![0, 384] slices_S8x512_o0_384_S1x128) ![48, 0] slices_S64x128_o48_0_S16x128⟩,
      ⟨S16x128, piece (u 1 0) (scaleRows s ![1, 384] slices_S8x512_o1_384_S1x128) ![48, 0] slices_S64x128_o48_0_S16x128⟩, ⟨S16x128, piece (u 1 1) (scaleRows s ![1, 384] slices_S8x512_o1_384_S1x128) ![48, 0] slices_S64x128_o48_0_S16x128⟩,
      ⟨S16x128, piece (u 2 0) (scaleRows s ![2, 384] slices_S8x512_o2_384_S1x128) ![48, 0] slices_S64x128_o48_0_S16x128⟩, ⟨S16x128, piece (u 2 1) (scaleRows s ![2, 384] slices_S8x512_o2_384_S1x128) ![48, 0] slices_S64x128_o48_0_S16x128⟩,
      ⟨S16x128, piece (u 3 0) (scaleRows s ![3, 384] slices_S8x512_o3_384_S1x128) ![48, 0] slices_S64x128_o48_0_S16x128⟩, ⟨S16x128, piece (u 3 1) (scaleRows s ![3, 384] slices_S8x512_o3_384_S1x128) ![48, 0] slices_S64x128_o48_0_S16x128⟩,
      ⟨S16x128, piece (u 4 0) (scaleRows s ![4, 384] slices_S8x512_o4_384_S1x128) ![48, 0] slices_S64x128_o48_0_S16x128⟩, ⟨S16x128, piece (u 4 1) (scaleRows s ![4, 384] slices_S8x512_o4_384_S1x128) ![48, 0] slices_S64x128_o48_0_S16x128⟩,
      ⟨S16x128, piece (u 5 0) (scaleRows s ![5, 384] slices_S8x512_o5_384_S1x128) ![48, 0] slices_S64x128_o48_0_S16x128⟩, ⟨S16x128, piece (u 5 1) (scaleRows s ![5, 384] slices_S8x512_o5_384_S1x128) ![48, 0] slices_S64x128_o48_0_S16x128⟩,
      ⟨S16x128, piece (u 6 0) (scaleRows s ![6, 384] slices_S8x512_o6_384_S1x128) ![48, 0] slices_S64x128_o48_0_S16x128⟩, ⟨S16x128, piece (u 6 1) (scaleRows s ![6, 384] slices_S8x512_o6_384_S1x128) ![48, 0] slices_S64x128_o48_0_S16x128⟩,
      ⟨S16x128, piece (u 7 0) (scaleRows s ![7, 384] slices_S8x512_o7_384_S1x128) ![48, 0] slices_S64x128_o48_0_S16x128⟩, ⟨S16x128, piece (u 7 1) (scaleRows s ![7, 384] slices_S8x512_o7_384_S1x128) ![48, 0] slices_S64x128_o48_0_S16x128⟩]
      concatenates_S16x128_S16x128_S16x128_S16x128_S16x128_S16x128_S16x128_S16x128_S16x128_S16x128_S16x128_S16x128_S16x128_S16x128_S16x128_S16x128_S256x128_d0⟩]
    concatenates_S256x128_S256x128_S256x128_S256x128_S256x512_d1

/-- One chunk: the product of 256 columns of the left operand by the chunk's weights, added to what was there. -/
def chunk (x : FVec F S8x256 .bf16) (s : Vec F S8x512 .i8) (u : Fin 8 → Fin 2 → Vec F S1x32x128 .i8)
    (acc : FVec F S8x512 .f32) : FVec F S8x512 .f32 :=
  addf acc (matmul dot_S8x256_S256x512_S8x512_1_0_0_1_n_n none x (rhs s u)
    (constant S8x512 .f32 0x00000000#32))

end Cert.KernelIdeal.Hand
-- ==== Proof.KernelIdeal.List.lean ====
/- The list of distinct expert ids, as a function of the sequence of ids: how many there are after `j` of them and which
   stands at each place. Each id of the sequence stands in the list once, in the order of first appearance. -/
module

public import proofs.«01_k».proof.Proof.KernelIdeal.Tile
public import Idealize.ShloMosaic.Lib.Pointwise.Index

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- How many distinct ids the first `j` hold. -/
def cnt (ids : ℕ → BitVec 32) : ℕ → ℕ
  | 0 => 0
  | j + 1 => if ∃ i, i < j ∧ ids i = ids j then cnt ids j else cnt ids j + 1

/-- The list after `j` ids: every id is written at the next free place, which advances when the id is new. -/
def lst (ids : ℕ → BitVec 32) : ℕ → ℕ → BitVec 32
  | 0 => fun _ => 0#32
  | j + 1 => fun a => if a = cnt ids j then ids j else lst ids j a

/-- Among the first j ids there are at most j different ones. -/
theorem cnt_le (ids : ℕ → BitVec 32) : ∀ j, cnt ids j ≤ j
  | 0 => le_rfl
  | j + 1 => by
    have := cnt_le ids j
    unfold cnt
    split <;> omega

theorem cnt_le_succ (ids : ℕ → BitVec 32) (j : ℕ) : cnt ids j ≤ cnt ids (j + 1) := by
  conv_rhs => unfold cnt
  split <;> omega

theorem cnt_succ_of_mem (ids : ℕ → BitVec 32) (j : ℕ) (h : ∃ i, i < j ∧ ids i = ids j) : cnt ids (j + 1) = cnt ids j := if_pos h
theorem cnt_succ_of_new (ids : ℕ → BitVec 32) (j : ℕ) (h : ¬∃ i, i < j ∧ ids i = ids j) : cnt ids (j + 1) = cnt ids j + 1 := if_neg h

/-- A place below the count keeps what it holds. -/
theorem lst_succ_of_lt (ids : ℕ → BitVec 32) (j a : ℕ) (h : a < cnt ids j) : lst ids (j + 1) a = lst ids j a :=
  if_neg (by omega)
theorem lst_succ_at (ids : ℕ → BitVec 32) (j : ℕ) : lst ids (j + 1) (cnt ids j) = ids j := if_pos rfl

/-- The list holds exactly the ids met, each at one place. -/
theorem lst_spec (ids : ℕ → BitVec 32) : ∀ j,
    (∀ a, a < cnt ids j → ∃ i, i < j ∧ lst ids j a = ids i) ∧ (∀ i, i < j → ∃ a, a < cnt ids j ∧ lst ids j a = ids i)
      ∧ (∀ a b, a < cnt ids j → b < cnt ids j → lst ids j a = lst ids j b → a = b)
  | 0 => ⟨fun a h => absurd h (Nat.not_lt_zero _), fun i h => absurd h (Nat.not_lt_zero _), fun a b h => absurd h (Nat.not_lt_zero _)⟩
  | j + 1 => by
    obtain ⟨h1, h2, h3⟩ := lst_spec ids j
    by_cases hm : ∃ i, i < j ∧ ids i = ids j
    · rw [cnt_succ_of_mem ids j hm]
      refine ⟨fun a ha => ?_, fun i hi => ?_, fun a b ha hb => ?_⟩
      · rw [lst_succ_of_lt ids j a ha]
        obtain ⟨i, hi, e⟩ := h1 a ha
        exact ⟨i, by omega, e⟩
      · rcases Nat.lt_succ_iff_lt_or_eq.mp hi with hi | rfl
        · obtain ⟨a, ha, e⟩ := h2 i hi
          exact ⟨a, ha, (lst_succ_of_lt ids j a ha).trans e⟩
        · obtain ⟨i', hi', e'⟩ := hm
          obtain ⟨a, ha, e⟩ := h2 i' hi'
          exact ⟨a, ha, ((lst_succ_of_lt ids i a ha).trans e).trans e'⟩
      · rw [lst_succ_of_lt ids j a ha, lst_succ_of_lt ids j b hb]
        exact h3 a b ha hb
    · rw [cnt_succ_of_new ids j hm]
      have hlt : ∀ a, a < cnt ids j + 1 → a < cnt ids j ∨ a = cnt ids j := fun a h => by omega
      refine ⟨fun a ha => ?_, fun i hi => ?_, fun a b ha hb => ?_⟩
      · rcases hlt a ha with h | rfl
        · rw [lst_succ_of_lt ids j a h]
          obtain ⟨i, hi, e⟩ := h1 a h
          exact ⟨i, by omega, e⟩
        · exact ⟨j, by omega, lst_succ_at ids j⟩
      · rcases Nat.lt_succ_iff_lt_or_eq.mp hi with hi | rfl
        · obtain ⟨a, ha, e⟩ := h2 i hi
          exact ⟨a, by omega, (lst_succ_of_lt ids j a ha).trans e⟩
        · exact ⟨cnt ids i, by omega, lst_succ_at ids i⟩
      · rcases hlt a ha with ha | rfl <;> rcases hlt b hb with hb | rfl
        · rw [lst_succ_of_lt ids j a ha, lst_succ_of_lt ids j b hb]
          exact h3 a b ha hb
        · rw [lst_succ_of_lt ids j a ha, lst_succ_at]
          intro e
          obtain ⟨i, hi, e'⟩ := h1 a ha
          exact absurd ⟨i, hi, e'.symm.trans e⟩ hm
        · rw [lst_succ_of_lt ids j b hb, lst_succ_at]
          intro e
          obtain ⟨i, hi, e'⟩ := h1 b hb
          exact absurd ⟨i, hi, e'.symm.trans e.symm⟩ hm
        · intro _; rfl

/-- The `j`-th id in row order. -/
def idAt (x : Vec F S8x8 .i32) (j : ℕ) : BitVec 32 :=
  if h : j < 64 then x (ix2 (⟨j / 8, by omega⟩ : Fin 8) (⟨j % 8, by omega⟩ : Fin 8)) else 0#32

end Cert.KernelIdeal.Hand
-- ==== Proof.KernelIdeal.RingOffs.lean ====
/- Closed forms of the offsets, conditions and checks that the ring of expert slots computes. -/
module

public import proofs.«01_k».proof.Proof.KernelIdeal.List
public import proofs.«01_k».proof.Proof.Gen.KernelIdeal.Skeleton

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The slot and list positions the routed loop computes at trip `t`, as the words it computes. -/
def iv0 (t : ℕ) : ℕ := (Scalar.indexCast (Scf.iv 0#32 1#32 (⟨t, Nat.lt_succ_self t⟩ : Fin (t + 1)))).toNat
def iv3 (t : ℕ) : ℕ := (Scalar.indexCast (Scalar.subi (Scalar.addi (Scf.iv 0#32 1#32 (⟨t, Nat.lt_succ_self t⟩ : Fin (t + 1))) 4#32) 1#32)).toNat
def rem4 (t : ℕ) : ℕ := (Scalar.remsi (Scalar.addi (Scalar.subi (Scalar.addi (Scf.iv 0#32 1#32 (⟨t, Nat.lt_succ_self t⟩ : Fin (t + 1))) 4#32) 1#32) 1#32) 4#32).toNat
def rem1 (t : ℕ) : ℕ := (Scalar.remsi (Scalar.addi (Scf.iv 0#32 1#32 (⟨t, Nat.lt_succ_self t⟩ : Fin (t + 1))) 1#32) 4#32).toNat
theorem iv0_eq (t : ℕ) (h : t < 64) : iv0 t = t := (show ∀ t : Fin 64, iv0 t.val = t.val by decide +kernel) ⟨t, h⟩
theorem iv3_eq (t : ℕ) (h : t < 64) : iv3 t = t + 3 := (show ∀ t : Fin 64, iv3 t.val = t.val + 3 by decide +kernel) ⟨t, h⟩
theorem rem4_eq (t : ℕ) (h : t < 64) : rem4 t = t % 4 := (show ∀ t : Fin 64, rem4 t.val = t.val % 4 by decide +kernel) ⟨t, h⟩
theorem rem1_eq (t : ℕ) (h : t < 64) : rem1 t = (t + 1) % 4 := (show ∀ t : Fin 64, rem1 t.val = (t.val + 1) % 4 by decide +kernel) ⟨t, h⟩

/-- The ring's offsets at a trip, as numbers: the slot is the trip number modulo four. -/
theorem off50_eq (v18 : BitVec 32) (t : Fin (k0_t7_loop v18).trips) (h : t.val < 64) : k0_off50 v18 t = ![t.val % 4, 0] :=
  (show k0_off50 v18 t = ![rem4 t.val, 0] from rfl).trans (by rw [rem4_eq t.val h])
theorem off53_eq (v18 : BitVec 32) (t : Fin (k0_t7_loop v18).trips) (h : t.val < 64) : k0_off53 v18 t = ![t.val % 4, 1] :=
  (show k0_off53 v18 t = ![rem4 t.val, 1] from rfl).trans (by rw [rem4_eq t.val h])
theorem off56_eq (v18 : BitVec 32) (t : Fin (k0_t7_loop v18).trips) (h : t.val < 64) : k0_off56 v18 t = ![t.val % 4, 2] :=
  (show k0_off56 v18 t = ![rem4 t.val, 2] from rfl).trans (by rw [rem4_eq t.val h])
theorem off59_eq (v18 : BitVec 32) (t : Fin (k0_t7_loop v18).trips) (h : t.val < 64) : k0_off59 v18 t = ![t.val % 4, 3] :=
  (show k0_off59 v18 t = ![rem4 t.val, 3] from rfl).trans (by rw [rem4_eq t.val h])
theorem off63_eq (v18 : BitVec 32) (t : Fin (k0_t7_loop v18).trips) (h : t.val < 64) : k0_off63 v18 t = ![(t.val + 1) % 4, 0] :=
  (show k0_off63 v18 t = ![rem1 t.val, 0] from rfl).trans (by rw [rem1_eq t.val h])
theorem off66_eq (v18 : BitVec 32) (t : Fin (k0_t7_loop v18).trips) (h : t.val < 64) : k0_off66 v18 t = ![(t.val + 1) % 4, 1] :=
  (show k0_off66 v18 t = ![rem1 t.val, 1] from rfl).trans (by rw [rem1_eq t.val h])
theorem off69_eq (v18 : BitVec 32) (t : Fin (k0_t7_loop v18).trips) (h : t.val < 64) : k0_off69 v18 t = ![(t.val + 1) % 4, 2] :=
  (show k0_off69 v18 t = ![rem1 t.val, 2] from rfl).trans (by rw [rem1_eq t.val h])
theorem off72_eq (v18 : BitVec 32) (t : Fin (k0_t7_loop v18).trips) (h : t.val < 64) : k0_off72 v18 t = ![(t.val + 1) % 4, 3] :=
  (show k0_off72 v18 t = ![rem1 t.val, 3] from rfl).trans (by rw [rem1_eq t.val h])
theorem off51_eq (v18 : BitVec 32) (t : Fin (k0_t7_loop v18).trips) (h : t.val < 64) : k0_off51 v18 t = ![t.val % 4, 0, 0, 0] :=
  (show k0_off51 v18 t = ![rem4 t.val, 0, 0, 0] from rfl).trans (by rw [rem4_eq t.val h])
theorem off54_eq (v18 : BitVec 32) (t : Fin (k0_t7_loop v18).trips) (h : t.val < 64) : k0_off54 v18 t = ![t.val % 4, 0, 0] :=
  (show k0_off54 v18 t = ![rem4 t.val, 0, 0] from rfl).trans (by rw [rem4_eq t.val h])
theorem off57_eq (v18 : BitVec 32) (t : Fin (k0_t7_loop v18).trips) (h : t.val < 64) : k0_off57 v18 t = ![t.val % 4, 0, 0, 0] :=
  (show k0_off57 v18 t = ![rem4 t.val, 0, 0, 0] from rfl).trans (by rw [rem4_eq t.val h])
theorem off60_eq (v18 : BitVec 32) (t : Fin (k0_t7_loop v18).trips) (h : t.val < 64) : k0_off60 v18 t = ![t.val % 4, 0, 0] :=
  (show k0_off60 v18 t = ![rem4 t.val, 0, 0] from rfl).trans (by rw [rem4_eq t.val h])
theorem off64_eq (v18 : BitVec 32) (t : Fin (k0_t7_loop v18).trips) (h : t.val < 64) : k0_off64 v18 t = ![(t.val + 1) % 4, 0, 0, 0] :=
  (show k0_off64 v18 t = ![rem1 t.val, 0, 0, 0] from rfl).trans (by rw [rem1_eq t.val h])
theorem off67_eq (v18 : BitVec 32) (t : Fin (k0_t7_loop v18).trips) (h : t.val < 64) : k0_off67 v18 t = ![(t.val + 1) % 4, 0, 0] :=
  (show k0_off67 v18 t = ![rem1 t.val, 0, 0] from rfl).trans (by rw [rem1_eq t.val h])
theorem off70_eq (v18 : BitVec 32) (t : Fin (k0_t7_loop v18).trips) (h : t.val < 64) : k0_off70 v18 t = ![(t.val + 1) % 4, 0, 0, 0] :=
  (show k0_off70 v18 t = ![rem1 t.val, 0, 0, 0] from rfl).trans (by rw [rem1_eq t.val h])
theorem off73_eq (v18 : BitVec 32) (t : Fin (k0_t7_loop v18).trips) (h : t.val < 64) : k0_off73 v18 t = ![(t.val + 1) % 4, 0, 0] :=
  (show k0_off73 v18 t = ![rem1 t.val, 0, 0] from rfl).trans (by rw [rem1_eq t.val h])
theorem off76_eq (v18 : BitVec 32) (t : Fin (k0_t7_loop v18).trips) (h : t.val < 64) : k0_off76 v18 t = ![(t.val + 1) % 4, 0, 0] :=
  (show k0_off76 v18 t = ![rem1 t.val, 0, 0] from rfl).trans (by rw [rem1_eq t.val h])
theorem off78_eq (v18 : BitVec 32) (t : Fin (k0_t7_loop v18).trips) (h : t.val < 64) : k0_off78 v18 t = ![(t.val + 1) % 4, 0, 0, 0] :=
  (show k0_off78 v18 t = ![rem1 t.val, 0, 0, 0] from rfl).trans (by rw [rem1_eq t.val h])
theorem off82_eq (v18 : BitVec 32) (t : Fin (k0_t7_loop v18).trips) (h : t.val < 64) : k0_off82 v18 t = ![(t.val + 1) % 4, 0, 0] :=
  (show k0_off82 v18 t = ![rem1 t.val, 0, 0] from rfl).trans (by rw [rem1_eq t.val h])
theorem off84_eq (v18 : BitVec 32) (t : Fin (k0_t7_loop v18).trips) (h : t.val < 64) : k0_off84 v18 t = ![(t.val + 1) % 4, 0, 0, 0] :=
  (show k0_off84 v18 t = ![rem1 t.val, 0, 0, 0] from rfl).trans (by rw [rem1_eq t.val h])
theorem off62_eq (v18 : BitVec 32) (t : Fin (k0_t7_loop v18).trips) (h : t.val < 64) : k0_off62 v18 t = ![t.val] :=
  (show k0_off62 v18 t = ![iv0 t.val] from rfl).trans (by rw [iv0_eq t.val h])
theorem off75_eq (v18 : BitVec 32) (t : Fin (k0_t7_loop v18).trips) (h : t.val < 64) : k0_off75 v18 t = ![t.val] :=
  (show k0_off75 v18 t = ![iv0 t.val] from rfl).trans (by rw [iv0_eq t.val h])
theorem off49_eq (v18 : BitVec 32) (t : Fin (k0_t7_loop v18).trips) (h : t.val < 64) : k0_off49 v18 t = ![t.val + 3] :=
  (show k0_off49 v18 t = ![iv3 t.val] from rfl).trans (by rw [iv3_eq t.val h])

end Cert.KernelIdeal.Hand
-- ==== Proof.KernelIdeal.RingChk.lean ====
/- Closed forms of the offsets, conditions and checks that the ring of expert slots computes. -/
module

public import proofs.«01_k».proof.Proof.KernelIdeal.List
public import proofs.«01_k».proof.Proof.Gen.KernelIdeal.Skeleton

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

theorem t7_full_chk : (k0_t7_loop 64#32).trips = 64 := by decide +kernel
/-- The routed loop makes one trip per listed expert; -/
theorem t7_trips : ∀ n : Fin 65, (k0_t7_loop (BitVec.ofNat 32 n.val)).trips = n.val := by decide +kernel
/-- and the loop after it none. -/
theorem t12_trips : ∀ n : Fin 65, (k0_t12_loop (BitVec.ofNat 32 n.val)).trips = 0 := by decide +kernel
theorem chk6_of : ∀ n : Fin 65, k0_chk6 (BitVec.ofNat 32 n.val) := by decide +kernel
theorem cond1_iff : ∀ n : Fin 65, (k0_cond1 (BitVec.ofNat 32 n.val) = 1#1 ↔ 0 < n.val) := by decide +kernel
theorem cond2_iff : ∀ n : Fin 65, (k0_cond2 (BitVec.ofNat 32 n.val) = 1#1 ↔ 1 < n.val) := by decide +kernel
theorem cond3_iff : ∀ n : Fin 65, (k0_cond3 (BitVec.ofNat 32 n.val) = 1#1 ↔ 2 < n.val) := by decide +kernel
theorem cond4_iff : ∀ n : Fin 65, ∀ t : Fin (k0_t7_loop (BitVec.ofNat 32 n.val)).trips, (k0_cond4 (BitVec.ofNat 32 n.val) t = 1#1 ↔ t.val + 3 < n.val) := by decide +kernel

theorem chk8_aux : ∀ e : Fin 64, k0_chk8 (BitVec.ofNat 32 e.val) := by decide +kernel
/-- An expert id below 64 names a slice of each weight array. -/
theorem chk8_of (v : BitVec 32) (h : v.toNat < 64) : k0_chk8 v := by
  have := chk8_aux ⟨v.toNat, h⟩
  rwa [BitVec.ofNat_toNat, BitVec.setWidth_eq] at this
theorem chk7_of (v18 : BitVec 32) (t : Fin (k0_t7_loop v18).trips) (v : BitVec 32) (h : v.toNat < 64) : k0_chk7 v18 t v :=
  have k := chk8_of v h
  ⟨fun _ => k.1, fun _ => k.2.1, fun _ => k.2.2.1, fun _ => k.2.2.2.1, fun _ => k.2.2.2.2.1, fun _ => k.2.2.2.2.2.1, fun _ => k.2.2.2.2.2.2.1, fun _ => k.2.2.2.2.2.2.2⟩
theorem chk3_of (v18 : BitVec 32) (v : BitVec 32) (h : v.toNat < 64) : k0_chk3 v18 v :=
  have k := chk8_of v h
  ⟨fun _ => k.1, fun _ => k.2.1, fun _ => k.2.2.1, fun _ => k.2.2.2.1, fun _ => k.2.2.2.2.1, fun _ => k.2.2.2.2.2.1, fun _ => k.2.2.2.2.2.2.1, fun _ => k.2.2.2.2.2.2.2⟩
theorem chk4_of (v18 : BitVec 32) (v : BitVec 32) (h : v.toNat < 64) : k0_chk4 v18 v :=
  have k := chk8_of v h
  ⟨fun _ => k.1, fun _ => k.2.1, fun _ => k.2.2.1, fun _ => k.2.2.2.1, fun _ => k.2.2.2.2.1, fun _ => k.2.2.2.2.2.1, fun _ => k.2.2.2.2.2.2.1, fun _ => k.2.2.2.2.2.2.2⟩
theorem chk5_of (v18 : BitVec 32) (v : BitVec 32) (h : v.toNat < 64) : k0_chk5 v18 v :=
  have k := chk8_of v h
  ⟨fun _ => k.1, fun _ => k.2.1, fun _ => k.2.2.1, fun _ => k.2.2.2.1, fun _ => k.2.2.2.2.1, fun _ => k.2.2.2.2.2.1, fun _ => k.2.2.2.2.2.2.1, fun _ => k.2.2.2.2.2.2.2⟩

end Cert.KernelIdeal.Hand
-- ==== Proof.KernelIdeal.Model.lean ====
/- What the counted loops of one expert's feed-forward network compute, as functions of the operands: a group of 512
   columns as the sum over its K-chunks, the groups side by side, the hidden activation, the second product. -/
module

public import proofs.«01_k».proof.Proof.KernelIdeal.Tile
public import Idealize.ShloMosaic.Lib.VecWindow

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

open Idealize.ShloMosaic.VecWindow

/-! ## One chunk of each product -/

theorem xw_inb (k : ℕ) (hk : k < 8) : ∀ a, (![0, 256 * k] : Fin 2 → ℕ) a + S8x256.size a ≤ S8x2048.size a :=
  Fin.forall_fin_two.mpr ⟨by show 0 + 8 ≤ 8; omega, by show 256 * k + 256 ≤ 2048; omega⟩
theorem gs_inb (g k : ℕ) (hg : g < 3) (hk : k < 8) : ∀ a, (![8 * k, 512 * g] : Fin 2 → ℕ) a + S8x512.size a ≤ S64x1536.size a :=
  Fin.forall_fin_two.mpr ⟨by show 8 * k + 8 ≤ 64; omega, by show 512 * g + 512 ≤ 1536; omega⟩
theorem gc_inb (g k : ℕ) (hg : g < 3) (hk : k < 8) (b : Fin 8) (h : Fin 2) :
    ∀ a, (![((k * 8 + b.val) * 2 + h.val) * 3 + g, 0, 0] : Fin 3 → ℕ) a + S1x32x128.size a ≤ S384x32x128.size a := fun a => by
  have := b.isLt; have := h.isLt
  match a with
  | 0 => show ((k * 8 + b.val) * 2 + h.val) * 3 + g + 1 ≤ 384; omega
  | 1 => show 0 + 32 ≤ 32; omega
  | 2 => show 0 + 128 ≤ 128; omega
theorem hw_inb (k : ℕ) (hk : k < 3) : ∀ a, (![0, 256 * k] : Fin 2 → ℕ) a + S8x256.size a ≤ S8x768.size a :=
  Fin.forall_fin_two.mpr ⟨by show 0 + 8 ≤ 8; omega, by show 256 * k + 256 ≤ 768; omega⟩
theorem ds_inb (g k : ℕ) (hg : g < 4) (hk : k < 3) : ∀ a, (![8 * k, 512 * g] : Fin 2 → ℕ) a + S8x512.size a ≤ S24x2048.size a :=
  Fin.forall_fin_two.mpr ⟨by show 8 * k + 8 ≤ 24; omega, by show 512 * g + 512 ≤ 2048; omega⟩
theorem dc_inb (g k : ℕ) (hg : g < 4) (hk : k < 3) (b : Fin 8) (h : Fin 2) :
    ∀ a, (![((k * 8 + b.val) * 2 + h.val) * 4 + g, 0, 0] : Fin 3 → ℕ) a + S1x32x128.size a ≤ S192x32x128.size a := fun a => by
  have := b.isLt; have := h.isLt
  match a with
  | 0 => show ((k * 8 + b.val) * 2 + h.val) * 4 + g + 1 ≤ 192; omega
  | 1 => show 0 + 32 ≤ 32; omega
  | 2 => show 0 + 128 ≤ 128; omega
theorem gw_inb (g : ℕ) (hg : g < 3) : ∀ a, (![0, 512 * g] : Fin 2 → ℕ) a + S8x512.size a ≤ S8x1536.size a :=
  Fin.forall_fin_two.mpr ⟨by show 0 + 8 ≤ 8; omega, by show 512 * g + 512 ≤ 1536; omega⟩
theorem aw_inb (g : ℕ) (hg : g < 4) : ∀ a, (![0, 512 * g] : Fin 2 → ℕ) a + S8x512.size a ≤ S8x2048.size a :=
  Fin.forall_fin_two.mpr ⟨by show 0 + 8 ≤ 8; omega, by show 512 * g + 512 ≤ 2048; omega⟩

/-- Chunk `k` of column group `g` of the gate and up product. -/
def guChunk (x : Vec F S8x2048 .bf16) (c : Vec F S384x32x128 .i8) (s : Vec F S64x1536 .i8) (g k : ℕ) (hg : g < 3) (hk : k < 8)
    (acc : FVec F S8x512 .f32) : FVec F S8x512 .f32 :=
  chunk (shapeCast S8x256 (window x ![0, 256 * k] S8x256.size (xw_inb k hk)) shapeCasts_S8x256_S8x256) (window s ![8 * k, 512 * g] S8x512.size (gs_inb g k hg hk))
    (fun b h => window c ![((k * 8 + b.val) * 2 + h.val) * 3 + g, 0, 0] S1x32x128.size (gc_inb g k hg hk b h)) acc

/-- Chunk `k` of column group `g` of the down product. -/
def dnChunk (x : Vec F S8x768 .bf16) (c : Vec F S192x32x128 .i8) (s : Vec F S24x2048 .i8) (g k : ℕ) (hg : g < 4) (hk : k < 3)
    (acc : FVec F S8x512 .f32) : FVec F S8x512 .f32 :=
  chunk (window x ![0, 256 * k] S8x256.size (hw_inb k hk)) (window s ![8 * k, 512 * g] S8x512.size (ds_inb g k hg hk))
    (fun b h => window c ![((k * 8 + b.val) * 2 + h.val) * 4 + g, 0, 0] S1x32x128.size (dc_inb g k hg hk b h)) acc

/-- The zero tile every product starts at. -/
def zeroTile : FVec F S8x512 .f32 := broadcast S8x512 (Scalar.ofBits .f32 0x00000000#32)

/-- Column group `g` of the gate and up product after `k` chunks. -/
def guState (x : Vec F S8x2048 .bf16) (c : Vec F S384x32x128 .i8) (s : Vec F S64x1536 .i8) (g : ℕ) (hg : g < 3) : ℕ → FVec F S8x512 .f32
  | 0 => zeroTile
  | k + 1 => if hk : k < 8 then guChunk x c s g k hg hk (guState x c s g hg k) else guState x c s g hg k

/-- Column group `g` of the down product after `k` chunks. -/
def dnState (x : Vec F S8x768 .bf16) (c : Vec F S192x32x128 .i8) (s : Vec F S24x2048 .i8) (g : ℕ) (hg : g < 4) : ℕ → FVec F S8x512 .f32
  | 0 => zeroTile
  | k + 1 => if hk : k < 3 then dnChunk x c s g k hg hk (dnState x c s g hg k) else dnState x c s g hg k

theorem guState_succ (x : Vec F S8x2048 .bf16) (c : Vec F S384x32x128 .i8) (s : Vec F S64x1536 .i8) (g : ℕ) (hg : g < 3) (k : ℕ) (hk : k < 8) :
    guState x c s g hg (k + 1) = guChunk x c s g k hg hk (guState x c s g hg k) := dif_pos hk
theorem dnState_succ (x : Vec F S8x768 .bf16) (c : Vec F S192x32x128 .i8) (s : Vec F S24x2048 .i8) (g : ℕ) (hg : g < 4) (k : ℕ) (hk : k < 3) :
    dnState x c s g hg (k + 1) = dnChunk x c s g k hg hk (dnState x c s g hg k) := dif_pos hk

/-! ## The groups, written one after another -/

/-- The gate and up buffer after `g` groups, from what it held. -/
def guBuf (x : Vec F S8x2048 .bf16) (c : Vec F S384x32x128 .i8) (s : Vec F S64x1536 .i8) (v : Vec F S8x1536 .f32) : ℕ → Vec F S8x1536 .f32
  | 0 => v
  | g + 1 => if hg : g < 3 then put (guBuf x c s v g) ![0, 512 * g] S8x512.size (guState x c s g hg 8) else guBuf x c s v g

theorem guBuf_succ (x : Vec F S8x2048 .bf16) (c : Vec F S384x32x128 .i8) (s : Vec F S64x1536 .i8) (v : Vec F S8x1536 .f32) (g : ℕ) (hg : g < 3) :
    guBuf x c s v (g + 1) = put (guBuf x c s v g) ![0, 512 * g] S8x512.size (guState x c s g hg 8) := dif_pos hg

/-- The first accumulator after `g` groups: the shared expert's output, from what the buffer held. -/
def shBuf (x : Vec F S8x768 .bf16) (c : Vec F S192x32x128 .i8) (s : Vec F S24x2048 .i8) (v : Vec F S8x2048 .f32) : ℕ → Vec F S8x2048 .f32
  | 0 => v
  | g + 1 => if hg : g < 4 then put (shBuf x c s v g) ![0, 512 * g] S8x512.size (dnState x c s g hg 3) else shBuf x c s v g

theorem shBuf_succ (x : Vec F S8x768 .bf16) (c : Vec F S192x32x128 .i8) (s : Vec F S24x2048 .i8) (v : Vec F S8x2048 .f32) (g : ℕ) (hg : g < 4) :
    shBuf x c s v (g + 1) = put (shBuf x c s v g) ![0, 512 * g] S8x512.size (dnState x c s g hg 3) := dif_pos hg

/-- The accumulator after `g` groups of a routed expert: the expert's output, weighted, added on the rows that chose it. -/
def rtBuf (w : FVec F S8x1 .f32) (on : IVec S8x1 1) (x : Vec F S8x768 .bf16) (c : Vec F S192x32x128 .i8) (s : Vec F S24x2048 .i8)
    (v : Vec F S8x2048 .f32) : ℕ → Vec F S8x2048 .f32
  | 0 => v
  | g + 1 => if hg : g < 4 then
      put (rtBuf w on x c s v g) ![0, 512 * g] S8x512.size
        (k0_pay10 w on (dnState x c s g hg 3) (window (rtBuf w on x c s v g) ![0, 512 * g] S8x512.size (aw_inb g hg)))
    else rtBuf w on x c s v g

theorem rtBuf_succ (w : FVec F S8x1 .f32) (on : IVec S8x1 1) (x : Vec F S8x768 .bf16) (c : Vec F S192x32x128 .i8) (s : Vec F S24x2048 .i8)
    (v : Vec F S8x2048 .f32) (g : ℕ) (hg : g < 4) :
    rtBuf w on x c s v (g + 1) = put (rtBuf w on x c s v g) ![0, 512 * g] S8x512.size
        (k0_pay10 w on (dnState x c s g hg 3) (window (rtBuf w on x c s v g) ![0, 512 * g] S8x512.size (aw_inb g hg))) := dif_pos hg

end Cert.KernelIdeal.Hand
-- ==== Proof.KernelIdeal.Flow.lean ====
/- What the routed loop computes, trip by trip, as a function of the operands. -/
module

public import proofs.«01_k».proof.Proof.KernelIdeal.Model
public import proofs.«01_k».proof.Proof.KernelIdeal.Ring

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

open Idealize.ShloMosaic.VecWindow

/-- A load of the whole buffer reads its contents. -/
theorem readAt_all {κ : Kind} {sp : Space} {s : Shape} {e : EltTy} (v : View sig κ sp s e) (X : v.ty.Contents (Elt F)) {off : Fin s.rank → ℕ} (h0 : ∀ a, off a = 0) (inb) :
    v.readAt (Elt F) (Rect.unit off s.size inb).toLoadRect X = v.read (Elt F) X := by
  rw [v.readAt_unit X inb rfl inb]
  funext y
  show v.read (Elt F) X ((Rect.unit off s.size inb).emb y) = _
  congr 1
  funext a
  apply Fin.ext
  show off a + 1 * (y a).val = (y a).val
  rw [h0 a]; omega

/-- The gate and up product: its buffer once all three groups are written. -/
def guOf (x : Vec F S8x2048 .bf16) (c : Vec F S384x32x128 .i8) (s : Vec F S64x1536 .i8) : Vec F S8x1536 .f32 := guBuf x c s (fun _ => Scalar.ofBits .f32 0x00000000#32) 3
theorem guBuf_three (x : Vec F S8x2048 .bf16) (c : Vec F S384x32x128 .i8) (s : Vec F S64x1536 .i8) (v : Vec F S8x1536 .f32) : guBuf x c s v 3 = guOf x c s := by
  unfold guOf
  rw [guBuf_succ _ _ _ _ 2 (by decide), guBuf_succ _ _ _ _ 1 (by decide), guBuf_succ _ _ _ _ 0 (by decide),
    guBuf_succ _ _ _ _ 2 (by decide), guBuf_succ _ _ _ _ 1 (by decide), guBuf_succ _ _ _ _ 0 (by decide)]
  funext y
  unfold put
  split
  · rfl
  · rename_i h2
    split
    · rfl
    · rename_i h1
      split
      · rfl
      · rename_i h0
        exfalso
        have hy0 : (y 0).val < 8 := (y 0).isLt
        have hy1 : (y 1).val < 1536 := (y 1).isLt
        have n2 : ¬(1024 ≤ (y 1).val) := fun h => h2 (Fin.forall_fin_two.mpr ⟨⟨Nat.zero_le _, hy0⟩, ⟨h, hy1⟩⟩)
        have n1 : ¬(512 ≤ (y 1).val) := fun h => h1 (Fin.forall_fin_two.mpr ⟨⟨Nat.zero_le _, hy0⟩, ⟨h, by show (y 1).val < 1024; omega⟩⟩)
        exact h0 (Fin.forall_fin_two.mpr ⟨⟨Nat.zero_le _, hy0⟩, ⟨Nat.zero_le _, by show (y 1).val < 512; omega⟩⟩)

/-- The shared expert's output: the accumulator once all four groups are written. -/
def shOf (x : Vec F S8x768 .bf16) (c : Vec F S192x32x128 .i8) (s : Vec F S24x2048 .i8) : Vec F S8x2048 .f32 := shBuf x c s (fun _ => Scalar.ofBits .f32 0x00000000#32) 4
theorem shBuf_four (x : Vec F S8x768 .bf16) (c : Vec F S192x32x128 .i8) (s : Vec F S24x2048 .i8) (v : Vec F S8x2048 .f32) : shBuf x c s v 4 = shOf x c s := by
  unfold shOf
  rw [shBuf_succ _ _ _ _ 3 (by decide), shBuf_succ _ _ _ _ 2 (by decide), shBuf_succ _ _ _ _ 1 (by decide), shBuf_succ _ _ _ _ 0 (by decide),
    shBuf_succ _ _ _ _ 3 (by decide), shBuf_succ _ _ _ _ 2 (by decide), shBuf_succ _ _ _ _ 1 (by decide), shBuf_succ _ _ _ _ 0 (by decide)]
  funext y
  unfold put
  split
  · rfl
  · rename_i h3
    split
    · rfl
    · rename_i h2
      split
      · rfl
      · rename_i h1
        split
        · rfl
        · rename_i h0
          exfalso
          have hy0 : (y 0).val < 8 := (y 0).isLt
          have hy1 : (y 1).val < 2048 := (y 1).isLt
          have n3 : ¬(1536 ≤ (y 1).val) := fun h => h3 (Fin.forall_fin_two.mpr ⟨⟨Nat.zero_le _, hy0⟩, ⟨h, hy1⟩⟩)
          have n2 : ¬(1024 ≤ (y 1).val) := fun h => h2 (Fin.forall_fin_two.mpr ⟨⟨Nat.zero_le _, hy0⟩, ⟨h, by show (y 1).val < 1536; omega⟩⟩)
          have n1 : ¬(512 ≤ (y 1).val) := fun h => h1 (Fin.forall_fin_two.mpr ⟨⟨Nat.zero_le _, hy0⟩, ⟨h, by show (y 1).val < 1024; omega⟩⟩)
          exact h0 (Fin.forall_fin_two.mpr ⟨⟨Nat.zero_le _, hy0⟩, ⟨Nat.zero_le _, by show (y 1).val < 512; omega⟩⟩)

/-- The accumulator after `t` routed experts, the list naming them. -/
def accAt (ids : Vec F S8x8 .i32) (ew : Vec F S8x8 .f32) (x : Vec F S8x2048 .bf16)
    (C4 : Fin 64 → Vec F S384x32x128 .i8) (C5 : Fin 64 → Vec F S64x1536 .i8) (C6 : Fin 64 → Vec F S192x32x128 .i8) (C7 : Fin 64 → Vec F S24x2048 .i8)
    (le : ℕ → BitVec 32) (a0 : Vec F S8x2048 .f32) : ℕ → Vec F S8x2048 .f32
  | 0 => a0
  | t + 1 => rtBuf (k0_pay542 ids (le t) ew) (k0_pay543 ids (le t)) (k0_pay547 (guOf x (C4 (exAt le t)) (C5 (exAt le t)))) (C6 (exAt le t)) (C7 (exAt le t))
      (accAt ids ew x C4 C5 C6 C7 le a0 t) 4

end Cert.KernelIdeal.Hand
-- ==== Proof.KernelIdeal.Start.lean ====
/- A trip's prefetch and its four waits. -/
module

public import proofs.«01_k».proof.Proof.KernelIdeal.Ring
public import proofs.«01_k».proof.Proof.KernelIdeal.RingOffs
public import proofs.«01_k».proof.Proof.KernelIdeal.RingChk
public import Idealize.ShloMosaic.Lib.Pointwise.Index
public import Idealize.ShloMosaic.Lib.VecWindow
public import proofs.«01_k».proof.Proof.KernelIdeal.Flow

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.VecWindow

/-- The slot trip `t` issues into, and the one it waits on. -/
abbrev kq (t : ℕ) : Fin 4 := ⟨t % 4, Nat.mod_lt _ (by decide)⟩
abbrev kp (t : ℕ) : Fin 4 := ⟨(t + 1) % 4, Nat.mod_lt _ (by decide)⟩

/-- The states after trip `t`'s issue. -/
def midAt (n : ℕ) (le : ℕ → BitVec 32) (t : ℕ) : Fin 4 → Option (Fin 64) :=
  if t + 3 < n then Function.update (stAt n le t) (kq t) (some (exAt le (t + 3))) else stAt n le t
theorem midAt_own (n : ℕ) (le : ℕ → BitVec 32) (t : ℕ) (ht : t < n) : midAt n le t (kp t) = some (exAt le t) := by
  unfold midAt
  split
  · rw [Function.update_of_ne (by intro h; have := congrArg Fin.val h; simp only at this; omega)]
    exact stAt_own n le t _ rfl ht
  · exact stAt_own n le t _ rfl ht
theorem midAt_next (n : ℕ) (le : ℕ → BitVec 32) (t : ℕ) : Function.update (midAt n le t) (kp t) none = stAt n le (t + 1) := by
  unfold midAt
  split
  · exact stAt_step n le t _ _ rfl rfl (by assumption)
  · exact stAt_stop n le t _ rfl (by assumption)

theorem off52_ex (le : ℕ → BitVec 32) (j : ℕ) (h : (le j).toNat < 64) : k0_off52 (le j) = ![(exAt le j).val, 0, 0, 0] := by
  show ![(le j).toNat, 0, 0, 0] = ![(le j).toNat % 64, 0, 0, 0]; rw [Nat.mod_eq_of_lt h]
theorem off55_ex (le : ℕ → BitVec 32) (j : ℕ) (h : (le j).toNat < 64) : k0_off55 (le j) = ![(exAt le j).val, 0, 0] := by
  show ![(le j).toNat, 0, 0] = ![(le j).toNat % 64, 0, 0]; rw [Nat.mod_eq_of_lt h]
theorem off58_ex (le : ℕ → BitVec 32) (j : ℕ) (h : (le j).toNat < 64) : k0_off58 (le j) = ![(exAt le j).val, 0, 0, 0] := by
  show ![(le j).toNat, 0, 0, 0] = ![(le j).toNat % 64, 0, 0, 0]; rw [Nat.mod_eq_of_lt h]
theorem off61_ex (le : ℕ → BitVec 32) (j : ℕ) (h : (le j).toNat < 64) : k0_off61 (le j) = ![(exAt le j).val, 0, 0] := by
  show ![(le j).toNat, 0, 0] = ![(le j).toNat % 64, 0, 0]; rw [Nat.mod_eq_of_lt h]

/-- A scalar load of the list. -/
theorem ld20 (𝒱 : Variants) (c : Dev nD) (bd : Option 𝒱.V) (E : Set ℕ) (arg20 : Memref sig .tc .smem S65 .i32) (X : BufTy.Contents (Elt F) arg20.view.ty) (off : Fin 1 → ℕ) (inb) (a : Fin 65) (e : off = ![a.val]) (h1 h2) :
    ((arg20.view.loc (c : Thread nD τ) ↦[arg20.view.set]{fullShare} X) : sProp 𝕄)
      ⊢ wp frame (wpE (defs₀ (F := F)) 𝒱 (c : Thread nD τ) bd) E (smemLoad arg20 (Rect.unit (s := S65) off S1.size inb) h1 h2)
        (fun v => iprop(⌜v = arg20.view.read (Elt F) X (ix1 a)⌝ ∗ (arg20.view.loc (c : Thread nD τ) ↦[arg20.view.set]{fullShare} X))) := by
  subst e
  iintro H20
  sl_exec
  rw [wp_ret]; imodintro
  isplitr [H20]
  · ipureintro
    rw [arg20.view.readAt_unit X inb rfl inb]
    show arg20.view.read (Elt F) X _ = _
    congr 1
    funext a; apply Fin.ext; match a with | 0 => rfl
  iexact H20

/-- A side condition that holds. -/
theorem asm (𝒱 : Variants) (c : Dev nD) (bd : Option 𝒱.V) (E : Set ℕ) (p : Prop) (d : Decidable p) (hp : p) (X : sProp 𝕄) :
    X ⊢ wp frame (wpE (defs₀ (F := F)) 𝒱 (c : Thread nD τ) bd) E (Prog.lift (TpuEff.assume p d) : Prog (TpuEff nD τ sig (Elt F) Λ₀ .tc) (PLift p)) (fun _ => X) := by
  iintro H
  sl_exec
  rw [wp_ret]; imodintro
  iexact H

/-- A load of a whole buffer. -/
theorem ldW (𝒱 : Variants) (c : Dev nD) (bd : Option 𝒱.V) (E : Set ℕ) {s : Shape} {e : EltTy} (arg : Memref sig .tc .vmem s e) (X : BufTy.Contents (Elt F) arg.view.ty) {off : Fin s.rank → ℕ} (h0 : ∀ a, off a = 0) (inb) (h1) :
    ((arg.view.loc (c : Thread nD τ) ↦[arg.view.set]{fullShare} X) : sProp 𝕄)
      ⊢ wp frame (wpE (defs₀ (F := F)) 𝒱 (c : Thread nD τ) bd) E (Prog.lift (.load arg (Rect.unit (s := s) off s.size inb).toLoadRect h1))
        (fun v => iprop(⌜v = arg.view.read (Elt F) X⌝ ∗ (arg.view.loc (c : Thread nD τ) ↦[arg.view.set]{fullShare} X))) := by
  iintro H
  sl_exec
  rw [wp_ret]; imodintro
  isplitr [H]
  · ipureintro
    exact readAt_all arg.view X h0 inb
  iexact H

/-- A store of a whole buffer. -/
theorem stW (𝒱 : Variants) (c : Dev nD) (bd : Option 𝒱.V) (E : Set ℕ) {s : Shape} {e : EltTy} (arg : Memref sig .tc .vmem s e) (X : BufTy.Contents (Elt F) arg.view.ty) {off : Fin s.rank → ℕ} (inb)
    (w : (Rect.unit off s.size inb).shape.Idx → Elt F e) (h1 h2) :
    ((arg.view.loc (c : Thread nD τ) ↦[arg.view.set]{fullShare} X) : sProp 𝕄)
      ⊢ wp frame (wpE (defs₀ (F := F)) 𝒱 (c : Thread nD τ) bd) E (Prog.lift (.store arg (Rect.unit (s := s) off s.size inb) w Finset.univ h1 h2))
        (fun _ => iprop(∃ X, (arg.view.loc (c : Thread nD τ) ↦[arg.view.set]{fullShare} X) ∗ ⌜arg.view.read (Elt F) X = w⌝)) := by
  iintro H
  sl_exec
  sl_step
  iexists _
  isplitl [H]; · iexact H
  ipureintro
  exact View.read_writes_full arg.view X inb w []

end Cert.KernelIdeal.Hand
-- ==== Proof.KernelIdeal.Collect.lean ====
/- The two scalar loops that gather the distinct expert ids, run on the buffers they use. -/
module

public import proofs.«01_k».proof.Proof.KernelIdeal.List
public import Idealize.ShloMosaic.Lib.VecWindow
public import Idealize.ShloMosaic.Lib.Exec
public import Idealize.ShloMosaic.Lib.Tactic
public import Idealize.ShloMosaic.Lib.Pipeline.Kit
public import Idealize.ShloMosaic.Lib.LoopEntry

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.VecWindow

theorem off1_eq : ∀ k : Fin k0_t1_loop.trips, k0_off1 k = ![k.val] := by decide +kernel
theorem off2_eq : ∀ k : Fin k0_t2_loop.trips, k0_off2 k = ![k.val / 8, k.val % 8] := by decide +kernel
theorem t1_trips : k0_t1_loop.trips = 64 := by decide +kernel
theorem t2_trips : k0_t2_loop.trips = 64 := by decide +kernel

/-- The loop that clears the marks. -/
theorem loop1 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4)
    (X0 : BufTy.Contents (Elt F) arg21.view.ty) :
    (iprop((arg21.view.loc (c : Thread nD τ) ↦[arg21.view.set]{fullShare} X0)) : sProp 𝕄)
      ⊢ wp frame (wpE (defs₀ (F := F)) 𝒱 (c : Thread nD τ) bd) E
          (Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22))
          (fun _ => iprop(∃ X, (arg21.view.loc (c : Thread nD τ) ↦[arg21.view.set]{fullShare} X)
              ∗ ⌜∀ e : Fin 64, arg21.view.read (Elt F) X (ix1 e) = 0#32⌝)) := by
  iintro HR0
  iapply (Scf.wp_for frame (wpE (defs₀ (F := F)) 𝒱 (c : Thread nD τ) bd) E _ _ _ k0_t1_ok _ _
    (fun k _ => iprop(∃ X, (arg21.view.loc (c : Thread nD τ) ↦[arg21.view.set]{fullShare} X)
              ∗ ⌜∀ e : Fin 64, e.val < k → arg21.view.read (Elt F) X (ix1 e) = 0#32⌝)) ?_)
  · intro k acc
    unfold k0_t1_body
    iintro ⟨%X, HR0, %hX⟩
    sl_exec
    sl_step
    iexists _
    isplitl [HR0]; · iexact HR0
    ipureintro
    intro e he
    rw [View.read_writes_cons_put _ _ _ _ _ (off1_eq k), View.writes_nil]
    show put _ _ _ _ _ = _
    unfold put
    split
    · rfl
    · rename_i hn
      refine hX e (by
        by_contra hge
        exact hn (Fin.forall_fin_one.mpr ⟨by show k.val ≤ e.val; omega, by show e.val < k.val + 1; omega⟩))
  · isplitl [HR0]
    · iexists X0
      isplitl [HR0]; · iexact HR0
      ipureintro
      exact fun e he => absurd he (Nat.not_lt_zero _)
    · iintro %acc ⟨%X, HR0, %hX⟩
      iexists X
      isplitl [HR0]; · iexact HR0
      ipureintro
      exact fun e => hX e (lt_of_lt_of_eq e.isLt t1_trips.symm)

/-- Whether an id has been met. -/
def metBit (ids : ℕ → BitVec 32) (j : ℕ) (e : BitVec 32) : BitVec 32 := if ∃ i, i < j ∧ ids i = e then 1#32 else 0#32

/-- The scan of the ids: it leaves the list of the different ids and their number. -/
theorem loop2 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4)
    (X0 : BufTy.Contents (Elt F) arg0.view.ty) (hids : ∀ j, (idAt (F := F) (arg0.view.read (Elt F) X0) j).toNat < 64)
    (X20 : BufTy.Contents (Elt F) arg20.view.ty) (X21 : BufTy.Contents (Elt F) arg21.view.ty)
    (h21 : ∀ e : Fin 64, arg21.view.read (Elt F) X21 (ix1 e) = 0#32) :
    (iprop((arg0.view.loc (c : Thread nD τ) ↦[arg0.view.set]{fullShare} X0) ∗ (arg20.view.loc (c : Thread nD τ) ↦[arg20.view.set]{fullShare} X20)
        ∗ (arg21.view.loc (c : Thread nD τ) ↦[arg21.view.set]{fullShare} X21)) : sProp 𝕄)
      ⊢ wp frame (wpE (defs₀ (F := F)) 𝒱 (c : Thread nD τ) bd) E
          (Scf.Loop.for k0_t2_loop k0_t2_ok 0#32 (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22))
          (fun v => iprop(⌜v = BitVec.ofNat 32 (cnt (idAt (F := F) (arg0.view.read (Elt F) X0)) 64)⌝
            ∗ (arg0.view.loc (c : Thread nD τ) ↦[arg0.view.set]{fullShare} X0)
            ∗ (∃ X, (arg20.view.loc (c : Thread nD τ) ↦[arg20.view.set]{fullShare} X)
                ∗ ⌜∀ a : Fin 65, a.val < cnt (idAt (F := F) (arg0.view.read (Elt F) X0)) 64 →
                    arg20.view.read (Elt F) X (ix1 a) = lst (idAt (F := F) (arg0.view.read (Elt F) X0)) 64 a.val⌝)
            ∗ (∃ X, (arg21.view.loc (c : Thread nD τ) ↦[arg21.view.set]{fullShare} X)))) := by
  iintro ⟨HR0, HR20, HR21⟩
  iapply (Scf.wp_for frame (wpE (defs₀ (F := F)) 𝒱 (c : Thread nD τ) bd) E _ _ _ k0_t2_ok _ _
    (fun k acc => iprop(⌜acc = BitVec.ofNat 32 (cnt (idAt (F := F) (arg0.view.read (Elt F) X0)) k)⌝
            ∗ (arg0.view.loc (c : Thread nD τ) ↦[arg0.view.set]{fullShare} X0)
            ∗ (∃ X, (arg20.view.loc (c : Thread nD τ) ↦[arg20.view.set]{fullShare} X)
                ∗ ⌜∀ a : Fin 65, a.val < cnt (idAt (F := F) (arg0.view.read (Elt F) X0)) k →
                    arg20.view.read (Elt F) X (ix1 a) = lst (idAt (F := F) (arg0.view.read (Elt F) X0)) k a.val⌝)
            ∗ (∃ X, (arg21.view.loc (c : Thread nD τ) ↦[arg21.view.set]{fullShare} X)
                ∗ ⌜∀ e : Fin 64, arg21.view.read (Elt F) X (ix1 e) = metBit (idAt (F := F) (arg0.view.read (Elt F) X0)) k (BitVec.ofNat 32 e.val)⌝))) ?_)
  · intro k acc
    have hk : k.val < 64 := lt_of_lt_of_eq k.isLt t2_trips
    iintro ⟨%hacc, HR0, ⟨%L, HR20, %hL⟩, ⟨%S, HR21, %hS⟩⟩
    subst hacc
    have hn : cnt (idAt (F := F) (arg0.view.read (Elt F) X0)) k.val < 64 := lt_of_le_of_lt (cnt_le _ _) hk
    have hoff3 : k0_off3 (BitVec.ofNat 32 (cnt (idAt (F := F) (arg0.view.read (Elt F) X0)) k.val)) = ![cnt (idAt (F := F) (arg0.view.read (Elt F) X0)) k.val] := by
      show ![(BitVec.ofNat 32 _).toNat] = _
      rw [BitVec.toNat_ofNat, Nat.mod_eq_of_lt (by omega)]
    have hc1 : k0_chk1 (BitVec.ofNat 32 (cnt (idAt (F := F) (arg0.view.read (Elt F) X0)) k.val)) := by
      show ∀ a, _
      rw [hoff3]
      exact Fin.forall_fin_one.mpr (by show cnt _ _ + 1 ≤ 65; omega)
    unfold k0_t2_body
    sl_exec
    have hv : loop2.sl.r arg0 X0 k = idAt (F := F) (arg0.view.read (Elt F) X0) k.val := by
      show arg0.view.readAt (Elt F) (Rect.unit (s := S8x8) (k0_off2 k) S1x1.size (k0_off2_inb k)).toLoadRect X0 _ = _
      rw [arg0.view.readAt_unit X0 _ (off2_eq k) (fun a => by rw [← off2_eq k]; exact k0_off2_inb k a)]
      show _ = (if h : k.val < 64 then _ else _)
      rw [dif_pos hk]
      refine congrArg (arg0.view.read (Elt F) X0) (funext fun a => ?_)
      match a with
      | 0 => rfl
      | 1 => rfl
    have hoff4 : k0_off4 (loop2.sl.r arg0 X0 k) = ![(idAt (F := F) (arg0.view.read (Elt F) X0) k.val).toNat] := by rw [hv]; rfl
    have hlt : (idAt (F := F) (arg0.view.read (Elt F) X0) k.val).toNat < 64 := hids k.val
    have hc2 : k0_chk2 (loop2.sl.r arg0 X0 k) := by
      show ∀ a, _
      rw [hoff4]
      exact Fin.forall_fin_one.mpr (by show (idAt (F := F) (arg0.view.read (Elt F) X0) k.val).toNat + 1 ≤ 64; omega)
    sl_exec
    sl_step
    isplitr
    · ipureintro
      show (BitVec.ofNat 32 _ + 1#32) - (arg21.view.readAt (Elt F) (Rect.unit (s := S64) (k0_off4 (loop2.sl.r arg0 X0 k)) S1.size (k0_off4_inb _ hc2)).toLoadRect S _) = _
      rw [arg21.view.readAt_unit S _ hoff4 (fun a => by rw [← hoff4]; exact k0_off4_inb _ hc2 a)]
      have h98 := hS ⟨(idAt (F := F) (arg0.view.read (Elt F) X0) k.val).toNat, hlt⟩
      refine (congrArg (fun z => (BitVec.ofNat 32 _ + 1#32) - z) ((congrArg (arg21.view.read (Elt F) S) (funext fun a => ?_)).trans h98)).trans ?_
      · match a with
        | 0 => rfl
      · have hof : BitVec.ofNat 32 (idAt (F := F) (arg0.view.read (Elt F) X0) k.val).toNat = idAt (F := F) (arg0.view.read (Elt F) X0) k.val := by simp
        show (BitVec.ofNat 32 (cnt _ _) + 1#32) - metBit _ _ (BitVec.ofNat 32 (idAt (F := F) (arg0.view.read (Elt F) X0) k.val).toNat) = _
        rw [hof]
        unfold metBit
        by_cases hm : ∃ i, i < k.val ∧ idAt (F := F) (arg0.view.read (Elt F) X0) i = idAt (F := F) (arg0.view.read (Elt F) X0) k.val
        · rw [if_pos hm, cnt_succ_of_mem _ _ hm]
          exact BitVec.add_sub_cancel _ _
        · rw [if_neg hm, cnt_succ_of_new _ _ hm, BitVec.sub_zero]
          apply BitVec.eq_of_toNat_eq
          simp
    isplitl [HR0]; · iexact HR0
    isplitl [HR20]
    · iexists _
      isplitl [HR20]; · iexact HR20
      ipureintro
      intro a ha
      rw [View.read_writes_cons_put _ _ _ _ _ hoff3, View.writes_nil]
      show put _ _ _ _ _ = (if _ then _ else _)
      unfold put
      by_cases hac : a.val = cnt (idAt (F := F) (arg0.view.read (Elt F) X0)) k.val
      · rw [if_pos hac, dif_pos (Fin.forall_fin_one.mpr ⟨by show cnt _ _ ≤ a.val; omega, by show a.val < cnt _ _ + 1; omega⟩)]
        exact hv
      · rw [if_neg hac, dif_neg (fun h => hac (by have h0 := h 0; have h1 : cnt _ _ ≤ a.val := h0.1; have h2 : a.val < cnt _ _ + 1 := h0.2; omega))]
        refine hL a ?_
        have : cnt (idAt (F := F) (arg0.view.read (Elt F) X0)) (k.val + 1) ≤ cnt (idAt (F := F) (arg0.view.read (Elt F) X0)) k.val + 1 := by
          conv_lhs => unfold cnt
          split <;> omega
        omega
    · iexists _
      isplitl [HR21]; · iexact HR21
      ipureintro
      intro e
      rw [View.read_writes_cons_put _ _ _ _ _ hoff4, View.writes_nil]
      show put _ _ _ _ _ = (if _ then _ else _)
      unfold put
      by_cases he : BitVec.ofNat 32 e.val = idAt (F := F) (arg0.view.read (Elt F) X0) k.val
      · have hev : e.val = (idAt (F := F) (arg0.view.read (Elt F) X0) k.val).toNat := by
          rw [← he, BitVec.toNat_ofNat, Nat.mod_eq_of_lt (by omega)]
        rw [if_pos ⟨k.val, by omega, he.symm⟩, dif_pos (Fin.forall_fin_one.mpr ⟨hev.ge, by show e.val < (idAt (F := F) (arg0.view.read (Elt F) X0) k.val).toNat + 1; omega⟩)]
      · have hev : ¬ e.val = (idAt (F := F) (arg0.view.read (Elt F) X0) k.val).toNat := fun h => he (by
          apply BitVec.eq_of_toNat_eq
          rw [BitVec.toNat_ofNat, Nat.mod_eq_of_lt (by omega), h])
        rw [dif_neg (fun h => hev (by
          have h0 := h 0
          have h1 : (idAt (F := F) (arg0.view.read (Elt F) X0) k.val).toNat ≤ e.val := h0.1
          have h2 : e.val < (idAt (F := F) (arg0.view.read (Elt F) X0) k.val).toNat + 1 := h0.2
          omega))]
        refine (hS e).trans (if_congr ⟨fun ⟨i, hi, h⟩ => ⟨i, by omega, h⟩, fun ⟨i, hi, h⟩ => ⟨i, ?_, h⟩⟩ rfl rfl)
        rcases Nat.lt_succ_iff_lt_or_eq.mp hi with hi | rfl
        · exact hi
        · exact absurd h.symm he
  · isplitl [HR0 HR20 HR21]
    · isplitr
      · ipureintro; rfl
      isplitl [HR0]; · iexact HR0
      isplitl [HR20]
      · iexists X20
        isplitl [HR20]; · iexact HR20
        ipureintro
        exact fun a ha => absurd ha (Nat.not_lt_zero _)
      · iexists X21
        isplitl [HR21]; · iexact HR21
        ipureintro
        exact fun e => (h21 e).trans (if_neg fun ⟨i, hi, _⟩ => absurd hi (Nat.not_lt_zero _)).symm
    · iintro %acc ⟨%hacc, HR0, ⟨%L, HR20, %hL⟩, ⟨%S, HR21, %hS⟩⟩
      isplitr
      · ipureintro
        exact hacc
      isplitl [HR0]; · iexact HR0
      isplitl [HR20]
      · iexists L
        isplitl [HR20]; · iexact HR20
        ipureintro
        exact hL
      · iexists S
        iexact HR21

end Cert.KernelIdeal.Hand
-- ==== Proof.KernelIdeal.Begin.lean ====
/- The beginning of the kernel: the shared expert's copies, the gathering of the distinct ids, the first copies of routed experts, the waits for the shared expert. -/
module

public import proofs.«01_k».proof.Proof.KernelIdeal.Start
public import proofs.«01_k».proof.Proof.KernelIdeal.Collect

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.Ring Idealize.ShloMosaic.VecWindow

/-- What the first part of the body does: the shared expert's copies start, the marks are cleared, the list is made. -/
theorem part125 (𝒱 : Variants) (c : Dev nD) (bd : Option 𝒱.V) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (f4 : BufTy.Contents (Elt F) arg4.view.ty) (f5 : BufTy.Contents (Elt F) arg5.view.ty) (f6 : BufTy.Contents (Elt F) arg6.view.ty) (f7 : BufTy.Contents (Elt F) arg7.view.ty) (q8 : PosShare TreeShare) (f8 : BufTy.Contents (Elt F) arg8.view.ty) (f9 : BufTy.Contents (Elt F) arg9.view.ty) (f10 : BufTy.Contents (Elt F) arg10.view.ty) (f11 : BufTy.Contents (Elt F) arg11.view.ty)
    (X0 : BufTy.Contents (Elt F) arg0.view.ty) (hids : ∀ j, ((idAt (F := F) (arg0.view.read (Elt F) X0)) j).toNat < 64) :
    iprop(AtW (Slot c arg4 arg5 arg6 arg7 arg13 arg14 arg15 arg16 arg22 f4 f5 f6 f7) (fun _ => none) ∗ (Lent c arg8 q8 f8) ∗ (Lent c arg9 q8 f9) ∗ (Lent c arg10 q8 f10) ∗ (Lent c arg11 q8 f11) ∗ (arg0.view.loc (c : Thread nD τ) ↦[arg0.view.set]{fullShare} X0) ∗ (∃ X, (arg20.view.loc (c : Thread nD τ) ↦[arg20.view.set]{fullShare} X)) ∗ (∃ X, (arg21.view.loc (c : Thread nD τ) ↦[arg21.view.set]{fullShare} X)))
      ⊢ wp frame (wpE (defs₀ (F := F)) 𝒱 (c : Thread nD τ) bd) Set.univ (k0_part125 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22)
        (fun r => iprop(⌜r.1 = BitVec.ofNat 32 (cnt (idAt (F := F) (arg0.view.read (Elt F) X0)) 64)⌝ ∗ restW (Slot c arg4 arg5 arg6 arg7 arg13 arg14 arg15 arg16 arg22 f4 f5 f6 f7) (fun _ => none) 0 ∗ ((arg4.view.loc (c : Thread nD τ) ↦[arg4.view.set]{tok 0} f4) ∗ (arg5.view.loc (c : Thread nD τ) ↦[arg5.view.set]{tok 0} f5) ∗ (arg6.view.loc (c : Thread nD τ) ↦[arg6.view.set]{tok 0} f6) ∗ (arg7.view.loc (c : Thread nD τ) ↦[arg7.view.set]{tok 0} f7))
          ∗ (Fly c (cell arg22 0 0) arg8 (slot13 arg13 0) q8 f8) ∗ (Fly c (cell arg22 0 1) arg9 (slot14 arg14 0) q8 f9) ∗ (Fly c (cell arg22 0 2) arg10 (slot15 arg15 0) q8 f10) ∗ (Fly c (cell arg22 0 3) arg11 (slot16 arg16 0) q8 f11) ∗ (arg0.view.loc (c : Thread nD τ) ↦[arg0.view.set]{fullShare} X0)
          ∗ (∃ X, (arg20.view.loc (c : Thread nD τ) ↦[arg20.view.set]{fullShare} X) ∗ ⌜∀ a : Fin 65, a.val < cnt (idAt (F := F) (arg0.view.read (Elt F) X0)) 64 → arg20.view.read (Elt F) X (ix1 a) = lst (idAt (F := F) (arg0.view.read (Elt F) X0)) 64 a.val⌝) ∗ (∃ X, (arg21.view.loc (c : Thread nD τ) ↦[arg21.view.set]{fullShare} X)))) := by
  simp only [k0_part125_eq_skeleton]
  unfold k0_part125_skel
  dsimp only
  iintro ⟨HRing, L0, L1, L2, L3, HX0, ⟨%X20, H20⟩, ⟨%X21, H21⟩⟩
  ihave HRing := (open_none c arg4 arg5 arg6 arg7 arg13 arg14 arg15 arg16 arg22 f4 f5 f6 f7 (fun _ => none) 0 rfl) $$ HRing
  icases HRing with ⟨⟨⟨H0, G0⟩, ⟨H1, G1⟩, ⟨H2, G2⟩, H3, G3⟩, HRest⟩
  rw [wp_bind]
  iapply (wp_wand_r frame (wpE (defs₀ (F := F)) 𝒱 (c : Thread nD τ) bd) Set.univ)
  isplitl [H0 L0]
  · iapply (issue c (cell arg22 0 0) arg8 (slot13 arg13 0) q8 f8 𝒱 bd (by decide) _ _ _ rfl (slot13_eq arg13 0 _ rfl _) (cell_eq arg22 0 0 _ rfl _) _ _ _)
    isplitl [H0]; · iexact H0
    iexact L0
  iintro %_ H0
  rw [wp_bind]
  iapply (wp_wand_r frame (wpE (defs₀ (F := F)) 𝒱 (c : Thread nD τ) bd) Set.univ)
  isplitl [H1 L1]
  · iapply (issue c (cell arg22 0 1) arg9 (slot14 arg14 0) q8 f9 𝒱 bd (by decide) _ _ _ rfl (slot14_eq arg14 0 _ rfl _) (cell_eq arg22 0 1 _ rfl _) _ _ _)
    isplitl [H1]; · iexact H1
    iexact L1
  iintro %_ H1
  rw [wp_bind]
  iapply (wp_wand_r frame (wpE (defs₀ (F := F)) 𝒱 (c : Thread nD τ) bd) Set.univ)
  isplitl [H2 L2]
  · iapply (issue c (cell arg22 0 2) arg10 (slot15 arg15 0) q8 f10 𝒱 bd (by decide) _ _ _ rfl (slot15_eq arg15 0 _ rfl _) (cell_eq arg22 0 2 _ rfl _) _ _ _)
    isplitl [H2]; · iexact H2
    iexact L2
  iintro %_ H2
  rw [wp_bind]
  iapply (wp_wand_r frame (wpE (defs₀ (F := F)) 𝒱 (c : Thread nD τ) bd) Set.univ)
  isplitl [H3 L3]
  · iapply (issue c (cell arg22 0 3) arg11 (slot16 arg16 0) q8 f11 𝒱 bd (by decide) _ _ _ rfl (slot16_eq arg16 0 _ rfl _) (cell_eq arg22 0 3 _ rfl _) _ _ _)
    isplitl [H3]; · iexact H3
    iexact L3
  iintro %_ H3
  rw [wp_bind]
  iapply (wp_wand_r frame (wpE (defs₀ (F := F)) 𝒱 (c : Thread nD τ) bd) Set.univ)
  isplitl [H21]
  · iapply (loop1 𝒱 c bd Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 X21)
    iexact H21
  iintro %_ ⟨%Y21, H21, %h21⟩
  rw [wp_bind]
  iapply (wp_wand_r frame (wpE (defs₀ (F := F)) 𝒱 (c : Thread nD τ) bd) Set.univ)
  isplitl [HX0 H20 H21]
  · iapply (loop2 𝒱 c bd Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 X0 hids X20 Y21 h21)
    isplitl [HX0]; · iexact HX0
    isplitl [H20]; · iexact H20
    iexact H21
  iintro %v18 ⟨%hv, HX0, H20, H21⟩
  subst hv
  rw [wp_bind]
  iapply (wp_wand_r frame (wpE (defs₀ (F := F)) 𝒱 (c : Thread nD τ) bd) Set.univ)
  isplitl [H21]
  · iapply (asm 𝒱 c bd _ _ _ (chk6_of ⟨cnt (idAt (F := F) (arg0.view.read (Elt F) X0)) 64, Nat.lt_succ_of_le (cnt_le (idAt (F := F) (arg0.view.read (Elt F) X0)) 64)⟩) iprop(∃ X, (arg21.view.loc (c : Thread nD τ) ↦[arg21.view.set]{fullShare} X)))
    iexact H21
  iintro %_ H21
  rw [wp_pure]; imodintro
  isplitr [HRest G0 G1 G2 G3 H0 H1 H2 H3 HX0 H20 H21]
  · ipureintro; rfl
  isplitl [HRest]; · iexact HRest
  isplitl [G0 G1 G2 G3]
  · isplitl [G0]; · iexact G0
    isplitl [G1]; · iexact G1
    isplitl [G2]; · iexact G2
    iexact G3
  isplitl [H0]; · iexact H0
  isplitl [H1]; · iexact H1
  isplitl [H2]; · iexact H2
  isplitl [H3]; · iexact H3
  isplitl [HX0]; · iexact HX0
  isplitl [H20]; · iexact H20
  iexact H21

section
variable (c : Dev nD) (arg4 : Memref sig .tc .hbm S64x384x32x128 .i8) (arg5 : Memref sig .tc .hbm S64x64x1536 .i8) (arg6 : Memref sig .tc .hbm S64x192x32x128 .i8) (arg7 : Memref sig .tc .hbm S64x24x2048 .i8) (arg13 : Memref sig .tc .vmem S4x384x32x128 .i8) (arg14 : Memref sig .tc .vmem S4x64x1536 .i8) (arg15 : Memref sig .tc .vmem S4x192x32x128 .i8) (arg16 : Memref sig .tc .vmem S4x24x2048 .i8) (arg22 : DmaSems sig S4x4) (f4 : BufTy.Contents (Elt F) arg4.view.ty) (f5 : BufTy.Contents (Elt F) arg5.view.ty) (f6 : BufTy.Contents (Elt F) arg6.view.ty) (f7 : BufTy.Contents (Elt F) arg7.view.ty)
/-- Beside slot 0, a second slot set apart and put back with an expert on its way. -/
theorem open_more (st : Fin 4 → Option (Fin 64)) (k : Fin 4) (hk : k ≠ 0) (h : st k = none) :
    restW (Slot c arg4 arg5 arg6 arg7 arg13 arg14 arg15 arg16 arg22 f4 f5 f6 f7) st 0 ⊢ iprop((iprop(Rest c (cell arg22 k 0) (slot13 arg13 k) ∗ (arg4.view.loc (c : Thread nD τ) ↦[arg4.view.set]{tok k} f4)) ∗ iprop(Rest c (cell arg22 k 1) (slot14 arg14 k) ∗ (arg5.view.loc (c : Thread nD τ) ↦[arg5.view.set]{tok k} f5)) ∗ iprop(Rest c (cell arg22 k 2) (slot15 arg15 k) ∗ (arg6.view.loc (c : Thread nD τ) ↦[arg6.view.set]{tok k} f6)) ∗ iprop(Rest c (cell arg22 k 3) (slot16 arg16 k) ∗ (arg7.view.loc (c : Thread nD τ) ↦[arg7.view.set]{tok k} f7))) ∗ (bigSep ((Finset.univ.erase (0 : Fin 4)).erase k) fun k => (Slot c arg4 arg5 arg6 arg7 arg13 arg14 arg15 arg16 arg22 f4 f5 f6 f7) k (st k))) := by
  rw [restW_focus (Slot c arg4 arg5 arg6 arg7 arg13 arg14 arg15 arg16 arg22 f4 f5 f6 f7) st 0 k hk, h]; exact .rfl
theorem close_more (st : Fin 4 → Option (Fin 64)) (k : Fin 4) (hk : k ≠ 0) (e : Fin 64) :
    iprop((iprop(Fly c (cell arg22 k 0) (src4 arg4 e) (slot13 arg13 k) (tok k) f4 ∗ (arg4.view.loc (c : Thread nD τ) ↦[arg4.view.set \ (src4 arg4 e).view.set]{tok k} f4)) ∗ iprop(Fly c (cell arg22 k 1) (src5 arg5 e) (slot14 arg14 k) (tok k) f5 ∗ (arg5.view.loc (c : Thread nD τ) ↦[arg5.view.set \ (src5 arg5 e).view.set]{tok k} f5)) ∗ iprop(Fly c (cell arg22 k 2) (src6 arg6 e) (slot15 arg15 k) (tok k) f6 ∗ (arg6.view.loc (c : Thread nD τ) ↦[arg6.view.set \ (src6 arg6 e).view.set]{tok k} f6)) ∗ iprop(Fly c (cell arg22 k 3) (src7 arg7 e) (slot16 arg16 k) (tok k) f7 ∗ (arg7.view.loc (c : Thread nD τ) ↦[arg7.view.set \ (src7 arg7 e).view.set]{tok k} f7))) ∗ (bigSep ((Finset.univ.erase (0 : Fin 4)).erase k) fun k => (Slot c arg4 arg5 arg6 arg7 arg13 arg14 arg15 arg16 arg22 f4 f5 f6 f7) k (st k))) ⊢ restW (Slot c arg4 arg5 arg6 arg7 arg13 arg14 arg15 arg16 arg22 f4 f5 f6 f7) (Function.update st k (some e)) 0 :=
  restW_update₂ (Slot c arg4 arg5 arg6 arg7 arg13 arg14 arg15 arg16 arg22 f4 f5 f6 f7) st 0 k hk (some e)
end

/-- The second part of the body: the copies of the first three listed experts start, as far as the list reaches, and the shared expert's have arrived. -/
theorem part126 (𝒱 : Variants) (c : Dev nD) (bd : Option 𝒱.V) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (f4 : BufTy.Contents (Elt F) arg4.view.ty) (f5 : BufTy.Contents (Elt F) arg5.view.ty) (f6 : BufTy.Contents (Elt F) arg6.view.ty) (f7 : BufTy.Contents (Elt F) arg7.view.ty) (q8 : PosShare TreeShare) (f8 : BufTy.Contents (Elt F) arg8.view.ty) (f9 : BufTy.Contents (Elt F) arg9.view.ty) (f10 : BufTy.Contents (Elt F) arg10.view.ty) (f11 : BufTy.Contents (Elt F) arg11.view.ty)
    (n : Fin 65) (v20 v27 : BitVec 32) (le : ℕ → BitVec 32) (X20 : BufTy.Contents (Elt F) arg20.view.ty) (hle : ∀ a : Fin 65, a.val < n.val → arg20.view.read (Elt F) X20 (ix1 a) = le a.val) (hlt : ∀ a : ℕ, a < n.val → (le a).toNat < 64) :
    iprop(restW (Slot c arg4 arg5 arg6 arg7 arg13 arg14 arg15 arg16 arg22 f4 f5 f6 f7) (fun _ => none) 0 ∗ (Fly c (cell arg22 0 0) arg8 (slot13 arg13 0) q8 f8) ∗ (Fly c (cell arg22 0 1) arg9 (slot14 arg14 0) q8 f9) ∗ (Fly c (cell arg22 0 2) arg10 (slot15 arg15 0) q8 f10) ∗ (Fly c (cell arg22 0 3) arg11 (slot16 arg16 0) q8 f11) ∗ (arg20.view.loc (c : Thread nD τ) ↦[arg20.view.set]{fullShare} X20) ∗ ∃ W, owes (c : Thread nD τ) 0 W)
      ⊢ wp frame (wpE (defs₀ (F := F)) 𝒱 (c : Thread nD τ) bd) Set.univ (k0_part126 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 n.val) v20 v27)
        (fun _ => iprop(restW (Slot c arg4 arg5 arg6 arg7 arg13 arg14 arg15 arg16 arg22 f4 f5 f6 f7) (stAt n.val le 0) 0 ∗ (Full c (cell arg22 0 0) (slot13 arg13 0) (arg8.view.read (Elt F) f8)) ∗ (Full c (cell arg22 0 1) (slot14 arg14 0) (arg9.view.read (Elt F) f9)) ∗ (Full c (cell arg22 0 2) (slot15 arg15 0) (arg10.view.read (Elt F) f10)) ∗ (Full c (cell arg22 0 3) (slot16 arg16 0) (arg11.view.read (Elt F) f11)) ∗ (Lent c arg8 q8 f8) ∗ (Lent c arg9 q8 f9) ∗ (Lent c arg10 q8 f10) ∗ (Lent c arg11 q8 f11) ∗ (arg20.view.loc (c : Thread nD τ) ↦[arg20.view.set]{fullShare} X20) ∗ ∃ W, owes (c : Thread nD τ) 0 W)) := by
  simp only [k0_part126_eq_skeleton]
  unfold k0_part126_skel
  dsimp only
  iintro ⟨HRest, S0, S1, S2, S3, H20, HW⟩
  rcases (show 2 < n.val ∨ n.val = 2 ∨ n.val = 1 ∨ n.val = 0 by omega) with hn | hn | hn | hn
  · rw [dif_pos ((cond1_iff n).2 (by omega))]
    rw [wp_bind]
    iapply (wp_wand_r frame (wpE (defs₀ (F := F)) 𝒱 (c : Thread nD τ) bd) Set.univ)
    isplitl [H20]
    · iapply (ld20 𝒱 c bd _ arg20 X20 _ _ ⟨0, by omega⟩ rfl _ _)
      iexact H20
    iintro %v ⟨%hv, H20⟩
    rw [hle ⟨0, by omega⟩ (show 0 < n.val by omega)] at hv
    subst hv
    rw [wp_bind]
    iapply (wp_wand_r frame (wpE (defs₀ (F := F)) 𝒱 (c : Thread nD τ) bd) Set.univ)
    isplitl [HW]
    · iapply (asm 𝒱 c bd _ _ _ (chk3_of (BitVec.ofNat 32 n.val) _ (hlt 0 (by omega))) iprop(∃ W, owes (c : Thread nD τ) 0 W))
      iexact HW
    iintro %_ HW
    ihave HRest := (open_more c arg4 arg5 arg6 arg7 arg13 arg14 arg15 arg16 arg22 f4 f5 f6 f7 (fun _ => none : Fin 4 → Option (Fin 64)) 1 (by decide) (by rfl)) $$ HRest
    icases HRest with ⟨⟨⟨H0, G0⟩, ⟨H1, G1⟩, ⟨H2, G2⟩, H3, G3⟩, HRest⟩
    rw [wp_bind]
    iapply (wp_wand_r frame (wpE (defs₀ (F := F)) 𝒱 (c : Thread nD τ) bd) Set.univ)
    isplitl [H0 G0]
    · iapply (issue0 c arg4 arg13 arg22 f4 𝒱 bd 1 (exAt le 0) _ (by decide +kernel) _ (by decide +kernel) _ (off52_ex le 0 (hlt _ (by omega))) _ _ _ _ _ _)
      isplitl [H0]; · iexact H0
      iexact G0
    iintro %_ ⟨H0, G0⟩
    rw [wp_bind]
    iapply (wp_wand_r frame (wpE (defs₀ (F := F)) 𝒱 (c : Thread nD τ) bd) Set.univ)
    isplitl [H1 G1]
    · iapply (issue1 c arg5 arg14 arg22 f5 𝒱 bd 1 (exAt le 0) _ (by decide +kernel) _ (by decide +kernel) _ (off55_ex le 0 (hlt _ (by omega))) _ _ _ _ _ _)
      isplitl [H1]; · iexact H1
      iexact G1
    iintro %_ ⟨H1, G1⟩
    rw [wp_bind]
    iapply (wp_wand_r frame (wpE (defs₀ (F := F)) 𝒱 (c : Thread nD τ) bd) Set.univ)
    isplitl [H2 G2]
    · iapply (issue2 c arg6 arg15 arg22 f6 𝒱 bd 1 (exAt le 0) _ (by decide +kernel) _ (by decide +kernel) _ (off58_ex le 0 (hlt _ (by omega))) _ _ _ _ _ _)
      isplitl [H2]; · iexact H2
      iexact G2
    iintro %_ ⟨H2, G2⟩
    rw [wp_bind]
    iapply (wp_wand_r frame (wpE (defs₀ (F := F)) 𝒱 (c : Thread nD τ) bd) Set.univ)
    isplitl [H3 G3]
    · iapply (issue3 c arg7 arg16 arg22 f7 𝒱 bd 1 (exAt le 0) _ (by decide +kernel) _ (by decide +kernel) _ (off61_ex le 0 (hlt _ (by omega))) _ _ _ _ _ _)
      isplitl [H3]; · iexact H3
      iexact G3
    iintro %_ ⟨H3, G3⟩
    ihave HRest : (restW (Slot c arg4 arg5 arg6 arg7 arg13 arg14 arg15 arg16 arg22 f4 f5 f6 f7) (Function.update (fun _ => none : Fin 4 → Option (Fin 64)) 1 (some (exAt le 0))) 0) $$ [H0 G0 H1 G1 H2 G2 H3 G3 HRest]
    · iapply (close_more c arg4 arg5 arg6 arg7 arg13 arg14 arg15 arg16 arg22 f4 f5 f6 f7 (fun _ => none : Fin 4 → Option (Fin 64)) 1 (by decide) (exAt le 0))
      isplitr [HRest]
      · isplitl [H0 G0]
        · isplitl [H0]; · iexact H0
          iexact G0
        isplitl [H1 G1]
        · isplitl [H1]; · iexact H1
          iexact G1
        isplitl [H2 G2]
        · isplitl [H2]; · iexact H2
          iexact G2
        isplitl [H3]; · iexact H3
        iexact G3
      · iexact HRest
    rw [dif_pos ((cond2_iff n).2 (by omega))]
    rw [wp_bind]
    iapply (wp_wand_r frame (wpE (defs₀ (F := F)) 𝒱 (c : Thread nD τ) bd) Set.univ)
    isplitl [H20]
    · iapply (ld20 𝒱 c bd _ arg20 X20 _ _ ⟨1, by omega⟩ rfl _ _)
      iexact H20
    iintro %v ⟨%hv, H20⟩
    rw [hle ⟨1, by omega⟩ (show 1 < n.val by omega)] at hv
    subst hv
    rw [wp_bind]
    iapply (wp_wand_r frame (wpE (defs₀ (F := F)) 𝒱 (c : Thread nD τ) bd) Set.univ)
    isplitl [HW]
    · iapply (asm 𝒱 c bd _ _ _ (chk4_of (BitVec.ofNat 32 n.val) _ (hlt 1 (by omega))) iprop(∃ W, owes (c : Thread nD τ) 0 W))
      iexact HW
    iintro %_ HW
    ihave HRest := (open_more c arg4 arg5 arg6 arg7 arg13 arg14 arg15 arg16 arg22 f4 f5 f6 f7 (Function.update (fun _ => none : Fin 4 → Option (Fin 64)) 1 (some (exAt le 0))) 2 (by decide) (by rfl)) $$ HRest
    icases HRest with ⟨⟨⟨H0, G0⟩, ⟨H1, G1⟩, ⟨H2, G2⟩, H3, G3⟩, HRest⟩
    rw [wp_bind]
    iapply (wp_wand_r frame (wpE (defs₀ (F := F)) 𝒱 (c : Thread nD τ) bd) Set.univ)
    isplitl [H0 G0]
    · iapply (issue0 c arg4 arg13 arg22 f4 𝒱 bd 2 (exAt le 1) _ (by decide +kernel) _ (by decide +kernel) _ (off52_ex le 1 (hlt _ (by omega))) _ _ _ _ _ _)
      isplitl [H0]; · iexact H0
      iexact G0
    iintro %_ ⟨H0, G0⟩
    rw [wp_bind]
    iapply (wp_wand_r frame (wpE (defs₀ (F := F)) 𝒱 (c : Thread nD τ) bd) Set.univ)
    isplitl [H1 G1]
    · iapply (issue1 c arg5 arg14 arg22 f5 𝒱 bd 2 (exAt le 1) _ (by decide +kernel) _ (by decide +kernel) _ (off55_ex le 1 (hlt _ (by omega))) _ _ _ _ _ _)
      isplitl [H1]; · iexact H1
      iexact G1
    iintro %_ ⟨H1, G1⟩
    rw [wp_bind]
    iapply (wp_wand_r frame (wpE (defs₀ (F := F)) 𝒱 (c : Thread nD τ) bd) Set.univ)
    isplitl [H2 G2]
    · iapply (issue2 c arg6 arg15 arg22 f6 𝒱 bd 2 (exAt le 1) _ (by decide +kernel) _ (by decide +kernel) _ (off58_ex le 1 (hlt _ (by omega))) _ _ _ _ _ _)
      isplitl [H2]; · iexact H2
      iexact G2
    iintro %_ ⟨H2, G2⟩
    rw [wp_bind]
    iapply (wp_wand_r frame (wpE (defs₀ (F := F)) 𝒱 (c : Thread nD τ) bd) Set.univ)
    isplitl [H3 G3]
    · iapply (issue3 c arg7 arg16 arg22 f7 𝒱 bd 2 (exAt le 1) _ (by decide +kernel) _ (by decide +kernel) _ (off61_ex le 1 (hlt _ (by omega))) _ _ _ _ _ _)
      isplitl [H3]; · iexact H3
      iexact G3
    iintro %_ ⟨H3, G3⟩
    ihave HRest : (restW (Slot c arg4 arg5 arg6 arg7 arg13 arg14 arg15 arg16 arg22 f4 f5 f6 f7) (Function.update (Function.update (fun _ => none : Fin 4 → Option (Fin 64)) 1 (some (exAt le 0))) 2 (some (exAt le 1))) 0) $$ [H0 G0 H1 G1 H2 G2 H3 G3 HRest]
    · iapply (close_more c arg4 arg5 arg6 arg7 arg13 arg14 arg15 arg16 arg22 f4 f5 f6 f7 (Function.update (fun _ => none : Fin 4 → Option (Fin 64)) 1 (some (exAt le 0))) 2 (by decide) (exAt le 1))
      isplitr [HRest]
      · isplitl [H0 G0]
        · isplitl [H0]; · iexact H0
          iexact G0
        isplitl [H1 G1]
        · isplitl [H1]; · iexact H1
          iexact G1
        isplitl [H2 G2]
        · isplitl [H2]; · iexact H2
          iexact G2
        isplitl [H3]; · iexact H3
        iexact G3
      · iexact HRest
    rw [dif_pos ((cond3_iff n).2 (by omega))]
    rw [wp_bind]
    iapply (wp_wand_r frame (wpE (defs₀ (F := F)) 𝒱 (c : Thread nD τ) bd) Set.univ)
    isplitl [H20]
    · iapply (ld20 𝒱 c bd _ arg20 X20 _ _ ⟨2, by omega⟩ rfl _ _)
      iexact H20
    iintro %v ⟨%hv, H20⟩
    rw [hle ⟨2, by omega⟩ (show 2 < n.val by omega)] at hv
    subst hv
    rw [wp_bind]
    iapply (wp_wand_r frame (wpE (defs₀ (F := F)) 𝒱 (c : Thread nD τ) bd) Set.univ)
    isplitl [HW]
    · iapply (asm 𝒱 c bd _ _ _ (chk5_of (BitVec.ofNat 32 n.val) _ (hlt 2 (by omega))) iprop(∃ W, owes (c : Thread nD τ) 0 W))
      iexact HW
    iintro %_ HW
    ihave HRest := (open_more c arg4 arg5 arg6 arg7 arg13 arg14 arg15 arg16 arg22 f4 f5 f6 f7 (Function.update (Function.update (fun _ => none : Fin 4 → Option (Fin 64)) 1 (some (exAt le 0))) 2 (some (exAt le 1))) 3 (by decide) (by rfl)) $$ HRest
    icases HRest with ⟨⟨⟨H0, G0⟩, ⟨H1, G1⟩, ⟨H2, G2⟩, H3, G3⟩, HRest⟩
    rw [wp_bind]
    iapply (wp_wand_r frame (wpE (defs₀ (F := F)) 𝒱 (c : Thread nD τ) bd) Set.univ)
    isplitl [H0 G0]
    · iapply (issue0 c arg4 arg13 arg22 f4 𝒱 bd 3 (exAt le 2) _ (by decide +kernel) _ (by decide +kernel) _ (off52_ex le 2 (hlt _ (by omega))) _ _ _ _ _ _)
      isplitl [H0]; · iexact H0
      iexact G0
    iintro %_ ⟨H0, G0⟩
    rw [wp_bind]
    iapply (wp_wand_r frame (wpE (defs₀ (F := F)) 𝒱 (c : Thread nD τ) bd) Set.univ)
    isplitl [H1 G1]
    · iapply (issue1 c arg5 arg14 arg22 f5 𝒱 bd 3 (exAt le 2) _ (by decide +kernel) _ (by decide +kernel) _ (off55_ex le 2 (hlt _ (by omega))) _ _ _ _ _ _)
      isplitl [H1]; · iexact H1
      iexact G1
    iintro %_ ⟨H1, G1⟩
    rw [wp_bind]
    iapply (wp_wand_r frame (wpE (defs₀ (F := F)) 𝒱 (c : Thread nD τ) bd) Set.univ)
    isplitl [H2 G2]
    · iapply (issue2 c arg6 arg15 arg22 f6 𝒱 bd 3 (exAt le 2) _ (by decide +kernel) _ (by decide +kernel) _ (off58_ex le 2 (hlt _ (by omega))) _ _ _ _ _ _)
      isplitl [H2]; · iexact H2
      iexact G2
    iintro %_ ⟨H2, G2⟩
    rw [wp_bind]
    iapply (wp_wand_r frame (wpE (defs₀ (F := F)) 𝒱 (c : Thread nD τ) bd) Set.univ)
    isplitl [H3 G3]
    · iapply (issue3 c arg7 arg16 arg22 f7 𝒱 bd 3 (exAt le 2) _ (by decide +kernel) _ (by decide +kernel) _ (off61_ex le 2 (hlt _ (by omega))) _ _ _ _ _ _)
      isplitl [H3]; · iexact H3
      iexact G3
    iintro %_ ⟨H3, G3⟩
    ihave HRest : (restW (Slot c arg4 arg5 arg6 arg7 arg13 arg14 arg15 arg16 arg22 f4 f5 f6 f7) (Function.update (Function.update (Function.update (fun _ => none : Fin 4 → Option (Fin 64)) 1 (some (exAt le 0))) 2 (some (exAt le 1))) 3 (some (exAt le 2))) 0) $$ [H0 G0 H1 G1 H2 G2 H3 G3 HRest]
    · iapply (close_more c arg4 arg5 arg6 arg7 arg13 arg14 arg15 arg16 arg22 f4 f5 f6 f7 (Function.update (Function.update (fun _ => none : Fin 4 → Option (Fin 64)) 1 (some (exAt le 0))) 2 (some (exAt le 1))) 3 (by decide) (exAt le 2))
      isplitr [HRest]
      · isplitl [H0 G0]
        · isplitl [H0]; · iexact H0
          iexact G0
        isplitl [H1 G1]
        · isplitl [H1]; · iexact H1
          iexact G1
        isplitl [H2 G2]
        · isplitl [H2]; · iexact H2
          iexact G2
        isplitl [H3]; · iexact H3
        iexact G3
      · iexact HRest
    rw [wp_bind]
    iapply (wp_wand_r frame (wpE (defs₀ (F := F)) 𝒱 (c : Thread nD τ) bd) Set.univ)
    isplitl [S0 HW]
    · iapply (await c (cell arg22 0 0) arg8 (slot13 arg13 0) q8 f8 𝒱 bd _ _ _ (slot13_eq arg13 0 _ rfl _) (cell_eq arg22 0 0 _ rfl _) _ _)
      isplitl [S0]; · iexact S0
      iexact HW
    iintro %_ ⟨S0, L0, HW⟩
    rw [wp_bind]
    iapply (wp_wand_r frame (wpE (defs₀ (F := F)) 𝒱 (c : Thread nD τ) bd) Set.univ)
    isplitl [S1 HW]
    · iapply (await c (cell arg22 0 1) arg9 (slot14 arg14 0) q8 f9 𝒱 bd _ _ _ (slot14_eq arg14 0 _ rfl _) (cell_eq arg22 0 1 _ rfl _) _ _)
      isplitl [S1]; · iexact S1
      iexact HW
    iintro %_ ⟨S1, L1, HW⟩
    rw [wp_bind]
    iapply (wp_wand_r frame (wpE (defs₀ (F := F)) 𝒱 (c : Thread nD τ) bd) Set.univ)
    isplitl [S2 HW]
    · iapply (await c (cell arg22 0 2) arg10 (slot15 arg15 0) q8 f10 𝒱 bd _ _ _ (slot15_eq arg15 0 _ rfl _) (cell_eq arg22 0 2 _ rfl _) _ _)
      isplitl [S2]; · iexact S2
      iexact HW
    iintro %_ ⟨S2, L2, HW⟩
    rw [wp_bind]
    iapply (wp_wand_r frame (wpE (defs₀ (F := F)) 𝒱 (c : Thread nD τ) bd) Set.univ)
    isplitl [S3 HW]
    · iapply (await c (cell arg22 0 3) arg11 (slot16 arg16 0) q8 f11 𝒱 bd _ _ _ (slot16_eq arg16 0 _ rfl _) (cell_eq arg22 0 3 _ rfl _) _ _)
      isplitl [S3]; · iexact S3
      iexact HW
    iintro %_ ⟨S3, L3, HW⟩
    rw [wp_pure]; imodintro
    rw [show stAt n.val le 0 = (Function.update (Function.update (Function.update (fun _ => none : Fin 4 → Option (Fin 64)) 1 (some (exAt le 0))) 2 (some (exAt le 1))) 3 (some (exAt le 2))) from by
      funext k
      match k with
      | 0 => exact stAt_free n.val le 0 0 rfl
      | 1 => show stAt n.val le 0 1 = some (exAt le 0); unfold stAt; rw [if_pos ⟨by decide, by omega⟩]; rfl
      | 2 => show stAt n.val le 0 2 = some (exAt le 1); unfold stAt; rw [if_pos ⟨by decide, by omega⟩]; rfl
      | 3 => show stAt n.val le 0 3 = some (exAt le 2); unfold stAt; rw [if_pos ⟨by decide, by omega⟩]; rfl]
    isplitl [HRest]; · iexact HRest
    isplitl [S0]; · iexact S0
    isplitl [S1]; · iexact S1
    isplitl [S2]; · iexact S2
    isplitl [S3]; · iexact S3
    isplitl [L0]; · iexact L0
    isplitl [L1]; · iexact L1
    isplitl [L2]; · iexact L2
    isplitl [L3]; · iexact L3
    isplitl [H20]; · iexact H20
    iexact HW
  · rw [dif_pos ((cond1_iff n).2 (by omega))]
    rw [wp_bind]
    iapply (wp_wand_r frame (wpE (defs₀ (F := F)) 𝒱 (c : Thread nD τ) bd) Set.univ)
    isplitl [H20]
    · iapply (ld20 𝒱 c bd _ arg20 X20 _ _ ⟨0, by omega⟩ rfl _ _)
      iexact H20
    iintro %v ⟨%hv, H20⟩
    rw [hle ⟨0, by omega⟩ (show 0 < n.val by omega)] at hv
    subst hv
    rw [wp_bind]
    iapply (wp_wand_r frame (wpE (defs₀ (F := F)) 𝒱 (c : Thread nD τ) bd) Set.univ)
    isplitl [HW]
    · iapply (asm 𝒱 c bd _ _ _ (chk3_of (BitVec.ofNat 32 n.val) _ (hlt 0 (by omega))) iprop(∃ W, owes (c : Thread nD τ) 0 W))
      iexact HW
    iintro %_ HW
    ihave HRest := (open_more c arg4 arg5 arg6 arg7 arg13 arg14 arg15 arg16 arg22 f4 f5 f6 f7 (fun _ => none : Fin 4 → Option (Fin 64)) 1 (by decide) (by rfl)) $$ HRest
    icases HRest with ⟨⟨⟨H0, G0⟩, ⟨H1, G1⟩, ⟨H2, G2⟩, H3, G3⟩, HRest⟩
    rw [wp_bind]
    iapply (wp_wand_r frame (wpE (defs₀ (F := F)) 𝒱 (c : Thread nD τ) bd) Set.univ)
    isplitl [H0 G0]
    · iapply (issue0 c arg4 arg13 arg22 f4 𝒱 bd 1 (exAt le 0) _ (by decide +kernel) _ (by decide +kernel) _ (off52_ex le 0 (hlt _ (by omega))) _ _ _ _ _ _)
      isplitl [H0]; · iexact H0
      iexact G0
    iintro %_ ⟨H0, G0⟩
    rw [wp_bind]
    iapply (wp_wand_r frame (wpE (defs₀ (F := F)) 𝒱 (c : Thread nD τ) bd) Set.univ)
    isplitl [H1 G1]
    · iapply (issue1 c arg5 arg14 arg22 f5 𝒱 bd 1 (exAt le 0) _ (by decide +kernel) _ (by decide +kernel) _ (off55_ex le 0 (hlt _ (by omega))) _ _ _ _ _ _)
      isplitl [H1]; · iexact H1
      iexact G1
    iintro %_ ⟨H1, G1⟩
    rw [wp_bind]
    iapply (wp_wand_r frame (wpE (defs₀ (F := F)) 𝒱 (c : Thread nD τ) bd) Set.univ)
    isplitl [H2 G2]
    · iapply (issue2 c arg6 arg15 arg22 f6 𝒱 bd 1 (exAt le 0) _ (by decide +kernel) _ (by decide +kernel) _ (off58_ex le 0 (hlt _ (by omega))) _ _ _ _ _ _)
      isplitl [H2]; · iexact H2
      iexact G2
    iintro %_ ⟨H2, G2⟩
    rw [wp_bind]
    iapply (wp_wand_r frame (wpE (defs₀ (F := F)) 𝒱 (c : Thread nD τ) bd) Set.univ)
    isplitl [H3 G3]
    · iapply (issue3 c arg7 arg16 arg22 f7 𝒱 bd 1 (exAt le 0) _ (by decide +kernel) _ (by decide +kernel) _ (off61_ex le 0 (hlt _ (by omega))) _ _ _ _ _ _)
      isplitl [H3]; · iexact H3
      iexact G3
    iintro %_ ⟨H3, G3⟩
    ihave HRest : (restW (Slot c arg4 arg5 arg6 arg7 arg13 arg14 arg15 arg16 arg22 f4 f5 f6 f7) (Function.update (fun _ => none : Fin 4 → Option (Fin 64)) 1 (some (exAt le 0))) 0) $$ [H0 G0 H1 G1 H2 G2 H3 G3 HRest]
    · iapply (close_more c arg4 arg5 arg6 arg7 arg13 arg14 arg15 arg16 arg22 f4 f5 f6 f7 (fun _ => none : Fin 4 → Option (Fin 64)) 1 (by decide) (exAt le 0))
      isplitr [HRest]
      · isplitl [H0 G0]
        · isplitl [H0]; · iexact H0
          iexact G0
        isplitl [H1 G1]
        · isplitl [H1]; · iexact H1
          iexact G1
        isplitl [H2 G2]
        · isplitl [H2]; · iexact H2
          iexact G2
        isplitl [H3]; · iexact H3
        iexact G3
      · iexact HRest
    rw [dif_pos ((cond2_iff n).2 (by omega))]
    rw [wp_bind]
    iapply (wp_wand_r frame (wpE (defs₀ (F := F)) 𝒱 (c : Thread nD τ) bd) Set.univ)
    isplitl [H20]
    · iapply (ld20 𝒱 c bd _ arg20 X20 _ _ ⟨1, by omega⟩ rfl _ _)
      iexact H20
    iintro %v ⟨%hv, H20⟩
    rw [hle ⟨1, by omega⟩ (show 1 < n.val by omega)] at hv
    subst hv
    rw [wp_bind]
    iapply (wp_wand_r frame (wpE (defs₀ (F := F)) 𝒱 (c : Thread nD τ) bd) Set.univ)
    isplitl [HW]
    · iapply (asm 𝒱 c bd _ _ _ (chk4_of (BitVec.ofNat 32 n.val) _ (hlt 1 (by omega))) iprop(∃ W, owes (c : Thread nD τ) 0 W))
      iexact HW
    iintro %_ HW
    ihave HRest := (open_more c arg4 arg5 arg6 arg7 arg13 arg14 arg15 arg16 arg22 f4 f5 f6 f7 (Function.update (fun _ => none : Fin 4 → Option (Fin 64)) 1 (some (exAt le 0))) 2 (by decide) (by rfl)) $$ HRest
    icases HRest with ⟨⟨⟨H0, G0⟩, ⟨H1, G1⟩, ⟨H2, G2⟩, H3, G3⟩, HRest⟩
    rw [wp_bind]
    iapply (wp_wand_r frame (wpE (defs₀ (F := F)) 𝒱 (c : Thread nD τ) bd) Set.univ)
    isplitl [H0 G0]
    · iapply (issue0 c arg4 arg13 arg22 f4 𝒱 bd 2 (exAt le 1) _ (by decide +kernel) _ (by decide +kernel) _ (off52_ex le 1 (hlt _ (by omega))) _ _ _ _ _ _)
      isplitl [H0]; · iexact H0
      iexact G0
    iintro %_ ⟨H0, G0⟩
    rw [wp_bind]
    iapply (wp_wand_r frame (wpE (defs₀ (F := F)) 𝒱 (c : Thread nD τ) bd) Set.univ)
    isplitl [H1 G1]
    · iapply (issue1 c arg5 arg14 arg22 f5 𝒱 bd 2 (exAt le 1) _ (by decide +kernel) _ (by decide +kernel) _ (off55_ex le 1 (hlt _ (by omega))) _ _ _ _ _ _)
      isplitl [H1]; · iexact H1
      iexact G1
    iintro %_ ⟨H1, G1⟩
    rw [wp_bind]
    iapply (wp_wand_r frame (wpE (defs₀ (F := F)) 𝒱 (c : Thread nD τ) bd) Set.univ)
    isplitl [H2 G2]
    · iapply (issue2 c arg6 arg15 arg22 f6 𝒱 bd 2 (exAt le 1) _ (by decide +kernel) _ (by decide +kernel) _ (off58_ex le 1 (hlt _ (by omega))) _ _ _ _ _ _)
      isplitl [H2]; · iexact H2
      iexact G2
    iintro %_ ⟨H2, G2⟩
    rw [wp_bind]
    iapply (wp_wand_r frame (wpE (defs₀ (F := F)) 𝒱 (c : Thread nD τ) bd) Set.univ)
    isplitl [H3 G3]
    · iapply (issue3 c arg7 arg16 arg22 f7 𝒱 bd 2 (exAt le 1) _ (by decide +kernel) _ (by decide +kernel) _ (off61_ex le 1 (hlt _ (by omega))) _ _ _ _ _ _)
      isplitl [H3]; · iexact H3
      iexact G3
    iintro %_ ⟨H3, G3⟩
    ihave HRest : (restW (Slot c arg4 arg5 arg6 arg7 arg13 arg14 arg15 arg16 arg22 f4 f5 f6 f7) (Function.update (Function.update (fun _ => none : Fin 4 → Option (Fin 64)) 1 (some (exAt le 0))) 2 (some (exAt le 1))) 0) $$ [H0 G0 H1 G1 H2 G2 H3 G3 HRest]
    · iapply (close_more c arg4 arg5 arg6 arg7 arg13 arg14 arg15 arg16 arg22 f4 f5 f6 f7 (Function.update (fun _ => none : Fin 4 → Option (Fin 64)) 1 (some (exAt le 0))) 2 (by decide) (exAt le 1))
      isplitr [HRest]
      · isplitl [H0 G0]
        · isplitl [H0]; · iexact H0
          iexact G0
        isplitl [H1 G1]
        · isplitl [H1]; · iexact H1
          iexact G1
        isplitl [H2 G2]
        · isplitl [H2]; · iexact H2
          iexact G2
        isplitl [H3]; · iexact H3
        iexact G3
      · iexact HRest
    rw [dif_neg (fun h => absurd ((cond3_iff n).1 h) (by omega))]
    rw [wp_bind]
    iapply (wp_wand_r frame (wpE (defs₀ (F := F)) 𝒱 (c : Thread nD τ) bd) Set.univ)
    isplitl [S0 HW]
    · iapply (await c (cell arg22 0 0) arg8 (slot13 arg13 0) q8 f8 𝒱 bd _ _ _ (slot13_eq arg13 0 _ rfl _) (cell_eq arg22 0 0 _ rfl _) _ _)
      isplitl [S0]; · iexact S0
      iexact HW
    iintro %_ ⟨S0, L0, HW⟩
    rw [wp_bind]
    iapply (wp_wand_r frame (wpE (defs₀ (F := F)) 𝒱 (c : Thread nD τ) bd) Set.univ)
    isplitl [S1 HW]
    · iapply (await c (cell arg22 0 1) arg9 (slot14 arg14 0) q8 f9 𝒱 bd _ _ _ (slot14_eq arg14 0 _ rfl _) (cell_eq arg22 0 1 _ rfl _) _ _)
      isplitl [S1]; · iexact S1
      iexact HW
    iintro %_ ⟨S1, L1, HW⟩
    rw [wp_bind]
    iapply (wp_wand_r frame (wpE (defs₀ (F := F)) 𝒱 (c : Thread nD τ) bd) Set.univ)
    isplitl [S2 HW]
    · iapply (await c (cell arg22 0 2) arg10 (slot15 arg15 0) q8 f10 𝒱 bd _ _ _ (slot15_eq arg15 0 _ rfl _) (cell_eq arg22 0 2 _ rfl _) _ _)
      isplitl [S2]; · iexact S2
      iexact HW
    iintro %_ ⟨S2, L2, HW⟩
    rw [wp_bind]
    iapply (wp_wand_r frame (wpE (defs₀ (F := F)) 𝒱 (c : Thread nD τ) bd) Set.univ)
    isplitl [S3 HW]
    · iapply (await c (cell arg22 0 3) arg11 (slot16 arg16 0) q8 f11 𝒱 bd _ _ _ (slot16_eq arg16 0 _ rfl _) (cell_eq arg22 0 3 _ rfl _) _ _)
      isplitl [S3]; · iexact S3
      iexact HW
    iintro %_ ⟨S3, L3, HW⟩
    rw [wp_pure]; imodintro
    rw [show stAt n.val le 0 = (Function.update (Function.update (fun _ => none : Fin 4 → Option (Fin 64)) 1 (some (exAt le 0))) 2 (some (exAt le 1))) from by
      funext k
      match k with
      | 0 => exact stAt_free n.val le 0 0 rfl
      | 1 => show stAt n.val le 0 1 = some (exAt le 0); unfold stAt; rw [if_pos ⟨by decide, by omega⟩]; rfl
      | 2 => show stAt n.val le 0 2 = some (exAt le 1); unfold stAt; rw [if_pos ⟨by decide, by omega⟩]; rfl
      | 3 => show stAt n.val le 0 3 = none; unfold stAt; rw [if_neg (fun h => absurd h (by omega))]]
    isplitl [HRest]; · iexact HRest
    isplitl [S0]; · iexact S0
    isplitl [S1]; · iexact S1
    isplitl [S2]; · iexact S2
    isplitl [S3]; · iexact S3
    isplitl [L0]; · iexact L0
    isplitl [L1]; · iexact L1
    isplitl [L2]; · iexact L2
    isplitl [L3]; · iexact L3
    isplitl [H20]; · iexact H20
    iexact HW
  · rw [dif_pos ((cond1_iff n).2 (by omega))]
    rw [wp_bind]
    iapply (wp_wand_r frame (wpE (defs₀ (F := F)) 𝒱 (c : Thread nD τ) bd) Set.univ)
    isplitl [H20]
    · iapply (ld20 𝒱 c bd _ arg20 X20 _ _ ⟨0, by omega⟩ rfl _ _)
      iexact H20
    iintro %v ⟨%hv, H20⟩
    rw [hle ⟨0, by omega⟩ (show 0 < n.val by omega)] at hv
    subst hv
    rw [wp_bind]
    iapply (wp_wand_r frame (wpE (defs₀ (F := F)) 𝒱 (c : Thread nD τ) bd) Set.univ)
    isplitl [HW]
    · iapply (asm 𝒱 c bd _ _ _ (chk3_of (BitVec.ofNat 32 n.val) _ (hlt 0 (by omega))) iprop(∃ W, owes (c : Thread nD τ) 0 W))
      iexact HW
    iintro %_ HW
    ihave HRest := (open_more c arg4 arg5 arg6 arg7 arg13 arg14 arg15 arg16 arg22 f4 f5 f6 f7 (fun _ => none : Fin 4 → Option (Fin 64)) 1 (by decide) (by rfl)) $$ HRest
    icases HRest with ⟨⟨⟨H0, G0⟩, ⟨H1, G1⟩, ⟨H2, G2⟩, H3, G3⟩, HRest⟩
    rw [wp_bind]
    iapply (wp_wand_r frame (wpE (defs₀ (F := F)) 𝒱 (c : Thread nD τ) bd) Set.univ)
    isplitl [H0 G0]
    · iapply (issue0 c arg4 arg13 arg22 f4 𝒱 bd 1 (exAt le 0) _ (by decide +kernel) _ (by decide +kernel) _ (off52_ex le 0 (hlt _ (by omega))) _ _ _ _ _ _)
      isplitl [H0]; · iexact H0
      iexact G0
    iintro %_ ⟨H0, G0⟩
    rw [wp_bind]
    iapply (wp_wand_r frame (wpE (defs₀ (F := F)) 𝒱 (c : Thread nD τ) bd) Set.univ)
    isplitl [H1 G1]
    · iapply (issue1 c arg5 arg14 arg22 f5 𝒱 bd 1 (exAt le 0) _ (by decide +kernel) _ (by decide +kernel) _ (off55_ex le 0 (hlt _ (by omega))) _ _ _ _ _ _)
      isplitl [H1]; · iexact H1
      iexact G1
    iintro %_ ⟨H1, G1⟩
    rw [wp_bind]
    iapply (wp_wand_r frame (wpE (defs₀ (F := F)) 𝒱 (c : Thread nD τ) bd) Set.univ)
    isplitl [H2 G2]
    · iapply (issue2 c arg6 arg15 arg22 f6 𝒱 bd 1 (exAt le 0) _ (by decide +kernel) _ (by decide +kernel) _ (off58_ex le 0 (hlt _ (by omega))) _ _ _ _ _ _)
      isplitl [H2]; · iexact H2
      iexact G2
    iintro %_ ⟨H2, G2⟩
    rw [wp_bind]
    iapply (wp_wand_r frame (wpE (defs₀ (F := F)) 𝒱 (c : Thread nD τ) bd) Set.univ)
    isplitl [H3 G3]
    · iapply (issue3 c arg7 arg16 arg22 f7 𝒱 bd 1 (exAt le 0) _ (by decide +kernel) _ (by decide +kernel) _ (off61_ex le 0 (hlt _ (by omega))) _ _ _ _ _ _)
      isplitl [H3]; · iexact H3
      iexact G3
    iintro %_ ⟨H3, G3⟩
    ihave HRest : (restW (Slot c arg4 arg5 arg6 arg7 arg13 arg14 arg15 arg16 arg22 f4 f5 f6 f7) (Function.update (fun _ => none : Fin 4 → Option (Fin 64)) 1 (some (exAt le 0))) 0) $$ [H0 G0 H1 G1 H2 G2 H3 G3 HRest]
    · iapply (close_more c arg4 arg5 arg6 arg7 arg13 arg14 arg15 arg16 arg22 f4 f5 f6 f7 (fun _ => none : Fin 4 → Option (Fin 64)) 1 (by decide) (exAt le 0))
      isplitr [HRest]
      · isplitl [H0 G0]
        · isplitl [H0]; · iexact H0
          iexact G0
        isplitl [H1 G1]
        · isplitl [H1]; · iexact H1
          iexact G1
        isplitl [H2 G2]
        · isplitl [H2]; · iexact H2
          iexact G2
        isplitl [H3]; · iexact H3
        iexact G3
      · iexact HRest
    rw [dif_neg (fun h => absurd ((cond2_iff n).1 h) (by omega))]
    rw [dif_neg (fun h => absurd ((cond3_iff n).1 h) (by omega))]
    rw [wp_bind]
    iapply (wp_wand_r frame (wpE (defs₀ (F := F)) 𝒱 (c : Thread nD τ) bd) Set.univ)
    isplitl [S0 HW]
    · iapply (await c (cell arg22 0 0) arg8 (slot13 arg13 0) q8 f8 𝒱 bd _ _ _ (slot13_eq arg13 0 _ rfl _) (cell_eq arg22 0 0 _ rfl _) _ _)
      isplitl [S0]; · iexact S0
      iexact HW
    iintro %_ ⟨S0, L0, HW⟩
    rw [wp_bind]
    iapply (wp_wand_r frame (wpE (defs₀ (F := F)) 𝒱 (c : Thread nD τ) bd) Set.univ)
    isplitl [S1 HW]
    · iapply (await c (cell arg22 0 1) arg9 (slot14 arg14 0) q8 f9 𝒱 bd _ _ _ (slot14_eq arg14 0 _ rfl _) (cell_eq arg22 0 1 _ rfl _) _ _)
      isplitl [S1]; · iexact S1
      iexact HW
    iintro %_ ⟨S1, L1, HW⟩
    rw [wp_bind]
    iapply (wp_wand_r frame (wpE (defs₀ (F := F)) 𝒱 (c : Thread nD τ) bd) Set.univ)
    isplitl [S2 HW]
    · iapply (await c (cell arg22 0 2) arg10 (slot15 arg15 0) q8 f10 𝒱 bd _ _ _ (slot15_eq arg15 0 _ rfl _) (cell_eq arg22 0 2 _ rfl _) _ _)
      isplitl [S2]; · iexact S2
      iexact HW
    iintro %_ ⟨S2, L2, HW⟩
    rw [wp_bind]
    iapply (wp_wand_r frame (wpE (defs₀ (F := F)) 𝒱 (c : Thread nD τ) bd) Set.univ)
    isplitl [S3 HW]
    · iapply (await c (cell arg22 0 3) arg11 (slot16 arg16 0) q8 f11 𝒱 bd _ _ _ (slot16_eq arg16 0 _ rfl _) (cell_eq arg22 0 3 _ rfl _) _ _)
      isplitl [S3]; · iexact S3
      iexact HW
    iintro %_ ⟨S3, L3, HW⟩
    rw [wp_pure]; imodintro
    rw [show stAt n.val le 0 = (Function.update (fun _ => none : Fin 4 → Option (Fin 64)) 1 (some (exAt le 0))) from by
      funext k
      match k with
      | 0 => exact stAt_free n.val le 0 0 rfl
      | 1 => show stAt n.val le 0 1 = some (exAt le 0); unfold stAt; rw [if_pos ⟨by decide, by omega⟩]; rfl
      | 2 => show stAt n.val le 0 2 = none; unfold stAt; rw [if_neg (fun h => absurd h (by omega))]
      | 3 => show stAt n.val le 0 3 = none; unfold stAt; rw [if_neg (fun h => absurd h (by omega))]]
    isplitl [HRest]; · iexact HRest
    isplitl [S0]; · iexact S0
    isplitl [S1]; · iexact S1
    isplitl [S2]; · iexact S2
    isplitl [S3]; · iexact S3
    isplitl [L0]; · iexact L0
    isplitl [L1]; · iexact L1
    isplitl [L2]; · iexact L2
    isplitl [L3]; · iexact L3
    isplitl [H20]; · iexact H20
    iexact HW
  · rw [dif_neg (fun h => absurd ((cond1_iff n).1 h) (by omega))]
    rw [dif_neg (fun h => absurd ((cond2_iff n).1 h) (by omega))]
    rw [dif_neg (fun h => absurd ((cond3_iff n).1 h) (by omega))]
    rw [wp_bind]
    iapply (wp_wand_r frame (wpE (defs₀ (F := F)) 𝒱 (c : Thread nD τ) bd) Set.univ)
    isplitl [S0 HW]
    · iapply (await c (cell arg22 0 0) arg8 (slot13 arg13 0) q8 f8 𝒱 bd _ _ _ (slot13_eq arg13 0 _ rfl _) (cell_eq arg22 0 0 _ rfl _) _ _)
      isplitl [S0]; · iexact S0
      iexact HW
    iintro %_ ⟨S0, L0, HW⟩
    rw [wp_bind]
    iapply (wp_wand_r frame (wpE (defs₀ (F := F)) 𝒱 (c : Thread nD τ) bd) Set.univ)
    isplitl [S1 HW]
    · iapply (await c (cell arg22 0 1) arg9 (slot14 arg14 0) q8 f9 𝒱 bd _ _ _ (slot14_eq arg14 0 _ rfl _) (cell_eq arg22 0 1 _ rfl _) _ _)
      isplitl [S1]; · iexact S1
      iexact HW
    iintro %_ ⟨S1, L1, HW⟩
    rw [wp_bind]
    iapply (wp_wand_r frame (wpE (defs₀ (F := F)) 𝒱 (c : Thread nD τ) bd) Set.univ)
    isplitl [S2 HW]
    · iapply (await c (cell arg22 0 2) arg10 (slot15 arg15 0) q8 f10 𝒱 bd _ _ _ (slot15_eq arg15 0 _ rfl _) (cell_eq arg22 0 2 _ rfl _) _ _)
      isplitl [S2]; · iexact S2
      iexact HW
    iintro %_ ⟨S2, L2, HW⟩
    rw [wp_bind]
    iapply (wp_wand_r frame (wpE (defs₀ (F := F)) 𝒱 (c : Thread nD τ) bd) Set.univ)
    isplitl [S3 HW]
    · iapply (await c (cell arg22 0 3) arg11 (slot16 arg16 0) q8 f11 𝒱 bd _ _ _ (slot16_eq arg16 0 _ rfl _) (cell_eq arg22 0 3 _ rfl _) _ _)
      isplitl [S3]; · iexact S3
      iexact HW
    iintro %_ ⟨S3, L3, HW⟩
    rw [wp_pure]; imodintro
    rw [show stAt n.val le 0 = (fun _ => none : Fin 4 → Option (Fin 64)) from by
      funext k
      match k with
      | 0 => exact stAt_free n.val le 0 0 rfl
      | 1 => show stAt n.val le 0 1 = none; unfold stAt; rw [if_neg (fun h => absurd h (by omega))]
      | 2 => show stAt n.val le 0 2 = none; unfold stAt; rw [if_neg (fun h => absurd h (by omega))]
      | 3 => show stAt n.val le 0 3 = none; unfold stAt; rw [if_neg (fun h => absurd h (by omega))]]
    isplitl [HRest]; · iexact HRest
    isplitl [S0]; · iexact S0
    isplitl [S1]; · iexact S1
    isplitl [S2]; · iexact S2
    isplitl [S3]; · iexact S3
    isplitl [L0]; · iexact L0
    isplitl [L1]; · iexact L1
    isplitl [L2]; · iexact L2
    isplitl [L3]; · iexact L3
    isplitl [H20]; · iexact H20
    iexact HW

end Cert.KernelIdeal.Hand
-- ==== Proof.KernelIdeal.Part81.lean ====
/- A trip's prefetch, its list entry and the first three of its waits. -/
module

public import proofs.«01_k».proof.Proof.KernelIdeal.Start

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.Ring

/-- A routed trip's first part: the copies of the expert three places on start, if the list reaches that far; the list gives the trip's expert; its first three copies have arrived. -/
theorem part81 (𝒱 : Variants) (c : Dev nD) (bd : Option 𝒱.V) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (f4 : BufTy.Contents (Elt F) arg4.view.ty) (f5 : BufTy.Contents (Elt F) arg5.view.ty) (f6 : BufTy.Contents (Elt F) arg6.view.ty) (f7 : BufTy.Contents (Elt F) arg7.view.ty)
    (n : Fin 65) (k0_hw6 : k0_chk6 (BitVec.ofNat 32 n.val)) (t : Fin (k0_t7_loop (BitVec.ofNat 32 n.val)).trips) (ht : t.val < n.val) (le : ℕ → BitVec 32) (X20 : BufTy.Contents (Elt F) arg20.view.ty) (hle : ∀ a : Fin 65, a.val < n.val → arg20.view.read (Elt F) X20 (ix1 a) = le a.val) (hlt : ∀ a : ℕ, a < n.val → (le a).toNat < 64) :
    iprop(AtW (Slot c arg4 arg5 arg6 arg7 arg13 arg14 arg15 arg16 arg22 f4 f5 f6 f7) (stAt n.val le t.val) ∗ (arg20.view.loc (c : Thread nD τ) ↦[arg20.view.set]{fullShare} X20) ∗ ∃ W, owes (c : Thread nD τ) 0 W)
      ⊢ wp frame (wpE (defs₀ (F := F)) 𝒱 (c : Thread nD τ) bd) Set.univ (k0_part81 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 n.val) k0_hw6 0#32 1#32 t)
        (fun r => iprop(⌜r.2.1 = le t.val⌝ ∗ iprop(Full c (cell arg22 (kp t.val) 0) (slot13 arg13 (kp t.val)) ((src4 arg4 (exAt le t.val)).view.read (Elt F) f4) ∗ (arg4.view.loc (c : Thread nD τ) ↦[arg4.view.set]{tok (kp t.val)} f4)) ∗ iprop(Full c (cell arg22 (kp t.val) 1) (slot14 arg14 (kp t.val)) ((src5 arg5 (exAt le t.val)).view.read (Elt F) f5) ∗ (arg5.view.loc (c : Thread nD τ) ↦[arg5.view.set]{tok (kp t.val)} f5)) ∗ iprop(Full c (cell arg22 (kp t.val) 2) (slot15 arg15 (kp t.val)) ((src6 arg6 (exAt le t.val)).view.read (Elt F) f6) ∗ (arg6.view.loc (c : Thread nD τ) ↦[arg6.view.set]{tok (kp t.val)} f6)) ∗ iprop(Fly c (cell arg22 (kp t.val) 3) (src7 arg7 (exAt le t.val)) (slot16 arg16 (kp t.val)) (tok (kp t.val)) f7 ∗ (arg7.view.loc (c : Thread nD τ) ↦[arg7.view.set \ (src7 arg7 (exAt le t.val)).view.set]{tok (kp t.val)} f7))
          ∗ restW (Slot c arg4 arg5 arg6 arg7 arg13 arg14 arg15 arg16 arg22 f4 f5 f6 f7) (midAt n.val le t.val) (kp t.val) ∗ (arg20.view.loc (c : Thread nD τ) ↦[arg20.view.set]{fullShare} X20) ∗ ∃ W, owes (c : Thread nD τ) 0 W)) := by
  have h64 : t.val < 64 := by omega
  simp only [k0_part81_eq_skeleton]
  unfold k0_part81_skel
  dsimp only
  by_cases hc : t.val + 3 < n.val
  · rw [dif_pos ((cond4_iff n t).2 hc)]
    iintro ⟨HRing, H20, HW⟩
    rw [wp_bind]
    iapply (wp_wand_r frame (wpE (defs₀ (F := F)) 𝒱 (c : Thread nD τ) bd) Set.univ)
    isplitl [H20]
    · iapply (ld20 𝒱 c bd _ arg20 X20 _ _ ⟨t.val + 3, by omega⟩ (off49_eq (BitVec.ofNat 32 n.val) t h64) _ _)
      iexact H20
    iintro %v130 ⟨%hv, H20⟩
    rw [hle ⟨t.val + 3, by omega⟩ hc] at hv
    subst hv
    rw [wp_bind]
    iapply (wp_wand_r frame (wpE (defs₀ (F := F)) 𝒱 (c : Thread nD τ) bd) Set.univ)
    isplitl [HW]
    · iapply (asm 𝒱 c bd _ _ _ (chk7_of (BitVec.ofNat 32 n.val) t _ (hlt (t.val + 3) hc)) iprop(∃ W, owes (c : Thread nD τ) 0 W))
      iexact HW
    iintro %_ HW
    ihave HRing := (open_none c arg4 arg5 arg6 arg7 arg13 arg14 arg15 arg16 arg22 f4 f5 f6 f7 _ (kq t.val) (stAt_free n.val le t.val (kq t.val) rfl)) $$ HRing
    icases HRing with ⟨⟨⟨H0, G0⟩, ⟨H1, G1⟩, ⟨H2, G2⟩, H3, G3⟩, HRest⟩
    rw [wp_bind]
    iapply (wp_wand_r frame (wpE (defs₀ (F := F)) 𝒱 (c : Thread nD τ) bd) Set.univ)
    isplitl [H0 G0]
    · iapply (issue0 c arg4 arg13 arg22 f4 𝒱 bd (kq t.val) (exAt le (t.val + 3)) _ (off50_eq (BitVec.ofNat 32 n.val) t h64) _ (off51_eq (BitVec.ofNat 32 n.val) t h64) _ (off52_ex le (t.val + 3) (hlt _ hc)) _ _ _ _ _ _)
      isplitl [H0]; · iexact H0
      iexact G0
    iintro %_ ⟨H0, G0⟩
    rw [wp_bind]
    iapply (wp_wand_r frame (wpE (defs₀ (F := F)) 𝒱 (c : Thread nD τ) bd) Set.univ)
    isplitl [H1 G1]
    · iapply (issue1 c arg5 arg14 arg22 f5 𝒱 bd (kq t.val) (exAt le (t.val + 3)) _ (off53_eq (BitVec.ofNat 32 n.val) t h64) _ (off54_eq (BitVec.ofNat 32 n.val) t h64) _ (off55_ex le (t.val + 3) (hlt _ hc)) _ _ _ _ _ _)
      isplitl [H1]; · iexact H1
      iexact G1
    iintro %_ ⟨H1, G1⟩
    rw [wp_bind]
    iapply (wp_wand_r frame (wpE (defs₀ (F := F)) 𝒱 (c : Thread nD τ) bd) Set.univ)
    isplitl [H2 G2]
    · iapply (issue2 c arg6 arg15 arg22 f6 𝒱 bd (kq t.val) (exAt le (t.val + 3)) _ (off56_eq (BitVec.ofNat 32 n.val) t h64) _ (off57_eq (BitVec.ofNat 32 n.val) t h64) _ (off58_ex le (t.val + 3) (hlt _ hc)) _ _ _ _ _ _)
      isplitl [H2]; · iexact H2
      iexact G2
    iintro %_ ⟨H2, G2⟩
    rw [wp_bind]
    iapply (wp_wand_r frame (wpE (defs₀ (F := F)) 𝒱 (c : Thread nD τ) bd) Set.univ)
    isplitl [H3 G3]
    · iapply (issue3 c arg7 arg16 arg22 f7 𝒱 bd (kq t.val) (exAt le (t.val + 3)) _ (off59_eq (BitVec.ofNat 32 n.val) t h64) _ (off60_eq (BitVec.ofNat 32 n.val) t h64) _ (off61_ex le (t.val + 3) (hlt _ hc)) _ _ _ _ _ _)
      isplitl [H3]; · iexact H3
      iexact G3
    iintro %_ ⟨H3, G3⟩
    ihave HRing : (AtW (Slot c arg4 arg5 arg6 arg7 arg13 arg14 arg15 arg16 arg22 f4 f5 f6 f7) (midAt n.val le t.val)) $$ [H0 G0 H1 G1 H2 G2 H3 G3 HRest]
    · unfold midAt
      rw [if_pos hc]
      iapply (close_some c arg4 arg5 arg6 arg7 arg13 arg14 arg15 arg16 arg22 f4 f5 f6 f7 (stAt n.val le t.val) (kq t.val) (exAt le (t.val + 3)))
      isplitr [HRest]
      · isplitl [H0 G0]
        · isplitl [H0]; · iexact H0
          iexact G0
        isplitl [H1 G1]
        · isplitl [H1]; · iexact H1
          iexact G1
        isplitl [H2 G2]
        · isplitl [H2]; · iexact H2
          iexact G2
        isplitl [H3]; · iexact H3
        iexact G3
      · iexact HRest
    rw [wp_bind]
    iapply (wp_wand_r frame (wpE (defs₀ (F := F)) 𝒱 (c : Thread nD τ) bd) Set.univ)
    isplitl [H20]
    · iapply (ld20 𝒱 c bd _ arg20 X20 _ _ ⟨t.val, by omega⟩ (off62_eq (BitVec.ofNat 32 n.val) t h64) _ _)
      iexact H20
    iintro %v70 ⟨%hv, H20⟩
    rw [hle ⟨t.val, by omega⟩ ht] at hv
    subst hv
    rw [wp_bind]
    iapply (wp_wand_r frame (wpE (defs₀ (F := F)) 𝒱 (c : Thread nD τ) bd) Set.univ)
    isplitl [HW]
    · iapply (asm 𝒱 c bd _ _ _ (chk8_of _ (hlt t.val ht)) iprop(∃ W, owes (c : Thread nD τ) 0 W))
      iexact HW
    iintro %_ HW
    ihave HRing := (open_some c arg4 arg5 arg6 arg7 arg13 arg14 arg15 arg16 arg22 f4 f5 f6 f7 _ (kp t.val) _ (midAt_own _ _ _ ht)) $$ HRing
    icases HRing with ⟨⟨⟨H0, G0⟩, ⟨H1, G1⟩, ⟨H2, G2⟩, H3, G3⟩, HRest⟩
    rw [wp_bind]
    iapply (wp_wand_r frame (wpE (defs₀ (F := F)) 𝒱 (c : Thread nD τ) bd) Set.univ)
    isplitl [H0 G0 HW]
    · iapply (await0 c arg4 arg13 arg22 f4 𝒱 bd (kp t.val) (exAt le t.val) _ (off63_eq (BitVec.ofNat 32 n.val) t h64) _ (off64_eq (BitVec.ofNat 32 n.val) t h64) _ _ _ _ _)
      isplitl [H0 G0]
      · isplitl [H0]; · iexact H0
        iexact G0
      iexact HW
    iintro %_ ⟨⟨H0, G0⟩, HW⟩
    rw [wp_bind]
    iapply (wp_wand_r frame (wpE (defs₀ (F := F)) 𝒱 (c : Thread nD τ) bd) Set.univ)
    isplitl [H1 G1 HW]
    · iapply (await1 c arg5 arg14 arg22 f5 𝒱 bd (kp t.val) (exAt le t.val) _ (off66_eq (BitVec.ofNat 32 n.val) t h64) _ (off67_eq (BitVec.ofNat 32 n.val) t h64) _ _ _ _ _)
      isplitl [H1 G1]
      · isplitl [H1]; · iexact H1
        iexact G1
      iexact HW
    iintro %_ ⟨⟨H1, G1⟩, HW⟩
    rw [wp_bind]
    iapply (wp_wand_r frame (wpE (defs₀ (F := F)) 𝒱 (c : Thread nD τ) bd) Set.univ)
    isplitl [H2 G2 HW]
    · iapply (await2 c arg6 arg15 arg22 f6 𝒱 bd (kp t.val) (exAt le t.val) _ (off69_eq (BitVec.ofNat 32 n.val) t h64) _ (off70_eq (BitVec.ofNat 32 n.val) t h64) _ _ _ _ _)
      isplitl [H2 G2]
      · isplitl [H2]; · iexact H2
        iexact G2
      iexact HW
    iintro %_ ⟨⟨H2, G2⟩, HW⟩
    rw [wp_pure]; imodintro
    isplitr [H0 G0 H1 G1 H2 G2 H3 G3 HRest H20 HW]
    · ipureintro; rfl
    isplitl [H0 G0]
    · isplitl [H0]; · iexact H0
      iexact G0
    isplitl [H1 G1]
    · isplitl [H1]; · iexact H1
      iexact G1
    isplitl [H2 G2]
    · isplitl [H2]; · iexact H2
      iexact G2
    isplitl [H3 G3]
    · isplitl [H3]; · iexact H3
      iexact G3
    isplitl [HRest]; · iexact HRest
    isplitl [H20]; · iexact H20
    iexact HW
  · rw [dif_neg (fun h => hc ((cond4_iff n t).1 h)), show stAt n.val le t.val = midAt n.val le t.val from by unfold midAt; rw [if_neg hc]]
    iintro ⟨HRing, H20, HW⟩
    rw [wp_bind]
    iapply (wp_wand_r frame (wpE (defs₀ (F := F)) 𝒱 (c : Thread nD τ) bd) Set.univ)
    isplitl [H20]
    · iapply (ld20 𝒱 c bd _ arg20 X20 _ _ ⟨t.val, by omega⟩ (off62_eq (BitVec.ofNat 32 n.val) t h64) _ _)
      iexact H20
    iintro %v70 ⟨%hv, H20⟩
    rw [hle ⟨t.val, by omega⟩ ht] at hv
    subst hv
    rw [wp_bind]
    iapply (wp_wand_r frame (wpE (defs₀ (F := F)) 𝒱 (c : Thread nD τ) bd) Set.univ)
    isplitl [HW]
    · iapply (asm 𝒱 c bd _ _ _ (chk8_of _ (hlt t.val ht)) iprop(∃ W, owes (c : Thread nD τ) 0 W))
      iexact HW
    iintro %_ HW
    ihave HRing := (open_some c arg4 arg5 arg6 arg7 arg13 arg14 arg15 arg16 arg22 f4 f5 f6 f7 _ (kp t.val) _ (midAt_own _ _ _ ht)) $$ HRing
    icases HRing with ⟨⟨⟨H0, G0⟩, ⟨H1, G1⟩, ⟨H2, G2⟩, H3, G3⟩, HRest⟩
    rw [wp_bind]
    iapply (wp_wand_r frame (wpE (defs₀ (F := F)) 𝒱 (c : Thread nD τ) bd) Set.univ)
    isplitl [H0 G0 HW]
    · iapply (await0 c arg4 arg13 arg22 f4 𝒱 bd (kp t.val) (exAt le t.val) _ (off63_eq (BitVec.ofNat 32 n.val) t h64) _ (off64_eq (BitVec.ofNat 32 n.val) t h64) _ _ _ _ _)
      isplitl [H0 G0]
      · isplitl [H0]; · iexact H0
        iexact G0
      iexact HW
    iintro %_ ⟨⟨H0, G0⟩, HW⟩
    rw [wp_bind]
    iapply (wp_wand_r frame (wpE (defs₀ (F := F)) 𝒱 (c : Thread nD τ) bd) Set.univ)
    isplitl [H1 G1 HW]
    · iapply (await1 c arg5 arg14 arg22 f5 𝒱 bd (kp t.val) (exAt le t.val) _ (off66_eq (BitVec.ofNat 32 n.val) t h64) _ (off67_eq (BitVec.ofNat 32 n.val) t h64) _ _ _ _ _)
      isplitl [H1 G1]
      · isplitl [H1]; · iexact H1
        iexact G1
      iexact HW
    iintro %_ ⟨⟨H1, G1⟩, HW⟩
    rw [wp_bind]
    iapply (wp_wand_r frame (wpE (defs₀ (F := F)) 𝒱 (c : Thread nD τ) bd) Set.univ)
    isplitl [H2 G2 HW]
    · iapply (await2 c arg6 arg15 arg22 f6 𝒱 bd (kp t.val) (exAt le t.val) _ (off69_eq (BitVec.ofNat 32 n.val) t h64) _ (off70_eq (BitVec.ofNat 32 n.val) t h64) _ _ _ _ _)
      isplitl [H2 G2]
      · isplitl [H2]; · iexact H2
        iexact G2
      iexact HW
    iintro %_ ⟨⟨H2, G2⟩, HW⟩
    rw [wp_pure]; imodintro
    isplitr [H0 G0 H1 G1 H2 G2 H3 G3 HRest H20 HW]
    · ipureintro; rfl
    isplitl [H0 G0]
    · isplitl [H0]; · iexact H0
      iexact G0
    isplitl [H1 G1]
    · isplitl [H1]; · iexact H1
      iexact G1
    isplitl [H2 G2]
    · isplitl [H2]; · iexact H2
      iexact G2
    isplitl [H3 G3]
    · isplitl [H3]; · iexact H3
      iexact G3
    isplitl [HRest]; · iexact HRest
    isplitl [H20]; · iexact H20
    iexact HW

end Cert.KernelIdeal.Hand
-- ==== Proof.KernelIdeal.Offs.lean ====
/- The windows of the matrix products in closed form. -/
module

public import proofs.«01_k».proof.Proof.Gen.KernelIdeal.Skeleton

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The offsets of the loads and stores in the loops, as numbers. -/
theorem off43_eq : ∀ k : Fin k0_t4_loop.trips, k0_off43 k = ![0, 256 * k.val] := by decide +kernel
theorem off41_eq : ∀ (g : Fin k0_t3_loop.trips) (k : Fin k0_t4_loop.trips), k0_off41 g k = ![8 * k.val, 512 * g.val] := by decide +kernel
theorem off42_eq : ∀ (g : Fin k0_t3_loop.trips) (k : Fin k0_t4_loop.trips) (b : Fin 8) (h : Fin 2),
    k0_off42 g k (BitVec.ofNat 32 b.val) (BitVec.ofNat 32 h.val) = ![((k.val * 8 + b.val) * 2 + h.val) * 3 + g.val, 0, 0] := by decide +kernel
theorem off44_eq : ∀ g : Fin k0_t3_loop.trips, k0_off44 g = ![0, 512 * g.val] := by decide +kernel
theorem off47_eq : ∀ k : Fin k0_t6_loop.trips, k0_off47 k = ![0, 256 * k.val] := by decide +kernel
theorem off45_eq : ∀ (g : Fin k0_t5_loop.trips) (k : Fin k0_t6_loop.trips), k0_off45 g k = ![8 * k.val, 512 * g.val] := by decide +kernel
theorem off46_eq : ∀ (g : Fin k0_t5_loop.trips) (k : Fin k0_t6_loop.trips) (b : Fin 8) (h : Fin 2),
    k0_off46 g k (BitVec.ofNat 32 b.val) (BitVec.ofNat 32 h.val) = ![((k.val * 8 + b.val) * 2 + h.val) * 4 + g.val, 0, 0] := by decide +kernel
theorem off48_eq : ∀ g : Fin k0_t5_loop.trips, k0_off48 g = ![0, 512 * g.val] := by decide +kernel
theorem off80_eq : ∀ k : Fin k0_t9_loop.trips, k0_off80 k = ![0, 256 * k.val] := by decide +kernel
theorem off77_eq : ∀ (g : Fin k0_t8_loop.trips) (k : Fin k0_t9_loop.trips), k0_off77 g k = ![8 * k.val, 512 * g.val] := by decide +kernel
theorem off79_eq : ∀ (g : Fin k0_t8_loop.trips) (k : Fin k0_t9_loop.trips) (b : Fin 8) (h : Fin 2),
    k0_off79 g k (BitVec.ofNat 32 b.val) (BitVec.ofNat 32 h.val) = ![((k.val * 8 + b.val) * 2 + h.val) * 3 + g.val, 0, 0] := by decide +kernel
theorem off81_eq : ∀ g : Fin k0_t8_loop.trips, k0_off81 g = ![0, 512 * g.val] := by decide +kernel
theorem off86_eq : ∀ k : Fin k0_t11_loop.trips, k0_off86 k = ![0, 256 * k.val] := by decide +kernel
theorem off83_eq : ∀ (g : Fin k0_t10_loop.trips) (k : Fin k0_t11_loop.trips), k0_off83 g k = ![8 * k.val, 512 * g.val] := by decide +kernel
theorem off85_eq : ∀ (g : Fin k0_t10_loop.trips) (k : Fin k0_t11_loop.trips) (b : Fin 8) (h : Fin 2),
    k0_off85 g k (BitVec.ofNat 32 b.val) (BitVec.ofNat 32 h.val) = ![((k.val * 8 + b.val) * 2 + h.val) * 4 + g.val, 0, 0] := by decide +kernel
theorem off87_eq : ∀ g : Fin k0_t10_loop.trips, k0_off87 g = ![0, 512 * g.val] := by decide +kernel

/-- The trips of each loop. -/
theorem t3_trips : k0_t3_loop.trips = 3 := by decide +kernel
theorem t4_trips : k0_t4_loop.trips = 8 := by decide +kernel
theorem t5_trips : k0_t5_loop.trips = 4 := by decide +kernel
theorem t6_trips : k0_t6_loop.trips = 3 := by decide +kernel
theorem t8_trips : k0_t8_loop.trips = 3 := by decide +kernel
theorem t9_trips : k0_t9_loop.trips = 8 := by decide +kernel
theorem t10_trips : k0_t10_loop.trips = 4 := by decide +kernel
theorem t11_trips : k0_t11_loop.trips = 3 := by decide +kernel

end Cert.KernelIdeal.Hand
-- ==== Proof.KernelIdeal.Trip9.lean ====
/- One K-chunk of a routed expert's gate and up product, run on the buffers it reads. -/
module

public import proofs.«01_k».proof.Proof.KernelIdeal.Tile
public import Idealize.ShloMosaic.Lib.Exec
public import Idealize.ShloMosaic.Lib.Tactic
public import Idealize.ShloMosaic.Lib.Pipeline.Kit
public import Idealize.ShloMosaic.Lib.LoopEntry

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- One chunk of a routed gate/up product. -/
theorem trip9 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (v18 : BitVec 32) (k0_hw6 : k0_chk6 v18) (k0_t7 : Fin (k0_t7_loop v18).trips) (arg23 : BitVec 32) (v70 : Elt F .i32) (k0_hw8 : k0_chk8 v70) (k0_t8 : Fin k0_t8_loop.trips) (arg24 : BitVec 32) (mv_v140 : Memref sig .tc .vmem S64x1536 .i8) (hcanon_v140 : (arg14.slice (Rect.unit (s := S4x64x1536) (k0_off76 v18 k0_t7) S1x64x1536.size (k0_off76_inb v18 k0_hw6 k0_t7)) (fun _ => rfl)).squeeze S64x1536 squeezes_S1x64x1536_S64x1536 = mv_v140) (mv_v173 : Memref sig .tc .vmem S384x32x128 .i8) (hcanon_v173 : (arg13.slice (Rect.unit (s := S4x384x32x128) (k0_off78 v18 k0_t7) S1x384x32x128.size (k0_off78_inb v18 k0_hw6 k0_t7)) (fun _ => rfl)).squeeze S384x32x128 squeezes_S1x384x32x128_S384x32x128 = mv_v173)
    (X1 : BufTy.Contents (Elt F) arg1.view.ty) (Xs : BufTy.Contents (Elt F) mv_v140.view.ty) (Xc : BufTy.Contents (Elt F) mv_v173.view.ty)
    (k : Fin k0_t9_loop.trips) (acc : FVec F S8x512 .f32) :
    (iprop((arg1.view.loc (c : Thread nD τ) ↦[arg1.view.set]{fullShare} X1) ∗ (mv_v140.view.loc (c : Thread nD τ) ↦[mv_v140.view.set]{fullShare} Xs)
        ∗ (mv_v173.view.loc (c : Thread nD τ) ↦[mv_v173.view.set]{fullShare} Xc)) : sProp 𝕄)
      ⊢ wp frame (wpE (defs₀ (F := F)) 𝒱 (c : Thread nD τ) bd) E (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v18 k0_hw6 k0_t7 arg23 v70 k0_hw8 k0_t8 arg24 k acc)
          (fun yld => iprop(⌜yld = chunk (shapeCast S8x256 (arg1.view.readAt (Elt F) (Rect.unit (s := S8x2048) (k0_off80 k) S8x256.size (k0_off80_inb k)).toLoadRect X1) shapeCasts_S8x256_S8x256)
              (mv_v140.view.readAt (Elt F) (Rect.unit (s := S64x1536) (k0_off77 k0_t8 k) S8x512.size (k0_off77_inb k0_t8 k)).toLoadRect Xs)
              (fun b h => mv_v173.view.readAt (Elt F) (Rect.unit (s := S384x32x128) (k0_off79 k0_t8 k (BitVec.ofNat 32 b.val) (BitVec.ofNat 32 h.val)) S1x32x128.size (k0_off79_inb k0_t8 k b h)).toLoadRect Xc)
              acc⌝
            ∗ (arg1.view.loc (c : Thread nD τ) ↦[arg1.view.set]{fullShare} X1) ∗ (mv_v140.view.loc (c : Thread nD τ) ↦[mv_v140.view.set]{fullShare} Xs)
        ∗ (mv_v173.view.loc (c : Thread nD τ) ↦[mv_v173.view.set]{fullShare} Xc))) := by
  have hk : k.val < 8 := Nat.lt_of_lt_of_le k.isLt k0_t9_abs.2.1
  unfold k0_t9_body
  iintro ⟨HR1, HRs, HRc⟩
  sl_exec
  sl_step
  isplitr
  · ipureintro
    rfl
  isplitl [HR1]; · iexact HR1
  isplitl [HRs]; · iexact HRs
  iexact HRc

end Cert.KernelIdeal.Hand
-- ==== Proof.KernelIdeal.Loop8.lean ====
/- A routed expert's gate and up product: three groups of 512 columns, each summed over eight chunks. -/
module

public import proofs.«01_k».proof.Proof.KernelIdeal.Model
public import proofs.«01_k».proof.Proof.KernelIdeal.Offs
public import proofs.«01_k».proof.Proof.KernelIdeal.Trip9
public import Idealize.ShloMosaic.Lib.Pipeline.Value

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.VecWindow

/-- The chunks of one column group of a routed gate/up product, summed. -/
theorem loop9 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (v18 : BitVec 32) (k0_hw6 : k0_chk6 v18) (k0_t7 : Fin (k0_t7_loop v18).trips) (arg23 : BitVec 32) (v70 : Elt F .i32) (k0_hw8 : k0_chk8 v70) (k0_t8 : Fin k0_t8_loop.trips) (arg24 : BitVec 32) (mv_v140 : Memref sig .tc .vmem S64x1536 .i8) (hcanon_v140 : (arg14.slice (Rect.unit (s := S4x64x1536) (k0_off76 v18 k0_t7) S1x64x1536.size (k0_off76_inb v18 k0_hw6 k0_t7)) (fun _ => rfl)).squeeze S64x1536 squeezes_S1x64x1536_S64x1536 = mv_v140) (mv_v173 : Memref sig .tc .vmem S384x32x128 .i8) (hcanon_v173 : (arg13.slice (Rect.unit (s := S4x384x32x128) (k0_off78 v18 k0_t7) S1x384x32x128.size (k0_off78_inb v18 k0_hw6 k0_t7)) (fun _ => rfl)).squeeze S384x32x128 squeezes_S1x384x32x128_S384x32x128 = mv_v173)
    (X1 : BufTy.Contents (Elt F) arg1.view.ty) (Xs : BufTy.Contents (Elt F) mv_v140.view.ty) (Xc : BufTy.Contents (Elt F) mv_v173.view.ty) :
    (iprop((arg1.view.loc (c : Thread nD τ) ↦[arg1.view.set]{fullShare} X1) ∗ (mv_v140.view.loc (c : Thread nD τ) ↦[mv_v140.view.set]{fullShare} Xs)
        ∗ (mv_v173.view.loc (c : Thread nD τ) ↦[mv_v173.view.set]{fullShare} Xc)) : sProp 𝕄)
      ⊢ wp frame (wpE (defs₀ (F := F)) 𝒱 (c : Thread nD τ) bd) E
          (Scf.Loop.for k0_t9_loop k0_t9_ok (k0_pay544 (F := F)) (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v18 k0_hw6 k0_t7 arg23 v70 k0_hw8 k0_t8 arg24))
          (fun yld => iprop(⌜yld = guState (arg1.view.read (Elt F) X1) (mv_v173.view.read (Elt F) Xc) (mv_v140.view.read (Elt F) Xs) k0_t8.val (lt_of_lt_of_eq k0_t8.isLt t8_trips) 8⌝
            ∗ (arg1.view.loc (c : Thread nD τ) ↦[arg1.view.set]{fullShare} X1) ∗ (mv_v140.view.loc (c : Thread nD τ) ↦[mv_v140.view.set]{fullShare} Xs)
        ∗ (mv_v173.view.loc (c : Thread nD τ) ↦[mv_v173.view.set]{fullShare} Xc))) := by
  iintro ⟨HR1, HRs, HRc⟩
  iapply (Scf.wp_for frame (wpE (defs₀ (F := F)) 𝒱 (c : Thread nD τ) bd) E _ _ _ k0_t9_ok _ _
    (fun k acc => iprop(⌜acc = guState (arg1.view.read (Elt F) X1) (mv_v173.view.read (Elt F) Xc) (mv_v140.view.read (Elt F) Xs) k0_t8.val (lt_of_lt_of_eq k0_t8.isLt t8_trips) k⌝ ∗ (arg1.view.loc (c : Thread nD τ) ↦[arg1.view.set]{fullShare} X1) ∗ (mv_v140.view.loc (c : Thread nD τ) ↦[mv_v140.view.set]{fullShare} Xs)
        ∗ (mv_v173.view.loc (c : Thread nD τ) ↦[mv_v173.view.set]{fullShare} Xc))) ?_)
  · intro k acc
    iintro ⟨%hacc, HR1, HRs, HRc⟩
    iapply (wp_wand_r frame (wpE (defs₀ (F := F)) 𝒱 (c : Thread nD τ) bd) E)
    isplitl [HR1 HRs HRc]
    · iapply (trip9 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v18 k0_hw6 k0_t7 arg23 v70 k0_hw8 k0_t8 arg24 mv_v140 hcanon_v140 mv_v173 hcanon_v173 X1 Xs Xc k acc)
      isplitl [HR1]; · iexact HR1
      isplitl [HRs]; · iexact HRs
      iexact HRc
    · iintro %yld ⟨%hy, HR⟩
      isplitr
      · ipureintro
        have hk : k.val < 8 := lt_of_lt_of_eq k.isLt t9_trips
        rw [guState_succ _ _ _ _ _ _ hk, hy, ← hacc]
        unfold guChunk
        rw [arg1.view.readAt_unit X1 _ (off80_eq k) (xw_inb k.val hk), mv_v140.view.readAt_unit Xs _ (off77_eq k0_t8 k) (gs_inb k0_t8.val k.val (lt_of_lt_of_eq k0_t8.isLt t8_trips) hk)]
        congr 1
        funext b h
        exact mv_v173.view.readAt_unit Xc _ (off79_eq k0_t8 k b h) _
      · iexact HR
  · isplitl [HR1 HRs HRc]
    · isplitr
      · ipureintro; rfl
      isplitl [HR1]; · iexact HR1
      isplitl [HRs]; · iexact HRs
      iexact HRc
    · iintro %acc ⟨%hacc, HR⟩
      isplitr
      · ipureintro
        rw [hacc]
        congr 1
      · iexact HR

/-- The column groups of a routed gate/up product. -/
theorem loop8 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (v18 : BitVec 32) (k0_hw6 : k0_chk6 v18) (k0_t7 : Fin (k0_t7_loop v18).trips) (arg23 : BitVec 32) (v70 : Elt F .i32) (k0_hw8 : k0_chk8 v70)
    (mv_v140 : Memref sig .tc .vmem S64x1536 .i8) (hcanon_v140 : (arg14.slice (Rect.unit (s := S4x64x1536) (k0_off76 v18 k0_t7) S1x64x1536.size (k0_off76_inb v18 k0_hw6 k0_t7)) (fun _ => rfl)).squeeze S64x1536 squeezes_S1x64x1536_S64x1536 = mv_v140) (mv_v173 : Memref sig .tc .vmem S384x32x128 .i8) (hcanon_v173 : (arg13.slice (Rect.unit (s := S4x384x32x128) (k0_off78 v18 k0_t7) S1x384x32x128.size (k0_off78_inb v18 k0_hw6 k0_t7)) (fun _ => rfl)).squeeze S384x32x128 squeezes_S1x384x32x128_S384x32x128 = mv_v173)
    (X1 : BufTy.Contents (Elt F) arg1.view.ty) (Xs : BufTy.Contents (Elt F) mv_v140.view.ty) (Xc : BufTy.Contents (Elt F) mv_v173.view.ty) (X0 : BufTy.Contents (Elt F) arg18.view.ty) :
    (iprop((arg18.view.loc (c : Thread nD τ) ↦[arg18.view.set]{fullShare} X0) ∗ (arg1.view.loc (c : Thread nD τ) ↦[arg1.view.set]{fullShare} X1) ∗ (mv_v140.view.loc (c : Thread nD τ) ↦[mv_v140.view.set]{fullShare} Xs)
        ∗ (mv_v173.view.loc (c : Thread nD τ) ↦[mv_v173.view.set]{fullShare} Xc)) : sProp 𝕄)
      ⊢ wp frame (wpE (defs₀ (F := F)) 𝒱 (c : Thread nD τ) bd) E
          (Scf.Loop.for k0_t8_loop k0_t8_ok ⟨⟩ (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v18 k0_hw6 k0_t7 arg23 v70 k0_hw8))
          (fun _ => iprop((∃ X, (arg18.view.loc (c : Thread nD τ) ↦[arg18.view.set]{fullShare} X)
              ∗ ⌜arg18.view.read (Elt F) X = guBuf (arg1.view.read (Elt F) X1) (mv_v173.view.read (Elt F) Xc) (mv_v140.view.read (Elt F) Xs) (arg18.view.read (Elt F) X0) 3⌝)
            ∗ (arg1.view.loc (c : Thread nD τ) ↦[arg1.view.set]{fullShare} X1) ∗ (mv_v140.view.loc (c : Thread nD τ) ↦[mv_v140.view.set]{fullShare} Xs)
        ∗ (mv_v173.view.loc (c : Thread nD τ) ↦[mv_v173.view.set]{fullShare} Xc))) := by
  iintro ⟨HR0, HR1, HRs, HRc⟩
  iapply (Scf.wp_for frame (wpE (defs₀ (F := F)) 𝒱 (c : Thread nD τ) bd) E _ _ _ k0_t8_ok _ _
    (fun g _ => iprop((∃ X, (arg18.view.loc (c : Thread nD τ) ↦[arg18.view.set]{fullShare} X)
              ∗ ⌜arg18.view.read (Elt F) X = guBuf (arg1.view.read (Elt F) X1) (mv_v173.view.read (Elt F) Xc) (mv_v140.view.read (Elt F) Xs) (arg18.view.read (Elt F) X0) g⌝)
            ∗ (arg1.view.loc (c : Thread nD τ) ↦[arg1.view.set]{fullShare} X1) ∗ (mv_v140.view.loc (c : Thread nD τ) ↦[mv_v140.view.set]{fullShare} Xs)
        ∗ (mv_v173.view.loc (c : Thread nD τ) ↦[mv_v173.view.set]{fullShare} Xc))) ?_)
  · intro g acc
    have hg : g.val < 3 := lt_of_lt_of_eq g.isLt t8_trips
    unfold k0_t8_body
    dsimp only
    rw [wp_bind]
    iintro ⟨⟨%X, HR0, %hX⟩, HR1, HRs, HRc⟩
    iapply (wp_wand_r frame (wpE (defs₀ (F := F)) 𝒱 (c : Thread nD τ) bd) E)
    isplitl [HR1 HRs HRc]
    · iapply (loop9 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v18 k0_hw6 k0_t7 arg23 v70 k0_hw8 g (Scf.iv 0#32 1#32 g) mv_v140 hcanon_v140 mv_v173 hcanon_v173 X1 Xs Xc)
      isplitl [HR1]; · iexact HR1
      isplitl [HRs]; · iexact HRs
      iexact HRc
    · iintro %yld ⟨%hy, HR1, HRs, HRc⟩
      sl_exec
      sl_step
      isplitl [HR0]
      · iexists _
        isplitl [HR0]; · iexact HR0
        ipureintro
        rw [guBuf_succ _ _ _ _ _ hg, View.read_writes_cons_put _ _ _ _ _ (off81_eq g), View.writes_nil, hX]
        congr 1
        exact (Idealize.ShloMosaic.shapeCast_self _ _).trans hy
      isplitl [HR1]; · iexact HR1
      isplitl [HRs]; · iexact HRs
      iexact HRc
  · isplitl [HR0 HR1 HRs HRc]
    · isplitl [HR0]
      · iexists X0
        isplitl [HR0]; · iexact HR0
        ipureintro; rfl
      isplitl [HR1]; · iexact HR1
      isplitl [HRs]; · iexact HRs
      iexact HRc
    · iintro %acc ⟨⟨%X, HR0, %hX⟩, HR⟩
      isplitl [HR0]
      · iexists X
        isplitl [HR0]; · iexact HR0
        ipureintro
        rw [hX]
        congr 1
      · iexact HR

end Cert.KernelIdeal.Hand
-- ==== Proof.KernelIdeal.Trip11.lean ====
/- One K-chunk of a routed expert's down product, run on the buffers it reads. -/
module

public import proofs.«01_k».proof.Proof.KernelIdeal.Tile
public import Idealize.ShloMosaic.Lib.Exec
public import Idealize.ShloMosaic.Lib.Tactic
public import Idealize.ShloMosaic.Lib.Pipeline.Kit
public import Idealize.ShloMosaic.Lib.LoopEntry

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- One chunk of a routed down product. -/
theorem trip11 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (v18 : BitVec 32) (k0_hw6 : k0_chk6 v18) (k0_t7 : Fin (k0_t7_loop v18).trips) (k0_t10 : Fin k0_t10_loop.trips) (arg24 : BitVec 32) (mv_v149 : Memref sig .tc .vmem S24x2048 .i8) (hcanon_v149 : (arg16.slice (Rect.unit (s := S4x24x2048) (k0_off82 v18 k0_t7) S1x24x2048.size (k0_off82_inb v18 k0_hw6 k0_t7)) (fun _ => rfl)).squeeze S24x2048 squeezes_S1x24x2048_S24x2048 = mv_v149) (mv_v182 : Memref sig .tc .vmem S192x32x128 .i8) (hcanon_v182 : (arg15.slice (Rect.unit (s := S4x192x32x128) (k0_off84 v18 k0_t7) S1x192x32x128.size (k0_off84_inb v18 k0_hw6 k0_t7)) (fun _ => rfl)).squeeze S192x32x128 squeezes_S1x192x32x128_S192x32x128 = mv_v182)
    (X1 : BufTy.Contents (Elt F) arg19.view.ty) (Xs : BufTy.Contents (Elt F) mv_v149.view.ty) (Xc : BufTy.Contents (Elt F) mv_v182.view.ty)
    (k : Fin k0_t11_loop.trips) (acc : FVec F S8x512 .f32) :
    (iprop((arg19.view.loc (c : Thread nD τ) ↦[arg19.view.set]{fullShare} X1) ∗ (mv_v149.view.loc (c : Thread nD τ) ↦[mv_v149.view.set]{fullShare} Xs)
        ∗ (mv_v182.view.loc (c : Thread nD τ) ↦[mv_v182.view.set]{fullShare} Xc)) : sProp 𝕄)
      ⊢ wp frame (wpE (defs₀ (F := F)) 𝒱 (c : Thread nD τ) bd) E (k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v18 k0_hw6 k0_t7 k0_t10 arg24 k acc)
          (fun yld => iprop(⌜yld = chunk (arg19.view.readAt (Elt F) (Rect.unit (s := S8x768) (k0_off86 k) S8x256.size (k0_off86_inb k)).toLoadRect X1)
              (mv_v149.view.readAt (Elt F) (Rect.unit (s := S24x2048) (k0_off83 k0_t10 k) S8x512.size (k0_off83_inb k0_t10 k)).toLoadRect Xs)
              (fun b h => mv_v182.view.readAt (Elt F) (Rect.unit (s := S192x32x128) (k0_off85 k0_t10 k (BitVec.ofNat 32 b.val) (BitVec.ofNat 32 h.val)) S1x32x128.size (k0_off85_inb k0_t10 k b h)).toLoadRect Xc)
              acc⌝
            ∗ (arg19.view.loc (c : Thread nD τ) ↦[arg19.view.set]{fullShare} X1) ∗ (mv_v149.view.loc (c : Thread nD τ) ↦[mv_v149.view.set]{fullShare} Xs)
        ∗ (mv_v182.view.loc (c : Thread nD τ) ↦[mv_v182.view.set]{fullShare} Xc))) := by
  have hk : k.val < 3 := Nat.lt_of_lt_of_le k.isLt k0_t11_abs.2.1
  unfold k0_t11_body
  iintro ⟨HR1, HRs, HRc⟩
  sl_exec
  sl_step
  isplitr
  · ipureintro
    rfl
  isplitl [HR1]; · iexact HR1
  isplitl [HRs]; · iexact HRs
  iexact HRc

end Cert.KernelIdeal.Hand
-- ==== Proof.KernelIdeal.Loop10.lean ====
/- A routed expert's down product, weighted and added to the accumulator: four groups of 512 columns, each summed over three chunks. -/
module

public import proofs.«01_k».proof.Proof.KernelIdeal.Model
public import proofs.«01_k».proof.Proof.KernelIdeal.Offs
public import proofs.«01_k».proof.Proof.KernelIdeal.Trip11
public import Idealize.ShloMosaic.Lib.Pipeline.Value

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.VecWindow

/-- The chunks of one column group of a routed down product, summed. -/
theorem loop11 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (v18 : BitVec 32) (k0_hw6 : k0_chk6 v18) (k0_t7 : Fin (k0_t7_loop v18).trips) (k0_t10 : Fin k0_t10_loop.trips) (arg24 : BitVec 32) (mv_v149 : Memref sig .tc .vmem S24x2048 .i8) (hcanon_v149 : (arg16.slice (Rect.unit (s := S4x24x2048) (k0_off82 v18 k0_t7) S1x24x2048.size (k0_off82_inb v18 k0_hw6 k0_t7)) (fun _ => rfl)).squeeze S24x2048 squeezes_S1x24x2048_S24x2048 = mv_v149) (mv_v182 : Memref sig .tc .vmem S192x32x128 .i8) (hcanon_v182 : (arg15.slice (Rect.unit (s := S4x192x32x128) (k0_off84 v18 k0_t7) S1x192x32x128.size (k0_off84_inb v18 k0_hw6 k0_t7)) (fun _ => rfl)).squeeze S192x32x128 squeezes_S1x192x32x128_S192x32x128 = mv_v182)
    (X1 : BufTy.Contents (Elt F) arg19.view.ty) (Xs : BufTy.Contents (Elt F) mv_v149.view.ty) (Xc : BufTy.Contents (Elt F) mv_v182.view.ty) :
    (iprop((arg19.view.loc (c : Thread nD τ) ↦[arg19.view.set]{fullShare} X1) ∗ (mv_v149.view.loc (c : Thread nD τ) ↦[mv_v149.view.set]{fullShare} Xs)
        ∗ (mv_v182.view.loc (c : Thread nD τ) ↦[mv_v182.view.set]{fullShare} Xc)) : sProp 𝕄)
      ⊢ wp frame (wpE (defs₀ (F := F)) 𝒱 (c : Thread nD τ) bd) E
          (Scf.Loop.for k0_t11_loop k0_t11_ok (k0_pay8 (F := F)) (k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v18 k0_hw6 k0_t7 k0_t10 arg24))
          (fun yld => iprop(⌜yld = dnState (arg19.view.read (Elt F) X1) (mv_v182.view.read (Elt F) Xc) (mv_v149.view.read (Elt F) Xs) k0_t10.val (lt_of_lt_of_eq k0_t10.isLt t10_trips) 3⌝
            ∗ (arg19.view.loc (c : Thread nD τ) ↦[arg19.view.set]{fullShare} X1) ∗ (mv_v149.view.loc (c : Thread nD τ) ↦[mv_v149.view.set]{fullShare} Xs)
        ∗ (mv_v182.view.loc (c : Thread nD τ) ↦[mv_v182.view.set]{fullShare} Xc))) := by
  iintro ⟨HR1, HRs, HRc⟩
  iapply (Scf.wp_for frame (wpE (defs₀ (F := F)) 𝒱 (c : Thread nD τ) bd) E _ _ _ k0_t11_ok _ _
    (fun k acc => iprop(⌜acc = dnState (arg19.view.read (Elt F) X1) (mv_v182.view.read (Elt F) Xc) (mv_v149.view.read (Elt F) Xs) k0_t10.val (lt_of_lt_of_eq k0_t10.isLt t10_trips) k⌝ ∗ (arg19.view.loc (c : Thread nD τ) ↦[arg19.view.set]{fullShare} X1) ∗ (mv_v149.view.loc (c : Thread nD τ) ↦[mv_v149.view.set]{fullShare} Xs)
        ∗ (mv_v182.view.loc (c : Thread nD τ) ↦[mv_v182.view.set]{fullShare} Xc))) ?_)
  · intro k acc
    iintro ⟨%hacc, HR1, HRs, HRc⟩
    iapply (wp_wand_r frame (wpE (defs₀ (F := F)) 𝒱 (c : Thread nD τ) bd) E)
    isplitl [HR1 HRs HRc]
    · iapply (trip11 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v18 k0_hw6 k0_t7 k0_t10 arg24 mv_v149 hcanon_v149 mv_v182 hcanon_v182 X1 Xs Xc k acc)
      isplitl [HR1]; · iexact HR1
      isplitl [HRs]; · iexact HRs
      iexact HRc
    · iintro %yld ⟨%hy, HR⟩
      isplitr
      · ipureintro
        have hk : k.val < 3 := lt_of_lt_of_eq k.isLt t11_trips
        rw [dnState_succ _ _ _ _ _ _ hk, hy, ← hacc]
        unfold dnChunk
        rw [arg19.view.readAt_unit X1 _ (off86_eq k) (hw_inb k.val hk), mv_v149.view.readAt_unit Xs _ (off83_eq k0_t10 k) (ds_inb k0_t10.val k.val (lt_of_lt_of_eq k0_t10.isLt t10_trips) hk)]
        congr 1
        funext b h
        exact mv_v182.view.readAt_unit Xc _ (off85_eq k0_t10 k b h) _
      · iexact HR
  · isplitl [HR1 HRs HRc]
    · isplitr
      · ipureintro; rfl
      isplitl [HR1]; · iexact HR1
      isplitl [HRs]; · iexact HRs
      iexact HRc
    · iintro %acc ⟨%hacc, HR⟩
      isplitr
      · ipureintro
        rw [hacc]
        congr 1
      · iexact HR

/-- The column groups of a routed down product, each weighted and added. -/
theorem loop10 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (v18 : BitVec 32) (k0_hw6 : k0_chk6 v18) (k0_t7 : Fin (k0_t7_loop v18).trips) (v110 : FVec F S8x1 .f32) (v116 : IVec S8x1 1)
    (mv_v149 : Memref sig .tc .vmem S24x2048 .i8) (hcanon_v149 : (arg16.slice (Rect.unit (s := S4x24x2048) (k0_off82 v18 k0_t7) S1x24x2048.size (k0_off82_inb v18 k0_hw6 k0_t7)) (fun _ => rfl)).squeeze S24x2048 squeezes_S1x24x2048_S24x2048 = mv_v149) (mv_v182 : Memref sig .tc .vmem S192x32x128 .i8) (hcanon_v182 : (arg15.slice (Rect.unit (s := S4x192x32x128) (k0_off84 v18 k0_t7) S1x192x32x128.size (k0_off84_inb v18 k0_hw6 k0_t7)) (fun _ => rfl)).squeeze S192x32x128 squeezes_S1x192x32x128_S192x32x128 = mv_v182)
    (X1 : BufTy.Contents (Elt F) arg19.view.ty) (Xs : BufTy.Contents (Elt F) mv_v149.view.ty) (Xc : BufTy.Contents (Elt F) mv_v182.view.ty) (X0 : BufTy.Contents (Elt F) arg17.view.ty) :
    (iprop((arg17.view.loc (c : Thread nD τ) ↦[arg17.view.set]{fullShare} X0) ∗ (arg19.view.loc (c : Thread nD τ) ↦[arg19.view.set]{fullShare} X1) ∗ (mv_v149.view.loc (c : Thread nD τ) ↦[mv_v149.view.set]{fullShare} Xs)
        ∗ (mv_v182.view.loc (c : Thread nD τ) ↦[mv_v182.view.set]{fullShare} Xc)) : sProp 𝕄)
      ⊢ wp frame (wpE (defs₀ (F := F)) 𝒱 (c : Thread nD τ) bd) E
          (Scf.Loop.for k0_t10_loop k0_t10_ok ⟨⟩ (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v18 k0_hw6 k0_t7 v110 v116))
          (fun _ => iprop((∃ X, (arg17.view.loc (c : Thread nD τ) ↦[arg17.view.set]{fullShare} X)
              ∗ ⌜arg17.view.read (Elt F) X = rtBuf v110 v116 (arg19.view.read (Elt F) X1) (mv_v182.view.read (Elt F) Xc) (mv_v149.view.read (Elt F) Xs) (arg17.view.read (Elt F) X0) 4⌝)
            ∗ (arg19.view.loc (c : Thread nD τ) ↦[arg19.view.set]{fullShare} X1) ∗ (mv_v149.view.loc (c : Thread nD τ) ↦[mv_v149.view.set]{fullShare} Xs)
        ∗ (mv_v182.view.loc (c : Thread nD τ) ↦[mv_v182.view.set]{fullShare} Xc))) := by
  iintro ⟨HR0, HR1, HRs, HRc⟩
  iapply (Scf.wp_for frame (wpE (defs₀ (F := F)) 𝒱 (c : Thread nD τ) bd) E _ _ _ k0_t10_ok _ _
    (fun g _ => iprop((∃ X, (arg17.view.loc (c : Thread nD τ) ↦[arg17.view.set]{fullShare} X)
              ∗ ⌜arg17.view.read (Elt F) X = rtBuf v110 v116 (arg19.view.read (Elt F) X1) (mv_v182.view.read (Elt F) Xc) (mv_v149.view.read (Elt F) Xs) (arg17.view.read (Elt F) X0) g⌝)
            ∗ (arg19.view.loc (c : Thread nD τ) ↦[arg19.view.set]{fullShare} X1) ∗ (mv_v149.view.loc (c : Thread nD τ) ↦[mv_v149.view.set]{fullShare} Xs)
        ∗ (mv_v182.view.loc (c : Thread nD τ) ↦[mv_v182.view.set]{fullShare} Xc))) ?_)
  · intro g acc
    have hg : g.val < 4 := lt_of_lt_of_eq g.isLt t10_trips
    unfold k0_t10_body
    dsimp only
    rw [wp_bind]
    iintro ⟨⟨%X, HR0, %hX⟩, HR1, HRs, HRc⟩
    iapply (wp_wand_r frame (wpE (defs₀ (F := F)) 𝒱 (c : Thread nD τ) bd) E)
    isplitl [HR1 HRs HRc]
    · iapply (loop11 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v18 k0_hw6 k0_t7 g (Scf.iv 0#32 1#32 g) mv_v149 hcanon_v149 mv_v182 hcanon_v182 X1 Xs Xc)
      isplitl [HR1]; · iexact HR1
      isplitl [HRs]; · iexact HRs
      iexact HRc
    · iintro %yld ⟨%hy, HR1, HRs, HRc⟩
      sl_exec
      sl_step
      isplitl [HR0]
      · iexists _
        isplitl [HR0]; · iexact HR0
        ipureintro
        rw [rtBuf_succ _ _ _ _ _ _ _ hg, View.read_writes_cons_put _ _ _ _ _ (off87_eq g), View.writes_nil, hX]
        congr 1
        rw [arg17.view.readAt_unit X _ (off87_eq g), hX, hy]
      isplitl [HR1]; · iexact HR1
      isplitl [HRs]; · iexact HRs
      iexact HRc
  · isplitl [HR0 HR1 HRs HRc]
    · isplitl [HR0]
      · iexists X0
        isplitl [HR0]; · iexact HR0
        ipureintro; rfl
      isplitl [HR1]; · iexact HR1
      isplitl [HRs]; · iexact HRs
      iexact HRc
    · iintro %acc ⟨⟨%X, HR0, %hX⟩, HR⟩
      isplitl [HR0]
      · iexists X
        isplitl [HR0]; · iexact HR0
        ipureintro
        rw [hX]
        congr 1
      · iexact HR

end Cert.KernelIdeal.Hand
-- ==== Proof.KernelIdeal.Loop7.lean ====
/- One trip of the routed loop, and the loop. -/
module

public import proofs.«01_k».proof.Proof.KernelIdeal.Part81
public import proofs.«01_k».proof.Proof.KernelIdeal.Flow
public import proofs.«01_k».proof.Proof.KernelIdeal.Loop8
public import proofs.«01_k».proof.Proof.KernelIdeal.Loop10

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.Ring Idealize.ShloMosaic.VecWindow

/-- The last wait, the gate and up product and the row weights. -/
theorem part82 (𝒱 : Variants) (c : Dev nD) (bd : Option 𝒱.V) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (f4 : BufTy.Contents (Elt F) arg4.view.ty) (f5 : BufTy.Contents (Elt F) arg5.view.ty) (f6 : BufTy.Contents (Elt F) arg6.view.ty) (f7 : BufTy.Contents (Elt F) arg7.view.ty)
    (n : Fin 65) (k0_hw6 : k0_chk6 (BitVec.ofNat 32 n.val)) (t : Fin (k0_t7_loop (BitVec.ofNat 32 n.val)).trips) (ht : t.val < n.val) (le : ℕ → BitVec 32) (X20 : BufTy.Contents (Elt F) arg20.view.ty)
    (hle : ∀ a : Fin 65, a.val < n.val → arg20.view.read (Elt F) X20 (ix1 a) = le a.val)
    (arg23 : BitVec 32) (k0_hw8 : k0_chk8 (le t.val)) (X1 : BufTy.Contents (Elt F) arg1.view.ty) (X2 : BufTy.Contents (Elt F) arg2.view.ty) (X3 : BufTy.Contents (Elt F) arg3.view.ty) :
    iprop(iprop(Full c (cell arg22 (kp t.val) 0) (slot13 arg13 (kp t.val)) ((src4 arg4 (exAt le t.val)).view.read (Elt F) f4) ∗ (arg4.view.loc (c : Thread nD τ) ↦[arg4.view.set]{tok (kp t.val)} f4)) ∗ iprop(Full c (cell arg22 (kp t.val) 1) (slot14 arg14 (kp t.val)) ((src5 arg5 (exAt le t.val)).view.read (Elt F) f5) ∗ (arg5.view.loc (c : Thread nD τ) ↦[arg5.view.set]{tok (kp t.val)} f5)) ∗ iprop(Full c (cell arg22 (kp t.val) 2) (slot15 arg15 (kp t.val)) ((src6 arg6 (exAt le t.val)).view.read (Elt F) f6) ∗ (arg6.view.loc (c : Thread nD τ) ↦[arg6.view.set]{tok (kp t.val)} f6)) ∗ iprop(Fly c (cell arg22 (kp t.val) 3) (src7 arg7 (exAt le t.val)) (slot16 arg16 (kp t.val)) (tok (kp t.val)) f7 ∗ (arg7.view.loc (c : Thread nD τ) ↦[arg7.view.set \ (src7 arg7 (exAt le t.val)).view.set]{tok (kp t.val)} f7)) ∗ (arg20.view.loc (c : Thread nD τ) ↦[arg20.view.set]{fullShare} X20) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
        ∗ (∃ X, (arg18.view.loc (c : Thread nD τ) ↦[arg18.view.set]{fullShare} X)) ∗ (∃ X, (arg19.view.loc (c : Thread nD τ) ↦[arg19.view.set]{fullShare} X)) ∗ ∃ W, owes (c : Thread nD τ) 0 W)
      ⊢ wp frame (wpE (defs₀ (F := F)) 𝒱 (c : Thread nD τ) bd) Set.univ (k0_part82 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 n.val) k0_hw6 t arg23 (le t.val) k0_hw8)
        (fun r => iprop(⌜r.1 = k0_pay542 (arg2.view.read (Elt F) X2) (le t.val) (arg3.view.read (Elt F) X3) ∧ r.2.1 = k0_pay543 (arg2.view.read (Elt F) X2) (le t.val) ∧ r.2.2 = k0_pay547 (guOf (arg1.view.read (Elt F) X1) ((src4 arg4 (exAt le t.val)).view.read (Elt F) f4) ((src5 arg5 (exAt le t.val)).view.read (Elt F) f5))⌝
          ∗ iprop(Full c (cell arg22 (kp t.val) 0) (slot13 arg13 (kp t.val)) ((src4 arg4 (exAt le t.val)).view.read (Elt F) f4) ∗ (arg4.view.loc (c : Thread nD τ) ↦[arg4.view.set]{tok (kp t.val)} f4)) ∗ iprop(Full c (cell arg22 (kp t.val) 1) (slot14 arg14 (kp t.val)) ((src5 arg5 (exAt le t.val)).view.read (Elt F) f5) ∗ (arg5.view.loc (c : Thread nD τ) ↦[arg5.view.set]{tok (kp t.val)} f5)) ∗ iprop(Full c (cell arg22 (kp t.val) 2) (slot15 arg15 (kp t.val)) ((src6 arg6 (exAt le t.val)).view.read (Elt F) f6) ∗ (arg6.view.loc (c : Thread nD τ) ↦[arg6.view.set]{tok (kp t.val)} f6)) ∗ iprop(Full c (cell arg22 (kp t.val) 3) (slot16 arg16 (kp t.val)) ((src7 arg7 (exAt le t.val)).view.read (Elt F) f7) ∗ (arg7.view.loc (c : Thread nD τ) ↦[arg7.view.set]{tok (kp t.val)} f7)) ∗ (arg20.view.loc (c : Thread nD τ) ↦[arg20.view.set]{fullShare} X20) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
        ∗ (∃ X, (arg18.view.loc (c : Thread nD τ) ↦[arg18.view.set]{fullShare} X)) ∗ (∃ X, (arg19.view.loc (c : Thread nD τ) ↦[arg19.view.set]{fullShare} X)) ∗ ∃ W, owes (c : Thread nD τ) 0 W)) := by
  have h64 : t.val < 64 := by omega
  simp only [k0_part82_eq_skeleton]
  unfold k0_part82_skel
  dsimp only
  iintro ⟨⟨H0, G0⟩, ⟨H1, G1⟩, ⟨H2, G2⟩, ⟨H3, G3⟩, H20, HX1, HX2, HX3, ⟨%X18, H18⟩, ⟨%X19, H19⟩, HW⟩
  rw [wp_bind]
  iapply (wp_wand_r frame (wpE (defs₀ (F := F)) 𝒱 (c : Thread nD τ) bd) Set.univ)
  isplitl [H3 G3 HW]
  · iapply (await3 c arg7 arg16 arg22 f7 𝒱 bd (kp t.val) (exAt le t.val) _ (off72_eq (BitVec.ofNat 32 n.val) t h64) _ (off73_eq (BitVec.ofNat 32 n.val) t h64) _ _ _ _ _)
    isplitl [H3 G3]
    · isplitl [H3]; · iexact H3
      iexact G3
    iexact HW
  iintro %_ ⟨⟨H3, G3⟩, HW⟩
  rw [wp_bind]
  iapply (wp_wand_r frame (wpE (defs₀ (F := F)) 𝒱 (c : Thread nD τ) bd) Set.univ)
  isplitl [HX2]
  · iapply (ldW 𝒱 c bd _ arg2 X2 (fun a => by match a with | 0 => rfl | 1 => rfl) _ _) $$ HX2
  iintro %v99 ⟨%h99, HX2⟩
  rw [wp_bind]
  iapply (wp_wand_r frame (wpE (defs₀ (F := F)) 𝒱 (c : Thread nD τ) bd) Set.univ)
  isplitl [H20]
  · iapply (ld20 𝒱 c bd _ arg20 X20 _ _ ⟨t.val, by omega⟩ (off75_eq (BitVec.ofNat 32 n.val) t h64) _ _)
    iexact H20
  iintro %v102 ⟨%h102, H20⟩
  rw [hle ⟨t.val, by omega⟩ ht] at h102
  rw [wp_bind]
  iapply (wp_wand_r frame (wpE (defs₀ (F := F)) 𝒱 (c : Thread nD τ) bd) Set.univ)
  isplitl [HX3]
  · iapply (ldW 𝒱 c bd _ arg3 X3 (fun a => by match a with | 0 => rfl | 1 => rfl) _ _) $$ HX3
  iintro %v105 ⟨%h105, HX3⟩
  unfold Full
  icases H0 with ⟨S0, %F0, H0, %hF0⟩
  icases H1 with ⟨S1, %F1, H1, %hF1⟩
  rw [wp_bind]
  iapply (wp_wand_r frame (wpE (defs₀ (F := F)) 𝒱 (c : Thread nD τ) bd) Set.univ)
  isplitl [H18 HX1 H1 H0]
  · iapply (loop8 𝒱 c bd Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 _ k0_hw6 t arg23 (le t.val) k0_hw8 (slot14 arg14 (kp t.val)) (slot14_eq arg14 (kp t.val) _ (off76_eq (BitVec.ofNat 32 n.val) t h64) _) (slot13 arg13 (kp t.val)) (slot13_eq arg13 (kp t.val) _ (off78_eq (BitVec.ofNat 32 n.val) t h64) _) X1 F1 F0 X18)
    isplitl [H18]; · iexact H18
    isplitl [HX1]; · iexact HX1
    isplitl [H1]; · iexact H1
    iexact H0
  iintro %_ ⟨⟨%Y18, H18, %hY⟩, HX1, H1, H0⟩
  rw [guBuf_three, hF0, hF1] at hY
  rw [wp_bind]
  iapply (wp_wand_r frame (wpE (defs₀ (F := F)) 𝒱 (c : Thread nD τ) bd) Set.univ)
  isplitl [H18]
  · iapply (ldW 𝒱 c bd _ arg18 Y18 (fun a => by match a with | 0 => rfl | 1 => rfl) _ _) $$ H18
  iintro %v118 ⟨%h118, H18⟩
  rw [wp_bind]
  iapply (wp_wand_r frame (wpE (defs₀ (F := F)) 𝒱 (c : Thread nD τ) bd) Set.univ)
  isplitl [H19]
  · iapply (ldW 𝒱 c bd _ arg19 X19 (fun a => by match a with | 0 => rfl | 1 => rfl) _ _) $$ H19
  iintro %v125 ⟨-, H19⟩
  rw [wp_pure]; imodintro
  isplitr [S0 H0 G0 S1 H1 G1 H2 G2 H3 G3 H20 HX1 HX2 HX3 H18 H19 HW]
  · ipureintro
    exact ⟨by rw [h99, h102, h105], by rw [h99, h102], by rw [h118, hY]⟩
  isplitl [S0 H0 G0]
  · isplitl [S0 H0]
    · isplitl [S0]; · iexact S0
      iexists F0
      isplitl [H0]; · iexact H0
      ipureintro; exact hF0
    iexact G0
  isplitl [S1 H1 G1]
  · isplitl [S1 H1]
    · isplitl [S1]; · iexact S1
      iexists F1
      isplitl [H1]; · iexact H1
      ipureintro; exact hF1
    iexact G1
  isplitl [H2 G2]
  · isplitl [H2]; · iexact H2
    iexact G2
  isplitl [H3 G3]
  · isplitl [H3]; · iexact H3
    iexact G3
  isplitl [H20]; · iexact H20
  isplitl [HX1]; · iexact HX1
  isplitl [HX2]; · iexact HX2
  isplitl [HX3]; · iexact HX3
  isplitl [H18]; · iexists _; iexact H18
  isplitl [H19]; · iexists _; iexact H19
  iexact HW

/-- What the routed loop keeps. -/
def Keep (c : Dev nD) (arg1 : Memref sig .tc .vmem S8x2048 .bf16) (arg2 : Memref sig .tc .vmem S8x8 .i32) (arg3 : Memref sig .tc .vmem S8x8 .f32) (arg18 : Memref sig .tc .vmem S8x1536 .f32) (arg19 : Memref sig .tc .vmem S8x768 .bf16) (arg20 : Memref sig .tc .smem S65 .i32)
    (X1 : BufTy.Contents (Elt F) arg1.view.ty) (X2 : BufTy.Contents (Elt F) arg2.view.ty) (X3 : BufTy.Contents (Elt F) arg3.view.ty) (X20 : BufTy.Contents (Elt F) arg20.view.ty) : sProp 𝕄 :=
  iprop((arg20.view.loc (c : Thread nD τ) ↦[arg20.view.set]{fullShare} X20) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (∃ X, (arg18.view.loc (c : Thread nD τ) ↦[arg18.view.set]{fullShare} X)) ∗ (∃ X, (arg19.view.loc (c : Thread nD τ) ↦[arg19.view.set]{fullShare} X)) ∗ ∃ W, owes (c : Thread nD τ) 0 W)

/-- The routed loop: from the prefetched ring to the ring at rest, the accumulator grown by every expert of the list. -/
theorem loop7 (𝒱 : Variants) (c : Dev nD) (bd : Option 𝒱.V) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (f4 : BufTy.Contents (Elt F) arg4.view.ty) (f5 : BufTy.Contents (Elt F) arg5.view.ty) (f6 : BufTy.Contents (Elt F) arg6.view.ty) (f7 : BufTy.Contents (Elt F) arg7.view.ty)
    (n : Fin 65) (k0_hw6 : k0_chk6 (BitVec.ofNat 32 n.val)) (le : ℕ → BitVec 32) (X20 : BufTy.Contents (Elt F) arg20.view.ty) (hle : ∀ a : Fin 65, a.val < n.val → arg20.view.read (Elt F) X20 (ix1 a) = le a.val) (hlt : ∀ a : ℕ, a < n.val → (le a).toNat < 64)
    (X1 : BufTy.Contents (Elt F) arg1.view.ty) (X2 : BufTy.Contents (Elt F) arg2.view.ty) (X3 : BufTy.Contents (Elt F) arg3.view.ty) (X17 : BufTy.Contents (Elt F) arg17.view.ty) :
    iprop(AtW (Slot c arg4 arg5 arg6 arg7 arg13 arg14 arg15 arg16 arg22 f4 f5 f6 f7) (stAt n.val le 0) ∗ (arg17.view.loc (c : Thread nD τ) ↦[arg17.view.set]{fullShare} X17) ∗ Keep c arg1 arg2 arg3 arg18 arg19 arg20 X1 X2 X3 X20)
      ⊢ wp frame (wpE (defs₀ (F := F)) 𝒱 (c : Thread nD τ) bd) Set.univ (Scf.Loop.for (k0_t7_loop (BitVec.ofNat 32 n.val)) (k0_t7_ok (BitVec.ofNat 32 n.val) k0_hw6) ⟨⟩ (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 n.val) k0_hw6))
        (fun _ => iprop(AtW (Slot c arg4 arg5 arg6 arg7 arg13 arg14 arg15 arg16 arg22 f4 f5 f6 f7) (stAt n.val le n.val) ∗ (∃ X, (arg17.view.loc (c : Thread nD τ) ↦[arg17.view.set]{fullShare} X) ∗ ⌜arg17.view.read (Elt F) X = accAt (arg2.view.read (Elt F) X2) (arg3.view.read (Elt F) X3) (arg1.view.read (Elt F) X1) (fun e => ((src4 arg4 e).view.read (Elt F) f4)) (fun e => ((src5 arg5 e).view.read (Elt F) f5)) (fun e => ((src6 arg6 e).view.read (Elt F) f6)) (fun e => ((src7 arg7 e).view.read (Elt F) f7)) le (arg17.view.read (Elt F) X17) n.val⌝) ∗ Keep c arg1 arg2 arg3 arg18 arg19 arg20 X1 X2 X3 X20)) := by
  iintro ⟨HRing, H17, HK⟩
  iapply (Scf.wp_for frame (wpE (defs₀ (F := F)) 𝒱 (c : Thread nD τ) bd) Set.univ _ _ _ (k0_t7_ok (BitVec.ofNat 32 n.val) k0_hw6) _ _
    (fun t _ => iprop(AtW (Slot c arg4 arg5 arg6 arg7 arg13 arg14 arg15 arg16 arg22 f4 f5 f6 f7) (stAt n.val le t) ∗ (∃ X, (arg17.view.loc (c : Thread nD τ) ↦[arg17.view.set]{fullShare} X) ∗ ⌜arg17.view.read (Elt F) X = accAt (arg2.view.read (Elt F) X2) (arg3.view.read (Elt F) X3) (arg1.view.read (Elt F) X1) (fun e => ((src4 arg4 e).view.read (Elt F) f4)) (fun e => ((src5 arg5 e).view.read (Elt F) f5)) (fun e => ((src6 arg6 e).view.read (Elt F) f6)) (fun e => ((src7 arg7 e).view.read (Elt F) f7)) le (arg17.view.read (Elt F) X17) t⌝) ∗ Keep c arg1 arg2 arg3 arg18 arg19 arg20 X1 X2 X3 X20)) ?_)
  · intro t acc
    have ht : t.val < n.val := lt_of_lt_of_eq t.isLt (t7_trips n)
    have h64 : t.val < 64 := by omega
    unfold k0_t7_body Keep
    dsimp only
    iintro ⟨HRing, ⟨%Y17, H17, %hY⟩, H20, HX1, HX2, HX3, HX18, HX19, HW⟩
    rw [wp_bind]
    iapply (wp_wand_r frame (wpE (defs₀ (F := F)) 𝒱 (c : Thread nD τ) bd) Set.univ)
    isplitl [HRing H20 HW]
    · iapply (part81 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 f4 f5 f6 f7 n k0_hw6 t ht le X20 hle hlt)
      isplitl [HRing]; · iexact HRing
      isplitl [H20]; · iexact H20
      iexact HW
    iintro %r ⟨%hv, H0, H1, H2, H3, HRest, H20, HW⟩
    obtain ⟨arg23, v70, k0_hw8⟩ := r
    dsimp only at hv ⊢
    subst hv
    rw [wp_bind]
    iapply (wp_wand_r frame (wpE (defs₀ (F := F)) 𝒱 (c : Thread nD τ) bd) Set.univ)
    isplitl [H0 H1 H2 H3 H20 HX1 HX2 HX3 HX18 HX19 HW]
    · iapply (part82 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 f4 f5 f6 f7 n k0_hw6 t ht le X20 hle arg23 k0_hw8 X1 X2 X3)
      isplitl [H0]; · iexact H0
      isplitl [H1]; · iexact H1
      isplitl [H2]; · iexact H2
      isplitl [H3]; · iexact H3
      isplitl [H20]; · iexact H20
      isplitl [HX1]; · iexact HX1
      isplitl [HX2]; · iexact HX2
      isplitl [HX3]; · iexact HX3
      isplitl [HX18]; · iexact HX18
      isplitl [HX19]; · iexact HX19
      iexact HW
    iintro %r ⟨%hr, H0, H1, ⟨H2, G2⟩, ⟨H3, G3⟩, H20, HX1, HX2, HX3, HX18, ⟨%X19, HX19⟩, HW⟩
    obtain ⟨v110, v116, v127⟩ := r
    dsimp only at hr ⊢
    obtain ⟨rfl, rfl, rfl⟩ := hr
    rw [wp_bind]
    iapply (wp_wand_r frame (wpE (defs₀ (F := F)) 𝒱 (c : Thread nD τ) bd) Set.univ)
    isplitl [HX19]
    · iapply (stW 𝒱 c bd _ arg19 X19 _ _ _ _) $$ HX19
    iintro %_ ⟨%Z19, HX19, %hZ⟩
    unfold Full
    icases H2 with ⟨S2, %F2, H2, %hF2⟩
    icases H3 with ⟨S3, %F3, H3, %hF3⟩
    rw [wp_bind]
    iapply (wp_wand_r frame (wpE (defs₀ (F := F)) 𝒱 (c : Thread nD τ) bd) Set.univ)
    isplitl [H17 HX19 H3 H2]
    · iapply (loop10 𝒱 c bd Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 _ k0_hw6 t _ _ (slot16 arg16 (kp t.val)) (slot16_eq arg16 (kp t.val) _ (off82_eq (BitVec.ofNat 32 n.val) t h64) _) (slot15 arg15 (kp t.val)) (slot15_eq arg15 (kp t.val) _ (off84_eq (BitVec.ofNat 32 n.val) t h64) _) Z19 F3 F2 Y17)
      isplitl [H17]; · iexact H17
      isplitl [HX19]; · iexact HX19
      isplitl [H3]; · iexact H3
      iexact H2
    iintro %_ ⟨⟨%Y17, H17, %hY2⟩, HX19, H3, H2⟩
    rw [wp_pure]; imodintro
    isplitl [H0 H1 S2 H2 G2 S3 H3 G3 HRest]
    · rw [← midAt_next n.val le t.val]
      iapply (close_landed c arg4 arg5 arg6 arg7 arg13 arg14 arg15 arg16 arg22 f4 f5 f6 f7 (midAt n.val le t.val) (kp t.val) (exAt le t.val))
      isplitr [HRest]
      · unfold Landed Full
        isplitl [H0]; · iexact H0
        isplitl [H1]; · iexact H1
        isplitl [S2 H2 G2]
        · isplitl [S2 H2]
          · isplitl [S2]; · iexact S2
            iexists F2
            isplitl [H2]; · iexact H2
            ipureintro; exact hF2
          iexact G2
        isplitl [S3 H3]
        · isplitl [S3]; · iexact S3
          iexists F3
          isplitl [H3]; · iexact H3
          ipureintro; exact hF3
        iexact G3
      · iexact HRest
    isplitl [H17]
    · iexists _
      isplitl [H17]; · iexact H17
      ipureintro
      rw [hY2, hZ, hF2, hF3, hY]
      rfl
    isplitl [H20]; · iexact H20
    isplitl [HX1]; · iexact HX1
    isplitl [HX2]; · iexact HX2
    isplitl [HX3]; · iexact HX3
    isplitl [HX18]; · iexact HX18
    isplitl [HX19]; · iexists _; iexact HX19
    iexact HW
  · isplitl [HRing H17 HK]
    · isplitl [HRing]; · iexact HRing
      isplitl [H17]
      · iexists X17
        isplitl [H17]; · iexact H17
        ipureintro; rfl
      iexact HK
    · rw [show Scf.trips (k0_t7_loop (BitVec.ofNat 32 n.val)).lb (k0_t7_loop (BitVec.ofNat 32 n.val)).ub (k0_t7_loop (BitVec.ofNat 32 n.val)).st = n.val from t7_trips n]
      iintro %_ HR
      iexact HR

end Cert.KernelIdeal.Hand
-- ==== Proof.KernelIdeal.Trip4.lean ====
/- One K-chunk of the shared expert's gate and up product, run on the buffers it reads. -/
module

public import proofs.«01_k».proof.Proof.KernelIdeal.Tile
public import Idealize.ShloMosaic.Lib.Exec
public import Idealize.ShloMosaic.Lib.Tactic
public import Idealize.ShloMosaic.Lib.Pipeline.Kit
public import Idealize.ShloMosaic.Lib.LoopEntry

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- One chunk of the shared gate/up product. -/
theorem trip4 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (k0_t3 : Fin k0_t3_loop.trips) (arg23 : BitVec 32) (mv_v75 : Memref sig .tc .vmem S64x1536 .i8) (hcanon_v75 : (arg14.slice (Rect.unit (s := S4x64x1536) ![0, 0, 0] S1x64x1536.size inb_S4x64x1536_S1x64x1536_0_0_0) (fun _ => rfl)).squeeze S64x1536 squeezes_S1x64x1536_S64x1536 = mv_v75) (mv_v108 : Memref sig .tc .vmem S384x32x128 .i8) (hcanon_v108 : (arg13.slice (Rect.unit (s := S4x384x32x128) ![0, 0, 0, 0] S1x384x32x128.size inb_S4x384x32x128_S1x384x32x128_0_0_0_0) (fun _ => rfl)).squeeze S384x32x128 squeezes_S1x384x32x128_S384x32x128 = mv_v108)
    (X1 : BufTy.Contents (Elt F) arg1.view.ty) (Xs : BufTy.Contents (Elt F) mv_v75.view.ty) (Xc : BufTy.Contents (Elt F) mv_v108.view.ty)
    (k : Fin k0_t4_loop.trips) (acc : FVec F S8x512 .f32) :
    (iprop((arg1.view.loc (c : Thread nD τ) ↦[arg1.view.set]{fullShare} X1) ∗ (mv_v75.view.loc (c : Thread nD τ) ↦[mv_v75.view.set]{fullShare} Xs)
        ∗ (mv_v108.view.loc (c : Thread nD τ) ↦[mv_v108.view.set]{fullShare} Xc)) : sProp 𝕄)
      ⊢ wp frame (wpE (defs₀ (F := F)) 𝒱 (c : Thread nD τ) bd) E (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_t3 arg23 k acc)
          (fun yld => iprop(⌜yld = chunk (shapeCast S8x256 (arg1.view.readAt (Elt F) (Rect.unit (s := S8x2048) (k0_off43 k) S8x256.size (k0_off43_inb k)).toLoadRect X1) shapeCasts_S8x256_S8x256)
              (mv_v75.view.readAt (Elt F) (Rect.unit (s := S64x1536) (k0_off41 k0_t3 k) S8x512.size (k0_off41_inb k0_t3 k)).toLoadRect Xs)
              (fun b h => mv_v108.view.readAt (Elt F) (Rect.unit (s := S384x32x128) (k0_off42 k0_t3 k (BitVec.ofNat 32 b.val) (BitVec.ofNat 32 h.val)) S1x32x128.size (k0_off42_inb k0_t3 k b h)).toLoadRect Xc)
              acc⌝
            ∗ (arg1.view.loc (c : Thread nD τ) ↦[arg1.view.set]{fullShare} X1) ∗ (mv_v75.view.loc (c : Thread nD τ) ↦[mv_v75.view.set]{fullShare} Xs)
        ∗ (mv_v108.view.loc (c : Thread nD τ) ↦[mv_v108.view.set]{fullShare} Xc))) := by
  have hk : k.val < 8 := Nat.lt_of_lt_of_le k.isLt k0_t4_abs.2.1
  unfold k0_t4_body
  iintro ⟨HR1, HRs, HRc⟩
  sl_exec
  sl_step
  isplitr
  · ipureintro
    rfl
  isplitl [HR1]; · iexact HR1
  isplitl [HRs]; · iexact HRs
  iexact HRc

end Cert.KernelIdeal.Hand
-- ==== Proof.KernelIdeal.Loop3.lean ====
/- The shared expert's gate and up product: three groups of 512 columns, each summed over eight chunks. -/
module

public import proofs.«01_k».proof.Proof.KernelIdeal.Model
public import proofs.«01_k».proof.Proof.KernelIdeal.Offs
public import proofs.«01_k».proof.Proof.KernelIdeal.Trip4
public import Idealize.ShloMosaic.Lib.Pipeline.Value

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.VecWindow

/-- The chunks of one column group of the shared gate/up product, summed. -/
theorem loop4 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (k0_t3 : Fin k0_t3_loop.trips) (arg23 : BitVec 32) (mv_v75 : Memref sig .tc .vmem S64x1536 .i8) (hcanon_v75 : (arg14.slice (Rect.unit (s := S4x64x1536) ![0, 0, 0] S1x64x1536.size inb_S4x64x1536_S1x64x1536_0_0_0) (fun _ => rfl)).squeeze S64x1536 squeezes_S1x64x1536_S64x1536 = mv_v75) (mv_v108 : Memref sig .tc .vmem S384x32x128 .i8) (hcanon_v108 : (arg13.slice (Rect.unit (s := S4x384x32x128) ![0, 0, 0, 0] S1x384x32x128.size inb_S4x384x32x128_S1x384x32x128_0_0_0_0) (fun _ => rfl)).squeeze S384x32x128 squeezes_S1x384x32x128_S384x32x128 = mv_v108)
    (X1 : BufTy.Contents (Elt F) arg1.view.ty) (Xs : BufTy.Contents (Elt F) mv_v75.view.ty) (Xc : BufTy.Contents (Elt F) mv_v108.view.ty) :
    (iprop((arg1.view.loc (c : Thread nD τ) ↦[arg1.view.set]{fullShare} X1) ∗ (mv_v75.view.loc (c : Thread nD τ) ↦[mv_v75.view.set]{fullShare} Xs)
        ∗ (mv_v108.view.loc (c : Thread nD τ) ↦[mv_v108.view.set]{fullShare} Xc)) : sProp 𝕄)
      ⊢ wp frame (wpE (defs₀ (F := F)) 𝒱 (c : Thread nD τ) bd) E
          (Scf.Loop.for k0_t4_loop k0_t4_ok (k0_pay1 (F := F)) (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_t3 arg23))
          (fun yld => iprop(⌜yld = guState (arg1.view.read (Elt F) X1) (mv_v108.view.read (Elt F) Xc) (mv_v75.view.read (Elt F) Xs) k0_t3.val (lt_of_lt_of_eq k0_t3.isLt t3_trips) 8⌝
            ∗ (arg1.view.loc (c : Thread nD τ) ↦[arg1.view.set]{fullShare} X1) ∗ (mv_v75.view.loc (c : Thread nD τ) ↦[mv_v75.view.set]{fullShare} Xs)
        ∗ (mv_v108.view.loc (c : Thread nD τ) ↦[mv_v108.view.set]{fullShare} Xc))) := by
  iintro ⟨HR1, HRs, HRc⟩
  iapply (Scf.wp_for frame (wpE (defs₀ (F := F)) 𝒱 (c : Thread nD τ) bd) E _ _ _ k0_t4_ok _ _
    (fun k acc => iprop(⌜acc = guState (arg1.view.read (Elt F) X1) (mv_v108.view.read (Elt F) Xc) (mv_v75.view.read (Elt F) Xs) k0_t3.val (lt_of_lt_of_eq k0_t3.isLt t3_trips) k⌝ ∗ (arg1.view.loc (c : Thread nD τ) ↦[arg1.view.set]{fullShare} X1) ∗ (mv_v75.view.loc (c : Thread nD τ) ↦[mv_v75.view.set]{fullShare} Xs)
        ∗ (mv_v108.view.loc (c : Thread nD τ) ↦[mv_v108.view.set]{fullShare} Xc))) ?_)
  · intro k acc
    iintro ⟨%hacc, HR1, HRs, HRc⟩
    iapply (wp_wand_r frame (wpE (defs₀ (F := F)) 𝒱 (c : Thread nD τ) bd) E)
    isplitl [HR1 HRs HRc]
    · iapply (trip4 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_t3 arg23 mv_v75 hcanon_v75 mv_v108 hcanon_v108 X1 Xs Xc k acc)
      isplitl [HR1]; · iexact HR1
      isplitl [HRs]; · iexact HRs
      iexact HRc
    · iintro %yld ⟨%hy, HR⟩
      isplitr
      · ipureintro
        have hk : k.val < 8 := lt_of_lt_of_eq k.isLt t4_trips
        rw [guState_succ _ _ _ _ _ _ hk, hy, ← hacc]
        unfold guChunk
        rw [arg1.view.readAt_unit X1 _ (off43_eq k) (xw_inb k.val hk), mv_v75.view.readAt_unit Xs _ (off41_eq k0_t3 k) (gs_inb k0_t3.val k.val (lt_of_lt_of_eq k0_t3.isLt t3_trips) hk)]
        congr 1
        funext b h
        exact mv_v108.view.readAt_unit Xc _ (off42_eq k0_t3 k b h) _
      · iexact HR
  · isplitl [HR1 HRs HRc]
    · isplitr
      · ipureintro; rfl
      isplitl [HR1]; · iexact HR1
      isplitl [HRs]; · iexact HRs
      iexact HRc
    · iintro %acc ⟨%hacc, HR⟩
      isplitr
      · ipureintro
        rw [hacc]
        congr 1
      · iexact HR

/-- The column groups of the shared gate/up product. -/
theorem loop3 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4)
    (mv_v75 : Memref sig .tc .vmem S64x1536 .i8) (hcanon_v75 : (arg14.slice (Rect.unit (s := S4x64x1536) ![0, 0, 0] S1x64x1536.size inb_S4x64x1536_S1x64x1536_0_0_0) (fun _ => rfl)).squeeze S64x1536 squeezes_S1x64x1536_S64x1536 = mv_v75) (mv_v108 : Memref sig .tc .vmem S384x32x128 .i8) (hcanon_v108 : (arg13.slice (Rect.unit (s := S4x384x32x128) ![0, 0, 0, 0] S1x384x32x128.size inb_S4x384x32x128_S1x384x32x128_0_0_0_0) (fun _ => rfl)).squeeze S384x32x128 squeezes_S1x384x32x128_S384x32x128 = mv_v108)
    (X1 : BufTy.Contents (Elt F) arg1.view.ty) (Xs : BufTy.Contents (Elt F) mv_v75.view.ty) (Xc : BufTy.Contents (Elt F) mv_v108.view.ty) (X0 : BufTy.Contents (Elt F) arg18.view.ty) :
    (iprop((arg18.view.loc (c : Thread nD τ) ↦[arg18.view.set]{fullShare} X0) ∗ (arg1.view.loc (c : Thread nD τ) ↦[arg1.view.set]{fullShare} X1) ∗ (mv_v75.view.loc (c : Thread nD τ) ↦[mv_v75.view.set]{fullShare} Xs)
        ∗ (mv_v108.view.loc (c : Thread nD τ) ↦[mv_v108.view.set]{fullShare} Xc)) : sProp 𝕄)
      ⊢ wp frame (wpE (defs₀ (F := F)) 𝒱 (c : Thread nD τ) bd) E
          (Scf.Loop.for k0_t3_loop k0_t3_ok ⟨⟩ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 ))
          (fun _ => iprop((∃ X, (arg18.view.loc (c : Thread nD τ) ↦[arg18.view.set]{fullShare} X)
              ∗ ⌜arg18.view.read (Elt F) X = guBuf (arg1.view.read (Elt F) X1) (mv_v108.view.read (Elt F) Xc) (mv_v75.view.read (Elt F) Xs) (arg18.view.read (Elt F) X0) 3⌝)
            ∗ (arg1.view.loc (c : Thread nD τ) ↦[arg1.view.set]{fullShare} X1) ∗ (mv_v75.view.loc (c : Thread nD τ) ↦[mv_v75.view.set]{fullShare} Xs)
        ∗ (mv_v108.view.loc (c : Thread nD τ) ↦[mv_v108.view.set]{fullShare} Xc))) := by
  iintro ⟨HR0, HR1, HRs, HRc⟩
  iapply (Scf.wp_for frame (wpE (defs₀ (F := F)) 𝒱 (c : Thread nD τ) bd) E _ _ _ k0_t3_ok _ _
    (fun g _ => iprop((∃ X, (arg18.view.loc (c : Thread nD τ) ↦[arg18.view.set]{fullShare} X)
              ∗ ⌜arg18.view.read (Elt F) X = guBuf (arg1.view.read (Elt F) X1) (mv_v108.view.read (Elt F) Xc) (mv_v75.view.read (Elt F) Xs) (arg18.view.read (Elt F) X0) g⌝)
            ∗ (arg1.view.loc (c : Thread nD τ) ↦[arg1.view.set]{fullShare} X1) ∗ (mv_v75.view.loc (c : Thread nD τ) ↦[mv_v75.view.set]{fullShare} Xs)
        ∗ (mv_v108.view.loc (c : Thread nD τ) ↦[mv_v108.view.set]{fullShare} Xc))) ?_)
  · intro g acc
    have hg : g.val < 3 := lt_of_lt_of_eq g.isLt t3_trips
    unfold k0_t3_body
    dsimp only
    rw [wp_bind]
    iintro ⟨⟨%X, HR0, %hX⟩, HR1, HRs, HRc⟩
    iapply (wp_wand_r frame (wpE (defs₀ (F := F)) 𝒱 (c : Thread nD τ) bd) E)
    isplitl [HR1 HRs HRc]
    · iapply (loop4 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 g (Scf.iv 0#32 1#32 g) mv_v75 hcanon_v75 mv_v108 hcanon_v108 X1 Xs Xc)
      isplitl [HR1]; · iexact HR1
      isplitl [HRs]; · iexact HRs
      iexact HRc
    · iintro %yld ⟨%hy, HR1, HRs, HRc⟩
      sl_exec
      sl_step
      isplitl [HR0]
      · iexists _
        isplitl [HR0]; · iexact HR0
        ipureintro
        rw [guBuf_succ _ _ _ _ _ hg, View.read_writes_cons_put _ _ _ _ _ (off44_eq g), View.writes_nil, hX]
        congr 1
        exact (Idealize.ShloMosaic.shapeCast_self _ _).trans hy
      isplitl [HR1]; · iexact HR1
      isplitl [HRs]; · iexact HRs
      iexact HRc
  · isplitl [HR0 HR1 HRs HRc]
    · isplitl [HR0]
      · iexists X0
        isplitl [HR0]; · iexact HR0
        ipureintro; rfl
      isplitl [HR1]; · iexact HR1
      isplitl [HRs]; · iexact HRs
      iexact HRc
    · iintro %acc ⟨⟨%X, HR0, %hX⟩, HR⟩
      isplitl [HR0]
      · iexists X
        isplitl [HR0]; · iexact HR0
        ipureintro
        rw [hX]
        congr 1
      · iexact HR

end Cert.KernelIdeal.Hand
-- ==== Proof.KernelIdeal.Trip6.lean ====
/- One K-chunk of the shared expert's down product, run on the buffers it reads. -/
module

public import proofs.«01_k».proof.Proof.KernelIdeal.Tile
public import Idealize.ShloMosaic.Lib.Exec
public import Idealize.ShloMosaic.Lib.Tactic
public import Idealize.ShloMosaic.Lib.Pipeline.Kit
public import Idealize.ShloMosaic.Lib.LoopEntry

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- One chunk of the shared down product. -/
theorem trip6 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (k0_t5 : Fin k0_t5_loop.trips) (arg23 : BitVec 32) (mv_v75 : Memref sig .tc .vmem S24x2048 .i8) (hcanon_v75 : (arg16.slice (Rect.unit (s := S4x24x2048) ![0, 0, 0] S1x24x2048.size inb_S4x24x2048_S1x24x2048_0_0_0) (fun _ => rfl)).squeeze S24x2048 squeezes_S1x24x2048_S24x2048 = mv_v75) (mv_v108 : Memref sig .tc .vmem S192x32x128 .i8) (hcanon_v108 : (arg15.slice (Rect.unit (s := S4x192x32x128) ![0, 0, 0, 0] S1x192x32x128.size inb_S4x192x32x128_S1x192x32x128_0_0_0_0) (fun _ => rfl)).squeeze S192x32x128 squeezes_S1x192x32x128_S192x32x128 = mv_v108)
    (X1 : BufTy.Contents (Elt F) arg19.view.ty) (Xs : BufTy.Contents (Elt F) mv_v75.view.ty) (Xc : BufTy.Contents (Elt F) mv_v108.view.ty)
    (k : Fin k0_t6_loop.trips) (acc : FVec F S8x512 .f32) :
    (iprop((arg19.view.loc (c : Thread nD τ) ↦[arg19.view.set]{fullShare} X1) ∗ (mv_v75.view.loc (c : Thread nD τ) ↦[mv_v75.view.set]{fullShare} Xs)
        ∗ (mv_v108.view.loc (c : Thread nD τ) ↦[mv_v108.view.set]{fullShare} Xc)) : sProp 𝕄)
      ⊢ wp frame (wpE (defs₀ (F := F)) 𝒱 (c : Thread nD τ) bd) E (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_t5 arg23 k acc)
          (fun yld => iprop(⌜yld = chunk (arg19.view.readAt (Elt F) (Rect.unit (s := S8x768) (k0_off47 k) S8x256.size (k0_off47_inb k)).toLoadRect X1)
              (mv_v75.view.readAt (Elt F) (Rect.unit (s := S24x2048) (k0_off45 k0_t5 k) S8x512.size (k0_off45_inb k0_t5 k)).toLoadRect Xs)
              (fun b h => mv_v108.view.readAt (Elt F) (Rect.unit (s := S192x32x128) (k0_off46 k0_t5 k (BitVec.ofNat 32 b.val) (BitVec.ofNat 32 h.val)) S1x32x128.size (k0_off46_inb k0_t5 k b h)).toLoadRect Xc)
              acc⌝
            ∗ (arg19.view.loc (c : Thread nD τ) ↦[arg19.view.set]{fullShare} X1) ∗ (mv_v75.view.loc (c : Thread nD τ) ↦[mv_v75.view.set]{fullShare} Xs)
        ∗ (mv_v108.view.loc (c : Thread nD τ) ↦[mv_v108.view.set]{fullShare} Xc))) := by
  have hk : k.val < 3 := Nat.lt_of_lt_of_le k.isLt k0_t6_abs.2.1
  unfold k0_t6_body
  iintro ⟨HR1, HRs, HRc⟩
  sl_exec
  sl_step
  isplitr
  · ipureintro
    rfl
  isplitl [HR1]; · iexact HR1
  isplitl [HRs]; · iexact HRs
  iexact HRc

end Cert.KernelIdeal.Hand
-- ==== Proof.KernelIdeal.Loop5.lean ====
/- The shared expert's down product: four groups of 512 columns, each summed over three chunks. -/
module

public import proofs.«01_k».proof.Proof.KernelIdeal.Model
public import proofs.«01_k».proof.Proof.KernelIdeal.Offs
public import proofs.«01_k».proof.Proof.KernelIdeal.Trip6
public import Idealize.ShloMosaic.Lib.Pipeline.Value

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.VecWindow

/-- The chunks of one column group of the shared down product, summed. -/
theorem loop6 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (k0_t5 : Fin k0_t5_loop.trips) (arg23 : BitVec 32) (mv_v75 : Memref sig .tc .vmem S24x2048 .i8) (hcanon_v75 : (arg16.slice (Rect.unit (s := S4x24x2048) ![0, 0, 0] S1x24x2048.size inb_S4x24x2048_S1x24x2048_0_0_0) (fun _ => rfl)).squeeze S24x2048 squeezes_S1x24x2048_S24x2048 = mv_v75) (mv_v108 : Memref sig .tc .vmem S192x32x128 .i8) (hcanon_v108 : (arg15.slice (Rect.unit (s := S4x192x32x128) ![0, 0, 0, 0] S1x192x32x128.size inb_S4x192x32x128_S1x192x32x128_0_0_0_0) (fun _ => rfl)).squeeze S192x32x128 squeezes_S1x192x32x128_S192x32x128 = mv_v108)
    (X1 : BufTy.Contents (Elt F) arg19.view.ty) (Xs : BufTy.Contents (Elt F) mv_v75.view.ty) (Xc : BufTy.Contents (Elt F) mv_v108.view.ty) :
    (iprop((arg19.view.loc (c : Thread nD τ) ↦[arg19.view.set]{fullShare} X1) ∗ (mv_v75.view.loc (c : Thread nD τ) ↦[mv_v75.view.set]{fullShare} Xs)
        ∗ (mv_v108.view.loc (c : Thread nD τ) ↦[mv_v108.view.set]{fullShare} Xc)) : sProp 𝕄)
      ⊢ wp frame (wpE (defs₀ (F := F)) 𝒱 (c : Thread nD τ) bd) E
          (Scf.Loop.for k0_t6_loop k0_t6_ok (k0_pay5 (F := F)) (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_t5 arg23))
          (fun yld => iprop(⌜yld = dnState (arg19.view.read (Elt F) X1) (mv_v108.view.read (Elt F) Xc) (mv_v75.view.read (Elt F) Xs) k0_t5.val (lt_of_lt_of_eq k0_t5.isLt t5_trips) 3⌝
            ∗ (arg19.view.loc (c : Thread nD τ) ↦[arg19.view.set]{fullShare} X1) ∗ (mv_v75.view.loc (c : Thread nD τ) ↦[mv_v75.view.set]{fullShare} Xs)
        ∗ (mv_v108.view.loc (c : Thread nD τ) ↦[mv_v108.view.set]{fullShare} Xc))) := by
  iintro ⟨HR1, HRs, HRc⟩
  iapply (Scf.wp_for frame (wpE (defs₀ (F := F)) 𝒱 (c : Thread nD τ) bd) E _ _ _ k0_t6_ok _ _
    (fun k acc => iprop(⌜acc = dnState (arg19.view.read (Elt F) X1) (mv_v108.view.read (Elt F) Xc) (mv_v75.view.read (Elt F) Xs) k0_t5.val (lt_of_lt_of_eq k0_t5.isLt t5_trips) k⌝ ∗ (arg19.view.loc (c : Thread nD τ) ↦[arg19.view.set]{fullShare} X1) ∗ (mv_v75.view.loc (c : Thread nD τ) ↦[mv_v75.view.set]{fullShare} Xs)
        ∗ (mv_v108.view.loc (c : Thread nD τ) ↦[mv_v108.view.set]{fullShare} Xc))) ?_)
  · intro k acc
    iintro ⟨%hacc, HR1, HRs, HRc⟩
    iapply (wp_wand_r frame (wpE (defs₀ (F := F)) 𝒱 (c : Thread nD τ) bd) E)
    isplitl [HR1 HRs HRc]
    · iapply (trip6 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 k0_t5 arg23 mv_v75 hcanon_v75 mv_v108 hcanon_v108 X1 Xs Xc k acc)
      isplitl [HR1]; · iexact HR1
      isplitl [HRs]; · iexact HRs
      iexact HRc
    · iintro %yld ⟨%hy, HR⟩
      isplitr
      · ipureintro
        have hk : k.val < 3 := lt_of_lt_of_eq k.isLt t6_trips
        rw [dnState_succ _ _ _ _ _ _ hk, hy, ← hacc]
        unfold dnChunk
        rw [arg19.view.readAt_unit X1 _ (off47_eq k) (hw_inb k.val hk), mv_v75.view.readAt_unit Xs _ (off45_eq k0_t5 k) (ds_inb k0_t5.val k.val (lt_of_lt_of_eq k0_t5.isLt t5_trips) hk)]
        congr 1
        funext b h
        exact mv_v108.view.readAt_unit Xc _ (off46_eq k0_t5 k b h) _
      · iexact HR
  · isplitl [HR1 HRs HRc]
    · isplitr
      · ipureintro; rfl
      isplitl [HR1]; · iexact HR1
      isplitl [HRs]; · iexact HRs
      iexact HRc
    · iintro %acc ⟨%hacc, HR⟩
      isplitr
      · ipureintro
        rw [hacc]
        congr 1
      · iexact HR

/-- The column groups of the shared down product, each stored. -/
theorem loop5 (𝒱 : Variants) (c : Dev nD) (bd : Option 𝒱.V) (E : Set ℕ) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4)
    (mv_v75 : Memref sig .tc .vmem S24x2048 .i8) (hcanon_v75 : (arg16.slice (Rect.unit (s := S4x24x2048) ![0, 0, 0] S1x24x2048.size inb_S4x24x2048_S1x24x2048_0_0_0) (fun _ => rfl)).squeeze S24x2048 squeezes_S1x24x2048_S24x2048 = mv_v75) (mv_v108 : Memref sig .tc .vmem S192x32x128 .i8) (hcanon_v108 : (arg15.slice (Rect.unit (s := S4x192x32x128) ![0, 0, 0, 0] S1x192x32x128.size inb_S4x192x32x128_S1x192x32x128_0_0_0_0) (fun _ => rfl)).squeeze S192x32x128 squeezes_S1x192x32x128_S192x32x128 = mv_v108)
    (X1 : BufTy.Contents (Elt F) arg19.view.ty) (Xs : BufTy.Contents (Elt F) mv_v75.view.ty) (Xc : BufTy.Contents (Elt F) mv_v108.view.ty) (X0 : BufTy.Contents (Elt F) arg17.view.ty) :
    (iprop((arg17.view.loc (c : Thread nD τ) ↦[arg17.view.set]{fullShare} X0) ∗ (arg19.view.loc (c : Thread nD τ) ↦[arg19.view.set]{fullShare} X1) ∗ (mv_v75.view.loc (c : Thread nD τ) ↦[mv_v75.view.set]{fullShare} Xs)
        ∗ (mv_v108.view.loc (c : Thread nD τ) ↦[mv_v108.view.set]{fullShare} Xc)) : sProp 𝕄)
      ⊢ wp frame (wpE (defs₀ (F := F)) 𝒱 (c : Thread nD τ) bd) E
          (Scf.Loop.for k0_t5_loop k0_t5_ok ⟨⟩ (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 ))
          (fun _ => iprop((∃ X, (arg17.view.loc (c : Thread nD τ) ↦[arg17.view.set]{fullShare} X)
              ∗ ⌜arg17.view.read (Elt F) X = shBuf (arg19.view.read (Elt F) X1) (mv_v108.view.read (Elt F) Xc) (mv_v75.view.read (Elt F) Xs) (arg17.view.read (Elt F) X0) 4⌝)
            ∗ (arg19.view.loc (c : Thread nD τ) ↦[arg19.view.set]{fullShare} X1) ∗ (mv_v75.view.loc (c : Thread nD τ) ↦[mv_v75.view.set]{fullShare} Xs)
        ∗ (mv_v108.view.loc (c : Thread nD τ) ↦[mv_v108.view.set]{fullShare} Xc))) := by
  iintro ⟨HR0, HR1, HRs, HRc⟩
  iapply (Scf.wp_for frame (wpE (defs₀ (F := F)) 𝒱 (c : Thread nD τ) bd) E _ _ _ k0_t5_ok _ _
    (fun g _ => iprop((∃ X, (arg17.view.loc (c : Thread nD τ) ↦[arg17.view.set]{fullShare} X)
              ∗ ⌜arg17.view.read (Elt F) X = shBuf (arg19.view.read (Elt F) X1) (mv_v108.view.read (Elt F) Xc) (mv_v75.view.read (Elt F) Xs) (arg17.view.read (Elt F) X0) g⌝)
            ∗ (arg19.view.loc (c : Thread nD τ) ↦[arg19.view.set]{fullShare} X1) ∗ (mv_v75.view.loc (c : Thread nD τ) ↦[mv_v75.view.set]{fullShare} Xs)
        ∗ (mv_v108.view.loc (c : Thread nD τ) ↦[mv_v108.view.set]{fullShare} Xc))) ?_)
  · intro g acc
    have hg : g.val < 4 := lt_of_lt_of_eq g.isLt t5_trips
    unfold k0_t5_body
    dsimp only
    rw [wp_bind]
    iintro ⟨⟨%X, HR0, %hX⟩, HR1, HRs, HRc⟩
    iapply (wp_wand_r frame (wpE (defs₀ (F := F)) 𝒱 (c : Thread nD τ) bd) E)
    isplitl [HR1 HRs HRc]
    · iapply (loop6 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 g (Scf.iv 0#32 1#32 g) mv_v75 hcanon_v75 mv_v108 hcanon_v108 X1 Xs Xc)
      isplitl [HR1]; · iexact HR1
      isplitl [HRs]; · iexact HRs
      iexact HRc
    · iintro %yld ⟨%hy, HR1, HRs, HRc⟩
      sl_exec
      sl_step
      isplitl [HR0]
      · iexists _
        isplitl [HR0]; · iexact HR0
        ipureintro
        rw [shBuf_succ _ _ _ _ _ hg, View.read_writes_cons_put _ _ _ _ _ (off48_eq g), View.writes_nil, hX]
        congr 1
        exact (Idealize.ShloMosaic.shapeCast_self _ _).trans hy
      isplitl [HR1]; · iexact HR1
      isplitl [HRs]; · iexact HRs
      iexact HRc
  · isplitl [HR0 HR1 HRs HRc]
    · isplitl [HR0]
      · iexists X0
        isplitl [HR0]; · iexact HR0
        ipureintro; rfl
      isplitl [HR1]; · iexact HR1
      isplitl [HRs]; · iexact HRs
      iexact HRc
    · iintro %acc ⟨⟨%X, HR0, %hX⟩, HR⟩
      isplitl [HR0]
      · iexists X
        isplitl [HR0]; · iexact HR0
        ipureintro
        rw [hX]
        congr 1
      · iexact HR

end Cert.KernelIdeal.Hand
-- ==== Proof.KernelIdeal.Body.lean ====
/- The kernel's body: what it leaves in the result, with everything it was lent given back. -/
module

public import proofs.«01_k».proof.Proof.KernelIdeal.Begin
public import proofs.«01_k».proof.Proof.KernelIdeal.Loop7
public import proofs.«01_k».proof.Proof.KernelIdeal.Loop3
public import proofs.«01_k».proof.Proof.KernelIdeal.Loop5

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.Ring Idealize.ShloMosaic.VecWindow

/-- The value the kernel leaves: the shared expert's output and every distinct expert's weighted output, rounded once. -/
def kernelOut (ids : Vec F S8x8 .i32) (ids' : Vec F S8x8 .i32) (ew : Vec F S8x8 .f32) (x : Vec F S8x2048 .bf16)
    (C4 : Fin 64 → Vec F S384x32x128 .i8) (C5 : Fin 64 → Vec F S64x1536 .i8) (C6 : Fin 64 → Vec F S192x32x128 .i8) (C7 : Fin 64 → Vec F S24x2048 .i8)
    (c8 : Vec F S384x32x128 .i8) (c9 : Vec F S64x1536 .i8) (c10 : Vec F S192x32x128 .i8) (c11 : Vec F S24x2048 .i8) : Vec F S8x2048 .bf16 :=
  k0_pay14 (accAt ids' ew x C4 C5 C6 C7 (lst (idAt (F := F) ids) 64) (shOf (k0_pay4 (guOf x c8 c9)) c10 c11) (cnt (idAt (F := F) ids) 64))

/-- The loop over what is left of the trips: there is none. -/
theorem loop12 (𝒱 : Variants) (c : Dev nD) (bd : Option 𝒱.V) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (n : Fin 65) (k0_hw6 : k0_chk6 (BitVec.ofNat 32 n.val)) (v60 : BitVec 32) (X : sProp 𝕄) :
    X ⊢ wp frame (wpE (defs₀ (F := F)) 𝒱 (c : Thread nD τ) bd) Set.univ (Scf.Loop.for (k0_t12_loop (BitVec.ofNat 32 n.val)) (k0_t12_ok (BitVec.ofNat 32 n.val) k0_hw6) ⟨⟩ (k0_t12_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 n.val) k0_hw6 v60)) (fun _ => X) := by
  iintro HX
  iapply (Scf.wp_for frame (wpE (defs₀ (F := F)) 𝒱 (c : Thread nD τ) bd) Set.univ _ _ _ (k0_t12_ok (BitVec.ofNat 32 n.val) k0_hw6) _ _ (fun t _ => X) ?_)
  · intro t acc
    exact absurd (lt_of_lt_of_eq t.isLt (t12_trips n)) (Nat.not_lt_zero _)
  · isplitl [HX]; · iexact HX
    iintro %_ HX
    iexact HX

/-- The whole body: from the staged inputs and the argument arrays to the stored result. -/
theorem body (𝒱 : Variants) (c : Dev nD) (bd : Option 𝒱.V) (arg0 : Memref sig .tc .smem S8x8 .i32) (harg0 : arg0.IsWhole) (arg1 : Memref sig .tc .vmem S8x2048 .bf16) (harg1 : arg1.IsWhole) (arg2 : Memref sig .tc .vmem S8x8 .i32) (harg2 : arg2.IsWhole) (arg3 : Memref sig .tc .vmem S8x8 .f32) (harg3 : arg3.IsWhole) (arg4 : Memref sig .tc .hbm S64x384x32x128 .i8) (harg4 : arg4.IsWhole) (arg5 : Memref sig .tc .hbm S64x64x1536 .i8) (harg5 : arg5.IsWhole) (arg6 : Memref sig .tc .hbm S64x192x32x128 .i8) (harg6 : arg6.IsWhole) (arg7 : Memref sig .tc .hbm S64x24x2048 .i8) (harg7 : arg7.IsWhole) (arg8 : Memref sig .tc .hbm S384x32x128 .i8) (harg8 : arg8.IsWhole) (arg9 : Memref sig .tc .hbm S64x1536 .i8) (harg9 : arg9.IsWhole) (arg10 : Memref sig .tc .hbm S192x32x128 .i8) (harg10 : arg10.IsWhole) (arg11 : Memref sig .tc .hbm S24x2048 .i8) (harg11 : arg11.IsWhole) (arg12 : Memref sig .tc .vmem S8x2048 .bf16) (harg12 : arg12.IsWhole) (arg13 : Memref sig .tc .vmem S4x384x32x128 .i8) (harg13 : arg13.IsWhole) (arg14 : Memref sig .tc .vmem S4x64x1536 .i8) (harg14 : arg14.IsWhole) (arg15 : Memref sig .tc .vmem S4x192x32x128 .i8) (harg15 : arg15.IsWhole) (arg16 : Memref sig .tc .vmem S4x24x2048 .i8) (harg16 : arg16.IsWhole) (arg17 : Memref sig .tc .vmem S8x2048 .f32) (harg17 : arg17.IsWhole) (arg18 : Memref sig .tc .vmem S8x1536 .f32) (harg18 : arg18.IsWhole) (arg19 : Memref sig .tc .vmem S8x768 .bf16) (harg19 : arg19.IsWhole) (arg20 : Memref sig .tc .smem S65 .i32) (harg20 : arg20.IsWhole) (arg21 : Memref sig .tc .smem S64 .i32) (harg21 : arg21.IsWhole) (arg22 : DmaSems sig S4x4) (f4 : BufTy.Contents (Elt F) arg4.view.ty) (f5 : BufTy.Contents (Elt F) arg5.view.ty) (f6 : BufTy.Contents (Elt F) arg6.view.ty) (f7 : BufTy.Contents (Elt F) arg7.view.ty) (q8 : PosShare TreeShare) (f8 : BufTy.Contents (Elt F) arg8.view.ty) (f9 : BufTy.Contents (Elt F) arg9.view.ty) (f10 : BufTy.Contents (Elt F) arg10.view.ty) (f11 : BufTy.Contents (Elt F) arg11.view.ty)
    (X0 : BufTy.Contents (Elt F) arg0.view.ty) (hids : ∀ j, ((idAt (F := F) (arg0.view.read (Elt F) X0)) j).toNat < 64)
    (X1 : BufTy.Contents (Elt F) arg1.view.ty) (X2 : BufTy.Contents (Elt F) arg2.view.ty) (X3 : BufTy.Contents (Elt F) arg3.view.ty) :
    iprop(AtW (Slot c arg4 arg5 arg6 arg7 arg13 arg14 arg15 arg16 arg22 f4 f5 f6 f7) (fun _ => none) ∗ (Lent c arg8 q8 f8) ∗ (Lent c arg9 q8 f9) ∗ (Lent c arg10 q8 f10) ∗ (Lent c arg11 q8 f11) ∗ (arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
        ∗ (∃ X, (arg12.view.loc (c : Thread nD τ) ↦[arg12.view.set]{fullShare} X)) ∗ (∃ X, (arg17.view.loc (c : Thread nD τ) ↦[arg17.view.set]{fullShare} X)) ∗ (∃ X, (arg18.view.loc (c : Thread nD τ) ↦[arg18.view.set]{fullShare} X)) ∗ (∃ X, (arg19.view.loc (c : Thread nD τ) ↦[arg19.view.set]{fullShare} X)) ∗ (∃ X, (arg20.view.loc (c : Thread nD τ) ↦[arg20.view.set]{fullShare} X)) ∗ (∃ X, (arg21.view.loc (c : Thread nD τ) ↦[arg21.view.set]{fullShare} X)) ∗ ∃ W, owes (c : Thread nD τ) 0 W)
      ⊢ wp frame (wpE (defs₀ (F := F)) 𝒱 (c : Thread nD τ) bd) Set.univ (cc0_moe (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22)
        (fun _ => iprop(AtW (Slot c arg4 arg5 arg6 arg7 arg13 arg14 arg15 arg16 arg22 f4 f5 f6 f7) (fun _ => none) ∗ (Lent c arg8 q8 f8) ∗ (Lent c arg9 q8 f9) ∗ (Lent c arg10 q8 f10) ∗ (Lent c arg11 q8 f11) ∗ (arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3)
          ∗ (∃ X, (arg12.view.loc (c : Thread nD τ) ↦[arg12.view.set]{fullShare} X) ∗ ⌜arg12.view.read (Elt F) X = kernelOut (arg0.view.read (Elt F) X0) (arg2.view.read (Elt F) X2) (arg3.view.read (Elt F) X3) (arg1.view.read (Elt F) X1) (fun e => (src4 arg4 e).view.read (Elt F) f4) (fun e => (src5 arg5 e).view.read (Elt F) f5) (fun e => (src6 arg6 e).view.read (Elt F) f6) (fun e => (src7 arg7 e).view.read (Elt F) f7) (arg8.view.read (Elt F) f8) (arg9.view.read (Elt F) f9) (arg10.view.read (Elt F) f10) (arg11.view.read (Elt F) f11)⌝)
          ∗ (∃ X, (arg17.view.loc (c : Thread nD τ) ↦[arg17.view.set]{fullShare} X)) ∗ (∃ X, (arg18.view.loc (c : Thread nD τ) ↦[arg18.view.set]{fullShare} X)) ∗ (∃ X, (arg19.view.loc (c : Thread nD τ) ↦[arg19.view.set]{fullShare} X)) ∗ (∃ X, (arg20.view.loc (c : Thread nD τ) ↦[arg20.view.set]{fullShare} X)) ∗ (∃ X, (arg21.view.loc (c : Thread nD τ) ↦[arg21.view.set]{fullShare} X)) ∗ ∃ W, owes (c : Thread nD τ) 0 W)) := by
  simp only [cc0_moe_eq_skeleton]
  unfold cc0_moe_skel
  dsimp only
  iintro ⟨HRing, L0, L1, L2, L3, HX0, HX1, HX2, HX3, ⟨%X12, H12⟩, ⟨%X17, H17⟩, ⟨%X18, H18⟩, ⟨%X19, H19⟩, H20, H21, HW⟩
  rw [wp_bind]
  iapply (wp_wand_r frame (wpE (defs₀ (F := F)) 𝒱 (c : Thread nD τ) bd) Set.univ)
  isplitl [HRing L0 L1 L2 L3 HX0 H20 H21]
  · iapply (part125 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 f4 f5 f6 f7 q8 f8 f9 f10 f11 X0 hids)
    isplitl [HRing]; · iexact HRing
    isplitl [L0]; · iexact L0
    isplitl [L1]; · iexact L1
    isplitl [L2]; · iexact L2
    isplitl [L3]; · iexact L3
    isplitl [HX0]; · iexact HX0
    isplitl [H20]; · iexact H20
    iexact H21
  iintro %r ⟨%hr, HRest, ⟨G0, G1, G2, G3⟩, S0, S1, S2, S3, HX0, ⟨%X20, H20, %h20⟩, H21⟩
  obtain ⟨v18, k0_hw6, v20, v27⟩ := r
  dsimp only at hr ⊢
  obtain ⟨n, hn⟩ : ∃ n : Fin 65, n.val = cnt (idAt (F := F) (arg0.view.read (Elt F) X0)) 64 := ⟨⟨cnt (idAt (F := F) (arg0.view.read (Elt F) X0)) 64, Nat.lt_succ_of_le (cnt_le (idAt (F := F) (arg0.view.read (Elt F) X0)) 64)⟩, rfl⟩
  rw [← hn] at hr h20
  subst hr
  have hlt : ∀ a : ℕ, a < n.val → (lst (idAt (F := F) (arg0.view.read (Elt F) X0)) 64 a).toNat < 64 := fun a ha => by
    obtain ⟨i, -, e⟩ := (lst_spec (idAt (F := F) (arg0.view.read (Elt F) X0)) 64).1 a (by rw [← hn]; exact ha)
    rw [e]; exact hids i
  rw [wp_bind]
  iapply (wp_wand_r frame (wpE (defs₀ (F := F)) 𝒱 (c : Thread nD τ) bd) Set.univ)
  isplitl [HRest S0 S1 S2 S3 H20 HW]
  · iapply (part126 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 f4 f5 f6 f7 q8 f8 f9 f10 f11 n v20 v27 (lst (idAt (F := F) (arg0.view.read (Elt F) X0)) 64) X20 h20 hlt)
    isplitl [HRest]; · iexact HRest
    isplitl [S0]; · iexact S0
    isplitl [S1]; · iexact S1
    isplitl [S2]; · iexact S2
    isplitl [S3]; · iexact S3
    isplitl [H20]; · iexact H20
    iexact HW
  iintro %_ ⟨HRest, S0, S1, S2, S3, L0, L1, L2, L3, H20, HW⟩
  unfold Full
  icases S0 with ⟨C0, %F0, S0, %hF0⟩
  icases S1 with ⟨C1, %F1, S1, %hF1⟩
  icases S2 with ⟨C2, %F2, S2, %hF2⟩
  icases S3 with ⟨C3, %F3, S3, %hF3⟩
  rw [wp_bind]
  iapply (wp_wand_r frame (wpE (defs₀ (F := F)) 𝒱 (c : Thread nD τ) bd) Set.univ)
  isplitl [H18 HX1 S1 S0]
  · iapply (loop3 𝒱 c bd Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (slot14 arg14 0) (slot14_eq arg14 0 _ rfl _) (slot13 arg13 0) (slot13_eq arg13 0 _ rfl _) X1 F1 F0 X18)
    isplitl [H18]; · iexact H18
    isplitl [HX1]; · iexact HX1
    isplitl [S1]; · iexact S1
    iexact S0
  iintro %_ ⟨⟨%Y18, H18, %hY18⟩, HX1, S1, S0⟩
  rw [guBuf_three, hF0, hF1] at hY18
  rw [wp_bind]
  iapply (wp_wand_r frame (wpE (defs₀ (F := F)) 𝒱 (c : Thread nD τ) bd) Set.univ)
  isplitl [H18]
  · iapply (ldW 𝒱 c bd _ arg18 Y18 (fun a => by match a with | 0 => rfl | 1 => rfl) _ _) $$ H18
  iintro %v45 ⟨%h45, H18⟩
  rw [wp_bind]
  iapply (wp_wand_r frame (wpE (defs₀ (F := F)) 𝒱 (c : Thread nD τ) bd) Set.univ)
  isplitl [H19]
  · iapply (ldW 𝒱 c bd _ arg19 X19 (fun a => by match a with | 0 => rfl | 1 => rfl) _ _) $$ H19
  iintro %v52 ⟨%h52, H19⟩
  rw [wp_bind]
  iapply (wp_wand_r frame (wpE (defs₀ (F := F)) 𝒱 (c : Thread nD τ) bd) Set.univ)
  isplitl [H19]
  · iapply (stW 𝒱 c bd _ arg19 X19 _ _ _ _) $$ H19
  iintro %_ ⟨%Y19, H19, %hY19⟩
  rw [wp_bind]
  iapply (wp_wand_r frame (wpE (defs₀ (F := F)) 𝒱 (c : Thread nD τ) bd) Set.univ)
  isplitl [H17 H19 S3 S2]
  · iapply (loop5 𝒱 c bd Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (slot16 arg16 0) (slot16_eq arg16 0 _ rfl _) (slot15 arg15 0) (slot15_eq arg15 0 _ rfl _) Y19 F3 F2 X17)
    isplitl [H17]; · iexact H17
    isplitl [H19]; · iexact H19
    isplitl [S3]; · iexact S3
    iexact S2
  iintro %_ ⟨⟨%Y17, H17, %hY17⟩, H19, S3, S2⟩
  rw [shBuf_four, hF2, hF3, hY19, h45, hY18] at hY17
  ihave HRing : (AtW (Slot c arg4 arg5 arg6 arg7 arg13 arg14 arg15 arg16 arg22 f4 f5 f6 f7) (Function.update (stAt n.val (lst (idAt (F := F) (arg0.view.read (Elt F) X0)) 64) 0) 0 none)) $$ [C0 S0 G0 C1 S1 G1 C2 S2 G2 C3 S3 G3 HRest]
  · iapply (close_none c arg4 arg5 arg6 arg7 arg13 arg14 arg15 arg16 arg22 f4 f5 f6 f7 (stAt n.val (lst (idAt (F := F) (arg0.view.read (Elt F) X0)) 64) 0) 0)
    unfold Rest
    isplitr [HRest]
    · isplitl [C0 S0 G0]
      · isplitl [C0 S0]
        · isplitl [C0]; · iexact C0
          iexists F0; iexact S0
        iexact G0
      isplitl [C1 S1 G1]
      · isplitl [C1 S1]
        · isplitl [C1]; · iexact C1
          iexists F1; iexact S1
        iexact G1
      isplitl [C2 S2 G2]
      · isplitl [C2 S2]
        · isplitl [C2]; · iexact C2
          iexists F2; iexact S2
        iexact G2
      isplitl [C3 S3]
      · isplitl [C3]; · iexact C3
        iexists F3; iexact S3
      iexact G3
    · iexact HRest
  rw [show Function.update (stAt n.val (lst (idAt (F := F) (arg0.view.read (Elt F) X0)) 64) 0) 0 none = stAt n.val (lst (idAt (F := F) (arg0.view.read (Elt F) X0)) 64) 0 from
    Function.update_eq_self_iff.2 (stAt_free n.val (lst (idAt (F := F) (arg0.view.read (Elt F) X0)) 64) 0 0 rfl).symm]
  ihave HK : (Keep c arg1 arg2 arg3 arg18 arg19 arg20 X1 X2 X3 X20) $$ [H20 HX1 HX2 HX3 H18 H19 HW]
  · unfold Keep
    isplitl [H20]; · iexact H20
    isplitl [HX1]; · iexact HX1
    isplitl [HX2]; · iexact HX2
    isplitl [HX3]; · iexact HX3
    isplitl [H18]; · iexists _; iexact H18
    isplitl [H19]; · iexists _; iexact H19
    iexact HW
  rw [wp_bind]
  iapply (wp_wand_r frame (wpE (defs₀ (F := F)) 𝒱 (c : Thread nD τ) bd) Set.univ)
  isplitl [HRing H17 HK]
  · iapply (loop7 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 f4 f5 f6 f7 n k0_hw6 (lst (idAt (F := F) (arg0.view.read (Elt F) X0)) 64) X20 h20 hlt X1 X2 X3 Y17)
    isplitl [HRing]; · iexact HRing
    isplitl [H17]; · iexact H17
    iexact HK
  iintro %_ ⟨HRing, ⟨%Z17, H17, %hZ17⟩, HK⟩
  unfold Keep
  icases HK with ⟨H20, HX1, HX2, HX3, H18, H19, HW⟩
  rw [hY17] at hZ17
  rw [wp_bind]
  iapply (wp_wand_r frame (wpE (defs₀ (F := F)) 𝒱 (c : Thread nD τ) bd) Set.univ)
  isplitl [HW]
  · iapply (loop12 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 n k0_hw6 _ iprop(∃ W, owes (c : Thread nD τ) 0 W))
    iexact HW
  iintro %_ HW
  rw [wp_bind]
  iapply (wp_wand_r frame (wpE (defs₀ (F := F)) 𝒱 (c : Thread nD τ) bd) Set.univ)
  isplitl [H17]
  · iapply (ldW 𝒱 c bd _ arg17 Z17 (fun a => by match a with | 0 => rfl | 1 => rfl) _ _) $$ H17
  iintro %v61 ⟨%h61, H17⟩
  rw [wp_bind]
  iapply (wp_wand_r frame (wpE (defs₀ (F := F)) 𝒱 (c : Thread nD τ) bd) Set.univ)
  isplitl [H12]
  · iapply (ldW 𝒱 c bd _ arg12 X12 (fun a => by match a with | 0 => rfl | 1 => rfl) _ _) $$ H12
  iintro %v63 ⟨%h63, H12⟩
  rw [wp_bind]
  iapply (wp_wand_r frame (wpE (defs₀ (F := F)) 𝒱 (c : Thread nD τ) bd) Set.univ)
  isplitl [H12]
  · iapply (stW 𝒱 c bd _ arg12 X12 _ _ _ _) $$ H12
  iintro %_ ⟨%Y12, H12, %hY12⟩
  rw [wp_pure]; imodintro
  rw [show stAt n.val (lst (idAt (F := F) (arg0.view.read (Elt F) X0)) 64) n.val = (fun _ => none) from funext fun k => stAt_end n.val _ k]
  isplitl [HRing]; · iexact HRing
  isplitl [L0]; · iexact L0
  isplitl [L1]; · iexact L1
  isplitl [L2]; · iexact L2
  isplitl [L3]; · iexact L3
  isplitl [HX0]; · iexact HX0
  isplitl [HX1]; · iexact HX1
  isplitl [HX2]; · iexact HX2
  isplitl [HX3]; · iexact HX3
  isplitl [H12]
  · iexists Y12
    isplitl [H12]; · iexact H12
    ipureintro
    rw [hY12, h61, hZ17, hn]
    rfl
  isplitl [H17]; · iexists _; iexact H17
  isplitl [H18]; · iexact H18
  isplitl [H19]; · iexact H19
  isplitl [H20]; · iexists _; iexact H20
  isplitl [H21]; · iexact H21
  iexact HW

end Cert.KernelIdeal.Hand
-- ==== Proof.KernelIdeal.Launch.lean ====
/- The launch: the kernel's one point inside the program, every argument left as it was, the result the body's value. -/
module

public import proofs.«01_k».proof.Proof.KernelIdeal.Slots
public import proofs.«01_k».proof.Proof.KernelIdeal.Body
public import proofs.«01_k».proof.Proof.Gen.KernelIdeal.Points
public import proofs.«01_k».proof.Proof.Gen.KernelIdeal.Frame

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ
open Idealize.ShloMosaic.Ring Idealize.ShloMosaic.Pipeline

variable (m : (ℓ : Loc nD τ sig) → Buf (Elt F) ℓ) (ρ : Dev nD → PrngReg)

/-- The buffers outside the scratch that the body reads itself: the eight weight arrays. -/
abbrev H0 : Finset (Ref sig .tc) := {main_v5, main_v6, main_v9, main_v10, main_v13, main_v14, main_v17, main_v18}
theorem H0_sub : H0 ⊆ Pipeline.restRefs sig spec0 := by decide

theorem hbmPts0_eq (c : Dev nD) :
    (bigSep H0 (fun b => ((c.tc : Thread nD τ).loc b) ↦{fullShare} V m c b) : sProp 𝕄)
      = iprop(((c : Thread nD τ).loc main_v5 ↦{fullShare} V m c main_v5) ∗ ((c : Thread nD τ).loc main_v6 ↦{fullShare} V m c main_v6) ∗ ((c : Thread nD τ).loc main_v9 ↦{fullShare} V m c main_v9) ∗ ((c : Thread nD τ).loc main_v10 ↦{fullShare} V m c main_v10) ∗ ((c : Thread nD τ).loc main_v13 ↦{fullShare} V m c main_v13) ∗ ((c : Thread nD τ).loc main_v14 ↦{fullShare} V m c main_v14) ∗ ((c : Thread nD τ).loc main_v17 ↦{fullShare} V m c main_v17) ∗ ((c : Thread nD τ).loc main_v18 ↦{fullShare} V m c main_v18)) := by
  rw [BI.bigSep_eq_bigSepL_of_eq [main_v5, main_v6, main_v9, main_v10, main_v13, main_v14, main_v17, main_v18] (by decide) (by decide)]; rfl

/-- The kernel's value at its point, from what the program before it leaves in the arrays. -/
def outAt (c : Dev nD) (t : Fin cfg0.N) : Vec F S8x2048 .bf16 :=
  kernelOut (iblk m c 0 t) (iblk m c 2 t) (iblk m c 3 t) (iblk m c 1 t) (fun e => (src4 hb4 e).view.read (Elt F) (V m c main_v5)) (fun e => (src5 hb5 e).view.read (Elt F) (V m c main_v6)) (fun e => (src6 hb6 e).view.read (Elt F) (V m c main_v9)) (fun e => (src7 hb7 e).view.read (Elt F) (V m c main_v10)) (V m c main_v13) (V m c main_v14) (V m c main_v17) (V m c main_v18)

/-- The pipeline's data: what each window's array holds, and after the one step. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => iblk m c 1 t
    | 2 => iblk m c 2 t
    | 3 => iblk m c 3 t
    | 4 => outAt m c t
  Φ _ := Pipeline.ΦD osem0 spec0 H0 (V m) c
  q := Pipeline.shareOf spec0
  owed _ := 0

theorem A_eq (c : Dev nD) (w) : (dats m 0 c).A w = V m c (Pipeline.arrRef spec0 w) := rfl
theorem before0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun t => rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t))

variable (hids : ∀ (c : Dev nD) (t : Fin cfg0.N) (j : ℕ), (idAt (F := F) (iblk m c 0 t) j).toNat < 64)

include hids in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).Φ t.castSucc = Pipeline.ΦD osem0 spec0 H0 (V m) c from rfl,
    Pipeline.ΦD_eq, scopedRest0_eq, ownSems00_eq, hbmPts0_eq]
  unfold Dat.owesAt Pipeline.owesWithin
  rw [show (dats m 0 c).owed t.castSucc = 0 from rfl, show (dats m 0 c).owed t.succ = 0 from rfl]
  simp only [before0, before1, before2, before3]
  unfold owns
  iintro ⟨⟨⟨Z0, Z1, Z2, Z3, Z4, Z5, Z6, Z7, Z8⟩, Hg, HQ, ⟨H4, H5, H6, H7, H8, H9, H10, H11⟩⟩, ⟨%W, -, HW⟩, ⟨%d0, %X0, %e0, B0⟩, ⟨%d1, %X1, %e1, B1⟩, ⟨%d2, %X2, %e2, B2⟩, ⟨%d3, %X3, %e3, B3⟩, %d4, %X4, -, B4⟩
  ihave HR := (ring_in c (V m c main_v5) (V m c main_v6) (V m c main_v9) (V m c main_v10)) $$ [Z0 Z1 Z2 Z3 HQ H4 H5 H6 H7]
  · isplitl [Z0]; · iexact Z0
    isplitl [Z1]; · iexact Z1
    isplitl [Z2]; · iexact Z2
    isplitl [Z3]; · iexact Z3
    isplitl [HQ]; · iexact HQ
    isplitl [H4]; · iexact H4
    isplitl [H5]; · iexact H5
    isplitl [H6]; · iexact H6
    iexact H7
  icases HR with ⟨HR, D0, D1, D2, D3⟩
  icases Z4 with ⟨%z17, Z4⟩
  ihave Z4 := (entails_of_eq (pt_whole c cc0_scratch4 fullShare z17).symm) $$ Z4
  icases Z5 with ⟨%z18, Z5⟩
  ihave Z5 := (entails_of_eq (pt_whole c cc0_scratch5 fullShare z18).symm) $$ Z5
  icases Z6 with ⟨%z19, Z6⟩
  ihave Z6 := (entails_of_eq (pt_whole c cc0_scratch6 fullShare z19).symm) $$ Z6
  icases Z7 with ⟨%z20, Z7⟩
  ihave Z7 := (entails_of_eq (pt_whole c cc0_scratch7 fullShare z20).symm) $$ Z7
  icases Z8 with ⟨%z21, Z8⟩
  ihave Z8 := (entails_of_eq (pt_whole c cc0_scratch8 fullShare z21).symm) $$ Z8
  ihave H8 := (entails_of_eq (pt_whole c main_v13 fullShare (V m c main_v13)).symm) $$ H8
  ihave H9 := (entails_of_eq (pt_whole c main_v14 fullShare (V m c main_v14)).symm) $$ H9
  ihave H10 := (entails_of_eq (pt_whole c main_v17 fullShare (V m c main_v17)).symm) $$ H10
  ihave H11 := (entails_of_eq (pt_whole c main_v18 fullShare (V m c main_v18)).symm) $$ H11
  iapply (wp_wand_r frame (wpE (defs₀ (F := F)) Variants.none (c : Thread nD τ) none) Set.univ)
  isplitl [HR H8 H9 H10 H11 B0 B1 B2 B3 B4 Z4 Z5 Z6 Z7 Z8 HW]
  · iapply (body (F := F) Variants.none c none (win0_0.stage (cfg0.slots t 0)) (hstage0_0 0) (win0_1.stage (cfg0.slots t 1)) (hstage0_1 0) (win0_2.stage (cfg0.slots t 2)) (hstage0_2 0) (win0_3.stage (cfg0.slots t 3)) (hstage0_3 0) hb4 (Memref.isWhole_whole _) hb5 (Memref.isWhole_whole _) hb6 (Memref.isWhole_whole _) hb7 (Memref.isWhole_whole _) hb8 (Memref.isWhole_whole _) hb9 (Memref.isWhole_whole _) hb10 (Memref.isWhole_whole _) hb11 (Memref.isWhole_whole _) (win0_4.stage (cfg0.slots t 4)) (hstage0_4 0) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) sc20 (Memref.isWhole_whole _) sc21 (Memref.isWhole_whole _) cc0_scratch9 (V m c main_v5) (V m c main_v6) (V m c main_v9) (V m c main_v10) fullShare (V m c main_v13) (V m c main_v14) (V m c main_v17) (V m c main_v18) X0 (by rw [e0]; exact hids c t) X1 X2 X3)
    isplitl [HR]; · iexact HR
    isplitl [H8]; · iexact H8
    isplitl [H9]; · iexact H9
    isplitl [H10]; · iexact H10
    isplitl [H11]; · iexact H11
    isplitl [B0]; · iexact B0
    isplitl [B1]; · iexact B1
    isplitl [B2]; · iexact B2
    isplitl [B3]; · iexact B3
    isplitl [B4]; · iexists X4; iexact B4
    isplitl [Z4]; · iexists z17; iexact Z4
    isplitl [Z5]; · iexists z18; iexact Z5
    isplitl [Z6]; · iexists z19; iexact Z6
    isplitl [Z7]; · iexists z20; iexact Z7
    isplitl [Z8]; · iexists z21; iexact Z8
    iexists W; iexact HW
  iintro %_ ⟨HR, H8, H9, H10, H11, B0, B1, B2, B3, ⟨%Y4, B4, %e4⟩, ⟨%z17, Z4⟩, ⟨%z18, Z5⟩, ⟨%z19, Z6⟩, ⟨%z20, Z7⟩, ⟨%z21, Z8⟩, %W', HW⟩
  ihave HR := (ring_out c (V m c main_v5) (V m c main_v6) (V m c main_v9) (V m c main_v10)) $$ [HR D0 D1 D2 D3]
  · isplitl [HR]; · iexact HR
    isplitl [D0]; · iexact D0
    isplitl [D1]; · iexact D1
    isplitl [D2]; · iexact D2
    iexact D3
  icases HR with ⟨Z0, Z1, Z2, Z3, HQ, H4, H5, H6, H7⟩
  ihave H8 := (entails_of_eq (pt_whole c main_v13 fullShare (V m c main_v13))) $$ H8
  ihave H9 := (entails_of_eq (pt_whole c main_v14 fullShare (V m c main_v14))) $$ H9
  ihave H10 := (entails_of_eq (pt_whole c main_v17 fullShare (V m c main_v17))) $$ H10
  ihave H11 := (entails_of_eq (pt_whole c main_v18 fullShare (V m c main_v18))) $$ H11
  isplitl [Z0 Z1 Z2 Z3 Z4 Z5 Z6 Z7 Z8 Hg HQ H4 H5 H6 H7 H8 H9 H10 H11]
  · isplitl [Z0 Z1 Z2 Z3 Z4 Z5 Z6 Z7 Z8]
    · isplitl [Z0]; · iexact Z0
      isplitl [Z1]; · iexact Z1
      isplitl [Z2]; · iexact Z2
      isplitl [Z3]; · iexact Z3
      isplitl [Z4]; · iexists z17; iapply (entails_of_eq (pt_whole c cc0_scratch4 fullShare z17)); iexact Z4
      isplitl [Z5]; · iexists z18; iapply (entails_of_eq (pt_whole c cc0_scratch5 fullShare z18)); iexact Z5
      isplitl [Z6]; · iexists z19; iapply (entails_of_eq (pt_whole c cc0_scratch6 fullShare z19)); iexact Z6
      isplitl [Z7]; · iexists z20; iapply (entails_of_eq (pt_whole c cc0_scratch7 fullShare z20)); iexact Z7
      iexists z21; iapply (entails_of_eq (pt_whole c cc0_scratch8 fullShare z21)); iexact Z8
    isplitl [Hg]; · iexact Hg
    isplitl [HQ]; · iexact HQ
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HW]
  · iexists W'; isplitr; · ipureintro; exact fun _ _ => Or.inl trivial
    iexact HW
  isplitl [B0]
  · iexists X0; isplitr; · ipureintro; exact e0
    iexact B0
  isplitl [B1]
  · iexists X1; isplitr; · ipureintro; exact e1
    iexact B1
  isplitl [B2]
  · iexists X2; isplitr; · ipureintro; exact e2
    iexact B2
  isplitl [B3]
  · iexists X3; isplitr; · ipureintro; exact e3
    iexact B3
  iexists Y4; isplitr
  · ipureintro
    refine e4.trans ?_
    rw [e0, e1, e2, e3]; rfl
  iexact B4

theorem defs₀_row (t : Fin cfg0.N) : defs₀ (F := F) .tc cfg0.body (cfg0.bodyArgs t (cfg0.slots t)) = bodyAt0 t := by
  unfold defs₀; rw [Defs.onTc_tc]

include hids in
/-- The body does what the pipeline asks of it. -/
theorem body_obligation (c : Dev nD) : BodyObligation (dats (F := F) m 0 c) (defs₀ (F := F)) Variants.none () Set.univ := fun t => by
  rw [bigSep_W0, bigSep_W0, defs₀_row]
  exact triple_restated (sound_body m hids c t) rfl .rfl fun _ => .rfl

theorem hmain0 : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

include hids in
set_option backward.isDefEq.respectTransparency.types false in
/-- The whole program's run, from any memory with the ids in range. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m hids c).loose) (hq := fun _ _ _ => rfl)
    (howed := fun _ _ => rfl) (V := V m) (hmain := hmain0 m) (hA := A_eq m)
    (hin := fun _ => .rfl) (hout := fun _ => .rfl)

/-- The arguments as they were, in a memory the run leaves. -/
def Kept (c : Dev nD) (M : (ℓ : Loc nD τ sig) → Buf (Elt F) ℓ) : Prop :=
  M ((c.tc : Thread nD τ).loc main_arg0) = m ((c.tc : Thread nD τ).loc main_arg0)
    ∧ M ((c.tc : Thread nD τ).loc main_arg1) = m ((c.tc : Thread nD τ).loc main_arg1)
    ∧ M ((c.tc : Thread nD τ).loc main_arg2) = m ((c.tc : Thread nD τ).loc main_arg2)
    ∧ M ((c.tc : Thread nD τ).loc main_arg3) = m ((c.tc : Thread nD τ).loc main_arg3)
    ∧ M ((c.tc : Thread nD τ).loc main_arg4) = m ((c.tc : Thread nD τ).loc main_arg4)
    ∧ M ((c.tc : Thread nD τ).loc main_arg5) = m ((c.tc : Thread nD τ).loc main_arg5)
    ∧ M ((c.tc : Thread nD τ).loc main_arg6) = m ((c.tc : Thread nD τ).loc main_arg6)
    ∧ M ((c.tc : Thread nD τ).loc main_arg7) = m ((c.tc : Thread nD τ).loc main_arg7)
    ∧ M ((c.tc : Thread nD τ).loc main_arg8) = m ((c.tc : Thread nD τ).loc main_arg8)
    ∧ M ((c.tc : Thread nD τ).loc main_arg9) = m ((c.tc : Thread nD τ).loc main_arg9)
    ∧ M ((c.tc : Thread nD τ).loc main_arg10) = m ((c.tc : Thread nD τ).loc main_arg10)

theorem kept_of (r : PUnit × MemSt nD τ sig (Elt F)) (h : Pipeline.FramePost cfgs (dats m) 0 (V m) r) (c : Dev nD) : Kept m c r.2.mem :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

include hids in
/-- The program's run with the arguments kept, every semaphore at rest. -/
theorem frame_run : θ_run defs (onTc (τ := τ) (main (F := F))) ⟨m, fun _ => 0, ρ⟩ (fun r => (∀ c : Dev nD, Kept m c r.2.mem) ∧ r.2.sem = fun _ => 0) :=
  (θ_run defs _ _).mono (fun r h => ⟨kept_of m r h.1, h.2⟩) (run_main m ρ hids)

/-- Each window is its whole array: the block's indices are the array's. -/
theorem emb0 (t : Fin cfg0.N) (j : S8x8.Idx) : ((cfg0.win 0).blk t).view.emb j = j := by
  funext a; apply Fin.ext
  match a with
  | ⟨0, _⟩ => show 0 * 8 + 1 * (j 0).val = (j 0).val; omega
  | ⟨1, _⟩ => show 0 * 8 + 1 * (j 1).val = (j 1).val; omega
theorem emb1 (t : Fin cfg0.N) (j : S8x2048.Idx) : ((cfg0.win 1).blk t).view.emb j = j := by
  funext a; apply Fin.ext
  match a with
  | ⟨0, _⟩ => show 0 * 8 + 1 * (j 0).val = (j 0).val; omega
  | ⟨1, _⟩ => show 0 * 2048 + 1 * (j 1).val = (j 1).val; omega
theorem emb2 (t : Fin cfg0.N) (j : S8x8.Idx) : ((cfg0.win 2).blk t).view.emb j = j := by
  funext a; apply Fin.ext
  match a with
  | ⟨0, _⟩ => show 0 * 8 + 1 * (j 0).val = (j 0).val; omega
  | ⟨1, _⟩ => show 0 * 8 + 1 * (j 1).val = (j 1).val; omega
theorem emb3 (t : Fin cfg0.N) (j : S8x8.Idx) : ((cfg0.win 3).blk t).view.emb j = j := by
  funext a; apply Fin.ext
  match a with
  | ⟨0, _⟩ => show 0 * 8 + 1 * (j 0).val = (j 0).val; omega
  | ⟨1, _⟩ => show 0 * 8 + 1 * (j 1).val = (j 1).val; omega
theorem emb4 (t : Fin cfg0.N) (j : S8x2048.Idx) : ((cfg0.win 4).blk t).view.emb j = j := by
  funext a; apply Fin.ext
  match a with
  | ⟨0, _⟩ => show 0 * 8 + 1 * (j 0).val = (j 0).val; omega
  | ⟨1, _⟩ => show 0 * 2048 + 1 * (j 1).val = (j 1).val; omega
/-- A staged block is its array. -/
theorem iblk0_eq (c : Dev nD) (t : Fin cfg0.N) : iblk m c 0 t = V m c main_v0 := by
  funext j; show V m c main_v0 (((cfg0.win 0).blk t).view.emb j) = V m c main_v0 j; rw [emb0]
theorem iblk1_eq (c : Dev nD) (t : Fin cfg0.N) : iblk m c 1 t = V m c main_v1 := by
  funext j; show V m c main_v1 (((cfg0.win 1).blk t).view.emb j) = V m c main_v1 j; rw [emb1]
theorem iblk2_eq (c : Dev nD) (t : Fin cfg0.N) : iblk m c 2 t = V m c main_v0 := by
  funext j; show V m c main_v0 (((cfg0.win 2).blk t).view.emb j) = V m c main_v0 j; rw [emb2]
theorem iblk3_eq (c : Dev nD) (t : Fin cfg0.N) : iblk m c 3 t = V m c main_v2 := by
  funext j; show V m c main_v2 (((cfg0.win 3).blk t).view.emb j) = V m c main_v2 j; rw [emb3]

/-- The result array after the run is the body's value. -/
theorem arr_final (c : Dev nD) : (dats m 0 c).arrAt 4 cfg0.N = outAt m c t0_0 := by
  refine (dats m 0 c).arrAt_eq_of_cover 4 (outAt m c t0_0) (fun t _ => ?_) (fun i => ⟨t0_0, flush0_4 _, ?_⟩)
  · rw [fin_N0 t]
    funext j
    show outAt m c t0_0 j = outAt m c t0_0 (((cfg0.win 4).blk t0_0).view.emb j)
    rw [emb4]
  · have h := ((cfg0.win 4).blk t0_0).view.emb_mem_set i; rwa [emb4] at h

include hids in
/-- The whole program's run with its result: the body's value at the arguments' arrays. -/
theorem value_run : θ_run defs (onTc (τ := τ) (main (F := F))) ⟨m, fun _ => 0, ρ⟩ (fun r => ∀ c : Dev nD, r.2.mem ((c.tc : Thread nD τ).loc main_v19) = outAt m c t0_0 ∧ Kept m c r.2.mem) :=
  (θ_run defs _ _).mono (fun r h c => ⟨((h.1 c).1 4).trans (arr_final m c), kept_of m r h.1 c⟩) (run_main m ρ hids)

end Cert.KernelIdeal.Hand
-- ==== Proof.KernelIdeal.Host.lean ====
/- What the program before the kernel leaves in the arrays the kernel reads. -/
module

public import proofs.«01_k».proof.Proof.KernelIdeal.Launch
public import Idealize.ShloMosaic.Lib.StableHlo.Run
public import Idealize.ShloMosaic.Lib.Pipeline.Value

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

open Idealize.ShloMosaic.StableHlo

variable (m : (ℓ : Loc nD τ sig) → Buf (Elt F) ℓ)

/-- The array each host line leaves, as a function of the arguments. -/
theorem V_v0 (c : Dev nD) : V m c main_v0 = shapeCast S8x8 (m ((c : Thread nD τ).loc main_arg1)) shapeCasts_S8x1x8_S8x8 := by
  unfold V; after_results; try rfl
theorem V_v1 (c : Dev nD) : V m c main_v1 = shapeCast S8x2048 (m ((c : Thread nD τ).loc main_arg0)) shapeCasts_S8x1x2048_S8x2048 := by
  unfold V; after_results; try rfl
theorem V_v2 (c : Dev nD) : V m c main_v2 = shapeCast S8x8 (m ((c : Thread nD τ).loc main_arg2)) shapeCasts_S8x1x8_S8x8 := by
  unfold V; after_results; try rfl
theorem V_v5 (c : Dev nD) : V m c main_v5 = shapeCast S64x384x32x128 (transpose S64x64x2x3x4x8x128 [0, 4, 5, 1, 2, 6, 3] (shapeCast S64x3x4x128x64x2x8 (m ((c : Thread nD τ).loc main_arg3)) shapeCasts_S64x1536x64x16_S64x3x4x128x64x2x8) transposes_S64x3x4x128x64x2x8_S64x64x2x3x4x8x128_0_4_5_1_2_6_3) shapeCasts_S64x64x2x3x4x8x128_S64x384x32x128 := by
  unfold V; after_results; try rfl
theorem V_v6 (c : Dev nD) : V m c main_v6 = transpose S64x64x1536 [0, 2, 1] (m ((c : Thread nD τ).loc main_arg4)) transposes_S64x1536x64_S64x64x1536_0_2_1 := by
  unfold V; after_results; try rfl
theorem V_v9 (c : Dev nD) : V m c main_v9 = shapeCast S64x192x32x128 (transpose S64x24x2x4x4x8x128 [0, 4, 5, 1, 2, 6, 3] (shapeCast S64x4x4x128x24x2x8 (m ((c : Thread nD τ).loc main_arg5)) shapeCasts_S64x2048x24x16_S64x4x4x128x24x2x8) transposes_S64x4x4x128x24x2x8_S64x24x2x4x4x8x128_0_4_5_1_2_6_3) shapeCasts_S64x24x2x4x4x8x128_S64x192x32x128 := by
  unfold V; after_results; try rfl
theorem V_v10 (c : Dev nD) : V m c main_v10 = transpose S64x24x2048 [0, 2, 1] (m ((c : Thread nD τ).loc main_arg6)) transposes_S64x2048x24_S64x24x2048_0_2_1 := by
  unfold V; after_results; try rfl
theorem V_v13 (c : Dev nD) : V m c main_v13 = shapeCast S384x32x128 (transpose S64x2x3x4x8x128 [3, 4, 0, 1, 5, 2] (shapeCast S3x4x128x64x2x8 (m ((c : Thread nD τ).loc main_arg7)) shapeCasts_S1536x64x16_S3x4x128x64x2x8) transposes_S3x4x128x64x2x8_S64x2x3x4x8x128_3_4_0_1_5_2) shapeCasts_S64x2x3x4x8x128_S384x32x128 := by
  unfold V; after_results; try rfl
theorem V_v14 (c : Dev nD) : V m c main_v14 = transpose S64x1536 [1, 0] (m ((c : Thread nD τ).loc main_arg8)) transposes_S1536x64_S64x1536_1_0 := by
  unfold V; after_results; try rfl
theorem V_v17 (c : Dev nD) : V m c main_v17 = shapeCast S192x32x128 (transpose S24x2x4x4x8x128 [3, 4, 0, 1, 5, 2] (shapeCast S4x4x128x24x2x8 (m ((c : Thread nD τ).loc main_arg9)) shapeCasts_S2048x24x16_S4x4x128x24x2x8) transposes_S4x4x128x24x2x8_S24x2x4x4x8x128_3_4_0_1_5_2) shapeCasts_S24x2x4x4x8x128_S192x32x128 := by
  unfold V; after_results; try rfl
theorem V_v18 (c : Dev nD) : V m c main_v18 = transpose S24x2048 [1, 0] (m ((c : Thread nD τ).loc main_arg10)) transposes_S2048x24_S24x2048_1_0 := by
  unfold V; after_results; try rfl

/-- The id window reads the id argument's words: all in range if those are. -/
theorem ids_ok (h : ∀ (c : Dev nD) (i : S8x1x8.Idx), ((m ((c : Thread nD τ).loc main_arg1) : IVec S8x1x8 32) i).toNat < 64) (c : Dev nD) (t : Fin cfg0.N) (j : ℕ) :
    (idAt (F := F) (iblk m c 0 t) j).toNat < 64 := by
  rw [iblk0_eq, V_v0]
  unfold idAt shapeCast
  split
  · exact h c _
  · decide

end Cert.KernelIdeal.Hand
-- ==== Proof.Same.lean ====
/- The kernel and its reading over the reals are printed from one text: they are the same program, so what is proved of the
   one for every float arithmetic holds of the other. -/
module

public import proofs.«01_k».proof.Defs
public import proofs.«01_k».proof.Proof.KernelIdeal.Host
public import Idealize.ShloMosaic.Lib.Claim

@[expose] public section

set_option maxRecDepth 16384
set_option maxHeartbeats 4000000

open Idealize.ShloMosaic Idealize.ShloMosaic.TcCoe

namespace Cert.Same

variable {F : FTy → Type} [FloatOps F] [Cert.Kernel.Facts] [Cert.KernelIdeal.Facts]

/-- The bodies are the same. -/
theorem body_eq : Cert.Kernel.cc0_moe (F := F) = Cert.KernelIdeal.cc0_moe (F := F) := rfl

/-- The tables of the kernels' bodies are the same. -/
theorem defs₀_eq : Cert.Kernel.defs₀ (F := F) = Cert.KernelIdeal.defs₀ (F := F) := by
  unfold Cert.Kernel.defs₀ Cert.KernelIdeal.defs₀
  rw [body_eq]
  refine congrArg _ (funext fun l => funext fun a => ?_)
  match l, a with
  | 0, (t, s) => rfl

/-- The body tables, each call's pipeline included, are the same. -/
theorem defs_eq : Cert.Kernel.defs (F := F) = Cert.KernelIdeal.defs (F := F) := by
  unfold Cert.Kernel.defs Cert.KernelIdeal.defs
  rw [defs₀_eq]
  rfl

/-- The host programs are the same. -/
theorem main_eq : Cert.Kernel.main (F := F) = Cert.KernelIdeal.main (F := F) := rfl

end Cert.Same

namespace Cert.Same

variable {F : FTy → Type} [FloatOps F] [Cert.Kernel.Facts]

/-- The kernel's run: it ends with its arguments kept and every semaphore at rest. -/
theorem frame_run (m : (ℓ : Loc Cert.Kernel.nD Cert.Kernel.τ Cert.Kernel.sig) → Buf (Elt F) ℓ) (g : Dev Cert.Kernel.nD → PrngReg)
    (h : ∀ (c : Dev Cert.Kernel.nD) (i : Cert.Kernel.S8x1x8.Idx), (m ((c.tc : Thread Cert.Kernel.nD Cert.Kernel.τ).loc Cert.Kernel.main_arg1) i : BitVec 32).toNat < 64) :
    θ_run (Cert.Kernel.defs (F := F)) (onTc (τ := Cert.Kernel.τ) (Cert.Kernel.main (F := F))) ⟨m, fun _ => 0, g⟩ (fun r => (∀ c : Dev Cert.Kernel.nD, Cert.KernelIdeal.Hand.Kept m c r.2.mem) ∧ r.2.sem = fun _ => 0) := by
  rw [defs_eq, main_eq]
  exact Cert.KernelIdeal.Hand.frame_run (F := F) m g (Cert.KernelIdeal.Hand.ids_ok m h)

end Cert.Same
-- ==== Proof.PreFacts.lean ====
/- What the precondition of the frames says of the ids, and the words such preconditions compare, element by element. -/
module

public import proofs.«01_k».proof.Proof.Gen.Pre_ids_in_range
public import Idealize.ShloMosaic.Lib.ReduceAll
public import Idealize.ShloMosaic.Lib.Pipeline.Value

@[expose] public section

noncomputable section

namespace Cert.PreFacts

open Idealize.ShloMosaic

/-- A word between 0 and 63, signed, is below 64 unsigned. -/
theorem range_of (v : BitVec 32) (h : IntOp.andi (IntOp.cmpi .sge v 0#32) (IntOp.cmpi .slt v 64#32) = 1#1) : v.toNat < 64 := by
  obtain ⟨h1, h2⟩ := IntOp.andi_eq_one.1 h
  have a : (0#32).sle v = true := by
    by_contra hn; rw [Bool.not_eq_true] at hn
    have : IntOp.cmpi .sge v 0#32 = 0#1 := by show BitVec.ofBool ((0#32).sle v) = _; rw [hn]; rfl
    rw [this] at h1; exact absurd h1 (by decide)
  have b : v.slt 64#32 = true := by
    by_contra hn; rw [Bool.not_eq_true] at hn
    have : IntOp.cmpi .slt v 64#32 = 0#1 := by show BitVec.ofBool (v.slt 64#32) = _; rw [hn]; rfl
    rw [this] at h2; exact absurd h2 (by decide)
  have a' : (0#32).toInt ≤ v.toInt := by rw [BitVec.sle_eq_decide] at a; exact of_decide_eq_true a
  have b' : v.toInt < (64#32).toInt := by rw [BitVec.slt_eq_decide] at b; exact of_decide_eq_true b
  have e0 : (0#32).toInt = 0 := rfl
  have e1 : (64#32).toInt = 64 := rfl
  rw [e0] at a'
  rw [e1] at b'
  have hv : v.toInt = _ := BitVec.toInt_eq_toNat_cond (x := v)
  have := v.isLt
  split at hv <;> omega

/-- A byte between 1 and 254. -/
theorem scale_of (v : BitVec 8) (h : IntOp.andi (IntOp.cmpi .sge (v.setWidth 32) 1#32) (IntOp.cmpi .sle (v.setWidth 32) 254#32) = 1#1) :
    1 ≤ v.toNat ∧ v.toNat ≤ 254 := by
  revert v; decide +kernel

/-- Equal words at two slots are one slot. -/
theorem slot_of (a b : BitVec 32) (k l : Fin 8) (h : IntOp.ori (IntOp.cmpi .eq (BitVec.ofNat 32 k.val) (BitVec.ofNat 32 l.val)) (~~~(IntOp.cmpi .eq a b)) = 1#1)
    (e : a = b) : k = l := by
  subst e
  have : IntOp.cmpi .eq a a = 1#1 := by show BitVec.ofBool (a == a) = 1#1; simp
  rw [this] at h
  revert k l; decide +kernel

section
open Cert.Pre_ids_in_range
variable [Cert.Pre_ids_in_range.Facts]
/-- The precondition of the frames says that every id is below 64. -/
theorem ids_lt {F : FTy → Type} [FloatOps F] (a0 : FVec F S8x1x2048 .bf16) (a1 : IVec S8x1x8 32) (a2 : FVec F S8x1x8 .f32) (a3 : IVec S64x1536x64x16 8) (a4 : IVec S64x1536x64 8) (a5 : IVec S64x2048x24x16 8) (a6 : IVec S64x2048x24 8) (a7 : IVec S1536x64x16 8) (a8 : IVec S1536x64 8) (a9 : IVec S2048x24x16 8) (a10 : IVec S2048x24 8)
    (h : fn (F := F) a0 a1 a2 a3 a4 a5 a6 a7 a8 a9 a10 = fun _ => 1#1) (i : S8x1x8.Idx) : (a1 i).toNat < 64 :=
  range_of (a1 i) (congrFun h i)
end

end Cert.PreFacts

end
-- ==== Proof.Value.Word.lean ====
/- What one code and one scale byte mean at the ideal instance: the kernel's table lookup and bit pattern, the
   reference's exponent arithmetic and power, and the one real number each pair of them is. -/
module

public import Idealize.ShloMosaic.Lib.Pipeline.Value
public import Idealize.ShloMosaic.Lib.ValueIdx
public import Idealize.ShloMosaic.PureOps.Ideal

@[expose] public section

set_option maxRecDepth 16384

noncomputable section

namespace Cert.Value

open Idealize.ShloMosaic

/-- The field `p` (0 the low one, 1 the high one) of a byte of codes. -/
def nib (b : BitVec 8) (p : ℕ) : ℕ := b.toNat / 16 ^ p % 16
/-- Twice the magnitude of a four-bit code. -/
def tw (n : ℕ) : ℕ := [0, 1, 2, 3, 4, 6, 8, 12].getD (n % 8) 0
/-- The value of a four-bit code. -/
def decN (n : ℕ) : EReal := (((if 8 ≤ n then -(1 / 2) else 1 / 2) * (tw n : ℝ) : ℝ) : EReal)
/-- The value of field `p` of a byte of codes. -/
def dec (b : BitVec 8) (p : ℕ) : EReal := decN (nib b p)
/-- The value of a scale byte. -/
def scl (s : BitVec 8) : EReal := (((2 : ℝ) ^ ((s.toNat : ℤ) - 127) : ℝ) : EReal)

/-- What holds of the 256 numbers below 256 holds of every byte. -/
theorem forall_byte {P : BitVec 8 → Prop} (h : ∀ n : Fin 256, P (BitVec.ofFin n)) (b : BitVec 8) : P b := h b.toFin

/-! ## Constants -/

/-- A power of two or its negative, from the fields of the bits. -/
theorem ieee_pow (w : BitVec 32) (sg : Bool) (ex : ℕ) (h1 : ((w.extractLsb' (8 + 23) 1 : BitVec 1) == 1#1) = sg) (h2 : (w.extractLsb' 23 8).toNat = ex)
    (h3 : (w.extractLsb' 0 23).toNat = 0) (hex : 1 ≤ ex ∧ ex ≤ 254) :
    Ideal.ofBits .f32 w = (((if sg then -1 else 1) * (2 : ℝ) ^ ((ex : ℤ) - 127) : ℝ) : EReal) := by
  show Ideal.ieee 8 23 w = _
  unfold Ideal.ieee
  dsimp only
  rw [h1, h2, h3, if_neg (by norm_num; omega), if_neg (by omega)]
  congr 1
  rw [show ((ex : ℤ) - (2 ^ (8 - 1) - 1) - ((23 : ℕ) : ℤ)) = ((ex : ℤ) - 127) - 23 by norm_num, zpow_sub₀ two_ne_zero _ 23]
  norm_num
  ring_nf
theorem ofBits_half : Ideal.ofBits .f32 0x3F000000#32 = ((1 / 2 : ℝ) : EReal) := by
  rw [ieee_pow _ false 126 (by decide) (by decide) (by decide) (by decide)]; norm_num
theorem ofBits_neg_half : Ideal.ofBits .f32 0xBF000000#32 = ((-(1 / 2) : ℝ) : EReal) := by
  rw [ieee_pow _ true 126 (by decide) (by decide) (by decide) (by decide)]; norm_num
theorem ofBits_one : Ideal.ofBits .f32 0x3F800000#32 = ((1 : ℝ) : EReal) := by
  rw [ieee_pow _ false 127 (by decide) (by decide) (by decide) (by decide)]; norm_num
theorem ofBits_two : Ideal.ofBits .f32 0x40000000#32 = ((2 : ℝ) : EReal) := by
  rw [ieee_pow _ false 128 (by decide) (by decide) (by decide) (by decide)]; norm_num
theorem ofBits_zero : Ideal.ofBits .f32 0x00000000#32 = 0 := by simp [Ideal.ofBits, Ideal.ieee]

/-! ## The kernel's decode -/

/-- The kernel's field of a byte in row `r`. -/
def kfield (b : BitVec 8) (r : BitVec 32) : BitVec 32 :=
  IntOp.andi (IntOp.shrsi .vector (b.setWidth 32) (IntOp.shli .vector (IntOp.andi r 1#32) 2#32)) 15#32
/-- The kernel's doubled magnitude of a field. -/
def ktwice (c : BitVec 32) : BitVec 32 :=
  IntOp.andi (IntOp.shrui .vector 3362009616#32 (IntOp.andi (IntOp.shli .vector c 2#32) 28#32)) 15#32

/-- The kernel's field of a row: the low four bits in even rows, the high ones in odd. -/
theorem kfield_eq (b : BitVec 8) (r : ℕ) : kfield b (BitVec.ofNat 32 r) = BitVec.ofNat 32 (nib b (r % 2)) := by
  have e : IntOp.andi (BitVec.ofNat 32 r) 1#32 = BitVec.ofNat 32 (r % 2) := by
    apply BitVec.eq_of_toNat_eq
    show (BitVec.ofNat 32 r &&& 1#32).toNat = _
    rw [BitVec.toNat_and, BitVec.toNat_ofNat, BitVec.toNat_ofNat]
    show r % 2 ^ 32 &&& 1 = _
    rw [Nat.and_one_is_mod, BitVec.toNat_ofNat]
    omega
  unfold kfield
  rw [e]
  rcases Nat.mod_two_eq_zero_or_one r with h | h <;> rw [h]
  · exact forall_byte (P := fun b => IntOp.andi (IntOp.shrsi .vector (b.setWidth 32) (IntOp.shli .vector (BitVec.ofNat 32 0) 2#32)) 15#32 = BitVec.ofNat 32 (nib b 0)) (by decide +kernel) b
  · exact forall_byte (P := fun b => IntOp.andi (IntOp.shrsi .vector (b.setWidth 32) (IntOp.shli .vector (BitVec.ofNat 32 1) 2#32)) 15#32 = BitVec.ofNat 32 (nib b 1)) (by decide +kernel) b

theorem nib_lt (b : BitVec 8) (p : ℕ) : nib b p < 16 := Nat.mod_lt _ (by decide)

/-- The kernel's lookup gives twice the magnitude. -/
theorem ktwice_eq (n : Fin 16) : ktwice (BitVec.ofNat 32 n.val) = BitVec.ofNat 32 (tw n.val) := by
  revert n; decide +kernel
theorem kge_eq (n : Fin 16) : IntOp.cmpi .sge (BitVec.ofNat 32 n.val) 8#32 = if 8 ≤ n.val then 1#1 else 0#1 := by
  revert n; decide +kernel
theorem tw_toInt (n : Fin 16) : (BitVec.ofNat 32 (tw n.val)).toInt = tw n.val := by
  revert n; decide +kernel

/-- The kernel's decode of a byte in row `r` is the value of the field that the row's parity names. -/
theorem kdec_eq (b : BitVec 8) (r : ℕ) :
    (FloatOps.mulf (F := Ideal) (φ := .f32) (Scalar.select (IntOp.cmpi .sge (kfield b (BitVec.ofNat 32 r)) 8#32) (Ideal.ofBits .f32 0xBF000000#32) (Ideal.ofBits .f32 0x3F000000#32))
      (FloatOps.sitofp (F := Ideal) .f32 (ktwice (kfield b (BitVec.ofNat 32 r)))) : EReal) = dec b (r % 2) := by
  rw [kfield_eq]
  unfold dec
  have hn := nib_lt b (r % 2)
  generalize nib b (r % 2) = n at hn
  rw [ktwice_eq ⟨n, hn⟩, kge_eq ⟨n, hn⟩]
  show (Scalar.select (if 8 ≤ n then 1#1 else 0#1) (Ideal.ofBits .f32 0xBF000000#32) (Ideal.ofBits .f32 0x3F000000#32) : EReal) * (((BitVec.ofNat 32 (tw n)).toInt : ℝ) : EReal) = _
  rw [tw_toInt ⟨n, hn⟩, ofBits_half, ofBits_neg_half]
  unfold decN
  by_cases h : 8 ≤ n
  · rw [if_pos h, if_pos h, ValueIdx.select_one, ← EReal.coe_mul]; norm_cast
  · rw [if_neg h, if_neg h, ValueIdx.select_zero, ← EReal.coe_mul]; norm_cast

/-- The kernel's scale word, either half, read as a float. -/
theorem kscl_eq (s : BitVec 8) (hs : 1 ≤ s.toNat ∧ s.toNat ≤ 254) (h : ℕ) :
    (Ideal.ofBits .bf16 ((IntOp.ori (IntOp.shli .vector (s.setWidth 32) 7#32) (IntOp.shli .vector (s.setWidth 32) 23#32)).extractLsb' (16 * (h % 2)) 16) : EReal) = scl s := by
  have e : (IntOp.ori (IntOp.shli .vector (s.setWidth 32) 7#32) (IntOp.shli .vector (s.setWidth 32) 23#32)).extractLsb' (16 * (h % 2)) 16 = s.setWidth 16 <<< 7 := by
    rcases Nat.mod_two_eq_zero_or_one h with h | h <;> rw [h]
    · exact forall_byte (P := fun s => (IntOp.ori (IntOp.shli .vector (s.setWidth 32) 7#32) (IntOp.shli .vector (s.setWidth 32) 23#32)).extractLsb' (16 * 0) 16 = s.setWidth 16 <<< 7) (by decide +kernel) s
    · exact forall_byte (P := fun s => (IntOp.ori (IntOp.shli .vector (s.setWidth 32) 7#32) (IntOp.shli .vector (s.setWidth 32) 23#32)).extractLsb' (16 * 1) 16 = s.setWidth 16 <<< 7) (by decide +kernel) s
  rw [e]
  have e1 : (((s.setWidth 16 <<< 7).extractLsb' (8 + 7) 1 : BitVec 1) == 1#1) = false :=
    forall_byte (P := fun s => (((s.setWidth 16 <<< 7).extractLsb' (8 + 7) 1 : BitVec 1) == 1#1) = false) (by decide +kernel) s
  have e2 : ((s.setWidth 16 <<< 7).extractLsb' 7 8).toNat = s.toNat :=
    forall_byte (P := fun s => ((s.setWidth 16 <<< 7).extractLsb' 7 8).toNat = s.toNat) (by decide +kernel) s
  have e3 : ((s.setWidth 16 <<< 7).extractLsb' 0 7).toNat = 0 :=
    forall_byte (P := fun s => ((s.setWidth 16 <<< 7).extractLsb' 0 7).toNat = 0) (by decide +kernel) s
  show Ideal.ieee 8 7 (s.setWidth 16 <<< 7) = _
  unfold Ideal.ieee scl
  dsimp only
  rw [e1, e2, e3, if_neg (by norm_num; omega), if_neg (by omega)]
  congr 1
  have h2 : (2 : ℝ) ≠ 0 := two_ne_zero
  rw [show ((s.toNat : ℤ) - (2 ^ (8 - 1) - 1) - ((7 : ℕ) : ℤ)) = ((s.toNat : ℤ) - 127) - 7 by norm_num, zpow_sub₀ h2 _ 7]
  norm_num
  ring_nf

/-! ## The reference's decode -/

/-- The reference's magnitude of a four-bit code. -/
def rmag (c : BitVec 32) : EReal :=
  Scalar.select (IntOp.cmpi .eq (IntOp.andi (IntOp.shrsi .host c 1#32) 3#32) 0#32)
        (FloatOps.mulf (F := Ideal) (φ := .f32) (Ideal.ofBits .f32 0x3F000000#32) (FloatOps.sitofp (F := Ideal) .f32 (IntOp.andi c 1#32)))
        (FloatOps.mulf (F := Ideal) (φ := .f32) (FloatOps.addf (F := Ideal) (φ := .f32) (Ideal.ofBits .f32 0x3F800000#32) (FloatOps.mulf (F := Ideal) (φ := .f32) (Ideal.ofBits .f32 0x3F000000#32) (FloatOps.sitofp (F := Ideal) .f32 (IntOp.andi c 1#32))))
          (FloatOps.hostPowf (F := Ideal) (φ := .f32) (Ideal.ofBits .f32 0x40000000#32) (FloatOps.sitofp (F := Ideal) .f32 (IntOp.subi (IntOp.andi (IntOp.shrsi .host c 1#32) 3#32) 1#32))))
/-- The reference's value of a four-bit code. -/
def rval (c : BitVec 32) : EReal :=
  Scalar.select (IntOp.cmpi .eq (IntOp.shrsi .host c 3#32) 1#32) (FloatOps.hostNegf (F := Ideal) (φ := .f32) (rmag c)) (rmag c)

theorem rsub_eq (n : Fin 16) : IntOp.cmpi .eq (IntOp.andi (IntOp.shrsi .host (BitVec.ofNat 32 n.val) 1#32) 3#32) 0#32 = if n.val % 8 < 2 then 1#1 else 0#1 := by
  revert n; decide +kernel
theorem rsgn_eq (n : Fin 16) : IntOp.cmpi .eq (IntOp.shrsi .host (BitVec.ofNat 32 n.val) 3#32) 1#32 = if 8 ≤ n.val then 1#1 else 0#1 := by
  revert n; decide +kernel
theorem rman_eq (n : Fin 16) : (IntOp.andi (BitVec.ofNat 32 n.val) 1#32).toInt = ((n.val % 2 : ℕ) : ℤ) := by
  revert n; decide +kernel
theorem rexp_eq (n : Fin 16) : (IntOp.subi (IntOp.andi (IntOp.shrsi .host (BitVec.ofNat 32 n.val) 1#32) 3#32) 1#32).toInt = ((n.val / 2 % 4 : ℕ) : ℤ) - 1 := by
  revert n; decide +kernel

theorem rmag_eq (n : ℕ) (hn : n < 16) : rmag (BitVec.ofNat 32 n) = ((1 / 2 * (tw n : ℝ) : ℝ) : EReal) := by
  unfold rmag
  rw [rsub_eq ⟨n, hn⟩, ofBits_half, ofBits_one, ofBits_two]
  show Scalar.select (if n % 8 < 2 then 1#1 else 0#1) ((((1 / 2 : ℝ) : EReal)) * ((((IntOp.andi (BitVec.ofNat 32 n) 1#32).toInt : ℤ) : ℝ) : EReal) : EReal)
    ((((1 : ℝ) : EReal) + ((1 / 2 : ℝ) : EReal) * ((((IntOp.andi (BitVec.ofNat 32 n) 1#32).toInt : ℤ) : ℝ) : EReal))
      * ((Real.rpow 2 (((IntOp.subi (IntOp.andi (IntOp.shrsi .host (BitVec.ofNat 32 n) 1#32) 3#32) 1#32).toInt : ℤ) : ℝ) : ℝ) : EReal)) = _
  rw [show (IntOp.andi (BitVec.ofNat 32 n) 1#32).toInt = ((n % 2 : ℕ) : ℤ) from rman_eq ⟨n, hn⟩,
    show (IntOp.subi (IntOp.andi (IntOp.shrsi .host (BitVec.ofNat 32 n) 1#32) 3#32) 1#32).toInt = ((n / 2 % 4 : ℕ) : ℤ) - 1 from rexp_eq ⟨n, hn⟩,
    show Real.rpow 2 ((((n / 2 % 4 : ℕ) : ℤ) - 1 : ℤ) : ℝ) = (2 : ℝ) ^ ((((n / 2 % 4 : ℕ) : ℤ) - 1 : ℤ) : ℝ) from rfl, Real.rpow_intCast,
    ← EReal.coe_mul, ← EReal.coe_add, ← EReal.coe_mul]
  by_cases h : n % 8 < 2
  · rw [if_pos h, ValueIdx.select_one]
    congr 1
    interval_cases n <;> first | omega | norm_num [tw]
  · rw [if_neg h, ValueIdx.select_zero]
    congr 1
    interval_cases n <;> first | omega | norm_num [tw]

/-- The reference's decode of a code is the code's value. -/
theorem rdec_eq (n : ℕ) (hn : n < 16) : rval (BitVec.ofNat 32 n) = decN n := by
  unfold rval decN
  rw [rsgn_eq ⟨n, hn⟩, rmag_eq n hn]
  by_cases h : 8 ≤ n
  · rw [if_pos h, if_pos h, ValueIdx.select_one]
    show -(((1 / 2 * (tw n : ℝ) : ℝ) : EReal)) = _
    rw [← EReal.coe_neg]; congr 1; ring
  · rw [if_neg h, if_neg h, ValueIdx.select_zero]

/-- The reference's low field is the byte's low four bits. -/
theorem rlo_eq (b : BitVec 8) : IntOp.andi (b.setWidth 32) 15#32 = BitVec.ofNat 32 (nib b 0) :=
  forall_byte (P := fun b => IntOp.andi (b.setWidth 32) 15#32 = BitVec.ofNat 32 (nib b 0)) (by decide +kernel) b
/-- The reference's high field is the byte's high four bits. -/
theorem rhi_eq (b : BitVec 8) : IntOp.shrsi .host (b.setWidth 32) 4#32 = BitVec.ofNat 32 (nib b 1) :=
  forall_byte (P := fun b => IntOp.shrsi .host (b.setWidth 32) 4#32 = BitVec.ofNat 32 (nib b 1)) (by decide +kernel) b

/-- The reference's scale of a byte. -/
theorem rscl_eq (s : BitVec 8) :
    (FloatOps.hostPowf (F := Ideal) (φ := .f32) (Ideal.ofBits .f32 0x40000000#32) (FloatOps.sitofp (F := Ideal) .f32 (IntOp.subi (s.setWidth 32) 127#32)) : EReal) = scl s := by
  rw [ofBits_two]
  have e : (IntOp.subi (s.setWidth 32) 127#32).toInt = (s.toNat : ℤ) - 127 :=
    forall_byte (P := fun s => (IntOp.subi (s.setWidth 32) 127#32).toInt = (s.toNat : ℤ) - 127) (by decide +kernel) s
  show ((Real.rpow 2 (((IntOp.subi (s.setWidth 32) 127#32).toInt : ℤ) : ℝ) : ℝ) : EReal) = _
  rw [e, show Real.rpow 2 ((((s.toNat : ℤ) - 127 : ℤ)) : ℝ) = (2 : ℝ) ^ ((((s.toNat : ℤ) - 127 : ℤ)) : ℝ) from rfl, Real.rpow_intCast]
  rfl

end Cert.Value
-- ==== Proof.Value.Chunk.lean ====
/- One chunk of the kernel's product at the ideal instance: the decoded weights entry by entry, and the chunk as a sum
   over its 256 rows. -/
module

public import proofs.«01_k».proof.Proof.KernelIdeal.Tile
public import proofs.«01_k».proof.Proof.Value.Word
public import Idealize.ShloMosaic.Lib.BitcastPair
public import Idealize.ShloMosaic.Lib.MatmulPlain
public import Idealize.ShloMosaic.Lib.Pipeline.Value

@[expose] public section

set_option maxRecDepth 16384
set_option maxHeartbeats 1000000

noncomputable section

namespace Cert.Value

open Idealize.ShloMosaic Cert.KernelIdeal Cert.KernelIdeal.Gen Cert.KernelIdeal.Hand
open Idealize.ShloMosaic.ValueIdx

/-- The decoded rows of a block of codes. -/
theorem rows_apply (v : Vec Ideal S1x32x128 .i8) (j : S64x128.Idx) (k : S1x32x128.Idx) (h1 : (k 1).val = (j 0).val / 2) (h2 : (k 2).val = (j 1).val) :
    rows (F := Ideal) v j = dec (v k) ((j 0).val % 2) := by
  have j0 : (j 0).val < 64 := (j 0).isLt
  have j1 : (j 1).val < 128 := (j 1).isLt
  have k0 : (k 0).val < 1 := (k 0).isLt
  have e : shapeCast S64x128 (k0_pay20 (F := Ideal) v) shapeCasts_S32x2x128_S64x128 j = (v k : BitVec 8).setWidth 32 := by
    refine (shapeCast_apply _ _ j (ix3 ⟨(j 0).val / 2, by omega⟩ ⟨(j 0).val % 2, by omega⟩ ⟨(j 1).val, j1⟩ : S32x2x128.Idx) ?_).trans ?_
    · rw [Shape.rowMajor_val_three, Shape.rowMajor_val_two]
      show ((j 0).val / 2 * 2 + (j 0).val % 2) * 128 + (j 1).val = (j 0).val * 128 + (j 1).val
      omega
    show broadcastTo S32x2x128 (shapeCast S32x1x128 (extui 32 (shapeCast S32x128 v shapeCasts_S1x32x128_S32x128) natLt_8_32) shapeCasts_S32x128_S32x1x128) broadcasts_S32x1x128_S32x2x128 _ = _
    refine (broadcastTo_apply _ _ _ (ix3 ⟨(j 0).val / 2, by omega⟩ ⟨0, by omega⟩ ⟨(j 1).val, j1⟩ : S32x1x128.Idx) (fun a => ?_)).trans ?_
    · match a with
      | 0 => rfl
      | 1 => rfl
      | 2 => rfl
    refine (shapeCast_apply _ _ _ (ix2 ⟨(j 0).val / 2, by omega⟩ ⟨(j 1).val, j1⟩ : S32x128.Idx) ?_).trans ?_
    · rw [Shape.rowMajor_val_three, Shape.rowMajor_val_two]
      show (j 0).val / 2 * 128 + (j 1).val = ((j 0).val / 2 * 1 + 0) * 128 + (j 1).val
      omega
    refine congrArg (BitVec.setWidth 32) (shapeCast_apply _ _ _ k ?_)
    rw [Shape.rowMajor_val_three, Shape.rowMajor_val_two]
    show ((k 0).val * 32 + (k 1).val) * 128 + (k 2).val = (j 0).val / 2 * 128 + (j 1).val
    omega
  refine Eq.trans ?_ (kdec_eq (v k) (j 0).val)
  unfold kfield
  rw [← e, ← iota_single_apply .tc S64x128 32 0 iota_S64x128_d0_w32 j]
  rfl

/-- The scale of a block at one column, in every row. -/
theorem scaleRows_apply (s : Vec Ideal S8x512 .i8) (off : Fin 2 → ℕ) (h : S8x512.Slices off S1x128) (j : S16x128.Idx) (k : S8x512.Idx)
    (h0 : (k 0).val = off 0) (h1 : (k 1).val = off 1 + (j 1).val) (hs : 1 ≤ (s k : BitVec 8).toNat ∧ (s k : BitVec 8).toNat ≤ 254) :
    scaleRows (F := Ideal) s off h j = scl (s k) := by
  have j1 : (j 1).val < 128 := (j 1).isLt
  unfold scaleRows
  show Ideal.ofBits .bf16 (bitcast S16x128 16 _ bitcasts_S8x128_w32_S16x128_w16 j) = _
  rw [bitcast_32_16]
  refine Eq.trans (congrArg (fun w : BitVec 32 => Ideal.ofBits .bf16 (w.extractLsb' (16 * (S16x128.row j % 2)) 16)) ?_) (kscl_eq (s k) hs _)
  refine (broadcastTo_apply _ _ _ (ix2 ⟨0, by omega⟩ ⟨(j 1).val, j1⟩ : S1x128.Idx) (fun a => ?_)).trans ?_
  · match a with
    | 0 => rfl
    | 1 => exact (Shape.Bitcasts.srcIdx_other bitcasts_S8x128_w32_S16x128_w16 j _ _ (1 : Fin S8x128.rank) (by decide)).symm
  refine (shapeCast_apply _ _ _ (ix2 ⟨0, by omega⟩ ⟨(j 1).val, j1⟩ : S1x128.Idx) rfl).trans ?_
  refine (extractStridedSlice_apply _ _ _ _ k (fun a => ?_)).trans ?_
  · match a with
    | 0 => exact h0
    | 1 => exact h1
  rfl

/-- One weight of a chunk. -/
theorem piece_apply (v : Vec Ideal S1x32x128 .i8) (sc : FVec Ideal S16x128 .bf16) (off : Fin 2 → ℕ) (h : S64x128.Slices off S16x128) (j : S16x128.Idx)
    (h1 : off 1 = 0) (hb : off 0 % 2 = 0) (k : S1x32x128.Idx) (k1 : (k 1).val = (off 0 + (j 0).val) / 2) (k2 : (k 2).val = (j 1).val) :
    piece (F := Ideal) v sc off h j = dec (v k) ((j 0).val % 2) * sc j := by
  have j0 : (j 0).val < 16 := (j 0).isLt
  have j1 : (j 1).val < 128 := (j 1).isLt
  have k1' : (k 1).val < 32 := (k 1).isLt
  refine congrArg (fun x : EReal => x * sc j) ?_
  refine (extractStridedSlice_apply off (rows (F := Ideal) v) h j (ix2 ⟨off 0 + (j 0).val, by omega⟩ ⟨(j 1).val, j1⟩ : S64x128.Idx) (fun a => ?_)).trans ?_
  · match a with
    | 0 => rfl
    | 1 => show (j 1).val = off 1 + (j 1).val; omega
  refine (rows_apply v _ k k1 k2).trans ?_
  refine congrArg (dec (v k)) ?_
  show (off 0 + (j 0).val) % 2 = (j 0).val % 2
  omega

theorem slS (b : Fin 8) (c : Fin 4) : S8x512.Slices ![b.val, 128 * c.val] S1x128 := by
  revert b c; decide
theorem slR (c : Fin 4) : S64x128.Slices ![16 * c.val, 0] S16x128 := by
  revert c; decide

/-- The pieces of 128 columns. -/
def quarter (s : Vec Ideal S8x512 .i8) (u : Fin 8 → Fin 2 → Vec Ideal S1x32x128 .i8) (c : Fin 4) (n : Fin 16) : FVec Ideal S16x128 .bf16 :=
  piece (F := Ideal) (u ⟨n.val / 2, by omega⟩ ⟨n.val % 2, by omega⟩) (scaleRows (F := Ideal) s ![n.val / 2, 128 * c.val] (slS ⟨n.val / 2, by omega⟩ c)) ![16 * c.val, 0] (slR c)

theorem rhs_eq (s : Vec Ideal S8x512 .i8) (u : Fin 8 → Fin 2 → Vec Ideal S1x32x128 .i8) :
    rhs (F := Ideal) s u = concatenate S256x512 1 (List.ofFn fun c : Fin 4 => (⟨S256x128, concatenate S256x128 0 (List.ofFn fun n : Fin 16 => (⟨S16x128, quarter s u c n⟩ : (s : Shape) × (s.Idx → EReal)))
      concatenates_S16x128_S16x128_S16x128_S16x128_S16x128_S16x128_S16x128_S16x128_S16x128_S16x128_S16x128_S16x128_S16x128_S16x128_S16x128_S16x128_S256x128_d0⟩ : (s : Shape) × (s.Idx → EReal)))
      concatenates_S256x128_S256x128_S256x128_S256x128_S256x512_d1 := rfl

/-- The weight in row `r` and a column of a chunk. -/
theorem rhs_apply (s : Vec Ideal S8x512 .i8) (u : Fin 8 → Fin 2 → Vec Ideal S1x32x128 .i8) (j : S256x512.Idx)
    (b : Fin 8) (h : Fin 2) (hb : b.val = (j 0).val / 32) (hh : h.val = (j 0).val / 16 % 2)
    (k : S1x32x128.Idx) (k1 : (k 1).val = 8 * ((j 1).val / 128) + (j 0).val % 16 / 2) (k2 : (k 2).val = (j 1).val % 128)
    (i : S8x512.Idx) (i0 : (i 0).val = (j 0).val / 32) (i1 : (i 1).val = (j 1).val)
    (hs : 1 ≤ (s i : BitVec 8).toNat ∧ (s i : BitVec 8).toNat ≤ 254) :
    rhs (F := Ideal) s u j = dec (u b h k) ((j 0).val % 2) * scl (s i) := by
  have j0 : (j 0).val < 256 := (j 0).isLt
  have j1 : (j 1).val < 512 := (j 1).isLt
  rw [rhs_eq]
  refine (concatenate_ofFn_apply (s₁ := S256x128) (t := S256x512) 1 _ _ rfl 128 rfl j ⟨(j 1).val / 128, by omega⟩ rfl
    (ix2 ⟨(j 0).val, j0⟩ ⟨(j 1).val % 128, by omega⟩ : S256x128.Idx) rfl (fun a ha => ?_)).trans ?_
  · match a with
    | 0 => rfl
    | 1 => exact absurd rfl ha
  refine (concatenate_ofFn_apply (s₁ := S16x128) (t := S256x128) 0 _ _ rfl 16 rfl _ ⟨(j 0).val / 16, by omega⟩ rfl
    (ix2 ⟨(j 0).val % 16, by omega⟩ ⟨(j 1).val % 128, by omega⟩ : S16x128.Idx) rfl (fun a ha => ?_)).trans ?_
  · match a with
    | 0 => exact absurd rfl ha
    | 1 => rfl
  unfold quarter
  refine (piece_apply _ _ _ _ _ rfl (by show 16 * _ % 2 = 0; omega) k (by
    rw [k1]; show _ = (16 * ((j 1).val / 128) + (j 0).val % 16) / 2; omega) k2).trans ?_
  have eb : (⟨(j 0).val / 16 / 2, by omega⟩ : Fin 8) = b := Fin.ext (by show (j 0).val / 16 / 2 = b.val; omega)
  have eh : (⟨(j 0).val / 16 % 2, by omega⟩ : Fin 2) = h := Fin.ext hh.symm
  have es := scaleRows_apply s ![(j 0).val / 16 / 2, 128 * ((j 1).val / 128)] (slS ⟨(j 0).val / 16 / 2, by omega⟩ ⟨(j 1).val / 128, by omega⟩)
    (ix2 ⟨(j 0).val % 16, by omega⟩ ⟨(j 1).val % 128, by omega⟩ : S16x128.Idx) i (by rw [i0]; show _ = (j 0).val / 16 / 2; omega)
    (by rw [i1]; show _ = 128 * ((j 1).val / 128) + (j 1).val % 128; omega) hs
  refine congrArg₂ (fun a b : EReal => a * b) ?_ es
  show dec (u ⟨(j 0).val / 16 / 2, _⟩ ⟨(j 0).val / 16 % 2, _⟩ k) ((j 0).val % 16 % 2) = _
  rw [eb, eh]
  refine congrArg (dec _) ?_
  omega

/-- The weight that one output column has in row `d`: a code's value times its block's scale. -/
def wt (C : ℕ → ℕ → BitVec 8) (S : ℕ → BitVec 8) (d : ℕ) : EReal := dec (C (d / 32) (d % 32 / 2)) (d % 2) * scl (S (d / 32))

/-- A chunk at one entry: 256 more terms of the product. -/
theorem chunk_apply (X : ℕ → ℕ → EReal) (G : ℕ → ℕ → ℕ → BitVec 8) (S : ℕ → ℕ → BitVec 8) (hS : ∀ o b, 1 ≤ (S o b).toNat ∧ (S o b).toNat ≤ 254) (g k : ℕ)
    (x : FVec Ideal S8x256 .bf16) (hx : ∀ i : S8x256.Idx, x i = X (i 0).val (256 * k + (i 1).val))
    (s : Vec Ideal S8x512 .i8) (hs : ∀ i : S8x512.Idx, (s i : BitVec 8) = S (512 * g + (i 1).val) (8 * k + (i 0).val))
    (u : Fin 8 → Fin 2 → Vec Ideal S1x32x128 .i8)
    (hu : ∀ b h (i : S1x32x128.Idx), (u b h i : BitVec 8) = G (512 * g + 128 * ((i 1).val / 8) + (i 2).val) (8 * k + b.val) (8 * h.val + (i 1).val % 8))
    (acc : FVec Ideal S8x512 .f32) (j : S8x512.Idx) :
    (chunk (F := Ideal) x s u acc j : EReal) = (acc j : EReal) + ∑ d ∈ Finset.range 256, X (j 0).val (256 * k + d) * wt (G (512 * g + (j 1).val)) (S (512 * g + (j 1).val)) (256 * k + d) := by
  have j0 : (j 0).val < 8 := (j 0).isLt
  have j1 : (j 1).val < 512 := (j 1).isLt
  refine congrArg (fun a : EReal => (acc j : EReal) + a) ?_
  have e := Ideal.matmul_plain_apply (M := 8) (K := 256) (N := 512) none x (rhs (F := Ideal) s u) (constant S8x512 .f32 0x00000000#32) ⟨(j 0).val, j0⟩ ⟨(j 1).val, j1⟩
  have ej : (ix2 ⟨(j 0).val, j0⟩ ⟨(j 1).val, j1⟩ : S8x512.Idx) = j := funext fun a => by
    match a with
    | 0 => rfl
    | 1 => rfl
  rw [Finset.sum_range]
  refine Eq.trans (Eq.trans ?_ e) ?_
  · exact congrArg (FloatOps.matmul (F := Ideal) (DotDims.plain 8 256 512) none x (rhs (F := Ideal) s u) (constant S8x512 .f32 0x00000000#32)) ej.symm
  rw [show (constant (F := Ideal) S8x512 .f32 0x00000000#32 (ix2 ⟨(j 0).val, j0⟩ ⟨(j 1).val, j1⟩) : EReal) = 0 from ofBits_zero, zero_add]
  refine Finset.sum_congr rfl fun d _ => ?_
  have hd := d.isLt
  rw [hx]
  refine congrArg (fun a : EReal => X (j 0).val (256 * k + d.val) * a) ?_
  refine (rhs_apply s u (ix2 d ⟨(j 1).val, j1⟩) ⟨d.val / 32, by omega⟩ ⟨d.val / 16 % 2, by omega⟩ rfl rfl
    (ix3 ⟨0, by omega⟩ ⟨8 * ((j 1).val / 128) + d.val % 16 / 2, by omega⟩ ⟨(j 1).val % 128, by omega⟩) rfl rfl
    (ix2 ⟨d.val / 32, by omega⟩ ⟨(j 1).val, j1⟩) rfl rfl (by rw [hs]; exact hS _ _)).trans ?_
  rw [hs, hu]
  unfold wt
  show dec (G (512 * g + 128 * ((8 * ((j 1).val / 128) + d.val % 16 / 2) / 8) + (j 1).val % 128) (8 * k + d.val / 32) (8 * (d.val / 16 % 2) + (8 * ((j 1).val / 128) + d.val % 16 / 2) % 8)) (d.val % 2)
    * scl (S (512 * g + (j 1).val) (8 * k + d.val / 32)) = _
  rw [show 512 * g + 128 * ((8 * ((j 1).val / 128) + d.val % 16 / 2) / 8) + (j 1).val % 128 = 512 * g + (j 1).val by omega,
    show 8 * k + d.val / 32 = (256 * k + d.val) / 32 by omega,
    show 8 * (d.val / 16 % 2) + (8 * ((j 1).val / 128) + d.val % 16 / 2) % 8 = (256 * k + d.val) % 32 / 2 by omega,
    show d.val % 2 = (256 * k + d.val) % 2 by omega]

end Cert.Value
-- ==== Proof.Value.Net.lean ====
/- One expert's network at the ideal instance: the two products as sums, the hidden activation, and what the
   accumulator gains from a routed expert. -/
module

public import proofs.«01_k».proof.Proof.KernelIdeal.Flow
public import proofs.«01_k».proof.Proof.KernelIdeal.List
public import proofs.«01_k».proof.Proof.Value.Chunk

@[expose] public section

set_option maxRecDepth 16384
set_option maxHeartbeats 1000000

noncomputable section

namespace Cert.Value

open Idealize.ShloMosaic Cert.KernelIdeal Cert.KernelIdeal.Gen Cert.KernelIdeal.Hand
open Idealize.ShloMosaic.ValueIdx Idealize.ShloMosaic.VecWindow

/-- The scale bytes that stand for a power of two. -/
def Scales (S : ℕ → ℕ → BitVec 8) : Prop := ∀ o b, 1 ≤ (S o b).toNat ∧ (S o b).toNat ≤ 254

/-! ## What the kernel's arrays hold, as functions of the output column, the block and the byte in it -/

/-- The gate/up codes of an expert, `c`, are the relayout of `G` (column, block, byte). -/
def GuCodes (c : Vec Ideal S384x32x128 .i8) (G : ℕ → ℕ → ℕ → BitVec 8) : Prop :=
  ∀ i : S384x32x128.Idx, (c i : BitVec 8) = G (512 * ((i 0).val % 3) + 128 * ((i 1).val / 8) + (i 2).val) ((i 0).val / 6) (8 * ((i 0).val / 3 % 2) + (i 1).val % 8)
/-- The gate/up scales, `s`, are the transpose of `S` (column, block). -/
def GuScales (s : Vec Ideal S64x1536 .i8) (S : ℕ → ℕ → BitVec 8) : Prop := ∀ i : S64x1536.Idx, (s i : BitVec 8) = S (i 1).val (i 0).val
/-- The down codes of an expert, `c`, are the relayout of `G`. -/
def DnCodes (c : Vec Ideal S192x32x128 .i8) (G : ℕ → ℕ → ℕ → BitVec 8) : Prop :=
  ∀ i : S192x32x128.Idx, (c i : BitVec 8) = G (512 * ((i 0).val % 4) + 128 * ((i 1).val / 8) + (i 2).val) ((i 0).val / 8) (8 * ((i 0).val / 4 % 2) + (i 1).val % 8)
/-- The down scales, `s`, are the transpose of `S`. -/
def DnScales (s : Vec Ideal S24x2048 .i8) (S : ℕ → ℕ → BitVec 8) : Prop := ∀ i : S24x2048.Idx, (s i : BitVec 8) = S (i 1).val (i 0).val

/-- `n` terms of one entry of a product with packed weights. -/
def prodTo (X : ℕ → ℕ → EReal) (G : ℕ → ℕ → ℕ → BitVec 8) (S : ℕ → ℕ → BitVec 8) (t o n : ℕ) : EReal := ∑ d ∈ Finset.range n, X t d * wt (G o) (S o) d

/-- The product over the inputs so far and over the next 256. -/
theorem prodTo_add (X : ℕ → ℕ → EReal) (G : ℕ → ℕ → ℕ → BitVec 8) (S : ℕ → ℕ → BitVec 8) (t o k : ℕ) :
    prodTo X G S t o (256 * k) + ∑ d ∈ Finset.range 256, X t (256 * k + d) * wt (G o) (S o) (256 * k + d) = prodTo X G S t o (256 * (k + 1)) := by
  unfold prodTo
  rw [Nat.mul_succ, Finset.sum_range_add]

/-- The gate/up accumulator after some chunks is the sum over their blocks. -/
theorem guState_apply {x : Vec Ideal S8x2048 .bf16} {c : Vec Ideal S384x32x128 .i8} {s : Vec Ideal S64x1536 .i8}
    {X : ℕ → ℕ → EReal} {G : ℕ → ℕ → ℕ → BitVec 8} {S : ℕ → ℕ → BitVec 8} (hS : Scales S) (hx : ∀ i : S8x2048.Idx, (x i : EReal) = X (i 0).val (i 1).val)
    (hc : GuCodes c G) (hs : GuScales s S) (g : ℕ) (hg : g < 3) : ∀ (k : ℕ) (_ : k ≤ 8) (j : S8x512.Idx),
      (guState (F := Ideal) x c s g hg k j : EReal) = prodTo X G S (j 0).val (512 * g + (j 1).val) (256 * k)
  | 0, _, j => by
    show Ideal.ofBits .f32 0x00000000#32 = _
    rw [ofBits_zero]; unfold prodTo; rw [Nat.mul_zero, Finset.sum_range_zero]
  | k + 1, hk, j => by
    rw [guState_succ _ _ _ _ _ k hk]
    unfold guChunk
    rw [chunk_apply X G S hS g k]
    · rw [guState_apply hS hx hc hs g hg k (by omega) j]
      exact prodTo_add X G S _ _ k
    · intro i
      have i0 : (i 0).val < 8 := (i 0).isLt
      refine (shapeCast_apply _ _ i i rfl).trans ?_
      unfold window
      rw [hx]
      show X (0 + 1 * (i 0).val) (256 * k + 1 * (i 1).val) = _
      rw [Nat.zero_add, Nat.one_mul, Nat.one_mul]
    · intro i
      unfold window
      rw [hs]
      show S (512 * g + 1 * (i 1).val) (8 * k + 1 * (i 0).val) = _
      rw [Nat.one_mul, Nat.one_mul]
    · intro b h i
      have hb := b.isLt
      have hh := h.isLt
      have i0 : (i 0).val < 1 := (i 0).isLt
      unfold window
      rw [hc]
      show G (512 * ((((k * 8 + b.val) * 2 + h.val) * 3 + g + 1 * (i 0).val) % 3) + 128 * ((0 + 1 * (i 1).val) / 8) + (0 + 1 * (i 2).val)) ((((k * 8 + b.val) * 2 + h.val) * 3 + g + 1 * (i 0).val) / 6)
        (8 * ((((k * 8 + b.val) * 2 + h.val) * 3 + g + 1 * (i 0).val) / 3 % 2) + (0 + 1 * (i 1).val) % 8) = _
      rw [show (((k * 8 + b.val) * 2 + h.val) * 3 + g + 1 * (i 0).val) % 3 = g by omega,
        show (((k * 8 + b.val) * 2 + h.val) * 3 + g + 1 * (i 0).val) / 6 = 8 * k + b.val by omega,
        show (((k * 8 + b.val) * 2 + h.val) * 3 + g + 1 * (i 0).val) / 3 % 2 = h.val by omega, Nat.zero_add, Nat.one_mul, Nat.zero_add, Nat.one_mul]

/-- The down accumulator after some chunks is the sum over their blocks. -/
theorem dnState_apply {x : Vec Ideal S8x768 .bf16} {c : Vec Ideal S192x32x128 .i8} {s : Vec Ideal S24x2048 .i8}
    {X : ℕ → ℕ → EReal} {G : ℕ → ℕ → ℕ → BitVec 8} {S : ℕ → ℕ → BitVec 8} (hS : Scales S) (hx : ∀ i : S8x768.Idx, (x i : EReal) = X (i 0).val (i 1).val)
    (hc : DnCodes c G) (hs : DnScales s S) (g : ℕ) (hg : g < 4) : ∀ (k : ℕ) (_ : k ≤ 3) (j : S8x512.Idx),
      (dnState (F := Ideal) x c s g hg k j : EReal) = prodTo X G S (j 0).val (512 * g + (j 1).val) (256 * k)
  | 0, _, j => by
    show Ideal.ofBits .f32 0x00000000#32 = _
    rw [ofBits_zero]; unfold prodTo; rw [Nat.mul_zero, Finset.sum_range_zero]
  | k + 1, hk, j => by
    rw [dnState_succ _ _ _ _ _ k hk]
    unfold dnChunk
    rw [chunk_apply X G S hS g k]
    · rw [dnState_apply hS hx hc hs g hg k (by omega) j]
      exact prodTo_add X G S _ _ k
    · intro i
      have i0 : (i 0).val < 8 := (i 0).isLt
      unfold window
      rw [hx]
      show X (0 + 1 * (i 0).val) (256 * k + 1 * (i 1).val) = _
      rw [Nat.zero_add, Nat.one_mul, Nat.one_mul]
    · intro i
      unfold window
      rw [hs]
      show S (512 * g + 1 * (i 1).val) (8 * k + 1 * (i 0).val) = _
      rw [Nat.one_mul, Nat.one_mul]
    · intro b h i
      have hb := b.isLt
      have hh := h.isLt
      have i0 : (i 0).val < 1 := (i 0).isLt
      unfold window
      rw [hc]
      show G (512 * ((((k * 8 + b.val) * 2 + h.val) * 4 + g + 1 * (i 0).val) % 4) + 128 * ((0 + 1 * (i 1).val) / 8) + (0 + 1 * (i 2).val)) ((((k * 8 + b.val) * 2 + h.val) * 4 + g + 1 * (i 0).val) / 8)
        (8 * ((((k * 8 + b.val) * 2 + h.val) * 4 + g + 1 * (i 0).val) / 4 % 2) + (0 + 1 * (i 1).val) % 8) = _
      rw [show (((k * 8 + b.val) * 2 + h.val) * 4 + g + 1 * (i 0).val) % 4 = g by omega,
        show (((k * 8 + b.val) * 2 + h.val) * 4 + g + 1 * (i 0).val) / 8 = 8 * k + b.val by omega,
        show (((k * 8 + b.val) * 2 + h.val) * 4 + g + 1 * (i 0).val) / 4 % 2 = h.val by omega, Nat.zero_add, Nat.one_mul, Nat.zero_add, Nat.one_mul]

/-! ## Tiles put side by side -/

theorem put_inside {N : ℕ} {α : Type} (v : (⟨2, ![8, N]⟩ : Shape).Idx → α) (g : ℕ) (w : S8x512.Idx → α) (i : (⟨2, ![8, N]⟩ : Shape).Idx)
    (h : 512 * g ≤ (i 1).val ∧ (i 1).val < 512 * g + 512) (j : S8x512.Idx) (j0 : (j 0).val = (i 0).val) (j1 : (j 1).val = (i 1).val - 512 * g) :
    put v ![0, 512 * g] S8x512.size w i = w j := by
  have i0 : (i 0).val < 8 := (i 0).isLt
  unfold put
  rw [dif_pos (Fin.forall_fin_two.mpr ⟨⟨Nat.zero_le _, by show _ < 0 + 8; omega⟩, h⟩)]
  refine congrArg w (funext fun a => Fin.ext ?_)
  match a with
  | 0 => show (i 0).val - 0 = (j 0).val; omega
  | 1 => show (i 1).val - 512 * g = (j 1).val; omega

theorem put_outside {N : ℕ} {α : Type} (v : (⟨2, ![8, N]⟩ : Shape).Idx → α) (g : ℕ) (w : S8x512.Idx → α) (i : (⟨2, ![8, N]⟩ : Shape).Idx)
    (h : ¬ (512 * g ≤ (i 1).val ∧ (i 1).val < 512 * g + 512)) :
    put v ![0, 512 * g] S8x512.size w i = v i := by
  unfold put
  exact dif_neg fun hall => h (hall 1)

/-- The gate/up buffer after some groups holds the product in their columns. -/
theorem guBuf_apply {x : Vec Ideal S8x2048 .bf16} {c : Vec Ideal S384x32x128 .i8} {s : Vec Ideal S64x1536 .i8}
    {X : ℕ → ℕ → EReal} {G : ℕ → ℕ → ℕ → BitVec 8} {S : ℕ → ℕ → BitVec 8} (hS : Scales S) (hx : ∀ i : S8x2048.Idx, (x i : EReal) = X (i 0).val (i 1).val)
    (hc : GuCodes c G) (hs : GuScales s S) (v : Vec Ideal S8x1536 .f32) : ∀ (g : ℕ) (_ : g ≤ 3) (i : S8x1536.Idx) (_ : (i 1).val < 512 * g),
      (guBuf (F := Ideal) x c s v g i : EReal) = prodTo X G S (i 0).val (i 1).val 2048
  | 0, _, i, h => absurd h (by omega)
  | g + 1, hg, i, h => by
    have i0 : (i 0).val < 8 := (i 0).isLt
    rw [guBuf_succ _ _ _ _ g hg]
    by_cases hin : 512 * g ≤ (i 1).val
    · refine (put_inside _ g _ i ⟨hin, by omega⟩ (ValueIdx.ix2 ⟨(i 0).val, i0⟩ ⟨(i 1).val - 512 * g, by omega⟩) rfl rfl).trans ?_
      rw [guState_apply hS hx hc hs g hg 8 le_rfl]
      show prodTo X G S (i 0).val (512 * g + ((i 1).val - 512 * g)) (256 * 8) = _
      rw [Nat.add_sub_cancel' hin]
    · rw [put_outside _ g _ i (fun h' => hin h'.1)]
      exact guBuf_apply hS hx hc hs v g (by omega) i (by omega)

/-- The accumulator after some groups of the shared expert. -/
theorem shBuf_apply {x : Vec Ideal S8x768 .bf16} {c : Vec Ideal S192x32x128 .i8} {s : Vec Ideal S24x2048 .i8}
    {X : ℕ → ℕ → EReal} {G : ℕ → ℕ → ℕ → BitVec 8} {S : ℕ → ℕ → BitVec 8} (hS : Scales S) (hx : ∀ i : S8x768.Idx, (x i : EReal) = X (i 0).val (i 1).val)
    (hc : DnCodes c G) (hs : DnScales s S) (v : Vec Ideal S8x2048 .f32) : ∀ (g : ℕ) (_ : g ≤ 4) (i : S8x2048.Idx) (_ : (i 1).val < 512 * g),
      (shBuf (F := Ideal) x c s v g i : EReal) = prodTo X G S (i 0).val (i 1).val 768
  | 0, _, i, h => absurd h (by omega)
  | g + 1, hg, i, h => by
    have i0 : (i 0).val < 8 := (i 0).isLt
    rw [shBuf_succ _ _ _ _ g hg]
    by_cases hin : 512 * g ≤ (i 1).val
    · refine (put_inside _ g _ i ⟨hin, by omega⟩ (ValueIdx.ix2 ⟨(i 0).val, i0⟩ ⟨(i 1).val - 512 * g, by omega⟩) rfl rfl).trans ?_
      rw [dnState_apply hS hx hc hs g hg 3 le_rfl]
      show prodTo X G S (i 0).val (512 * g + ((i 1).val - 512 * g)) (256 * 3) = _
      rw [Nat.add_sub_cancel' hin]
    · rw [put_outside _ g _ i (fun h' => hin h'.1)]
      exact shBuf_apply hS hx hc hs v g (by omega) i (by omega)

/-- What a routed expert adds at one entry. -/
def gain (w : FVec Ideal S8x1 .f32) (on : IVec S8x1 1) (t : Fin 8) (y : EReal) : EReal :=
  Scalar.select (on (ValueIdx.ix2 t ⟨0, Nat.one_pos⟩)) (y * (w (ValueIdx.ix2 t ⟨0, Nat.one_pos⟩) : EReal)) 0

theorem pay10_apply (w : FVec Ideal S8x1 .f32) (on : IVec S8x1 1) (y old : FVec Ideal S8x512 .f32) (j : S8x512.Idx) (t : Fin 8) (ht : t.val = (j 0).val) :
    (k0_pay10 (F := Ideal) w on y old j : EReal) = (old j : EReal) + gain w on t (y j) := by
  have e1 : broadcastTo S8x512 w broadcasts_S8x1_S8x512 j = w (ValueIdx.ix2 t ⟨0, Nat.one_pos⟩) :=
    broadcastTo_apply _ _ _ _ (fun a => by
      match a with
      | 0 => exact ht
      | 1 => rfl)
  have e2 : broadcastTo S8x512 (shapeCast S8x1 on shapeCasts_S8x1_S8x1) broadcasts_S8x1_S8x512 j = on (ValueIdx.ix2 t ⟨0, Nat.one_pos⟩) :=
    (broadcastTo_apply _ _ _ (ValueIdx.ix2 t ⟨0, Nat.one_pos⟩ : S8x1.Idx) (fun a => by
      match a with
      | 0 => exact ht
      | 1 => rfl)).trans (shapeCast_apply _ _ _ _ rfl)
  unfold k0_pay10 gain
  refine (shapeCast_apply _ _ j j rfl).trans ?_
  rw [← e1, ← e2, ← ofBits_zero]
  rfl

/-- The accumulator after some groups of a routed expert. -/
theorem rtBuf_apply {x : Vec Ideal S8x768 .bf16} {c : Vec Ideal S192x32x128 .i8} {s : Vec Ideal S24x2048 .i8}
    {X : ℕ → ℕ → EReal} {G : ℕ → ℕ → ℕ → BitVec 8} {S : ℕ → ℕ → BitVec 8} (hS : Scales S) (hx : ∀ i : S8x768.Idx, (x i : EReal) = X (i 0).val (i 1).val)
    (hc : DnCodes c G) (hs : DnScales s S) (w : FVec Ideal S8x1 .f32) (on : IVec S8x1 1) (v : Vec Ideal S8x2048 .f32) : ∀ (g : ℕ) (_ : g ≤ 4) (i : S8x2048.Idx),
      (rtBuf (F := Ideal) w on x c s v g i : EReal) = if (i 1).val < 512 * g then (v i : EReal) + gain w on ⟨(i 0).val, (i 0).isLt⟩ (prodTo X G S (i 0).val (i 1).val 768) else v i
  | 0, _, i => by rw [if_neg (by omega)]; rfl
  | g + 1, hg, i => by
    have i0 : (i 0).val < 8 := (i 0).isLt
    have ih := rtBuf_apply hS hx hc hs w on v g (by omega)
    rw [rtBuf_succ _ _ _ _ _ _ g hg]
    by_cases hin : 512 * g ≤ (i 1).val ∧ (i 1).val < 512 * g + 512
    · rw [if_pos (by omega)]
      refine (put_inside _ g _ i hin (ValueIdx.ix2 ⟨(i 0).val, i0⟩ ⟨(i 1).val - 512 * g, by omega⟩) rfl rfl).trans ?_
      rw [pay10_apply _ _ _ _ _ ⟨(i 0).val, i0⟩ rfl, dnState_apply hS hx hc hs g hg 3 le_rfl]
      have ew : (window (rtBuf (F := Ideal) w on x c s v g) ![0, 512 * g] S8x512.size (aw_inb g hg) (ValueIdx.ix2 ⟨(i 0).val, i0⟩ ⟨(i 1).val - 512 * g, by omega⟩) : EReal) = v i := by
        unfold window
        have ei : (Rect.unit (s := S8x2048) ![0, 512 * g] S8x512.size (aw_inb g hg)).emb (ValueIdx.ix2 ⟨(i 0).val, i0⟩ ⟨(i 1).val - 512 * g, by omega⟩) = i := funext fun a => Fin.ext (by
          match a with
          | 0 => show 0 + 1 * (i 0).val = (i 0).val; omega
          | 1 => show 512 * g + 1 * ((i 1).val - 512 * g) = (i 1).val; omega)
        rw [ei, ih i, if_neg (by omega)]
      rw [ew]
      show (v i : EReal) + gain w on ⟨(i 0).val, i0⟩ (prodTo X G S (i 0).val (512 * g + ((i 1).val - 512 * g)) (256 * 3)) = _
      rw [Nat.add_sub_cancel' hin.1]
    · rw [put_outside _ g _ i hin, ih i]
      by_cases h : (i 1).val < 512 * g
      · rw [if_pos h, if_pos (by omega)]
      · rw [if_neg h, if_neg (by omega)]

/-! ## The activation -/

/-- The hidden activation of one row, from its gate and up products. -/
def hid (U : ℕ → EReal) (f : ℕ) : EReal := U f * Ideal.logistic (U f) * U (768 + f)

theorem pay4_apply (v : Vec Ideal S8x1536 .f32) (U : ℕ → ℕ → EReal) (hv : ∀ i : S8x1536.Idx, (v i : EReal) = U (i 0).val (i 1).val) (j : S8x768.Idx) :
    (k0_pay4 (F := Ideal) v j : EReal) = hid (U (j 0).val) (j 1).val := by
  have j0 : (j 0).val < 8 := (j 0).isLt
  have j1 : (j 1).val < 768 := (j 1).isLt
  have e1 : (extractStridedSlice S8x768 ![0, 0] v slices_S8x1536_o0_0_S8x768 j : EReal) = U (j 0).val (j 1).val :=
    (extractStridedSlice_apply ![0, 0] v _ j (ValueIdx.ix2 ⟨(j 0).val, j0⟩ ⟨(j 1).val, by omega⟩ : S8x1536.Idx) (fun a => by
      match a with
      | 0 => show (j 0).val = 0 + (j 0).val; omega
      | 1 => show (j 1).val = 0 + (j 1).val; omega)).trans (hv _)
  have e2 : (extractStridedSlice S8x768 ![0, 768] v slices_S8x1536_o0_768_S8x768 j : EReal) = U (j 0).val (768 + (j 1).val) :=
    (extractStridedSlice_apply ![0, 768] v _ j (ValueIdx.ix2 ⟨(j 0).val, j0⟩ ⟨768 + (j 1).val, by omega⟩ : S8x1536.Idx) (fun a => by
      match a with
      | 0 => show (j 0).val = 0 + (j 0).val; omega
      | 1 => rfl)).trans (hv _)
  unfold k0_pay4 hid
  refine (shapeCast_apply _ _ j j rfl).trans ?_
  rw [← e1, ← e2]
  rfl

theorem pay547_apply (v : Vec Ideal S8x1536 .f32) (U : ℕ → ℕ → EReal) (hv : ∀ i : S8x1536.Idx, (v i : EReal) = U (i 0).val (i 1).val) (j : S8x768.Idx) :
    (k0_pay547 (F := Ideal) v j : EReal) = hid (U (j 0).val) (j 1).val := pay4_apply v U hv j

/-- One expert's output in row `t` and column `n`. -/
def ffn (X : ℕ → ℕ → EReal) (G : ℕ → ℕ → ℕ → BitVec 8) (S : ℕ → ℕ → BitVec 8) (D : ℕ → ℕ → ℕ → BitVec 8) (T : ℕ → ℕ → BitVec 8) (t n : ℕ) : EReal :=
  prodTo (fun t => hid (fun o => prodTo X G S t o 2048)) D T t n 768

/-- The gate/up product of an expert. -/
theorem guOf_apply {x : Vec Ideal S8x2048 .bf16} {c : Vec Ideal S384x32x128 .i8} {s : Vec Ideal S64x1536 .i8}
    {X : ℕ → ℕ → EReal} {G : ℕ → ℕ → ℕ → BitVec 8} {S : ℕ → ℕ → BitVec 8} (hS : Scales S) (hx : ∀ i : S8x2048.Idx, (x i : EReal) = X (i 0).val (i 1).val)
    (hc : GuCodes c G) (hs : GuScales s S) (i : S8x1536.Idx) : (guOf (F := Ideal) x c s i : EReal) = prodTo X G S (i 0).val (i 1).val 2048 :=
  guBuf_apply hS hx hc hs _ 3 le_rfl i (i 1).isLt

/-- The shared expert's net. -/
theorem shOf_apply {x : Vec Ideal S8x2048 .bf16} {c : Vec Ideal S384x32x128 .i8} {s : Vec Ideal S64x1536 .i8} {c' : Vec Ideal S192x32x128 .i8} {s' : Vec Ideal S24x2048 .i8}
    {X : ℕ → ℕ → EReal} {G : ℕ → ℕ → ℕ → BitVec 8} {S : ℕ → ℕ → BitVec 8} {D : ℕ → ℕ → ℕ → BitVec 8} {T : ℕ → ℕ → BitVec 8} (hS : Scales S) (hT : Scales T)
    (hx : ∀ i : S8x2048.Idx, (x i : EReal) = X (i 0).val (i 1).val) (hc : GuCodes c G) (hs : GuScales s S) (hd : DnCodes c' D) (ht : DnScales s' T) (i : S8x2048.Idx) :
    (shOf (F := Ideal) (k0_pay4 (F := Ideal) (guOf (F := Ideal) x c s)) c' s' i : EReal) = ffn X G S D T (i 0).val (i 1).val :=
  shBuf_apply hT (fun j => pay4_apply _ (fun t o => prodTo X G S t o 2048) (guOf_apply hS hx hc hs) j) hd ht _ 4 le_rfl i (i 1).isLt

/-! ## The routing words -/

theorem pay541_apply (ids : Vec Ideal S8x8 .i32) (e : BitVec 32) (i : S8x8.Idx) :
    k0_pay541 (F := Ideal) ids e i = if (ids i : BitVec 32) = e then 1#1 else 0#1 := by
  have e1 : (shapeCast S8x8 ids shapeCasts_S8x8_S8x8 i : BitVec 32) = ids i := shapeCast_apply _ _ i i rfl
  show IntOp.cmpi .eq (shapeCast S8x8 ids shapeCasts_S8x8_S8x8 i) e = _
  rw [e1]
  by_cases h : (ids i : BitVec 32) = e
  · rw [if_pos h, h]; show BitVec.ofBool (e == e) = _; simp
  · rw [if_neg h]; show BitVec.ofBool ((ids i : BitVec 32) == e) = _; rw [beq_eq_false_iff_ne.mpr h]; rfl

theorem pay542_apply (ids : Vec Ideal S8x8 .i32) (e : BitVec 32) (ew : Vec Ideal S8x8 .f32) (t : Fin 8) :
    (k0_pay542 (F := Ideal) ids e ew (ValueIdx.ix2 t ⟨0, Nat.one_pos⟩) : EReal) = ∑ k : Fin 8, if (ids (ValueIdx.ix2 t k) : BitVec 32) = e then (ew (ValueIdx.ix2 t k) : EReal) else 0 := by
  unfold k0_pay542
  refine (shapeCast_apply _ _ _ (ValueIdx.ix1 t : S8.Idx) ?_).trans ?_
  · rw [Shape.rowMajor_val_one, Shape.rowMajor_val_two]
    show t.val = t.val * 1 + 0
    omega
  refine (Ideal.multiReduction_add_single _ _ reduces_S8x8_S8 _ _ _).trans (Finset.sum_congr rfl fun k _ => ?_)
  have el : reduces_S8x8_S8.lift (ValueIdx.ix1 t : S8.Idx) k = (ValueIdx.ix2 t k : S8x8.Idx) := funext fun a => Fin.ext (by
    match a with
    | 0 => rfl
    | 1 => rfl)
  rw [el]
  have e1 : (shapeCast S8x8 ew shapeCasts_S8x8_S8x8 (ValueIdx.ix2 t k) : EReal) = ew (ValueIdx.ix2 t k) := shapeCast_apply _ _ _ _ rfl
  show Scalar.select (k0_pay541 (F := Ideal) ids e (ValueIdx.ix2 t k)) (shapeCast S8x8 ew shapeCasts_S8x8_S8x8 (ValueIdx.ix2 t k) : EReal) (Ideal.ofBits .f32 0x00000000#32) = _
  rw [e1, pay541_apply, ofBits_zero]
  by_cases h : (ids (ValueIdx.ix2 t k) : BitVec 32) = e
  · rw [if_pos h, if_pos h, select_one]
  · rw [if_neg h, if_neg h, select_zero]

theorem pay543_apply (ids : Vec Ideal S8x8 .i32) (e : BitVec 32) (t : Fin 8) :
    k0_pay543 (F := Ideal) ids e (ValueIdx.ix2 t ⟨0, Nat.one_pos⟩) = if ∃ k : Fin 8, (ids (ValueIdx.ix2 t k) : BitVec 32) = e then 1#1 else 0#1 := by
  have hf : ∀ k : Fin 8, (sitofp (F := Ideal) .f32 (extui 32 (k0_pay541 (F := Ideal) ids e) natLt_1_32) (ValueIdx.ix2 t k) : EReal) = if (ids (ValueIdx.ix2 t k) : BitVec 32) = e then 1 else 0 := fun k => by
    show ((((BitVec.setWidth 32 (k0_pay541 (F := Ideal) ids e (ValueIdx.ix2 t k))).toInt : ℤ) : ℝ) : EReal) = _
    rw [pay541_apply]
    by_cases h : (ids (ValueIdx.ix2 t k) : BitVec 32) = e
    · rw [if_pos h, if_pos h, show (BitVec.setWidth 32 1#1).toInt = 1 by decide]; norm_num
    · rw [if_neg h, if_neg h, show (BitVec.setWidth 32 0#1).toInt = 0 by decide]; norm_num
  have hm : (shapeCast S8x1 (multiReduction (F := Ideal) .maximumf [1] S8 (sitofp .f32 (extui 32 (k0_pay541 (F := Ideal) ids e) natLt_1_32)) 0xFF800000#32 reduces_S8x8_S8 (.inl rfl) rfl)
      shapeCasts_S8_S8x1 (ValueIdx.ix2 t ⟨0, Nat.one_pos⟩) : EReal) = (Finset.univ : Finset (Fin 8)).fold max (Ideal.ofBits .f32 0xFF800000#32) (fun k => if (ids (ValueIdx.ix2 t k) : BitVec 32) = e then 1 else 0) := by
    refine (shapeCast_apply _ _ _ (ValueIdx.ix1 t : S8.Idx) ?_).trans ?_
    · rw [Shape.rowMajor_val_one, Shape.rowMajor_val_two]
      show t.val = t.val * 1 + 0
      omega
    refine (Ideal.multiReduction_maximumf_single _ _ reduces_S8x8_S8 _ _ _).trans ?_
    refine congrArg (fun f => (Finset.univ : Finset (Fin 8)).fold max (Ideal.ofBits .f32 0xFF800000#32) f) (funext fun k => ?_)
    have el : reduces_S8x8_S8.lift (ValueIdx.ix1 t : S8.Idx) k = (ValueIdx.ix2 t k : S8x8.Idx) := funext fun a => Fin.ext (by
      match a with
      | 0 => rfl
      | 1 => rfl)
    exact (congrArg (sitofp (F := Ideal) .f32 (extui 32 (k0_pay541 (F := Ideal) ids e) natLt_1_32)) el).trans (hf k)
  show Ideal.cmp .ogt (shapeCast S8x1 (multiReduction (F := Ideal) .maximumf [1] S8 (sitofp .f32 (extui 32 (k0_pay541 (F := Ideal) ids e) natLt_1_32)) 0xFF800000#32 reduces_S8x8_S8 (.inl rfl) rfl)
      shapeCasts_S8_S8x1 (ValueIdx.ix2 t ⟨0, Nat.one_pos⟩) : EReal) (Ideal.ofBits .f32 0x00000000#32) = _
  rw [hm, ofBits_zero]
  have hn : ¬ (0 : EReal) < Ideal.ofBits .f32 0xFF800000#32 := by
    rw [show Ideal.ofBits .f32 0xFF800000#32 = ⊥ by simp [Ideal.ofBits, Ideal.ieee]]; exact not_lt_bot
  have key : (0 : EReal) < (Finset.univ : Finset (Fin 8)).fold max (Ideal.ofBits .f32 0xFF800000#32) (fun k => if (ids (ValueIdx.ix2 t k) : BitVec 32) = e then 1 else 0)
      ↔ ∃ k : Fin 8, (ids (ValueIdx.ix2 t k) : BitVec 32) = e := by
    rw [Finset.lt_fold_max]
    constructor
    · rintro (h | ⟨k, -, h⟩)
      · exact absurd h hn
      · by_cases hk : (ids (ValueIdx.ix2 t k) : BitVec 32) = e
        · exact ⟨k, hk⟩
        · rw [if_neg hk] at h; exact absurd h (lt_irrefl _)
    · rintro ⟨k, hk⟩
      exact Or.inr ⟨k, Finset.mem_univ _, by rw [if_pos hk]; exact zero_lt_one⟩
  by_cases h : ∃ k : Fin 8, (ids (ValueIdx.ix2 t k) : BitVec 32) = e
  · rw [if_pos h]
    show BitVec.ofBool (decide (_ < _)) = _
    rw [decide_eq_true (key.2 h)]; rfl
  · rw [if_neg h]
    show BitVec.ofBool (decide (_ < _)) = _
    rw [decide_eq_false (fun h' => h (key.1 h'))]; rfl

end Cert.Value
-- ==== Proof.Value.Data.lean ====
/- The arguments as functions of plain numbers, and the layer's output in terms of them. -/
module

public import proofs.«01_k».proof.Proof.Value.Net

@[expose] public section

noncomputable section

namespace Cert.Value

open Idealize.ShloMosaic

/-- Packed codes of every expert: expert, output, block, byte. -/
def codes4 {O B : ℕ} (x : (⟨4, ![64, O, B, 16]⟩ : Shape).Idx → BitVec 8) (e o b y : ℕ) : BitVec 8 :=
  if h : e < 64 ∧ o < O ∧ b < B ∧ y < 16 then x (ValueIdx.ix4 ⟨e, h.1⟩ ⟨o, h.2.1⟩ ⟨b, h.2.2.1⟩ ⟨y, h.2.2.2⟩) else 0
/-- Scales of every expert: expert, output, block. -/
def scales3 {O B : ℕ} (x : (⟨3, ![64, O, B]⟩ : Shape).Idx → BitVec 8) (e o b : ℕ) : BitVec 8 :=
  if h : e < 64 ∧ o < O ∧ b < B then x (ValueIdx.ix3 ⟨e, h.1⟩ ⟨o, h.2.1⟩ ⟨b, h.2.2⟩) else 127
/-- Packed codes of the shared expert: output, block, byte. -/
def codes3 {O B : ℕ} (x : (⟨3, ![O, B, 16]⟩ : Shape).Idx → BitVec 8) (o b y : ℕ) : BitVec 8 :=
  if h : o < O ∧ b < B ∧ y < 16 then x (ValueIdx.ix3 ⟨o, h.1⟩ ⟨b, h.2.1⟩ ⟨y, h.2.2⟩) else 0
/-- Scales of the shared expert: output, block. -/
def scales2 {O B : ℕ} (x : (⟨2, ![O, B]⟩ : Shape).Idx → BitVec 8) (o b : ℕ) : BitVec 8 :=
  if h : o < O ∧ b < B then x (ValueIdx.ix2 ⟨o, h.1⟩ ⟨b, h.2⟩) else 127
/-- The activations: token, feature. -/
def act (x : (⟨3, ![8, 1, 2048]⟩ : Shape).Idx → EReal) (t d : ℕ) : EReal :=
  if h : t < 8 ∧ d < 2048 then x (ValueIdx.ix3 ⟨t, h.1⟩ ⟨0, Nat.one_pos⟩ ⟨d, h.2⟩) else 0
/-- The expert a token's `k`-th choice names. -/
def idn (x : (⟨3, ![8, 1, 8]⟩ : Shape).Idx → BitVec 32) (t k : ℕ) : ℕ :=
  if h : t < 8 ∧ k < 8 then (x (ValueIdx.ix3 ⟨t, h.1⟩ ⟨0, Nat.one_pos⟩ ⟨k, h.2⟩)).toNat else 0
/-- The weight of a token's `k`-th choice. -/
def ewn (x : (⟨3, ![8, 1, 8]⟩ : Shape).Idx → EReal) (t k : ℕ) : EReal :=
  if h : t < 8 ∧ k < 8 then x (ValueIdx.ix3 ⟨t, h.1⟩ ⟨0, Nat.one_pos⟩ ⟨k, h.2⟩) else 0

/-- An array read at an index is its function at the index's coordinates; the same for the other arrays below. -/
theorem codes4_eq {O B : ℕ} (x : (⟨4, ![64, O, B, 16]⟩ : Shape).Idx → BitVec 8) (i : (⟨4, ![64, O, B, 16]⟩ : Shape).Idx) (e o b y : ℕ)
    (h0 : (i 0).val = e) (h1 : (i 1).val = o) (h2 : (i 2).val = b) (h3 : (i 3).val = y) : x i = codes4 x e o b y := by
  subst h0 h1 h2 h3
  unfold codes4
  rw [dif_pos ⟨(i 0).isLt, (i 1).isLt, (i 2).isLt, (i 3).isLt⟩]
  exact congrArg x (ValueIdx.eq_ix4 i)
theorem scales3_eq {O B : ℕ} (x : (⟨3, ![64, O, B]⟩ : Shape).Idx → BitVec 8) (i : (⟨3, ![64, O, B]⟩ : Shape).Idx) (e o b : ℕ)
    (h0 : (i 0).val = e) (h1 : (i 1).val = o) (h2 : (i 2).val = b) : x i = scales3 x e o b := by
  subst h0 h1 h2
  unfold scales3
  rw [dif_pos ⟨(i 0).isLt, (i 1).isLt, (i 2).isLt⟩]
  exact congrArg x (ValueIdx.eq_ix3 i)
theorem codes3_eq {O B : ℕ} (x : (⟨3, ![O, B, 16]⟩ : Shape).Idx → BitVec 8) (i : (⟨3, ![O, B, 16]⟩ : Shape).Idx) (o b y : ℕ)
    (h0 : (i 0).val = o) (h1 : (i 1).val = b) (h2 : (i 2).val = y) : x i = codes3 x o b y := by
  subst h0 h1 h2
  unfold codes3
  rw [dif_pos ⟨(i 0).isLt, (i 1).isLt, (i 2).isLt⟩]
  exact congrArg x (ValueIdx.eq_ix3 i)
theorem scales2_eq {O B : ℕ} (x : (⟨2, ![O, B]⟩ : Shape).Idx → BitVec 8) (i : (⟨2, ![O, B]⟩ : Shape).Idx) (o b : ℕ)
    (h0 : (i 0).val = o) (h1 : (i 1).val = b) : x i = scales2 x o b := by
  subst h0 h1
  unfold scales2
  rw [dif_pos ⟨(i 0).isLt, (i 1).isLt⟩]
  exact congrArg x (ValueIdx.eq_ix2 i)
/-- An index into an array whose middle axis has length one is its two outer coordinates. -/
theorem mid3 {n m : ℕ} (i : (⟨3, ![n, 1, m]⟩ : Shape).Idx) : i = ValueIdx.ix3 (i 0) ⟨0, Nat.one_pos⟩ (i 2) := by
  funext a
  match a with
  | ⟨0, _⟩ => rfl
  | ⟨1, _⟩ => exact Fin.ext (Nat.lt_one_iff.mp (i 1).isLt)
  | ⟨2, _⟩ => rfl
theorem act_eq (x : (⟨3, ![8, 1, 2048]⟩ : Shape).Idx → EReal) (i : (⟨3, ![8, 1, 2048]⟩ : Shape).Idx) (t d : ℕ) (h0 : (i 0).val = t) (h2 : (i 2).val = d) : x i = act x t d := by
  subst h0 h2
  unfold act
  rw [dif_pos ⟨(i 0).isLt, (i 2).isLt⟩]
  exact congrArg x (mid3 i)
theorem idn_eq (x : (⟨3, ![8, 1, 8]⟩ : Shape).Idx → BitVec 32) (i : (⟨3, ![8, 1, 8]⟩ : Shape).Idx) (t k : ℕ) (h0 : (i 0).val = t) (h2 : (i 2).val = k) : (x i).toNat = idn x t k := by
  subst h0 h2
  unfold idn
  rw [dif_pos ⟨(i 0).isLt, (i 2).isLt⟩]
  exact congrArg (fun j => (x j).toNat) (mid3 i)
theorem ewn_eq (x : (⟨3, ![8, 1, 8]⟩ : Shape).Idx → EReal) (i : (⟨3, ![8, 1, 8]⟩ : Shape).Idx) (t k : ℕ) (h0 : (i 0).val = t) (h2 : (i 2).val = k) : x i = ewn x t k := by
  subst h0 h2
  unfold ewn
  rw [dif_pos ⟨(i 0).isLt, (i 2).isLt⟩]
  exact congrArg x (mid3 i)

/-- The scale bytes of a routed expert lie in 1 ... 254. -/
theorem scales3_ok {O B : ℕ} (x : (⟨3, ![64, O, B]⟩ : Shape).Idx → BitVec 8) (h : ∀ i, 1 ≤ (x i).toNat ∧ (x i).toNat ≤ 254) (e : ℕ) : Scales (scales3 x e) := fun o b => by
  unfold scales3
  split
  · exact h _
  · decide
/-- The scale bytes of the shared expert lie in 1 ... 254. -/
theorem scales2_ok {O B : ℕ} (x : (⟨2, ![O, B]⟩ : Shape).Idx → BitVec 8) (h : ∀ i, 1 ≤ (x i).toNat ∧ (x i).toNat ≤ 254) : Scales (scales2 x) := fun o b => by
  unfold scales2
  split
  · exact h _
  · decide

/-- The layer's output in row `t` and column `n`: the weighted routed experts and the shared one. -/
def layer (x0 : (⟨3, ![8, 1, 2048]⟩ : Shape).Idx → EReal) (x1 : (⟨3, ![8, 1, 8]⟩ : Shape).Idx → BitVec 32) (x2 : (⟨3, ![8, 1, 8]⟩ : Shape).Idx → EReal)
    (x3 : (⟨4, ![64, 1536, 64, 16]⟩ : Shape).Idx → BitVec 8) (x4 : (⟨3, ![64, 1536, 64]⟩ : Shape).Idx → BitVec 8)
    (x5 : (⟨4, ![64, 2048, 24, 16]⟩ : Shape).Idx → BitVec 8) (x6 : (⟨3, ![64, 2048, 24]⟩ : Shape).Idx → BitVec 8)
    (x7 : (⟨3, ![1536, 64, 16]⟩ : Shape).Idx → BitVec 8) (x8 : (⟨2, ![1536, 64]⟩ : Shape).Idx → BitVec 8)
    (x9 : (⟨3, ![2048, 24, 16]⟩ : Shape).Idx → BitVec 8) (x10 : (⟨2, ![2048, 24]⟩ : Shape).Idx → BitVec 8) (t n : ℕ) : EReal :=
  (∑ k : Fin 8, ffn (act x0) (codes4 x3 (idn x1 t k.val)) (scales3 x4 (idn x1 t k.val)) (codes4 x5 (idn x1 t k.val)) (scales3 x6 (idn x1 t k.val)) t n * ewn x2 t k.val)
    + ffn (act x0) (codes3 x7) (scales2 x8) (codes3 x9) (scales2 x10) t n

/-- The even terms of a sum and its odd terms. -/
theorem sum_even_odd (f : ℕ → EReal) (n : ℕ) : (∑ k : Fin n, f (2 * k.val)) + ∑ k : Fin n, f (2 * k.val + 1) = ∑ d ∈ Finset.range (2 * n), f d := by
  rw [Fin.sum_univ_eq_sum_range (fun k => f (2 * k)) n, Fin.sum_univ_eq_sum_range (fun k => f (2 * k + 1)) n]
  induction n with
  | zero => simp
  | succ n ih =>
    rw [show 2 * (n + 1) = 2 * n + 1 + 1 by omega, Finset.sum_range_succ, Finset.sum_range_succ, Finset.sum_range_succ, Finset.sum_range_succ, ← ih]
    abel

end Cert.Value
-- ==== Proof.Value.Layout.lean ====
/- What the kernel's arrays hold, in terms of the arguments: the host's relayout read at an index. -/
module

public import proofs.«01_k».proof.Proof.KernelIdeal.Host
public import proofs.«01_k».proof.Proof.Value.Data
public import Idealize.ShloMosaic.Lib.ValueIdxRank6

@[expose] public section

set_option maxRecDepth 16384
set_option maxHeartbeats 1000000

noncomputable section

namespace Cert.Value

open Idealize.ShloMosaic Idealize.ShloMosaic.TcCoe Cert.KernelIdeal Cert.KernelIdeal.Gen Cert.KernelIdeal.Hand

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun h => match h with | ⟨0, _⟩ => a | ⟨1, _⟩ => b | ⟨2, _⟩ => c | ⟨3, _⟩ => d | ⟨4, _⟩ => e | ⟨5, _⟩ => f | ⟨6, _⟩ => g

/-- The relaid gate/up codes of the experts at an index, as the code of an expert, an output column, a block and a byte. -/
theorem gu_relayout (x : S64x1536x64x16.Idx → BitVec 8) (i : S64x384x32x128.Idx) :
    shapeCast S64x384x32x128 (transpose S64x64x2x3x4x8x128 [0, 4, 5, 1, 2, 6, 3] (shapeCast S64x3x4x128x64x2x8 x shapeCasts_S64x1536x64x16_S64x3x4x128x64x2x8) transposes_S64x3x4x128x64x2x8_S64x64x2x3x4x8x128_0_4_5_1_2_6_3) shapeCasts_S64x64x2x3x4x8x128_S64x384x32x128 i
      = codes4 x (i 0).val (512 * ((i 1).val % 3) + 128 * ((i 2).val / 8) + (i 3).val) ((i 1).val / 6) (8 * ((i 1).val / 3 % 2) + (i 2).val % 8) := by
  have h0 : (i 0).val < 64 := (i 0).isLt
  have h1 : (i 1).val < 384 := (i 1).isLt
  have h2 : (i 2).val < 32 := (i 2).isLt
  have h3 : (i 3).val < 128 := (i 3).isLt
  refine (shapeCast_apply _ _ i (ix7 ⟨(i 0).val, h0⟩ ⟨(i 1).val / 6, by omega⟩ ⟨(i 1).val / 3 % 2, by omega⟩ ⟨(i 1).val % 3, by omega⟩ ⟨(i 2).val / 8, by omega⟩ ⟨(i 2).val % 8, by omega⟩ ⟨(i 3).val, h3⟩ : S64x64x2x3x4x8x128.Idx) ?_).trans ?_
  · rw [rowMajor_val_seven, Shape.rowMajor_val_four]
    show (((((((i 0).val * 64 + (i 1).val / 6) * 2 + (i 1).val / 3 % 2) * 3 + (i 1).val % 3) * 4 + (i 2).val / 8) * 8 + (i 2).val % 8) * 128 + (i 3).val)
      = (((i 0).val * 384 + (i 1).val) * 32 + (i 2).val) * 128 + (i 3).val
    omega
  refine (transpose_apply _ _ _ _ (ix7 ⟨(i 0).val, h0⟩ ⟨(i 1).val % 3, by omega⟩ ⟨(i 2).val / 8, by omega⟩ ⟨(i 3).val, h3⟩ ⟨(i 1).val / 6, by omega⟩ ⟨(i 1).val / 3 % 2, by omega⟩ ⟨(i 2).val % 8, by omega⟩ : S64x3x4x128x64x2x8.Idx) (fun b => by
    match b with
    | 0 => rfl
    | 1 => rfl
    | 2 => rfl
    | 3 => rfl
    | 4 => rfl
    | 5 => rfl
    | 6 => rfl)).trans ?_
  refine (shapeCast_apply _ _ _ (ValueIdx.ix4 ⟨(i 0).val, h0⟩ ⟨512 * ((i 1).val % 3) + 128 * ((i 2).val / 8) + (i 3).val, by omega⟩ ⟨(i 1).val / 6, by omega⟩ ⟨8 * ((i 1).val / 3 % 2) + (i 2).val % 8, by omega⟩ : S64x1536x64x16.Idx) ?_).trans ?_
  · rw [rowMajor_val_seven, Shape.rowMajor_val_four]
    show (((i 0).val * 1536 + (512 * ((i 1).val % 3) + 128 * ((i 2).val / 8) + (i 3).val)) * 64 + (i 1).val / 6) * 16 + (8 * ((i 1).val / 3 % 2) + (i 2).val % 8)
      = ((((((i 0).val * 3 + (i 1).val % 3) * 4 + (i 2).val / 8) * 128 + (i 3).val) * 64 + (i 1).val / 6) * 2 + (i 1).val / 3 % 2) * 8 + (i 2).val % 8
    omega
  exact codes4_eq x _ _ _ _ _ rfl rfl rfl rfl

/-- The same for the down codes of the experts. -/
theorem dn_relayout (x : S64x2048x24x16.Idx → BitVec 8) (i : S64x192x32x128.Idx) :
    shapeCast S64x192x32x128 (transpose S64x24x2x4x4x8x128 [0, 4, 5, 1, 2, 6, 3] (shapeCast S64x4x4x128x24x2x8 x shapeCasts_S64x2048x24x16_S64x4x4x128x24x2x8) transposes_S64x4x4x128x24x2x8_S64x24x2x4x4x8x128_0_4_5_1_2_6_3) shapeCasts_S64x24x2x4x4x8x128_S64x192x32x128 i
      = codes4 x (i 0).val (512 * ((i 1).val % 4) + 128 * ((i 2).val / 8) + (i 3).val) ((i 1).val / 8) (8 * ((i 1).val / 4 % 2) + (i 2).val % 8) := by
  have h0 : (i 0).val < 64 := (i 0).isLt
  have h1 : (i 1).val < 192 := (i 1).isLt
  have h2 : (i 2).val < 32 := (i 2).isLt
  have h3 : (i 3).val < 128 := (i 3).isLt
  refine (shapeCast_apply _ _ i (ix7 ⟨(i 0).val, h0⟩ ⟨(i 1).val / 8, by omega⟩ ⟨(i 1).val / 4 % 2, by omega⟩ ⟨(i 1).val % 4, by omega⟩ ⟨(i 2).val / 8, by omega⟩ ⟨(i 2).val % 8, by omega⟩ ⟨(i 3).val, h3⟩ : S64x24x2x4x4x8x128.Idx) ?_).trans ?_
  · rw [rowMajor_val_seven, Shape.rowMajor_val_four]
    show (((((((i 0).val * 24 + (i 1).val / 8) * 2 + (i 1).val / 4 % 2) * 4 + (i 1).val % 4) * 4 + (i 2).val / 8) * 8 + (i 2).val % 8) * 128 + (i 3).val)
      = (((i 0).val * 192 + (i 1).val) * 32 + (i 2).val) * 128 + (i 3).val
    omega
  refine (transpose_apply _ _ _ _ (ix7 ⟨(i 0).val, h0⟩ ⟨(i 1).val % 4, by omega⟩ ⟨(i 2).val / 8, by omega⟩ ⟨(i 3).val, h3⟩ ⟨(i 1).val / 8, by omega⟩ ⟨(i 1).val / 4 % 2, by omega⟩ ⟨(i 2).val % 8, by omega⟩ : S64x4x4x128x24x2x8.Idx) (fun b => by
    match b with
    | 0 => rfl
    | 1 => rfl
    | 2 => rfl
    | 3 => rfl
    | 4 => rfl
    | 5 => rfl
    | 6 => rfl)).trans ?_
  refine (shapeCast_apply _ _ _ (ValueIdx.ix4 ⟨(i 0).val, h0⟩ ⟨512 * ((i 1).val % 4) + 128 * ((i 2).val / 8) + (i 3).val, by omega⟩ ⟨(i 1).val / 8, by omega⟩ ⟨8 * ((i 1).val / 4 % 2) + (i 2).val % 8, by omega⟩ : S64x2048x24x16.Idx) ?_).trans ?_
  · rw [rowMajor_val_seven, Shape.rowMajor_val_four]
    show (((i 0).val * 2048 + (512 * ((i 1).val % 4) + 128 * ((i 2).val / 8) + (i 3).val)) * 24 + (i 1).val / 8) * 16 + (8 * ((i 1).val / 4 % 2) + (i 2).val % 8)
      = ((((((i 0).val * 4 + (i 1).val % 4) * 4 + (i 2).val / 8) * 128 + (i 3).val) * 24 + (i 1).val / 8) * 2 + (i 1).val / 4 % 2) * 8 + (i 2).val % 8
    omega
  exact codes4_eq x _ _ _ _ _ rfl rfl rfl rfl

/-- The same for the gate/up codes of the shared expert. -/
theorem sg_relayout (x : S1536x64x16.Idx → BitVec 8) (i : S384x32x128.Idx) :
    shapeCast S384x32x128 (transpose S64x2x3x4x8x128 [3, 4, 0, 1, 5, 2] (shapeCast S3x4x128x64x2x8 x shapeCasts_S1536x64x16_S3x4x128x64x2x8) transposes_S3x4x128x64x2x8_S64x2x3x4x8x128_3_4_0_1_5_2) shapeCasts_S64x2x3x4x8x128_S384x32x128 i
      = codes3 x (512 * ((i 0).val % 3) + 128 * ((i 1).val / 8) + (i 2).val) ((i 0).val / 6) (8 * ((i 0).val / 3 % 2) + (i 1).val % 8) := by
  have h1 : (i 0).val < 384 := (i 0).isLt
  have h2 : (i 1).val < 32 := (i 1).isLt
  have h3 : (i 2).val < 128 := (i 2).isLt
  refine (shapeCast_apply _ _ i (ValueIdx.ix6 ⟨(i 0).val / 6, by omega⟩ ⟨(i 0).val / 3 % 2, by omega⟩ ⟨(i 0).val % 3, by omega⟩ ⟨(i 1).val / 8, by omega⟩ ⟨(i 1).val % 8, by omega⟩ ⟨(i 2).val, h3⟩ : S64x2x3x4x8x128.Idx) ?_).trans ?_
  · rw [Shape.rowMajor_val_six, Shape.rowMajor_val_three]
    show (((((i 0).val / 6 * 2 + (i 0).val / 3 % 2) * 3 + (i 0).val % 3) * 4 + (i 1).val / 8) * 8 + (i 1).val % 8) * 128 + (i 2).val
      = ((i 0).val * 32 + (i 1).val) * 128 + (i 2).val
    omega
  refine (transpose_apply _ _ _ _ (ValueIdx.ix6 ⟨(i 0).val % 3, by omega⟩ ⟨(i 1).val / 8, by omega⟩ ⟨(i 2).val, h3⟩ ⟨(i 0).val / 6, by omega⟩ ⟨(i 0).val / 3 % 2, by omega⟩ ⟨(i 1).val % 8, by omega⟩ : S3x4x128x64x2x8.Idx) (fun b => by
    match b with
    | 0 => rfl
    | 1 => rfl
    | 2 => rfl
    | 3 => rfl
    | 4 => rfl
    | 5 => rfl)).trans ?_
  refine (shapeCast_apply _ _ _ (ValueIdx.ix3 ⟨512 * ((i 0).val % 3) + 128 * ((i 1).val / 8) + (i 2).val, by omega⟩ ⟨(i 0).val / 6, by omega⟩ ⟨8 * ((i 0).val / 3 % 2) + (i 1).val % 8, by omega⟩ : S1536x64x16.Idx) ?_).trans ?_
  · rw [Shape.rowMajor_val_six, Shape.rowMajor_val_three]
    show ((512 * ((i 0).val % 3) + 128 * ((i 1).val / 8) + (i 2).val) * 64 + (i 0).val / 6) * 16 + (8 * ((i 0).val / 3 % 2) + (i 1).val % 8)
      = (((((i 0).val % 3 * 4 + (i 1).val / 8) * 128 + (i 2).val) * 64 + (i 0).val / 6) * 2 + (i 0).val / 3 % 2) * 8 + (i 1).val % 8
    omega
  exact codes3_eq x _ _ _ _ rfl rfl rfl

/-- The same for the down codes of the shared expert. -/
theorem sd_relayout (x : S2048x24x16.Idx → BitVec 8) (i : S192x32x128.Idx) :
    shapeCast S192x32x128 (transpose S24x2x4x4x8x128 [3, 4, 0, 1, 5, 2] (shapeCast S4x4x128x24x2x8 x shapeCasts_S2048x24x16_S4x4x128x24x2x8) transposes_S4x4x128x24x2x8_S24x2x4x4x8x128_3_4_0_1_5_2) shapeCasts_S24x2x4x4x8x128_S192x32x128 i
      = codes3 x (512 * ((i 0).val % 4) + 128 * ((i 1).val / 8) + (i 2).val) ((i 0).val / 8) (8 * ((i 0).val / 4 % 2) + (i 1).val % 8) := by
  have h1 : (i 0).val < 192 := (i 0).isLt
  have h2 : (i 1).val < 32 := (i 1).isLt
  have h3 : (i 2).val < 128 := (i 2).isLt
  refine (shapeCast_apply _ _ i (ValueIdx.ix6 ⟨(i 0).val / 8, by omega⟩ ⟨(i 0).val / 4 % 2, by omega⟩ ⟨(i 0).val % 4, by omega⟩ ⟨(i 1).val / 8, by omega⟩ ⟨(i 1).val % 8, by omega⟩ ⟨(i 2).val, h3⟩ : S24x2x4x4x8x128.Idx) ?_).trans ?_
  · rw [Shape.rowMajor_val_six, Shape.rowMajor_val_three]
    show (((((i 0).val / 8 * 2 + (i 0).val / 4 % 2) * 4 + (i 0).val % 4) * 4 + (i 1).val / 8) * 8 + (i 1).val % 8) * 128 + (i 2).val
      = ((i 0).val * 32 + (i 1).val) * 128 + (i 2).val
    omega
  refine (transpose_apply _ _ _ _ (ValueIdx.ix6 ⟨(i 0).val % 4, by omega⟩ ⟨(i 1).val / 8, by omega⟩ ⟨(i 2).val, h3⟩ ⟨(i 0).val / 8, by omega⟩ ⟨(i 0).val / 4 % 2, by omega⟩ ⟨(i 1).val % 8, by omega⟩ : S4x4x128x24x2x8.Idx) (fun b => by
    match b with
    | 0 => rfl
    | 1 => rfl
    | 2 => rfl
    | 3 => rfl
    | 4 => rfl
    | 5 => rfl)).trans ?_
  refine (shapeCast_apply _ _ _ (ValueIdx.ix3 ⟨512 * ((i 0).val % 4) + 128 * ((i 1).val / 8) + (i 2).val, by omega⟩ ⟨(i 0).val / 8, by omega⟩ ⟨8 * ((i 0).val / 4 % 2) + (i 1).val % 8, by omega⟩ : S2048x24x16.Idx) ?_).trans ?_
  · rw [Shape.rowMajor_val_six, Shape.rowMajor_val_three]
    show ((512 * ((i 0).val % 4) + 128 * ((i 1).val / 8) + (i 2).val) * 24 + (i 0).val / 8) * 16 + (8 * ((i 0).val / 4 % 2) + (i 1).val % 8)
      = (((((i 0).val % 4 * 4 + (i 1).val / 8) * 128 + (i 2).val) * 24 + (i 0).val / 8) * 2 + (i 0).val / 4 % 2) * 8 + (i 1).val % 8
    omega
  exact codes3_eq x _ _ _ _ rfl rfl rfl

section
variable (m : (ℓ : Loc nD τ sig) → Buf (Elt Ideal) ℓ) (c : Dev nD)

/-- The source of an expert's copy is the expert's part of the array. -/
theorem src4_read (f : S64x384x32x128.Idx → BitVec 8) (e : Fin 64) (i : S384x32x128.Idx) :
    ((src4 hb4 e).view.read (Elt Ideal) f i : BitVec 8) = f (ValueIdx.ix4 e (i 0) (i 1) (i 2)) := by
  unfold src4
  have h := congrFun (Memref.read_squeeze_slice (Val := Elt Ideal) hb4 (Rect.unit (s := S64x384x32x128) ![e.val, 0, 0, 0] S1x384x32x128.size (e4_inb e)) (fun _ => rfl) squeezes_S1x384x32x128_S384x32x128 squeezes_S1x384x32x128_S384x32x128.numel_eq f) i
  refine h.trans ?_
  refine (shapeCast_apply _ _ i (ValueIdx.ix4 ⟨0, Nat.one_pos⟩ (i 0) (i 1) (i 2) : S1x384x32x128.Idx) ?_).trans ?_
  · rw [Shape.rowMajor_val_three]
    refine (Shape.rowMajor_val_four (d := S1x384x32x128.size) _).trans ?_
    show ((0 * 384 + (i 0).val) * 32 + (i 1).val) * 128 + (i 2).val = ((i 0).val * 32 + (i 1).val) * 128 + (i 2).val
    omega
  · refine congrArg f (funext fun a => Fin.ext ?_)
    match a with
    | 0 => show e.val + 1 * 0 = e.val; omega
    | 1 => show 0 + 1 * (i 0).val = (i 0).val; omega
    | 2 => show 0 + 1 * (i 1).val = (i 1).val; omega
    | 3 => show 0 + 1 * (i 2).val = (i 2).val; omega
/-- The gate/up codes that a copy of an expert brings. -/
theorem gu_codes (e : Fin 64) : GuCodes ((src4 hb4 e).view.read (Elt Ideal) (V m c main_v5)) (codes4 (m ((c : Thread nD τ).loc main_arg3) : S64x1536x64x16.Idx → BitVec 8) e.val) := fun i => by
  refine (src4_read (V m c main_v5) e i).trans ?_
  rw [V_v5]
  exact gu_relayout _ _

/-- The same for the gate/up scales. -/
theorem src5_read (f : S64x64x1536.Idx → BitVec 8) (e : Fin 64) (i : S64x1536.Idx) :
    ((src5 hb5 e).view.read (Elt Ideal) f i : BitVec 8) = f (ValueIdx.ix3 e (i 0) (i 1)) := by
  unfold src5
  have h := congrFun (Memref.read_squeeze_slice (Val := Elt Ideal) hb5 (Rect.unit (s := S64x64x1536) ![e.val, 0, 0] S1x64x1536.size (e5_inb e)) (fun _ => rfl) squeezes_S1x64x1536_S64x1536 squeezes_S1x64x1536_S64x1536.numel_eq f) i
  refine h.trans ?_
  refine (shapeCast_apply _ _ i (ValueIdx.ix3 ⟨0, Nat.one_pos⟩ (i 0) (i 1) : S1x64x1536.Idx) ?_).trans ?_
  · rw [Shape.rowMajor_val_two]
    refine (Shape.rowMajor_val_three (d := S1x64x1536.size) _).trans ?_
    show (0 * 64 + (i 0).val) * 1536 + (i 1).val = (i 0).val * 1536 + (i 1).val
    omega
  · refine congrArg f (funext fun a => Fin.ext ?_)
    match a with
    | 0 => show e.val + 1 * 0 = e.val; omega
    | 1 => show 0 + 1 * (i 0).val = (i 0).val; omega
    | 2 => show 0 + 1 * (i 1).val = (i 1).val; omega
/-- The gate/up scales that a copy of an expert brings. -/
theorem gu_scales (e : Fin 64) : GuScales ((src5 hb5 e).view.read (Elt Ideal) (V m c main_v6)) (scales3 (m ((c : Thread nD τ).loc main_arg4) : S64x1536x64.Idx → BitVec 8) e.val) := fun i => by
  refine (src5_read (V m c main_v6) e i).trans ?_
  rw [V_v6]
  refine (transpose_apply _ _ _ _ (ValueIdx.ix3 e (i 1) (i 0) : S64x1536x64.Idx) (fun b => by
    match b with
    | 0 => rfl
    | 1 => rfl
    | 2 => rfl)).trans ?_
  exact scales3_eq _ _ _ _ _ rfl rfl rfl

/-- The same for the down codes. -/
theorem src6_read (f : S64x192x32x128.Idx → BitVec 8) (e : Fin 64) (i : S192x32x128.Idx) :
    ((src6 hb6 e).view.read (Elt Ideal) f i : BitVec 8) = f (ValueIdx.ix4 e (i 0) (i 1) (i 2)) := by
  unfold src6
  have h := congrFun (Memref.read_squeeze_slice (Val := Elt Ideal) hb6 (Rect.unit (s := S64x192x32x128) ![e.val, 0, 0, 0] S1x192x32x128.size (e6_inb e)) (fun _ => rfl) squeezes_S1x192x32x128_S192x32x128 squeezes_S1x192x32x128_S192x32x128.numel_eq f) i
  refine h.trans ?_
  refine (shapeCast_apply _ _ i (ValueIdx.ix4 ⟨0, Nat.one_pos⟩ (i 0) (i 1) (i 2) : S1x192x32x128.Idx) ?_).trans ?_
  · rw [Shape.rowMajor_val_three]
    refine (Shape.rowMajor_val_four (d := S1x192x32x128.size) _).trans ?_
    show ((0 * 192 + (i 0).val) * 32 + (i 1).val) * 128 + (i 2).val = ((i 0).val * 32 + (i 1).val) * 128 + (i 2).val
    omega
  · refine congrArg f (funext fun a => Fin.ext ?_)
    match a with
    | 0 => show e.val + 1 * 0 = e.val; omega
    | 1 => show 0 + 1 * (i 0).val = (i 0).val; omega
    | 2 => show 0 + 1 * (i 1).val = (i 1).val; omega
    | 3 => show 0 + 1 * (i 2).val = (i 2).val; omega
/-- The down codes that a copy of an expert brings. -/
theorem dn_codes (e : Fin 64) : DnCodes ((src6 hb6 e).view.read (Elt Ideal) (V m c main_v9)) (codes4 (m ((c : Thread nD τ).loc main_arg5) : S64x2048x24x16.Idx → BitVec 8) e.val) := fun i => by
  refine (src6_read (V m c main_v9) e i).trans ?_
  rw [V_v9]
  exact dn_relayout _ _

/-- The same for the down scales. -/
theorem src7_read (f : S64x24x2048.Idx → BitVec 8) (e : Fin 64) (i : S24x2048.Idx) :
    ((src7 hb7 e).view.read (Elt Ideal) f i : BitVec 8) = f (ValueIdx.ix3 e (i 0) (i 1)) := by
  unfold src7
  have h := congrFun (Memref.read_squeeze_slice (Val := Elt Ideal) hb7 (Rect.unit (s := S64x24x2048) ![e.val, 0, 0] S1x24x2048.size (e7_inb e)) (fun _ => rfl) squeezes_S1x24x2048_S24x2048 squeezes_S1x24x2048_S24x2048.numel_eq f) i
  refine h.trans ?_
  refine (shapeCast_apply _ _ i (ValueIdx.ix3 ⟨0, Nat.one_pos⟩ (i 0) (i 1) : S1x24x2048.Idx) ?_).trans ?_
  · rw [Shape.rowMajor_val_two]
    refine (Shape.rowMajor_val_three (d := S1x24x2048.size) _).trans ?_
    show (0 * 24 + (i 0).val) * 2048 + (i 1).val = (i 0).val * 2048 + (i 1).val
    omega
  · refine congrArg f (funext fun a => Fin.ext ?_)
    match a with
    | 0 => show e.val + 1 * 0 = e.val; omega
    | 1 => show 0 + 1 * (i 0).val = (i 0).val; omega
    | 2 => show 0 + 1 * (i 1).val = (i 1).val; omega
/-- The down scales that a copy of an expert brings. -/
theorem dn_scales (e : Fin 64) : DnScales ((src7 hb7 e).view.read (Elt Ideal) (V m c main_v10)) (scales3 (m ((c : Thread nD τ).loc main_arg6) : S64x2048x24.Idx → BitVec 8) e.val) := fun i => by
  refine (src7_read (V m c main_v10) e i).trans ?_
  rw [V_v10]
  refine (transpose_apply _ _ _ _ (ValueIdx.ix3 e (i 1) (i 0) : S64x2048x24.Idx) (fun b => by
    match b with
    | 0 => rfl
    | 1 => rfl
    | 2 => rfl)).trans ?_
  exact scales3_eq _ _ _ _ _ rfl rfl rfl

/-- The shared expert's gate/up codes. -/
theorem sg_codes : GuCodes (V m c main_v13) (codes3 (m ((c : Thread nD τ).loc main_arg7) : S1536x64x16.Idx → BitVec 8)) := fun i => by
  rw [V_v13]
  exact sg_relayout _ _
/-- The shared expert's gate/up scales. -/
theorem sg_scales : GuScales (V m c main_v14) (scales2 (m ((c : Thread nD τ).loc main_arg8) : S1536x64.Idx → BitVec 8)) := fun i => by
  rw [V_v14]
  refine (transpose_apply _ _ _ _ (ValueIdx.ix2 (i 1) (i 0) : S1536x64.Idx) (fun b => by
    match b with
    | 0 => rfl
    | 1 => rfl)).trans ?_
  exact scales2_eq _ _ _ _ rfl rfl

/-- The shared expert's down codes. -/
theorem sd_codes : DnCodes (V m c main_v17) (codes3 (m ((c : Thread nD τ).loc main_arg9) : S2048x24x16.Idx → BitVec 8)) := fun i => by
  rw [V_v17]
  exact sd_relayout _ _
/-- The shared expert's down scales. -/
theorem sd_scales : DnScales (V m c main_v18) (scales2 (m ((c : Thread nD τ).loc main_arg10) : S2048x24.Idx → BitVec 8)) := fun i => by
  rw [V_v18]
  refine (transpose_apply _ _ _ _ (ValueIdx.ix2 (i 1) (i 0) : S2048x24.Idx) (fun b => by
    match b with
    | 0 => rfl
    | 1 => rfl)).trans ?_
  exact scales2_eq _ _ _ _ rfl rfl

/-- The tokens as the kernel gets them. -/
theorem x_vals (i : S8x2048.Idx) : (V m c main_v1 i : EReal) = act (m ((c : Thread nD τ).loc main_arg0) : S8x1x2048.Idx → EReal) (i 0).val (i 1).val := by
  rw [V_v1]
  refine (shapeCast_apply _ _ i (ValueIdx.ix3 (i 0) ⟨0, Nat.one_pos⟩ (i 1) : S8x1x2048.Idx) ?_).trans ?_
  · rw [Shape.rowMajor_val_three, Shape.rowMajor_val_two]
    show ((i 0).val * 1 + 0) * 2048 + (i 1).val = (i 0).val * 2048 + (i 1).val
    omega
  · exact act_eq _ _ _ _ rfl rfl
/-- The ids as the kernel gets them. -/
theorem id_vals (i : S8x8.Idx) : (V m c main_v0 i : BitVec 32) = (m ((c : Thread nD τ).loc main_arg1) : S8x1x8.Idx → BitVec 32) (ValueIdx.ix3 (i 0) ⟨0, Nat.one_pos⟩ (i 1)) := by
  rw [V_v0]
  refine shapeCast_apply _ _ i (ValueIdx.ix3 (i 0) ⟨0, Nat.one_pos⟩ (i 1) : S8x1x8.Idx) ?_
  rw [Shape.rowMajor_val_three, Shape.rowMajor_val_two]
  show ((i 0).val * 1 + 0) * 8 + (i 1).val = (i 0).val * 8 + (i 1).val
  omega
/-- The weights as the kernel gets them. -/
theorem ew_vals (i : S8x8.Idx) : (V m c main_v2 i : EReal) = ewn (m ((c : Thread nD τ).loc main_arg2) : S8x1x8.Idx → EReal) (i 0).val (i 1).val := by
  rw [V_v2]
  refine (shapeCast_apply _ _ i (ValueIdx.ix3 (i 0) ⟨0, Nat.one_pos⟩ (i 1) : S8x1x8.Idx) ?_).trans ?_
  · rw [Shape.rowMajor_val_three, Shape.rowMajor_val_two]
    show ((i 0).val * 1 + 0) * 8 + (i 1).val = (i 0).val * 8 + (i 1).val
    omega
  · exact ewn_eq _ _ _ _ rfl rfl

end

end Cert.Value
-- ==== Proof.Value.Acc.lean ====
/- The accumulator after the experts in the list: the shared expert's output plus every token's weighted choices. -/
module

public import proofs.«01_k».proof.Proof.KernelIdeal.Body
public import proofs.«01_k».proof.Proof.Value.Data

@[expose] public section

set_option maxRecDepth 16384
set_option maxHeartbeats 1000000

noncomputable section

namespace Cert.Value

open Idealize.ShloMosaic Cert.KernelIdeal Cert.KernelIdeal.Gen Cert.KernelIdeal.Hand

section
variable {ids : Vec Ideal S8x8 .i32} {ew : Vec Ideal S8x8 .f32} {x : Vec Ideal S8x2048 .bf16}
  {C4 : Fin 64 → Vec Ideal S384x32x128 .i8} {C5 : Fin 64 → Vec Ideal S64x1536 .i8} {C6 : Fin 64 → Vec Ideal S192x32x128 .i8} {C7 : Fin 64 → Vec Ideal S24x2048 .i8}
  {X : ℕ → ℕ → EReal} {G : ℕ → ℕ → ℕ → ℕ → BitVec 8} {S : ℕ → ℕ → ℕ → BitVec 8} {D : ℕ → ℕ → ℕ → ℕ → BitVec 8} {T : ℕ → ℕ → ℕ → BitVec 8}

/-- The accumulator after `n` trips: the start plus what each trip gains. -/
theorem accAt_apply (hS : ∀ e, Scales (S e)) (hT : ∀ e, Scales (T e)) (hx : ∀ i : S8x2048.Idx, (x i : EReal) = X (i 0).val (i 1).val)
    (h4 : ∀ e : Fin 64, GuCodes (C4 e) (G e.val)) (h5 : ∀ e : Fin 64, GuScales (C5 e) (S e.val)) (h6 : ∀ e : Fin 64, DnCodes (C6 e) (D e.val)) (h7 : ∀ e : Fin 64, DnScales (C7 e) (T e.val))
    (le : ℕ → BitVec 32) (a0 : Vec Ideal S8x2048 .f32) (i : S8x2048.Idx) : ∀ n : ℕ,
    (accAt (F := Ideal) ids ew x C4 C5 C6 C7 le a0 n i : EReal) = (a0 i : EReal) + ∑ τ ∈ Finset.range n,
      gain (k0_pay542 (F := Ideal) ids (le τ) ew) (k0_pay543 (F := Ideal) ids (le τ)) ⟨(i 0).val, (i 0).isLt⟩
        (ffn X (G (exAt le τ).val) (S (exAt le τ).val) (D (exAt le τ).val) (T (exAt le τ).val) (i 0).val (i 1).val)
  | 0 => by rw [Finset.sum_range_zero, add_zero]; rfl
  | n + 1 => by
    rw [Finset.sum_range_succ, ← add_assoc, ← accAt_apply hS hT hx h4 h5 h6 h7 le a0 i n]
    have h := rtBuf_apply (hT (exAt le n).val) (X := fun t => hid (fun o => prodTo X (G (exAt le n).val) (S (exAt le n).val) t o 2048))
      (fun j => pay547_apply _ (fun t o => prodTo X (G (exAt le n).val) (S (exAt le n).val) t o 2048) (guOf_apply (hS _) hx (h4 (exAt le n)) (h5 (exAt le n))) j)
      (h6 (exAt le n)) (h7 (exAt le n)) (k0_pay542 (F := Ideal) ids (le n) ew) (k0_pay543 (F := Ideal) ids (le n)) (accAt (F := Ideal) ids ew x C4 C5 C6 C7 le a0 n) 4 le_rfl i
    rw [if_pos (show (i 1).val < 512 * 4 from (i 1).isLt)] at h
    exact h

/-- A trip's gain in row `t`: the weight of the choice that names its expert, if one does. -/
theorem gain_eq (e : BitVec 32) (t : Fin 8) (y : EReal) (hinj : ∀ k l : Fin 8, (ids (ValueIdx.ix2 t k) : BitVec 32) = ids (ValueIdx.ix2 t l) → k = l) :
    gain (k0_pay542 (F := Ideal) ids e ew) (k0_pay543 (F := Ideal) ids e) t y = ∑ k : Fin 8, if (ids (ValueIdx.ix2 t k) : BitVec 32) = e then y * (ew (ValueIdx.ix2 t k) : EReal) else 0 := by
  unfold gain
  rw [pay542_apply, pay543_apply]
  by_cases h : ∃ k : Fin 8, (ids (ValueIdx.ix2 t k) : BitVec 32) = e
  · obtain ⟨k, hk⟩ := h
    rw [if_pos ⟨k, hk⟩, ValueIdx.select_one]
    have hne : ∀ l : Fin 8, l ≠ k → ¬ (ids (ValueIdx.ix2 t l) : BitVec 32) = e := fun l hl he => hl (hinj l k (he.trans hk.symm))
    rw [Finset.sum_eq_single k (fun l _ hl => if_neg (hne l hl)) (fun h => absurd (Finset.mem_univ _) h),
      Finset.sum_eq_single k (fun l _ hl => if_neg (hne l hl)) (fun h => absurd (Finset.mem_univ _) h), if_pos hk, if_pos hk]
  · rw [if_neg h, ValueIdx.select_zero]
    exact (Finset.sum_eq_zero fun k _ => if_neg fun hk => h ⟨k, hk⟩).symm

/-- Over the whole list every choice is met once. -/
theorem sum_list (hlt : ∀ i : S8x8.Idx, (ids i : BitVec 32).toNat < 64) (t : Fin 8) (hinj : ∀ k l : Fin 8, (ids (ValueIdx.ix2 t k) : BitVec 32) = ids (ValueIdx.ix2 t l) → k = l) (Y : ℕ → EReal) :
    (∑ τ ∈ Finset.range (cnt (idAt (F := Ideal) ids) 64), gain (k0_pay542 (F := Ideal) ids (lst (idAt (F := Ideal) ids) 64 τ) ew) (k0_pay543 (F := Ideal) ids (lst (idAt (F := Ideal) ids) 64 τ)) t
        (Y (exAt (lst (idAt (F := Ideal) ids) 64) τ).val))
      = ∑ k : Fin 8, Y (ids (ValueIdx.ix2 t k) : BitVec 32).toNat * (ew (ValueIdx.ix2 t k) : EReal) := by
  obtain ⟨_, h2, h3⟩ := lst_spec (idAt (F := Ideal) ids) 64
  rw [Finset.sum_congr rfl fun τ _ => gain_eq (ids := ids) (ew := ew) (lst (idAt (F := Ideal) ids) 64 τ) t _ hinj, Finset.sum_comm]
  refine Finset.sum_congr rfl fun k _ => ?_
  have hid : idAt (F := Ideal) ids (8 * t.val + k.val) = ids (ValueIdx.ix2 t k) := by
    have ht := t.isLt
    have hk := k.isLt
    unfold idAt
    rw [dif_pos (show 8 * t.val + k.val < 64 by omega)]
    refine congrArg ids (funext fun a => Fin.ext ?_)
    match a with
    | 0 => show (8 * t.val + k.val) / 8 = t.val; omega
    | 1 => show (8 * t.val + k.val) % 8 = k.val; omega
  obtain ⟨a, ha, hla⟩ := h2 (8 * t.val + k.val) (by have := t.isLt; have := k.isLt; omega)
  rw [hid] at hla
  rw [Finset.sum_eq_single a (fun b hb hne => if_neg fun he => hne (h3 b a (Finset.mem_range.mp hb) ha (he.symm.trans hla.symm)))
    (fun h => absurd (Finset.mem_range.mpr ha) h), if_pos hla.symm]
  show Y ((lst (idAt (F := Ideal) ids) 64 a).toNat % 64) * _ = _
  rw [hla, Nat.mod_eq_of_lt (hlt _)]

/-- The kernel's result at one entry. -/
theorem kernelOut_apply {c8 : Vec Ideal S384x32x128 .i8} {c9 : Vec Ideal S64x1536 .i8} {c10 : Vec Ideal S192x32x128 .i8} {c11 : Vec Ideal S24x2048 .i8}
    {G' : ℕ → ℕ → ℕ → BitVec 8} {S' : ℕ → ℕ → BitVec 8} {D' : ℕ → ℕ → ℕ → BitVec 8} {T' : ℕ → ℕ → BitVec 8}
    (hS : ∀ e, Scales (S e)) (hT : ∀ e, Scales (T e)) (hS' : Scales S') (hT' : Scales T') (hx : ∀ i : S8x2048.Idx, (x i : EReal) = X (i 0).val (i 1).val)
    (h4 : ∀ e : Fin 64, GuCodes (C4 e) (G e.val)) (h5 : ∀ e : Fin 64, GuScales (C5 e) (S e.val)) (h6 : ∀ e : Fin 64, DnCodes (C6 e) (D e.val)) (h7 : ∀ e : Fin 64, DnScales (C7 e) (T e.val))
    (h8 : GuCodes c8 G') (h9 : GuScales c9 S') (h10 : DnCodes c10 D') (h11 : DnScales c11 T')
    (hlt : ∀ i : S8x8.Idx, (ids i : BitVec 32).toNat < 64) (hinj : ∀ t k l : Fin 8, (ids (ValueIdx.ix2 t k) : BitVec 32) = ids (ValueIdx.ix2 t l) → k = l) (i : S8x2048.Idx) (t : Fin 8) (ht : t.val = (i 0).val) :
    (kernelOut (F := Ideal) ids ids ew x C4 C5 C6 C7 c8 c9 c10 c11 i : EReal)
      = (∑ k : Fin 8, ffn X (G (ids (ValueIdx.ix2 t k) : BitVec 32).toNat) (S (ids (ValueIdx.ix2 t k) : BitVec 32).toNat) (D (ids (ValueIdx.ix2 t k) : BitVec 32).toNat) (T (ids (ValueIdx.ix2 t k) : BitVec 32).toNat) (i 0).val (i 1).val * (ew (ValueIdx.ix2 t k) : EReal))
        + ffn X G' S' D' T' (i 0).val (i 1).val := by
  obtain rfl : t = ⟨(i 0).val, (i 0).isLt⟩ := Fin.ext ht
  have e : (kernelOut (F := Ideal) ids ids ew x C4 C5 C6 C7 c8 c9 c10 c11 i : EReal)
      = accAt (F := Ideal) ids ew x C4 C5 C6 C7 (lst (idAt (F := Ideal) ids) 64) (shOf (F := Ideal) (k0_pay4 (F := Ideal) (guOf (F := Ideal) x c8 c9)) c10 c11) (cnt (idAt (F := Ideal) ids) 64) i := by
    unfold kernelOut k0_pay14
    rfl
  rw [e, accAt_apply hS hT hx h4 h5 h6 h7, shOf_apply hS' hT' hx h8 h9 h10 h11, add_comm]
  exact congrArg (fun a : EReal => a + _) (sum_list hlt _ (hinj _) (fun e => ffn X (G e) (S e) (D e) (T e) (i 0).val (i 1).val))

end

end Cert.Value
-- ==== Proof.Value.Ref.lean ====
/- The reference at the ideal instance, read at an index: it is the layer's output. -/
module

public import proofs.«01_k».proof.Proof.Gen.ReferenceIdeal.Read
public import proofs.«01_k».proof.Proof.Value.Data

@[expose] public section

set_option maxRecDepth 16384
set_option maxHeartbeats 1000000

noncomputable section

namespace Cert.Value.Ref

open Idealize.ShloMosaic Cert.ReferenceIdeal Cert.ReferenceIdeal.Gen Cert.ReferenceIdeal.Read Cert.Value

/-! ## A gather of whole experts -/

/-- The dimension numbers of a gather that takes one expert's matrix per choice. -/
abbrev exDims (N A B : ℕ) (wf : GatherDims.WF ⟨3, ![N, A, B]⟩ ⟨3, ![8, 8, 1]⟩ ⟨4, ![8, 8, A, B]⟩ [2, 3] [0] [] [0] [] 2 ![1, A, B]) :
    GatherDims ⟨3, ![N, A, B]⟩ ⟨3, ![8, 8, 1]⟩ ⟨4, ![8, 8, A, B]⟩ where
  offsetDims := [2, 3]
  collapsedSliceDims := [0]
  operandBatchingDims := []
  startIndicesBatchingDims := []
  startIndexMap := [0]
  indexVectorDim := 2
  sliceSizes := ![1, A, B]
  wf := wf

/-- A gather of whole matrices by an id in range is the matrix of that id. -/
theorem gather_apply {α : Type} {N A B : ℕ} (hN : 0 < N) (wf : GatherDims.WF ⟨3, ![N, A, B]⟩ ⟨3, ![8, 8, 1]⟩ ⟨4, ![8, 8, A, B]⟩ [2, 3] [0] [] [0] [] 2 ![1, A, B])
    (x : (⟨3, ![N, A, B]⟩ : Shape).Idx → α) (idx : IVec ⟨3, ![8, 8, 1]⟩ 32) (y : (⟨4, ![8, 8, A, B]⟩ : Shape).Idx) :
    Host.gather (exDims N A B wf) x idx y
      = x (ValueIdx.ix3 ⟨min (idx (ValueIdx.ix3 (y 0) (y 1) ⟨0, Nat.one_pos⟩)).toInt.toNat (N - 1), by omega⟩ (y 2) (y 3)) := by
  unfold Host.gather
  congr 1
  funext a
  refine Fin.ext ?_
  show (exDims N A B wf).start y idx a + (exDims N A B wf).batchCoord y a + (exDims N A B wf).offCoord y a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    have hsi : (exDims N A B wf).siIdx y ⟨List.idxOf (0 : Fin 3) (exDims N A B wf).startIndexMap,
        List.idxOf_lt_length_iff.2 (List.mem_singleton.mpr rfl)⟩ = ValueIdx.ix3 (y 0) (y 1) ⟨0, Nat.one_pos⟩ := by
      funext b; refine Fin.ext ?_
      match b with
      | ⟨0, _⟩ => rfl
      | ⟨1, _⟩ => rfl
      | ⟨2, _⟩ => rfl
    have e1 : (exDims N A B wf).start y idx 0 = min (idx ((exDims N A B wf).siIdx y ⟨List.idxOf (0 : Fin 3) (exDims N A B wf).startIndexMap,
        List.idxOf_lt_length_iff.2 (List.mem_singleton.mpr rfl)⟩)).toInt.toNat (N - 1) := by
      unfold GatherDims.start
      exact dif_pos (show (0 : Fin 3) ∈ (exDims N A B wf).startIndexMap from List.mem_singleton.mpr rfl)
    rw [e1]
    exact congrArg (fun j => min (idx j).toInt.toNat (N - 1)) hsi
  · have e1 : (exDims N A B wf).start y idx 1 = 0 := by
      unfold GatherDims.start
      exact dif_neg (show (1 : Fin 3) ∉ ([0] : List (Fin 3)) by decide)
    have e2 : (exDims N A B wf).offCoord y 1 = (y 2).val := by
      unfold GatherDims.offCoord
      exact dif_pos ((GatherDims.mem_sKept _ _).mpr ⟨show (1 : Fin 3) ∉ ([0] : List (Fin 3)) by decide, List.not_mem_nil⟩)
    rw [e1, e2]
    exact Nat.zero_add _
  · have e1 : (exDims N A B wf).start y idx 2 = 0 := by
      unfold GatherDims.start
      exact dif_neg (show (2 : Fin 3) ∉ ([0] : List (Fin 3)) by decide)
    have e2 : (exDims N A B wf).offCoord y 2 = (y 3).val := by
      unfold GatherDims.offCoord
      exact dif_pos ((GatherDims.mem_sKept _ _).mpr ⟨show (2 : Fin 3) ∉ ([0] : List (Fin 3)) by decide, List.not_mem_nil⟩)
    rw [e1, e2]
    exact Nat.zero_add _

/-! ## The activations -/

/-- The pairs of a token's entries. -/
theorem x_apply (x0 : (⟨S8x1x2048, .bf16⟩ : BufTy).Contents (Elt Ideal)) (i : S8x1024x2.Idx) : (val_main_v0 (F := Ideal) x0 i : EReal) = act x0 (i 0).val (2 * (i 1).val + (i 2).val) := by
  have h1 : (i 1).val < 1024 := (i 1).isLt
  have h2 : (i 2).val < 2 := (i 2).isLt
  rw [val_main_v0_apply]
  refine act_eq x0 _ _ _ ?_ ?_
  · show (((i 0).val * 1024 + (i 1).val) * 2 + (i 2).val) / 2048 = _
    omega
  · show (((i 0).val * 1024 + (i 1).val) * 2 + (i 2).val) % 2048 = _
    omega

theorem v82_apply (x0 : (⟨S8x1x2048, .bf16⟩ : BufTy).Contents (Elt Ideal)) (i : S8x1024.Idx) : (val_main_v82 (F := Ideal) x0 i : EReal) = act x0 (i 0).val (2 * (i 1).val) := by
  have h1 : (i 1).val < 1024 := (i 1).isLt
  rw [val_main_v82_apply, val_main_v81_apply, x_apply]
  show act x0 (((i 0).val * 1024 + (i 1).val) / 1024) (2 * (((i 0).val * 1024 + (i 1).val) / 1 % 1024) + 0) = _
  rw [show ((i 0).val * 1024 + (i 1).val) / 1024 = (i 0).val by omega, show 2 * (((i 0).val * 1024 + (i 1).val) / 1 % 1024) + 0 = 2 * (i 1).val by omega]

theorem v86_apply (x0 : (⟨S8x1x2048, .bf16⟩ : BufTy).Contents (Elt Ideal)) (i : S8x1024.Idx) : (val_main_v86 (F := Ideal) x0 i : EReal) = act x0 (i 0).val (2 * (i 1).val + 1) := by
  have h1 : (i 1).val < 1024 := (i 1).isLt
  rw [val_main_v86_apply, val_main_v85_apply, x_apply]
  show act x0 (((i 0).val * 1024 + (i 1).val) / 1024) (2 * (((i 0).val * 1024 + (i 1).val) / 1 % 1024) + (1 + 0)) = _
  rw [show ((i 0).val * 1024 + (i 1).val) / 1024 = (i 0).val by omega, show 2 * (((i 0).val * 1024 + (i 1).val) / 1 % 1024) + (1 + 0) = 2 * (i 1).val + 1 by omega]

theorem v267_apply (x0 : (⟨S8x1x2048, .bf16⟩ : BufTy).Contents (Elt Ideal)) (i : S8x1024.Idx) : (val_main_v267 (F := Ideal) x0 i : EReal) = act x0 (i 0).val (2 * (i 1).val) := by
  have h1 : (i 1).val < 1024 := (i 1).isLt
  rw [val_main_v267_apply, val_main_v266_apply, x_apply]
  show act x0 (((i 0).val * 1024 + (i 1).val) / 1024) (2 * (((i 0).val * 1024 + (i 1).val) / 1 % 1024) + 0) = _
  rw [show ((i 0).val * 1024 + (i 1).val) / 1024 = (i 0).val by omega, show 2 * (((i 0).val * 1024 + (i 1).val) / 1 % 1024) + 0 = 2 * (i 1).val by omega]

theorem v270_apply (x0 : (⟨S8x1x2048, .bf16⟩ : BufTy).Contents (Elt Ideal)) (i : S8x1024.Idx) : (val_main_v270 (F := Ideal) x0 i : EReal) = act x0 (i 0).val (2 * (i 1).val + 1) := by
  have h1 : (i 1).val < 1024 := (i 1).isLt
  rw [val_main_v270_apply, val_main_v269_apply, x_apply]
  show act x0 (((i 0).val * 1024 + (i 1).val) / 1024) (2 * (((i 0).val * 1024 + (i 1).val) / 1 % 1024) + (1 + 0)) = _
  rw [show ((i 0).val * 1024 + (i 1).val) / 1024 = (i 0).val by omega, show 2 * (((i 0).val * 1024 + (i 1).val) / 1 % 1024) + (1 + 0) = 2 * (i 1).val + 1 by omega]

/-! ## The decoded weights of every expert -/

/-- The gate/up scale of a routed expert. -/
theorem guScale_apply (x4 : (⟨S64x1536x64, .i8⟩ : BufTy).Contents (Elt Ideal)) (j : S64x64x1536.Idx) : (val_main_v10 (F := Ideal) x4 j : EReal) = scl (scales3 x4 (j 0).val (j 2).val (j 1).val) := by
  have e : (val_main_v10 (F := Ideal) x4 j : EReal) = (FloatOps.hostPowf (F := Ideal) (φ := .f32) (Ideal.ofBits .f32 0x40000000#32) (FloatOps.sitofp (F := Ideal) .f32 (IntOp.subi ((val_main_v3 (F := Ideal) x4 j : BitVec 8).setWidth 32) 127#32)) : EReal) := rfl
  rw [e, rscl_eq, val_main_v3_apply]
  exact congrArg scl (scales3_eq x4 _ _ _ _ rfl rfl rfl)

theorem v43_apply (x3 : (⟨S64x1536x64x16, .i8⟩ : BufTy).Contents (Elt Ideal)) (j : S64x64x16x1536.Idx) : (val_main_v43 (F := Ideal) x3 j : EReal) = dec (codes4 x3 (j 0).val (j 3).val (j 1).val (j 2).val) 0 := by
  have e : (val_main_v43 (F := Ideal) x3 j : EReal) = rval (IntOp.andi ((val_main_v2 (F := Ideal) x3 j : BitVec 8).setWidth 32) 15#32) := rfl
  rw [e, rlo_eq, rdec_eq _ (nib_lt _ _), val_main_v2_apply]
  exact congrArg (fun b => dec b 0) (codes4_eq x3 _ _ _ _ _ rfl rfl rfl rfl)

theorem v79_apply (x3 : (⟨S64x1536x64x16, .i8⟩ : BufTy).Contents (Elt Ideal)) (x4 : (⟨S64x1536x64, .i8⟩ : BufTy).Contents (Elt Ideal)) (i : S64x1024x1536.Idx) :
    (val_main_v79 (F := Ideal) x3 x4 i : EReal) = wt (codes4 x3 (i 0).val (i 2).val) (scales3 x4 (i 0).val (i 2).val) (2 * (i 1).val) := by
  have h1 : (i 1).val < 1024 := (i 1).isLt
  have h2 : (i 2).val < 1536 := (i 2).isLt
  rw [val_main_v79_apply, val_main_v45_apply, v43_apply, val_main_v44_apply, val_main_v11_apply, guScale_apply]
  show dec (codes4 x3 ((((i 0).val * 1024 + (i 1).val) * 1536 + (i 2).val) / 1572864) ((((i 0).val * 1024 + (i 1).val) * 1536 + (i 2).val) % 1536) ((((i 0).val * 1024 + (i 1).val) * 1536 + (i 2).val) / 24576 % 64) ((((i 0).val * 1024 + (i 1).val) * 1536 + (i 2).val) / 1536 % 16)) 0
    * scl (scales3 x4 ((((i 0).val * 1024 + (i 1).val) * 1536 + (i 2).val) / 1572864) ((((i 0).val * 1024 + (i 1).val) * 1536 + (i 2).val) % 1536) ((((i 0).val * 1024 + (i 1).val) * 1536 + (i 2).val) / 24576 % 64)) = _
  unfold wt
  rw [show (((i 0).val * 1024 + (i 1).val) * 1536 + (i 2).val) / 1572864 = (i 0).val by omega, show (((i 0).val * 1024 + (i 1).val) * 1536 + (i 2).val) % 1536 = (i 2).val by omega, show (((i 0).val * 1024 + (i 1).val) * 1536 + (i 2).val) / 24576 % 64 = (2 * (i 1).val) / 32 by omega,
    show (((i 0).val * 1024 + (i 1).val) * 1536 + (i 2).val) / 1536 % 16 = (2 * (i 1).val) % 32 / 2 by omega, show (2 * (i 1).val) % 2 = 0 by omega]

theorem v76_apply (x3 : (⟨S64x1536x64x16, .i8⟩ : BufTy).Contents (Elt Ideal)) (j : S64x64x16x1536.Idx) : (val_main_v76 (F := Ideal) x3 j : EReal) = dec (codes4 x3 (j 0).val (j 3).val (j 1).val (j 2).val) 1 := by
  have e : (val_main_v76 (F := Ideal) x3 j : EReal) = rval (IntOp.shrsi .host ((val_main_v2 (F := Ideal) x3 j : BitVec 8).setWidth 32) 4#32) := rfl
  rw [e, rhi_eq, rdec_eq _ (nib_lt _ _), val_main_v2_apply]
  exact congrArg (fun b => dec b 1) (codes4_eq x3 _ _ _ _ _ rfl rfl rfl rfl)

theorem v80_apply (x3 : (⟨S64x1536x64x16, .i8⟩ : BufTy).Contents (Elt Ideal)) (x4 : (⟨S64x1536x64, .i8⟩ : BufTy).Contents (Elt Ideal)) (i : S64x1024x1536.Idx) :
    (val_main_v80 (F := Ideal) x3 x4 i : EReal) = wt (codes4 x3 (i 0).val (i 2).val) (scales3 x4 (i 0).val (i 2).val) (2 * (i 1).val + 1) := by
  have h1 : (i 1).val < 1024 := (i 1).isLt
  have h2 : (i 2).val < 1536 := (i 2).isLt
  rw [val_main_v80_apply, val_main_v78_apply, v76_apply, val_main_v77_apply, val_main_v11_apply, guScale_apply]
  show dec (codes4 x3 ((((i 0).val * 1024 + (i 1).val) * 1536 + (i 2).val) / 1572864) ((((i 0).val * 1024 + (i 1).val) * 1536 + (i 2).val) % 1536) ((((i 0).val * 1024 + (i 1).val) * 1536 + (i 2).val) / 24576 % 64) ((((i 0).val * 1024 + (i 1).val) * 1536 + (i 2).val) / 1536 % 16)) 1
    * scl (scales3 x4 ((((i 0).val * 1024 + (i 1).val) * 1536 + (i 2).val) / 1572864) ((((i 0).val * 1024 + (i 1).val) * 1536 + (i 2).val) % 1536) ((((i 0).val * 1024 + (i 1).val) * 1536 + (i 2).val) / 24576 % 64)) = _
  unfold wt
  rw [show (((i 0).val * 1024 + (i 1).val) * 1536 + (i 2).val) / 1572864 = (i 0).val by omega, show (((i 0).val * 1024 + (i 1).val) * 1536 + (i 2).val) % 1536 = (i 2).val by omega, show (((i 0).val * 1024 + (i 1).val) * 1536 + (i 2).val) / 24576 % 64 = (2 * (i 1).val + 1) / 32 by omega,
    show (((i 0).val * 1024 + (i 1).val) * 1536 + (i 2).val) / 1536 % 16 = (2 * (i 1).val + 1) % 32 / 2 by omega, show (2 * (i 1).val + 1) % 2 = 1 by omega]

/-- The down scale of a routed expert. -/
theorem dnScale_apply (x6 : (⟨S64x2048x24, .i8⟩ : BufTy).Contents (Elt Ideal)) (j : S64x24x2048.Idx) : (val_main_v104 (F := Ideal) x6 j : EReal) = scl (scales3 x6 (j 0).val (j 2).val (j 1).val) := by
  have e : (val_main_v104 (F := Ideal) x6 j : EReal) = (FloatOps.hostPowf (F := Ideal) (φ := .f32) (Ideal.ofBits .f32 0x40000000#32) (FloatOps.sitofp (F := Ideal) .f32 (IntOp.subi ((val_main_v97 (F := Ideal) x6 j : BitVec 8).setWidth 32) 127#32)) : EReal) := rfl
  rw [e, rscl_eq, val_main_v97_apply]
  exact congrArg scl (scales3_eq x6 _ _ _ _ rfl rfl rfl)

theorem v137_apply (x5 : (⟨S64x2048x24x16, .i8⟩ : BufTy).Contents (Elt Ideal)) (j : S64x24x16x2048.Idx) : (val_main_v137 (F := Ideal) x5 j : EReal) = dec (codes4 x5 (j 0).val (j 3).val (j 1).val (j 2).val) 0 := by
  have e : (val_main_v137 (F := Ideal) x5 j : EReal) = rval (IntOp.andi ((val_main_v96 (F := Ideal) x5 j : BitVec 8).setWidth 32) 15#32) := rfl
  rw [e, rlo_eq, rdec_eq _ (nib_lt _ _), val_main_v96_apply]
  exact congrArg (fun b => dec b 0) (codes4_eq x5 _ _ _ _ _ rfl rfl rfl rfl)

theorem v173_apply (x5 : (⟨S64x2048x24x16, .i8⟩ : BufTy).Contents (Elt Ideal)) (x6 : (⟨S64x2048x24, .i8⟩ : BufTy).Contents (Elt Ideal)) (i : S64x384x2048.Idx) :
    (val_main_v173 (F := Ideal) x5 x6 i : EReal) = wt (codes4 x5 (i 0).val (i 2).val) (scales3 x6 (i 0).val (i 2).val) (2 * (i 1).val) := by
  have h1 : (i 1).val < 384 := (i 1).isLt
  have h2 : (i 2).val < 2048 := (i 2).isLt
  rw [val_main_v173_apply, val_main_v139_apply, v137_apply, val_main_v138_apply, val_main_v105_apply, dnScale_apply]
  show dec (codes4 x5 ((((i 0).val * 384 + (i 1).val) * 2048 + (i 2).val) / 786432) ((((i 0).val * 384 + (i 1).val) * 2048 + (i 2).val) % 2048) ((((i 0).val * 384 + (i 1).val) * 2048 + (i 2).val) / 32768 % 24) ((((i 0).val * 384 + (i 1).val) * 2048 + (i 2).val) / 2048 % 16)) 0
    * scl (scales3 x6 ((((i 0).val * 384 + (i 1).val) * 2048 + (i 2).val) / 786432) ((((i 0).val * 384 + (i 1).val) * 2048 + (i 2).val) % 2048) ((((i 0).val * 384 + (i 1).val) * 2048 + (i 2).val) / 32768 % 24)) = _
  unfold wt
  rw [show (((i 0).val * 384 + (i 1).val) * 2048 + (i 2).val) / 786432 = (i 0).val by omega, show (((i 0).val * 384 + (i 1).val) * 2048 + (i 2).val) % 2048 = (i 2).val by omega, show (((i 0).val * 384 + (i 1).val) * 2048 + (i 2).val) / 32768 % 24 = (2 * (i 1).val) / 32 by omega,
    show (((i 0).val * 384 + (i 1).val) * 2048 + (i 2).val) / 2048 % 16 = (2 * (i 1).val) % 32 / 2 by omega, show (2 * (i 1).val) % 2 = 0 by omega]

theorem v170_apply (x5 : (⟨S64x2048x24x16, .i8⟩ : BufTy).Contents (Elt Ideal)) (j : S64x24x16x2048.Idx) : (val_main_v170 (F := Ideal) x5 j : EReal) = dec (codes4 x5 (j 0).val (j 3).val (j 1).val (j 2).val) 1 := by
  have e : (val_main_v170 (F := Ideal) x5 j : EReal) = rval (IntOp.shrsi .host ((val_main_v96 (F := Ideal) x5 j : BitVec 8).setWidth 32) 4#32) := rfl
  rw [e, rhi_eq, rdec_eq _ (nib_lt _ _), val_main_v96_apply]
  exact congrArg (fun b => dec b 1) (codes4_eq x5 _ _ _ _ _ rfl rfl rfl rfl)

theorem v174_apply (x5 : (⟨S64x2048x24x16, .i8⟩ : BufTy).Contents (Elt Ideal)) (x6 : (⟨S64x2048x24, .i8⟩ : BufTy).Contents (Elt Ideal)) (i : S64x384x2048.Idx) :
    (val_main_v174 (F := Ideal) x5 x6 i : EReal) = wt (codes4 x5 (i 0).val (i 2).val) (scales3 x6 (i 0).val (i 2).val) (2 * (i 1).val + 1) := by
  have h1 : (i 1).val < 384 := (i 1).isLt
  have h2 : (i 2).val < 2048 := (i 2).isLt
  rw [val_main_v174_apply, val_main_v172_apply, v170_apply, val_main_v171_apply, val_main_v105_apply, dnScale_apply]
  show dec (codes4 x5 ((((i 0).val * 384 + (i 1).val) * 2048 + (i 2).val) / 786432) ((((i 0).val * 384 + (i 1).val) * 2048 + (i 2).val) % 2048) ((((i 0).val * 384 + (i 1).val) * 2048 + (i 2).val) / 32768 % 24) ((((i 0).val * 384 + (i 1).val) * 2048 + (i 2).val) / 2048 % 16)) 1
    * scl (scales3 x6 ((((i 0).val * 384 + (i 1).val) * 2048 + (i 2).val) / 786432) ((((i 0).val * 384 + (i 1).val) * 2048 + (i 2).val) % 2048) ((((i 0).val * 384 + (i 1).val) * 2048 + (i 2).val) / 32768 % 24)) = _
  unfold wt
  rw [show (((i 0).val * 384 + (i 1).val) * 2048 + (i 2).val) / 786432 = (i 0).val by omega, show (((i 0).val * 384 + (i 1).val) * 2048 + (i 2).val) % 2048 = (i 2).val by omega, show (((i 0).val * 384 + (i 1).val) * 2048 + (i 2).val) / 32768 % 24 = (2 * (i 1).val + 1) / 32 by omega,
    show (((i 0).val * 384 + (i 1).val) * 2048 + (i 2).val) / 2048 % 16 = (2 * (i 1).val + 1) % 32 / 2 by omega, show (2 * (i 1).val + 1) % 2 = 1 by omega]

/-! ## The decoded weights of the shared expert -/

/-- The shared expert's gate/up scale. -/
theorem sgScale_apply (x8 : (⟨S1536x64, .i8⟩ : BufTy).Contents (Elt Ideal)) (j : S1536x64.Idx) : (val_main_v195 (F := Ideal) x8 j : EReal) = scl (scales2 x8 (j 0).val (j 1).val) := by
  have e : (val_main_v195 (F := Ideal) x8 j : EReal) = (FloatOps.hostPowf (F := Ideal) (φ := .f32) (Ideal.ofBits .f32 0x40000000#32) (FloatOps.sitofp (F := Ideal) .f32 (IntOp.subi ((x8 j : BitVec 8).setWidth 32) 127#32)) : EReal) := rfl
  rw [e, rscl_eq]
  exact congrArg scl (scales2_eq x8 _ _ _ rfl rfl)

theorem v228_apply (x7 : (⟨S1536x64x16, .i8⟩ : BufTy).Contents (Elt Ideal)) (j : S1536x64x16.Idx) : (val_main_v228 (F := Ideal) x7 j : EReal) = dec (codes3 x7 (j 0).val (j 1).val (j 2).val) 0 := by
  have e : (val_main_v228 (F := Ideal) x7 j : EReal) = rval (IntOp.andi ((x7 j : BitVec 8).setWidth 32) 15#32) := rfl
  rw [e, rlo_eq, rdec_eq _ (nib_lt _ _)]
  exact congrArg (fun b => dec b 0) (codes3_eq x7 _ _ _ _ rfl rfl rfl)

theorem v264_apply (x7 : (⟨S1536x64x16, .i8⟩ : BufTy).Contents (Elt Ideal)) (x8 : (⟨S1536x64, .i8⟩ : BufTy).Contents (Elt Ideal)) (i : S1536x1024.Idx) :
    (val_main_v264 (F := Ideal) x7 x8 i : EReal) = wt (codes3 x7 (i 0).val) (scales2 x8 (i 0).val) (2 * (i 1).val) := by
  have h1 : (i 1).val < 1024 := (i 1).isLt
  rw [val_main_v264_apply, val_main_v230_apply, v228_apply, val_main_v229_apply, val_main_v196_apply, sgScale_apply]
  show dec (codes3 x7 (((i 0).val * 1024 + (i 1).val) / 1024) (((i 0).val * 1024 + (i 1).val) / 16 % 64) (((i 0).val * 1024 + (i 1).val) % 16)) 0
    * scl (scales2 x8 (((i 0).val * 1024 + (i 1).val) / 1024) (((i 0).val * 1024 + (i 1).val) / 16 % 64)) = _
  unfold wt
  rw [show ((i 0).val * 1024 + (i 1).val) / 1024 = (i 0).val by omega, show ((i 0).val * 1024 + (i 1).val) / 16 % 64 = (2 * (i 1).val) / 32 by omega,
    show ((i 0).val * 1024 + (i 1).val) % 16 = (2 * (i 1).val) % 32 / 2 by omega, show (2 * (i 1).val) % 2 = 0 by omega]

theorem v261_apply (x7 : (⟨S1536x64x16, .i8⟩ : BufTy).Contents (Elt Ideal)) (j : S1536x64x16.Idx) : (val_main_v261 (F := Ideal) x7 j : EReal) = dec (codes3 x7 (j 0).val (j 1).val (j 2).val) 1 := by
  have e : (val_main_v261 (F := Ideal) x7 j : EReal) = rval (IntOp.shrsi .host ((x7 j : BitVec 8).setWidth 32) 4#32) := rfl
  rw [e, rhi_eq, rdec_eq _ (nib_lt _ _)]
  exact congrArg (fun b => dec b 1) (codes3_eq x7 _ _ _ _ rfl rfl rfl)

theorem v265_apply (x7 : (⟨S1536x64x16, .i8⟩ : BufTy).Contents (Elt Ideal)) (x8 : (⟨S1536x64, .i8⟩ : BufTy).Contents (Elt Ideal)) (i : S1536x1024.Idx) :
    (val_main_v265 (F := Ideal) x7 x8 i : EReal) = wt (codes3 x7 (i 0).val) (scales2 x8 (i 0).val) (2 * (i 1).val + 1) := by
  have h1 : (i 1).val < 1024 := (i 1).isLt
  rw [val_main_v265_apply, val_main_v263_apply, v261_apply, val_main_v262_apply, val_main_v196_apply, sgScale_apply]
  show dec (codes3 x7 (((i 0).val * 1024 + (i 1).val) / 1024) (((i 0).val * 1024 + (i 1).val) / 16 % 64) (((i 0).val * 1024 + (i 1).val) % 16)) 1
    * scl (scales2 x8 (((i 0).val * 1024 + (i 1).val) / 1024) (((i 0).val * 1024 + (i 1).val) / 16 % 64)) = _
  unfold wt
  rw [show ((i 0).val * 1024 + (i 1).val) / 1024 = (i 0).val by omega, show ((i 0).val * 1024 + (i 1).val) / 16 % 64 = (2 * (i 1).val + 1) / 32 by omega,
    show ((i 0).val * 1024 + (i 1).val) % 16 = (2 * (i 1).val + 1) % 32 / 2 by omega, show (2 * (i 1).val + 1) % 2 = 1 by omega]

/-- The shared expert's down scale. -/
theorem sdScale_apply (x10 : (⟨S2048x24, .i8⟩ : BufTy).Contents (Elt Ideal)) (j : S2048x24.Idx) : (val_main_v285 (F := Ideal) x10 j : EReal) = scl (scales2 x10 (j 0).val (j 1).val) := by
  have e : (val_main_v285 (F := Ideal) x10 j : EReal) = (FloatOps.hostPowf (F := Ideal) (φ := .f32) (Ideal.ofBits .f32 0x40000000#32) (FloatOps.sitofp (F := Ideal) .f32 (IntOp.subi ((x10 j : BitVec 8).setWidth 32) 127#32)) : EReal) := rfl
  rw [e, rscl_eq]
  exact congrArg scl (scales2_eq x10 _ _ _ rfl rfl)

theorem v318_apply (x9 : (⟨S2048x24x16, .i8⟩ : BufTy).Contents (Elt Ideal)) (j : S2048x24x16.Idx) : (val_main_v318 (F := Ideal) x9 j : EReal) = dec (codes3 x9 (j 0).val (j 1).val (j 2).val) 0 := by
  have e : (val_main_v318 (F := Ideal) x9 j : EReal) = rval (IntOp.andi ((x9 j : BitVec 8).setWidth 32) 15#32) := rfl
  rw [e, rlo_eq, rdec_eq _ (nib_lt _ _)]
  exact congrArg (fun b => dec b 0) (codes3_eq x9 _ _ _ _ rfl rfl rfl)

theorem v354_apply (x9 : (⟨S2048x24x16, .i8⟩ : BufTy).Contents (Elt Ideal)) (x10 : (⟨S2048x24, .i8⟩ : BufTy).Contents (Elt Ideal)) (i : S2048x384.Idx) :
    (val_main_v354 (F := Ideal) x9 x10 i : EReal) = wt (codes3 x9 (i 0).val) (scales2 x10 (i 0).val) (2 * (i 1).val) := by
  have h1 : (i 1).val < 384 := (i 1).isLt
  rw [val_main_v354_apply, val_main_v320_apply, v318_apply, val_main_v319_apply, val_main_v286_apply, sdScale_apply]
  show dec (codes3 x9 (((i 0).val * 384 + (i 1).val) / 384) (((i 0).val * 384 + (i 1).val) / 16 % 24) (((i 0).val * 384 + (i 1).val) % 16)) 0
    * scl (scales2 x10 (((i 0).val * 384 + (i 1).val) / 384) (((i 0).val * 384 + (i 1).val) / 16 % 24)) = _
  unfold wt
  rw [show ((i 0).val * 384 + (i 1).val) / 384 = (i 0).val by omega, show ((i 0).val * 384 + (i 1).val) / 16 % 24 = (2 * (i 1).val) / 32 by omega,
    show ((i 0).val * 384 + (i 1).val) % 16 = (2 * (i 1).val) % 32 / 2 by omega, show (2 * (i 1).val) % 2 = 0 by omega]

theorem v351_apply (x9 : (⟨S2048x24x16, .i8⟩ : BufTy).Contents (Elt Ideal)) (j : S2048x24x16.Idx) : (val_main_v351 (F := Ideal) x9 j : EReal) = dec (codes3 x9 (j 0).val (j 1).val (j 2).val) 1 := by
  have e : (val_main_v351 (F := Ideal) x9 j : EReal) = rval (IntOp.shrsi .host ((x9 j : BitVec 8).setWidth 32) 4#32) := rfl
  rw [e, rhi_eq, rdec_eq _ (nib_lt _ _)]
  exact congrArg (fun b => dec b 1) (codes3_eq x9 _ _ _ _ rfl rfl rfl)

theorem v355_apply (x9 : (⟨S2048x24x16, .i8⟩ : BufTy).Contents (Elt Ideal)) (x10 : (⟨S2048x24, .i8⟩ : BufTy).Contents (Elt Ideal)) (i : S2048x384.Idx) :
    (val_main_v355 (F := Ideal) x9 x10 i : EReal) = wt (codes3 x9 (i 0).val) (scales2 x10 (i 0).val) (2 * (i 1).val + 1) := by
  have h1 : (i 1).val < 384 := (i 1).isLt
  rw [val_main_v355_apply, val_main_v353_apply, v351_apply, val_main_v352_apply, val_main_v286_apply, sdScale_apply]
  show dec (codes3 x9 (((i 0).val * 384 + (i 1).val) / 384) (((i 0).val * 384 + (i 1).val) / 16 % 24) (((i 0).val * 384 + (i 1).val) % 16)) 1
    * scl (scales2 x10 (((i 0).val * 384 + (i 1).val) / 384) (((i 0).val * 384 + (i 1).val) / 16 % 24)) = _
  unfold wt
  rw [show ((i 0).val * 384 + (i 1).val) / 384 = (i 0).val by omega, show ((i 0).val * 384 + (i 1).val) / 16 % 24 = (2 * (i 1).val + 1) / 32 by omega,
    show ((i 0).val * 384 + (i 1).val) % 16 = (2 * (i 1).val + 1) % 32 / 2 by omega, show (2 * (i 1).val + 1) % 2 = 1 by omega]

/-! ## The routed experts -/

theorem id_apply (x1 : (⟨S8x1x8, .i32⟩ : BufTy).Contents (Elt Ideal)) (hid : ∀ i : S8x1x8.Idx, (x1 i : BitVec 32).toNat < 64) (i : S8x8.Idx) : min (val_main_v1 (F := Ideal) x1 i : BitVec 32).toInt.toNat 63 = idn x1 (i 0).val (i 1).val := by
  have h1 : (i 1).val < 8 := (i 1).isLt
  rw [val_main_v1_apply, ← idn_eq x1 (idx_main_v1 i) (i 0).val (i 1).val
    (by show ((i 0).val * 8 + (i 1).val) / 8 = _; omega) (by show ((i 0).val * 8 + (i 1).val) % 8 = _; omega)]
  have h := hid (idx_main_v1 i)
  rw [BitVec.toInt_eq_toNat_of_lt (by omega), Int.toNat_natCast]
  omega

theorem v83_apply (x1 : (⟨S8x1x8, .i32⟩ : BufTy).Contents (Elt Ideal)) (x3 : (⟨S64x1536x64x16, .i8⟩ : BufTy).Contents (Elt Ideal)) (x4 : (⟨S64x1536x64, .i8⟩ : BufTy).Contents (Elt Ideal)) (hid : ∀ i : S8x1x8.Idx, (x1 i : BitVec 32).toNat < 64) (i : S8x8x1024x1536.Idx) :
    (val_main_v83 (F := Ideal) x1 x3 x4 i : EReal) = wt (codes4 x3 (idn x1 (i 0).val (i 1).val) (i 3).val) (scales3 x4 (idn x1 (i 0).val (i 1).val) (i 3).val) (2 * (i 2).val) := by
  have e0 : min (val_main_call4_v0 (F := Ideal) x1 (ValueIdx.ix3 (i 0) (i 1) ⟨0, Nat.one_pos⟩) : BitVec 32).toInt.toNat 63 = idn x1 (i 0).val (i 1).val := by
    rw [val_main_call4_v0_apply]
    exact id_apply x1 hid _
  refine (gather_apply (N := 64) (A := 1024) (B := 1536) (by decide) gather_S64x1024x1536_S8x8x1_S8x8x1024x1536_23_0_n_n_0_2_110241536.wf (val_main_v79 (F := Ideal) x3 x4) (val_main_call4_v0 (F := Ideal) x1) i).trans ?_
  refine (v79_apply x3 x4 _).trans ?_
  show wt (codes4 x3 (min (val_main_call4_v0 (F := Ideal) x1 (ValueIdx.ix3 (i 0) (i 1) ⟨0, Nat.one_pos⟩) : BitVec 32).toInt.toNat 63) (i 3).val)
    (scales3 x4 (min (val_main_call4_v0 (F := Ideal) x1 (ValueIdx.ix3 (i 0) (i 1) ⟨0, Nat.one_pos⟩) : BitVec 32).toInt.toNat 63) (i 3).val) (2 * (i 2).val) = _
  rw [e0]

theorem v87_apply (x1 : (⟨S8x1x8, .i32⟩ : BufTy).Contents (Elt Ideal)) (x3 : (⟨S64x1536x64x16, .i8⟩ : BufTy).Contents (Elt Ideal)) (x4 : (⟨S64x1536x64, .i8⟩ : BufTy).Contents (Elt Ideal)) (hid : ∀ i : S8x1x8.Idx, (x1 i : BitVec 32).toNat < 64) (i : S8x8x1024x1536.Idx) :
    (val_main_v87 (F := Ideal) x1 x3 x4 i : EReal) = wt (codes4 x3 (idn x1 (i 0).val (i 1).val) (i 3).val) (scales3 x4 (idn x1 (i 0).val (i 1).val) (i 3).val) (2 * (i 2).val + 1) := by
  have e0 : min (val_main_call5_v0 (F := Ideal) x1 (ValueIdx.ix3 (i 0) (i 1) ⟨0, Nat.one_pos⟩) : BitVec 32).toInt.toNat 63 = idn x1 (i 0).val (i 1).val := by
    rw [val_main_call5_v0_apply]
    exact id_apply x1 hid _
  refine (gather_apply (N := 64) (A := 1024) (B := 1536) (by decide) gather_S64x1024x1536_S8x8x1_S8x8x1024x1536_23_0_n_n_0_2_110241536.wf (val_main_v80 (F := Ideal) x3 x4) (val_main_call5_v0 (F := Ideal) x1) i).trans ?_
  refine (v80_apply x3 x4 _).trans ?_
  show wt (codes4 x3 (min (val_main_call5_v0 (F := Ideal) x1 (ValueIdx.ix3 (i 0) (i 1) ⟨0, Nat.one_pos⟩) : BitVec 32).toInt.toNat 63) (i 3).val)
    (scales3 x4 (min (val_main_call5_v0 (F := Ideal) x1 (ValueIdx.ix3 (i 0) (i 1) ⟨0, Nat.one_pos⟩) : BitVec 32).toInt.toNat 63) (i 3).val) (2 * (i 2).val + 1) = _
  rw [e0]

theorem v177_apply (x1 : (⟨S8x1x8, .i32⟩ : BufTy).Contents (Elt Ideal)) (x5 : (⟨S64x2048x24x16, .i8⟩ : BufTy).Contents (Elt Ideal)) (x6 : (⟨S64x2048x24, .i8⟩ : BufTy).Contents (Elt Ideal)) (hid : ∀ i : S8x1x8.Idx, (x1 i : BitVec 32).toNat < 64) (i : S8x8x384x2048.Idx) :
    (val_main_v177 (F := Ideal) x1 x5 x6 i : EReal) = wt (codes4 x5 (idn x1 (i 0).val (i 1).val) (i 3).val) (scales3 x6 (idn x1 (i 0).val (i 1).val) (i 3).val) (2 * (i 2).val) := by
  have e0 : min (val_main_call11_v0 (F := Ideal) x1 (ValueIdx.ix3 (i 0) (i 1) ⟨0, Nat.one_pos⟩) : BitVec 32).toInt.toNat 63 = idn x1 (i 0).val (i 1).val := by
    rw [val_main_call11_v0_apply]
    exact id_apply x1 hid _
  refine (gather_apply (N := 64) (A := 384) (B := 2048) (by decide) gather_S64x384x2048_S8x8x1_S8x8x384x2048_23_0_n_n_0_2_13842048.wf (val_main_v173 (F := Ideal) x5 x6) (val_main_call11_v0 (F := Ideal) x1) i).trans ?_
  refine (v173_apply x5 x6 _).trans ?_
  show wt (codes4 x5 (min (val_main_call11_v0 (F := Ideal) x1 (ValueIdx.ix3 (i 0) (i 1) ⟨0, Nat.one_pos⟩) : BitVec 32).toInt.toNat 63) (i 3).val)
    (scales3 x6 (min (val_main_call11_v0 (F := Ideal) x1 (ValueIdx.ix3 (i 0) (i 1) ⟨0, Nat.one_pos⟩) : BitVec 32).toInt.toNat 63) (i 3).val) (2 * (i 2).val) = _
  rw [e0]

theorem v181_apply (x1 : (⟨S8x1x8, .i32⟩ : BufTy).Contents (Elt Ideal)) (x5 : (⟨S64x2048x24x16, .i8⟩ : BufTy).Contents (Elt Ideal)) (x6 : (⟨S64x2048x24, .i8⟩ : BufTy).Contents (Elt Ideal)) (hid : ∀ i : S8x1x8.Idx, (x1 i : BitVec 32).toNat < 64) (i : S8x8x384x2048.Idx) :
    (val_main_v181 (F := Ideal) x1 x5 x6 i : EReal) = wt (codes4 x5 (idn x1 (i 0).val (i 1).val) (i 3).val) (scales3 x6 (idn x1 (i 0).val (i 1).val) (i 3).val) (2 * (i 2).val + 1) := by
  have e0 : min (val_main_call12_v0 (F := Ideal) x1 (ValueIdx.ix3 (i 0) (i 1) ⟨0, Nat.one_pos⟩) : BitVec 32).toInt.toNat 63 = idn x1 (i 0).val (i 1).val := by
    rw [val_main_call12_v0_apply]
    exact id_apply x1 hid _
  refine (gather_apply (N := 64) (A := 384) (B := 2048) (by decide) gather_S64x384x2048_S8x8x1_S8x8x384x2048_23_0_n_n_0_2_13842048.wf (val_main_v174 (F := Ideal) x5 x6) (val_main_call12_v0 (F := Ideal) x1) i).trans ?_
  refine (v174_apply x5 x6 _).trans ?_
  show wt (codes4 x5 (min (val_main_call12_v0 (F := Ideal) x1 (ValueIdx.ix3 (i 0) (i 1) ⟨0, Nat.one_pos⟩) : BitVec 32).toInt.toNat 63) (i 3).val)
    (scales3 x6 (min (val_main_call12_v0 (F := Ideal) x1 (ValueIdx.ix3 (i 0) (i 1) ⟨0, Nat.one_pos⟩) : BitVec 32).toInt.toNat 63) (i 3).val) (2 * (i 2).val + 1) = _
  rw [e0]

theorem v89_apply (x0 : (⟨S8x1x2048, .bf16⟩ : BufTy).Contents (Elt Ideal)) (x1 : (⟨S8x1x8, .i32⟩ : BufTy).Contents (Elt Ideal)) (x3 : (⟨S64x1536x64x16, .i8⟩ : BufTy).Contents (Elt Ideal)) (x4 : (⟨S64x1536x64, .i8⟩ : BufTy).Contents (Elt Ideal)) (hid : ∀ i : S8x1x8.Idx, (x1 i : BitVec 32).toNat < 64) (i : S8x8x1536.Idx) :
    (val_main_v89 (F := Ideal) x0 x1 x3 x4 i : EReal) = prodTo (act x0) (codes4 x3 (idn x1 (i 0).val (i 1).val)) (scales3 x4 (idn x1 (i 0).val (i 1).val)) (i 0).val (i 2).val 2048 := by
  rw [val_main_v89_apply]
  refine (congrArg₂ (fun a b : EReal => a + b) (val_main_v84_apply x0 x1 x3 x4 i) (val_main_v88_apply x0 x1 x3 x4 i)).trans ?_
  refine Eq.trans ?_ (sum_even_odd (fun d => act x0 (i 0).val d * wt (codes4 x3 (idn x1 (i 0).val (i 1).val) (i 2).val) (scales3 x4 (idn x1 (i 0).val (i 1).val) (i 2).val) d) 1024)
  refine congrArg₂ (fun a b : EReal => a + b) (Finset.sum_congr rfl fun k _ => ?_) (Finset.sum_congr rfl fun k _ => ?_)
  · exact congrArg₂ (fun a b : EReal => a * b) (v82_apply x0 _) (v83_apply x1 x3 x4 hid _)
  · exact congrArg₂ (fun a b : EReal => a * b) (v86_apply x0 _) (v87_apply x1 x3 x4 hid _)

/-- The hidden activation of expert `e`. -/
def hidden (x0 : (⟨S8x1x2048, .bf16⟩ : BufTy).Contents (Elt Ideal)) (x3 : (⟨S64x1536x64x16, .i8⟩ : BufTy).Contents (Elt Ideal)) (x4 : (⟨S64x1536x64, .i8⟩ : BufTy).Contents (Elt Ideal)) (e t f : ℕ) : EReal := hid (fun o => prodTo (act x0) (codes4 x3 e) (scales3 x4 e) t o 2048) f

/-- silu is the argument times its sigmoid. -/
theorem silu_eq (u : EReal) : u * Ideal.div (Ideal.ofBits .f32 0x3F800000#32) (Ideal.ofBits .f32 0x3F800000#32 + Ideal.exp (-u)) = u * Ideal.logistic u := by
  rw [ofBits_one]
  rfl

/-- The hidden units of a token's chosen expert. -/
theorem v94_apply (x0 : (⟨S8x1x2048, .bf16⟩ : BufTy).Contents (Elt Ideal)) (x1 : (⟨S8x1x8, .i32⟩ : BufTy).Contents (Elt Ideal)) (x3 : (⟨S64x1536x64x16, .i8⟩ : BufTy).Contents (Elt Ideal)) (x4 : (⟨S64x1536x64, .i8⟩ : BufTy).Contents (Elt Ideal)) (hid : ∀ i : S8x1x8.Idx, (x1 i : BitVec 32).toNat < 64) (i : S8x8x768.Idx) :
    (val_main_v94 (F := Ideal) x0 x1 x3 x4 i : EReal) = hidden x0 x3 x4 (idn x1 (i 0).val (i 1).val) (i 0).val (i 2).val := by
  have e : (val_main_v94 (F := Ideal) x0 x1 x3 x4 i : EReal) = ((val_main_v90 (F := Ideal) x0 x1 x3 x4 i : EReal)
      * Ideal.div (Ideal.ofBits .f32 0x3F800000#32) (Ideal.ofBits .f32 0x3F800000#32 + Ideal.exp (-(val_main_v90 (F := Ideal) x0 x1 x3 x4 i : EReal)))) * (val_main_v91 (F := Ideal) x0 x1 x3 x4 i : EReal) := rfl
  rw [e, silu_eq, val_main_v90_apply, val_main_v91_apply, v89_apply _ _ _ _ hid, v89_apply _ _ _ _ hid]
  rfl

theorem v176_apply (x0 : (⟨S8x1x2048, .bf16⟩ : BufTy).Contents (Elt Ideal)) (x1 : (⟨S8x1x8, .i32⟩ : BufTy).Contents (Elt Ideal)) (x3 : (⟨S64x1536x64x16, .i8⟩ : BufTy).Contents (Elt Ideal)) (x4 : (⟨S64x1536x64, .i8⟩ : BufTy).Contents (Elt Ideal)) (hid : ∀ i : S8x1x8.Idx, (x1 i : BitVec 32).toNat < 64) (i : S8x8x384.Idx) :
    (val_main_v176 (F := Ideal) x0 x1 x3 x4 i : EReal) = hidden x0 x3 x4 (idn x1 (i 0).val (i 1).val) (i 0).val (2 * (i 2).val) := by
  have h0 : (i 0).val < 8 := (i 0).isLt
  have h1 : (i 1).val < 8 := (i 1).isLt
  have h2 : (i 2).val < 384 := (i 2).isLt
  rw [val_main_v176_apply, val_main_v175_apply, val_main_v95_apply, v94_apply _ _ _ _ hid]
  show hidden x0 x3 x4 (idn x1 (((((((i 0).val * 8 + (i 1).val) * 384 + (i 2).val) / 3072 * 8 + (((i 0).val * 8 + (i 1).val) * 384 + (i 2).val) / 384 % 8) * 384 + (((i 0).val * 8 + (i 1).val) * 384 + (i 2).val) / 1 % 384) * 2 + 0) / 6144) (((((((i 0).val * 8 + (i 1).val) * 384 + (i 2).val) / 3072 * 8 + (((i 0).val * 8 + (i 1).val) * 384 + (i 2).val) / 384 % 8) * 384 + (((i 0).val * 8 + (i 1).val) * 384 + (i 2).val) / 1 % 384) * 2 + 0) / 768 % 8)) (((((((i 0).val * 8 + (i 1).val) * 384 + (i 2).val) / 3072 * 8 + (((i 0).val * 8 + (i 1).val) * 384 + (i 2).val) / 384 % 8) * 384 + (((i 0).val * 8 + (i 1).val) * 384 + (i 2).val) / 1 % 384) * 2 + 0) / 6144) (((((((i 0).val * 8 + (i 1).val) * 384 + (i 2).val) / 3072 * 8 + (((i 0).val * 8 + (i 1).val) * 384 + (i 2).val) / 384 % 8) * 384 + (((i 0).val * 8 + (i 1).val) * 384 + (i 2).val) / 1 % 384) * 2 + 0) % 768) = _
  rw [show ((((((i 0).val * 8 + (i 1).val) * 384 + (i 2).val) / 3072 * 8 + (((i 0).val * 8 + (i 1).val) * 384 + (i 2).val) / 384 % 8) * 384 + (((i 0).val * 8 + (i 1).val) * 384 + (i 2).val) / 1 % 384) * 2 + 0) = (((i 0).val * 8 + (i 1).val) * 384 + (i 2).val) * 2 + 0 by omega, show ((((i 0).val * 8 + (i 1).val) * 384 + (i 2).val) * 2 + 0) / 6144 = (i 0).val by omega, show ((((i 0).val * 8 + (i 1).val) * 384 + (i 2).val) * 2 + 0) / 768 % 8 = (i 1).val by omega, show ((((i 0).val * 8 + (i 1).val) * 384 + (i 2).val) * 2 + 0) % 768 = 2 * (i 2).val by omega]

theorem v180_apply (x0 : (⟨S8x1x2048, .bf16⟩ : BufTy).Contents (Elt Ideal)) (x1 : (⟨S8x1x8, .i32⟩ : BufTy).Contents (Elt Ideal)) (x3 : (⟨S64x1536x64x16, .i8⟩ : BufTy).Contents (Elt Ideal)) (x4 : (⟨S64x1536x64, .i8⟩ : BufTy).Contents (Elt Ideal)) (hid : ∀ i : S8x1x8.Idx, (x1 i : BitVec 32).toNat < 64) (i : S8x8x384.Idx) :
    (val_main_v180 (F := Ideal) x0 x1 x3 x4 i : EReal) = hidden x0 x3 x4 (idn x1 (i 0).val (i 1).val) (i 0).val (2 * (i 2).val + 1) := by
  have h0 : (i 0).val < 8 := (i 0).isLt
  have h1 : (i 1).val < 8 := (i 1).isLt
  have h2 : (i 2).val < 384 := (i 2).isLt
  rw [val_main_v180_apply, val_main_v179_apply, val_main_v95_apply, v94_apply _ _ _ _ hid]
  show hidden x0 x3 x4 (idn x1 (((((((i 0).val * 8 + (i 1).val) * 384 + (i 2).val) / 3072 * 8 + (((i 0).val * 8 + (i 1).val) * 384 + (i 2).val) / 384 % 8) * 384 + (((i 0).val * 8 + (i 1).val) * 384 + (i 2).val) / 1 % 384) * 2 + (1 + 0)) / 6144) (((((((i 0).val * 8 + (i 1).val) * 384 + (i 2).val) / 3072 * 8 + (((i 0).val * 8 + (i 1).val) * 384 + (i 2).val) / 384 % 8) * 384 + (((i 0).val * 8 + (i 1).val) * 384 + (i 2).val) / 1 % 384) * 2 + (1 + 0)) / 768 % 8)) (((((((i 0).val * 8 + (i 1).val) * 384 + (i 2).val) / 3072 * 8 + (((i 0).val * 8 + (i 1).val) * 384 + (i 2).val) / 384 % 8) * 384 + (((i 0).val * 8 + (i 1).val) * 384 + (i 2).val) / 1 % 384) * 2 + (1 + 0)) / 6144) (((((((i 0).val * 8 + (i 1).val) * 384 + (i 2).val) / 3072 * 8 + (((i 0).val * 8 + (i 1).val) * 384 + (i 2).val) / 384 % 8) * 384 + (((i 0).val * 8 + (i 1).val) * 384 + (i 2).val) / 1 % 384) * 2 + (1 + 0)) % 768) = _
  rw [show ((((((i 0).val * 8 + (i 1).val) * 384 + (i 2).val) / 3072 * 8 + (((i 0).val * 8 + (i 1).val) * 384 + (i 2).val) / 384 % 8) * 384 + (((i 0).val * 8 + (i 1).val) * 384 + (i 2).val) / 1 % 384) * 2 + (1 + 0)) = (((i 0).val * 8 + (i 1).val) * 384 + (i 2).val) * 2 + 1 by omega, show ((((i 0).val * 8 + (i 1).val) * 384 + (i 2).val) * 2 + 1) / 6144 = (i 0).val by omega, show ((((i 0).val * 8 + (i 1).val) * 384 + (i 2).val) * 2 + 1) / 768 % 8 = (i 1).val by omega, show ((((i 0).val * 8 + (i 1).val) * 384 + (i 2).val) * 2 + 1) % 768 = 2 * (i 2).val + 1 by omega]

theorem v183_apply (x0 : (⟨S8x1x2048, .bf16⟩ : BufTy).Contents (Elt Ideal)) (x1 : (⟨S8x1x8, .i32⟩ : BufTy).Contents (Elt Ideal)) (x3 : (⟨S64x1536x64x16, .i8⟩ : BufTy).Contents (Elt Ideal)) (x4 : (⟨S64x1536x64, .i8⟩ : BufTy).Contents (Elt Ideal)) (x5 : (⟨S64x2048x24x16, .i8⟩ : BufTy).Contents (Elt Ideal)) (x6 : (⟨S64x2048x24, .i8⟩ : BufTy).Contents (Elt Ideal)) (hid : ∀ i : S8x1x8.Idx, (x1 i : BitVec 32).toNat < 64) (i : S8x8x2048.Idx) :
    (val_main_v183 (F := Ideal) x0 x1 x3 x4 x5 x6 i : EReal) = ffn (act x0) (codes4 x3 (idn x1 (i 0).val (i 1).val)) (scales3 x4 (idn x1 (i 0).val (i 1).val))
      (codes4 x5 (idn x1 (i 0).val (i 1).val)) (scales3 x6 (idn x1 (i 0).val (i 1).val)) (i 0).val (i 2).val := by
  rw [val_main_v183_apply]
  refine (congrArg₂ (fun a b : EReal => a + b) (val_main_v178_apply x0 x1 x3 x4 x5 x6 i) (val_main_v182_apply x0 x1 x3 x4 x5 x6 i)).trans ?_
  refine Eq.trans ?_ (sum_even_odd (fun d => hidden x0 x3 x4 (idn x1 (i 0).val (i 1).val) (i 0).val d * wt (codes4 x5 (idn x1 (i 0).val (i 1).val) (i 2).val) (scales3 x6 (idn x1 (i 0).val (i 1).val) (i 2).val) d) 384)
  refine congrArg₂ (fun a b : EReal => a + b) (Finset.sum_congr rfl fun k _ => ?_) (Finset.sum_congr rfl fun k _ => ?_)
  · exact congrArg₂ (fun a b : EReal => a * b) (v176_apply x0 x1 x3 x4 hid _) (v177_apply x1 x5 x6 hid _)
  · exact congrArg₂ (fun a b : EReal => a * b) (v180_apply x0 x1 x3 x4 hid _) (v181_apply x1 x5 x6 hid _)

theorem v186_apply (x2 : (⟨S8x1x8, .f32⟩ : BufTy).Contents (Elt Ideal)) (i : S8x8x2048.Idx) : (val_main_v186 (F := Ideal) x2 i : EReal) = ewn x2 (i 0).val (i 1).val := by
  have h1 : (i 1).val < 8 := (i 1).isLt
  rw [val_main_v186_apply, val_main_v185_apply, val_main_v184_apply]
  refine ewn_eq x2 _ _ _ ?_ ?_
  · show ((i 0).val * 8 + (i 1).val) / 8 = _
    omega
  · show ((i 0).val * 8 + (i 1).val) % 8 = _
    omega

/-- The routed sum: the nets of a token's eight experts, weighted. -/
theorem v188_apply (x0 : (⟨S8x1x2048, .bf16⟩ : BufTy).Contents (Elt Ideal)) (x1 : (⟨S8x1x8, .i32⟩ : BufTy).Contents (Elt Ideal)) (x2 : (⟨S8x1x8, .f32⟩ : BufTy).Contents (Elt Ideal)) (x3 : (⟨S64x1536x64x16, .i8⟩ : BufTy).Contents (Elt Ideal)) (x4 : (⟨S64x1536x64, .i8⟩ : BufTy).Contents (Elt Ideal)) (x5 : (⟨S64x2048x24x16, .i8⟩ : BufTy).Contents (Elt Ideal)) (x6 : (⟨S64x2048x24, .i8⟩ : BufTy).Contents (Elt Ideal)) (hid : ∀ i : S8x1x8.Idx, (x1 i : BitVec 32).toNat < 64) (i : S8x2048.Idx) :
    (val_main_v188 (F := Ideal) x0 x1 x2 x3 x4 x5 x6 i : EReal) = ∑ k : Fin 8, ffn (act x0) (codes4 x3 (idn x1 (i 0).val k.val)) (scales3 x4 (idn x1 (i 0).val k.val))
      (codes4 x5 (idn x1 (i 0).val k.val)) (scales3 x6 (idn x1 (i 0).val k.val)) (i 0).val (i 1).val * ewn x2 (i 0).val k.val := by
  refine (val_main_v188_apply x0 x1 x2 x3 x4 x5 x6 i).trans ?_
  have z : (val_main_cst_50 (F := Ideal) (Shape.Idx.first h_S_) : EReal) = 0 := ofBits_zero
  rw [z, zero_add]
  refine Finset.sum_congr rfl fun k _ => ?_
  rw [val_main_v187_apply]
  exact congrArg₂ (fun a b : EReal => a * b) (v183_apply x0 x1 x3 x4 x5 x6 hid _) (v186_apply x2 _)

/-! ## The shared expert -/

/-- The shared gate/up product: the sums over even and odd inputs, added. -/
theorem v272_apply (x0 : (⟨S8x1x2048, .bf16⟩ : BufTy).Contents (Elt Ideal)) (x7 : (⟨S1536x64x16, .i8⟩ : BufTy).Contents (Elt Ideal)) (x8 : (⟨S1536x64, .i8⟩ : BufTy).Contents (Elt Ideal)) (i : S8x1536.Idx) :
    (val_main_v272 (F := Ideal) x0 x7 x8 i : EReal) = prodTo (act x0) (codes3 x7) (scales2 x8) (i 0).val (i 1).val 2048 := by
  rw [val_main_v272_apply]
  refine (congrArg₂ (fun a b : EReal => a + b) (val_main_v268_apply x0 x7 x8 i) (val_main_v271_apply x0 x7 x8 i)).trans ?_
  refine Eq.trans ?_ (sum_even_odd (fun d => act x0 (i 0).val d * wt (codes3 x7 (i 1).val) (scales2 x8 (i 1).val) d) 1024)
  refine congrArg₂ (fun a b : EReal => a + b) (Finset.sum_congr rfl fun k _ => ?_) (Finset.sum_congr rfl fun k _ => ?_)
  · exact congrArg₂ (fun a b : EReal => a * b) (v267_apply x0 _) (v264_apply x7 x8 _)
  · exact congrArg₂ (fun a b : EReal => a * b) (v270_apply x0 _) (v265_apply x7 x8 _)

/-- The shared expert's hidden units. -/
theorem v277_apply (x0 : (⟨S8x1x2048, .bf16⟩ : BufTy).Contents (Elt Ideal)) (x7 : (⟨S1536x64x16, .i8⟩ : BufTy).Contents (Elt Ideal)) (x8 : (⟨S1536x64, .i8⟩ : BufTy).Contents (Elt Ideal)) (i : S8x768.Idx) :
    (val_main_v277 (F := Ideal) x0 x7 x8 i : EReal) = hid (fun o => prodTo (act x0) (codes3 x7) (scales2 x8) (i 0).val o 2048) (i 1).val := by
  have e : (val_main_v277 (F := Ideal) x0 x7 x8 i : EReal) = ((val_main_v273 (F := Ideal) x0 x7 x8 i : EReal)
      * Ideal.div (Ideal.ofBits .f32 0x3F800000#32) (Ideal.ofBits .f32 0x3F800000#32 + Ideal.exp (-(val_main_v273 (F := Ideal) x0 x7 x8 i : EReal)))) * (val_main_v274 (F := Ideal) x0 x7 x8 i : EReal) := rfl
  rw [e, silu_eq, val_main_v273_apply, val_main_v274_apply, v272_apply, v272_apply]
  rfl

theorem v357_apply (x0 : (⟨S8x1x2048, .bf16⟩ : BufTy).Contents (Elt Ideal)) (x7 : (⟨S1536x64x16, .i8⟩ : BufTy).Contents (Elt Ideal)) (x8 : (⟨S1536x64, .i8⟩ : BufTy).Contents (Elt Ideal)) (i : S8x384.Idx) :
    (val_main_v357 (F := Ideal) x0 x7 x8 i : EReal) = hid (fun o => prodTo (act x0) (codes3 x7) (scales2 x8) (i 0).val o 2048) (2 * (i 1).val) := by
  have h0 : (i 0).val < 8 := (i 0).isLt
  have h1 : (i 1).val < 384 := (i 1).isLt
  rw [val_main_v357_apply, val_main_v356_apply, val_main_v278_apply, v277_apply]
  show hid (fun o => prodTo (act x0) (codes3 x7) (scales2 x8) (((((i 0).val * 384 + (i 1).val) / 384 * 384 + ((i 0).val * 384 + (i 1).val) / 1 % 384) * 2 + 0) / 768) o 2048) (((((i 0).val * 384 + (i 1).val) / 384 * 384 + ((i 0).val * 384 + (i 1).val) / 1 % 384) * 2 + 0) % 768) = _
  rw [show ((((i 0).val * 384 + (i 1).val) / 384 * 384 + ((i 0).val * 384 + (i 1).val) / 1 % 384) * 2 + 0) = ((i 0).val * 384 + (i 1).val) * 2 + 0 by omega, show (((i 0).val * 384 + (i 1).val) * 2 + 0) / 768 = (i 0).val by omega, show (((i 0).val * 384 + (i 1).val) * 2 + 0) % 768 = 2 * (i 1).val by omega]

theorem v360_apply (x0 : (⟨S8x1x2048, .bf16⟩ : BufTy).Contents (Elt Ideal)) (x7 : (⟨S1536x64x16, .i8⟩ : BufTy).Contents (Elt Ideal)) (x8 : (⟨S1536x64, .i8⟩ : BufTy).Contents (Elt Ideal)) (i : S8x384.Idx) :
    (val_main_v360 (F := Ideal) x0 x7 x8 i : EReal) = hid (fun o => prodTo (act x0) (codes3 x7) (scales2 x8) (i 0).val o 2048) (2 * (i 1).val + 1) := by
  have h0 : (i 0).val < 8 := (i 0).isLt
  have h1 : (i 1).val < 384 := (i 1).isLt
  rw [val_main_v360_apply, val_main_v359_apply, val_main_v278_apply, v277_apply]
  show hid (fun o => prodTo (act x0) (codes3 x7) (scales2 x8) (((((i 0).val * 384 + (i 1).val) / 384 * 384 + ((i 0).val * 384 + (i 1).val) / 1 % 384) * 2 + (1 + 0)) / 768) o 2048) (((((i 0).val * 384 + (i 1).val) / 384 * 384 + ((i 0).val * 384 + (i 1).val) / 1 % 384) * 2 + (1 + 0)) % 768) = _
  rw [show ((((i 0).val * 384 + (i 1).val) / 384 * 384 + ((i 0).val * 384 + (i 1).val) / 1 % 384) * 2 + (1 + 0)) = ((i 0).val * 384 + (i 1).val) * 2 + 1 by omega, show (((i 0).val * 384 + (i 1).val) * 2 + 1) / 768 = (i 0).val by omega, show (((i 0).val * 384 + (i 1).val) * 2 + 1) % 768 = 2 * (i 1).val + 1 by omega]

/-- The shared expert's net. -/
theorem v362_apply (x0 : (⟨S8x1x2048, .bf16⟩ : BufTy).Contents (Elt Ideal)) (x7 : (⟨S1536x64x16, .i8⟩ : BufTy).Contents (Elt Ideal)) (x8 : (⟨S1536x64, .i8⟩ : BufTy).Contents (Elt Ideal)) (x9 : (⟨S2048x24x16, .i8⟩ : BufTy).Contents (Elt Ideal)) (x10 : (⟨S2048x24, .i8⟩ : BufTy).Contents (Elt Ideal)) (i : S8x2048.Idx) :
    (val_main_v362 (F := Ideal) x0 x7 x8 x9 x10 i : EReal) = ffn (act x0) (codes3 x7) (scales2 x8) (codes3 x9) (scales2 x10) (i 0).val (i 1).val := by
  rw [val_main_v362_apply]
  refine (congrArg₂ (fun a b : EReal => a + b) (val_main_v358_apply x0 x7 x8 x9 x10 i) (val_main_v361_apply x0 x7 x8 x9 x10 i)).trans ?_
  refine Eq.trans ?_ (sum_even_odd (fun d => hid (fun o => prodTo (act x0) (codes3 x7) (scales2 x8) (i 0).val o 2048) d * wt (codes3 x9 (i 1).val) (scales2 x10 (i 1).val) d) 384)
  refine congrArg₂ (fun a b : EReal => a + b) (Finset.sum_congr rfl fun k _ => ?_) (Finset.sum_congr rfl fun k _ => ?_)
  · exact congrArg₂ (fun a b : EReal => a * b) (v357_apply x0 x7 x8 _) (v354_apply x9 x10 _)
  · exact congrArg₂ (fun a b : EReal => a * b) (v360_apply x0 x7 x8 _) (v355_apply x9 x10 _)

/-- The reference's result is the layer's output. -/
theorem result_apply (x0 : (⟨S8x1x2048, .bf16⟩ : BufTy).Contents (Elt Ideal)) (x1 : (⟨S8x1x8, .i32⟩ : BufTy).Contents (Elt Ideal)) (x2 : (⟨S8x1x8, .f32⟩ : BufTy).Contents (Elt Ideal)) (x3 : (⟨S64x1536x64x16, .i8⟩ : BufTy).Contents (Elt Ideal)) (x4 : (⟨S64x1536x64, .i8⟩ : BufTy).Contents (Elt Ideal)) (x5 : (⟨S64x2048x24x16, .i8⟩ : BufTy).Contents (Elt Ideal)) (x6 : (⟨S64x2048x24, .i8⟩ : BufTy).Contents (Elt Ideal)) (x7 : (⟨S1536x64x16, .i8⟩ : BufTy).Contents (Elt Ideal)) (x8 : (⟨S1536x64, .i8⟩ : BufTy).Contents (Elt Ideal)) (x9 : (⟨S2048x24x16, .i8⟩ : BufTy).Contents (Elt Ideal)) (x10 : (⟨S2048x24, .i8⟩ : BufTy).Contents (Elt Ideal)) (hid : ∀ i : S8x1x8.Idx, (x1 i : BitVec 32).toNat < 64) (i : S8x2048.Idx) :
    (val_main_v364 (F := Ideal) x0 x1 x2 x3 x4 x5 x6 x7 x8 x9 x10 i : EReal) = layer x0 x1 x2 x3 x4 x5 x6 x7 x8 x9 x10 (i 0).val (i 1).val := by
  have e : (val_main_v364 (F := Ideal) x0 x1 x2 x3 x4 x5 x6 x7 x8 x9 x10 i : EReal)
    = (val_main_v188 (F := Ideal) x0 x1 x2 x3 x4 x5 x6 i : EReal) + (val_main_v362 (F := Ideal) x0 x7 x8 x9 x10 i : EReal) := rfl
  rw [e, v188_apply _ _ _ _ _ _ _ hid, v362_apply]
  rfl

end Cert.Value.Ref
-- ==== Proof.Value.TopK.lean ====
/- What the value claim's precondition says of the arguments, element by element. -/
module

public import proofs.«01_k».proof.Proof.PreFacts
public import proofs.«01_k».proof.Proof.Gen.Pre_top_k_experts

@[expose] public section

noncomputable section

namespace Cert.PreFacts

open Idealize.ShloMosaic

section
open Cert.Pre_top_k_experts Cert.Pre_top_k_experts.Facts
variable [Cert.Pre_top_k_experts.Facts]

instance : Subsingleton S_.Idx := ⟨fun a b => funext fun i => i.elim0⟩

/-- Everything the value claim's precondition says. -/
structure TopK (a1 : IVec S8x1x8 32) (a4 : IVec S64x1536x64 8) (a6 : IVec S64x2048x24 8) (a8 : IVec S1536x64 8) (a10 : IVec S2048x24 8) : Prop where
  lt : ∀ i, (a1 i).toNat < 64
  inj : ∀ (t k l : Fin 8), a1 (fun a => match a with | ⟨0, _⟩ => t | ⟨1, _⟩ => ⟨0, Nat.one_pos⟩ | ⟨2, _⟩ => k) = a1 (fun a => match a with | ⟨0, _⟩ => t | ⟨1, _⟩ => ⟨0, Nat.one_pos⟩ | ⟨2, _⟩ => l) → k = l
  s4 : ∀ i, 1 ≤ (a4 i).toNat ∧ (a4 i).toNat ≤ 254
  s6 : ∀ i, 1 ≤ (a6 i).toNat ∧ (a6 i).toNat ≤ 254
  s8 : ∀ i, 1 ≤ (a8 i).toNat ∧ (a8 i).toNat ≤ 254
  s10 : ∀ i, 1 ≤ (a10 i).toNat ∧ (a10 i).toNat ≤ 254

/-- The precondition of `algebraic` gives these facts. -/
theorem top_k {F : FTy → Type} [FloatOps F] (a0 : FVec F S8x1x2048 .bf16) (a1 : IVec S8x1x8 32) (a2 : FVec F S8x1x8 .f32) (a3 : IVec S64x1536x64x16 8) (a4 : IVec S64x1536x64 8) (a5 : IVec S64x2048x24x16 8) (a6 : IVec S64x2048x24 8) (a7 : IVec S1536x64x16 8) (a8 : IVec S1536x64 8) (a9 : IVec S2048x24x16 8) (a10 : IVec S2048x24 8)
    (h : fn (F := F) a0 a1 a2 a3 a4 a5 a6 a7 a8 a9 a10 = fun _ => 1#1) : TopK a1 a4 a6 a8 a10 := by
  have h0 := congrFun h (fun i => i.elim0)
  unfold fn fn_part1 fn_part2 at h0
  dsimp only at h0
  obtain ⟨h0, e10⟩ := IntOp.andi_eq_one.1 h0
  obtain ⟨h0, e8⟩ := IntOp.andi_eq_one.1 h0
  obtain ⟨h0, e6⟩ := IntOp.andi_eq_one.1 h0
  obtain ⟨h0, e4⟩ := IntOp.andi_eq_one.1 h0
  obtain ⟨e1, ei⟩ := IntOp.andi_eq_one.1 h0
  refine ⟨fun i => range_of _ (Host.reduce_andi_all _ _ _ _ _ e1 i), fun t k l => ?_, fun i => scale_of _ (Host.reduce_andi_all _ _ _ _ _ e4 i),
    fun i => scale_of _ (Host.reduce_andi_all _ _ _ _ _ e6 i), fun i => scale_of _ (Host.reduce_andi_all _ _ _ _ _ e8 i), fun i => scale_of _ (Host.reduce_andi_all _ _ _ _ _ e10 i)⟩
  have hh := Host.reduce_andi_all _ _ _ _ _ ei (fun a => match a with | ⟨0, _⟩ => t | ⟨1, _⟩ => k | ⟨2, _⟩ => l)
  have key : ∀ k : Fin 8, shapeCast S8x8 a1 shapeCasts_S8x1x8_S8x8 (fun a => match a with | ⟨0, _⟩ => t | ⟨1, _⟩ => k)
      = a1 (fun a => match a with | ⟨0, _⟩ => t | ⟨1, _⟩ => ⟨0, Nat.one_pos⟩ | ⟨2, _⟩ => k) := fun k =>
    shapeCast_apply a1 shapeCasts_S8x1x8_S8x8 _ _ (by
      rewrite [Shape.rowMajor_val_three, Shape.rowMajor_val_two]
      show (t.val * 1 + 0) * 8 + k.val = t.val * 8 + k.val; omega)
  intro e
  refine slot_of (a1 (fun a => match a with | ⟨0, _⟩ => t | ⟨1, _⟩ => ⟨0, Nat.one_pos⟩ | ⟨2, _⟩ => k))
    (a1 (fun a => match a with | ⟨0, _⟩ => t | ⟨1, _⟩ => ⟨0, Nat.one_pos⟩ | ⟨2, _⟩ => l)) k l ?_ e
  rw [← key k, ← key l]
  refine Eq.trans ?_ hh
  show IntOp.ori (IntOp.cmpi .eq _ _) (~~~(IntOp.cmpi .eq _ _)) = IntOp.ori (IntOp.cmpi .eq _ _) (~~~(IntOp.cmpi .eq _ _))
  congr 3
end

end Cert.PreFacts

end
-- ==== Proof.Value.Final.lean ====
/- The equality over the reals: the kernel's result and the reference's are one function of the arguments. -/
module

public import proofs.«01_k».proof.Defs
public import proofs.«01_k».proof.Proof.Value.Layout
public import proofs.«01_k».proof.Proof.Value.Acc
public import proofs.«01_k».proof.Proof.Value.Ref
public import proofs.«01_k».proof.Proof.Value.TopK
public import proofs.«01_k».proof.Proof.Gen.ReferenceIdeal.Run
public import Idealize.ShloMosaic.Lib.Claim

@[expose] public section

set_option maxRecDepth 16384
set_option maxHeartbeats 1000000

noncomputable section

namespace Cert.Value

open Idealize.ShloMosaic Idealize.ShloMosaic.TcCoe Cert.KernelIdeal Cert.KernelIdeal.Gen Cert.KernelIdeal.Hand

/-- The kernel's output block is the layer of the arguments. -/
theorem outAt_layer (m : (ℓ : Loc nD τ sig) → Buf (Elt Ideal) ℓ) (c : Dev nD)
    (h : Cert.PreFacts.TopK (m ((c : Thread nD τ).loc main_arg1)) (m ((c : Thread nD τ).loc main_arg4)) (m ((c : Thread nD τ).loc main_arg6)) (m ((c : Thread nD τ).loc main_arg8)) (m ((c : Thread nD τ).loc main_arg10)))
    (i : S8x2048.Idx) :
    (outAt m c t0_0 i : EReal) = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0).val (i 1).val := by
  unfold outAt
  rw [iblk0_eq, iblk2_eq, iblk3_eq, iblk1_eq]
  refine (kernelOut_apply (fun e => scales3_ok _ h.s4 e) (fun e => scales3_ok _ h.s6 e) (scales2_ok _ h.s8) (scales2_ok _ h.s10)
    (fun j => x_vals m c j) (fun e => gu_codes m c e) (fun e => gu_scales m c e) (fun e => dn_codes m c e) (fun e => dn_scales m c e)
    (sg_codes m c) (sg_scales m c) (sd_codes m c) (sd_scales m c) (fun j => by rw [id_vals]; exact h.lt _) (fun t k l e => ?_) i (i 0) rfl).trans ?_
  · rw [id_vals, id_vals] at e
    refine h.inj t k l (Eq.trans ?_ (e.trans ?_))
    · exact congrArg _ (funext fun a => by
        match a with
        | 0 => rfl
        | 1 => rfl
        | 2 => rfl)
    · exact congrArg _ (funext fun a => by
        match a with
        | 0 => rfl
        | 1 => rfl
        | 2 => rfl)
  · unfold layer
    have hid : ∀ k : Fin 8, (V m c main_v0 (ValueIdx.ix2 (i 0) k) : BitVec 32).toNat = idn (m ((c : Thread nD τ).loc main_arg1)) (i 0).val k.val := fun k => by
      rw [id_vals]
      exact idn_eq _ _ _ _ rfl rfl
    have hew : ∀ k : Fin 8, (V m c main_v2 (ValueIdx.ix2 (i 0) k) : EReal) = ewn (m ((c : Thread nD τ).loc main_arg2)) (i 0).val k.val := fun k => ew_vals m c _
    refine congrArg₂ (· + ·) (Finset.sum_congr rfl fun k _ => ?_) rfl
    rw [hid k, hew k]

/-- The reference's run, its result as the composition of its lines. -/
theorem reference_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v364) = Cert.ReferenceIdeal.Read.val_main_v364 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)) :=
  (θ_run (Cert.ReferenceIdeal.defs (F := Ideal)) _ _).mono (fun r h c => ⟨(h c).1.trans (Cert.ReferenceIdeal.Read.val_main_v364_eq (F := Ideal) (StableHlo.launchContents m' c)), (h c).2⟩)
    (Cert.ReferenceIdeal.Value.run (F := Ideal) m' g')

/-- Equal arguments, equal layers: the reference's result is the kernel's. -/
theorem result_eq (m : (ℓ : Loc nD τ sig) → Buf (Elt Ideal) ℓ) (c : Dev nD)
    (h : Cert.PreFacts.TopK (m ((c : Thread nD τ).loc main_arg1)) (m ((c : Thread nD τ).loc main_arg4)) (m ((c : Thread nD τ).loc main_arg6)) (m ((c : Thread nD τ).loc main_arg8)) (m ((c : Thread nD τ).loc main_arg10))) :
    Cert.ReferenceIdeal.Read.val_main_v364 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = outAt m c t0_0 :=
  funext fun i => (Cert.Value.Ref.result_apply _ _ _ _ _ _ _ _ _ _ _ h.lt i).trans (outAt_layer m c h i).symm

/-- The claim `algebraic`: from memories agreeing at the arguments both programs end with the same result. -/
theorem algebraic : Cert.algebraic_KernelIdeal_ReferenceIdeal_pre_top_k_experts (hKernelIdeal := Cert.KernelIdeal.Gen.facts) (hReferenceIdeal := Cert.ReferenceIdeal.Gen.facts) (hPre_top_k_experts := Cert.Pre_top_k_experts.Gen.facts) := by
  intro m g m' g' hpre hm
  have hk := fun c => Cert.PreFacts.top_k _ _ _ _ _ _ _ _ _ _ _ (hpre c)
  refine ⟨fun c => outAt m c t0_0, ?_, ?_⟩
  · exact value_run m g (ids_ok m fun c i => (hk c).lt i)
  · refine (θ_run (Cert.ReferenceIdeal.defs (F := Ideal)) _ _).mono (fun r h c => ⟨(h c).1.trans ?_, (h c).2⟩) (reference_run m' g')
    obtain ⟨e0, e1, e2, e3, e4, e5, e6, e7, e8, e9, e10⟩ := hm c
    rw [e0, e1, e2, e3, e4, e5, e6, e7, e8, e9, e10]
    exact result_eq m c (hk c)

end Cert.Value
-- ==== Proof.lean ====
module

public import proofs.«01_k».proof.Defs
public import proofs.«01_k».proof.Proof.Gen.Kernel
public import proofs.«01_k».proof.Proof.Same
public import proofs.«01_k».proof.Proof.KernelIdeal.Host
public import proofs.«01_k».proof.Proof.PreFacts
public import proofs.«01_k».proof.Proof.Gen.ReferenceIdeal.Run
public import proofs.«01_k».proof.Proof.Value.Final
public import Idealize.ShloMosaic.Adequacy
public import Idealize.ShloMosaic.Init

@[expose] public section

open Idealize.ShloMosaic

/-- The reference runs to its end, its arguments as they were; it has no semaphore. -/
theorem Cert.Proof.reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run m g)

theorem Cert.Proof.claim : Cert.Claim :=
  ⟨Cert.Kernel.Gen.facts, Cert.KernelIdeal.Gen.facts, Cert.ReferenceIdeal.Gen.facts, Cert.Pre_ids_in_range.Gen.facts, Cert.Pre_top_k_experts.Gen.facts,
    fun m g h => Cert.Same.frame_run m g fun c i => Cert.PreFacts.ids_lt _ _ _ _ _ _ _ _ _ _ _ (h c) i,
    fun m g h => Cert.KernelIdeal.Hand.frame_run m g (Cert.KernelIdeal.Hand.ids_ok m fun c i => Cert.PreFacts.ids_lt _ _ _ _ _ _ _ _ _ _ _ (h c) i),
    fun m g h => Cert.KernelIdeal.Hand.frame_run m g (Cert.KernelIdeal.Hand.ids_ok m fun c i => (Cert.PreFacts.top_k _ _ _ _ _ _ _ _ _ _ _ (h c)).lt i),
    fun m g _ => Cert.Proof.reference_frame m g,
    fun m g _ => Cert.Proof.reference_frame m g,
    trivial,
    Cert.Value.algebraic⟩
